-- ==== Defs.lean ====
def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9))) = (fun _ => 1#1)

def Pre_MixFwdKernel (m : (ℓ : Loc Cert.MixFwdKernel.nD Cert.MixFwdKernel.τ Cert.MixFwdKernel.sig) → Buf (Elt Bits) ℓ) : Prop :=
  True

def Pre_MixFwdKernelIdeal (m : (ℓ : Loc Cert.MixFwdKernelIdeal.nD Cert.MixFwdKernelIdeal.τ Cert.MixFwdKernelIdeal.sig) → Buf (Elt Ideal) ℓ) : Prop :=
  True

def Pre_MixFwdKernelIdeal_finite_fwd [hPre_finite_fwd : Cert.Pre_finite_fwd.Facts] (m : (ℓ : Loc Cert.MixFwdKernelIdeal.nD Cert.MixFwdKernelIdeal.τ Cert.MixFwdKernelIdeal.sig) → Buf (Elt Ideal) ℓ) : Prop :=
  ∀ c : Dev Cert.MixFwdKernelIdeal.nD,
    (Cert.Pre_finite_fwd.fn (F := Ideal) (m ((c.tc : Thread Cert.MixFwdKernelIdeal.nD Cert.MixFwdKernelIdeal.τ).loc Cert.MixFwdKernelIdeal.main_arg0)) (m ((c.tc : Thread Cert.MixFwdKernelIdeal.nD Cert.MixFwdKernelIdeal.τ).loc Cert.MixFwdKernelIdeal.main_arg1)) (m ((c.tc : Thread Cert.MixFwdKernelIdeal.nD Cert.MixFwdKernelIdeal.τ).loc Cert.MixFwdKernelIdeal.main_arg2)) (m ((c.tc : Thread Cert.MixFwdKernelIdeal.nD Cert.MixFwdKernelIdeal.τ).loc Cert.MixFwdKernelIdeal.main_arg3)) (m ((c.tc : Thread Cert.MixFwdKernelIdeal.nD Cert.MixFwdKernelIdeal.τ).loc Cert.MixFwdKernelIdeal.main_arg4)) (m ((c.tc : Thread Cert.MixFwdKernelIdeal.nD Cert.MixFwdKernelIdeal.τ).loc Cert.MixFwdKernelIdeal.main_arg5)) (m ((c.tc : Thread Cert.MixFwdKernelIdeal.nD Cert.MixFwdKernelIdeal.τ).loc Cert.MixFwdKernelIdeal.main_arg6)) (m ((c.tc : Thread Cert.MixFwdKernelIdeal.nD Cert.MixFwdKernelIdeal.τ).loc Cert.MixFwdKernelIdeal.main_arg7)) (m ((c.tc : Thread Cert.MixFwdKernelIdeal.nD Cert.MixFwdKernelIdeal.τ).loc Cert.MixFwdKernelIdeal.main_arg8)) (m ((c.tc : Thread Cert.MixFwdKernelIdeal.nD Cert.MixFwdKernelIdeal.τ).loc Cert.MixFwdKernelIdeal.main_arg9))) = (fun _ => 1#1)

def Pre_MixFwdReferenceIdeal (m : (ℓ : Loc Cert.MixFwdReferenceIdeal.nD Cert.MixFwdReferenceIdeal.τ Cert.MixFwdReferenceIdeal.sig) → Buf (Elt Ideal) ℓ) : Prop :=
  True

def Pre_MixFwdReferenceIdeal_finite_fwd [hPre_finite_fwd : Cert.Pre_finite_fwd.Facts] (m : (ℓ : Loc Cert.MixFwdReferenceIdeal.nD Cert.MixFwdReferenceIdeal.τ Cert.MixFwdReferenceIdeal.sig) → Buf (Elt Ideal) ℓ) : Prop :=
  ∀ c : Dev Cert.MixFwdReferenceIdeal.nD,
    (Cert.Pre_finite_fwd.fn (F := Ideal) (m ((c.tc : Thread Cert.MixFwdReferenceIdeal.nD Cert.MixFwdReferenceIdeal.τ).loc Cert.MixFwdReferenceIdeal.main_arg0)) (m ((c.tc : Thread Cert.MixFwdReferenceIdeal.nD Cert.MixFwdReferenceIdeal.τ).loc Cert.MixFwdReferenceIdeal.main_arg1)) (m ((c.tc : Thread Cert.MixFwdReferenceIdeal.nD Cert.MixFwdReferenceIdeal.τ).loc Cert.MixFwdReferenceIdeal.main_arg2)) (m ((c.tc : Thread Cert.MixFwdReferenceIdeal.nD Cert.MixFwdReferenceIdeal.τ).loc Cert.MixFwdReferenceIdeal.main_arg3)) (m ((c.tc : Thread Cert.MixFwdReferenceIdeal.nD Cert.MixFwdReferenceIdeal.τ).loc Cert.MixFwdReferenceIdeal.main_arg4)) (m ((c.tc : Thread Cert.MixFwdReferenceIdeal.nD Cert.MixFwdReferenceIdeal.τ).loc Cert.MixFwdReferenceIdeal.main_arg5)) (m ((c.tc : Thread Cert.MixFwdReferenceIdeal.nD Cert.MixFwdReferenceIdeal.τ).loc Cert.MixFwdReferenceIdeal.main_arg6)) (m ((c.tc : Thread Cert.MixFwdReferenceIdeal.nD Cert.MixFwdReferenceIdeal.τ).loc Cert.MixFwdReferenceIdeal.main_arg7)) (m ((c.tc : Thread Cert.MixFwdReferenceIdeal.nD Cert.MixFwdReferenceIdeal.τ).loc Cert.MixFwdReferenceIdeal.main_arg8)) (m ((c.tc : Thread Cert.MixFwdReferenceIdeal.nD Cert.MixFwdReferenceIdeal.τ).loc Cert.MixFwdReferenceIdeal.main_arg9))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_in [hPre_finite_in : Cert.Pre_finite_in.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GwKernel (m : (ℓ : Loc Cert.GwKernel.nD Cert.GwKernel.τ Cert.GwKernel.sig) → Buf (Elt Bits) ℓ) : Prop :=
  True

def Pre_GwKernelIdeal (m : (ℓ : Loc Cert.GwKernelIdeal.nD Cert.GwKernelIdeal.τ Cert.GwKernelIdeal.sig) → Buf (Elt Ideal) ℓ) : Prop :=
  True

def Pre_GwReferenceIdeal (m : (ℓ : Loc Cert.GwReferenceIdeal.nD Cert.GwReferenceIdeal.τ Cert.GwReferenceIdeal.sig) → Buf (Elt Ideal) ℓ) : Prop :=
  True

def Pre_GpoolKernel (m : (ℓ : Loc Cert.GpoolKernel.nD Cert.GpoolKernel.τ Cert.GpoolKernel.sig) → Buf (Elt Bits) ℓ) : Prop :=
  True

def Pre_GpoolKernelIdeal (m : (ℓ : Loc Cert.GpoolKernelIdeal.nD Cert.GpoolKernelIdeal.τ Cert.GpoolKernelIdeal.sig) → Buf (Elt Ideal) ℓ) : Prop :=
  True

def Pre_GpoolReferenceIdeal (m : (ℓ : Loc Cert.GpoolReferenceIdeal.nD Cert.GpoolReferenceIdeal.τ Cert.GpoolReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_ChipsKernel (m : (ℓ : Loc Cert.ChipsKernel.nD Cert.ChipsKernel.τ Cert.ChipsKernel.sig) → Buf (Elt Bits) ℓ) : Prop :=
  True

def Pre_ChipsKernelIdeal (m : (ℓ : Loc Cert.ChipsKernelIdeal.nD Cert.ChipsKernelIdeal.τ Cert.ChipsKernelIdeal.sig) → Buf (Elt Ideal) ℓ) : Prop :=
  True

def Pre_ChipsReferenceIdeal (m : (ℓ : Loc Cert.ChipsReferenceIdeal.nD Cert.ChipsReferenceIdeal.τ Cert.ChipsReferenceIdeal.sig) → Buf (Elt Ideal) ℓ) : Prop :=
  True

def Pre_BigKernel (m : (ℓ : Loc Cert.BigKernel.nD Cert.BigKernel.τ Cert.BigKernel.sig) → Buf (Elt Bits) ℓ) : Prop :=
  True

def Pre_BigKernelIdeal (m : (ℓ : Loc Cert.BigKernelIdeal.nD Cert.BigKernelIdeal.τ Cert.BigKernelIdeal.sig) → Buf (Elt Ideal) ℓ) : Prop :=
  True

def Pre_BigReferenceIdeal (m : (ℓ : Loc Cert.BigReferenceIdeal.nD Cert.BigReferenceIdeal.τ Cert.BigReferenceIdeal.sig) → Buf (Elt Ideal) ℓ) : Prop :=
  True

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2)
      ∧ r.2.mem ((c.tc : Thread Cert.KvKernel.nD Cert.KvKernel.τ).loc Cert.KvKernel.main_arg3) = m ((c.tc : Thread Cert.KvKernel.nD Cert.KvKernel.τ).loc Cert.KvKernel.main_arg3))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_MixFwdKernel [hMixFwdKernel : Cert.MixFwdKernel.Facts] : Prop :=
  ∀ (m : (ℓ : Loc Cert.MixFwdKernel.nD Cert.MixFwdKernel.τ Cert.MixFwdKernel.sig) → Buf (Elt Bits) ℓ) (g : Dev Cert.MixFwdKernel.nD → PrngReg), Pre_MixFwdKernel m →
    θ_run (Cert.MixFwdKernel.defs (F := Bits)) (onTc (τ := Cert.MixFwdKernel.τ) (Cert.MixFwdKernel.main (F := Bits))) ⟨m, fun _ => 0, g⟩ (fun r => (∀ c : Dev Cert.MixFwdKernel.nD,
      r.2.mem ((c.tc : Thread Cert.MixFwdKernel.nD Cert.MixFwdKernel.τ).loc Cert.MixFwdKernel.main_arg0) = m ((c.tc : Thread Cert.MixFwdKernel.nD Cert.MixFwdKernel.τ).loc Cert.MixFwdKernel.main_arg0)
      ∧ r.2.mem ((c.tc : Thread Cert.MixFwdKernel.nD Cert.MixFwdKernel.τ).loc Cert.MixFwdKernel.main_arg1) = m ((c.tc : Thread Cert.MixFwdKernel.nD Cert.MixFwdKernel.τ).loc Cert.MixFwdKernel.main_arg1)
      ∧ r.2.mem ((c.tc : Thread Cert.MixFwdKernel.nD Cert.MixFwdKernel.τ).loc Cert.MixFwdKernel.main_arg2) = m ((c.tc : Thread Cert.MixFwdKernel.nD Cert.MixFwdKernel.τ).loc Cert.MixFwdKernel.main_arg2)
      ∧ r.2.mem ((c.tc : Thread Cert.MixFwdKernel.nD Cert.MixFwdKernel.τ).loc Cert.MixFwdKernel.main_arg3) = m ((c.tc : Thread Cert.MixFwdKernel.nD Cert.MixFwdKernel.τ).loc Cert.MixFwdKernel.main_arg3)
      ∧ r.2.mem ((c.tc : Thread Cert.MixFwdKernel.nD Cert.MixFwdKernel.τ).loc Cert.MixFwdKernel.main_arg4) = m ((c.tc : Thread Cert.MixFwdKernel.nD Cert.MixFwdKernel.τ).loc Cert.MixFwdKernel.main_arg4)
      ∧ r.2.mem ((c.tc : Thread Cert.MixFwdKernel.nD Cert.MixFwdKernel.τ).loc Cert.MixFwdKernel.main_arg5) = m ((c.tc : Thread Cert.MixFwdKernel.nD Cert.MixFwdKernel.τ).loc Cert.MixFwdKernel.main_arg5)
      ∧ r.2.mem ((c.tc : Thread Cert.MixFwdKernel.nD Cert.MixFwdKernel.τ).loc Cert.MixFwdKernel.main_arg6) = m ((c.tc : Thread Cert.MixFwdKernel.nD Cert.MixFwdKernel.τ).loc Cert.MixFwdKernel.main_arg6)
      ∧ r.2.mem ((c.tc : Thread Cert.MixFwdKernel.nD Cert.MixFwdKernel.τ).loc Cert.MixFwdKernel.main_arg7) = m ((c.tc : Thread Cert.MixFwdKernel.nD Cert.MixFwdKernel.τ).loc Cert.MixFwdKernel.main_arg7)
      ∧ r.2.mem ((c.tc : Thread Cert.MixFwdKernel.nD Cert.MixFwdKernel.τ).loc Cert.MixFwdKernel.main_arg8) = m ((c.tc : Thread Cert.MixFwdKernel.nD Cert.MixFwdKernel.τ).loc Cert.MixFwdKernel.main_arg8)
      ∧ r.2.mem ((c.tc : Thread Cert.MixFwdKernel.nD Cert.MixFwdKernel.τ).loc Cert.MixFwdKernel.main_arg9) = m ((c.tc : Thread Cert.MixFwdKernel.nD Cert.MixFwdKernel.τ).loc Cert.MixFwdKernel.main_arg9))
      ∧ r.2.sem = fun _ => 0)

def quiescent_MixFwdKernelIdeal [hMixFwdKernelIdeal : Cert.MixFwdKernelIdeal.Facts] : Prop :=
  ∀ (m : (ℓ : Loc Cert.MixFwdKernelIdeal.nD Cert.MixFwdKernelIdeal.τ Cert.MixFwdKernelIdeal.sig) → Buf (Elt Ideal) ℓ) (g : Dev Cert.MixFwdKernelIdeal.nD → PrngReg), Pre_MixFwdKernelIdeal m →
    θ_run (Cert.MixFwdKernelIdeal.defs (F := Ideal)) (onTc (τ := Cert.MixFwdKernelIdeal.τ) (Cert.MixFwdKernelIdeal.main (F := Ideal))) ⟨m, fun _ => 0, g⟩ (fun r => (∀ c : Dev Cert.MixFwdKernelIdeal.nD,
      r.2.mem ((c.tc : Thread Cert.MixFwdKernelIdeal.nD Cert.MixFwdKernelIdeal.τ).loc Cert.MixFwdKernelIdeal.main_arg0) = m ((c.tc : Thread Cert.MixFwdKernelIdeal.nD Cert.MixFwdKernelIdeal.τ).loc Cert.MixFwdKernelIdeal.main_arg0)
      ∧ r.2.mem ((c.tc : Thread Cert.MixFwdKernelIdeal.nD Cert.MixFwdKernelIdeal.τ).loc Cert.MixFwdKernelIdeal.main_arg1) = m ((c.tc : Thread Cert.MixFwdKernelIdeal.nD Cert.MixFwdKernelIdeal.τ).loc Cert.MixFwdKernelIdeal.main_arg1)
      ∧ r.2.mem ((c.tc : Thread Cert.MixFwdKernelIdeal.nD Cert.MixFwdKernelIdeal.τ).loc Cert.MixFwdKernelIdeal.main_arg2) = m ((c.tc : Thread Cert.MixFwdKernelIdeal.nD Cert.MixFwdKernelIdeal.τ).loc Cert.MixFwdKernelIdeal.main_arg2)
      ∧ r.2.mem ((c.tc : Thread Cert.MixFwdKernelIdeal.nD Cert.MixFwdKernelIdeal.τ).loc Cert.MixFwdKernelIdeal.main_arg3) = m ((c.tc : Thread Cert.MixFwdKernelIdeal.nD Cert.MixFwdKernelIdeal.τ).loc Cert.MixFwdKernelIdeal.main_arg3)
      ∧ r.2.mem ((c.tc : Thread Cert.MixFwdKernelIdeal.nD Cert.MixFwdKernelIdeal.τ).loc Cert.MixFwdKernelIdeal.main_arg4) = m ((c.tc : Thread Cert.MixFwdKernelIdeal.nD Cert.MixFwdKernelIdeal.τ).loc Cert.MixFwdKernelIdeal.main_arg4)
      ∧ r.2.mem ((c.tc : Thread Cert.MixFwdKernelIdeal.nD Cert.MixFwdKernelIdeal.τ).loc Cert.MixFwdKernelIdeal.main_arg5) = m ((c.tc : Thread Cert.MixFwdKernelIdeal.nD Cert.MixFwdKernelIdeal.τ).loc Cert.MixFwdKernelIdeal.main_arg5)
      ∧ r.2.mem ((c.tc : Thread Cert.MixFwdKernelIdeal.nD Cert.MixFwdKernelIdeal.τ).loc Cert.MixFwdKernelIdeal.main_arg6) = m ((c.tc : Thread Cert.MixFwdKernelIdeal.nD Cert.MixFwdKernelIdeal.τ).loc Cert.MixFwdKernelIdeal.main_arg6)
      ∧ r.2.mem ((c.tc : Thread Cert.MixFwdKernelIdeal.nD Cert.MixFwdKernelIdeal.τ).loc Cert.MixFwdKernelIdeal.main_arg7) = m ((c.tc : Thread Cert.MixFwdKernelIdeal.nD Cert.MixFwdKernelIdeal.τ).loc Cert.MixFwdKernelIdeal.main_arg7)
      ∧ r.2.mem ((c.tc : Thread Cert.MixFwdKernelIdeal.nD Cert.MixFwdKernelIdeal.τ).loc Cert.MixFwdKernelIdeal.main_arg8) = m ((c.tc : Thread Cert.MixFwdKernelIdeal.nD Cert.MixFwdKernelIdeal.τ).loc Cert.MixFwdKernelIdeal.main_arg8)
      ∧ r.2.mem ((c.tc : Thread Cert.MixFwdKernelIdeal.nD Cert.MixFwdKernelIdeal.τ).loc Cert.MixFwdKernelIdeal.main_arg9) = m ((c.tc : Thread Cert.MixFwdKernelIdeal.nD Cert.MixFwdKernelIdeal.τ).loc Cert.MixFwdKernelIdeal.main_arg9))
      ∧ r.2.sem = fun _ => 0)

def quiescent_MixFwdKernelIdeal_pre_finite_fwd [hMixFwdKernelIdeal : Cert.MixFwdKernelIdeal.Facts] [hPre_finite_fwd : Cert.Pre_finite_fwd.Facts] : Prop :=
  ∀ (m : (ℓ : Loc Cert.MixFwdKernelIdeal.nD Cert.MixFwdKernelIdeal.τ Cert.MixFwdKernelIdeal.sig) → Buf (Elt Ideal) ℓ) (g : Dev Cert.MixFwdKernelIdeal.nD → PrngReg), Pre_MixFwdKernelIdeal_finite_fwd m →
    θ_run (Cert.MixFwdKernelIdeal.defs (F := Ideal)) (onTc (τ := Cert.MixFwdKernelIdeal.τ) (Cert.MixFwdKernelIdeal.main (F := Ideal))) ⟨m, fun _ => 0, g⟩ (fun r => (∀ c : Dev Cert.MixFwdKernelIdeal.nD,
      r.2.mem ((c.tc : Thread Cert.MixFwdKernelIdeal.nD Cert.MixFwdKernelIdeal.τ).loc Cert.MixFwdKernelIdeal.main_arg0) = m ((c.tc : Thread Cert.MixFwdKernelIdeal.nD Cert.MixFwdKernelIdeal.τ).loc Cert.MixFwdKernelIdeal.main_arg0)
      ∧ r.2.mem ((c.tc : Thread Cert.MixFwdKernelIdeal.nD Cert.MixFwdKernelIdeal.τ).loc Cert.MixFwdKernelIdeal.main_arg1) = m ((c.tc : Thread Cert.MixFwdKernelIdeal.nD Cert.MixFwdKernelIdeal.τ).loc Cert.MixFwdKernelIdeal.main_arg1)
      ∧ r.2.mem ((c.tc : Thread Cert.MixFwdKernelIdeal.nD Cert.MixFwdKernelIdeal.τ).loc Cert.MixFwdKernelIdeal.main_arg2) = m ((c.tc : Thread Cert.MixFwdKernelIdeal.nD Cert.MixFwdKernelIdeal.τ).loc Cert.MixFwdKernelIdeal.main_arg2)
      ∧ r.2.mem ((c.tc : Thread Cert.MixFwdKernelIdeal.nD Cert.MixFwdKernelIdeal.τ).loc Cert.MixFwdKernelIdeal.main_arg3) = m ((c.tc : Thread Cert.MixFwdKernelIdeal.nD Cert.MixFwdKernelIdeal.τ).loc Cert.MixFwdKernelIdeal.main_arg3)
      ∧ r.2.mem ((c.tc : Thread Cert.MixFwdKernelIdeal.nD Cert.MixFwdKernelIdeal.τ).loc Cert.MixFwdKernelIdeal.main_arg4) = m ((c.tc : Thread Cert.MixFwdKernelIdeal.nD Cert.MixFwdKernelIdeal.τ).loc Cert.MixFwdKernelIdeal.main_arg4)
      ∧ r.2.mem ((c.tc : Thread Cert.MixFwdKernelIdeal.nD Cert.MixFwdKernelIdeal.τ).loc Cert.MixFwdKernelIdeal.main_arg5) = m ((c.tc : Thread Cert.MixFwdKernelIdeal.nD Cert.MixFwdKernelIdeal.τ).loc Cert.MixFwdKernelIdeal.main_arg5)
      ∧ r.2.mem ((c.tc : Thread Cert.MixFwdKernelIdeal.nD Cert.MixFwdKernelIdeal.τ).loc Cert.MixFwdKernelIdeal.main_arg6) = m ((c.tc : Thread Cert.MixFwdKernelIdeal.nD Cert.MixFwdKernelIdeal.τ).loc Cert.MixFwdKernelIdeal.main_arg6)
      ∧ r.2.mem ((c.tc : Thread Cert.MixFwdKernelIdeal.nD Cert.MixFwdKernelIdeal.τ).loc Cert.MixFwdKernelIdeal.main_arg7) = m ((c.tc : Thread Cert.MixFwdKernelIdeal.nD Cert.MixFwdKernelIdeal.τ).loc Cert.MixFwdKernelIdeal.main_arg7)
      ∧ r.2.mem ((c.tc : Thread Cert.MixFwdKernelIdeal.nD Cert.MixFwdKernelIdeal.τ).loc Cert.MixFwdKernelIdeal.main_arg8) = m ((c.tc : Thread Cert.MixFwdKernelIdeal.nD Cert.MixFwdKernelIdeal.τ).loc Cert.MixFwdKernelIdeal.main_arg8)
      ∧ r.2.mem ((c.tc : Thread Cert.MixFwdKernelIdeal.nD Cert.MixFwdKernelIdeal.τ).loc Cert.MixFwdKernelIdeal.main_arg9) = m ((c.tc : Thread Cert.MixFwdKernelIdeal.nD Cert.MixFwdKernelIdeal.τ).loc Cert.MixFwdKernelIdeal.main_arg9))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4)
      ∧ r.2.mem ((c.tc : Thread Cert.MixFwdReferenceIdeal.nD Cert.MixFwdReferenceIdeal.τ).loc Cert.MixFwdReferenceIdeal.main_arg5) = m ((c.tc : Thread Cert.MixFwdReferenceIdeal.nD Cert.MixFwdReferenceIdeal.τ).loc Cert.MixFwdReferenceIdeal.main_arg5)
      ∧ r.2.mem ((c.tc : Thread Cert.MixFwdReferenceIdeal.nD Cert.MixFwdReferenceIdeal.τ).loc Cert.MixFwdReferenceIdeal.main_arg6) = m ((c.tc : Thread Cert.MixFwdReferenceIdeal.nD Cert.MixFwdReferenceIdeal.τ).loc Cert.MixFwdReferenceIdeal.main_arg6)
      ∧ r.2.mem ((c.tc : Thread Cert.MixFwdReferenceIdeal.nD Cert.MixFwdReferenceIdeal.τ).loc Cert.MixFwdReferenceIdeal.main_arg7) = m ((c.tc : Thread Cert.MixFwdReferenceIdeal.nD Cert.MixFwdReferenceIdeal.τ).loc Cert.MixFwdReferenceIdeal.main_arg7)
      ∧ r.2.mem ((c.tc : Thread Cert.MixFwdReferenceIdeal.nD Cert.MixFwdReferenceIdeal.τ).loc Cert.MixFwdReferenceIdeal.main_arg8) = m ((c.tc : Thread Cert.MixFwdReferenceIdeal.nD Cert.MixFwdReferenceIdeal.τ).loc Cert.MixFwdReferenceIdeal.main_arg8)
      ∧ r.2.mem ((c.tc : Thread Cert.MixFwdReferenceIdeal.nD Cert.MixFwdReferenceIdeal.τ).loc Cert.MixFwdReferenceIdeal.main_arg9) = m ((c.tc : Thread Cert.MixFwdReferenceIdeal.nD Cert.MixFwdReferenceIdeal.τ).loc Cert.MixFwdReferenceIdeal.main_arg9))
      ∧ r.2.sem = fun _ => 0)

def quiescent_MixFwdReferenceIdeal_pre_finite_fwd [hMixFwdReferenceIdeal : Cert.MixFwdReferenceIdeal.Facts] [hPre_finite_fwd : Cert.Pre_finite_fwd.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal_finite_fwd m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4)
      ∧ r.2.mem ((c.tc : Thread Cert.MixFwdReferenceIdeal.nD Cert.MixFwdReferenceIdeal.τ).loc Cert.MixFwdReferenceIdeal.main_arg5) = m ((c.tc : Thread Cert.MixFwdReferenceIdeal.nD Cert.MixFwdReferenceIdeal.τ).loc Cert.MixFwdReferenceIdeal.main_arg5)
      ∧ r.2.mem ((c.tc : Thread Cert.MixFwdReferenceIdeal.nD Cert.MixFwdReferenceIdeal.τ).loc Cert.MixFwdReferenceIdeal.main_arg6) = m ((c.tc : Thread Cert.MixFwdReferenceIdeal.nD Cert.MixFwdReferenceIdeal.τ).loc Cert.MixFwdReferenceIdeal.main_arg6)
      ∧ r.2.mem ((c.tc : Thread Cert.MixFwdReferenceIdeal.nD Cert.MixFwdReferenceIdeal.τ).loc Cert.MixFwdReferenceIdeal.main_arg7) = m ((c.tc : Thread Cert.MixFwdReferenceIdeal.nD Cert.MixFwdReferenceIdeal.τ).loc Cert.MixFwdReferenceIdeal.main_arg7)
      ∧ r.2.mem ((c.tc : Thread Cert.MixFwdReferenceIdeal.nD Cert.MixFwdReferenceIdeal.τ).loc Cert.MixFwdReferenceIdeal.main_arg8) = m ((c.tc : Thread Cert.MixFwdReferenceIdeal.nD Cert.MixFwdReferenceIdeal.τ).loc Cert.MixFwdReferenceIdeal.main_arg8)
      ∧ r.2.mem ((c.tc : Thread Cert.MixFwdReferenceIdeal.nD Cert.MixFwdReferenceIdeal.τ).loc Cert.MixFwdReferenceIdeal.main_arg9) = m ((c.tc : Thread Cert.MixFwdReferenceIdeal.nD Cert.MixFwdReferenceIdeal.τ).loc Cert.MixFwdReferenceIdeal.main_arg9))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_finite_in [hInKernelIdeal : Cert.InKernelIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_in m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_GwKernel [hGwKernel : Cert.GwKernel.Facts] : Prop :=
  ∀ (m : (ℓ : Loc Cert.GwKernel.nD Cert.GwKernel.τ Cert.GwKernel.sig) → Buf (Elt Bits) ℓ) (g : Dev Cert.GwKernel.nD → PrngReg), Pre_GwKernel m →
    θ_run (Cert.GwKernel.defs (F := Bits)) (onTc (τ := Cert.GwKernel.τ) (Cert.GwKernel.main (F := Bits))) ⟨m, fun _ => 0, g⟩ (fun r => (∀ c : Dev Cert.GwKernel.nD,
      r.2.mem ((c.tc : Thread Cert.GwKernel.nD Cert.GwKernel.τ).loc Cert.GwKernel.main_arg0) = m ((c.tc : Thread Cert.GwKernel.nD Cert.GwKernel.τ).loc Cert.GwKernel.main_arg0)
      ∧ r.2.mem ((c.tc : Thread Cert.GwKernel.nD Cert.GwKernel.τ).loc Cert.GwKernel.main_arg1) = m ((c.tc : Thread Cert.GwKernel.nD Cert.GwKernel.τ).loc Cert.GwKernel.main_arg1))
      ∧ r.2.sem = fun _ => 0)

def quiescent_GwKernelIdeal [hGwKernelIdeal : Cert.GwKernelIdeal.Facts] : Prop :=
  ∀ (m : (ℓ : Loc Cert.GwKernelIdeal.nD Cert.GwKernelIdeal.τ Cert.GwKernelIdeal.sig) → Buf (Elt Ideal) ℓ) (g : Dev Cert.GwKernelIdeal.nD → PrngReg), Pre_GwKernelIdeal m →
    θ_run (Cert.GwKernelIdeal.defs (F := Ideal)) (onTc (τ := Cert.GwKernelIdeal.τ) (Cert.GwKernelIdeal.main (F := Ideal))) ⟨m, fun _ => 0, g⟩ (fun r => (∀ c : Dev Cert.GwKernelIdeal.nD,
      r.2.mem ((c.tc : Thread Cert.GwKernelIdeal.nD Cert.GwKernelIdeal.τ).loc Cert.GwKernelIdeal.main_arg0) = m ((c.tc : Thread Cert.GwKernelIdeal.nD Cert.GwKernelIdeal.τ).loc Cert.GwKernelIdeal.main_arg0)
      ∧ r.2.mem ((c.tc : Thread Cert.GwKernelIdeal.nD Cert.GwKernelIdeal.τ).loc Cert.GwKernelIdeal.main_arg1) = m ((c.tc : Thread Cert.GwKernelIdeal.nD Cert.GwKernelIdeal.τ).loc Cert.GwKernelIdeal.main_arg1))
      ∧ r.2.sem = fun _ => 0)

def quiescent_GwReferenceIdeal [hGwReferenceIdeal : Cert.GwReferenceIdeal.Facts] : Prop :=
  ∀ (m : (ℓ : Loc Cert.GwReferenceIdeal.nD Cert.GwReferenceIdeal.τ Cert.GwReferenceIdeal.sig) → Buf (Elt Ideal) ℓ) (g : Dev Cert.GwReferenceIdeal.nD → PrngReg), Pre_GwReferenceIdeal m →
    θ_run (Cert.GwReferenceIdeal.defs (F := Ideal)) (onTc (τ := Cert.GwReferenceIdeal.τ) (Cert.GwReferenceIdeal.main (F := Ideal))) ⟨m, fun _ => 0, g⟩ (fun r => (∀ c : Dev Cert.GwReferenceIdeal.nD,
      r.2.mem ((c.tc : Thread Cert.GwReferenceIdeal.nD Cert.GwReferenceIdeal.τ).loc Cert.GwReferenceIdeal.main_arg0) = m ((c.tc : Thread Cert.GwReferenceIdeal.nD Cert.GwReferenceIdeal.τ).loc Cert.GwReferenceIdeal.main_arg0)
      ∧ r.2.mem ((c.tc : Thread Cert.GwReferenceIdeal.nD Cert.GwReferenceIdeal.τ).loc Cert.GwReferenceIdeal.main_arg1) = m ((c.tc : Thread Cert.GwReferenceIdeal.nD Cert.GwReferenceIdeal.τ).loc Cert.GwReferenceIdeal.main_arg1))
      ∧ r.2.sem = fun _ => 0)

def quiescent_GpoolKernel [hGpoolKernel : Cert.GpoolKernel.Facts] : Prop :=
  ∀ (m : (ℓ : Loc Cert.GpoolKernel.nD Cert.GpoolKernel.τ Cert.GpoolKernel.sig) → Buf (Elt Bits) ℓ) (g : Dev Cert.GpoolKernel.nD → PrngReg), Pre_GpoolKernel m →
    θ_run (Cert.GpoolKernel.defs (F := Bits)) (onTc (τ := Cert.GpoolKernel.τ) (Cert.GpoolKernel.main (F := Bits))) ⟨m, fun _ => 0, g⟩ (fun r => (∀ c : Dev Cert.GpoolKernel.nD,
      r.2.mem ((c.tc : Thread Cert.GpoolKernel.nD Cert.GpoolKernel.τ).loc Cert.GpoolKernel.main_arg0) = m ((c.tc : Thread Cert.GpoolKernel.nD Cert.GpoolKernel.τ).loc Cert.GpoolKernel.main_arg0)
      ∧ r.2.mem ((c.tc : Thread Cert.GpoolKernel.nD Cert.GpoolKernel.τ).loc Cert.GpoolKernel.main_arg1) = m ((c.tc : Thread Cert.GpoolKernel.nD Cert.GpoolKernel.τ).loc Cert.GpoolKernel.main_arg1))
      ∧ r.2.sem = fun _ => 0)

def quiescent_GpoolKernelIdeal [hGpoolKernelIdeal : Cert.GpoolKernelIdeal.Facts] : Prop :=
  ∀ (m : (ℓ : Loc Cert.GpoolKernelIdeal.nD Cert.GpoolKernelIdeal.τ Cert.GpoolKernelIdeal.sig) → Buf (Elt Ideal) ℓ) (g : Dev Cert.GpoolKernelIdeal.nD → PrngReg), Pre_GpoolKernelIdeal m →
    θ_run (Cert.GpoolKernelIdeal.defs (F := Ideal)) (onTc (τ := Cert.GpoolKernelIdeal.τ) (Cert.GpoolKernelIdeal.main (F := Ideal))) ⟨m, fun _ => 0, g⟩ (fun r => (∀ c : Dev Cert.GpoolKernelIdeal.nD,
      r.2.mem ((c.tc : Thread Cert.GpoolKernelIdeal.nD Cert.GpoolKernelIdeal.τ).loc Cert.GpoolKernelIdeal.main_arg0) = m ((c.tc : Thread Cert.GpoolKernelIdeal.nD Cert.GpoolKernelIdeal.τ).loc Cert.GpoolKernelIdeal.main_arg0)
      ∧ r.2.mem ((c.tc : Thread Cert.GpoolKernelIdeal.nD Cert.GpoolKernelIdeal.τ).loc Cert.GpoolKernelIdeal.main_arg1) = m ((c.tc : Thread Cert.GpoolKernelIdeal.nD Cert.GpoolKernelIdeal.τ).loc Cert.GpoolKernelIdeal.main_arg1))
      ∧ r.2.sem = fun _ => 0)

def quiescent_GpoolReferenceIdeal [hGpoolReferenceIdeal : Cert.GpoolReferenceIdeal.Facts] : Prop :=
  ∀ (m : (ℓ : Loc Cert.GpoolReferenceIdeal.nD Cert.GpoolReferenceIdeal.τ Cert.GpoolReferenceIdeal.sig) → Buf (Elt Ideal) ℓ) (g : Dev Cert.GpoolReferenceIdeal.nD → PrngReg), Pre_GpoolReferenceIdeal m →
    θ_run (Cert.GpoolReferenceIdeal.defs (F := Ideal)) (onTc (τ := Cert.GpoolReferenceIdeal.τ) (Cert.GpoolReferenceIdeal.main (F := Ideal))) ⟨m, fun _ => 0, g⟩ (fun r => (∀ c : Dev Cert.GpoolReferenceIdeal.nD,
      r.2.mem ((c.tc : Thread Cert.GpoolReferenceIdeal.nD Cert.GpoolReferenceIdeal.τ).loc Cert.GpoolReferenceIdeal.main_arg0) = m ((c.tc : Thread Cert.GpoolReferenceIdeal.nD Cert.GpoolReferenceIdeal.τ).loc Cert.GpoolReferenceIdeal.main_arg0)
      ∧ r.2.mem ((c.tc : Thread Cert.GpoolReferenceIdeal.nD Cert.GpoolReferenceIdeal.τ).loc Cert.GpoolReferenceIdeal.main_arg1) = m ((c.tc : Thread Cert.GpoolReferenceIdeal.nD Cert.GpoolReferenceIdeal.τ).loc Cert.GpoolReferenceIdeal.main_arg1))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3)
      ∧ r.2.mem ((c.tc : Thread Cert.SmallKernel.nD Cert.SmallKernel.τ).loc Cert.SmallKernel.main_arg4) = m ((c.tc : Thread Cert.SmallKernel.nD Cert.SmallKernel.τ).loc Cert.SmallKernel.main_arg4)
      ∧ r.2.mem ((c.tc : Thread Cert.SmallKernel.nD Cert.SmallKernel.τ).loc Cert.SmallKernel.main_arg5) = m ((c.tc : Thread Cert.SmallKernel.nD Cert.SmallKernel.τ).loc Cert.SmallKernel.main_arg5)
      ∧ r.2.mem ((c.tc : Thread Cert.SmallKernel.nD Cert.SmallKernel.τ).loc Cert.SmallKernel.main_arg6) = m ((c.tc : Thread Cert.SmallKernel.nD Cert.SmallKernel.τ).loc Cert.SmallKernel.main_arg6)
      ∧ r.2.mem ((c.tc : Thread Cert.SmallKernel.nD Cert.SmallKernel.τ).loc Cert.SmallKernel.main_arg7) = m ((c.tc : Thread Cert.SmallKernel.nD Cert.SmallKernel.τ).loc Cert.SmallKernel.main_arg7)
      ∧ r.2.mem ((c.tc : Thread Cert.SmallKernel.nD Cert.SmallKernel.τ).loc Cert.SmallKernel.main_arg8) = m ((c.tc : Thread Cert.SmallKernel.nD Cert.SmallKernel.τ).loc Cert.SmallKernel.main_arg8)
      ∧ r.2.mem ((c.tc : Thread Cert.SmallKernel.nD Cert.SmallKernel.τ).loc Cert.SmallKernel.main_arg9) = m ((c.tc : Thread Cert.SmallKernel.nD Cert.SmallKernel.τ).loc Cert.SmallKernel.main_arg9)
      ∧ r.2.mem ((c.tc : Thread Cert.SmallKernel.nD Cert.SmallKernel.τ).loc Cert.SmallKernel.main_arg10) = m ((c.tc : Thread Cert.SmallKernel.nD Cert.SmallKernel.τ).loc Cert.SmallKernel.main_arg10)
      ∧ r.2.mem ((c.tc : Thread Cert.SmallKernel.nD Cert.SmallKernel.τ).loc Cert.SmallKernel.main_arg11) = m ((c.tc : Thread Cert.SmallKernel.nD Cert.SmallKernel.τ).loc Cert.SmallKernel.main_arg11)
      ∧ r.2.mem ((c.tc : Thread Cert.SmallKernel.nD Cert.SmallKernel.τ).loc Cert.SmallKernel.main_arg12) = m ((c.tc : Thread Cert.SmallKernel.nD Cert.SmallKernel.τ).loc Cert.SmallKernel.main_arg12)
      ∧ r.2.mem ((c.tc : Thread Cert.SmallKernel.nD Cert.SmallKernel.τ).loc Cert.SmallKernel.main_arg13) = m ((c.tc : Thread Cert.SmallKernel.nD Cert.SmallKernel.τ).loc Cert.SmallKernel.main_arg13)
      ∧ r.2.mem ((c.tc : Thread Cert.SmallKernel.nD Cert.SmallKernel.τ).loc Cert.SmallKernel.main_arg14) = m ((c.tc : Thread Cert.SmallKernel.nD Cert.SmallKernel.τ).loc Cert.SmallKernel.main_arg14)
      ∧ r.2.mem ((c.tc : Thread Cert.SmallKernel.nD Cert.SmallKernel.τ).loc Cert.SmallKernel.main_arg15) = m ((c.tc : Thread Cert.SmallKernel.nD Cert.SmallKernel.τ).loc Cert.SmallKernel.main_arg15)
      ∧ r.2.mem ((c.tc : Thread Cert.SmallKernel.nD Cert.SmallKernel.τ).loc Cert.SmallKernel.main_arg16) = m ((c.tc : Thread Cert.SmallKernel.nD Cert.SmallKernel.τ).loc Cert.SmallKernel.main_arg16)
      ∧ r.2.mem ((c.tc : Thread Cert.SmallKernel.nD Cert.SmallKernel.τ).loc Cert.SmallKernel.main_arg17) = m ((c.tc : Thread Cert.SmallKernel.nD Cert.SmallKernel.τ).loc Cert.SmallKernel.main_arg17)
      ∧ r.2.mem ((c.tc : Thread Cert.SmallKernel.nD Cert.SmallKernel.τ).loc Cert.SmallKernel.main_arg18) = m ((c.tc : Thread Cert.SmallKernel.nD Cert.SmallKernel.τ).loc Cert.SmallKernel.main_arg18)
      ∧ r.2.mem ((c.tc : Thread Cert.SmallKernel.nD Cert.SmallKernel.τ).loc Cert.SmallKernel.main_arg19) = m ((c.tc : Thread Cert.SmallKernel.nD Cert.SmallKernel.τ).loc Cert.SmallKernel.main_arg19)
      ∧ r.2.mem ((c.tc : Thread Cert.SmallKernel.nD Cert.SmallKernel.τ).loc Cert.SmallKernel.main_arg20) = m ((c.tc : Thread Cert.SmallKernel.nD Cert.SmallKernel.τ).loc Cert.SmallKernel.main_arg20)
      ∧ r.2.mem ((c.tc : Thread Cert.SmallKernel.nD Cert.SmallKernel.τ).loc Cert.SmallKernel.main_arg21) = m ((c.tc : Thread Cert.SmallKernel.nD Cert.SmallKernel.τ).loc Cert.SmallKernel.main_arg21)
      ∧ r.2.mem ((c.tc : Thread Cert.SmallKernel.nD Cert.SmallKernel.τ).loc Cert.SmallKernel.main_arg22) = m ((c.tc : Thread Cert.SmallKernel.nD Cert.SmallKernel.τ).loc Cert.SmallKernel.main_arg22)
      ∧ r.2.mem ((c.tc : Thread Cert.SmallKernel.nD Cert.SmallKernel.τ).loc Cert.SmallKernel.main_arg23) = m ((c.tc : Thread Cert.SmallKernel.nD Cert.SmallKernel.τ).loc Cert.SmallKernel.main_arg23))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
      ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
      ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
      ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
      ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
      ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
      ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
      ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
      ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
      ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
      ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
      ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
      ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
      ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
      ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
      ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
      ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
      ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
      ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
      ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
      ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23))
      ∧ r.2.sem = fun _ => 0)

def quiescent_ChipsKernel [hChipsKernel : Cert.ChipsKernel.Facts] : Prop :=
  ∀ (m : (ℓ : Loc Cert.ChipsKernel.nD Cert.ChipsKernel.τ Cert.ChipsKernel.sig) → Buf (Elt Bits) ℓ) (g : Dev Cert.ChipsKernel.nD → PrngReg), Pre_ChipsKernel m →
    θ_run (Cert.ChipsKernel.defs (F := Bits)) (onTc (τ := Cert.ChipsKernel.τ) (Cert.ChipsKernel.main (F := Bits))) ⟨m, fun _ => 0, g⟩ (fun r => (∀ c : Dev Cert.ChipsKernel.nD,
      r.2.mem ((c.tc : Thread Cert.ChipsKernel.nD Cert.ChipsKernel.τ).loc Cert.ChipsKernel.main_arg0) = m ((c.tc : Thread Cert.ChipsKernel.nD Cert.ChipsKernel.τ).loc Cert.ChipsKernel.main_arg0)
      ∧ r.2.mem ((c.tc : Thread Cert.ChipsKernel.nD Cert.ChipsKernel.τ).loc Cert.ChipsKernel.main_arg1) = m ((c.tc : Thread Cert.ChipsKernel.nD Cert.ChipsKernel.τ).loc Cert.ChipsKernel.main_arg1))
      ∧ r.2.sem = fun _ => 0)

def quiescent_ChipsKernelIdeal [hChipsKernelIdeal : Cert.ChipsKernelIdeal.Facts] : Prop :=
  ∀ (m : (ℓ : Loc Cert.ChipsKernelIdeal.nD Cert.ChipsKernelIdeal.τ Cert.ChipsKernelIdeal.sig) → Buf (Elt Ideal) ℓ) (g : Dev Cert.ChipsKernelIdeal.nD → PrngReg), Pre_ChipsKernelIdeal m →
    θ_run (Cert.ChipsKernelIdeal.defs (F := Ideal)) (onTc (τ := Cert.ChipsKernelIdeal.τ) (Cert.ChipsKernelIdeal.main (F := Ideal))) ⟨m, fun _ => 0, g⟩ (fun r => (∀ c : Dev Cert.ChipsKernelIdeal.nD,
      r.2.mem ((c.tc : Thread Cert.ChipsKernelIdeal.nD Cert.ChipsKernelIdeal.τ).loc Cert.ChipsKernelIdeal.main_arg0) = m ((c.tc : Thread Cert.ChipsKernelIdeal.nD Cert.ChipsKernelIdeal.τ).loc Cert.ChipsKernelIdeal.main_arg0)
      ∧ r.2.mem ((c.tc : Thread Cert.ChipsKernelIdeal.nD Cert.ChipsKernelIdeal.τ).loc Cert.ChipsKernelIdeal.main_arg1) = m ((c.tc : Thread Cert.ChipsKernelIdeal.nD Cert.ChipsKernelIdeal.τ).loc Cert.ChipsKernelIdeal.main_arg1))
      ∧ r.2.sem = fun _ => 0)

def quiescent_ChipsReferenceIdeal [hChipsReferenceIdeal : Cert.ChipsReferenceIdeal.Facts] : Prop :=
  ∀ (m : (ℓ : Loc Cert.ChipsReferenceIdeal.nD Cert.ChipsReferenceIdeal.τ Cert.ChipsReferenceIdeal.sig) → Buf (Elt Ideal) ℓ) (g : Dev Cert.ChipsReferenceIdeal.nD → PrngReg), Pre_ChipsReferenceIdeal m →
    θ_run (Cert.ChipsReferenceIdeal.defs (F := Ideal)) (onTc (τ := Cert.ChipsReferenceIdeal.τ) (Cert.ChipsReferenceIdeal.main (F := Ideal))) ⟨m, fun _ => 0, g⟩ (fun r => (∀ c : Dev Cert.ChipsReferenceIdeal.nD,
      r.2.mem ((c.tc : Thread Cert.ChipsReferenceIdeal.nD Cert.ChipsReferenceIdeal.τ).loc Cert.ChipsReferenceIdeal.main_arg0) = m ((c.tc : Thread Cert.ChipsReferenceIdeal.nD Cert.ChipsReferenceIdeal.τ).loc Cert.ChipsReferenceIdeal.main_arg0)
      ∧ r.2.mem ((c.tc : Thread Cert.ChipsReferenceIdeal.nD Cert.ChipsReferenceIdeal.τ).loc Cert.ChipsReferenceIdeal.main_arg1) = m ((c.tc : Thread Cert.ChipsReferenceIdeal.nD Cert.ChipsReferenceIdeal.τ).loc Cert.ChipsReferenceIdeal.main_arg1))
      ∧ r.2.sem = fun _ => 0)

def quiescent_BigKernel [hBigKernel : Cert.BigKernel.Facts] : Prop :=
  ∀ (m : (ℓ : Loc Cert.BigKernel.nD Cert.BigKernel.τ Cert.BigKernel.sig) → Buf (Elt Bits) ℓ) (g : Dev Cert.BigKernel.nD → PrngReg), Pre_BigKernel m →
    θ_run (Cert.BigKernel.defs (F := Bits)) (onTc (τ := Cert.BigKernel.τ) (Cert.BigKernel.main (F := Bits))) ⟨m, fun _ => 0, g⟩ (fun r => (∀ c : Dev Cert.BigKernel.nD,
      r.2.mem ((c.tc : Thread Cert.BigKernel.nD Cert.BigKernel.τ).loc Cert.BigKernel.main_arg0) = m ((c.tc : Thread Cert.BigKernel.nD Cert.BigKernel.τ).loc Cert.BigKernel.main_arg0)
      ∧ r.2.mem ((c.tc : Thread Cert.BigKernel.nD Cert.BigKernel.τ).loc Cert.BigKernel.main_arg1) = m ((c.tc : Thread Cert.BigKernel.nD Cert.BigKernel.τ).loc Cert.BigKernel.main_arg1)
      ∧ r.2.mem ((c.tc : Thread Cert.BigKernel.nD Cert.BigKernel.τ).loc Cert.BigKernel.main_arg2) = m ((c.tc : Thread Cert.BigKernel.nD Cert.BigKernel.τ).loc Cert.BigKernel.main_arg2)
      ∧ r.2.mem ((c.tc : Thread Cert.BigKernel.nD Cert.BigKernel.τ).loc Cert.BigKernel.main_arg3) = m ((c.tc : Thread Cert.BigKernel.nD Cert.BigKernel.τ).loc Cert.BigKernel.main_arg3)
      ∧ r.2.mem ((c.tc : Thread Cert.BigKernel.nD Cert.BigKernel.τ).loc Cert.BigKernel.main_arg4) = m ((c.tc : Thread Cert.BigKernel.nD Cert.BigKernel.τ).loc Cert.BigKernel.main_arg4)
      ∧ r.2.mem ((c.tc : Thread Cert.BigKernel.nD Cert.BigKernel.τ).loc Cert.BigKernel.main_arg5) = m ((c.tc : Thread Cert.BigKernel.nD Cert.BigKernel.τ).loc Cert.BigKernel.main_arg5))
      ∧ r.2.sem = fun _ => 0)

def quiescent_BigKernelIdeal [hBigKernelIdeal : Cert.BigKernelIdeal.Facts] : Prop :=
  ∀ (m : (ℓ : Loc Cert.BigKernelIdeal.nD Cert.BigKernelIdeal.τ Cert.BigKernelIdeal.sig) → Buf (Elt Ideal) ℓ) (g : Dev Cert.BigKernelIdeal.nD → PrngReg), Pre_BigKernelIdeal m →
    θ_run (Cert.BigKernelIdeal.defs (F := Ideal)) (onTc (τ := Cert.BigKernelIdeal.τ) (Cert.BigKernelIdeal.main (F := Ideal))) ⟨m, fun _ => 0, g⟩ (fun r => (∀ c : Dev Cert.BigKernelIdeal.nD,
      r.2.mem ((c.tc : Thread Cert.BigKernelIdeal.nD Cert.BigKernelIdeal.τ).loc Cert.BigKernelIdeal.main_arg0) = m ((c.tc : Thread Cert.BigKernelIdeal.nD Cert.BigKernelIdeal.τ).loc Cert.BigKernelIdeal.main_arg0)
      ∧ r.2.mem ((c.tc : Thread Cert.BigKernelIdeal.nD Cert.BigKernelIdeal.τ).loc Cert.BigKernelIdeal.main_arg1) = m ((c.tc : Thread Cert.BigKernelIdeal.nD Cert.BigKernelIdeal.τ).loc Cert.BigKernelIdeal.main_arg1)
      ∧ r.2.mem ((c.tc : Thread Cert.BigKernelIdeal.nD Cert.BigKernelIdeal.τ).loc Cert.BigKernelIdeal.main_arg2) = m ((c.tc : Thread Cert.BigKernelIdeal.nD Cert.BigKernelIdeal.τ).loc Cert.BigKernelIdeal.main_arg2)
      ∧ r.2.mem ((c.tc : Thread Cert.BigKernelIdeal.nD Cert.BigKernelIdeal.τ).loc Cert.BigKernelIdeal.main_arg3) = m ((c.tc : Thread Cert.BigKernelIdeal.nD Cert.BigKernelIdeal.τ).loc Cert.BigKernelIdeal.main_arg3)
      ∧ r.2.mem ((c.tc : Thread Cert.BigKernelIdeal.nD Cert.BigKernelIdeal.τ).loc Cert.BigKernelIdeal.main_arg4) = m ((c.tc : Thread Cert.BigKernelIdeal.nD Cert.BigKernelIdeal.τ).loc Cert.BigKernelIdeal.main_arg4)
      ∧ r.2.mem ((c.tc : Thread Cert.BigKernelIdeal.nD Cert.BigKernelIdeal.τ).loc Cert.BigKernelIdeal.main_arg5) = m ((c.tc : Thread Cert.BigKernelIdeal.nD Cert.BigKernelIdeal.τ).loc Cert.BigKernelIdeal.main_arg5))
      ∧ r.2.sem = fun _ => 0)

def quiescent_BigReferenceIdeal [hBigReferenceIdeal : Cert.BigReferenceIdeal.Facts] : Prop :=
  ∀ (m : (ℓ : Loc Cert.BigReferenceIdeal.nD Cert.BigReferenceIdeal.τ Cert.BigReferenceIdeal.sig) → Buf (Elt Ideal) ℓ) (g : Dev Cert.BigReferenceIdeal.nD → PrngReg), Pre_BigReferenceIdeal m →
    θ_run (Cert.BigReferenceIdeal.defs (F := Ideal)) (onTc (τ := Cert.BigReferenceIdeal.τ) (Cert.BigReferenceIdeal.main (F := Ideal))) ⟨m, fun _ => 0, g⟩ (fun r => (∀ c : Dev Cert.BigReferenceIdeal.nD,
      r.2.mem ((c.tc : Thread Cert.BigReferenceIdeal.nD Cert.BigReferenceIdeal.τ).loc Cert.BigReferenceIdeal.main_arg0) = m ((c.tc : Thread Cert.BigReferenceIdeal.nD Cert.BigReferenceIdeal.τ).loc Cert.BigReferenceIdeal.main_arg0)
      ∧ r.2.mem ((c.tc : Thread Cert.BigReferenceIdeal.nD Cert.BigReferenceIdeal.τ).loc Cert.BigReferenceIdeal.main_arg1) = m ((c.tc : Thread Cert.BigReferenceIdeal.nD Cert.BigReferenceIdeal.τ).loc Cert.BigReferenceIdeal.main_arg1)
      ∧ r.2.mem ((c.tc : Thread Cert.BigReferenceIdeal.nD Cert.BigReferenceIdeal.τ).loc Cert.BigReferenceIdeal.main_arg2) = m ((c.tc : Thread Cert.BigReferenceIdeal.nD Cert.BigReferenceIdeal.τ).loc Cert.BigReferenceIdeal.main_arg2)
      ∧ r.2.mem ((c.tc : Thread Cert.BigReferenceIdeal.nD Cert.BigReferenceIdeal.τ).loc Cert.BigReferenceIdeal.main_arg3) = m ((c.tc : Thread Cert.BigReferenceIdeal.nD Cert.BigReferenceIdeal.τ).loc Cert.BigReferenceIdeal.main_arg3)
      ∧ r.2.mem ((c.tc : Thread Cert.BigReferenceIdeal.nD Cert.BigReferenceIdeal.τ).loc Cert.BigReferenceIdeal.main_arg4) = m ((c.tc : Thread Cert.BigReferenceIdeal.nD Cert.BigReferenceIdeal.τ).loc Cert.BigReferenceIdeal.main_arg4)
      ∧ r.2.mem ((c.tc : Thread Cert.BigReferenceIdeal.nD Cert.BigReferenceIdeal.τ).loc Cert.BigReferenceIdeal.main_arg5) = m ((c.tc : Thread Cert.BigReferenceIdeal.nD Cert.BigReferenceIdeal.τ).loc Cert.BigReferenceIdeal.main_arg5))
      ∧ r.2.sem = fun _ => 0)

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)
      ∧ m' ((c.tc : Thread Cert.KvReferenceIdeal.nD Cert.KvReferenceIdeal.τ).loc Cert.KvReferenceIdeal.main_arg3) = m ((c.tc : Thread Cert.KvKernelIdeal.nD Cert.KvKernelIdeal.τ).loc Cert.KvKernelIdeal.main_arg3)) →
    ∃ (v0 : (c : Dev Cert.KvKernelIdeal.nD) → Buf (Elt Ideal) ((c.tc : Thread Cert.KvKernelIdeal.nD Cert.KvKernelIdeal.τ).loc Cert.KvKernelIdeal.main_v3_0)) (v1 : (c : Dev Cert.KvKernelIdeal.nD) → Buf (Elt Ideal) ((c.tc : Thread Cert.KvKernelIdeal.nD Cert.KvKernelIdeal.τ).loc Cert.KvKernelIdeal.main_v3_1)) (v2 : (c : Dev Cert.KvKernelIdeal.nD) → Buf (Elt Ideal) ((c.tc : Thread Cert.KvKernelIdeal.nD Cert.KvKernelIdeal.τ).loc Cert.KvKernelIdeal.main_v3_2)) (v3 : (c : Dev Cert.KvKernelIdeal.nD) → Buf (Elt Ideal) ((c.tc : Thread Cert.KvKernelIdeal.nD Cert.KvKernelIdeal.τ).loc Cert.KvKernelIdeal.main_v6_0)) (v4 : (c : Dev Cert.KvKernelIdeal.nD) → Buf (Elt Ideal) ((c.tc : Thread Cert.KvKernelIdeal.nD Cert.KvKernelIdeal.τ).loc Cert.KvKernelIdeal.main_v6_1)) (v5 : (c : Dev Cert.KvKernelIdeal.nD) → Buf (Elt Ideal) ((c.tc : Thread Cert.KvKernelIdeal.nD Cert.KvKernelIdeal.τ).loc Cert.KvKernelIdeal.main_v6_2)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v3_0) = v0 c
          ∧ r.2.mem ((c.tc : Thread Cert.KvKernelIdeal.nD Cert.KvKernelIdeal.τ).loc Cert.KvKernelIdeal.main_v3_1) = v1 c
          ∧ r.2.mem ((c.tc : Thread Cert.KvKernelIdeal.nD Cert.KvKernelIdeal.τ).loc Cert.KvKernelIdeal.main_v3_2) = v2 c
          ∧ r.2.mem ((c.tc : Thread Cert.KvKernelIdeal.nD Cert.KvKernelIdeal.τ).loc Cert.KvKernelIdeal.main_v6_0) = v3 c
          ∧ r.2.mem ((c.tc : Thread Cert.KvKernelIdeal.nD Cert.KvKernelIdeal.τ).loc Cert.KvKernelIdeal.main_v6_1) = v4 c
          ∧ r.2.mem ((c.tc : Thread Cert.KvKernelIdeal.nD Cert.KvKernelIdeal.τ).loc Cert.KvKernelIdeal.main_v6_2) = v5 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
          ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v32) = v0 c
          ∧ r.2.mem ((c.tc : Thread Cert.KvReferenceIdeal.nD Cert.KvReferenceIdeal.τ).loc Cert.KvReferenceIdeal.main_v33) = v1 c
          ∧ r.2.mem ((c.tc : Thread Cert.KvReferenceIdeal.nD Cert.KvReferenceIdeal.τ).loc Cert.KvReferenceIdeal.main_v34) = v2 c
          ∧ r.2.mem ((c.tc : Thread Cert.KvReferenceIdeal.nD Cert.KvReferenceIdeal.τ).loc Cert.KvReferenceIdeal.main_v29) = v3 c
          ∧ r.2.mem ((c.tc : Thread Cert.KvReferenceIdeal.nD Cert.KvReferenceIdeal.τ).loc Cert.KvReferenceIdeal.main_v35) = v4 c
          ∧ r.2.mem ((c.tc : Thread Cert.KvReferenceIdeal.nD Cert.KvReferenceIdeal.τ).loc Cert.KvReferenceIdeal.main_v31) = v5 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def preserves_MixKernel_MixKernelIdeal : Prop :=
  True

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)) →
    ∃ (v0 : (c : Dev Cert.MixKernelIdeal.nD) → Buf (Elt Ideal) ((c.tc : Thread Cert.MixKernelIdeal.nD Cert.MixKernelIdeal.τ).loc Cert.MixKernelIdeal.main_v181_0)) (v1 : (c : Dev Cert.MixKernelIdeal.nD) → Buf (Elt Ideal) ((c.tc : Thread Cert.MixKernelIdeal.nD Cert.MixKernelIdeal.τ).loc Cert.MixKernelIdeal.main_v181_1)) (v2 : (c : Dev Cert.MixKernelIdeal.nD) → Buf (Elt Ideal) ((c.tc : Thread Cert.MixKernelIdeal.nD Cert.MixKernelIdeal.τ).loc Cert.MixKernelIdeal.main_v181_2)) (v3 : (c : Dev Cert.MixKernelIdeal.nD) → Buf (Elt Ideal) ((c.tc : Thread Cert.MixKernelIdeal.nD Cert.MixKernelIdeal.τ).loc Cert.MixKernelIdeal.main_v181_3)) (v4 : (c : Dev Cert.MixKernelIdeal.nD) → Buf (Elt Ideal) ((c.tc : Thread Cert.MixKernelIdeal.nD Cert.MixKernelIdeal.τ).loc Cert.MixKernelIdeal.main_v181_4)) (v5 : (c : Dev Cert.MixKernelIdeal.nD) → Buf (Elt Ideal) ((c.tc : Thread Cert.MixKernelIdeal.nD Cert.MixKernelIdeal.τ).loc Cert.MixKernelIdeal.main_v181_5)) (v6 : (c : Dev Cert.MixKernelIdeal.nD) → Buf (Elt Ideal) ((c.tc : Thread Cert.MixKernelIdeal.nD Cert.MixKernelIdeal.τ).loc Cert.MixKernelIdeal.main_v181_6)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v181_0) = v0 c
          ∧ r.2.mem ((c.tc : Thread Cert.MixKernelIdeal.nD Cert.MixKernelIdeal.τ).loc Cert.MixKernelIdeal.main_v181_1) = v1 c
          ∧ r.2.mem ((c.tc : Thread Cert.MixKernelIdeal.nD Cert.MixKernelIdeal.τ).loc Cert.MixKernelIdeal.main_v181_2) = v2 c
          ∧ r.2.mem ((c.tc : Thread Cert.MixKernelIdeal.nD Cert.MixKernelIdeal.τ).loc Cert.MixKernelIdeal.main_v181_3) = v3 c
          ∧ r.2.mem ((c.tc : Thread Cert.MixKernelIdeal.nD Cert.MixKernelIdeal.τ).loc Cert.MixKernelIdeal.main_v181_4) = v4 c
          ∧ r.2.mem ((c.tc : Thread Cert.MixKernelIdeal.nD Cert.MixKernelIdeal.τ).loc Cert.MixKernelIdeal.main_v181_5) = v5 c
          ∧ r.2.mem ((c.tc : Thread Cert.MixKernelIdeal.nD Cert.MixKernelIdeal.τ).loc Cert.MixKernelIdeal.main_v181_6) = v6 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v369) = v0 c
          ∧ r.2.mem ((c.tc : Thread Cert.MixReferenceIdeal.nD Cert.MixReferenceIdeal.τ).loc Cert.MixReferenceIdeal.main_v370) = v1 c
          ∧ r.2.mem ((c.tc : Thread Cert.MixReferenceIdeal.nD Cert.MixReferenceIdeal.τ).loc Cert.MixReferenceIdeal.main_v371) = v2 c
          ∧ r.2.mem ((c.tc : Thread Cert.MixReferenceIdeal.nD Cert.MixReferenceIdeal.τ).loc Cert.MixReferenceIdeal.main_v372) = v3 c
          ∧ r.2.mem ((c.tc : Thread Cert.MixReferenceIdeal.nD Cert.MixReferenceIdeal.τ).loc Cert.MixReferenceIdeal.main_v246) = v4 c
          ∧ r.2.mem ((c.tc : Thread Cert.MixReferenceIdeal.nD Cert.MixReferenceIdeal.τ).loc Cert.MixReferenceIdeal.main_v245) = v5 c
          ∧ r.2.mem ((c.tc : Thread Cert.MixReferenceIdeal.nD Cert.MixReferenceIdeal.τ).loc Cert.MixReferenceIdeal.main_v368) = v6 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_MixFwdKernel_MixFwdKernelIdeal : Prop :=
  True

def algebraic_MixFwdKernelIdeal_MixFwdReferenceIdeal_pre_finite_fwd [hMixFwdKernelIdeal : Cert.MixFwdKernelIdeal.Facts] [hMixFwdReferenceIdeal : Cert.MixFwdReferenceIdeal.Facts] [hPre_finite_fwd : Cert.Pre_finite_fwd.Facts] : Prop :=
  ∀ (m : (ℓ : Loc Cert.MixFwdKernelIdeal.nD Cert.MixFwdKernelIdeal.τ Cert.MixFwdKernelIdeal.sig) → Buf (Elt Ideal) ℓ) (g : Dev Cert.MixFwdKernelIdeal.nD → PrngReg)
    (m' : (ℓ : Loc Cert.MixFwdReferenceIdeal.nD Cert.MixFwdReferenceIdeal.τ Cert.MixFwdReferenceIdeal.sig) → Buf (Elt Ideal) ℓ) (g' : Dev Cert.MixFwdReferenceIdeal.nD → PrngReg), Pre_MixFwdKernelIdeal_finite_fwd m →
    (∀ c : Dev Cert.MixFwdKernelIdeal.nD,
      m' ((c.tc : Thread Cert.MixFwdReferenceIdeal.nD Cert.MixFwdReferenceIdeal.τ).loc Cert.MixFwdReferenceIdeal.main_arg0) = m ((c.tc : Thread Cert.MixFwdKernelIdeal.nD Cert.MixFwdKernelIdeal.τ).loc Cert.MixFwdKernelIdeal.main_arg0)
      ∧ m' ((c.tc : Thread Cert.MixFwdReferenceIdeal.nD Cert.MixFwdReferenceIdeal.τ).loc Cert.MixFwdReferenceIdeal.main_arg1) = m ((c.tc : Thread Cert.MixFwdKernelIdeal.nD Cert.MixFwdKernelIdeal.τ).loc Cert.MixFwdKernelIdeal.main_arg1)
      ∧ m' ((c.tc : Thread Cert.MixFwdReferenceIdeal.nD Cert.MixFwdReferenceIdeal.τ).loc Cert.MixFwdReferenceIdeal.main_arg2) = m ((c.tc : Thread Cert.MixFwdKernelIdeal.nD Cert.MixFwdKernelIdeal.τ).loc Cert.MixFwdKernelIdeal.main_arg2)
      ∧ m' ((c.tc : Thread Cert.MixFwdReferenceIdeal.nD Cert.MixFwdReferenceIdeal.τ).loc Cert.MixFwdReferenceIdeal.main_arg3) = m ((c.tc : Thread Cert.MixFwdKernelIdeal.nD Cert.MixFwdKernelIdeal.τ).loc Cert.MixFwdKernelIdeal.main_arg3)
      ∧ m' ((c.tc : Thread Cert.MixFwdReferenceIdeal.nD Cert.MixFwdReferenceIdeal.τ).loc Cert.MixFwdReferenceIdeal.main_arg4) = m ((c.tc : Thread Cert.MixFwdKernelIdeal.nD Cert.MixFwdKernelIdeal.τ).loc Cert.MixFwdKernelIdeal.main_arg4)
      ∧ m' ((c.tc : Thread Cert.MixFwdReferenceIdeal.nD Cert.MixFwdReferenceIdeal.τ).loc Cert.MixFwdReferenceIdeal.main_arg5) = m ((c.tc : Thread Cert.MixFwdKernelIdeal.nD Cert.MixFwdKernelIdeal.τ).loc Cert.MixFwdKernelIdeal.main_arg5)
      ∧ m' ((c.tc : Thread Cert.MixFwdReferenceIdeal.nD Cert.MixFwdReferenceIdeal.τ).loc Cert.MixFwdReferenceIdeal.main_arg6) = m ((c.tc : Thread Cert.MixFwdKernelIdeal.nD Cert.MixFwdKernelIdeal.τ).loc Cert.MixFwdKernelIdeal.main_arg6)
      ∧ m' ((c.tc : Thread Cert.MixFwdReferenceIdeal.nD Cert.MixFwdReferenceIdeal.τ).loc Cert.MixFwdReferenceIdeal.main_arg7) = m ((c.tc : Thread Cert.MixFwdKernelIdeal.nD Cert.MixFwdKernelIdeal.τ).loc Cert.MixFwdKernelIdeal.main_arg7)
      ∧ m' ((c.tc : Thread Cert.MixFwdReferenceIdeal.nD Cert.MixFwdReferenceIdeal.τ).loc Cert.MixFwdReferenceIdeal.main_arg8) = m ((c.tc : Thread Cert.MixFwdKernelIdeal.nD Cert.MixFwdKernelIdeal.τ).loc Cert.MixFwdKernelIdeal.main_arg8)
      ∧ m' ((c.tc : Thread Cert.MixFwdReferenceIdeal.nD Cert.MixFwdReferenceIdeal.τ).loc Cert.MixFwdReferenceIdeal.main_arg9) = m ((c.tc : Thread Cert.MixFwdKernelIdeal.nD Cert.MixFwdKernelIdeal.τ).loc Cert.MixFwdKernelIdeal.main_arg9)) →
    ∃ (v0 : (c : Dev Cert.MixFwdKernelIdeal.nD) → Buf (Elt Ideal) ((c.tc : Thread Cert.MixFwdKernelIdeal.nD Cert.MixFwdKernelIdeal.τ).loc Cert.MixFwdKernelIdeal.main_v14_0)) (v1 : (c : Dev Cert.MixFwdKernelIdeal.nD) → Buf (Elt Ideal) ((c.tc : Thread Cert.MixFwdKernelIdeal.nD Cert.MixFwdKernelIdeal.τ).loc Cert.MixFwdKernelIdeal.main_v14_1)) (v2 : (c : Dev Cert.MixFwdKernelIdeal.nD) → Buf (Elt Ideal) ((c.tc : Thread Cert.MixFwdKernelIdeal.nD Cert.MixFwdKernelIdeal.τ).loc Cert.MixFwdKernelIdeal.main_v14_2)) (v3 : (c : Dev Cert.MixFwdKernelIdeal.nD) → Buf (Elt Ideal) ((c.tc : Thread Cert.MixFwdKernelIdeal.nD Cert.MixFwdKernelIdeal.τ).loc Cert.MixFwdKernelIdeal.main_v14_3)) (v4 : (c : Dev Cert.MixFwdKernelIdeal.nD) → Buf (Elt Ideal) ((c.tc : Thread Cert.MixFwdKernelIdeal.nD Cert.MixFwdKernelIdeal.τ).loc Cert.MixFwdKernelIdeal.main_v14_4)) (v5 : (c : Dev Cert.MixFwdKernelIdeal.nD) → Buf (Elt Ideal) ((c.tc : Thread Cert.MixFwdKernelIdeal.nD Cert.MixFwdKernelIdeal.τ).loc Cert.MixFwdKernelIdeal.main_v14_5)) (v6 : (c : Dev Cert.MixFwdKernelIdeal.nD) → Buf (Elt Ideal) ((c.tc : Thread Cert.MixFwdKernelIdeal.nD Cert.MixFwdKernelIdeal.τ).loc Cert.MixFwdKernelIdeal.main_v14_6)) (v7 : (c : Dev Cert.MixFwdKernelIdeal.nD) → Buf (Elt Ideal) ((c.tc : Thread Cert.MixFwdKernelIdeal.nD Cert.MixFwdKernelIdeal.τ).loc Cert.MixFwdKernelIdeal.main_v14_7)) (v8 : (c : Dev Cert.MixFwdKernelIdeal.nD) → Buf (Elt Ideal) ((c.tc : Thread Cert.MixFwdKernelIdeal.nD Cert.MixFwdKernelIdeal.τ).loc Cert.MixFwdKernelIdeal.main_v14_8)),
      θ_run (Cert.MixFwdKernelIdeal.defs (F := Ideal)) (onTc (τ := Cert.MixFwdKernelIdeal.τ) (Cert.MixFwdKernelIdeal.main (F := Ideal))) ⟨m, fun _ => 0, g⟩ (fun r => ∀ c : Dev Cert.MixFwdKernelIdeal.nD,
          r.2.mem ((c.tc : Thread Cert.MixFwdKernelIdeal.nD Cert.MixFwdKernelIdeal.τ).loc Cert.MixFwdKernelIdeal.main_v14_0) = v0 c
          ∧ r.2.mem ((c.tc : Thread Cert.MixFwdKernelIdeal.nD Cert.MixFwdKernelIdeal.τ).loc Cert.MixFwdKernelIdeal.main_v14_1) = v1 c
          ∧ r.2.mem ((c.tc : Thread Cert.MixFwdKernelIdeal.nD Cert.MixFwdKernelIdeal.τ).loc Cert.MixFwdKernelIdeal.main_v14_2) = v2 c
          ∧ r.2.mem ((c.tc : Thread Cert.MixFwdKernelIdeal.nD Cert.MixFwdKernelIdeal.τ).loc Cert.MixFwdKernelIdeal.main_v14_3) = v3 c
          ∧ r.2.mem ((c.tc : Thread Cert.MixFwdKernelIdeal.nD Cert.MixFwdKernelIdeal.τ).loc Cert.MixFwdKernelIdeal.main_v14_4) = v4 c
          ∧ r.2.mem ((c.tc : Thread Cert.MixFwdKernelIdeal.nD Cert.MixFwdKernelIdeal.τ).loc Cert.MixFwdKernelIdeal.main_v14_5) = v5 c
          ∧ r.2.mem ((c.tc : Thread Cert.MixFwdKernelIdeal.nD Cert.MixFwdKernelIdeal.τ).loc Cert.MixFwdKernelIdeal.main_v14_6) = v6 c
          ∧ r.2.mem ((c.tc : Thread Cert.MixFwdKernelIdeal.nD Cert.MixFwdKernelIdeal.τ).loc Cert.MixFwdKernelIdeal.main_v14_7) = v7 c
          ∧ r.2.mem ((c.tc : Thread Cert.MixFwdKernelIdeal.nD Cert.MixFwdKernelIdeal.τ).loc Cert.MixFwdKernelIdeal.main_v14_8) = v8 c
          ∧ r.2.mem ((c.tc : Thread Cert.MixFwdKernelIdeal.nD Cert.MixFwdKernelIdeal.τ).loc Cert.MixFwdKernelIdeal.main_arg0) = m ((c.tc : Thread Cert.MixFwdKernelIdeal.nD Cert.MixFwdKernelIdeal.τ).loc Cert.MixFwdKernelIdeal.main_arg0)
          ∧ r.2.mem ((c.tc : Thread Cert.MixFwdKernelIdeal.nD Cert.MixFwdKernelIdeal.τ).loc Cert.MixFwdKernelIdeal.main_arg1) = m ((c.tc : Thread Cert.MixFwdKernelIdeal.nD Cert.MixFwdKernelIdeal.τ).loc Cert.MixFwdKernelIdeal.main_arg1)
          ∧ r.2.mem ((c.tc : Thread Cert.MixFwdKernelIdeal.nD Cert.MixFwdKernelIdeal.τ).loc Cert.MixFwdKernelIdeal.main_arg2) = m ((c.tc : Thread Cert.MixFwdKernelIdeal.nD Cert.MixFwdKernelIdeal.τ).loc Cert.MixFwdKernelIdeal.main_arg2)
          ∧ r.2.mem ((c.tc : Thread Cert.MixFwdKernelIdeal.nD Cert.MixFwdKernelIdeal.τ).loc Cert.MixFwdKernelIdeal.main_arg3) = m ((c.tc : Thread Cert.MixFwdKernelIdeal.nD Cert.MixFwdKernelIdeal.τ).loc Cert.MixFwdKernelIdeal.main_arg3)
          ∧ r.2.mem ((c.tc : Thread Cert.MixFwdKernelIdeal.nD Cert.MixFwdKernelIdeal.τ).loc Cert.MixFwdKernelIdeal.main_arg4) = m ((c.tc : Thread Cert.MixFwdKernelIdeal.nD Cert.MixFwdKernelIdeal.τ).loc Cert.MixFwdKernelIdeal.main_arg4)
          ∧ r.2.mem ((c.tc : Thread Cert.MixFwdKernelIdeal.nD Cert.MixFwdKernelIdeal.τ).loc Cert.MixFwdKernelIdeal.main_arg5) = m ((c.tc : Thread Cert.MixFwdKernelIdeal.nD Cert.MixFwdKernelIdeal.τ).loc Cert.MixFwdKernelIdeal.main_arg5)
          ∧ r.2.mem ((c.tc : Thread Cert.MixFwdKernelIdeal.nD Cert.MixFwdKernelIdeal.τ).loc Cert.MixFwdKernelIdeal.main_arg6) = m ((c.tc : Thread Cert.MixFwdKernelIdeal.nD Cert.MixFwdKernelIdeal.τ).loc Cert.MixFwdKernelIdeal.main_arg6)
          ∧ r.2.mem ((c.tc : Thread Cert.MixFwdKernelIdeal.nD Cert.MixFwdKernelIdeal.τ).loc Cert.MixFwdKernelIdeal.main_arg7) = m ((c.tc : Thread Cert.MixFwdKernelIdeal.nD Cert.MixFwdKernelIdeal.τ).loc Cert.MixFwdKernelIdeal.main_arg7)
          ∧ r.2.mem ((c.tc : Thread Cert.MixFwdKernelIdeal.nD Cert.MixFwdKernelIdeal.τ).loc Cert.MixFwdKernelIdeal.main_arg8) = m ((c.tc : Thread Cert.MixFwdKernelIdeal.nD Cert.MixFwdKernelIdeal.τ).loc Cert.MixFwdKernelIdeal.main_arg8)
          ∧ r.2.mem ((c.tc : Thread Cert.MixFwdKernelIdeal.nD Cert.MixFwdKernelIdeal.τ).loc Cert.MixFwdKernelIdeal.main_arg9) = m ((c.tc : Thread Cert.MixFwdKernelIdeal.nD Cert.MixFwdKernelIdeal.τ).loc Cert.MixFwdKernelIdeal.main_arg9))
      ∧ θ_run (Cert.MixFwdReferenceIdeal.defs (F := Ideal)) (onTc (τ := Cert.MixFwdReferenceIdeal.τ) (Cert.MixFwdReferenceIdeal.main (F := Ideal))) ⟨m', fun _ => 0, g'⟩ (fun r => ∀ c : Dev Cert.MixFwdReferenceIdeal.nD,
          r.2.mem ((c.tc : Thread Cert.MixFwdReferenceIdeal.nD Cert.MixFwdReferenceIdeal.τ).loc Cert.MixFwdReferenceIdeal.main_v164) = v0 c
          ∧ r.2.mem ((c.tc : Thread Cert.MixFwdReferenceIdeal.nD Cert.MixFwdReferenceIdeal.τ).loc Cert.MixFwdReferenceIdeal.main_v165) = v1 c
          ∧ r.2.mem ((c.tc : Thread Cert.MixFwdReferenceIdeal.nD Cert.MixFwdReferenceIdeal.τ).loc Cert.MixFwdReferenceIdeal.main_v166) = v2 c
          ∧ r.2.mem ((c.tc : Thread Cert.MixFwdReferenceIdeal.nD Cert.MixFwdReferenceIdeal.τ).loc Cert.MixFwdReferenceIdeal.main_v167) = v3 c
          ∧ r.2.mem ((c.tc : Thread Cert.MixFwdReferenceIdeal.nD Cert.MixFwdReferenceIdeal.τ).loc Cert.MixFwdReferenceIdeal.main_v168) = v4 c
          ∧ r.2.mem ((c.tc : Thread Cert.MixFwdReferenceIdeal.nD Cert.MixFwdReferenceIdeal.τ).loc Cert.MixFwdReferenceIdeal.main_v169) = v5 c
          ∧ r.2.mem ((c.tc : Thread Cert.MixFwdReferenceIdeal.nD Cert.MixFwdReferenceIdeal.τ).loc Cert.MixFwdReferenceIdeal.main_v170) = v6 c
          ∧ r.2.mem ((c.tc : Thread Cert.MixFwdReferenceIdeal.nD Cert.MixFwdReferenceIdeal.τ).loc Cert.MixFwdReferenceIdeal.main_v171) = v7 c
          ∧ r.2.mem ((c.tc : Thread Cert.MixFwdReferenceIdeal.nD Cert.MixFwdReferenceIdeal.τ).loc Cert.MixFwdReferenceIdeal.main_v163) = v8 c
          ∧ r.2.mem ((c.tc : Thread Cert.MixFwdReferenceIdeal.nD Cert.MixFwdReferenceIdeal.τ).loc Cert.MixFwdReferenceIdeal.main_arg0) = m' ((c.tc : Thread Cert.MixFwdReferenceIdeal.nD Cert.MixFwdReferenceIdeal.τ).loc Cert.MixFwdReferenceIdeal.main_arg0)
          ∧ r.2.mem ((c.tc : Thread Cert.MixFwdReferenceIdeal.nD Cert.MixFwdReferenceIdeal.τ).loc Cert.MixFwdReferenceIdeal.main_arg1) = m' ((c.tc : Thread Cert.MixFwdReferenceIdeal.nD Cert.MixFwdReferenceIdeal.τ).loc Cert.MixFwdReferenceIdeal.main_arg1)
          ∧ r.2.mem ((c.tc : Thread Cert.MixFwdReferenceIdeal.nD Cert.MixFwdReferenceIdeal.τ).loc Cert.MixFwdReferenceIdeal.main_arg2) = m' ((c.tc : Thread Cert.MixFwdReferenceIdeal.nD Cert.MixFwdReferenceIdeal.τ).loc Cert.MixFwdReferenceIdeal.main_arg2)
          ∧ r.2.mem ((c.tc : Thread Cert.MixFwdReferenceIdeal.nD Cert.MixFwdReferenceIdeal.τ).loc Cert.MixFwdReferenceIdeal.main_arg3) = m' ((c.tc : Thread Cert.MixFwdReferenceIdeal.nD Cert.MixFwdReferenceIdeal.τ).loc Cert.MixFwdReferenceIdeal.main_arg3)
          ∧ r.2.mem ((c.tc : Thread Cert.MixFwdReferenceIdeal.nD Cert.MixFwdReferenceIdeal.τ).loc Cert.MixFwdReferenceIdeal.main_arg4) = m' ((c.tc : Thread Cert.MixFwdReferenceIdeal.nD Cert.MixFwdReferenceIdeal.τ).loc Cert.MixFwdReferenceIdeal.main_arg4)
          ∧ r.2.mem ((c.tc : Thread Cert.MixFwdReferenceIdeal.nD Cert.MixFwdReferenceIdeal.τ).loc Cert.MixFwdReferenceIdeal.main_arg5) = m' ((c.tc : Thread Cert.MixFwdReferenceIdeal.nD Cert.MixFwdReferenceIdeal.τ).loc Cert.MixFwdReferenceIdeal.main_arg5)
          ∧ r.2.mem ((c.tc : Thread Cert.MixFwdReferenceIdeal.nD Cert.MixFwdReferenceIdeal.τ).loc Cert.MixFwdReferenceIdeal.main_arg6) = m' ((c.tc : Thread Cert.MixFwdReferenceIdeal.nD Cert.MixFwdReferenceIdeal.τ).loc Cert.MixFwdReferenceIdeal.main_arg6)
          ∧ r.2.mem ((c.tc : Thread Cert.MixFwdReferenceIdeal.nD Cert.MixFwdReferenceIdeal.τ).loc Cert.MixFwdReferenceIdeal.main_arg7) = m' ((c.tc : Thread Cert.MixFwdReferenceIdeal.nD Cert.MixFwdReferenceIdeal.τ).loc Cert.MixFwdReferenceIdeal.main_arg7)
          ∧ r.2.mem ((c.tc : Thread Cert.MixFwdReferenceIdeal.nD Cert.MixFwdReferenceIdeal.τ).loc Cert.MixFwdReferenceIdeal.main_arg8) = m' ((c.tc : Thread Cert.MixFwdReferenceIdeal.nD Cert.MixFwdReferenceIdeal.τ).loc Cert.MixFwdReferenceIdeal.main_arg8)
          ∧ r.2.mem ((c.tc : Thread Cert.MixFwdReferenceIdeal.nD Cert.MixFwdReferenceIdeal.τ).loc Cert.MixFwdReferenceIdeal.main_arg9) = m' ((c.tc : Thread Cert.MixFwdReferenceIdeal.nD Cert.MixFwdReferenceIdeal.τ).loc Cert.MixFwdReferenceIdeal.main_arg9))

def preserves_InKernel_InKernelIdeal : Prop :=
  True

def algebraic_InKernelIdeal_InReferenceIdeal_pre_finite_in [hInKernelIdeal : Cert.InKernelIdeal.Facts] [hInReferenceIdeal : Cert.InReferenceIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_in m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v3_0)) (v1 : (c : Dev Cert.InKernelIdeal.nD) → Buf (Elt Ideal) ((c.tc : Thread Cert.InKernelIdeal.nD Cert.InKernelIdeal.τ).loc Cert.InKernelIdeal.main_v3_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3_0) = v0 c
          ∧ r.2.mem ((c.tc : Thread Cert.InKernelIdeal.nD Cert.InKernelIdeal.τ).loc Cert.InKernelIdeal.main_v3_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v40) = v0 c
          ∧ r.2.mem ((c.tc : Thread Cert.InReferenceIdeal.nD Cert.InReferenceIdeal.τ).loc Cert.InReferenceIdeal.main_v43) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v9_0)) (v1 : (c : Dev Cert.FfnKernelIdeal.nD) → Buf (Elt Ideal) ((c.tc : Thread Cert.FfnKernelIdeal.nD Cert.FfnKernelIdeal.τ).loc Cert.FfnKernelIdeal.main_v9_1)) (v2 : (c : Dev Cert.FfnKernelIdeal.nD) → Buf (Elt Ideal) ((c.tc : Thread Cert.FfnKernelIdeal.nD Cert.FfnKernelIdeal.τ).loc Cert.FfnKernelIdeal.main_v9_2)) (v3 : (c : Dev Cert.FfnKernelIdeal.nD) → Buf (Elt Ideal) ((c.tc : Thread Cert.FfnKernelIdeal.nD Cert.FfnKernelIdeal.τ).loc Cert.FfnKernelIdeal.main_v9_3)) (v4 : (c : Dev Cert.FfnKernelIdeal.nD) → Buf (Elt Ideal) ((c.tc : Thread Cert.FfnKernelIdeal.nD Cert.FfnKernelIdeal.τ).loc Cert.FfnKernelIdeal.main_v10_0)) (v5 : (c : Dev Cert.FfnKernelIdeal.nD) → Buf (Elt Ideal) ((c.tc : Thread Cert.FfnKernelIdeal.nD Cert.FfnKernelIdeal.τ).loc Cert.FfnKernelIdeal.main_v10_1)) (v6 : (c : Dev Cert.FfnKernelIdeal.nD) → Buf (Elt Ideal) ((c.tc : Thread Cert.FfnKernelIdeal.nD Cert.FfnKernelIdeal.τ).loc Cert.FfnKernelIdeal.main_v10_2)) (v7 : (c : Dev Cert.FfnKernelIdeal.nD) → Buf (Elt Ideal) ((c.tc : Thread Cert.FfnKernelIdeal.nD Cert.FfnKernelIdeal.τ).loc Cert.FfnKernelIdeal.main_v10_3)) (v8 : (c : Dev Cert.FfnKernelIdeal.nD) → Buf (Elt Ideal) ((c.tc : Thread Cert.FfnKernelIdeal.nD Cert.FfnKernelIdeal.τ).loc Cert.FfnKernelIdeal.main_v10_4)) (v9 : (c : Dev Cert.FfnKernelIdeal.nD) → Buf (Elt Ideal) ((c.tc : Thread Cert.FfnKernelIdeal.nD Cert.FfnKernelIdeal.τ).loc Cert.FfnKernelIdeal.main_v10_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v9_0) = v0 c
          ∧ r.2.mem ((c.tc : Thread Cert.FfnKernelIdeal.nD Cert.FfnKernelIdeal.τ).loc Cert.FfnKernelIdeal.main_v9_1) = v1 c
          ∧ r.2.mem ((c.tc : Thread Cert.FfnKernelIdeal.nD Cert.FfnKernelIdeal.τ).loc Cert.FfnKernelIdeal.main_v9_2) = v2 c
          ∧ r.2.mem ((c.tc : Thread Cert.FfnKernelIdeal.nD Cert.FfnKernelIdeal.τ).loc Cert.FfnKernelIdeal.main_v9_3) = v3 c
          ∧ r.2.mem ((c.tc : Thread Cert.FfnKernelIdeal.nD Cert.FfnKernelIdeal.τ).loc Cert.FfnKernelIdeal.main_v10_0) = v4 c
          ∧ r.2.mem ((c.tc : Thread Cert.FfnKernelIdeal.nD Cert.FfnKernelIdeal.τ).loc Cert.FfnKernelIdeal.main_v10_1) = v5 c
          ∧ r.2.mem ((c.tc : Thread Cert.FfnKernelIdeal.nD Cert.FfnKernelIdeal.τ).loc Cert.FfnKernelIdeal.main_v10_2) = v6 c
          ∧ r.2.mem ((c.tc : Thread Cert.FfnKernelIdeal.nD Cert.FfnKernelIdeal.τ).loc Cert.FfnKernelIdeal.main_v10_3) = v7 c
          ∧ r.2.mem ((c.tc : Thread Cert.FfnKernelIdeal.nD Cert.FfnKernelIdeal.τ).loc Cert.FfnKernelIdeal.main_v10_4) = v8 c
          ∧ r.2.mem ((c.tc : Thread Cert.FfnKernelIdeal.nD Cert.FfnKernelIdeal.τ).loc Cert.FfnKernelIdeal.main_v10_5) = v9 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v122) = v0 c
          ∧ r.2.mem ((c.tc : Thread Cert.FfnReferenceIdeal.nD Cert.FfnReferenceIdeal.τ).loc Cert.FfnReferenceIdeal.main_v123) = v1 c
          ∧ r.2.mem ((c.tc : Thread Cert.FfnReferenceIdeal.nD Cert.FfnReferenceIdeal.τ).loc Cert.FfnReferenceIdeal.main_v81) = v2 c
          ∧ r.2.mem ((c.tc : Thread Cert.FfnReferenceIdeal.nD Cert.FfnReferenceIdeal.τ).loc Cert.FfnReferenceIdeal.main_v119) = v3 c
          ∧ r.2.mem ((c.tc : Thread Cert.FfnReferenceIdeal.nD Cert.FfnReferenceIdeal.τ).loc Cert.FfnReferenceIdeal.main_v109) = v4 c
          ∧ r.2.mem ((c.tc : Thread Cert.FfnReferenceIdeal.nD Cert.FfnReferenceIdeal.τ).loc Cert.FfnReferenceIdeal.main_v124) = v5 c
          ∧ r.2.mem ((c.tc : Thread Cert.FfnReferenceIdeal.nD Cert.FfnReferenceIdeal.τ).loc Cert.FfnReferenceIdeal.main_v125) = v6 c
          ∧ r.2.mem ((c.tc : Thread Cert.FfnReferenceIdeal.nD Cert.FfnReferenceIdeal.τ).loc Cert.FfnReferenceIdeal.main_v126) = v7 c
          ∧ r.2.mem ((c.tc : Thread Cert.FfnReferenceIdeal.nD Cert.FfnReferenceIdeal.τ).loc Cert.FfnReferenceIdeal.main_v127) = v8 c
          ∧ r.2.mem ((c.tc : Thread Cert.FfnReferenceIdeal.nD Cert.FfnReferenceIdeal.τ).loc Cert.FfnReferenceIdeal.main_v121) = v9 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v2_0)) (v1 : (c : Dev Cert.ProjKernelIdeal.nD) → Buf (Elt Ideal) ((c.tc : Thread Cert.ProjKernelIdeal.nD Cert.ProjKernelIdeal.τ).loc Cert.ProjKernelIdeal.main_v2_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v2_0) = v0 c
          ∧ r.2.mem ((c.tc : Thread Cert.ProjKernelIdeal.nD Cert.ProjKernelIdeal.τ).loc Cert.ProjKernelIdeal.main_v2_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v17) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_GwKernel_GwKernelIdeal : Prop :=
  True

def algebraic_GwKernelIdeal_GwReferenceIdeal [hGwKernelIdeal : Cert.GwKernelIdeal.Facts] [hGwReferenceIdeal : Cert.GwReferenceIdeal.Facts] : Prop :=
  ∀ (m : (ℓ : Loc Cert.GwKernelIdeal.nD Cert.GwKernelIdeal.τ Cert.GwKernelIdeal.sig) → Buf (Elt Ideal) ℓ) (g : Dev Cert.GwKernelIdeal.nD → PrngReg)
    (m' : (ℓ : Loc Cert.GwReferenceIdeal.nD Cert.GwReferenceIdeal.τ Cert.GwReferenceIdeal.sig) → Buf (Elt Ideal) ℓ) (g' : Dev Cert.GwReferenceIdeal.nD → PrngReg), Pre_GwKernelIdeal m →
    (∀ c : Dev Cert.GwKernelIdeal.nD,
      m' ((c.tc : Thread Cert.GwReferenceIdeal.nD Cert.GwReferenceIdeal.τ).loc Cert.GwReferenceIdeal.main_arg0) = m ((c.tc : Thread Cert.GwKernelIdeal.nD Cert.GwKernelIdeal.τ).loc Cert.GwKernelIdeal.main_arg0)
      ∧ m' ((c.tc : Thread Cert.GwReferenceIdeal.nD Cert.GwReferenceIdeal.τ).loc Cert.GwReferenceIdeal.main_arg1) = m ((c.tc : Thread Cert.GwKernelIdeal.nD Cert.GwKernelIdeal.τ).loc Cert.GwKernelIdeal.main_arg1)) →
    ∃ (v0 : (c : Dev Cert.GwKernelIdeal.nD) → Buf (Elt Ideal) ((c.tc : Thread Cert.GwKernelIdeal.nD Cert.GwKernelIdeal.τ).loc Cert.GwKernelIdeal.main_v2_0)) (v1 : (c : Dev Cert.GwKernelIdeal.nD) → Buf (Elt Ideal) ((c.tc : Thread Cert.GwKernelIdeal.nD Cert.GwKernelIdeal.τ).loc Cert.GwKernelIdeal.main_v2_1)),
      θ_run (Cert.GwKernelIdeal.defs (F := Ideal)) (onTc (τ := Cert.GwKernelIdeal.τ) (Cert.GwKernelIdeal.main (F := Ideal))) ⟨m, fun _ => 0, g⟩ (fun r => ∀ c : Dev Cert.GwKernelIdeal.nD,
          r.2.mem ((c.tc : Thread Cert.GwKernelIdeal.nD Cert.GwKernelIdeal.τ).loc Cert.GwKernelIdeal.main_v2_0) = v0 c
          ∧ r.2.mem ((c.tc : Thread Cert.GwKernelIdeal.nD Cert.GwKernelIdeal.τ).loc Cert.GwKernelIdeal.main_v2_1) = v1 c
          ∧ r.2.mem ((c.tc : Thread Cert.GwKernelIdeal.nD Cert.GwKernelIdeal.τ).loc Cert.GwKernelIdeal.main_arg0) = m ((c.tc : Thread Cert.GwKernelIdeal.nD Cert.GwKernelIdeal.τ).loc Cert.GwKernelIdeal.main_arg0)
          ∧ r.2.mem ((c.tc : Thread Cert.GwKernelIdeal.nD Cert.GwKernelIdeal.τ).loc Cert.GwKernelIdeal.main_arg1) = m ((c.tc : Thread Cert.GwKernelIdeal.nD Cert.GwKernelIdeal.τ).loc Cert.GwKernelIdeal.main_arg1))
      ∧ θ_run (Cert.GwReferenceIdeal.defs (F := Ideal)) (onTc (τ := Cert.GwReferenceIdeal.τ) (Cert.GwReferenceIdeal.main (F := Ideal))) ⟨m', fun _ => 0, g'⟩ (fun r => ∀ c : Dev Cert.GwReferenceIdeal.nD,
          r.2.mem ((c.tc : Thread Cert.GwReferenceIdeal.nD Cert.GwReferenceIdeal.τ).loc Cert.GwReferenceIdeal.main_v6) = v0 c
          ∧ r.2.mem ((c.tc : Thread Cert.GwReferenceIdeal.nD Cert.GwReferenceIdeal.τ).loc Cert.GwReferenceIdeal.main_v8) = v1 c
          ∧ r.2.mem ((c.tc : Thread Cert.GwReferenceIdeal.nD Cert.GwReferenceIdeal.τ).loc Cert.GwReferenceIdeal.main_arg0) = m' ((c.tc : Thread Cert.GwReferenceIdeal.nD Cert.GwReferenceIdeal.τ).loc Cert.GwReferenceIdeal.main_arg0)
          ∧ r.2.mem ((c.tc : Thread Cert.GwReferenceIdeal.nD Cert.GwReferenceIdeal.τ).loc Cert.GwReferenceIdeal.main_arg1) = m' ((c.tc : Thread Cert.GwReferenceIdeal.nD Cert.GwReferenceIdeal.τ).loc Cert.GwReferenceIdeal.main_arg1))

def preserves_GpoolKernel_GpoolKernelIdeal : Prop :=
  True

def algebraic_GpoolKernelIdeal_GpoolReferenceIdeal [hGpoolKernelIdeal : Cert.GpoolKernelIdeal.Facts] [hGpoolReferenceIdeal : Cert.GpoolReferenceIdeal.Facts] : Prop :=
  ∀ (m : (ℓ : Loc Cert.GpoolKernelIdeal.nD Cert.GpoolKernelIdeal.τ Cert.GpoolKernelIdeal.sig) → Buf (Elt Ideal) ℓ) (g : Dev Cert.GpoolKernelIdeal.nD → PrngReg)
    (m' : (ℓ : Loc Cert.GpoolReferenceIdeal.nD Cert.GpoolReferenceIdeal.τ Cert.GpoolReferenceIdeal.sig) → Buf (Elt Ideal) ℓ) (g' : Dev Cert.GpoolReferenceIdeal.nD → PrngReg), Pre_GpoolKernelIdeal m →
    (∀ c : Dev Cert.GpoolKernelIdeal.nD,
      m' ((c.tc : Thread Cert.GpoolReferenceIdeal.nD Cert.GpoolReferenceIdeal.τ).loc Cert.GpoolReferenceIdeal.main_arg0) = m ((c.tc : Thread Cert.GpoolKernelIdeal.nD Cert.GpoolKernelIdeal.τ).loc Cert.GpoolKernelIdeal.main_arg0)
      ∧ m' ((c.tc : Thread Cert.GpoolReferenceIdeal.nD Cert.GpoolReferenceIdeal.τ).loc Cert.GpoolReferenceIdeal.main_arg1) = m ((c.tc : Thread Cert.GpoolKernelIdeal.nD Cert.GpoolKernelIdeal.τ).loc Cert.GpoolKernelIdeal.main_arg1)) →
    ∃ (v0 : (c : Dev Cert.GpoolKernelIdeal.nD) → Buf (Elt Ideal) ((c.tc : Thread Cert.GpoolKernelIdeal.nD Cert.GpoolKernelIdeal.τ).loc Cert.GpoolKernelIdeal.main_v2_0)) (v1 : (c : Dev Cert.GpoolKernelIdeal.nD) → Buf (Elt Ideal) ((c.tc : Thread Cert.GpoolKernelIdeal.nD Cert.GpoolKernelIdeal.τ).loc Cert.GpoolKernelIdeal.main_v2_1)),
      θ_run (Cert.GpoolKernelIdeal.defs (F := Ideal)) (onTc (τ := Cert.GpoolKernelIdeal.τ) (Cert.GpoolKernelIdeal.main (F := Ideal))) ⟨m, fun _ => 0, g⟩ (fun r => ∀ c : Dev Cert.GpoolKernelIdeal.nD,
          r.2.mem ((c.tc : Thread Cert.GpoolKernelIdeal.nD Cert.GpoolKernelIdeal.τ).loc Cert.GpoolKernelIdeal.main_v2_0) = v0 c
          ∧ r.2.mem ((c.tc : Thread Cert.GpoolKernelIdeal.nD Cert.GpoolKernelIdeal.τ).loc Cert.GpoolKernelIdeal.main_v2_1) = v1 c
          ∧ r.2.mem ((c.tc : Thread Cert.GpoolKernelIdeal.nD Cert.GpoolKernelIdeal.τ).loc Cert.GpoolKernelIdeal.main_arg0) = m ((c.tc : Thread Cert.GpoolKernelIdeal.nD Cert.GpoolKernelIdeal.τ).loc Cert.GpoolKernelIdeal.main_arg0)
          ∧ r.2.mem ((c.tc : Thread Cert.GpoolKernelIdeal.nD Cert.GpoolKernelIdeal.τ).loc Cert.GpoolKernelIdeal.main_arg1) = m ((c.tc : Thread Cert.GpoolKernelIdeal.nD Cert.GpoolKernelIdeal.τ).loc Cert.GpoolKernelIdeal.main_arg1))
      ∧ θ_run (Cert.GpoolReferenceIdeal.defs (F := Ideal)) (onTc (τ := Cert.GpoolReferenceIdeal.τ) (Cert.GpoolReferenceIdeal.main (F := Ideal))) ⟨m', fun _ => 0, g'⟩ (fun r => ∀ c : Dev Cert.GpoolReferenceIdeal.nD,
          r.2.mem ((c.tc : Thread Cert.GpoolReferenceIdeal.nD Cert.GpoolReferenceIdeal.τ).loc Cert.GpoolReferenceIdeal.main_v10) = v0 c
          ∧ r.2.mem ((c.tc : Thread Cert.GpoolReferenceIdeal.nD Cert.GpoolReferenceIdeal.τ).loc Cert.GpoolReferenceIdeal.main_v12) = v1 c
          ∧ r.2.mem ((c.tc : Thread Cert.GpoolReferenceIdeal.nD Cert.GpoolReferenceIdeal.τ).loc Cert.GpoolReferenceIdeal.main_arg0) = m' ((c.tc : Thread Cert.GpoolReferenceIdeal.nD Cert.GpoolReferenceIdeal.τ).loc Cert.GpoolReferenceIdeal.main_arg0)
          ∧ r.2.mem ((c.tc : Thread Cert.GpoolReferenceIdeal.nD Cert.GpoolReferenceIdeal.τ).loc Cert.GpoolReferenceIdeal.main_arg1) = m' ((c.tc : Thread Cert.GpoolReferenceIdeal.nD Cert.GpoolReferenceIdeal.τ).loc Cert.GpoolReferenceIdeal.main_arg1))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)
      ∧ m' ((c.tc : Thread Cert.SmallReferenceIdeal.nD Cert.SmallReferenceIdeal.τ).loc Cert.SmallReferenceIdeal.main_arg4) = m ((c.tc : Thread Cert.SmallKernelIdeal.nD Cert.SmallKernelIdeal.τ).loc Cert.SmallKernelIdeal.main_arg4)
      ∧ m' ((c.tc : Thread Cert.SmallReferenceIdeal.nD Cert.SmallReferenceIdeal.τ).loc Cert.SmallReferenceIdeal.main_arg5) = m ((c.tc : Thread Cert.SmallKernelIdeal.nD Cert.SmallKernelIdeal.τ).loc Cert.SmallKernelIdeal.main_arg5)
      ∧ m' ((c.tc : Thread Cert.SmallReferenceIdeal.nD Cert.SmallReferenceIdeal.τ).loc Cert.SmallReferenceIdeal.main_arg6) = m ((c.tc : Thread Cert.SmallKernelIdeal.nD Cert.SmallKernelIdeal.τ).loc Cert.SmallKernelIdeal.main_arg6)
      ∧ m' ((c.tc : Thread Cert.SmallReferenceIdeal.nD Cert.SmallReferenceIdeal.τ).loc Cert.SmallReferenceIdeal.main_arg7) = m ((c.tc : Thread Cert.SmallKernelIdeal.nD Cert.SmallKernelIdeal.τ).loc Cert.SmallKernelIdeal.main_arg7)
      ∧ m' ((c.tc : Thread Cert.SmallReferenceIdeal.nD Cert.SmallReferenceIdeal.τ).loc Cert.SmallReferenceIdeal.main_arg8) = m ((c.tc : Thread Cert.SmallKernelIdeal.nD Cert.SmallKernelIdeal.τ).loc Cert.SmallKernelIdeal.main_arg8)
      ∧ m' ((c.tc : Thread Cert.SmallReferenceIdeal.nD Cert.SmallReferenceIdeal.τ).loc Cert.SmallReferenceIdeal.main_arg9) = m ((c.tc : Thread Cert.SmallKernelIdeal.nD Cert.SmallKernelIdeal.τ).loc Cert.SmallKernelIdeal.main_arg9)
      ∧ m' ((c.tc : Thread Cert.SmallReferenceIdeal.nD Cert.SmallReferenceIdeal.τ).loc Cert.SmallReferenceIdeal.main_arg10) = m ((c.tc : Thread Cert.SmallKernelIdeal.nD Cert.SmallKernelIdeal.τ).loc Cert.SmallKernelIdeal.main_arg10)
      ∧ m' ((c.tc : Thread Cert.SmallReferenceIdeal.nD Cert.SmallReferenceIdeal.τ).loc Cert.SmallReferenceIdeal.main_arg11) = m ((c.tc : Thread Cert.SmallKernelIdeal.nD Cert.SmallKernelIdeal.τ).loc Cert.SmallKernelIdeal.main_arg11)
      ∧ m' ((c.tc : Thread Cert.SmallReferenceIdeal.nD Cert.SmallReferenceIdeal.τ).loc Cert.SmallReferenceIdeal.main_arg12) = m ((c.tc : Thread Cert.SmallKernelIdeal.nD Cert.SmallKernelIdeal.τ).loc Cert.SmallKernelIdeal.main_arg12)
      ∧ m' ((c.tc : Thread Cert.SmallReferenceIdeal.nD Cert.SmallReferenceIdeal.τ).loc Cert.SmallReferenceIdeal.main_arg13) = m ((c.tc : Thread Cert.SmallKernelIdeal.nD Cert.SmallKernelIdeal.τ).loc Cert.SmallKernelIdeal.main_arg13)
      ∧ m' ((c.tc : Thread Cert.SmallReferenceIdeal.nD Cert.SmallReferenceIdeal.τ).loc Cert.SmallReferenceIdeal.main_arg14) = m ((c.tc : Thread Cert.SmallKernelIdeal.nD Cert.SmallKernelIdeal.τ).loc Cert.SmallKernelIdeal.main_arg14)
      ∧ m' ((c.tc : Thread Cert.SmallReferenceIdeal.nD Cert.SmallReferenceIdeal.τ).loc Cert.SmallReferenceIdeal.main_arg15) = m ((c.tc : Thread Cert.SmallKernelIdeal.nD Cert.SmallKernelIdeal.τ).loc Cert.SmallKernelIdeal.main_arg15)
      ∧ m' ((c.tc : Thread Cert.SmallReferenceIdeal.nD Cert.SmallReferenceIdeal.τ).loc Cert.SmallReferenceIdeal.main_arg16) = m ((c.tc : Thread Cert.SmallKernelIdeal.nD Cert.SmallKernelIdeal.τ).loc Cert.SmallKernelIdeal.main_arg16)
      ∧ m' ((c.tc : Thread Cert.SmallReferenceIdeal.nD Cert.SmallReferenceIdeal.τ).loc Cert.SmallReferenceIdeal.main_arg17) = m ((c.tc : Thread Cert.SmallKernelIdeal.nD Cert.SmallKernelIdeal.τ).loc Cert.SmallKernelIdeal.main_arg17)
      ∧ m' ((c.tc : Thread Cert.SmallReferenceIdeal.nD Cert.SmallReferenceIdeal.τ).loc Cert.SmallReferenceIdeal.main_arg18) = m ((c.tc : Thread Cert.SmallKernelIdeal.nD Cert.SmallKernelIdeal.τ).loc Cert.SmallKernelIdeal.main_arg18)
      ∧ m' ((c.tc : Thread Cert.SmallReferenceIdeal.nD Cert.SmallReferenceIdeal.τ).loc Cert.SmallReferenceIdeal.main_arg19) = m ((c.tc : Thread Cert.SmallKernelIdeal.nD Cert.SmallKernelIdeal.τ).loc Cert.SmallKernelIdeal.main_arg19)
      ∧ m' ((c.tc : Thread Cert.SmallReferenceIdeal.nD Cert.SmallReferenceIdeal.τ).loc Cert.SmallReferenceIdeal.main_arg20) = m ((c.tc : Thread Cert.SmallKernelIdeal.nD Cert.SmallKernelIdeal.τ).loc Cert.SmallKernelIdeal.main_arg20)
      ∧ m' ((c.tc : Thread Cert.SmallReferenceIdeal.nD Cert.SmallReferenceIdeal.τ).loc Cert.SmallReferenceIdeal.main_arg21) = m ((c.tc : Thread Cert.SmallKernelIdeal.nD Cert.SmallKernelIdeal.τ).loc Cert.SmallKernelIdeal.main_arg21)
      ∧ m' ((c.tc : Thread Cert.SmallReferenceIdeal.nD Cert.SmallReferenceIdeal.τ).loc Cert.SmallReferenceIdeal.main_arg22) = m ((c.tc : Thread Cert.SmallKernelIdeal.nD Cert.SmallKernelIdeal.τ).loc Cert.SmallKernelIdeal.main_arg22)
      ∧ m' ((c.tc : Thread Cert.SmallReferenceIdeal.nD Cert.SmallReferenceIdeal.τ).loc Cert.SmallReferenceIdeal.main_arg23) = m ((c.tc : Thread Cert.SmallKernelIdeal.nD Cert.SmallKernelIdeal.τ).loc Cert.SmallKernelIdeal.main_arg23)) →
    ∃ (v0 : (c : Dev Cert.SmallKernelIdeal.nD) → Buf (Elt Ideal) ((c.tc : Thread Cert.SmallKernelIdeal.nD Cert.SmallKernelIdeal.τ).loc Cert.SmallKernelIdeal.main_v23)) (v1 : (c : Dev Cert.SmallKernelIdeal.nD) → Buf (Elt Ideal) ((c.tc : Thread Cert.SmallKernelIdeal.nD Cert.SmallKernelIdeal.τ).loc Cert.SmallKernelIdeal.main_v26)) (v2 : (c : Dev Cert.SmallKernelIdeal.nD) → Buf (Elt Ideal) ((c.tc : Thread Cert.SmallKernelIdeal.nD Cert.SmallKernelIdeal.τ).loc Cert.SmallKernelIdeal.main_v29)) (v3 : (c : Dev Cert.SmallKernelIdeal.nD) → Buf (Elt Ideal) ((c.tc : Thread Cert.SmallKernelIdeal.nD Cert.SmallKernelIdeal.τ).loc Cert.SmallKernelIdeal.main_v32)) (v4 : (c : Dev Cert.SmallKernelIdeal.nD) → Buf (Elt Ideal) ((c.tc : Thread Cert.SmallKernelIdeal.nD Cert.SmallKernelIdeal.τ).loc Cert.SmallKernelIdeal.main_v34)) (v5 : (c : Dev Cert.SmallKernelIdeal.nD) → Buf (Elt Ideal) ((c.tc : Thread Cert.SmallKernelIdeal.nD Cert.SmallKernelIdeal.τ).loc Cert.SmallKernelIdeal.main_v36)) (v6 : (c : Dev Cert.SmallKernelIdeal.nD) → Buf (Elt Ideal) ((c.tc : Thread Cert.SmallKernelIdeal.nD Cert.SmallKernelIdeal.τ).loc Cert.SmallKernelIdeal.main_v39)) (v7 : (c : Dev Cert.SmallKernelIdeal.nD) → Buf (Elt Ideal) ((c.tc : Thread Cert.SmallKernelIdeal.nD Cert.SmallKernelIdeal.τ).loc Cert.SmallKernelIdeal.main_v42)) (v8 : (c : Dev Cert.SmallKernelIdeal.nD) → Buf (Elt Ideal) ((c.tc : Thread Cert.SmallKernelIdeal.nD Cert.SmallKernelIdeal.τ).loc Cert.SmallKernelIdeal.main_v45)) (v9 : (c : Dev Cert.SmallKernelIdeal.nD) → Buf (Elt Ideal) ((c.tc : Thread Cert.SmallKernelIdeal.nD Cert.SmallKernelIdeal.τ).loc Cert.SmallKernelIdeal.main_v48)) (v10 : (c : Dev Cert.SmallKernelIdeal.nD) → Buf (Elt Ideal) ((c.tc : Thread Cert.SmallKernelIdeal.nD Cert.SmallKernelIdeal.τ).loc Cert.SmallKernelIdeal.main_v50)) (v11 : (c : Dev Cert.SmallKernelIdeal.nD) → Buf (Elt Ideal) ((c.tc : Thread Cert.SmallKernelIdeal.nD Cert.SmallKernelIdeal.τ).loc Cert.SmallKernelIdeal.main_v52)) (v12 : (c : Dev Cert.SmallKernelIdeal.nD) → Buf (Elt Ideal) ((c.tc : Thread Cert.SmallKernelIdeal.nD Cert.SmallKernelIdeal.τ).loc Cert.SmallKernelIdeal.main_v55)) (v13 : (c : Dev Cert.SmallKernelIdeal.nD) → Buf (Elt Ideal) ((c.tc : Thread Cert.SmallKernelIdeal.nD Cert.SmallKernelIdeal.τ).loc Cert.SmallKernelIdeal.main_v58)) (v14 : (c : Dev Cert.SmallKernelIdeal.nD) → Buf (Elt Ideal) ((c.tc : Thread Cert.SmallKernelIdeal.nD Cert.SmallKernelIdeal.τ).loc Cert.SmallKernelIdeal.main_v61)) (v15 : (c : Dev Cert.SmallKernelIdeal.nD) → Buf (Elt Ideal) ((c.tc : Thread Cert.SmallKernelIdeal.nD Cert.SmallKernelIdeal.τ).loc Cert.SmallKernelIdeal.main_v64)) (v16 : (c : Dev Cert.SmallKernelIdeal.nD) → Buf (Elt Ideal) ((c.tc : Thread Cert.SmallKernelIdeal.nD Cert.SmallKernelIdeal.τ).loc Cert.SmallKernelIdeal.main_v66)) (v17 : (c : Dev Cert.SmallKernelIdeal.nD) → Buf (Elt Ideal) ((c.tc : Thread Cert.SmallKernelIdeal.nD Cert.SmallKernelIdeal.τ).loc Cert.SmallKernelIdeal.main_v68)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v23) = v0 c
          ∧ r.2.mem ((c.tc : Thread Cert.SmallKernelIdeal.nD Cert.SmallKernelIdeal.τ).loc Cert.SmallKernelIdeal.main_v26) = v1 c
          ∧ r.2.mem ((c.tc : Thread Cert.SmallKernelIdeal.nD Cert.SmallKernelIdeal.τ).loc Cert.SmallKernelIdeal.main_v29) = v2 c
          ∧ r.2.mem ((c.tc : Thread Cert.SmallKernelIdeal.nD Cert.SmallKernelIdeal.τ).loc Cert.SmallKernelIdeal.main_v32) = v3 c
          ∧ r.2.mem ((c.tc : Thread Cert.SmallKernelIdeal.nD Cert.SmallKernelIdeal.τ).loc Cert.SmallKernelIdeal.main_v34) = v4 c
          ∧ r.2.mem ((c.tc : Thread Cert.SmallKernelIdeal.nD Cert.SmallKernelIdeal.τ).loc Cert.SmallKernelIdeal.main_v36) = v5 c
          ∧ r.2.mem ((c.tc : Thread Cert.SmallKernelIdeal.nD Cert.SmallKernelIdeal.τ).loc Cert.SmallKernelIdeal.main_v39) = v6 c
          ∧ r.2.mem ((c.tc : Thread Cert.SmallKernelIdeal.nD Cert.SmallKernelIdeal.τ).loc Cert.SmallKernelIdeal.main_v42) = v7 c
          ∧ r.2.mem ((c.tc : Thread Cert.SmallKernelIdeal.nD Cert.SmallKernelIdeal.τ).loc Cert.SmallKernelIdeal.main_v45) = v8 c
          ∧ r.2.mem ((c.tc : Thread Cert.SmallKernelIdeal.nD Cert.SmallKernelIdeal.τ).loc Cert.SmallKernelIdeal.main_v48) = v9 c
          ∧ r.2.mem ((c.tc : Thread Cert.SmallKernelIdeal.nD Cert.SmallKernelIdeal.τ).loc Cert.SmallKernelIdeal.main_v50) = v10 c
          ∧ r.2.mem ((c.tc : Thread Cert.SmallKernelIdeal.nD Cert.SmallKernelIdeal.τ).loc Cert.SmallKernelIdeal.main_v52) = v11 c
          ∧ r.2.mem ((c.tc : Thread Cert.SmallKernelIdeal.nD Cert.SmallKernelIdeal.τ).loc Cert.SmallKernelIdeal.main_v55) = v12 c
          ∧ r.2.mem ((c.tc : Thread Cert.SmallKernelIdeal.nD Cert.SmallKernelIdeal.τ).loc Cert.SmallKernelIdeal.main_v58) = v13 c
          ∧ r.2.mem ((c.tc : Thread Cert.SmallKernelIdeal.nD Cert.SmallKernelIdeal.τ).loc Cert.SmallKernelIdeal.main_v61) = v14 c
          ∧ r.2.mem ((c.tc : Thread Cert.SmallKernelIdeal.nD Cert.SmallKernelIdeal.τ).loc Cert.SmallKernelIdeal.main_v64) = v15 c
          ∧ r.2.mem ((c.tc : Thread Cert.SmallKernelIdeal.nD Cert.SmallKernelIdeal.τ).loc Cert.SmallKernelIdeal.main_v66) = v16 c
          ∧ r.2.mem ((c.tc : Thread Cert.SmallKernelIdeal.nD Cert.SmallKernelIdeal.τ).loc Cert.SmallKernelIdeal.main_v68) = v17 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
          ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
          ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
          ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
          ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
          ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
          ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
          ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
          ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
          ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
          ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
          ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
          ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
          ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
          ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
          ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
          ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
          ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
          ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
          ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
          ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v23) = v0 c
          ∧ r.2.mem ((c.tc : Thread Cert.SmallReferenceIdeal.nD Cert.SmallReferenceIdeal.τ).loc Cert.SmallReferenceIdeal.main_v47) = v1 c
          ∧ r.2.mem ((c.tc : Thread Cert.SmallReferenceIdeal.nD Cert.SmallReferenceIdeal.τ).loc Cert.SmallReferenceIdeal.main_v71) = v2 c
          ∧ r.2.mem ((c.tc : Thread Cert.SmallReferenceIdeal.nD Cert.SmallReferenceIdeal.τ).loc Cert.SmallReferenceIdeal.main_v95) = v3 c
          ∧ r.2.mem ((c.tc : Thread Cert.SmallReferenceIdeal.nD Cert.SmallReferenceIdeal.τ).loc Cert.SmallReferenceIdeal.main_v119) = v4 c
          ∧ r.2.mem ((c.tc : Thread Cert.SmallReferenceIdeal.nD Cert.SmallReferenceIdeal.τ).loc Cert.SmallReferenceIdeal.main_v143) = v5 c
          ∧ r.2.mem ((c.tc : Thread Cert.SmallReferenceIdeal.nD Cert.SmallReferenceIdeal.τ).loc Cert.SmallReferenceIdeal.main_v4) = v6 c
          ∧ r.2.mem ((c.tc : Thread Cert.SmallReferenceIdeal.nD Cert.SmallReferenceIdeal.τ).loc Cert.SmallReferenceIdeal.main_v28) = v7 c
          ∧ r.2.mem ((c.tc : Thread Cert.SmallReferenceIdeal.nD Cert.SmallReferenceIdeal.τ).loc Cert.SmallReferenceIdeal.main_v52) = v8 c
          ∧ r.2.mem ((c.tc : Thread Cert.SmallReferenceIdeal.nD Cert.SmallReferenceIdeal.τ).loc Cert.SmallReferenceIdeal.main_v76) = v9 c
          ∧ r.2.mem ((c.tc : Thread Cert.SmallReferenceIdeal.nD Cert.SmallReferenceIdeal.τ).loc Cert.SmallReferenceIdeal.main_v100) = v10 c
          ∧ r.2.mem ((c.tc : Thread Cert.SmallReferenceIdeal.nD Cert.SmallReferenceIdeal.τ).loc Cert.SmallReferenceIdeal.main_v124) = v11 c
          ∧ r.2.mem ((c.tc : Thread Cert.SmallReferenceIdeal.nD Cert.SmallReferenceIdeal.τ).loc Cert.SmallReferenceIdeal.main_v10) = v12 c
          ∧ r.2.mem ((c.tc : Thread Cert.SmallReferenceIdeal.nD Cert.SmallReferenceIdeal.τ).loc Cert.SmallReferenceIdeal.main_v34) = v13 c
          ∧ r.2.mem ((c.tc : Thread Cert.SmallReferenceIdeal.nD Cert.SmallReferenceIdeal.τ).loc Cert.SmallReferenceIdeal.main_v58) = v14 c
          ∧ r.2.mem ((c.tc : Thread Cert.SmallReferenceIdeal.nD Cert.SmallReferenceIdeal.τ).loc Cert.SmallReferenceIdeal.main_v82) = v15 c
          ∧ r.2.mem ((c.tc : Thread Cert.SmallReferenceIdeal.nD Cert.SmallReferenceIdeal.τ).loc Cert.SmallReferenceIdeal.main_v106) = v16 c
          ∧ r.2.mem ((c.tc : Thread Cert.SmallReferenceIdeal.nD Cert.SmallReferenceIdeal.τ).loc Cert.SmallReferenceIdeal.main_v130) = v17 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23))

def preserves_ChipsKernel_ChipsKernelIdeal : Prop :=
  True

def algebraic_ChipsKernelIdeal_ChipsReferenceIdeal [hChipsKernelIdeal : Cert.ChipsKernelIdeal.Facts] [hChipsReferenceIdeal : Cert.ChipsReferenceIdeal.Facts] : Prop :=
  ∀ (m : (ℓ : Loc Cert.ChipsKernelIdeal.nD Cert.ChipsKernelIdeal.τ Cert.ChipsKernelIdeal.sig) → Buf (Elt Ideal) ℓ) (g : Dev Cert.ChipsKernelIdeal.nD → PrngReg)
    (m' : (ℓ : Loc Cert.ChipsReferenceIdeal.nD Cert.ChipsReferenceIdeal.τ Cert.ChipsReferenceIdeal.sig) → Buf (Elt Ideal) ℓ) (g' : Dev Cert.ChipsReferenceIdeal.nD → PrngReg), Pre_ChipsKernelIdeal m →
    (∀ c : Dev Cert.ChipsKernelIdeal.nD,
      m' ((c.tc : Thread Cert.ChipsReferenceIdeal.nD Cert.ChipsReferenceIdeal.τ).loc Cert.ChipsReferenceIdeal.main_arg0) = m ((c.tc : Thread Cert.ChipsKernelIdeal.nD Cert.ChipsKernelIdeal.τ).loc Cert.ChipsKernelIdeal.main_arg0)
      ∧ m' ((c.tc : Thread Cert.ChipsReferenceIdeal.nD Cert.ChipsReferenceIdeal.τ).loc Cert.ChipsReferenceIdeal.main_arg1) = m ((c.tc : Thread Cert.ChipsKernelIdeal.nD Cert.ChipsKernelIdeal.τ).loc Cert.ChipsKernelIdeal.main_arg1)) →
    ∃ (v0 : (c : Dev Cert.ChipsKernelIdeal.nD) → Buf (Elt Ideal) ((c.tc : Thread Cert.ChipsKernelIdeal.nD Cert.ChipsKernelIdeal.τ).loc Cert.ChipsKernelIdeal.main_v1)),
      θ_run (Cert.ChipsKernelIdeal.defs (F := Ideal)) (onTc (τ := Cert.ChipsKernelIdeal.τ) (Cert.ChipsKernelIdeal.main (F := Ideal))) ⟨m, fun _ => 0, g⟩ (fun r => ∀ c : Dev Cert.ChipsKernelIdeal.nD,
          r.2.mem ((c.tc : Thread Cert.ChipsKernelIdeal.nD Cert.ChipsKernelIdeal.τ).loc Cert.ChipsKernelIdeal.main_v1) = v0 c
          ∧ r.2.mem ((c.tc : Thread Cert.ChipsKernelIdeal.nD Cert.ChipsKernelIdeal.τ).loc Cert.ChipsKernelIdeal.main_arg0) = m ((c.tc : Thread Cert.ChipsKernelIdeal.nD Cert.ChipsKernelIdeal.τ).loc Cert.ChipsKernelIdeal.main_arg0)
          ∧ r.2.mem ((c.tc : Thread Cert.ChipsKernelIdeal.nD Cert.ChipsKernelIdeal.τ).loc Cert.ChipsKernelIdeal.main_arg1) = m ((c.tc : Thread Cert.ChipsKernelIdeal.nD Cert.ChipsKernelIdeal.τ).loc Cert.ChipsKernelIdeal.main_arg1))
      ∧ θ_run (Cert.ChipsReferenceIdeal.defs (F := Ideal)) (onTc (τ := Cert.ChipsReferenceIdeal.τ) (Cert.ChipsReferenceIdeal.main (F := Ideal))) ⟨m', fun _ => 0, g'⟩ (fun r => ∀ c : Dev Cert.ChipsReferenceIdeal.nD,
          r.2.mem ((c.tc : Thread Cert.ChipsReferenceIdeal.nD Cert.ChipsReferenceIdeal.τ).loc Cert.ChipsReferenceIdeal.main_v1) = v0 c
          ∧ r.2.mem ((c.tc : Thread Cert.ChipsReferenceIdeal.nD Cert.ChipsReferenceIdeal.τ).loc Cert.ChipsReferenceIdeal.main_arg0) = m' ((c.tc : Thread Cert.ChipsReferenceIdeal.nD Cert.ChipsReferenceIdeal.τ).loc Cert.ChipsReferenceIdeal.main_arg0)
          ∧ r.2.mem ((c.tc : Thread Cert.ChipsReferenceIdeal.nD Cert.ChipsReferenceIdeal.τ).loc Cert.ChipsReferenceIdeal.main_arg1) = m' ((c.tc : Thread Cert.ChipsReferenceIdeal.nD Cert.ChipsReferenceIdeal.τ).loc Cert.ChipsReferenceIdeal.main_arg1))

def preserves_BigKernel_BigKernelIdeal : Prop :=
  True

def algebraic_BigKernelIdeal_BigReferenceIdeal [hBigKernelIdeal : Cert.BigKernelIdeal.Facts] [hBigReferenceIdeal : Cert.BigReferenceIdeal.Facts] : Prop :=
  ∀ (m : (ℓ : Loc Cert.BigKernelIdeal.nD Cert.BigKernelIdeal.τ Cert.BigKernelIdeal.sig) → Buf (Elt Ideal) ℓ) (g : Dev Cert.BigKernelIdeal.nD → PrngReg)
    (m' : (ℓ : Loc Cert.BigReferenceIdeal.nD Cert.BigReferenceIdeal.τ Cert.BigReferenceIdeal.sig) → Buf (Elt Ideal) ℓ) (g' : Dev Cert.BigReferenceIdeal.nD → PrngReg), Pre_BigKernelIdeal m →
    (∀ c : Dev Cert.BigKernelIdeal.nD,
      m' ((c.tc : Thread Cert.BigReferenceIdeal.nD Cert.BigReferenceIdeal.τ).loc Cert.BigReferenceIdeal.main_arg0) = m ((c.tc : Thread Cert.BigKernelIdeal.nD Cert.BigKernelIdeal.τ).loc Cert.BigKernelIdeal.main_arg0)
      ∧ m' ((c.tc : Thread Cert.BigReferenceIdeal.nD Cert.BigReferenceIdeal.τ).loc Cert.BigReferenceIdeal.main_arg1) = m ((c.tc : Thread Cert.BigKernelIdeal.nD Cert.BigKernelIdeal.τ).loc Cert.BigKernelIdeal.main_arg1)
      ∧ m' ((c.tc : Thread Cert.BigReferenceIdeal.nD Cert.BigReferenceIdeal.τ).loc Cert.BigReferenceIdeal.main_arg2) = m ((c.tc : Thread Cert.BigKernelIdeal.nD Cert.BigKernelIdeal.τ).loc Cert.BigKernelIdeal.main_arg2)
      ∧ m' ((c.tc : Thread Cert.BigReferenceIdeal.nD Cert.BigReferenceIdeal.τ).loc Cert.BigReferenceIdeal.main_arg3) = m ((c.tc : Thread Cert.BigKernelIdeal.nD Cert.BigKernelIdeal.τ).loc Cert.BigKernelIdeal.main_arg3)
      ∧ m' ((c.tc : Thread Cert.BigReferenceIdeal.nD Cert.BigReferenceIdeal.τ).loc Cert.BigReferenceIdeal.main_arg4) = m ((c.tc : Thread Cert.BigKernelIdeal.nD Cert.BigKernelIdeal.τ).loc Cert.BigKernelIdeal.main_arg4)
      ∧ m' ((c.tc : Thread Cert.BigReferenceIdeal.nD Cert.BigReferenceIdeal.τ).loc Cert.BigReferenceIdeal.main_arg5) = m ((c.tc : Thread Cert.BigKernelIdeal.nD Cert.BigKernelIdeal.τ).loc Cert.BigKernelIdeal.main_arg5)) →
    ∃ (v0 : (c : Dev Cert.BigKernelIdeal.nD) → Buf (Elt Ideal) ((c.tc : Thread Cert.BigKernelIdeal.nD Cert.BigKernelIdeal.τ).loc Cert.BigKernelIdeal.main_v4)) (v1 : (c : Dev Cert.BigKernelIdeal.nD) → Buf (Elt Ideal) ((c.tc : Thread Cert.BigKernelIdeal.nD Cert.BigKernelIdeal.τ).loc Cert.BigKernelIdeal.main_v5)) (v2 : (c : Dev Cert.BigKernelIdeal.nD) → Buf (Elt Ideal) ((c.tc : Thread Cert.BigKernelIdeal.nD Cert.BigKernelIdeal.τ).loc Cert.BigKernelIdeal.main_v6)) (v3 : (c : Dev Cert.BigKernelIdeal.nD) → Buf (Elt Ideal) ((c.tc : Thread Cert.BigKernelIdeal.nD Cert.BigKernelIdeal.τ).loc Cert.BigKernelIdeal.main_v7)),
      θ_run (Cert.BigKernelIdeal.defs (F := Ideal)) (onTc (τ := Cert.BigKernelIdeal.τ) (Cert.BigKernelIdeal.main (F := Ideal))) ⟨m, fun _ => 0, g⟩ (fun r => ∀ c : Dev Cert.BigKernelIdeal.nD,
          r.2.mem ((c.tc : Thread Cert.BigKernelIdeal.nD Cert.BigKernelIdeal.τ).loc Cert.BigKernelIdeal.main_v4) = v0 c
          ∧ r.2.mem ((c.tc : Thread Cert.BigKernelIdeal.nD Cert.BigKernelIdeal.τ).loc Cert.BigKernelIdeal.main_v5) = v1 c
          ∧ r.2.mem ((c.tc : Thread Cert.BigKernelIdeal.nD Cert.BigKernelIdeal.τ).loc Cert.BigKernelIdeal.main_v6) = v2 c
          ∧ r.2.mem ((c.tc : Thread Cert.BigKernelIdeal.nD Cert.BigKernelIdeal.τ).loc Cert.BigKernelIdeal.main_v7) = v3 c
          ∧ r.2.mem ((c.tc : Thread Cert.BigKernelIdeal.nD Cert.BigKernelIdeal.τ).loc Cert.BigKernelIdeal.main_arg0) = m ((c.tc : Thread Cert.BigKernelIdeal.nD Cert.BigKernelIdeal.τ).loc Cert.BigKernelIdeal.main_arg0)
          ∧ r.2.mem ((c.tc : Thread Cert.BigKernelIdeal.nD Cert.BigKernelIdeal.τ).loc Cert.BigKernelIdeal.main_arg1) = m ((c.tc : Thread Cert.BigKernelIdeal.nD Cert.BigKernelIdeal.τ).loc Cert.BigKernelIdeal.main_arg1)
          ∧ r.2.mem ((c.tc : Thread Cert.BigKernelIdeal.nD Cert.BigKernelIdeal.τ).loc Cert.BigKernelIdeal.main_arg2) = m ((c.tc : Thread Cert.BigKernelIdeal.nD Cert.BigKernelIdeal.τ).loc Cert.BigKernelIdeal.main_arg2)
          ∧ r.2.mem ((c.tc : Thread Cert.BigKernelIdeal.nD Cert.BigKernelIdeal.τ).loc Cert.BigKernelIdeal.main_arg3) = m ((c.tc : Thread Cert.BigKernelIdeal.nD Cert.BigKernelIdeal.τ).loc Cert.BigKernelIdeal.main_arg3)
          ∧ r.2.mem ((c.tc : Thread Cert.BigKernelIdeal.nD Cert.BigKernelIdeal.τ).loc Cert.BigKernelIdeal.main_arg4) = m ((c.tc : Thread Cert.BigKernelIdeal.nD Cert.BigKernelIdeal.τ).loc Cert.BigKernelIdeal.main_arg4)
          ∧ r.2.mem ((c.tc : Thread Cert.BigKernelIdeal.nD Cert.BigKernelIdeal.τ).loc Cert.BigKernelIdeal.main_arg5) = m ((c.tc : Thread Cert.BigKernelIdeal.nD Cert.BigKernelIdeal.τ).loc Cert.BigKernelIdeal.main_arg5))
      ∧ θ_run (Cert.BigReferenceIdeal.defs (F := Ideal)) (onTc (τ := Cert.BigReferenceIdeal.τ) (Cert.BigReferenceIdeal.main (F := Ideal))) ⟨m', fun _ => 0, g'⟩ (fun r => ∀ c : Dev Cert.BigReferenceIdeal.nD,
          r.2.mem ((c.tc : Thread Cert.BigReferenceIdeal.nD Cert.BigReferenceIdeal.τ).loc Cert.BigReferenceIdeal.main_v7) = v0 c
          ∧ r.2.mem ((c.tc : Thread Cert.BigReferenceIdeal.nD Cert.BigReferenceIdeal.τ).loc Cert.BigReferenceIdeal.main_v31) = v1 c
          ∧ r.2.mem ((c.tc : Thread Cert.BigReferenceIdeal.nD Cert.BigReferenceIdeal.τ).loc Cert.BigReferenceIdeal.main_v12) = v2 c
          ∧ r.2.mem ((c.tc : Thread Cert.BigReferenceIdeal.nD Cert.BigReferenceIdeal.τ).loc Cert.BigReferenceIdeal.main_v18) = v3 c
          ∧ r.2.mem ((c.tc : Thread Cert.BigReferenceIdeal.nD Cert.BigReferenceIdeal.τ).loc Cert.BigReferenceIdeal.main_arg0) = m' ((c.tc : Thread Cert.BigReferenceIdeal.nD Cert.BigReferenceIdeal.τ).loc Cert.BigReferenceIdeal.main_arg0)
          ∧ r.2.mem ((c.tc : Thread Cert.BigReferenceIdeal.nD Cert.BigReferenceIdeal.τ).loc Cert.BigReferenceIdeal.main_arg1) = m' ((c.tc : Thread Cert.BigReferenceIdeal.nD Cert.BigReferenceIdeal.τ).loc Cert.BigReferenceIdeal.main_arg1)
          ∧ r.2.mem ((c.tc : Thread Cert.BigReferenceIdeal.nD Cert.BigReferenceIdeal.τ).loc Cert.BigReferenceIdeal.main_arg2) = m' ((c.tc : Thread Cert.BigReferenceIdeal.nD Cert.BigReferenceIdeal.τ).loc Cert.BigReferenceIdeal.main_arg2)
          ∧ r.2.mem ((c.tc : Thread Cert.BigReferenceIdeal.nD Cert.BigReferenceIdeal.τ).loc Cert.BigReferenceIdeal.main_arg3) = m' ((c.tc : Thread Cert.BigReferenceIdeal.nD Cert.BigReferenceIdeal.τ).loc Cert.BigReferenceIdeal.main_arg3)
          ∧ r.2.mem ((c.tc : Thread Cert.BigReferenceIdeal.nD Cert.BigReferenceIdeal.τ).loc Cert.BigReferenceIdeal.main_arg4) = m' ((c.tc : Thread Cert.BigReferenceIdeal.nD Cert.BigReferenceIdeal.τ).loc Cert.BigReferenceIdeal.main_arg4)
          ∧ r.2.mem ((c.tc : Thread Cert.BigReferenceIdeal.nD Cert.BigReferenceIdeal.τ).loc Cert.BigReferenceIdeal.main_arg5) = m' ((c.tc : Thread Cert.BigReferenceIdeal.nD Cert.BigReferenceIdeal.τ).loc Cert.BigReferenceIdeal.main_arg5))

def Claim : Prop :=
  ∃ (hKvKernel : Cert.KvKernel.Facts) (hKvKernelIdeal : Cert.KvKernelIdeal.Facts) (hKvReferenceIdeal : Cert.KvReferenceIdeal.Facts) (hMixKernel : Cert.MixKernel.Facts) (hMixKernelIdeal : Cert.MixKernelIdeal.Facts) (hMixReferenceIdeal : Cert.MixReferenceIdeal.Facts) (hMixFwdKernel : Cert.MixFwdKernel.Facts) (hMixFwdKernelIdeal : Cert.MixFwdKernelIdeal.Facts) (hMixFwdReferenceIdeal : Cert.MixFwdReferenceIdeal.Facts) (hInKernel : Cert.InKernel.Facts) (hInKernelIdeal : Cert.InKernelIdeal.Facts) (hInReferenceIdeal : Cert.InReferenceIdeal.Facts) (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hGwKernel : Cert.GwKernel.Facts) (hGwKernelIdeal : Cert.GwKernelIdeal.Facts) (hGwReferenceIdeal : Cert.GwReferenceIdeal.Facts) (hGpoolKernel : Cert.GpoolKernel.Facts) (hGpoolKernelIdeal : Cert.GpoolKernelIdeal.Facts) (hGpoolReferenceIdeal : Cert.GpoolReferenceIdeal.Facts) (hSmallKernel : Cert.SmallKernel.Facts) (hSmallKernelIdeal : Cert.SmallKernelIdeal.Facts) (hSmallReferenceIdeal : Cert.SmallReferenceIdeal.Facts) (hChipsKernel : Cert.ChipsKernel.Facts) (hChipsKernelIdeal : Cert.ChipsKernelIdeal.Facts) (hChipsReferenceIdeal : Cert.ChipsReferenceIdeal.Facts) (hBigKernel : Cert.BigKernel.Facts) (hBigKernelIdeal : Cert.BigKernelIdeal.Facts) (hBigReferenceIdeal : Cert.BigReferenceIdeal.Facts) (hPre_finite_mix : Cert.Pre_finite_mix.Facts) (hPre_finite_fwd : Cert.Pre_finite_fwd.Facts) (hPre_finite_in : Cert.Pre_finite_in.Facts) (hPre_finite_ffn : Cert.Pre_finite_ffn.Facts),
    quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_MixFwdKernel (hMixFwdKernel := hMixFwdKernel)
    ∧ quiescent_MixFwdKernelIdeal (hMixFwdKernelIdeal := hMixFwdKernelIdeal)
    ∧ quiescent_MixFwdKernelIdeal_pre_finite_fwd (hMixFwdKernelIdeal := hMixFwdKernelIdeal) (hPre_finite_fwd := hPre_finite_fwd)
    ∧ quiescent_MixFwdReferenceIdeal (hMixFwdReferenceIdeal := hMixFwdReferenceIdeal)
    ∧ quiescent_MixFwdReferenceIdeal_pre_finite_fwd (hMixFwdReferenceIdeal := hMixFwdReferenceIdeal) (hPre_finite_fwd := hPre_finite_fwd)
    ∧ quiescent_InKernel (hInKernel := hInKernel)
    ∧ quiescent_InKernelIdeal (hInKernelIdeal := hInKernelIdeal)
    ∧ quiescent_InKernelIdeal_pre_finite_in (hInKernelIdeal := hInKernelIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GwKernel (hGwKernel := hGwKernel)
    ∧ quiescent_GwKernelIdeal (hGwKernelIdeal := hGwKernelIdeal)
    ∧ quiescent_GwReferenceIdeal (hGwReferenceIdeal := hGwReferenceIdeal)
    ∧ quiescent_GpoolKernel (hGpoolKernel := hGpoolKernel)
    ∧ quiescent_GpoolKernelIdeal (hGpoolKernelIdeal := hGpoolKernelIdeal)
    ∧ quiescent_GpoolReferenceIdeal (hGpoolReferenceIdeal := hGpoolReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_ChipsKernel (hChipsKernel := hChipsKernel)
    ∧ quiescent_ChipsKernelIdeal (hChipsKernelIdeal := hChipsKernelIdeal)
    ∧ quiescent_ChipsReferenceIdeal (hChipsReferenceIdeal := hChipsReferenceIdeal)
    ∧ quiescent_BigKernel (hBigKernel := hBigKernel)
    ∧ quiescent_BigKernelIdeal (hBigKernelIdeal := hBigKernelIdeal)
    ∧ quiescent_BigReferenceIdeal (hBigReferenceIdeal := hBigReferenceIdeal)
    ∧ preserves_KvKernel_KvKernelIdeal
    ∧ algebraic_KvKernelIdeal_KvReferenceIdeal (hKvKernelIdeal := hKvKernelIdeal) (hKvReferenceIdeal := hKvReferenceIdeal)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
    ∧ preserves_MixFwdKernel_MixFwdKernelIdeal
    ∧ algebraic_MixFwdKernelIdeal_MixFwdReferenceIdeal_pre_finite_fwd (hMixFwdKernelIdeal := hMixFwdKernelIdeal) (hMixFwdReferenceIdeal := hMixFwdReferenceIdeal) (hPre_finite_fwd := hPre_finite_fwd)
    ∧ preserves_InKernel_InKernelIdeal
    ∧ algebraic_InKernelIdeal_InReferenceIdeal_pre_finite_in (hInKernelIdeal := hInKernelIdeal) (hInReferenceIdeal := hInReferenceIdeal) (hPre_finite_in := hPre_finite_in)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_ProjKernel_ProjKernelIdeal
    ∧ algebraic_ProjKernelIdeal_ProjReferenceIdeal (hProjKernelIdeal := hProjKernelIdeal) (hProjReferenceIdeal := hProjReferenceIdeal)
    ∧ preserves_GwKernel_GwKernelIdeal
    ∧ algebraic_GwKernelIdeal_GwReferenceIdeal (hGwKernelIdeal := hGwKernelIdeal) (hGwReferenceIdeal := hGwReferenceIdeal)
    ∧ preserves_GpoolKernel_GpoolKernelIdeal
    ∧ algebraic_GpoolKernelIdeal_GpoolReferenceIdeal (hGpoolKernelIdeal := hGpoolKernelIdeal) (hGpoolReferenceIdeal := hGpoolReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_ChipsKernel_ChipsKernelIdeal
    ∧ algebraic_ChipsKernelIdeal_ChipsReferenceIdeal (hChipsKernelIdeal := hChipsKernelIdeal) (hChipsReferenceIdeal := hChipsReferenceIdeal)
    ∧ preserves_BigKernel_BigKernelIdeal
    ∧ algebraic_BigKernelIdeal_BigReferenceIdeal (hBigKernelIdeal := hBigKernelIdeal) (hBigReferenceIdeal := hBigReferenceIdeal)
-- ==== Pre_finite_ffn.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg5 : FVec F S1x2816x1024 .f32) (main_arg6 : FVec F S1024 .f32) (main_v5 : IVec S_ 1) (main_v11 : IVec S_ 1) (main_v17 : IVec S_ 1) (main_v23 : IVec S_ 1) (main_v29 : IVec S_ 1) (main_v31 : IVec S1x2816x1024 1) : IVec S_ 1 :=
  let main_cst_14 : FVec F S_ .f32 := constant S_ .f32 0x7F800000#32
  let main_v32 : FVec F S1x2816x1024 .f32 := broadcastInDim S1x2816x1024 ![] bcast_S_S1x2816x1024 main_cst_14
  let main_v33 : IVec S1x2816x1024 1 := cmpf .olt main_arg5 main_v32
  let main_v34 : IVec S1x2816x1024 1 := andi main_v31 main_v33
  let main_c_15 : IVec S_ 1 := constantI S_ 1 1#1
  let main_v35 : IVec S_ 1 := (fun x v => Host.reduce IntOp.andi x v reducesTo_S1x2816x1024_S_d0_1_2 h_S_) main_v34 main_c_15
  let main_cst_16 : FVec F S_ .f32 := constant S_ .f32 0xFF800000#32
  let main_v36 : FVec F S1024 .f32 := broadcastInDim S1024 ![] bcast_S_S1024 main_cst_16
  let main_v37 : IVec S1024 1 := cmpf .ogt main_arg6 main_v36
  let main_cst_17 : FVec F S_ .f32 := constant S_ .f32 0x7F800000#32
  let main_v38 : FVec F S1024 .f32 := broadcastInDim S1024 ![] bcast_S_S1024 main_cst_17
  let main_v39 : IVec S1024 1 := cmpf .olt main_arg6 main_v38
  let main_v40 : IVec S1024 1 := andi main_v37 main_v39
  let main_c_18 : IVec S_ 1 := constantI S_ 1 1#1
  let main_v41 : IVec S_ 1 := (fun x v => Host.reduce IntOp.andi x v reducesTo_S1024_S_d0 h_S_) main_v40 main_c_18
  let main_v42 : IVec S_ 1 := andi main_v5 main_v11
  let main_v43 : IVec S_ 1 := andi main_v42 main_v17
  let main_v44 : IVec S_ 1 := andi main_v43 main_v23
  let main_v45 : IVec S_ 1 := andi main_v44 main_v29
  let main_v46 : IVec S_ 1 := andi main_v45 main_v35
  let main_v47 : IVec S_ 1 := andi main_v46 main_v41
  main_v47

def fn_part1 {F : FTy → Type} [FloatOps F] (main_arg3 : FVec F S1x1024x2816 .f32) (main_arg4 : FVec F S1x1024x2816 .f32) (main_arg5 : FVec F S1x2816x1024 .f32) (main_arg6 : FVec F S1024 .f32) (main_v5 : IVec S_ 1) (main_v11 : IVec S_ 1) (main_v13 : IVec S1x1024 1) (main_v15 : IVec S1x1024 1) : IVec S_ 1 :=
  let main_v16 : IVec S1x1024 1 := andi main_v13 main_v15
  let main_c_6 : IVec S_ 1 := constantI S_ 1 1#1
  let main_v17 : IVec S_ 1 := (fun x v => Host.reduce IntOp.andi x v reducesTo_S1x1024_S_d0_1 h_S_) main_v16 main_c_6
  let main_cst_7 : FVec F S_ .f32 := constant S_ .f32 0xFF800000#32
  let main_v18 : FVec F S1x1024x2816 .f32 := broadcastInDim S1x1024x2816 ![] bcast_S_S1x1024x2816 main_cst_7
  let main_v19 : IVec S1x1024x2816 1 := cmpf .ogt main_arg3 main_v18
  let main_cst_8 : FVec F S_ .f32 := constant S_ .f32 0x7F800000#32
  let main_v20 : FVec F S1x1024x2816 .f32 := broadcastInDim S1x1024x2816 ![] bcast_S_S1x1024x2816 main_cst_8
  let main_v21 : IVec S1x1024x2816 1 := cmpf .olt main_arg3 main_v20
  let main_v22 : IVec S1x1024x2816 1 := andi main_v19 main_v21
  let main_c_9 : IVec S_ 1 := constantI S_ 1 1#1
  let main_v23 : IVec S_ 1 := (fun x v => Host.reduce IntOp.andi x v reducesTo_S1x1024x2816_S_d0_1_2 h_S_) main_v22 main_c_9
  let main_cst_10 : FVec F S_ .f32 := constant S_ .f32 0xFF800000#32
  let main_v24 : FVec F S1x1024x2816 .f32 := broadcastInDim S1x1024x2816 ![] bcast_S_S1x1024x2816 main_cst_10
  let main_v25 : IVec S1x1024x2816 1 := cmpf .ogt main_arg4 main_v24
  let main_cst_11 : FVec F S_ .f32 := constant S_ .f32 0x7F800000#32
  let main_v26 : FVec F S1x1024x2816 .f32 := broadcastInDim S1x1024x2816 ![] bcast_S_S1x1024x2816 main_cst_11
  let main_v27 : IVec S1x1024x2816 1 := cmpf .olt main_arg4 main_v26
  let main_v28 : IVec S1x1024x2816 1 := andi main_v25 main_v27
  let main_c_12 : IVec S_ 1 := constantI S_ 1 1#1
  let main_v29 : IVec S_ 1 := (fun x v => Host.reduce IntOp.andi x v reducesTo_S1x1024x2816_S_d0_1_2 h_S_) main_v28 main_c_12
  let main_cst_13 : FVec F S_ .f32 := constant S_ .f32 0xFF800000#32
  let main_v30 : FVec F S1x2816x1024 .f32 := broadcastInDim S1x2816x1024 ![] bcast_S_S1x2816x1024 main_cst_13
  let main_v31 : IVec S1x2816x1024 1 := cmpf .ogt main_arg5 main_v30
  fn_part2 (F := F) main_arg5 main_arg6 main_v5 main_v11 main_v17 main_v23 main_v29 main_v31

def fn {F : FTy → Type} [FloatOps F] (main_arg0 : FVec F S4096x1024 .f32) (main_arg1 : FVec F S4096x1024 .f32) (main_arg2 : FVec F S1x1024 .f32) (main_arg3 : FVec F S1x1024x2816 .f32) (main_arg4 : FVec F S1x1024x2816 .f32) (main_arg5 : FVec F S1x2816x1024 .f32) (main_arg6 : FVec F S1024 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S4096x1024 .f32 := broadcastInDim S4096x1024 ![] bcast_S_S4096x1024 main_cst_1
  let main_v7 : IVec S4096x1024 1 := cmpf .ogt main_arg1 main_v6
  let main_cst_2 : FVec F S_ .f32 := constant S_ .f32 0x7F800000#32
  let main_v8 : FVec F S4096x1024 .f32 := broadcastInDim S4096x1024 ![] bcast_S_S4096x1024 main_cst_2
  let main_v9 : IVec S4096x1024 1 := cmpf .olt main_arg1 main_v8
  let main_v10 : IVec S4096x1024 1 := andi main_v7 main_v9
  let main_c_3 : IVec S_ 1 := constantI S_ 1 1#1
  let main_v11 : IVec S_ 1 := (fun x v => Host.reduce IntOp.andi x v reducesTo_S4096x1024_S_d0_1 h_S_) main_v10 main_c_3
  let main_cst_4 : FVec F S_ .f32 := constant S_ .f32 0xFF800000#32
  let main_v12 : FVec F S1x1024 .f32 := broadcastInDim S1x1024 ![] bcast_S_S1x1024 main_cst_4
  let main_v13 : IVec S1x1024 1 := cmpf .ogt main_arg2 main_v12
  let main_cst_5 : FVec F S_ .f32 := constant S_ .f32 0x7F800000#32
  let main_v14 : FVec F S1x1024 .f32 := broadcastInDim S1x1024 ![] bcast_S_S1x1024 main_cst_5
  let main_v15 : IVec S1x1024 1 := cmpf .olt main_arg2 main_v14
  fn_part1 (F := F) main_arg3 main_arg4 main_arg5 main_arg6 main_v5 main_v11 main_v13 main_v15
-- ==== Pre_finite_fwd.lean ====
abbrev S4096x8192 : Shape := ⟨2, ![4096, 8192]⟩
abbrev S4096x1024 : Shape := ⟨2, ![4096, 1024]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024 : Shape := ⟨2, ![1, 1024]⟩
abbrev S256x1024 : Shape := ⟨2, ![256, 1024]⟩
abbrev S_ : Shape := ⟨0, ![]⟩

class Facts : Prop where
  slices_S4096x8192_S4096x1024_0_3072 : S4096x8192.Slices ![0, 3072] S4096x1024
  slices_S4096x8192_S4096x1024_0_4096 : S4096x8192.Slices ![0, 4096] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg6 : FVec F S256x1024 .f32) (main_v7 : IVec S_ 1) (main_v13 : IVec S_ 1) (main_v15 : IVec S256x1024 1) (main_cst_5 : FVec F S_ .f32) : IVec S_ 1 :=
  let main_v16 : FVec F S256x1024 .f32 := broadcastInDim S256x1024 ![] bcast_S_S256x1024 main_cst_5
  let main_v17 : IVec S256x1024 1 := cmpf .olt main_arg6 main_v16
  let main_v18 : IVec S256x1024 1 := andi main_v15 main_v17
  let main_c_6 : IVec S_ 1 := constantI S_ 1 1#1
  let main_v19 : IVec S_ 1 := (fun x v => Host.reduce IntOp.andi x v reducesTo_S256x1024_S_d0_1 h_S_) main_v18 main_c_6
  let main_v20 : IVec S_ 1 := andi main_v7 main_v13
  let main_v21 : IVec S_ 1 := andi main_v20 main_v19
  main_v21

def fn {F : FTy → Type} [FloatOps F] (main_arg0 : FVec F S4096x8192 .f32) (main_arg1 : FVec F S4096x1024 .f32) (main_arg2 : FVec F S1x3x1024 .f32) (main_arg3 : FVec F S1x1024x1024 .f32) (main_arg4 : FVec F S1x4x256x256 .f32) (main_arg5 : FVec F S1x1024 .f32) (main_arg6 : FVec F S256x1024 .f32) (main_arg7 : FVec F S256x1024 .f32) (main_arg8 : FVec F S1x1024x1024 .f32) (main_arg9 : FVec F S1x1024x1024 .f32) : IVec S_ 1 :=
  let main_v0 : FVec F S4096x1024 .f32 := (extractStridedSlice S4096x1024 ![0, 3072] · slices_S4096x8192_S4096x1024_0_3072) main_arg0
  let main_v1 : FVec F S4096x1024 .f32 := (extractStridedSlice S4096x1024 ![0, 4096] · slices_S4096x8192_S4096x1024_0_4096) main_arg0
  let main_cst : FVec F S_ .f32 := constant S_ .f32 0xFF800000#32
  let main_v2 : FVec F S4096x1024 .f32 := broadcastInDim S4096x1024 ![] bcast_S_S4096x1024 main_cst
  let main_v3 : IVec S4096x1024 1 := cmpf .ogt main_v0 main_v2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v0 main_v4
  let main_v6 : IVec S4096x1024 1 := andi main_v3 main_v5
  let main_c : IVec S_ 1 := constantI S_ 1 1#1
  let main_v7 : IVec S_ 1 := (fun x v => Host.reduce IntOp.andi x v reducesTo_S4096x1024_S_d0_1 h_S_) main_v6 main_c
  let main_cst_1 : FVec F S_ .f32 := constant S_ .f32 0xFF800000#32
  let main_v8 : FVec F S4096x1024 .f32 := broadcastInDim S4096x1024 ![] bcast_S_S4096x1024 main_cst_1
  let main_v9 : IVec S4096x1024 1 := cmpf .ogt main_v1 main_v8
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v1 main_v10
  let main_v12 : IVec S4096x1024 1 := andi main_v9 main_v11
  let main_c_3 : IVec S_ 1 := constantI S_ 1 1#1
  let main_v13 : IVec S_ 1 := (fun x v => Host.reduce IntOp.andi x v reducesTo_S4096x1024_S_d0_1 h_S_) main_v12 main_c_3
  let main_cst_4 : FVec F S_ .f32 := constant S_ .f32 0xFF800000#32
  let main_v14 : FVec F S256x1024 .f32 := broadcastInDim S256x1024 ![] bcast_S_S256x1024 main_cst_4
  let main_v15 : IVec S256x1024 1 := cmpf .ogt main_arg6 main_v14
  let main_cst_5 : FVec F S_ .f32 := constant S_ .f32 0x7F800000#32
  fn_part1 (F := F) main_arg6 main_v7 main_v13 main_v15 main_cst_5
-- ==== Pre_finite_in.lean ====
abbrev S4096x8192 : Shape := ⟨2, ![4096, 8192]⟩
abbrev S4096x1024 : Shape := ⟨2, ![4096, 1024]⟩
abbrev S1x1024 : Shape := ⟨2, ![1, 1024]⟩
abbrev S1x1024x8192 : Shape := ⟨3, ![1, 1024, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x8192 : S_.BroadcastsInDim S1x1024x8192 (![] : Fin 0 → Fin S1x1024x8192.rank)
  reducesTo_S1x1024x8192_S_d0_1_2 : S1x1024x8192.ReducesTo [0, 1, 2] S_

variable [Facts]

def fn_part1 {F : FTy → Type} [FloatOps F] (main_arg4 : FVec F S1x1024x8192 .f32) (main_v5 : IVec S_ 1) (main_v11 : IVec S_ 1) (main_v13 : IVec S1x1024 1) (main_v15 : IVec S1x1024 1) : IVec S_ 1 :=
  let main_v16 : IVec S1x1024 1 := andi main_v13 main_v15
  let main_c_6 : IVec S_ 1 := constantI S_ 1 1#1
  let main_v17 : IVec S_ 1 := (fun x v => Host.reduce IntOp.andi x v reducesTo_S1x1024_S_d0_1 h_S_) main_v16 main_c_6
  let main_cst_7 : FVec F S_ .f32 := constant S_ .f32 0xFF800000#32
  let main_v18 : FVec F S1x1024x8192 .f32 := broadcastInDim S1x1024x8192 ![] bcast_S_S1x1024x8192 main_cst_7
  let main_v19 : IVec S1x1024x8192 1 := cmpf .ogt main_arg4 main_v18
  let main_cst_8 : FVec F S_ .f32 := constant S_ .f32 0x7F800000#32
  let main_v20 : FVec F S1x1024x8192 .f32 := broadcastInDim S1x1024x8192 ![] bcast_S_S1x1024x8192 main_cst_8
  let main_v21 : IVec S1x1024x8192 1 := cmpf .olt main_arg4 main_v20
  let main_v22 : IVec S1x1024x8192 1 := andi main_v19 main_v21
  let main_c_9 : IVec S_ 1 := constantI S_ 1 1#1
  let main_v23 : IVec S_ 1 := (fun x v => Host.reduce IntOp.andi x v reducesTo_S1x1024x8192_S_d0_1_2 h_S_) main_v22 main_c_9
  let main_v24 : IVec S_ 1 := andi main_v5 main_v11
  let main_v25 : IVec S_ 1 := andi main_v24 main_v17
  let main_v26 : IVec S_ 1 := andi main_v25 main_v23
  main_v26

def fn {F : FTy → Type} [FloatOps F] (main_arg0 : FVec F S4096x8192 .f32) (main_arg1 : FVec F S4096x1024 .f32) (main_arg2 : FVec F S4096x1024 .f32) (main_arg3 : FVec F S1x1024 .f32) (main_arg4 : FVec F S1x1024x8192 .f32) : IVec S_ 1 :=
  let main_cst : FVec F S_ .f32 := constant S_ .f32 0xFF800000#32
  let main_v0 : FVec F S4096x8192 .f32 := broadcastInDim S4096x8192 ![] bcast_S_S4096x8192 main_cst
  let main_v1 : IVec S4096x8192 1 := cmpf .ogt main_arg0 main_v0
  let main_cst_0 : FVec F S_ .f32 := constant S_ .f32 0x7F800000#32
  let main_v2 : FVec F S4096x8192 .f32 := broadcastInDim S4096x8192 ![] bcast_S_S4096x8192 main_cst_0
  let main_v3 : IVec S4096x8192 1 := cmpf .olt main_arg0 main_v2
  let main_v4 : IVec S4096x8192 1 := andi main_v1 main_v3
  let main_c : IVec S_ 1 := constantI S_ 1 1#1
  let main_v5 : IVec S_ 1 := (fun x v => Host.reduce IntOp.andi x v reducesTo_S4096x8192_S_d0_1 h_S_) main_v4 main_c
  let main_cst_1 : FVec F S_ .f32 := constant S_ .f32 0xFF800000#32
  let main_v6 : FVec F S4096x1024 .f32 := broadcastInDim S4096x1024 ![] bcast_S_S4096x1024 main_cst_1
  let main_v7 : IVec S4096x1024 1 := cmpf .ogt main_arg2 main_v6
  let main_cst_2 : FVec F S_ .f32 := constant S_ .f32 0x7F800000#32
  let main_v8 : FVec F S4096x1024 .f32 := broadcastInDim S4096x1024 ![] bcast_S_S4096x1024 main_cst_2
  let main_v9 : IVec S4096x1024 1 := cmpf .olt main_arg2 main_v8
  let main_v10 : IVec S4096x1024 1 := andi main_v7 main_v9
  let main_c_3 : IVec S_ 1 := constantI S_ 1 1#1
  let main_v11 : IVec S_ 1 := (fun x v => Host.reduce IntOp.andi x v reducesTo_S4096x1024_S_d0_1 h_S_) main_v10 main_c_3
  let main_cst_4 : FVec F S_ .f32 := constant S_ .f32 0xFF800000#32
  let main_v12 : FVec F S1x1024 .f32 := broadcastInDim S1x1024 ![] bcast_S_S1x1024 main_cst_4
  let main_v13 : IVec S1x1024 1 := cmpf .ogt main_arg3 main_v12
  let main_cst_5 : FVec F S_ .f32 := constant S_ .f32 0x7F800000#32
  let main_v14 : FVec F S1x1024 .f32 := broadcastInDim S1x1024 ![] bcast_S_S1x1024 main_cst_5
  let main_v15 : IVec S1x1024 1 := cmpf .olt main_arg3 main_v14
  fn_part1 (F := F) main_arg4 main_v5 main_v11 main_v13 main_v15
-- ==== Pre_finite_mix.lean ====
abbrev S4096x1024 : Shape := ⟨2, ![4096, 1024]⟩
abbrev S4096x8192 : Shape := ⟨2, ![4096, 8192]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024 : Shape := ⟨2, ![1, 1024]⟩
abbrev S256x1024 : Shape := ⟨2, ![256, 1024]⟩
abbrev S_ : Shape := ⟨0, ![]⟩

class Facts : Prop where
  slices_S4096x8192_S4096x1024_0_4096 : S4096x8192.Slices ![0, 4096] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part3 {F : FTy → Type} [FloatOps F] (main_v6 : IVec S_ 1) (main_v12 : IVec S_ 1) (main_v18 : IVec S_ 1) (main_v24 : IVec S_ 1) (main_v30 : IVec S_ 1) (main_v36 : IVec S_ 1) (main_v42 : IVec S_ 1) (main_v47 : IVec S1x1024x1024 1) (main_c_21 : IVec S_ 1) : IVec S_ 1 :=
  let main_v48 : IVec S_ 1 := (fun x v => Host.reduce IntOp.andi x v reducesTo_S1x1024x1024_S_d0_1_2 h_S_) main_v47 main_c_21
  let main_v49 : IVec S_ 1 := andi main_v6 main_v12
  let main_v50 : IVec S_ 1 := andi main_v49 main_v18
  let main_v51 : IVec S_ 1 := andi main_v50 main_v24
  let main_v52 : IVec S_ 1 := andi main_v51 main_v30
  let main_v53 : IVec S_ 1 := andi main_v52 main_v36
  let main_v54 : IVec S_ 1 := andi main_v53 main_v42
  let main_v55 : IVec S_ 1 := andi main_v54 main_v48
  main_v55

def fn_part2 {F : FTy → Type} [FloatOps F] (main_arg7 : FVec F S256x1024 .f32) (main_arg8 : FVec F S1x1024x1024 .f32) (main_arg9 : FVec F S1x1024x1024 .f32) (main_v6 : IVec S_ 1) (main_v12 : IVec S_ 1) (main_v18 : IVec S_ 1) (main_v24 : IVec S_ 1) (main_v30 : IVec S_ 1) (main_v31 : FVec F S256x1024 .f32) : IVec S_ 1 :=
  let main_v32 : IVec S256x1024 1 := cmpf .ogt main_arg7 main_v31
  let main_cst_14 : FVec F S_ .f32 := constant S_ .f32 0x7F800000#32
  let main_v33 : FVec F S256x1024 .f32 := broadcastInDim S256x1024 ![] bcast_S_S256x1024 main_cst_14
  let main_v34 : IVec S256x1024 1 := cmpf .olt main_arg7 main_v33
  let main_v35 : IVec S256x1024 1 := andi main_v32 main_v34
  let main_c_15 : IVec S_ 1 := constantI S_ 1 1#1
  let main_v36 : IVec S_ 1 := (fun x v => Host.reduce IntOp.andi x v reducesTo_S256x1024_S_d0_1 h_S_) main_v35 main_c_15
  let main_cst_16 : FVec F S_ .f32 := constant S_ .f32 0xFF800000#32
  let main_v37 : FVec F S1x1024x1024 .f32 := broadcastInDim S1x1024x1024 ![] bcast_S_S1x1024x1024 main_cst_16
  let main_v38 : IVec S1x1024x1024 1 := cmpf .ogt main_arg8 main_v37
  let main_cst_17 : FVec F S_ .f32 := constant S_ .f32 0x7F800000#32
  let main_v39 : FVec F S1x1024x1024 .f32 := broadcastInDim S1x1024x1024 ![] bcast_S_S1x1024x1024 main_cst_17
  let main_v40 : IVec S1x1024x1024 1 := cmpf .olt main_arg8 main_v39
  let main_v41 : IVec S1x1024x1024 1 := andi main_v38 main_v40
  let main_c_18 : IVec S_ 1 := constantI S_ 1 1#1
  let main_v42 : IVec S_ 1 := (fun x v => Host.reduce IntOp.andi x v reducesTo_S1x1024x1024_S_d0_1_2 h_S_) main_v41 main_c_18
  let main_cst_19 : FVec F S_ .f32 := constant S_ .f32 0xFF800000#32
  let main_v43 : FVec F S1x1024x1024 .f32 := broadcastInDim S1x1024x1024 ![] bcast_S_S1x1024x1024 main_cst_19
  let main_v44 : IVec S1x1024x1024 1 := cmpf .ogt main_arg9 main_v43
  let main_cst_20 : FVec F S_ .f32 := constant S_ .f32 0x7F800000#32
  let main_v45 : FVec F S1x1024x1024 .f32 := broadcastInDim S1x1024x1024 ![] bcast_S_S1x1024x1024 main_cst_20
  let main_v46 : IVec S1x1024x1024 1 := cmpf .olt main_arg9 main_v45
  let main_v47 : IVec S1x1024x1024 1 := andi main_v44 main_v46
  let main_c_21 : IVec S_ 1 := constantI S_ 1 1#1
  fn_part3 (F := F) main_v6 main_v12 main_v18 main_v24 main_v30 main_v36 main_v42 main_v47 main_c_21

def fn_part1 {F : FTy → Type} [FloatOps F] (main_arg4 : FVec F S1x4x256x256 .f32) (main_arg5 : FVec F S1x1024 .f32) (main_arg6 : FVec F S256x1024 .f32) (main_arg7 : FVec F S256x1024 .f32) (main_arg8 : FVec F S1x1024x1024 .f32) (main_arg9 : FVec F S1x1024x1024 .f32) (main_v6 : IVec S_ 1) (main_v12 : IVec S_ 1) (main_v14 : IVec S1x4x256x256 1) (main_v15 : FVec F S1x4x256x256 .f32) : IVec S_ 1 :=
  let main_v16 : IVec S1x4x256x256 1 := cmpf .olt main_arg4 main_v15
  let main_v17 : IVec S1x4x256x256 1 := andi main_v14 main_v16
  let main_c_6 : IVec S_ 1 := constantI S_ 1 1#1
  let main_v18 : IVec S_ 1 := (fun x v => Host.reduce IntOp.andi x v reducesTo_S1x4x256x256_S_d0_1_2_3 h_S_) main_v17 main_c_6
  let main_cst_7 : FVec F S_ .f32 := constant S_ .f32 0xFF800000#32
  let main_v19 : FVec F S1x1024 .f32 := broadcastInDim S1x1024 ![] bcast_S_S1x1024 main_cst_7
  let main_v20 : IVec S1x1024 1 := cmpf .ogt main_arg5 main_v19
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_arg5 main_v21
  let main_v23 : IVec S1x1024 1 := andi main_v20 main_v22
  let main_c_9 : IVec S_ 1 := constantI S_ 1 1#1
  let main_v24 : IVec S_ 1 := (fun x v => Host.reduce IntOp.andi x v reducesTo_S1x1024_S_d0_1 h_S_) main_v23 main_c_9
  let main_cst_10 : FVec F S_ .f32 := constant S_ .f32 0xFF800000#32
  let main_v25 : FVec F S256x1024 .f32 := broadcastInDim S256x1024 ![] bcast_S_S256x1024 main_cst_10
  let main_v26 : IVec S256x1024 1 := cmpf .ogt main_arg6 main_v25
  let main_cst_11 : FVec F S_ .f32 := constant S_ .f32 0x7F800000#32
  let main_v27 : FVec F S256x1024 .f32 := broadcastInDim S256x1024 ![] bcast_S_S256x1024 main_cst_11
  let main_v28 : IVec S256x1024 1 := cmpf .olt main_arg6 main_v27
  let main_v29 : IVec S256x1024 1 := andi main_v26 main_v28
  let main_c_12 : IVec S_ 1 := constantI S_ 1 1#1
  let main_v30 : IVec S_ 1 := (fun x v => Host.reduce IntOp.andi x v reducesTo_S256x1024_S_d0_1 h_S_) main_v29 main_c_12
  let main_cst_13 : FVec F S_ .f32 := constant S_ .f32 0xFF800000#32
  let main_v31 : FVec F S256x1024 .f32 := broadcastInDim S256x1024 ![] bcast_S_S256x1024 main_cst_13
  fn_part2 (F := F) main_arg7 main_arg8 main_arg9 main_v6 main_v12 main_v18 main_v24 main_v30 main_v31

def fn {F : FTy → Type} [FloatOps F] (main_arg0 : FVec F S4096x1024 .f32) (main_arg1 : FVec F S4096x8192 .f32) (main_arg2 : FVec F S1x3x1024 .f32) (main_arg3 : FVec F S1x1024x1024 .f32) (main_arg4 : FVec F S1x4x256x256 .f32) (main_arg5 : FVec F S1x1024 .f32) (main_arg6 : FVec F S256x1024 .f32) (main_arg7 : FVec F S256x1024 .f32) (main_arg8 : FVec F S1x1024x1024 .f32) (main_arg9 : FVec F S1x1024x1024 .f32) : IVec S_ 1 :=
  let main_v0 : FVec F S4096x1024 .f32 := (extractStridedSlice S4096x1024 ![0, 4096] · slices_S4096x8192_S4096x1024_0_4096) main_arg1
  let main_cst : FVec F S_ .f32 := constant S_ .f32 0xFF800000#32
  let main_v1 : FVec F S4096x1024 .f32 := broadcastInDim S4096x1024 ![] bcast_S_S4096x1024 main_cst
  let main_v2 : IVec S4096x1024 1 := cmpf .ogt main_arg0 main_v1
  let main_cst_0 : FVec F S_ .f32 := constant S_ .f32 0x7F800000#32
  let main_v3 : FVec F S4096x1024 .f32 := broadcastInDim S4096x1024 ![] bcast_S_S4096x1024 main_cst_0
  let main_v4 : IVec S4096x1024 1 := cmpf .olt main_arg0 main_v3
  let main_v5 : IVec S4096x1024 1 := andi main_v2 main_v4
  let main_c : IVec S_ 1 := constantI S_ 1 1#1
  let main_v6 : IVec S_ 1 := (fun x v => Host.reduce IntOp.andi x v reducesTo_S4096x1024_S_d0_1 h_S_) main_v5 main_c
  let main_cst_1 : FVec F S_ .f32 := constant S_ .f32 0xFF800000#32
  let main_v7 : FVec F S4096x1024 .f32 := broadcastInDim S4096x1024 ![] bcast_S_S4096x1024 main_cst_1
  let main_v8 : IVec S4096x1024 1 := cmpf .ogt main_v0 main_v7
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v0 main_v9
  let main_v11 : IVec S4096x1024 1 := andi main_v8 main_v10
  let main_c_3 : IVec S_ 1 := constantI S_ 1 1#1
  let main_v12 : IVec S_ 1 := (fun x v => Host.reduce IntOp.andi x v reducesTo_S4096x1024_S_d0_1 h_S_) main_v11 main_c_3
  let main_cst_4 : FVec F S_ .f32 := constant S_ .f32 0xFF800000#32
  let main_v13 : FVec F S1x4x256x256 .f32 := broadcastInDim S1x4x256x256 ![] bcast_S_S1x4x256x256 main_cst_4
  let main_v14 : IVec S1x4x256x256 1 := cmpf .ogt main_arg4 main_v13
  let main_cst_5 : FVec F S_ .f32 := constant S_ .f32 0x7F800000#32
  let main_v15 : FVec F S1x4x256x256 .f32 := broadcastInDim S1x4x256x256 ![] bcast_S_S1x4x256x256 main_cst_5
  fn_part1 (F := F) main_arg4 main_arg5 main_arg6 main_arg7 main_arg8 main_arg9 main_v6 main_v12 main_v14 main_v15
-- ==== KvKernel.lean ====
abbrev S256x2048 : Shape := ⟨2, ![256, 2048]⟩
abbrev S256x1024 : Shape := ⟨2, ![256, 1024]⟩
abbrev S1x1024 : Shape := ⟨2, ![1, 1024]⟩
abbrev S1x1024x2048 : Shape := ⟨3, ![1, 1024, 2048]⟩
abbrev S1024x4x512 : Shape := ⟨3, ![1024, 4, 512]⟩
abbrev S4x1024x512 : Shape := ⟨3, ![4, 1024, 512]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S8x1024 : Shape := ⟨2, ![8, 1024]⟩
abbrev S1024 : Shape := ⟨1, ![1024]⟩

abbrev nBuf : Space → Nat
  | .hbm => 15
  | .vmem => 15
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1x1024, .f32⟩
  | .hbm, ⟨3, _⟩ => ⟨S1x1024x2048, .f32⟩
  | .hbm, ⟨4, _⟩ => ⟨S1x1024x2048, .bf16⟩
  | .hbm, ⟨5, _⟩ => ⟨S1024x4x512, .bf16⟩
  | .hbm, ⟨6, _⟩ => ⟨S4x1024x512, .bf16⟩
  | .hbm, ⟨7, _⟩ => ⟨S256x1024, .bf16⟩
  | .hbm, ⟨8, _⟩ => ⟨S256x1024, .bf16⟩
  | .hbm, ⟨9, _⟩ => ⟨S256x1024, .bf16⟩
  | .hbm, ⟨10, _⟩ => ⟨S256x1024, .f32⟩
  | .hbm, ⟨11, _⟩ => ⟨S256x1024, .f32⟩
  | .hbm, ⟨12, _⟩ => ⟨S4x1024x512, .f32⟩
  | .hbm, ⟨13, _⟩ => ⟨S4x1024x512, .bf16⟩
  | .hbm, ⟨14, _⟩ => ⟨S8x1024, .f32⟩
  | .local _ .vmem, ⟨0, _⟩ => ⟨S256x1024, .f32⟩
  | .local _ .vmem, ⟨1, _⟩ => ⟨S1x1024, .f32⟩
  | .local _ .vmem, ⟨2, _⟩ => ⟨S4x1024x512, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | .local _ .vmem, ⟨10, _⟩ => ⟨S1x1024, .f32⟩
  | .local _ .vmem, ⟨11, _⟩ => ⟨S4x1024x512, .bf16⟩
  | .local _ .vmem, ⟨12, _⟩ => ⟨S4x1024x512, .f32⟩
  | .local _ .vmem, ⟨13, _⟩ => ⟨S4x1024x512, .bf16⟩
  | .local _ .vmem, ⟨14, _⟩ => ⟨S8x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4x1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x1024x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x1024x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== KvReferenceIdeal.lean ====
abbrev S256x2048 : Shape := ⟨2, ![256, 2048]⟩
abbrev S256x1024 : Shape := ⟨2, ![256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩
abbrev S7x1024 : Shape := ⟨2, ![7, 1024]⟩
abbrev S8x1024 : Shape := ⟨2, ![8, 1024]⟩

abbrev nBuf : Space → Nat
  | .hbm => 46
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1x1024, .f32⟩
  | .hbm, ⟨3, _⟩ => ⟨S1x1024x2048, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S1024x2048, .f32⟩
  | .hbm, ⟨22, _⟩ => ⟨S256x2048, .f32⟩
  | .hbm, ⟨23, _⟩ => ⟨S256x1024, .f32⟩
  | .hbm, ⟨24, _⟩ => ⟨S256x1024, .f32⟩
  | .hbm, ⟨25, _⟩ => ⟨S2048x1024, .f32⟩
  | .hbm, ⟨26, _⟩ => ⟨S1024x2048, .f32⟩
  | .hbm, ⟨27, _⟩ => ⟨S256x1024, .f32⟩
  | .hbm, ⟨28, _⟩ => ⟨S1x1024x2048, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S1024x2048, .f32⟩
  | .hbm, ⟨37, _⟩ => ⟨S1024x4x512, .f32⟩
  | .hbm, ⟨38, _⟩ => ⟨S4x1024x512, .f32⟩
  | .hbm, ⟨39, _⟩ => ⟨S_, .f32⟩
  | .hbm, ⟨40, _⟩ => ⟨S7x1024, .f32⟩
  | .hbm, ⟨41, _⟩ => ⟨S8x1024, .f32⟩
  | .hbm, ⟨42, _⟩ => ⟨S256x1024, .bf16⟩
  | .hbm, ⟨43, _⟩ => ⟨S256x1024, .bf16⟩
  | .hbm, ⟨44, _⟩ => ⟨S256x1024, .bf16⟩
  | .hbm, ⟨45, _⟩ => ⟨S4x1024x512, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== MixKernel.lean ====
abbrev S4096x1024 : Shape := ⟨2, ![4096, 1024]⟩
abbrev S4096x8192 : Shape := ⟨2, ![4096, 8192]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024 : Shape := ⟨2, ![1, 1024]⟩
abbrev S256x1024 : Shape := ⟨2, ![256, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x256 : Shape := ⟨3, ![4, 256, 256]⟩
abbrev S4x256x4096 : Shape := ⟨3, ![4, 256, 4096]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S1024x1024 : Shape := ⟨2, ![1024, 1024]⟩
abbrev S5x1024 : Shape := ⟨2, ![5, 1024]⟩
abbrev S8x1024 : Shape := ⟨2, ![8, 1024]⟩
abbrev S256x384 : Shape := ⟨2, ![256, 384]⟩
abbrev S1x256x384 : Shape := ⟨3, ![1, 256, 384]⟩
abbrev S4x256x384 : Shape := ⟨3, ![4, 256, 384]⟩
abbrev S256x8192 : Shape := ⟨2, ![256, 8192]⟩
abbrev S16x8192 : Shape := ⟨2, ![16, 8192]⟩
abbrev S272x1024 : Shape := ⟨2, ![272, 1024]⟩
abbrev S384x1024 : Shape := ⟨2, ![384, 1024]⟩
abbrev S16x1024 : Shape := ⟨2, ![16, 1024]⟩
abbrev S128x1024 : Shape := ⟨2, ![128, 1024]⟩
abbrev S256x256 : Shape := ⟨2, ![256, 256]⟩
abbrev S1x256x256 : Shape := ⟨3, ![1, 256, 256]⟩
abbrev S256x1 : Shape := ⟨2, ![256, 1]⟩
abbrev S384x256 : Shape := ⟨2, ![384, 256]⟩
abbrev S256 : Shape := ⟨1, ![256]⟩

abbrev nBuf : Space → Nat
  | .hbm => 223
  | .vmem => 37
  | .smem => 0
  | _ => 0

abbrev hbmTy0_0 (i : Nat) : BufTy := match i % 128 with
  | 0 => ⟨S4096x1024, .f32⟩
  | 1 => ⟨S4096x8192, .f32⟩
  | 2 => ⟨S1x3x1024, .f32⟩
  | 3 => ⟨S1x1024x1024, .f32⟩
  | 4 => ⟨S1x4x256x256, .f32⟩
  | 5 => ⟨S1x1024, .f32⟩
  | 6 => ⟨S256x1024, .f32⟩
  | 7 => ⟨S256x1024, .f32⟩
  | 8 => ⟨S1x1024x1024, .f32⟩
  | 9 => ⟨S1x1024x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S3x1024, .f32⟩
  | 17 => ⟨S_, .f32⟩
  | 18 => ⟨S2x1024, .f32⟩
  | 19 => ⟨S4098x1024, .f32⟩
  | 20 => ⟨S1x1024, .f32⟩
  | 21 => ⟨S1024, .f32⟩
  | 22 => ⟨S4096x1024, .f32⟩
  | 23 => ⟨S1x1024, .f32⟩
  | 24 => ⟨S4096x1024, .f32⟩
  | 25 => ⟨S4096x1024, .f32⟩
  | 26 => ⟨S1x1024, .f32⟩
  | 27 => ⟨S1024, .f32⟩
  | 28 => ⟨S4096x1024, .f32⟩
  | 29 => ⟨S1x1024, .f32⟩
  | 30 => ⟨S4096x1024, .f32⟩
  | 31 => ⟨S4096x1024, .f32⟩
  | 32 => ⟨S4096x1024, .f32⟩
  | 33 => ⟨S1x1024, .f32⟩
  | 34 => ⟨S1024, .f32⟩
  | 35 => ⟨S4096x1024, .f32⟩
  | 36 => ⟨S1x1024, .f32⟩
  | 37 => ⟨S4096x1024, .f32⟩
  | 38 => ⟨S4096x1024, .f32⟩
  | 39 => ⟨S4096x1024, .f32⟩
  | 40 => ⟨S4096x1024, .f32⟩
  | 41 => ⟨S4096x4x256, .f32⟩
  | 42 => ⟨S_, .f32⟩
  | 43 => ⟨S_, .f32⟩
  | 44 => ⟨S4096x4x256, .f32⟩
  | 45 => ⟨S4096, .i32⟩
  | 46 => ⟨S_, .i32⟩
  | 47 => ⟨S4096, .i32⟩
  | 48 => ⟨S4096, .i32⟩
  | 49 => ⟨S4096x1x256, .f32⟩
  | 50 => ⟨S4096x256, .f32⟩
  | 51 => ⟨S_, .f32⟩
  | 52 => ⟨S2x256, .f32⟩
  | 53 => ⟨S4094x256, .f32⟩
  | 54 => ⟨S4096x256, .f32⟩
  | 55 => ⟨S_, .i32⟩
  | 56 => ⟨S4096, .i32⟩
  | 57 => ⟨S4096, .i32⟩
  | 58 => ⟨S4096, .f32⟩
  | 59 => ⟨S4096x1, .f32⟩
  | 60 => ⟨S4096x256, .f32⟩
  | 61 => ⟨S4096x256, .f32⟩
  | 62 => ⟨S4096x256, .f32⟩
  | 63 => ⟨S4096x1x256, .f32⟩
  | 64 => ⟨S4096x256, .f32⟩
  | 65 => ⟨S4096x256, .f32⟩
  | 66 => ⟨S4096x1x256, .f32⟩
  | 67 => ⟨S4096x256, .f32⟩
  | 68 => ⟨S_, .f32⟩
  | 69 => ⟨S4x256, .f32⟩
  | 70 => ⟨S4092x256, .f32⟩
  | 71 => ⟨S4096x256, .f32⟩
  | 72 => ⟨S_, .i32⟩
  | 73 => ⟨S4096, .i32⟩
  | 74 => ⟨S4096, .i32⟩
  | 75 => ⟨S4096, .f32⟩
  | 76 => ⟨S4096x1, .f32⟩
  | 77 => ⟨S4096x256, .f32⟩
  | 78 => ⟨S4096x256, .f32⟩
  | 79 => ⟨S4096x256, .f32⟩
  | 80 => ⟨S4096x1x256, .f32⟩
  | 81 => ⟨S4096x256, .f32⟩
  | 82 => ⟨S4096x256, .f32⟩
  | 83 => ⟨S4096x1x256, .f32⟩
  | 84 => ⟨S4096x256, .f32⟩
  | 85 => ⟨S_, .f32⟩
  | 86 => ⟨S8x256, .f32⟩
  | 87 => ⟨S4088x256, .f32⟩
  | 88 => ⟨S4096x256, .f32⟩
  | 89 => ⟨S_, .i32⟩
  | 90 => ⟨S4096, .i32⟩
  | 91 => ⟨S4096, .i32⟩
  | 92 => ⟨S4096, .f32⟩
  | 93 => ⟨S4096x1, .f32⟩
  | 94 => ⟨S4096x256, .f32⟩
  | 95 => ⟨S4096x256, .f32⟩
  | 96 => ⟨S4096x256, .f32⟩
  | 97 => ⟨S4096x1x256, .f32⟩
  | 98 => ⟨S4096x256, .f32⟩
  | 99 => ⟨S4096x256, .f32⟩
  | 100 => ⟨S4096x1x256, .f32⟩
  | 101 => ⟨S4096x256, .f32⟩
  | 102 => ⟨S_, .f32⟩
  | 103 => ⟨S16x256, .f32⟩
  | 104 => ⟨S4080x256, .f32⟩
  | 105 => ⟨S4096x256, .f32⟩
  | 106 => ⟨S_, .i32⟩
  | 107 => ⟨S4096, .i32⟩
  | 108 => ⟨S4096, .i32⟩
  | 109 => ⟨S4096, .f32⟩
  | 110 => ⟨S4096x1, .f32⟩
  | 111 => ⟨S4096x256, .f32⟩
  | 112 => ⟨S4096x256, .f32⟩
  | 113 => ⟨S4096x256, .f32⟩
  | 114 => ⟨S4096x1x256, .f32⟩
  | 115 => ⟨S4096x256, .f32⟩
  | 116 => ⟨S4096x256, .f32⟩
  | 117 => ⟨S4096x1x256, .f32⟩
  | 118 => ⟨S4096x1x256, .f32⟩
  | 119 => ⟨S4096x1x256, .f32⟩
  | 120 => ⟨S4096x1x256, .f32⟩
  | 121 => ⟨S4096x4x256, .f32⟩
  | 122 => ⟨S4x256x256, .f32⟩
  | 123 => ⟨S4x256x4096, .f32⟩
  | 124 => ⟨S4096x4x256, .f32⟩
  | 125 => ⟨S4096x1024, .f32⟩
  | 126 => ⟨S4096x4x256, .f32⟩
  | 127 => ⟨S256x4x256, .f32⟩
  | _ => ⟨S4096x1024, .f32⟩

abbrev hbmTy0_1 (i : Nat) : BufTy := match i % 128 with
  | 0 => ⟨S256x4x256, .f32⟩
  | 1 => ⟨S4x4096x256, .f32⟩
  | 2 => ⟨S_, .f32⟩
  | 3 => ⟨S4x4096x256, .f32⟩
  | 4 => ⟨S4x4096x256, .f32⟩
  | 5 => ⟨S_, .f32⟩
  | 6 => ⟨S4x4096, .f32⟩
  | 7 => ⟨S_, .f32⟩
  | 8 => ⟨S4x4096, .f32⟩
  | 9 => ⟨S4x4096, .f32⟩
  | 10 => ⟨S4x4096x1, .f32⟩
  | 11 => ⟨S4x4096x256, .f32⟩
  | 12 => ⟨S4x4096x256, .f32⟩
  | 13 => ⟨S4x4096x256, .f32⟩
  | 14 => ⟨S_, .f32⟩
  | 15 => ⟨S4x4096, .f32⟩
  | 16 => ⟨S4x4096x1, .f32⟩
  | 17 => ⟨S4x4096x256, .f32⟩
  | 18 => ⟨S4x4096x256, .f32⟩
  | 19 => ⟨S4x256x4096, .f32⟩
  | 20 => ⟨S4096x4x256, .f32⟩
  | 21 => ⟨S4096x1024, .f32⟩
  | 22 => ⟨S4096x4x256, .f32⟩
  | 23 => ⟨S4096x1024, .f32⟩
  | 24 => ⟨S1024x1024, .f32⟩
  | 25 => ⟨S4096x1024, .f32⟩
  | 26 => ⟨S1024x1024, .f32⟩
  | 27 => ⟨S4096x1024, .f32⟩
  | 28 => ⟨S4096x1024, .f32⟩
  | 29 => ⟨S3x1024, .f32⟩
  | 30 => ⟨S_, .f32⟩
  | 31 => ⟨S5x1024, .f32⟩
  | 32 => ⟨S8x1024, .f32⟩
  | 33 => ⟨S4096x8192, .bf16⟩
  | 34 => ⟨S4096x1024, .bf16⟩
  | 35 => ⟨S4096x1024, .bf16⟩
  | 36 => ⟨S4096x1024, .bf16⟩
  | 37 => ⟨S4096x1024, .bf16⟩
  | 38 => ⟨S1024x1024, .f32⟩
  | 39 => ⟨S1024x1024, .bf16⟩
  | 40 => ⟨S4x256x256, .f32⟩
  | 41 => ⟨S4x256x256, .bf16⟩
  | 42 => ⟨S256x1024, .bf16⟩
  | 43 => ⟨S256x1024, .bf16⟩
  | 44 => ⟨S1024x1024, .f32⟩
  | 45 => ⟨S1024x1024, .bf16⟩
  | 46 => ⟨S1024x1024, .f32⟩
  | 47 => ⟨S1024x1024, .bf16⟩
  | 48 => ⟨S256x384, .i32⟩
  | 49 => ⟨S256x384, .i32⟩
  | 50 => ⟨S256x384, .i32⟩
  | 51 => ⟨S_, .i32⟩
  | 52 => ⟨S256x384, .i32⟩
  | 53 => ⟨S256x384, .i1⟩
  | 54 => ⟨S_, .i32⟩
  | 55 => ⟨S256x384, .i32⟩
  | 56 => ⟨S256x384, .i1⟩
  | 57 => ⟨S256x384, .i1⟩
  | 58 => ⟨S256x384, .bf16⟩
  | 59 => ⟨S_, .i32⟩
  | 60 => ⟨S256x384, .i32⟩
  | 61 => ⟨S256x384, .i1⟩
  | 62 => ⟨S_, .i32⟩
  | 63 => ⟨S256x384, .i32⟩
  | 64 => ⟨S256x384, .i1⟩
  | 65 => ⟨S256x384, .i1⟩
  | 66 => ⟨S256x384, .bf16⟩
  | 67 => ⟨S_, .i32⟩
  | 68 => ⟨S256x384, .i32⟩
  | 69 => ⟨S256x384, .i1⟩
  | 70 => ⟨S_, .i32⟩
  | 71 => ⟨S256x384, .i32⟩
  | 72 => ⟨S256x384, .i1⟩
  | 73 => ⟨S256x384, .i1⟩
  | 74 => ⟨S256x384, .bf16⟩
  | 75 => ⟨S_, .i32⟩
  | 76 => ⟨S256x384, .i32⟩
  | 77 => ⟨S256x384, .i1⟩
  | 78 => ⟨S_, .i32⟩
  | 79 => ⟨S256x384, .i32⟩
  | 80 => ⟨S256x384, .i1⟩
  | 81 => ⟨S256x384, .i1⟩
  | 82 => ⟨S256x384, .bf16⟩
  | 83 => ⟨S1x256x384, .bf16⟩
  | 84 => ⟨S1x256x384, .bf16⟩
  | 85 => ⟨S1x256x384, .bf16⟩
  | 86 => ⟨S1x256x384, .bf16⟩
  | 87 => ⟨S4x256x384, .bf16⟩
  | 88 => ⟨S4096x8192, .bf16⟩
  | 89 => ⟨S4096x1024, .bf16⟩
  | 90 => ⟨S4096x1024, .bf16⟩
  | 91 => ⟨S4096x1024, .bf16⟩
  | 92 => ⟨S256x1024, .f32⟩
  | 93 => ⟨S256x1024, .f32⟩
  | 94 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x8192, .bf16⟩
  | .local _ .vmem, ⟨3, _⟩ => ⟨S256x8192, .bf16⟩
  | .local _ .vmem, ⟨4, _⟩ => ⟨S16x8192, .bf16⟩
  | .local _ .vmem, ⟨5, _⟩ => ⟨S16x8192, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S1024x1024, .bf16⟩
  | .local _ .vmem, ⟨16, _⟩ => ⟨S4x256x256, .bf16⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1024x1024, .bf16⟩
  | .local _ .vmem, ⟨22, _⟩ => ⟨S4x256x384, .bf16⟩
  | .local _ .vmem, ⟨23, _⟩ => ⟨S256x8192, .bf16⟩
  | .local _ .vmem, ⟨24, _⟩ => ⟨S256x8192, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .f32⟩
  | .local _ .vmem, ⟨32, _⟩ => ⟨S256x1024, .f32⟩
  | .local _ .vmem, ⟨33, _⟩ => ⟨S8x1024, .f32⟩
  | .local _ .vmem, ⟨34, _⟩ => ⟨S272x1024, .f32⟩
  | .local _ .vmem, ⟨35, _⟩ => ⟨S272x1024, .f32⟩
  | .local _ .vmem, ⟨36, _⟩ => ⟨S384x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_call0_cst : Ref sig .tc := ⟨.hbm, 42, rfl⟩
abbrev main_call0_call0_v0 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_1 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_2 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_3 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_6 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_c_7 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_8 : Ref sig .tc := ⟨.hbm, 130, rfl⟩
abbrev main_v108 : Ref sig .tc := ⟨.hbm, 131, rfl⟩
abbrev main_v109 : Ref sig .tc := ⟨.hbm, 132, rfl⟩
abbrev main_cst_9 : Ref sig .tc := ⟨.hbm, 133, rfl⟩
abbrev main_v110 : Ref sig .tc := ⟨.hbm, 134, rfl⟩
abbrev main_cst_10 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_11 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_12 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_c_13 : Ref sig .tc := ⟨.hbm, 179, rfl⟩
abbrev main_v152 : Ref sig .tc := ⟨.hbm, 180, rfl⟩
abbrev main_v153 : Ref sig .tc := ⟨.hbm, 181, rfl⟩
abbrev main_c_14 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_c_15 : Ref sig .tc := ⟨.hbm, 187, rfl⟩
abbrev main_v158 : Ref sig .tc := ⟨.hbm, 188, rfl⟩
abbrev main_v159 : Ref sig .tc := ⟨.hbm, 189, rfl⟩
abbrev main_c_16 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_c_17 : Ref sig .tc := ⟨.hbm, 195, rfl⟩
abbrev main_v164 : Ref sig .tc := ⟨.hbm, 196, rfl⟩
abbrev main_v165 : Ref sig .tc := ⟨.hbm, 197, rfl⟩
abbrev main_c_18 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_c_19 : Ref sig .tc := ⟨.hbm, 203, rfl⟩
abbrev main_v170 : Ref sig .tc := ⟨.hbm, 204, rfl⟩
abbrev main_v171 : Ref sig .tc := ⟨.hbm, 205, rfl⟩
abbrev main_c_20 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181_0 : Ref sig .tc := ⟨.hbm, 216, rfl⟩
abbrev main_v181_1 : Ref sig .tc := ⟨.hbm, 217, rfl⟩
abbrev main_v181_2 : Ref sig .tc := ⟨.hbm, 218, rfl⟩
abbrev main_v181_3 : Ref sig .tc := ⟨.hbm, 219, rfl⟩
abbrev main_v181_4 : Ref sig .tc := ⟨.hbm, 220, rfl⟩
abbrev main_v181_5 : Ref sig .tc := ⟨.hbm, 221, rfl⟩
abbrev main_v181_6 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x384 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixReferenceIdeal.lean ====
abbrev S4096x1024 : Shape := ⟨2, ![4096, 1024]⟩
abbrev S4096x8192 : Shape := ⟨2, ![4096, 8192]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024 : Shape := ⟨2, ![1, 1024]⟩
abbrev S256x1024 : Shape := ⟨2, ![256, 1024]⟩
abbrev S_ : Shape := ⟨0, ![]⟩
abbrev S3x1024 : Shape := ⟨2, ![3, 1024]⟩
abbrev S2x1024 : Shape := ⟨2, ![2, 1024]⟩
abbrev S4098x1024 : Shape := ⟨2, ![4098, 1024]⟩
abbrev S1024 : Shape := ⟨1, ![1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x256 : Shape := ⟨3, ![4, 256, 256]⟩
abbrev S4x256x4096 : Shape := ⟨3, ![4, 256, 4096]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S1024x1024 : Shape := ⟨2, ![1024, 1024]⟩
abbrev S8x1024 : Shape := ⟨2, ![8, 1024]⟩

abbrev nBuf : Space → Nat
  | .hbm => 461
  | .vmem => 0
  | .smem => 0
  | _ => 0

abbrev hbmTy0_0 (i : Nat) : BufTy := match i % 128 with
  | 0 => ⟨S4096x1024, .f32⟩
  | 1 => ⟨S4096x8192, .f32⟩
  | 2 => ⟨S1x3x1024, .f32⟩
  | 3 => ⟨S1x1024x1024, .f32⟩
  | 4 => ⟨S1x4x256x256, .f32⟩
  | 5 => ⟨S1x1024, .f32⟩
  | 6 => ⟨S256x1024, .f32⟩
  | 7 => ⟨S256x1024, .f32⟩
  | 8 => ⟨S1x1024x1024, .f32⟩
  | 9 => ⟨S1x1024x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S3x1024, .f32⟩
  | 19 => ⟨S_, .f32⟩
  | 20 => ⟨S2x1024, .f32⟩
  | 21 => ⟨S4098x1024, .f32⟩
  | 22 => ⟨S_, .f32⟩
  | 23 => ⟨S2x1024, .f32⟩
  | 24 => ⟨S1x1024, .f32⟩
  | 25 => ⟨S1024, .f32⟩
  | 26 => ⟨S4096x1024, .f32⟩
  | 27 => ⟨S1x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S4096x4x256, .f32⟩
  | 46 => ⟨S_, .f32⟩
  | 47 => ⟨S_, .f32⟩
  | 48 => ⟨S4096x4x256, .f32⟩
  | 49 => ⟨S4096, .i32⟩
  | 50 => ⟨S_, .i32⟩
  | 51 => ⟨S4096, .i32⟩
  | 52 => ⟨S4096, .i32⟩
  | 53 => ⟨S4096x1x256, .f32⟩
  | 54 => ⟨S4096x256, .f32⟩
  | 55 => ⟨S_, .f32⟩
  | 56 => ⟨S2x256, .f32⟩
  | 57 => ⟨S4094x256, .f32⟩
  | 58 => ⟨S4096x256, .f32⟩
  | 59 => ⟨S_, .f32⟩
  | 60 => ⟨S2x256, .f32⟩
  | 61 => ⟨S_, .i32⟩
  | 62 => ⟨S4096, .i32⟩
  | 63 => ⟨S4096, .i32⟩
  | 64 => ⟨S4096, .f32⟩
  | 65 => ⟨S4096x1, .f32⟩
  | 66 => ⟨S4096x256, .f32⟩
  | 67 => ⟨S4096x256, .f32⟩
  | 68 => ⟨S4096x256, .f32⟩
  | 69 => ⟨S4096x1x256, .f32⟩
  | 70 => ⟨S4096x256, .f32⟩
  | 71 => ⟨S4096x256, .f32⟩
  | 72 => ⟨S4096x1x256, .f32⟩
  | 73 => ⟨S4096x256, .f32⟩
  | 74 => ⟨S_, .f32⟩
  | 75 => ⟨S4x256, .f32⟩
  | 76 => ⟨S4092x256, .f32⟩
  | 77 => ⟨S4096x256, .f32⟩
  | 78 => ⟨S_, .f32⟩
  | 79 => ⟨S4x256, .f32⟩
  | 80 => ⟨S_, .i32⟩
  | 81 => ⟨S4096, .i32⟩
  | 82 => ⟨S4096, .i32⟩
  | 83 => ⟨S4096, .f32⟩
  | 84 => ⟨S4096x1, .f32⟩
  | 85 => ⟨S4096x256, .f32⟩
  | 86 => ⟨S4096x256, .f32⟩
  | 87 => ⟨S4096x256, .f32⟩
  | 88 => ⟨S4096x1x256, .f32⟩
  | 89 => ⟨S4096x256, .f32⟩
  | 90 => ⟨S4096x256, .f32⟩
  | 91 => ⟨S4096x1x256, .f32⟩
  | 92 => ⟨S4096x256, .f32⟩
  | 93 => ⟨S_, .f32⟩
  | 94 => ⟨S8x256, .f32⟩
  | 95 => ⟨S4088x256, .f32⟩
  | 96 => ⟨S4096x256, .f32⟩
  | 97 => ⟨S_, .f32⟩
  | 98 => ⟨S8x256, .f32⟩
  | 99 => ⟨S_, .i32⟩
  | 100 => ⟨S4096, .i32⟩
  | 101 => ⟨S4096, .i32⟩
  | 102 => ⟨S4096, .f32⟩
  | 103 => ⟨S4096x1, .f32⟩
  | 104 => ⟨S4096x256, .f32⟩
  | 105 => ⟨S4096x256, .f32⟩
  | 106 => ⟨S4096x256, .f32⟩
  | 107 => ⟨S4096x1x256, .f32⟩
  | 108 => ⟨S4096x256, .f32⟩
  | 109 => ⟨S4096x256, .f32⟩
  | 110 => ⟨S4096x1x256, .f32⟩
  | 111 => ⟨S4096x256, .f32⟩
  | 112 => ⟨S_, .f32⟩
  | 113 => ⟨S16x256, .f32⟩
  | 114 => ⟨S4080x256, .f32⟩
  | 115 => ⟨S4096x256, .f32⟩
  | 116 => ⟨S_, .f32⟩
  | 117 => ⟨S16x256, .f32⟩
  | 118 => ⟨S_, .i32⟩
  | 119 => ⟨S4096, .i32⟩
  | 120 => ⟨S4096, .i32⟩
  | 121 => ⟨S4096, .f32⟩
  | 122 => ⟨S4096x1, .f32⟩
  | 123 => ⟨S4096x256, .f32⟩
  | 124 => ⟨S4096x256, .f32⟩
  | 125 => ⟨S4096x256, .f32⟩
  | 126 => ⟨S4096x1x256, .f32⟩
  | 127 => ⟨S4096x256, .f32⟩
  | _ => ⟨S4096x1024, .f32⟩

abbrev hbmTy0_1 (i : Nat) : BufTy := match i % 128 with
  | 0 => ⟨S4096x256, .f32⟩
  | 1 => ⟨S4096x1x256, .f32⟩
  | 2 => ⟨S4096x1x256, .f32⟩
  | 3 => ⟨S4096x1x256, .f32⟩
  | 4 => ⟨S4096x1x256, .f32⟩
  | 5 => ⟨S4096x4x256, .f32⟩
  | 6 => ⟨S4x256x256, .f32⟩
  | 7 => ⟨S4x256x4096, .f32⟩
  | 8 => ⟨S4096x4x256, .f32⟩
  | 9 => ⟨S4096x1024, .f32⟩
  | 10 => ⟨S4096x4x256, .f32⟩
  | 11 => ⟨S256x4x256, .f32⟩
  | 12 => ⟨S256x4x256, .f32⟩
  | 13 => ⟨S4x4096x256, .f32⟩
  | 14 => ⟨S_, .f32⟩
  | 15 => ⟨S4x4096x256, .f32⟩
  | 16 => ⟨S4x4096x256, .f32⟩
  | 17 => ⟨S_, .f32⟩
  | 18 => ⟨S4x4096, .f32⟩
  | 19 => ⟨S4x4096x1, .f32⟩
  | 20 => ⟨S4x4096x256, .f32⟩
  | 21 => ⟨S4x4096x256, .i1⟩
  | 22 => ⟨S4x4096x256, .f32⟩
  | 23 => ⟨S_, .f32⟩
  | 24 => ⟨S4x4096, .f32⟩
  | 25 => ⟨S_, .f32⟩
  | 26 => ⟨S4x4096, .f32⟩
  | 27 => ⟨S4x4096, .f32⟩
  | 28 => ⟨S_, .f32⟩
  | 29 => ⟨S4x4096, .f32⟩
  | 30 => ⟨S4x4096, .i1⟩
  | 31 => ⟨S_, .f32⟩
  | 32 => ⟨S4x4096, .f32⟩
  | 33 => ⟨S4x4096, .i1⟩
  | 34 => ⟨S_, .f32⟩
  | 35 => ⟨S4x4096, .f32⟩
  | 36 => ⟨S_, .f32⟩
  | 37 => ⟨S4x4096, .f32⟩
  | 38 => ⟨S_, .f32⟩
  | 39 => ⟨S4x4096, .f32⟩
  | 40 => ⟨S4x4096, .f32⟩
  | 41 => ⟨S4x4096, .f32⟩
  | 42 => ⟨S4x4096x1, .f32⟩
  | 43 => ⟨S4x4096x256, .f32⟩
  | 44 => ⟨S4x4096x256, .f32⟩
  | 45 => ⟨S4x4096x256, .f32⟩
  | 46 => ⟨S_, .f32⟩
  | 47 => ⟨S4x4096, .f32⟩
  | 48 => ⟨S4x4096x1, .f32⟩
  | 49 => ⟨S4x4096x256, .f32⟩
  | 50 => ⟨S4x4096x256, .f32⟩
  | 51 => ⟨S4x4096x1, .f32⟩
  | 52 => ⟨S_, .f32⟩
  | 53 => ⟨S4x4096x1, .f32⟩
  | 54 => ⟨S4x4096x1, .f32⟩
  | 55 => ⟨S4x256x4096, .f32⟩
  | 56 => ⟨S4096x4x256, .f32⟩
  | 57 => ⟨S4096x1024, .f32⟩
  | 58 => ⟨S4096x4x256, .f32⟩
  | 59 => ⟨S4096x1024, .f32⟩
  | 60 => ⟨S1024x1024, .f32⟩
  | 61 => ⟨S4096x1024, .f32⟩
  | 62 => ⟨S1024x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S4096x1024, .f32⟩
  | 96 => ⟨S1024, .f32⟩
  | 97 => ⟨S1x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S1024x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S_, .f32⟩
  | 126 => ⟨S1024, .f32⟩
  | 127 => ⟨S1x1024, .f32⟩
  | _ => ⟨S4096x1024, .f32⟩

abbrev hbmTy0_2 (i : Nat) : BufTy := match i % 128 with
  | 0 => ⟨S4096x1024, .f32⟩
  | 1 => ⟨S4096x1024, .f32⟩
  | 2 => ⟨S_, .f32⟩
  | 3 => ⟨S1024, .f32⟩
  | 4 => ⟨S1x1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S4096x8192, .f32⟩
  | 11 => ⟨S_, .f32⟩
  | 12 => ⟨S4096x8192, .f32⟩
  | 13 => ⟨S4096x8192, .f32⟩
  | 14 => ⟨S_, .f32⟩
  | 15 => ⟨S4096x8192, .f32⟩
  | 16 => ⟨S4096x8192, .f32⟩
  | 17 => ⟨S4096x1024, .f32⟩
  | 18 => ⟨S4096x1024, .f32⟩
  | 19 => ⟨S4096x4x256, .f32⟩
  | 20 => ⟨S4x256x4096, .f32⟩
  | 21 => ⟨S4x4096x256, .f32⟩
  | 22 => ⟨S4x256x256, .f32⟩
  | 23 => ⟨S256x4x256, .f32⟩
  | 24 => ⟨S4x4096x256, .f32⟩
  | 25 => ⟨S4x4096x256, .f32⟩
  | 26 => ⟨S4x4096x256, .f32⟩
  | 27 => ⟨S_, .f32⟩
  | 28 => ⟨S4x4096, .f32⟩
  | 29 => ⟨S4x4096x1, .f32⟩
  | 30 => ⟨S4x4096x1, .f32⟩
  | 31 => ⟨S4x4096x256, .f32⟩
  | 32 => ⟨S4x4096x256, .f32⟩
  | 33 => ⟨S_, .f32⟩
  | 34 => ⟨S4x4096, .f32⟩
  | 35 => ⟨S4x4096x256, .f32⟩
  | 36 => ⟨S4x4096x256, .f32⟩
  | 37 => ⟨S4x4096x256, .f32⟩
  | 38 => ⟨S_, .f32⟩
  | 39 => ⟨S4x4096x256, .f32⟩
  | 40 => ⟨S4x4096x256, .f32⟩
  | 41 => ⟨S4x256x256, .f32⟩
  | 42 => ⟨S256x4x256, .f32⟩
  | 43 => ⟨S4x4096x256, .f32⟩
  | 44 => ⟨S4096x4x256, .f32⟩
  | 45 => ⟨S256x1024, .f32⟩
  | 46 => ⟨S256x1024, .f32⟩
  | 47 => ⟨S4096x1024, .f32⟩
  | 48 => ⟨S4096x4x256, .f32⟩
  | 49 => ⟨S4x256x4096, .f32⟩
  | 50 => ⟨S4x4096x256, .f32⟩
  | 51 => ⟨S4096x4x256, .f32⟩
  | 52 => ⟨S4096x1x256, .f32⟩
  | 53 => ⟨S4096x256, .f32⟩
  | 54 => ⟨S4096x1x256, .f32⟩
  | 55 => ⟨S4096x256, .f32⟩
  | 56 => ⟨S4096x1x256, .f32⟩
  | 57 => ⟨S4096x256, .f32⟩
  | 58 => ⟨S4096x1x256, .f32⟩
  | 59 => ⟨S4096x256, .f32⟩
  | 60 => ⟨S4096x256, .f32⟩
  | 61 => ⟨S4096x1x256, .f32⟩
  | 62 => ⟨S_, .f32⟩
  | 63 => ⟨S4096x4x256, .f32⟩
  | 64 => ⟨S4096x256, .f32⟩
  | 65 => ⟨S4096x256, .f32⟩
  | 66 => ⟨S4096x256, .f32⟩
  | 67 => ⟨S16x256, .f32⟩
  | 68 => ⟨S4080x256, .f32⟩
  | 69 => ⟨S_, .f32⟩
  | 70 => ⟨S4096x256, .f32⟩
  | 71 => ⟨S4096x256, .f32⟩
  | 72 => ⟨S4096x1x256, .f32⟩
  | 73 => ⟨S_, .f32⟩
  | 74 => ⟨S4096x4x256, .f32⟩
  | 75 => ⟨S4096x256, .f32⟩
  | 76 => ⟨S4096x1x256, .f32⟩
  | 77 => ⟨S_, .f32⟩
  | 78 => ⟨S4096x4x256, .f32⟩
  | 79 => ⟨S4096x4x256, .f32⟩
  | 80 => ⟨S4096x256, .f32⟩
  | 81 => ⟨S4096x256, .f32⟩
  | 82 => ⟨S4096x256, .f32⟩
  | 83 => ⟨S8x256, .f32⟩
  | 84 => ⟨S4088x256, .f32⟩
  | 85 => ⟨S_, .f32⟩
  | 86 => ⟨S4096x256, .f32⟩
  | 87 => ⟨S4096x256, .f32⟩
  | 88 => ⟨S4096x1x256, .f32⟩
  | 89 => ⟨S_, .f32⟩
  | 90 => ⟨S4096x4x256, .f32⟩
  | 91 => ⟨S4096x4x256, .f32⟩
  | 92 => ⟨S4096x256, .f32⟩
  | 93 => ⟨S4096x1x256, .f32⟩
  | 94 => ⟨S_, .f32⟩
  | 95 => ⟨S4096x4x256, .f32⟩
  | 96 => ⟨S4096x4x256, .f32⟩
  | 97 => ⟨S4096x256, .f32⟩
  | 98 => ⟨S4096x256, .f32⟩
  | 99 => ⟨S4096x256, .f32⟩
  | 100 => ⟨S4x256, .f32⟩
  | 101 => ⟨S4092x256, .f32⟩
  | 102 => ⟨S_, .f32⟩
  | 103 => ⟨S4096x256, .f32⟩
  | 104 => ⟨S4096x256, .f32⟩
  | 105 => ⟨S4096x1x256, .f32⟩
  | 106 => ⟨S_, .f32⟩
  | 107 => ⟨S4096x4x256, .f32⟩
  | 108 => ⟨S4096x4x256, .f32⟩
  | 109 => ⟨S4096x256, .f32⟩
  | 110 => ⟨S4096x1x256, .f32⟩
  | 111 => ⟨S_, .f32⟩
  | 112 => ⟨S4096x4x256, .f32⟩
  | 113 => ⟨S4096x4x256, .f32⟩
  | 114 => ⟨S4096x256, .f32⟩
  | 115 => ⟨S4096x256, .f32⟩
  | 116 => ⟨S4096x256, .f32⟩
  | 117 => ⟨S2x256, .f32⟩
  | 118 => ⟨S4094x256, .f32⟩
  | 119 => ⟨S_, .f32⟩
  | 120 => ⟨S4096x256, .f32⟩
  | 121 => ⟨S4096x256, .f32⟩
  | 122 => ⟨S4096x1x256, .f32⟩
  | 123 => ⟨S_, .f32⟩
  | 124 => ⟨S4096x4x256, .f32⟩
  | 125 => ⟨S4096x4x256, .f32⟩
  | 126 => ⟨S_, .f32⟩
  | 127 => ⟨S_, .f32⟩
  | _ => ⟨S4096x1024, .f32⟩

abbrev hbmTy0_3 (i : Nat) : BufTy := match i % 128 with
  | 0 => ⟨S4096x4x256, .f32⟩
  | 1 => ⟨S4096x4x256, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S_, .f32⟩
  | 14 => ⟨S4098x1024, .f32⟩
  | 15 => ⟨S1x1024, .f32⟩
  | 16 => ⟨S_, .f32⟩
  | 17 => ⟨S3x1024, .f32⟩
  | 18 => ⟨S4096x1024, .f32⟩
  | 19 => ⟨S4096x1024, .f32⟩
  | 20 => ⟨S4096x1024, .f32⟩
  | 21 => ⟨S_, .f32⟩
  | 22 => ⟨S1024, .f32⟩
  | 23 => ⟨S1x1024, .f32⟩
  | 24 => ⟨S_, .f32⟩
  | 25 => ⟨S1024, .f32⟩
  | 26 => ⟨S_, .f32⟩
  | 27 => ⟨S4098x1024, .f32⟩
  | 28 => ⟨S4098x1024, .f32⟩
  | 29 => ⟨S1x1024, .f32⟩
  | 30 => ⟨S_, .f32⟩
  | 31 => ⟨S3x1024, .f32⟩
  | 32 => ⟨S3x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S_, .f32⟩
  | 42 => ⟨S4098x1024, .f32⟩
  | 43 => ⟨S4098x1024, .f32⟩
  | 44 => ⟨S1x1024, .f32⟩
  | 45 => ⟨S_, .f32⟩
  | 46 => ⟨S3x1024, .f32⟩
  | 47 => ⟨S3x1024, .f32⟩
  | 48 => ⟨S2x1024, .f32⟩
  | 49 => ⟨S4096x1024, .f32⟩
  | 50 => ⟨S1x3x1024, .f32⟩
  | 51 => ⟨S4096x1024, .f32⟩
  | 52 => ⟨S4096x1024, .f32⟩
  | 53 => ⟨S_, .f32⟩
  | 54 => ⟨S4096x8192, .f32⟩
  | 55 => ⟨S4096x8192, .f32⟩
  | 56 => ⟨S_, .f32⟩
  | 57 => ⟨S4096x8192, .f32⟩
  | 58 => ⟨S4096x8192, .f32⟩
  | 59 => ⟨S_, .f32⟩
  | 60 => ⟨S4096x8192, .f32⟩
  | 61 => ⟨S4096x8192, .f32⟩
  | 62 => ⟨S_, .f32⟩
  | 63 => ⟨S4096x8192, .f32⟩
  | 64 => ⟨S4096x8192, .f32⟩
  | 65 => ⟨S_, .f32⟩
  | 66 => ⟨S4096x8192, .f32⟩
  | 67 => ⟨S4096x8192, .f32⟩
  | 68 => ⟨S_, .f32⟩
  | 69 => ⟨S3x1024, .f32⟩
  | 70 => ⟨S1x1024, .f32⟩
  | 71 => ⟨S3x1024, .f32⟩
  | 72 => ⟨S8x1024, .f32⟩
  | 73 => ⟨S4096x8192, .bf16⟩
  | 74 => ⟨S4096x1024, .bf16⟩
  | 75 => ⟨S4096x1024, .bf16⟩
  | 76 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_call0_cst : Ref sig .tc := ⟨.hbm, 46, rfl⟩
abbrev main_call0_call0_v0 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_c_4 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_c_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_9 : Ref sig .tc := ⟨.hbm, 97, rfl⟩
abbrev main_v74 : Ref sig .tc := ⟨.hbm, 98, rfl⟩
abbrev main_c_10 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_12 : Ref sig .tc := ⟨.hbm, 116, rfl⟩
abbrev main_v90 : Ref sig .tc := ⟨.hbm, 117, rfl⟩
abbrev main_c_13 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_14 : Ref sig .tc := ⟨.hbm, 142, rfl⟩
abbrev main_v114 : Ref sig .tc := ⟨.hbm, 143, rfl⟩
abbrev main_v115 : Ref sig .tc := ⟨.hbm, 144, rfl⟩
abbrev main_cst_15 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_16 : Ref sig .tc := ⟨.hbm, 151, rfl⟩
abbrev main_v121 : Ref sig .tc := ⟨.hbm, 152, rfl⟩
abbrev main_cst_17 : Ref sig .tc := ⟨.hbm, 153, rfl⟩
abbrev main_v122 : Ref sig .tc := ⟨.hbm, 154, rfl⟩
abbrev main_v123 : Ref sig .tc := ⟨.hbm, 155, rfl⟩
abbrev main_cst_18 : Ref sig .tc := ⟨.hbm, 156, rfl⟩
abbrev main_v124 : Ref sig .tc := ⟨.hbm, 157, rfl⟩
abbrev main_v125 : Ref sig .tc := ⟨.hbm, 158, rfl⟩
abbrev main_cst_19 : Ref sig .tc := ⟨.hbm, 159, rfl⟩
abbrev main_v126 : Ref sig .tc := ⟨.hbm, 160, rfl⟩
abbrev main_v127 : Ref sig .tc := ⟨.hbm, 161, rfl⟩
abbrev main_cst_20 : Ref sig .tc := ⟨.hbm, 162, rfl⟩
abbrev main_v128 : Ref sig .tc := ⟨.hbm, 163, rfl⟩
abbrev main_cst_21 : Ref sig .tc := ⟨.hbm, 164, rfl⟩
abbrev main_v129 : Ref sig .tc := ⟨.hbm, 165, rfl⟩
abbrev main_cst_22 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_23 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_24 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_25 : Ref sig .tc := ⟨.hbm, 201, rfl⟩
abbrev main_v162 : Ref sig .tc := ⟨.hbm, 202, rfl⟩
abbrev main_v163 : Ref sig .tc := ⟨.hbm, 203, rfl⟩
abbrev main_cst_26 : Ref sig .tc := ⟨.hbm, 204, rfl⟩
abbrev main_v164 : Ref sig .tc := ⟨.hbm, 205, rfl⟩
abbrev main_v165 : Ref sig .tc := ⟨.hbm, 206, rfl⟩
abbrev main_cst_27 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_28 : Ref sig .tc := ⟨.hbm, 214, rfl⟩
abbrev main_v172 : Ref sig .tc := ⟨.hbm, 215, rfl⟩
abbrev main_v173 : Ref sig .tc := ⟨.hbm, 216, rfl⟩
abbrev main_cst_29 : Ref sig .tc := ⟨.hbm, 217, rfl⟩
abbrev main_v174 : Ref sig .tc := ⟨.hbm, 218, rfl⟩
abbrev main_v175 : Ref sig .tc := ⟨.hbm, 219, rfl⟩
abbrev main_cst_30 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_31 : Ref sig .tc := ⟨.hbm, 232, rfl⟩
abbrev main_v187 : Ref sig .tc := ⟨.hbm, 233, rfl⟩
abbrev main_v188 : Ref sig .tc := ⟨.hbm, 234, rfl⟩
abbrev main_cst_32 : Ref sig .tc := ⟨.hbm, 235, rfl⟩
abbrev main_v189 : Ref sig .tc := ⟨.hbm, 236, rfl⟩
abbrev main_v190 : Ref sig .tc := ⟨.hbm, 237, rfl⟩
abbrev main_cst_33 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_cst_34 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_cst_35 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_cst_36 : Ref sig .tc := ⟨.hbm, 265, rfl⟩
abbrev main_v215 : Ref sig .tc := ⟨.hbm, 266, rfl⟩
abbrev main_cst_37 : Ref sig .tc := ⟨.hbm, 267, rfl⟩
abbrev main_v216 : Ref sig .tc := ⟨.hbm, 268, rfl⟩
abbrev main_v217 : Ref sig .tc := ⟨.hbm, 269, rfl⟩
abbrev main_cst_38 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_39 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_cst_40 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_cst_41 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_cst_42 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_cst_43 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_cst_44 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_cst_45 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_cst_46 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_cst_47 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_cst_48 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_cst_49 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_cst_50 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_cst_51 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_cst_52 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_cst_53 : Ref sig .tc := ⟨.hbm, 379, rfl⟩
abbrev main_v312 : Ref sig .tc := ⟨.hbm, 380, rfl⟩
abbrev main_v313 : Ref sig .tc := ⟨.hbm, 381, rfl⟩
abbrev main_call1_call0_cst : Ref sig .tc := ⟨.hbm, 382, rfl⟩
abbrev main_call1_call0_v0 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_cst_54 : Ref sig .tc := ⟨.hbm, 392, rfl⟩
abbrev main_v322 : Ref sig .tc := ⟨.hbm, 393, rfl⟩
abbrev main_v323 : Ref sig .tc := ⟨.hbm, 394, rfl⟩
abbrev main_cst_55 : Ref sig .tc := ⟨.hbm, 395, rfl⟩
abbrev main_v324 : Ref sig .tc := ⟨.hbm, 396, rfl⟩
abbrev main_cst_56 : Ref sig .tc := ⟨.hbm, 397, rfl⟩
abbrev main_v325 : Ref sig .tc := ⟨.hbm, 398, rfl⟩
abbrev main_v326 : Ref sig .tc := ⟨.hbm, 399, rfl⟩
abbrev main_cst_57 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_cst_58 : Ref sig .tc := ⟨.hbm, 405, rfl⟩
abbrev main_v331 : Ref sig .tc := ⟨.hbm, 406, rfl⟩
abbrev main_v332 : Ref sig .tc := ⟨.hbm, 407, rfl⟩
abbrev main_cst_59 : Ref sig .tc := ⟨.hbm, 408, rfl⟩
abbrev main_v333 : Ref sig .tc := ⟨.hbm, 409, rfl⟩
abbrev main_cst_60 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_cst_61 : Ref sig .tc := ⟨.hbm, 414, rfl⟩
abbrev main_v337 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_v341 : Ref sig .tc := ⟨.hbm, 419, rfl⟩
abbrev main_cst_62 : Ref sig .tc := ⟨.hbm, 420, rfl⟩
abbrev main_v342 : Ref sig .tc := ⟨.hbm, 421, rfl⟩
abbrev main_v343 : Ref sig .tc := ⟨.hbm, 422, rfl⟩
abbrev main_cst_63 : Ref sig .tc := ⟨.hbm, 423, rfl⟩
abbrev main_v344 : Ref sig .tc := ⟨.hbm, 424, rfl⟩
abbrev main_cst_64 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_cst_65 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_v353 : Ref sig .tc := ⟨.hbm, 435, rfl⟩
abbrev main_v354 : Ref sig .tc := ⟨.hbm, 436, rfl⟩
abbrev main_cst_66 : Ref sig .tc := ⟨.hbm, 437, rfl⟩
abbrev main_v355 : Ref sig .tc := ⟨.hbm, 438, rfl⟩
abbrev main_v356 : Ref sig .tc := ⟨.hbm, 439, rfl⟩
abbrev main_cst_67 : Ref sig .tc := ⟨.hbm, 440, rfl⟩
abbrev main_v357 : Ref sig .tc := ⟨.hbm, 441, rfl⟩
abbrev main_v358 : Ref sig .tc := ⟨.hbm, 442, rfl⟩
abbrev main_cst_68 : Ref sig .tc := ⟨.hbm, 443, rfl⟩
abbrev main_v359 : Ref sig .tc := ⟨.hbm, 444, rfl⟩
abbrev main_v360 : Ref sig .tc := ⟨.hbm, 445, rfl⟩
abbrev main_cst_69 : Ref sig .tc := ⟨.hbm, 446, rfl⟩
abbrev main_v361 : Ref sig .tc := ⟨.hbm, 447, rfl⟩
abbrev main_v362 : Ref sig .tc := ⟨.hbm, 448, rfl⟩
abbrev main_cst_70 : Ref sig .tc := ⟨.hbm, 449, rfl⟩
abbrev main_v363 : Ref sig .tc := ⟨.hbm, 450, rfl⟩
abbrev main_v364 : Ref sig .tc := ⟨.hbm, 451, rfl⟩
abbrev main_cst_71 : Ref sig .tc := ⟨.hbm, 452, rfl⟩
abbrev main_v365 : Ref sig .tc := ⟨.hbm, 453, rfl⟩
abbrev main_v366 : Ref sig .tc := ⟨.hbm, 454, rfl⟩
abbrev main_v367 : Ref sig .tc := ⟨.hbm, 455, rfl⟩
abbrev main_v368 : Ref sig .tc := ⟨.hbm, 456, rfl⟩
abbrev main_v369 : Ref sig .tc := ⟨.hbm, 457, rfl⟩
abbrev main_v370 : Ref sig .tc := ⟨.hbm, 458, rfl⟩
abbrev main_v371 : Ref sig .tc := ⟨.hbm, 459, rfl⟩
abbrev main_v372 : Ref sig .tc := ⟨.hbm, 460, rfl⟩

abbrev nD : Nat := 1
abbrev τ : Topo := Topo.v7x

variable {F : FTy → Type} [FloatOps F]
-- ==== MixFwdKernel.lean ====
abbrev S4096x8192 : Shape := ⟨2, ![4096, 8192]⟩
abbrev S4096x1024 : Shape := ⟨2, ![4096, 1024]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024 : Shape := ⟨2, ![1, 1024]⟩
abbrev S256x1024 : Shape := ⟨2, ![256, 1024]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S1024x1024 : Shape := ⟨2, ![1024, 1024]⟩
abbrev S4x256x256 : Shape := ⟨3, ![4, 256, 256]⟩
abbrev S256x8192 : Shape := ⟨2, ![256, 8192]⟩
abbrev S272x1024 : Shape := ⟨2, ![272, 1024]⟩
abbrev S16x1024 : Shape := ⟨2, ![16, 1024]⟩
abbrev S256x256 : Shape := ⟨2, ![256, 256]⟩
abbrev S256x1 : Shape := ⟨2, ![256, 1]⟩
abbrev S1x256x256 : Shape := ⟨3, ![1, 256, 256]⟩
abbrev S256 : Shape := ⟨1, ![256]⟩

abbrev nBuf : Space → Nat
  | .hbm => 34
  | .vmem => 32
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S1x3x1024, .f32⟩
  | .hbm, ⟨3, _⟩ => ⟨S1x1024x1024, .f32⟩
  | .hbm, ⟨4, _⟩ => ⟨S1x4x256x256, .f32⟩
  | .hbm, ⟨5, _⟩ => ⟨S1x1024, .f32⟩
  | .hbm, ⟨6, _⟩ => ⟨S256x1024, .f32⟩
  | .hbm, ⟨7, _⟩ => ⟨S256x1024, .f32⟩
  | .hbm, ⟨8, _⟩ => ⟨S1x1024x1024, .f32⟩
  | .hbm, ⟨9, _⟩ => ⟨S1x1024x1024, .f32⟩
  | .hbm, ⟨10, _⟩ => ⟨S3x1024, .f32⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S4096x8192, .bf16⟩
  | .hbm, ⟨15, _⟩ => ⟨S1024x1024, .f32⟩
  | .hbm, ⟨16, _⟩ => ⟨S1024x1024, .bf16⟩
  | .hbm, ⟨17, _⟩ => ⟨S4x256x256, .f32⟩
  | .hbm, ⟨18, _⟩ => ⟨S4x256x256, .bf16⟩
  | .hbm, ⟨19, _⟩ => ⟨S256x1024, .bf16⟩
  | .hbm, ⟨20, _⟩ => ⟨S256x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S4096x1024, .bf16⟩
  | .hbm, ⟨31, _⟩ => ⟨S4096x1024, .bf16⟩
  | .hbm, ⟨32, _⟩ => ⟨S4096x1024, .bf16⟩
  | .hbm, ⟨33, _⟩ => ⟨S4096x1024, .f32⟩
  | .local _ .vmem, ⟨0, _⟩ => ⟨S256x8192, .bf16⟩
  | .local _ .vmem, ⟨1, _⟩ => ⟨S256x8192, .bf16⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1024x1024, .bf16⟩
  | .local _ .vmem, ⟨6, _⟩ => ⟨S4x256x256, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .f32⟩
  | .local _ .vmem, ⟨29, _⟩ => ⟨S256x1024, .f32⟩
  | .local _ .vmem, ⟨30, _⟩ => ⟨S272x1024, .f32⟩
  | .local _ .vmem, ⟨31, _⟩ => ⟨S272x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixFwdReferenceIdeal.lean ====
abbrev S4096x8192 : Shape := ⟨2, ![4096, 8192]⟩
abbrev S4096x1024 : Shape := ⟨2, ![4096, 1024]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024 : Shape := ⟨2, ![1, 1024]⟩
abbrev S256x1024 : Shape := ⟨2, ![256, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x256 : Shape := ⟨3, ![4, 256, 256]⟩
abbrev S4x256x4096 : Shape := ⟨3, ![4, 256, 4096]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S1024x1024 : Shape := ⟨2, ![1024, 1024]⟩

abbrev nBuf : Space → Nat
  | .hbm => 204
  | .vmem => 0
  | .smem => 0
  | _ => 0

abbrev hbmTy0_0 (i : Nat) : BufTy := match i % 128 with
  | 0 => ⟨S4096x8192, .f32⟩
  | 1 => ⟨S4096x1024, .f32⟩
  | 2 => ⟨S1x3x1024, .f32⟩
  | 3 => ⟨S1x1024x1024, .f32⟩
  | 4 => ⟨S1x4x256x256, .f32⟩
  | 5 => ⟨S1x1024, .f32⟩
  | 6 => ⟨S256x1024, .f32⟩
  | 7 => ⟨S256x1024, .f32⟩
  | 8 => ⟨S1x1024x1024, .f32⟩
  | 9 => ⟨S1x1024x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S3x1024, .f32⟩
  | 17 => ⟨S_, .f32⟩
  | 18 => ⟨S2x1024, .f32⟩
  | 19 => ⟨S4098x1024, .f32⟩
  | 20 => ⟨S1x1024, .f32⟩
  | 21 => ⟨S1024, .f32⟩
  | 22 => ⟨S4096x1024, .f32⟩
  | 23 => ⟨S1x1024, .f32⟩
  | 24 => ⟨S4096x1024, .f32⟩
  | 25 => ⟨S4096x1024, .f32⟩
  | 26 => ⟨S1x1024, .f32⟩
  | 27 => ⟨S1024, .f32⟩
  | 28 => ⟨S4096x1024, .f32⟩
  | 29 => ⟨S1x1024, .f32⟩
  | 30 => ⟨S4096x1024, .f32⟩
  | 31 => ⟨S4096x1024, .f32⟩
  | 32 => ⟨S4096x1024, .f32⟩
  | 33 => ⟨S1x1024, .f32⟩
  | 34 => ⟨S1024, .f32⟩
  | 35 => ⟨S4096x1024, .f32⟩
  | 36 => ⟨S1x1024, .f32⟩
  | 37 => ⟨S4096x1024, .f32⟩
  | 38 => ⟨S4096x1024, .f32⟩
  | 39 => ⟨S4096x1024, .f32⟩
  | 40 => ⟨S4096x1024, .f32⟩
  | 41 => ⟨S4096x4x256, .f32⟩
  | 42 => ⟨S_, .f32⟩
  | 43 => ⟨S_, .f32⟩
  | 44 => ⟨S4096x4x256, .f32⟩
  | 45 => ⟨S4096, .i32⟩
  | 46 => ⟨S_, .i32⟩
  | 47 => ⟨S4096, .i32⟩
  | 48 => ⟨S4096, .i32⟩
  | 49 => ⟨S4096x1x256, .f32⟩
  | 50 => ⟨S4096x256, .f32⟩
  | 51 => ⟨S_, .f32⟩
  | 52 => ⟨S2x256, .f32⟩
  | 53 => ⟨S4094x256, .f32⟩
  | 54 => ⟨S4096x256, .f32⟩
  | 55 => ⟨S_, .i32⟩
  | 56 => ⟨S4096, .i32⟩
  | 57 => ⟨S4096, .i32⟩
  | 58 => ⟨S4096, .f32⟩
  | 59 => ⟨S4096x1, .f32⟩
  | 60 => ⟨S4096x256, .f32⟩
  | 61 => ⟨S4096x256, .f32⟩
  | 62 => ⟨S4096x256, .f32⟩
  | 63 => ⟨S4096x1x256, .f32⟩
  | 64 => ⟨S4096x256, .f32⟩
  | 65 => ⟨S4096x256, .f32⟩
  | 66 => ⟨S4096x1x256, .f32⟩
  | 67 => ⟨S4096x256, .f32⟩
  | 68 => ⟨S_, .f32⟩
  | 69 => ⟨S4x256, .f32⟩
  | 70 => ⟨S4092x256, .f32⟩
  | 71 => ⟨S4096x256, .f32⟩
  | 72 => ⟨S_, .i32⟩
  | 73 => ⟨S4096, .i32⟩
  | 74 => ⟨S4096, .i32⟩
  | 75 => ⟨S4096, .f32⟩
  | 76 => ⟨S4096x1, .f32⟩
  | 77 => ⟨S4096x256, .f32⟩
  | 78 => ⟨S4096x256, .f32⟩
  | 79 => ⟨S4096x256, .f32⟩
  | 80 => ⟨S4096x1x256, .f32⟩
  | 81 => ⟨S4096x256, .f32⟩
  | 82 => ⟨S4096x256, .f32⟩
  | 83 => ⟨S4096x1x256, .f32⟩
  | 84 => ⟨S4096x256, .f32⟩
  | 85 => ⟨S_, .f32⟩
  | 86 => ⟨S8x256, .f32⟩
  | 87 => ⟨S4088x256, .f32⟩
  | 88 => ⟨S4096x256, .f32⟩
  | 89 => ⟨S_, .i32⟩
  | 90 => ⟨S4096, .i32⟩
  | 91 => ⟨S4096, .i32⟩
  | 92 => ⟨S4096, .f32⟩
  | 93 => ⟨S4096x1, .f32⟩
  | 94 => ⟨S4096x256, .f32⟩
  | 95 => ⟨S4096x256, .f32⟩
  | 96 => ⟨S4096x256, .f32⟩
  | 97 => ⟨S4096x1x256, .f32⟩
  | 98 => ⟨S4096x256, .f32⟩
  | 99 => ⟨S4096x256, .f32⟩
  | 100 => ⟨S4096x1x256, .f32⟩
  | 101 => ⟨S4096x256, .f32⟩
  | 102 => ⟨S_, .f32⟩
  | 103 => ⟨S16x256, .f32⟩
  | 104 => ⟨S4080x256, .f32⟩
  | 105 => ⟨S4096x256, .f32⟩
  | 106 => ⟨S_, .i32⟩
  | 107 => ⟨S4096, .i32⟩
  | 108 => ⟨S4096, .i32⟩
  | 109 => ⟨S4096, .f32⟩
  | 110 => ⟨S4096x1, .f32⟩
  | 111 => ⟨S4096x256, .f32⟩
  | 112 => ⟨S4096x256, .f32⟩
  | 113 => ⟨S4096x256, .f32⟩
  | 114 => ⟨S4096x1x256, .f32⟩
  | 115 => ⟨S4096x256, .f32⟩
  | 116 => ⟨S4096x256, .f32⟩
  | 117 => ⟨S4096x1x256, .f32⟩
  | 118 => ⟨S4096x1x256, .f32⟩
  | 119 => ⟨S4096x1x256, .f32⟩
  | 120 => ⟨S4096x1x256, .f32⟩
  | 121 => ⟨S4096x4x256, .f32⟩
  | 122 => ⟨S4x256x256, .f32⟩
  | 123 => ⟨S4x256x4096, .f32⟩
  | 124 => ⟨S4096x4x256, .f32⟩
  | 125 => ⟨S4096x1024, .f32⟩
  | 126 => ⟨S4096x4x256, .f32⟩
  | 127 => ⟨S256x4x256, .f32⟩
  | _ => ⟨S4096x8192, .f32⟩

abbrev hbmTy0_1 (i : Nat) : BufTy := match i % 128 with
  | 0 => ⟨S256x4x256, .f32⟩
  | 1 => ⟨S4x4096x256, .f32⟩
  | 2 => ⟨S_, .f32⟩
  | 3 => ⟨S4x4096x256, .f32⟩
  | 4 => ⟨S4x4096x256, .f32⟩
  | 5 => ⟨S_, .f32⟩
  | 6 => ⟨S4x4096, .f32⟩
  | 7 => ⟨S_, .f32⟩
  | 8 => ⟨S4x4096, .f32⟩
  | 9 => ⟨S4x4096, .f32⟩
  | 10 => ⟨S4x4096x1, .f32⟩
  | 11 => ⟨S4x4096x256, .f32⟩
  | 12 => ⟨S4x4096x256, .f32⟩
  | 13 => ⟨S4x4096x256, .f32⟩
  | 14 => ⟨S_, .f32⟩
  | 15 => ⟨S4x4096, .f32⟩
  | 16 => ⟨S4x4096x1, .f32⟩
  | 17 => ⟨S4x4096x256, .f32⟩
  | 18 => ⟨S4x4096x256, .f32⟩
  | 19 => ⟨S4x256x4096, .f32⟩
  | 20 => ⟨S4096x4x256, .f32⟩
  | 21 => ⟨S4096x1024, .f32⟩
  | 22 => ⟨S4096x4x256, .f32⟩
  | 23 => ⟨S4096x1024, .f32⟩
  | 24 => ⟨S1024x1024, .f32⟩
  | 25 => ⟨S4096x1024, .f32⟩
  | 26 => ⟨S1024x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S1024, .f32⟩
  | 50 => ⟨S1x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S4096x1024, .f32⟩
  | 65 => ⟨S1024x1024, .f32⟩
  | 66 => ⟨S4096x1024, .f32⟩
  | 67 => ⟨S4096x1024, .f32⟩
  | 68 => ⟨S4096x1024, .bf16⟩
  | 69 => ⟨S4096x1024, .bf16⟩
  | 70 => ⟨S4096x1024, .bf16⟩
  | 71 => ⟨S4096x1024, .bf16⟩
  | 72 => ⟨S4096x1024, .bf16⟩
  | 73 => ⟨S4096x1024, .bf16⟩
  | 74 => ⟨S4096x1024, .bf16⟩
  | 75 => ⟨S4096x1024, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_call0_cst : Ref sig .tc := ⟨.hbm, 42, rfl⟩
abbrev main_call0_call0_v0 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_1 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_2 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_3 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_6 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_c_7 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_8 : Ref sig .tc := ⟨.hbm, 130, rfl⟩
abbrev main_v108 : Ref sig .tc := ⟨.hbm, 131, rfl⟩
abbrev main_v109 : Ref sig .tc := ⟨.hbm, 132, rfl⟩
abbrev main_cst_9 : Ref sig .tc := ⟨.hbm, 133, rfl⟩
abbrev main_v110 : Ref sig .tc := ⟨.hbm, 134, rfl⟩
abbrev main_cst_10 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_11 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_12 : Ref sig .tc := ⟨.hbm, 162, rfl⟩
abbrev main_v136 : Ref sig .tc := ⟨.hbm, 163, rfl⟩
abbrev main_v137 : Ref sig .tc := ⟨.hbm, 164, rfl⟩
abbrev main_cst_13 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_14 : Ref sig .tc := ⟨.hbm, 171, rfl⟩
abbrev main_v143 : Ref sig .tc := ⟨.hbm, 172, rfl⟩
abbrev main_v144 : Ref sig .tc := ⟨.hbm, 173, rfl⟩
abbrev main_cst_15 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_cst_16 : Ref sig .tc := ⟨.hbm, 185, rfl⟩
abbrev main_v155 : Ref sig .tc := ⟨.hbm, 186, rfl⟩
abbrev main_v156 : Ref sig .tc := ⟨.hbm, 187, rfl⟩
abbrev main_cst_17 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩

abbrev nD : Nat := 1
abbrev τ : Topo := Topo.v7x

variable {F : FTy → Type} [FloatOps F]
-- ==== InKernel.lean ====
abbrev S4096x8192 : Shape := ⟨2, ![4096, 8192]⟩
abbrev S4096x1024 : Shape := ⟨2, ![4096, 1024]⟩
abbrev S1x1024 : Shape := ⟨2, ![1, 1024]⟩
abbrev S1x1024x8192 : Shape := ⟨3, ![1, 1024, 8192]⟩
abbrev S1024x8192 : Shape := ⟨2, ![1024, 8192]⟩
abbrev S8x1024 : Shape := ⟨2, ![8, 1024]⟩
abbrev S512x8192 : Shape := ⟨2, ![512, 8192]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024x8192, .f32⟩
  | .hbm, ⟨5, _⟩ => ⟨S4096x8192, .bf16⟩
  | .hbm, ⟨6, _⟩ => ⟨S1024x8192, .f32⟩
  | .hbm, ⟨7, _⟩ => ⟨S1024x8192, .bf16⟩
  | .hbm, ⟨8, _⟩ => ⟨S4096x1024, .f32⟩
  | .hbm, ⟨9, _⟩ => ⟨S8x1024, .f32⟩
  | .local _ .vmem, ⟨0, _⟩ => ⟨S512x8192, .bf16⟩
  | .local _ .vmem, ⟨1, _⟩ => ⟨S512x8192, .bf16⟩
  | .local _ .vmem, ⟨2, _⟩ => ⟨S1024x8192, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InReferenceIdeal.lean ====
abbrev S4096x8192 : Shape := ⟨2, ![4096, 8192]⟩
abbrev S4096x1024 : Shape := ⟨2, ![4096, 1024]⟩
abbrev S1x1024 : Shape := ⟨2, ![1, 1024]⟩
abbrev S1x1024x8192 : Shape := ⟨3, ![1, 1024, 8192]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8192 : Shape := ⟨2, ![1024, 8192]⟩
abbrev S7x1024 : Shape := ⟨2, ![7, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024x8192, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x8192, .f32⟩
  | .hbm, ⟨27, _⟩ => ⟨S4096x8192, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S_, .f32⟩
  | .hbm, ⟨57, _⟩ => ⟨S7x1024, .f32⟩
  | .hbm, ⟨58, _⟩ => ⟨S8x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== FfnKernel.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S2816x1024 : Shape := ⟨2, ![2816, 1024]⟩
abbrev S4096x2816 : Shape := ⟨2, ![4096, 2816]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 26
  | .vmem => 39
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1x2816x1024, .f32⟩
  | .hbm, ⟨8, _⟩ => ⟨S1x2816x1024, .bf16⟩
  | .hbm, ⟨9, _⟩ => ⟨S2816x1024, .bf16⟩
  | .hbm, ⟨10, _⟩ => ⟨S1x2816x1024, .f32⟩
  | .hbm, ⟨11, _⟩ => ⟨S1x2816x1024, .bf16⟩
  | .hbm, ⟨12, _⟩ => ⟨S2816x1024, .bf16⟩
  | .hbm, ⟨13, _⟩ => ⟨S1x2816x1024, .bf16⟩
  | .hbm, ⟨14, _⟩ => ⟨S2816x1024, .bf16⟩
  | .hbm, ⟨15, _⟩ => ⟨S1x1024, .f32⟩
  | .hbm, ⟨16, _⟩ => ⟨S4096x2816, .bf16⟩
  | .hbm, ⟨17, _⟩ => ⟨S4096x2816, .bf16⟩
  | .hbm, ⟨18, _⟩ => ⟨S4096x1024, .f32⟩
  | .hbm, ⟨19, _⟩ => ⟨S8x1024, .f32⟩
  | .hbm, ⟨20, _⟩ => ⟨S4096x1024, .f32⟩
  | .hbm, ⟨21, _⟩ => ⟨S4096x2816, .bf16⟩
  | .hbm, ⟨22, _⟩ => ⟨S4096x2816, .bf16⟩
  | .hbm, ⟨23, _⟩ => ⟨S4096x2816, .bf16⟩
  | .hbm, ⟨24, _⟩ => ⟨S4096x1024, .bf16⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S2816x1024, .bf16⟩
  | .local _ .vmem, ⟨8, _⟩ => ⟨S1x1024, .f32⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S1x1024, .f32⟩
  | .local _ .vmem, ⟨25, _⟩ => ⟨S2816x1024, .bf16⟩
  | .local _ .vmem, ⟨26, _⟩ => ⟨S2816x1024, .bf16⟩
  | .local _ .vmem, ⟨27, _⟩ => ⟨S2816x1024, .bf16⟩
  | .local _ .vmem, ⟨28, _⟩ => ⟨S256x1024, .f32⟩
  | .local _ .vmem, ⟨29, _⟩ => ⟨S256x1024, .f32⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x2816, .bf16⟩
  | .local _ .vmem, ⟨36, _⟩ => ⟨S256x1024, .bf16⟩
  | .local _ .vmem, ⟨37, _⟩ => ⟨S256x1024, .bf16⟩
  | .local _ .vmem, ⟨38, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc1_stg13_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S8x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== FfnReferenceIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S6x1024 : Shape := ⟨2, ![6, 1024]⟩
abbrev S8x1024 : Shape := ⟨2, ![8, 1024]⟩
abbrev S7x1024 : Shape := ⟨2, ![7, 1024]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024x2816, .f32⟩
  | 4 => ⟨S1x1024x2816, .f32⟩
  | 5 => ⟨S1x2816x1024, .f32⟩
  | 6 => ⟨S1024, .f32⟩
  | 7 => ⟨S_, .f32⟩
  | 8 => ⟨S4096x2816, .f32⟩
  | 9 => ⟨S_, .f32⟩
  | 10 => ⟨S4096x1024, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S1024x2816, .f32⟩
  | 33 => ⟨S4096x2816, .f32⟩
  | 34 => ⟨S4096x2816, .f32⟩
  | 35 => ⟨S1024x2816, .f32⟩
  | 36 => ⟨S4096x2816, .f32⟩
  | 37 => ⟨S4096x2816, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S4096x2816, .f32⟩
  | 50 => ⟨S4096x2816, .f32⟩
  | 51 => ⟨S4096x2816, .f32⟩
  | 52 => ⟨S2816x1024, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096, .f32⟩
  | 83 => ⟨S_, .f32⟩
  | 84 => ⟨S4096, .f32⟩
  | 85 => ⟨S4096, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S_, .f32⟩
  | 106 => ⟨S1024, .f32⟩
  | 107 => ⟨S4096x1024, .f32⟩
  | 108 => ⟨S_, .f32⟩
  | 109 => ⟨S4096, .f32⟩
  | 110 => ⟨S4096x1, .f32⟩
  | 111 => ⟨S4096x1024, .f32⟩
  | 112 => ⟨S4096x1024, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x2816, .f32⟩
  | 125 => ⟨S4096x2816, .f32⟩
  | 126 => ⟨S4096x2816, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S_, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1024, .f32⟩
  | 20 => ⟨S4096x1024, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S1x1024, .f32⟩
  | 33 => ⟨S_, .f32⟩
  | 34 => ⟨S1024, .f32⟩
  | 35 => ⟨S_, .f32⟩
  | 36 => ⟨S1024, .f32⟩
  | 37 => ⟨S1024, .f32⟩
  | 38 => ⟨S_, .f32⟩
  | 39 => ⟨S1024, .f32⟩
  | 40 => ⟨S1024, .f32⟩
  | 41 => ⟨S1x1024, .f32⟩
  | 42 => ⟨S1x1024, .f32⟩
  | 43 => ⟨S_, .f32⟩
  | 44 => ⟨S6x1024, .f32⟩
  | 45 => ⟨S8x1024, .f32⟩
  | 46 => ⟨S_, .f32⟩
  | 47 => ⟨S7x1024, .f32⟩
  | 48 => ⟨S8x1024, .f32⟩
  | 49 => ⟨S4096x2816, .bf16⟩
  | 50 => ⟨S4096x2816, .bf16⟩
  | 51 => ⟨S4096x2816, .bf16⟩
  | 52 => ⟨S4096x2816, .bf16⟩
  | 53 => ⟨S4096x2816, .bf16⟩
  | 54 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v25_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v25_1 : Ref sig .tc := ⟨.hbm, 49, rfl⟩
abbrev main_v25_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_cst_14 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_17 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_18 : Ref sig .tc := ⟨.hbm, 105, rfl⟩
abbrev main_v67 : Ref sig .tc := ⟨.hbm, 106, rfl⟩
abbrev main_v68 : Ref sig .tc := ⟨.hbm, 107, rfl⟩
abbrev main_cst_19 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_20 : Ref sig .tc := ⟨.hbm, 114, rfl⟩
abbrev main_v74 : Ref sig .tc := ⟨.hbm, 115, rfl⟩
abbrev main_v75 : Ref sig .tc := ⟨.hbm, 116, rfl⟩
abbrev main_cst_21 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_22 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_23 : Ref sig .tc := ⟨.hbm, 140, rfl⟩
abbrev main_v94 : Ref sig .tc := ⟨.hbm, 141, rfl⟩
abbrev main_v95 : Ref sig .tc := ⟨.hbm, 142, rfl⟩
abbrev main_cst_24 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_25 : Ref sig .tc := ⟨.hbm, 150, rfl⟩
abbrev main_v102 : Ref sig .tc := ⟨.hbm, 151, rfl⟩
abbrev main_v103 : Ref sig .tc := ⟨.hbm, 152, rfl⟩
abbrev main_cst_26 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_27 : Ref sig .tc := ⟨.hbm, 161, rfl⟩
abbrev main_v111 : Ref sig .tc := ⟨.hbm, 162, rfl⟩
abbrev main_cst_28 : Ref sig .tc := ⟨.hbm, 163, rfl⟩
abbrev main_v112 : Ref sig .tc := ⟨.hbm, 164, rfl⟩
abbrev main_v113 : Ref sig .tc := ⟨.hbm, 165, rfl⟩
abbrev main_cst_29 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_30 : Ref sig .tc := ⟨.hbm, 171, rfl⟩
abbrev main_v118 : Ref sig .tc := ⟨.hbm, 172, rfl⟩
abbrev main_v119 : Ref sig .tc := ⟨.hbm, 173, rfl⟩
abbrev main_cst_31 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩

abbrev nD : Nat := 1
abbrev τ : Topo := Topo.v7x

variable {F : FTy → Type} [FloatOps F]
-- ==== ProjKernel.lean ====
abbrev S4096x1024 : Shape := ⟨2, ![4096, 1024]⟩
abbrev S1x1024 : Shape := ⟨2, ![1, 1024]⟩
abbrev S1x1024x8192 : Shape := ⟨3, ![1, 1024, 8192]⟩
abbrev S1024x8192 : Shape := ⟨2, ![1024, 8192]⟩
abbrev S4096x8192 : Shape := ⟨2, ![4096, 8192]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8192, .f32⟩
  | .hbm, ⟨3, _⟩ => ⟨S1024x8192, .f32⟩
  | .hbm, ⟨4, _⟩ => ⟨S1024x8192, .bf16⟩
  | .hbm, ⟨5, _⟩ => ⟨S4096x8192, .bf16⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjReferenceIdeal.lean ====
abbrev S4096x1024 : Shape := ⟨2, ![4096, 1024]⟩
abbrev S1x1024 : Shape := ⟨2, ![1, 1024]⟩
abbrev S1x1024x8192 : Shape := ⟨3, ![1, 1024, 8192]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8192 : Shape := ⟨2, ![1024, 8192]⟩
abbrev S4096x8192 : Shape := ⟨2, ![4096, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8192, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x8192, .f32⟩
  | .hbm, ⟨21, _⟩ => ⟨S4096x8192, .f32⟩
  | .hbm, ⟨22, _⟩ => ⟨S4096x8192, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== GwKernel.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== GwReferenceIdeal.lean ====
abbrev S4096x1024 : Shape := ⟨2, ![4096, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1x1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GpoolKernel.lean ====
abbrev S4096x1024 : Shape := ⟨2, ![4096, 1024]⟩
abbrev S4x256x256 : Shape := ⟨3, ![4, 256, 256]⟩
abbrev S1024x1024 : Shape := ⟨2, ![1024, 1024]⟩
abbrev S1x256x256 : Shape := ⟨3, ![1, 256, 256]⟩
abbrev S256x256 : Shape := ⟨2, ![256, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x256x256, .f32⟩
  | .hbm, ⟨5, _⟩ => ⟨S4x256x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x256, .f32⟩
  | .local _ .vmem, ⟨5, _⟩ => ⟨S4x256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_37 : BitVec 32 := 0#32
  let v49 : BitVec 1 := Scalar.cmpi .ne v48 c0_i32_37
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GpoolReferenceIdeal.lean ====
abbrev S4096x1024 : Shape := ⟨2, ![4096, 1024]⟩
abbrev S_ : Shape := ⟨0, ![]⟩
abbrev S1x4x256x256 : Shape := ⟨4, ![1, 4, 256, 256]⟩
abbrev S4096x4x256 : Shape := ⟨3, ![4096, 4, 256]⟩
abbrev S4x256x256 : Shape := ⟨3, ![4, 256, 256]⟩
abbrev S4x256x4096 : Shape := ⟨3, ![4, 256, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1x4x256x256, .f32⟩
  | .hbm, ⟨4, _⟩ => ⟨S4096x4x256, .f32⟩
  | .hbm, ⟨5, _⟩ => ⟨S4x256x256, .f32⟩
  | .hbm, ⟨6, _⟩ => ⟨S4x256x4096, .f32⟩
  | .hbm, ⟨7, _⟩ => ⟨S4096x4x256, .f32⟩
  | .hbm, ⟨8, _⟩ => ⟨S4096x4x256, .f32⟩
  | .hbm, ⟨9, _⟩ => ⟨S4x256x4096, .f32⟩
  | .hbm, ⟨10, _⟩ => ⟨S4x256x256, .f32⟩
  | .hbm, ⟨11, _⟩ => ⟨S4x256x256, .f32⟩
  | .hbm, ⟨12, _⟩ => ⟨S1x4x256x256, .f32⟩
  | .hbm, ⟨13, _⟩ => ⟨S4x256x256, .f32⟩
  | .hbm, ⟨14, _⟩ => ⟨S4x256x256, .f32⟩
  | .hbm, ⟨15, _⟩ => ⟨S4x256x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== SmallKernel.lean ====
abbrev S1x1024 : Shape := ⟨2, ![1, 1024]⟩
abbrev S1024 : Shape := ⟨1, ![1024]⟩
abbrev S1x3x256 : Shape := ⟨3, ![1, 3, 256]⟩
abbrev S3x256 : Shape := ⟨2, ![3, 256]⟩
abbrev S_ : Shape := ⟨0, ![]⟩
abbrev S3x768 : Shape := ⟨2, ![3, 768]⟩
abbrev S3x1024 : Shape := ⟨2, ![3, 1024]⟩
abbrev S8x1024 : Shape := ⟨2, ![8, 1024]⟩

abbrev nBuf : Space → Nat
  | .hbm => 99
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x3x256, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x3x256, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1x3x256, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x3x256, .f32⟩
  | .hbm, ⟨24, _⟩ => ⟨S3x256, .f32⟩
  | .hbm, ⟨25, _⟩ => ⟨S_, .f32⟩
  | .hbm, ⟨26, _⟩ => ⟨S3x768, .f32⟩
  | .hbm, ⟨27, _⟩ => ⟨S3x1024, .f32⟩
  | .hbm, ⟨28, _⟩ => ⟨S1x1024, .f32⟩
  | .hbm, ⟨29, _⟩ => ⟨S8x1024, .f32⟩
  | .hbm, ⟨30, _⟩ => ⟨S3x256, .f32⟩
  | .hbm, ⟨31, _⟩ => ⟨S_, .f32⟩
  | .hbm, ⟨32, _⟩ => ⟨S3x768, .f32⟩
  | .hbm, ⟨33, _⟩ => ⟨S3x1024, .f32⟩
  | .hbm, ⟨34, _⟩ => ⟨S1x1024, .f32⟩
  | .hbm, ⟨35, _⟩ => ⟨S8x1024, .f32⟩
  | .hbm, ⟨36, _⟩ => ⟨S3x256, .f32⟩
  | .hbm, ⟨37, _⟩ => ⟨S_, .f32⟩
  | .hbm, ⟨38, _⟩ => ⟨S3x768, .f32⟩
  | .hbm, ⟨39, _⟩ => ⟨S3x1024, .f32⟩
  | .hbm, ⟨40, _⟩ => ⟨S1x1024, .f32⟩
  | .hbm, ⟨41, _⟩ => ⟨S8x1024, .f32⟩
  | .hbm, ⟨42, _⟩ => ⟨S3x256, .f32⟩
  | .hbm, ⟨43, _⟩ => ⟨S_, .f32⟩
  | .hbm, ⟨44, _⟩ => ⟨S3x768, .f32⟩
  | .hbm, ⟨45, _⟩ => ⟨S3x1024, .f32⟩
  | .hbm, ⟨46, _⟩ => ⟨S1x1024, .f32⟩
  | .hbm, ⟨47, _⟩ => ⟨S8x1024, .f32⟩
  | .hbm, ⟨48, _⟩ => ⟨S8x1024, .f32⟩
  | .hbm, ⟨49, _⟩ => ⟨S8x1024, .f32⟩
  | .hbm, ⟨50, _⟩ => ⟨S8x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S1x1024, .f32⟩
  | .hbm, ⟨64, _⟩ => ⟨S1024, .f32⟩
  | .hbm, ⟨65, _⟩ => ⟨S3x256, .f32⟩
  | .hbm, ⟨66, _⟩ => ⟨S1x3x256, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S1x1024, .f32⟩
  | .hbm, ⟨71, _⟩ => ⟨S1024, .f32⟩
  | .hbm, ⟨72, _⟩ => ⟨S1x1024, .f32⟩
  | .hbm, ⟨73, _⟩ => ⟨S1x1024, .f32⟩
  | .hbm, ⟨74, _⟩ => ⟨S1024, .f32⟩
  | .hbm, ⟨75, _⟩ => ⟨S1x1024, .f32⟩
  | .hbm, ⟨76, _⟩ => ⟨S1x1024, .f32⟩
  | .hbm, ⟨77, _⟩ => ⟨S1024, .f32⟩
  | .hbm, ⟨78, _⟩ => ⟨S1x1024, .f32⟩
  | .hbm, ⟨79, _⟩ => ⟨S1x1024, .f32⟩
  | .hbm, ⟨80, _⟩ => ⟨S1024, .f32⟩
  | .hbm, ⟨81, _⟩ => ⟨S3x256, .f32⟩
  | .hbm, ⟨82, _⟩ => ⟨S1x3x256, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S1x1024, .f32⟩
  | .hbm, ⟨87, _⟩ => ⟨S1024, .f32⟩
  | .hbm, ⟨88, _⟩ => ⟨S1x1024, .f32⟩
  | .hbm, ⟨89, _⟩ => ⟨S1x1024, .f32⟩
  | .hbm, ⟨90, _⟩ => ⟨S1024, .f32⟩
  | .hbm, ⟨91, _⟩ => ⟨S1x1024, .f32⟩
  | .hbm, ⟨92, _⟩ => ⟨S1x1024, .f32⟩
  | .hbm, ⟨93, _⟩ => ⟨S1024, .f32⟩
  | .hbm, ⟨94, _⟩ => ⟨S1x1024, .f32⟩
  | .hbm, ⟨95, _⟩ => ⟨S1x1024, .f32⟩
  | .hbm, ⟨96, _⟩ => ⟨S1024, .f32⟩
  | .hbm, ⟨97, _⟩ => ⟨S3x256, .f32⟩
  | .hbm, ⟨98, _⟩ => ⟨S1x3x256, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== SmallReferenceIdeal.lean ====
abbrev S1x1024 : Shape := ⟨2, ![1, 1024]⟩
abbrev S1024 : Shape := ⟨1, ![1024]⟩
abbrev S1x3x256 : Shape := ⟨3, ![1, 3, 256]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1024, .f32⟩
  | 5 => ⟨S1x3x256, .f32⟩
  | 6 => ⟨S1x1024, .f32⟩
  | 7 => ⟨S1x1024, .f32⟩
  | 8 => ⟨S1x1024, .f32⟩
  | 9 => ⟨S1x1024, .f32⟩
  | 10 => ⟨S1024, .f32⟩
  | 11 => ⟨S1x3x256, .f32⟩
  | 12 => ⟨S1x1024, .f32⟩
  | 13 => ⟨S1x1024, .f32⟩
  | 14 => ⟨S1x1024, .f32⟩
  | 15 => ⟨S1x1024, .f32⟩
  | 16 => ⟨S1024, .f32⟩
  | 17 => ⟨S1x3x256, .f32⟩
  | 18 => ⟨S1x1024, .f32⟩
  | 19 => ⟨S1x1024, .f32⟩
  | 20 => ⟨S1x1024, .f32⟩
  | 21 => ⟨S1x1024, .f32⟩
  | 22 => ⟨S1024, .f32⟩
  | 23 => ⟨S1x3x256, .f32⟩
  | 24 => ⟨S_, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S_, .f32⟩
  | 127 => ⟨S1x1024, .f32⟩
  | _ => ⟨S1x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1024, .f32⟩
  | 30 => ⟨S1024, .f32⟩
  | 31 => ⟨S_, .f32⟩
  | 32 => ⟨S1024, .f32⟩
  | 33 => ⟨S1024, .f32⟩
  | 34 => ⟨S1024, .f32⟩
  | 35 => ⟨S_, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S_, .f32⟩
  | 44 => ⟨S1024, .f32⟩
  | 45 => ⟨S1024, .f32⟩
  | 46 => ⟨S_, .f32⟩
  | 47 => ⟨S1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S_, .f32⟩
  | 59 => ⟨S1024, .f32⟩
  | 60 => ⟨S1024, .f32⟩
  | 61 => ⟨S_, .f32⟩
  | 62 => ⟨S1x3x256, .f32⟩
  | 63 => ⟨S1x3x256, .f32⟩
  | 64 => ⟨S_, .f32⟩
  | 65 => ⟨S1x3x256, .f32⟩
  | 66 => ⟨S1x3x256, .f32⟩
  | 67 => ⟨S1x3x256, .f32⟩
  | 68 => ⟨S_, .f32⟩
  | 69 => ⟨S1x3x256, .f32⟩
  | 70 => ⟨S1x3x256, .f32⟩
  | 71 => ⟨S1x3x256, .f32⟩
  | 72 => ⟨S_, .f32⟩
  | 73 => ⟨S1x3x256, .f32⟩
  | 74 => ⟨S1x3x256, .f32⟩
  | 75 => ⟨S1x3x256, .f32⟩
  | 76 => ⟨S_, .f32⟩
  | 77 => ⟨S1x3x256, .f32⟩
  | 78 => ⟨S1x3x256, .f32⟩
  | 79 => ⟨S_, .f32⟩
  | 80 => ⟨S1x3x256, .f32⟩
  | 81 => ⟨S1x3x256, .f32⟩
  | 82 => ⟨S1x3x256, .f32⟩
  | 83 => ⟨S_, .f32⟩
  | 84 => ⟨S1x3x256, .f32⟩
  | 85 => ⟨S1x3x256, .f32⟩
  | 86 => ⟨S1x3x256, .f32⟩
  | 87 => ⟨S_, .f32⟩
  | 88 => ⟨S1x3x256, .f32⟩
  | 89 => ⟨S1x3x256, .f32⟩
  | 90 => ⟨S1x3x256, .f32⟩
  | 91 => ⟨S_, .f32⟩
  | 92 => ⟨S1x3x256, .f32⟩
  | 93 => ⟨S1x3x256, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== ChipsKernel.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S3x128x1024, .f32⟩
  | .hbm, ⟨2, _⟩ => ⟨S3x128x1024, .bf16⟩
  | .hbm, ⟨3, _⟩ => ⟨S128x1024, .f32⟩
  | .local _ .vmem, ⟨0, _⟩ => ⟨S128x1024, .f32⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ChipsReferenceIdeal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .f32⟩
  | .hbm, ⟨2, _⟩ => ⟨S_, .f32⟩
  | .hbm, ⟨3, _⟩ => ⟨S128x1024, .f32⟩
  | .hbm, ⟨4, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BigKernel.lean ====
abbrev S1x256x1024 : Shape := ⟨3, ![1, 256, 1024]⟩
abbrev S128x1024 : Shape := ⟨2, ![128, 1024]⟩
abbrev S1 : Shape := ⟨1, ![1]⟩
abbrev S256x1024 : Shape := ⟨2, ![256, 1024]⟩

abbrev nBuf : Space → Nat
  | .hbm => 16
  | .vmem => 18
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BigReferenceIdeal.lean ====
abbrev S1x256x1024 : Shape := ⟨3, ![1, 256, 1024]⟩
abbrev S128x1024 : Shape := ⟨2, ![128, 1024]⟩
abbrev S1 : Shape := ⟨1, ![1]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Kv.Run.lean ====
/- THE RUN OF THE TWO CALLS on the memory bank, with every result named: the contents of each unscoped buffer after
   the last region (`Gen.W4`), read back to the region whose output it is.  -/
module

public import proofs.«01_k».proof.Proof.Gen.KvKernelIdeal.Frame
public import Idealize.ShloMosaic.Lib.Claim

@[expose] public section

set_option maxRecDepth 16384

noncomputable section

namespace Cert.KvKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KvKernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- What a TensorCore buffer holds when both calls have run. -/
abbrev final (c : Dev nD) (b : Ref sig .tc) : Buf (Elt F) ((c : Thread nD τ).loc b) := W4 m ρ c (Proc.devRef .tc b)

/-- The results of the first call (the norm, the keys, the values) are inputs of the second, or not touched by it. -/
theorem final_memn (c : Dev nD) : final m ρ c main_v3_0 = (dat0 (V1 m ρ) c).arrAt 3 cfg0.N :=
  ((W4_of m ρ c main_v3_0 (by decide)).trans (W3_of m ρ c main_v3_0 (by decide))).trans (W2_arr m ρ c 3)
theorem final_k (c : Dev nD) : final m ρ c main_v3_1 = (dat0 (V1 m ρ) c).arrAt 4 cfg0.N :=
  ((W4_of m ρ c main_v3_1 (by decide)).trans (W3_of m ρ c main_v3_1 (by decide))).trans (W2_arr m ρ c 4)
theorem final_v (c : Dev nD) : final m ρ c main_v3_2 = (dat0 (V1 m ρ) c).arrAt 5 cfg0.N :=
  ((W4_of m ρ c main_v3_2 (by decide)).trans (W3_of m ρ c main_v3_2 (by decide))).trans (W2_arr m ρ c 5)
theorem final_gw (c : Dev nD) : final m ρ c main_v6_0 = (dat1 (V3 m ρ) c).arrAt 6 cfg1.N := W4_arr m ρ c 6
theorem final_gwb (c : Dev nD) : final m ρ c main_v6_1 = (dat1 (V3 m ρ) c).arrAt 7 cfg1.N := W4_arr m ρ c 7
theorem final_stat (c : Dev nD) : final m ρ c main_v6_2 = (dat1 (V3 m ρ) c).arrAt 8 cfg1.N := W4_arr m ρ c 8

-- the segment list's entries are read at default transparency when the chain is checked
set_option backward.isDefEq.respectTransparency.types false in
/-- Every weakly fair execution ends with each result at its `final` contents and the arguments as launched. -/
theorem run : θ_run defs (onTc (τ := τ) (main (F := F))) ⟨m, fun _ => 0, ρ⟩ (fun r => ∀ c : Dev nD,
      r.2.mem ((c.tc : Thread nD τ).loc main_v3_0) = final m ρ c main_v3_0
      ∧ r.2.mem ((c.tc : Thread nD τ).loc main_v3_1) = final m ρ c main_v3_1
      ∧ r.2.mem ((c.tc : Thread nD τ).loc main_v3_2) = final m ρ c main_v3_2
      ∧ r.2.mem ((c.tc : Thread nD τ).loc main_v6_0) = final m ρ c main_v6_0
      ∧ r.2.mem ((c.tc : Thread nD τ).loc main_v6_1) = final m ρ c main_v6_1
      ∧ r.2.mem ((c.tc : Thread nD τ).loc main_v6_2) = final m ρ c main_v6_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v3_0 (by decide)), h c _ (mem_uc main_v3_1 (by decide)), h c _ (mem_uc main_v3_2 (by decide)),
       h c _ (mem_uc main_v6_0 (by decide)), h c _ (mem_uc main_v6_1 (by decide)), h c _ (mem_uc main_v6_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KvKernelIdeal.Run
-- ==== Proof.Kv.Value.lean ====
/- WHAT THE TWO CALLS LEAVE is what the reference computes, over the extended reals. -/
module

public import proofs.«01_k».proof.Proof.Kv.Run
public import proofs.«01_k».proof.Proof.Gen.KvReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvKernelIdeal.Value

open Idealize.ShloMosaic Idealize.ShloMosaic.TcCoe Idealize.ShloMosaic.Tactic
open Idealize.SL Idealize.SL.Sem
open Cert.KvKernelIdeal.Gen Cert.KvKernelIdeal.Run
open Cert.KvReferenceIdeal.Read

variable (m : (ℓ : Loc nD τ sig) → Buf (Elt Ideal) ℓ) (ρ : Dev nD → PrngReg)

theorem at_zero {a b n : Nat} (h : a = 0) : a * b + n = n := by subst h; omega

/-- A sum over 2048 columns is the four sums over its blocks of 512. -/
theorem sum_blocks (f : Fin 2048 → EReal) : ∑ k, f k
    = ∑ i : Fin 512, f ⟨i.val, by omega⟩ + ∑ i : Fin 512, f ⟨512 + i.val, by omega⟩ + ∑ i : Fin 512, f ⟨1024 + i.val, by omega⟩
      + ∑ i : Fin 512, f ⟨1536 + i.val, by omega⟩ := by
  rw [Fin.sum_univ_add (a := 1536) (b := 512) f, Fin.sum_univ_add (a := 1024) (b := 512), Fin.sum_univ_add (a := 512) (b := 512)]
  rfl

/-- The weights as the calls take them: cast, in four blocks of 512 columns. -/
abbrev wblocks (c : Dev nD) : Vec Ideal S4x1024x512 .bf16 :=
  transpose S4x1024x512 [1, 0, 2] (shapeCast S1024x4x512 (truncf .bf16 (show FVec Ideal S1x1024x2048 .f32 from m ((c : Thread nD τ).loc main_arg3)) bitsLt_bf16_f32 : FVec Ideal S1x1024x2048 .bf16)
    shapeCasts_S1x1024x2048_S1024x4x512) transposes_S1024x4x512_S4x1024x512_1_0_2

theorem V1_w (c : Dev nD) : V1 m ρ c main_v2 = wblocks m c := by
  show StableHlo.after hostOps0 _ _ = _
  after_results_simp
  rfl
theorem V3_w (c : Dev nD) : V3 m ρ c main_v2 = wblocks m c :=
  ((W3_of m ρ c main_v2 (by decide)).trans (W2_of m ρ c main_v2 (by decide))).trans (V1_w m ρ c)
theorem V3_dk (c : Dev nD) : V3 m ρ c main_v4 = extractStridedSlice S256x1024 ![0, 0] (m ((c : Thread nD τ).loc main_arg0) : FVec Ideal S256x2048 .f32) slices_S256x2048_S256x1024_0_0 := by
  show StableHlo.after hostOps1 _ _ = _
  after_results_simp
  rw [W2_args m ρ c main_arg0 (by decide)]
theorem V3_dv (c : Dev nD) : V3 m ρ c main_v5 = extractStridedSlice S256x1024 ![0, 1024] (m ((c : Thread nD τ).loc main_arg0) : FVec Ideal S256x2048 .f32) slices_S256x2048_S256x1024_0_1024 := by
  show StableHlo.after hostOps1 _ _ = _
  after_results_simp
  rw [W2_args m ρ c main_arg0 (by decide)]
theorem V3_memn (c : Dev nD) : V3 m ρ c main_v3_0 = final m ρ c main_v3_0 :=
  (W4_of m ρ c main_v3_0 (by decide)).symm

theorem blk0_0 (c : Dev nD) (t : Fin cfg0.N) : iblk0 (V1 m ρ) c 0 t = m ((c : Thread nD τ).loc main_arg1) := by
  obtain rfl : t = ⟨0, by decide⟩ := Subsingleton.elim (α := Fin 1) _ _
  rw [← W1_args m ρ c main_arg1 (by decide)]
  exact funext fun j => congrArg (V1 m ρ c main_arg1) (by blk_ext <;> first | exact at_zero rfl | rfl)
theorem blk0_1 (c : Dev nD) (t : Fin cfg0.N) : iblk0 (V1 m ρ) c 1 t = m ((c : Thread nD τ).loc main_arg2) := by
  obtain rfl : t = ⟨0, by decide⟩ := Subsingleton.elim (α := Fin 1) _ _
  rw [← W1_args m ρ c main_arg2 (by decide)]
  exact funext fun j => congrArg (V1 m ρ c main_arg2) (by blk_ext <;> first | exact at_zero rfl | rfl)
theorem blk0_2 (c : Dev nD) (t : Fin cfg0.N) : iblk0 (V1 m ρ) c 2 t = wblocks m c := by
  obtain rfl : t = ⟨0, by decide⟩ := Subsingleton.elim (α := Fin 1) _ _
  rw [← V1_w m ρ c]
  exact funext fun j => congrArg (V1 m ρ c main_v2) (by blk_ext <;> first | exact at_zero rfl | rfl)
theorem blk1_0 (c : Dev nD) (t : Fin cfg1.N) : iblk1 (V3 m ρ) c 0 t = extractStridedSlice S256x1024 ![0, 0] (m ((c : Thread nD τ).loc main_arg0) : FVec Ideal S256x2048 .f32) slices_S256x2048_S256x1024_0_0 := by
  obtain rfl : t = ⟨0, by decide⟩ := Subsingleton.elim (α := Fin 1) _ _
  rw [← V3_dk m ρ c]
  exact funext fun j => congrArg (V3 m ρ c main_v4) (by blk_ext <;> first | exact at_zero rfl | rfl)
theorem blk1_1 (c : Dev nD) (t : Fin cfg1.N) : iblk1 (V3 m ρ) c 1 t = extractStridedSlice S256x1024 ![0, 1024] (m ((c : Thread nD τ).loc main_arg0) : FVec Ideal S256x2048 .f32) slices_S256x2048_S256x1024_0_1024 := by
  obtain rfl : t = ⟨0, by decide⟩ := Subsingleton.elim (α := Fin 1) _ _
  rw [← V3_dv m ρ c]
  exact funext fun j => congrArg (V3 m ρ c main_v5) (by blk_ext <;> first | exact at_zero rfl | rfl)
theorem blk1_3 (c : Dev nD) (t : Fin cfg1.N) : iblk1 (V3 m ρ) c 3 t = m ((c : Thread nD τ).loc main_arg1) := by
  obtain rfl : t = ⟨0, by decide⟩ := Subsingleton.elim (α := Fin 1) _ _
  rw [← W3_args m ρ c main_arg1 (by decide)]
  exact funext fun j => congrArg (V3 m ρ c main_arg1) (by blk_ext <;> first | exact at_zero rfl | rfl)
theorem blk1_5 (c : Dev nD) (t : Fin cfg1.N) : iblk1 (V3 m ρ) c 5 t = wblocks m c := by
  obtain rfl : t = ⟨0, by decide⟩ := Subsingleton.elim (α := Fin 1) _ _
  rw [← V3_w m ρ c]
  exact funext fun j => congrArg (V3 m ρ c main_v2) (by blk_ext <;> first | exact at_zero rfl | rfl)

theorem memn (c : Dev nD) : final m ρ c main_v3_0
    = val_main_v32 (m ((c : Thread nD τ).loc main_arg1)) (m ((c : Thread nD τ).loc main_arg2)) := by
  rw [final_memn]
  refine (dat0 (V1 m ρ) c).arrAt_eq_of_after_last 3 ⟨0, by decide⟩ (by decide +kernel) _ fun (j : S256x1024.Idx) => ?_
  rw [after0_3]
  blk_simp
  frame_out
  rw [blk0_0, blk0_1]
  unfold k0_pay2
  unfold val_main_v32 val_main_v13 val_main_v12 val_main_v11 val_main_v10 val_main_v9 val_main_v8 val_main_v7 val_main_v6 val_main_v5 val_main_v4 val_main_v3 val_main_v2 val_main_v1 val_main_v0 val_main_cst_0 val_main_cst_1 val_main_cst
  pointwise!

theorem blk1_2 (c : Dev nD) (t : Fin cfg1.N) : iblk1 (V3 m ρ) c 2 t = val_main_v32 (m ((c : Thread nD τ).loc main_arg1)) (m ((c : Thread nD τ).loc main_arg2)) := by
  obtain rfl : t = ⟨0, by decide⟩ := Subsingleton.elim (α := Fin 1) _ _
  rw [← memn m ρ c, ← V3_memn m ρ c]
  exact funext fun j => congrArg (V3 m ρ c main_v3_0) (by blk_ext <;> first | exact at_zero rfl | rfl)

theorem k (c : Dev nD) : final m ρ c main_v3_1 = val_main_v33 (m ((c : Thread nD τ).loc main_arg1)) (m ((c : Thread nD τ).loc main_arg2)) (m ((c : Thread nD τ).loc main_arg3)) := by
  rw [final_k]
  refine (dat0 (V1 m ρ) c).arrAt_eq_of_after_last 4 ⟨0, by decide⟩ (by decide +kernel) _ fun (j : S256x1024.Idx) => ?_
  rw [after0_4]
  blk_simp
  frame_out
  rw [blk0_0, blk0_1, blk0_2]
  change View.canon (s := S256x1024) _ j = _
  canon_tiles x h
  all_goals
    unfold_payloads
    unfold wblocks val_main_v33 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst_0 val_main_cst_1 val_main_cst
    pointwise
    rw [show j 0 = x 0 from Fin.ext h0]
  · simp only [h1]
  · simp only [h1]

theorem v (c : Dev nD) : final m ρ c main_v3_2 = val_main_v34 (m ((c : Thread nD τ).loc main_arg1)) (m ((c : Thread nD τ).loc main_arg2)) (m ((c : Thread nD τ).loc main_arg3)) := by
  rw [final_v]
  refine (dat0 (V1 m ρ) c).arrAt_eq_of_after_last 5 ⟨0, by decide⟩ (by decide +kernel) _ fun (j : S256x1024.Idx) => ?_
  rw [after0_5]
  blk_simp
  frame_out
  rw [blk0_0, blk0_1, blk0_2]
  change View.canon (s := S256x1024) _ j = _
  canon_tiles x h
  all_goals
    unfold_payloads
    unfold wblocks val_main_v34 val_main_v17 val_main_v15 val_main_v14 val_main_v13 val_main_v12 val_main_v11 val_main_v10 val_main_v9 val_main_v8 val_main_v7 val_main_v6 val_main_v5 val_main_v4 val_main_v3 val_main_v2 val_main_v1 val_main_v0 val_main_cst_0 val_main_cst_1 val_main_cst
    pointwise
    rw [show j 0 = x 0 from Fin.ext h0]
  · simp only [h1, ← Nat.add_assoc, Nat.reduceAdd]
  · simp only [h1]

theorem gw (c : Dev nD) : final m ρ c main_v6_0 = val_main_v29 (m ((c : Thread nD τ).loc main_arg0)) (m ((c : Thread nD τ).loc main_arg1)) (m ((c : Thread nD τ).loc main_arg2)) := by
  rw [final_gw]
  refine (dat1 (V3 m ρ) c).arrAt_eq_of_after_last 6 ⟨0, by decide⟩ (by decide +kernel) _ fun (j : S4x1024x512.Idx) => ?_
  rw [after1_6]
  unfold outsAt1 out1_A_6
  blk_simp
  frame_out
  simp only [read_unread_whole, blk1_0, blk1_1, blk1_2]
  change View.canon (s := S4x1024x512) _ j = _
  canon_tiles x h
  all_goals
    unfold_payloads
    unfold val_main_v32 val_main_v29 val_main_v28 val_main_v27 val_main_v21 val_main_v19 val_main_v18
    pointwise
    rw [show j 1 = x 1 from Fin.ext h1]
  · simp only [show (j 0).val * 512 + (j 2).val = 1024 + (512 + (x 2).val) from by omega]
    exact Finset.sum_congr rfl fun i _ => mul_comm _ _
  · simp only [show (j 0).val * 512 + (j 2).val = 1024 + (x 2).val from by omega]
    exact Finset.sum_congr rfl fun i _ => mul_comm _ _
  · simp only [show (j 0).val * 512 + (j 2).val = 512 + (x 2).val from by omega]
    exact Finset.sum_congr rfl fun i _ => mul_comm _ _
  · simp only [show (j 0).val * 512 + (j 2).val = (x 2).val from by omega]
    exact Finset.sum_congr rfl fun i _ => mul_comm _ _

theorem gwb (c : Dev nD) : final m ρ c main_v6_1 = val_main_v35 (m ((c : Thread nD τ).loc main_arg0)) (m ((c : Thread nD τ).loc main_arg1)) (m ((c : Thread nD τ).loc main_arg2)) := by
  rw [final_gwb]
  refine (dat1 (V3 m ρ) c).arrAt_eq_of_after_last 7 ⟨0, by decide⟩ (by decide +kernel) _ fun (j : S4x1024x512.Idx) => ?_
  rw [after1_7]
  unfold outsAt1 out1_A_7
  blk_simp
  frame_out
  simp only [read_unread_whole, blk1_0, blk1_1, blk1_2]
  change View.canon (s := S4x1024x512) _ j = _
  canon_tiles x h
  all_goals
    unfold_payloads
    unfold val_main_v32 val_main_v35 val_main_v29 val_main_v28 val_main_v27 val_main_v21 val_main_v19 val_main_v18
    pointwise
    rw [show j 1 = x 1 from Fin.ext h1]
  · simp only [show (j 0).val * 512 + (j 2).val = 1024 + (512 + (x 2).val) from by omega]
    exact Finset.sum_congr rfl fun i _ => mul_comm _ _
  · simp only [show (j 0).val * 512 + (j 2).val = 1024 + (x 2).val from by omega]
    exact Finset.sum_congr rfl fun i _ => mul_comm _ _
  · simp only [show (j 0).val * 512 + (j 2).val = 512 + (x 2).val from by omega]
    exact Finset.sum_congr rfl fun i _ => mul_comm _ _
  · simp only [show (j 0).val * 512 + (j 2).val = (x 2).val from by omega]
    exact Finset.sum_congr rfl fun i _ => mul_comm _ _

theorem stat (c : Dev nD) : final m ρ c main_v6_2 = val_main_v31 (m ((c : Thread nD τ).loc main_arg0)) (m ((c : Thread nD τ).loc main_arg1)) (m ((c : Thread nD τ).loc main_arg3)) := by
  rw [final_stat]
  refine (dat1 (V3 m ρ) c).arrAt_eq_of_after_last 8 ⟨0, by decide⟩ (by decide +kernel) _ fun (j : S8x1024.Idx) => ?_
  rw [after1_8]
  unfold outsAt1 out1_A_8
  blk_simp
  frame_out
  simp only [read_unread_whole, blk1_0, blk1_1, blk1_3, blk1_5]
  unfold wblocks val_main_v31 val_main_v30 val_main_cst_4
  change View.canon (s := S8x1024) _ j = _
  by_cases hj : (j 0).val < 1
  · have hjr : j = (Rect.unit (s := S8x1024) ![0, 0] ![1, 1024] inb_S8x1024_S1x1024_0_0).emb (ix2 (0 : Fin 1) (j 1)) := by
      funext a; apply Fin.ext; fin_cases a
      · show (j 0).val = _; simp; omega
      · simp
    refine (congrArg (View.canon _) hjr).trans ((View.canon_cons_emb _ _ _ _).trans ?_)
    unfold_payloads
    unfold val_main_v26 val_main_v25 val_main_v24 val_main_v23 val_main_v22 val_main_v20 val_main_v14 val_main_v10 val_main_v9 val_main_v8 val_main_v7 val_main_v6 val_main_v5 val_main_v4 val_main_v3 val_main_v2 val_main_v1 val_main_cst_0 val_main_cst_1 val_main_cst val_main_cst_2 val_main_cst_3
    pointwise
    rw [dif_pos hj, Fin.sum_univ_one]
    refine Finset.sum_congr rfl fun r _ => (mul_comm _ _).trans (congrArg _ ?_)
    rw [sum_blocks]
    simp only [← Nat.add_assoc, Nat.reduceAdd]
  · refine (View.canon_cons_of_not_mem _ _ ?_).trans ?_
    · intro h
      change j ∈ (Rect.unit (s := S8x1024) ![0, 0] ![1, 1024] inb_S8x1024_S1x1024_0_0).set at h
      have h0 : (j 0).val < 0 + 1 := (Rect.mem_set_unit.1 h 0).2
      omega
    · rw [View.canon_unit_zero (by decide)]
      unfold_payloads
      pointwise
      rw [dif_neg hj]

end Cert.KvKernelIdeal.Value
-- ==== Proof.Kv.Claim.lean ====
/- THE VALUE CLAIM of the two calls on the memory bank. -/
module

public import proofs.«01_k».proof.Defs
public import proofs.«01_k».proof.Proof.Kv.Value
public import proofs.«01_k».proof.Proof.Gen.KvReferenceIdeal
public import Idealize.ShloMosaic.Lib.Quiescent

@[expose] public section

noncomputable section

namespace Cert.Proof

open Idealize.ShloMosaic Idealize.ShloMosaic.TcCoe Idealize.SL.Sem

open Cert.KvKernelIdeal Cert.KvReferenceIdeal.Read in
theorem algebraic_kv : Cert.algebraic_KvKernelIdeal_KvReferenceIdeal
    (hKvKernelIdeal := Cert.KvKernelIdeal.Gen.facts) (hKvReferenceIdeal := Cert.KvReferenceIdeal.Gen.facts) := by
  intro m g m' g' _ hagree
  refine ⟨fun c => Run.final m g c main_v3_0, fun c => Run.final m g c main_v3_1, fun c => Run.final m g c main_v3_2,
    fun c => Run.final m g c main_v6_0, fun c => Run.final m g c main_v6_1, fun c => Run.final m g c main_v6_2, Run.run m g, ?_⟩
  refine (θ_run _ _ _).mono (fun r h c => ?_) (Cert.KvReferenceIdeal.Value.run m' g')
  obtain ⟨h0, h1, h2, h3, h4, h5, ha⟩ := h c
  obtain ⟨a0, a1, a2, a3⟩ := hagree c
  refine ⟨h0.trans ((val_main_v32_eq _ _).trans ?_), h1.trans ((val_main_v33_eq _ _ _).trans ?_), h2.trans ((val_main_v34_eq _ _ _).trans ?_),
    h3.trans ((val_main_v29_eq _ _ _).trans ?_), h4.trans ((val_main_v35_eq _ _ _).trans ?_), h5.trans ((val_main_v31_eq _ _ _).trans ?_), ha⟩
  · rw [a1, a2]; exact (Value.memn m g c).symm
  · rw [a1, a2, a3]; exact (Value.k m g c).symm
  · rw [a1, a2, a3]; exact (Value.v m g c).symm
  · rw [a0, a1, a2]; exact (Value.gw m g c).symm
  · rw [a0, a1, a2]; exact (Value.gwb m g c).symm
  · rw [a0, a1, a3]; exact (Value.stat m g c).symm

/-- The reference has host operations only: its frame is its run's, and it has no counter. -/
theorem quiescent_kv_reference : Cert.quiescent_KvReferenceIdeal (hKvReferenceIdeal := Cert.KvReferenceIdeal.Gen.facts) := fun m g _ =>
  (θ_run _ _ _).mono (fun _ h => ⟨fun c => (h c).2.2.2.2.2.2, sem_eq_zero_of_no_sems rfl _⟩) (Cert.KvReferenceIdeal.Value.run m g)

end Cert.Proof
-- ==== Proof.Mix.Frame.lean ====
/- THE RUN OF THE MIXER'S BACKWARD CALL. The body has two cases: at the first of its 16 points it clears the accumulators,
   at the others it goes on from what the point before left. What all nine carried or written buffers hold after a point is
   one record (`Out`), computed by one function per case from the case's run, and followed over the grid by recursion. -/
module

public import proofs.«01_k».proof.Proof.Gen.MixKernelIdeal.Frame.RunB
public import Idealize.ShloMosaic.Lib.Claim

@[expose] public section

set_option maxRecDepth 16384

noncomputable section

namespace Cert.MixKernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven output blocks and the two carried scratch buffers. -/
structure Out (F : FTy → Type) where
  dproj : Vec F S256x8192 .bf16
  dya : Vec F S256x1024 .bf16
  dpp : Vec F S256x1024 .bf16
  dyx : Vec F S256x1024 .bf16
  dk : Vec F S256x1024 .f32
  dv : Vec F S256x1024 .f32
  stat : Vec F S8x1024 .f32
  dconv : Vec F S272x1024 .f32
  dpn : Vec F S384x1024 .bf16

/-- The body's run at the first point. -/
def RA (c : Dev nD) (t : Fin cfg0.N) (h : t.val % 16 = 0) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t)
    (ms0_13 t) (hs0_13 t) (ms0_14 t) (hs0_14 t) (ms0_15 t) (hs0_15 t) (ms0_16 t) (hs0_16 t) (ms0_17 t) (hs0_17 t) (ms0_18 t) (hs0_18 t)
    (ms0_19 t) (hs0_19 t) (ms0_20 t) (hs0_20 t) (ms0_21 t) (hs0_21 t) (ms0_22 t) (hs0_22 t)
    scM0_0 (Memref.isWhole_whole _) scM0_1 (Memref.isWhole_whole _) scM0_2 (Memref.isWhole_whole _)
    ((hcond0_0 t).mpr h)
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t)

/-- The body's run at a later point, over what the point before left. -/
def RB (c : Dev nD) (t : Fin cfg0.N) (h : ¬t.val % 16 = 0) (s : Out F) :=
  kernelRun0_B (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t)
    (ms0_13 t) (hs0_13 t) (ms0_14 t) (hs0_14 t) (ms0_15 t) (hs0_15 t) (ms0_16 t) (hs0_16 t) (ms0_17 t) (hs0_17 t) (ms0_18 t) (hs0_18 t)
    (ms0_19 t) (hs0_19 t) (ms0_20 t) (hs0_20 t) (ms0_21 t) (hs0_21 t) (ms0_22 t) (hs0_22 t)
    scM0_0 (Memref.isWhole_whole _) scM0_1 (Memref.isWhole_whole _) scM0_2 (Memref.isWhole_whole _)
    (fun g => h ((hcond0_0 t).mp g))
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t)
    s.dk s.dv s.stat s.dconv s.dpn

/-- The contents a list of covering stores leaves. -/
def laid {sp : Space} {S : Shape} {e : EltTy} (W : View sig .tc sp S e) (L : List (View.Piece (Elt F) S e)) : Vec F S e :=
  W.read (Elt F) (W.writes (Elt F) W.junk L)

/-- What the first point leaves. -/
def outA (c : Dev nD) (t : Fin cfg0.N) (h : t.val % 16 = 0) : Out F where
  dproj := laid VO0_16 (RA m c t h).1
  dya := laid VO0_17 (RA m c t h).2.1
  dpp := laid VO0_18 (RA m c t h).2.2.1
  dyx := laid VO0_19 (RA m c t h).2.2.2.1
  dk := laid VO0_20 (RA m c t h).2.2.2.2.1
  dv := laid VO0_21 (RA m c t h).2.2.2.2.2.1
  stat := laid VO0_22 (RA m c t h).2.2.2.2.2.2.1
  dconv := laid VS0_1 (RA m c t h).2.2.2.2.2.2.2.1
  dpn := laid VS0_2 (RA m c t h).2.2.2.2.2.2.2.2.1

/-- What a later point leaves: the statistics and the carried pool rows are partly what the point before left. -/
def outB (c : Dev nD) (t : Fin cfg0.N) (h : ¬t.val % 16 = 0) (s : Out F) : Out F where
  dproj := laid VO0_16 (RB m c t h s).1
  dya := laid VO0_17 (RB m c t h s).2.1
  dpp := laid VO0_18 (RB m c t h s).2.2.1
  dyx := laid VO0_19 (RB m c t h s).2.2.2.1
  dk := laid VO0_20 (RB m c t h s).2.2.2.2.1
  dv := laid VO0_21 (RB m c t h s).2.2.2.2.2.1
  stat := (ms0_22 t).view.read (Elt F) ((ms0_22 t).view.writes (Elt F) ((hs0_22 t).unread s.stat) (RB m c t h s).2.2.2.2.2.2.1)
  dconv := laid VS0_1 (RB m c t h s).2.2.2.2.2.2.2.1
  dpn := scM0_2.view.read (Elt F) (scM0_2.view.writes (Elt F) ((Memref.isWhole_whole _).unread s.dpn) (RB m c t h s).2.2.2.2.2.2.2.2.1)

/-- What the buffers hold after point `n`. -/
def outs (c : Dev nD) : (n : ℕ) → n < cfg0.N → Out F
  | 0, hn => outA m c ⟨0, hn⟩ (Nat.zero_mod _)
  | n + 1, hn =>
    if h : (n + 1) % 16 = 0 then outA m c ⟨n + 1, hn⟩ h
    else outB m c ⟨n + 1, hn⟩ h (outs c n (Nat.lt_of_succ_lt hn))

theorem outs_A (c : Dev nD) (t : Fin cfg0.N) (h : t.val % 16 = 0) : outs m c t.val t.isLt = outA m c t h := by
  obtain ⟨n, hn⟩ := t
  cases n with
  | zero => rfl
  | succ n => exact dif_pos h

/-- The record before a point that is not the first. -/
abbrev prev (c : Dev nD) (t : Fin cfg0.N) : Out F := outs m c (t.val - 1) (Nat.lt_of_le_of_lt (Nat.sub_le _ _) t.isLt)

theorem outs_B (c : Dev nD) (t : Fin cfg0.N) (h : ¬t.val % 16 = 0) :
    outs m c t.val t.isLt = outB m c t h (prev m c t) := by
  obtain ⟨n, hn⟩ := t
  cases n with
  | zero => exact absurd (Nat.zero_mod _) h
  | succ n => exact dif_neg h

/-! ## The stores cover their buffers -/

theorem coverA_dproj (c : Dev nD) (t : Fin cfg0.N) (h : t.val % 16 = 0) (y : S256x8192.Idx) :
    ∃ pc ∈ (RA m c t h).1, y ∈ pc.1.set :=
  View.cover_of_tiledBy (RA m c t h).1 ![256, 256] (by sl_kernel_rfl) y

theorem coverA_dya (c : Dev nD) (t : Fin cfg0.N) (h : t.val % 16 = 0) (y : S256x1024.Idx) :
    ∃ pc ∈ (RA m c t h).2.1, y ∈ pc.1.set :=
  View.cover_of_tiledL (RA m c t h).2.1 S256x1024.size (by sl_kernel_rfl) y

theorem coverA_dpp (c : Dev nD) (t : Fin cfg0.N) (h : t.val % 16 = 0) (y : S256x1024.Idx) :
    ∃ pc ∈ (RA m c t h).2.2.1, y ∈ pc.1.set :=
  View.cover_of_tiledL (RA m c t h).2.2.1 S256x1024.size (by sl_kernel_rfl) y

theorem coverA_dyx (c : Dev nD) (t : Fin cfg0.N) (h : t.val % 16 = 0) (y : S256x1024.Idx) :
    ∃ pc ∈ (RA m c t h).2.2.2.1, y ∈ pc.1.set :=
  View.cover_of_tiledL (RA m c t h).2.2.2.1 S256x1024.size (by sl_kernel_rfl) y

theorem coverA_dk (c : Dev nD) (t : Fin cfg0.N) (h : t.val % 16 = 0) (y : S256x1024.Idx) :
    ∃ pc ∈ (RA m c t h).2.2.2.2.1, y ∈ pc.1.set :=
  View.cover_of_tiledBy (RA m c t h).2.2.2.2.1 ![256, 256] (by sl_kernel_rfl) y

theorem coverA_dv (c : Dev nD) (t : Fin cfg0.N) (h : t.val % 16 = 0) (y : S256x1024.Idx) :
    ∃ pc ∈ (RA m c t h).2.2.2.2.2.1, y ∈ pc.1.set :=
  View.cover_of_tiledBy (RA m c t h).2.2.2.2.2.1 ![256, 256] (by sl_kernel_rfl) y

theorem coverA_stat (c : Dev nD) (t : Fin cfg0.N) (h : t.val % 16 = 0) (y : S8x1024.Idx) :
    ∃ pc ∈ (RA m c t h).2.2.2.2.2.2.1, y ∈ pc.1.set :=
  View.cover_of_tiledBy (RA m c t h).2.2.2.2.2.2.1 ![1, 1024] (by sl_kernel_rfl) y

theorem coverA_dconv (c : Dev nD) (t : Fin cfg0.N) (h : t.val % 16 = 0) (y : S272x1024.Idx) :
    ∃ pc ∈ (RA m c t h).2.2.2.2.2.2.2.1, y ∈ pc.1.set :=
  View.cover_of_tiledBy (RA m c t h).2.2.2.2.2.2.2.1 ![16, 1024] (by sl_kernel_rfl) y

theorem coverA_dpn (c : Dev nD) (t : Fin cfg0.N) (h : t.val % 16 = 0) (y : S384x1024.Idx) :
    ∃ pc ∈ (RA m c t h).2.2.2.2.2.2.2.2.1, y ∈ pc.1.set :=
  View.cover_of_tiledBy (RA m c t h).2.2.2.2.2.2.2.2.1 ![16, 256] (by sl_kernel_rfl) y

theorem coverB_dproj (c : Dev nD) (t : Fin cfg0.N) (h : ¬t.val % 16 = 0) (s : Out F) (y : S256x8192.Idx) :
    ∃ pc ∈ (RB m c t h s).1, y ∈ pc.1.set :=
  View.cover_of_tiledBy (RB m c t h s).1 ![256, 256] (by sl_kernel_rfl) y

theorem coverB_dya (c : Dev nD) (t : Fin cfg0.N) (h : ¬t.val % 16 = 0) (s : Out F) (y : S256x1024.Idx) :
    ∃ pc ∈ (RB m c t h s).2.1, y ∈ pc.1.set :=
  View.cover_of_tiledL (RB m c t h s).2.1 S256x1024.size (by sl_kernel_rfl) y

theorem coverB_dpp (c : Dev nD) (t : Fin cfg0.N) (h : ¬t.val % 16 = 0) (s : Out F) (y : S256x1024.Idx) :
    ∃ pc ∈ (RB m c t h s).2.2.1, y ∈ pc.1.set :=
  View.cover_of_tiledL (RB m c t h s).2.2.1 S256x1024.size (by sl_kernel_rfl) y

theorem coverB_dyx (c : Dev nD) (t : Fin cfg0.N) (h : ¬t.val % 16 = 0) (s : Out F) (y : S256x1024.Idx) :
    ∃ pc ∈ (RB m c t h s).2.2.2.1, y ∈ pc.1.set :=
  View.cover_of_tiledL (RB m c t h s).2.2.2.1 S256x1024.size (by sl_kernel_rfl) y

theorem coverB_dk (c : Dev nD) (t : Fin cfg0.N) (h : ¬t.val % 16 = 0) (s : Out F) (y : S256x1024.Idx) :
    ∃ pc ∈ (RB m c t h s).2.2.2.2.1, y ∈ pc.1.set :=
  View.cover_of_tiledL (RB m c t h s).2.2.2.2.1 S256x256.size (by sl_kernel_rfl) y

theorem coverB_dv (c : Dev nD) (t : Fin cfg0.N) (h : ¬t.val % 16 = 0) (s : Out F) (y : S256x1024.Idx) :
    ∃ pc ∈ (RB m c t h s).2.2.2.2.2.1, y ∈ pc.1.set :=
  View.cover_of_tiledL (RB m c t h s).2.2.2.2.2.1 S256x256.size (by sl_kernel_rfl) y

theorem coverB_dconv (c : Dev nD) (t : Fin cfg0.N) (h : ¬t.val % 16 = 0) (s : Out F) (y : S272x1024.Idx) :
    ∃ pc ∈ (RB m c t h s).2.2.2.2.2.2.2.1, y ∈ pc.1.set :=
  View.cover_of_tiledBy (RB m c t h s).2.2.2.2.2.2.2.1 ![16, 1024] (by sl_kernel_rfl) y

/-! ## The proof data -/

/-- What is left of the invariant's fields, over two contents. -/
def kept (c : Dev nD) (a : Vec F S272x1024 .f32) (b : Vec F S384x1024 .bf16) : sProp 𝕄 :=
  iprop(iprop((∃ d, owns (c : Thread nD τ) scM0_0 fullShare d) ∗ owns (c : Thread nD τ) scM0_1 fullShare a
    ∗ owns (c : Thread nD τ) scM0_2 fullShare b) ∗ (∃ r, prngReg c r))

/-- The invariant before point `n`: at first any scratch contents, later what the point before left. -/
def phase (c : Dev nD) : (n : ℕ) → n ≤ cfg0.N → sProp 𝕄
  | 0, _ => Pipeline.ΦA spec0 c
  | n + 1, hn => kept c (outs m c n hn).dconv (outs m c n hn).dpn

theorem phase_zero (c : Dev nD) (n : ℕ) (h : n ≤ cfg0.N) (hz : n = 0) : phase m c n h = Pipeline.ΦA spec0 c := by subst hz; rfl

theorem phase_succ (c : Dev nD) (n : ℕ) (hn : n < cfg0.N) :
    phase m c (n + 1) hn = kept c (outs m c n hn).dconv (outs m c n hn).dpn := rfl

theorem phase_pos (c : Dev nD) (n : ℕ) (h : n ≤ cfg0.N) (hz : n ≠ 0) :
    phase m c n h = kept c (outs m c (n - 1) (by omega)).dconv (outs m c (n - 1) (by omega)).dpn := by
  cases n with
  | zero => exact absurd rfl hz
  | succ n => rfl

/-- Every input's buffer at its block, every output's at the record's field. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outs m c t.val t.isLt).dproj
    | ⟨17, _⟩ => (outs m c t.val t.isLt).dya
    | ⟨18, _⟩ => (outs m c t.val t.isLt).dpp
    | ⟨19, _⟩ => (outs m c t.val t.isLt).dyx
    | ⟨20, _⟩ => (outs m c t.val t.isLt).dk
    | ⟨21, _⟩ => (outs m c t.val t.isLt).dv
    | ⟨22, _⟩ => (outs m c t.val t.isLt).stat
    | ⟨_ + 23, h⟩ => absurd h (Nat.not_lt.2 (Nat.le_add_left _ _))
  Φ t := phase m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem phase_castSucc (c : Dev nD) (t : Fin cfg0.N) : (dats m 0 c).Φ t.castSucc = phase m c t.val (Nat.le_of_lt t.isLt) := by
  dsimp only [dats]; exact Pipeline.Dat.Φ_castSucc (phase m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = (outs m c t.val t.isLt).dproj := by dsimp only [dats]
theorem after_17 (c : Dev nD) (t : Fin cfg0.N) : (dats m 0 c).after 17 t = (outs m c t.val t.isLt).dya := by dsimp only [dats]
theorem after_18 (c : Dev nD) (t : Fin cfg0.N) : (dats m 0 c).after 18 t = (outs m c t.val t.isLt).dpp := by dsimp only [dats]
theorem after_19 (c : Dev nD) (t : Fin cfg0.N) : (dats m 0 c).after 19 t = (outs m c t.val t.isLt).dyx := by dsimp only [dats]
theorem after_20 (c : Dev nD) (t : Fin cfg0.N) : (dats m 0 c).after 20 t = (outs m c t.val t.isLt).dk := by dsimp only [dats]
theorem after_21 (c : Dev nD) (t : Fin cfg0.N) : (dats m 0 c).after 21 t = (outs m c t.val t.isLt).dv := by dsimp only [dats]
theorem after_22 (c : Dev nD) (t : Fin cfg0.N) : (dats m 0 c).after 22 t = (outs m c t.val t.isLt).stat := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_20 (c : Dev nD) (t : Fin cfg0.N) (h : ¬t.val % 16 = 0) (d) : (dats m 0 c).before 20 t d = (prev m c t).dk := by
  have hN : t.val < 16 := lt_of_lt_of_eq t.isLt (show cfg0.N = 16 from N_0)
  rw [Dat.before_out_kept _ 20 rfl t (by omega)
    (Bool.eq_false_iff.mpr fun g => by have := (flush0_20 _).mp g; dsimp only at this; omega) (fun _ => rfl) (fun _ _ => rfl)]
  dsimp only [dats]
theorem before_21 (c : Dev nD) (t : Fin cfg0.N) (h : ¬t.val % 16 = 0) (d) : (dats m 0 c).before 21 t d = (prev m c t).dv := by
  have hN : t.val < 16 := lt_of_lt_of_eq t.isLt (show cfg0.N = 16 from N_0)
  rw [Dat.before_out_kept _ 21 rfl t (by omega)
    (Bool.eq_false_iff.mpr fun g => by have := (flush0_21 _).mp g; dsimp only at this; omega) (fun _ => rfl) (fun _ _ => rfl)]
  dsimp only [dats]
theorem before_22 (c : Dev nD) (t : Fin cfg0.N) (h : ¬t.val % 16 = 0) (d) : (dats m 0 c).before 22 t d = (prev m c t).stat := by
  have hN : t.val < 16 := lt_of_lt_of_eq t.isLt (show cfg0.N = 16 from N_0)
  rw [Dat.before_out_kept _ 22 rfl t (by omega)
    (Bool.eq_false_iff.mpr fun g => by have := (flush0_22 _).mp g; dsimp only at this; omega) (fun _ => rfl) (fun _ _ => rfl)]
  dsimp only [dats]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

theorem owns_intro {sp : Space} {S : Shape} {e : EltTy} (c : Dev nD) (M : Memref sig .tc sp S e) (f : Buf (Elt F) (M.view.loc (c : Thread nD τ)))
    (x : Vec F S e) (h : M.view.read (Elt F) f = x) :
    (M.view.loc (c : Thread nD τ) ↦[M.view.set]{fullShare} f : sProp 𝕄) ⊢ owns (c : Thread nD τ) M fullShare x := by
  unfold owns
  iintro H
  iexists f
  isplitr
  · ipureintro; exact h
  iexact H

set_option maxHeartbeats 8000000 in
/-- The first point: the run over the input blocks, any scratch and any output contents. -/
theorem body_first (c : Dev nD) (t : Fin cfg0.N) (h0 : t.val % 16 = 0) (hz : t.val = 0) :
    bodyPre m c t ⊢ wp frame (wpE (defs₀ (F := F)) Variants.none c none) Set.univ (bodyAt0 t) (fun _ => bodyPost m c t) := by
  unfold bodyPre bodyPost bodyAt0
  simp only [
    before_0, before_1, before_2, before_3, before_4, before_5, before_6, before_7, before_8, before_9, before_10, before_11, before_12, before_13,
    before_14, before_15]
  rw [show (dats m 0 c).owesAt () t.succ = (dats m 0 c).owesAt () t.castSucc from rfl,
    after_0, after_1, after_2, after_3, after_4, after_5, after_6, after_7, after_8, after_9, after_10, after_11, after_12, after_13, after_14,
    after_15, after_16, after_17, after_18, after_19, after_20, after_21, after_22]
  rw [show (dats m 0 c).Φ t.succ = phase m c (t.val + 1) t.isLt from rfl, phase_succ, phase_castSucc m c t, phase_zero m c _ _ hz, PhiA0_eq,
    outs_A m c t h0]
  dsimp only [outA, laid, kept]
  iintro ⟨⟨⟨HS0, HS1, HS2⟩, Hg⟩, Ho,
      ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
      ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((RA m c t h0).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  iintro ⟨H0, H1, H2, H3, H4, H5, H6, H7, H8, H9, H10, H11, H12, H13, H14, H15,
    ⟨%e16, H16⟩, ⟨%e17, H17⟩, ⟨%e18, H18⟩, ⟨%e19, H19⟩, ⟨%e20, H20⟩, ⟨%e21, H21⟩, ⟨%e22, H22⟩, ⟨%f0, HS0⟩, ⟨%es1, HS1⟩, ⟨%es2, HS2⟩⟩
  isplitl [HS0 HS1 HS2 Hg]
  · isplitl [HS0 HS1 HS2]
    · isplitl [HS0]; · iexists _; iapply (owns_intro c _ _ _ rfl); iexact HS0
      isplitl [HS1]; · iapply (owns_intro c _ _ _ (View.read_writes_of_cover _ _ _ _ _ (coverA_dconv m c t h0))); iexact HS1
      iapply (owns_intro c _ _ _ (View.read_writes_of_cover _ _ _ _ _ (coverA_dpn m c t h0))); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (owns_intro c _ _ _ (View.read_writes_of_cover _ _ _ _ _ (coverA_dproj m c t h0))); iexact H16
  isplitl [H17]; · iapply (owns_intro c _ _ _ (View.read_writes_of_cover _ _ _ _ _ (coverA_dya m c t h0))); iexact H17
  isplitl [H18]; · iapply (owns_intro c _ _ _ (View.read_writes_of_cover _ _ _ _ _ (coverA_dpp m c t h0))); iexact H18
  isplitl [H19]; · iapply (owns_intro c _ _ _ (View.read_writes_of_cover _ _ _ _ _ (coverA_dyx m c t h0))); iexact H19
  isplitl [H20]; · iapply (owns_intro c _ _ _ (View.read_writes_of_cover _ _ _ _ _ (coverA_dk m c t h0))); iexact H20
  isplitl [H21]; · iapply (owns_intro c _ _ _ (View.read_writes_of_cover _ _ _ _ _ (coverA_dv m c t h0))); iexact H21
  iapply (owns_intro c _ _ _ (View.read_writes_of_cover _ _ _ _ _ (coverA_stat m c t h0))); iexact H22

set_option maxHeartbeats 8000000 in
/-- A later point: the accumulators and the carried scratch are found at what the point before left. -/
theorem body_later (c : Dev nD) (t : Fin cfg0.N) (h0 : ¬t.val % 16 = 0) (hz : t.val ≠ 0) :
    bodyPre m c t ⊢ wp frame (wpE (defs₀ (F := F)) Variants.none c none) Set.univ (bodyAt0 t) (fun _ => bodyPost m c t) := by
  unfold bodyPre bodyPost bodyAt0
  simp only [before_20 m c t h0, before_21 m c t h0, before_22 m c t h0,
    before_0, before_1, before_2, before_3, before_4, before_5, before_6, before_7, before_8, before_9, before_10, before_11, before_12, before_13,
    before_14, before_15]
  rw [show (dats m 0 c).owesAt () t.succ = (dats m 0 c).owesAt () t.castSucc from rfl,
    after_0, after_1, after_2, after_3, after_4, after_5, after_6, after_7, after_8, after_9, after_10, after_11, after_12, after_13, after_14,
    after_15, after_16, after_17, after_18, after_19, after_20, after_21, after_22]
  rw [show (dats m 0 c).Φ t.succ = phase m c (t.val + 1) t.isLt from rfl, phase_succ, phase_castSucc m c t, phase_pos m c _ _ hz, outs_B m c t h0]
  dsimp only [outB, laid, kept]
  iintro ⟨⟨⟨HS0, HS1, HS2⟩, Hg⟩, Ho,
      ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
      ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((RB m c t h0 (prev m c t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexact H20
  isplitl [H21]; · iexact H21
  isplitl [H22]; · iexact H22
  isplitl [HS0]; · iexact HS0
  isplitl [HS1]; · iexact HS1
  isplitl [HS2]; · iexact HS2
  iintro ⟨H0, H1, H2, H3, H4, H5, H6, H7, H8, H9, H10, H11, H12, H13, H14, H15,
    ⟨%e16, H16⟩, ⟨%e17, H17⟩, ⟨%e18, H18⟩, ⟨%e19, H19⟩, ⟨%e20, H20⟩, ⟨%e21, H21⟩, H22, ⟨%f0, HS0⟩, ⟨%es1, HS1⟩, HS2⟩
  isplitl [HS0 HS1 HS2 Hg]
  · isplitl [HS0 HS1 HS2]
    · isplitl [HS0]; · iexists _; iapply (owns_intro c _ _ _ rfl); iexact HS0
      isplitl [HS1]; · iapply (owns_intro c _ _ _ (View.read_writes_of_cover _ _ _ _ _ (coverB_dconv m c t h0 (prev m c t)))); iexact HS1
      iapply (owns_intro c _ _ _ rfl); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (owns_intro c _ _ _ (View.read_writes_of_cover _ _ _ _ _ (coverB_dproj m c t h0 (prev m c t)))); iexact H16
  isplitl [H17]; · iapply (owns_intro c _ _ _ (View.read_writes_of_cover _ _ _ _ _ (coverB_dya m c t h0 (prev m c t)))); iexact H17
  isplitl [H18]; · iapply (owns_intro c _ _ _ (View.read_writes_of_cover _ _ _ _ _ (coverB_dpp m c t h0 (prev m c t)))); iexact H18
  isplitl [H19]; · iapply (owns_intro c _ _ _ (View.read_writes_of_cover _ _ _ _ _ (coverB_dyx m c t h0 (prev m c t)))); iexact H19
  isplitl [H20]; · iapply (owns_intro c _ _ _ (View.read_writes_of_cover _ _ _ _ _ (coverB_dk m c t h0 (prev m c t)))); iexact H20
  isplitl [H21]; · iapply (owns_intro c _ _ _ (View.read_writes_of_cover _ _ _ _ _ (coverB_dv m c t h0 (prev m c t)))); iexact H21
  iapply (owns_intro c _ _ _ rfl); iexact H22

theorem body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val % 16 = 0
  · exact body_first m c t h0 (by omega)
  · exact body_later m c t h0 (by omega)

theorem obligation (c : Dev nD) : BodyObligation (dats (F := F) m 0 c) (defs₀ (F := F)) Variants.none () Set.univ := fun t => by
  have row : defs₀ (F := F) .tc cfg0.body (cfg0.bodyArgs t (cfg0.slots t)) = bodyAt0 t := by unfold defs₀; rw [Defs.onTc_tc]
  rw [bigSep_W0, bigSep_W0, row]
  exact triple_restated (body m c t) rfl .rfl fun _ => .rfl

theorem entering (c : Dev nD) : Pipeline.ΦA spec0 c ⊢ (dats m 0 c).Φ 0 := by
  rw [show (dats m 0 c).Φ 0 = phase m c 0 (Nat.zero_le _) from rfl, phase_zero m c 0 _ rfl]

theorem leaving (c : Dev nD) : (dats m 0 c).Φ (Fin.last cfg0.N) ⊢ Pipeline.ΦA spec0 c := by
  rw [show (dats m 0 c).Φ (Fin.last cfg0.N) = phase m c (Fin.last cfg0.N).val (Nat.le_of_lt_succ (Fin.last cfg0.N).isLt) from rfl,
    phase_pos m c _ _ (by rw [Fin.val_last]; have : cfg0.N = 16 := N_0; omega), PhiA0_eq]
  unfold kept
  iintro ⟨⟨HS0, HS1, HS2⟩, Hg⟩
  isplitl [HS0 HS1 HS2]
  · isplitl [HS0]; · iexact HS0
    isplitl [HS1]; · iexists _; iexact HS1
    iexists _; iexact HS2
  iexact Hg

set_option backward.isDefEq.respectTransparency.types false in
/-- The launch: the arrays end at what the proof data says, with every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := entering m) (hout := leaving m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ))
  ((θ_run defs _ _).mono (fun _ h => h.2) (run_quiescent m ρ))

end Cert.MixKernelIdeal.Mix
-- ==== Proof.Mix.Reals.lean ====
/- EXTENDED REALS THAT ARE REAL, and the identities that hold of those only: sums of differences that telescope, and the gradient of a softmax. -/
module

public import Idealize.ShloMosaic.PureOps
public import Idealize.ShloMosaic.Lib.IdealHost

@[expose] public section

noncomputable section

namespace Cert.Reals

open Idealize.ShloMosaic

/-- `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem isReal_of_lt {x : EReal} (h : ⊥ < x) (h' : x < ⊤) : IsReal x := by
  induction x with
  | bot => exact absurd h (lt_irrefl _)
  | top => exact absurd h' (lt_irrefl _)
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem isReal_sum {ι : Type*} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A quotient by a real that is not zero. -/
theorem div_real (a : ℝ) {b : ℝ} (hb : b ≠ 0) : Ideal.div (a : EReal) (b : EReal) = ((a / b : ℝ) : EReal) := by
  rw [Ideal.div_coe hb, ← EReal.coe_mul, mul_one_div]
theorem IsReal.div {x : EReal} (hx : IsReal x) {b : ℝ} (hb : b ≠ 0) : IsReal (Ideal.div x (b : EReal)) := by
  obtain ⟨a, rfl⟩ := hx; exact ⟨_, div_real a hb⟩

/-- The logistic function of any extended real is a real number. -/
theorem isReal_logistic (x : EReal) : IsReal (Ideal.div 1 (1 + Ideal.exp x)) := by
  induction x with
  | bot => rw [Ideal.exp_bot, add_zero]; exact IsReal.div (b := 1) isReal_one one_ne_zero
  | top =>
    rw [Ideal.exp_top, EReal.add_top_of_ne_bot (by decide)]
    unfold Ideal.div
    rw [if_neg (by decide), EReal.inv_top, mul_zero]
    exact isReal_zero
  | coe r =>
    rw [Ideal.exp_coe, ← EReal.coe_one, ← EReal.coe_add]
    exact (isReal_coe 1).div (by have := Real.exp_pos r; positivity)

/-- The tail sums of a sequence less the sequence moved by `w` places are its window sums of width `w`. -/
theorem sum_telescope (q : ℕ → ℝ) (N w t : ℕ) (h : ∀ n, N ≤ n → q n = 0) :
    ∑ n ∈ Finset.range N, (q (t + n) - q (t + n + w)) = ∑ n ∈ Finset.range w, q (t + n) := by
  have e : ∑ n ∈ Finset.range (N + w), q (t + n) = ∑ n ∈ Finset.range (w + N), q (t + n) := by rw [Nat.add_comm]
  rw [Finset.sum_range_add, Finset.sum_range_add] at e
  have z : ∑ n ∈ Finset.range w, q (t + (N + n)) = 0 := Finset.sum_eq_zero fun n _ => h _ (by omega)
  rw [z, add_zero] at e
  rw [Finset.sum_sub_distrib, e]
  rw [show ∑ n ∈ Finset.range N, q (t + n + w) = ∑ n ∈ Finset.range N, q (t + (w + n)) from
    Finset.sum_congr rfl fun n _ => by rw [Nat.add_assoc, Nat.add_comm n w]]
  ring

/-- The same over the extended reals, of a sequence of reals that ends after `N` places. -/
theorem sum_telescope_real (q : ℕ → EReal) (N w t : ℕ) (hq : ∀ n, IsReal (q n)) (h : ∀ n, N ≤ n → q n = 0) :
    ∑ n ∈ Finset.range N, (q (t + n) - q (t + n + w)) = ∑ n ∈ Finset.range w, q (t + n) := by
  choose r hr using hq
  simp only [hr, ← EReal.coe_sub]
  rw [← coe_sum, ← coe_sum, sum_telescope r N w t fun n hn => by
    have := h n hn; rw [hr] at this; exact EReal.coe_eq_zero.mp this]

/-- The heads of a sequence that starts at `w` places ago: its prefix sum less the one `w` places earlier. -/
theorem sum_prefix_sub (u : ℕ → EReal) (w t : ℕ) (hu : ∀ n, IsReal (u n)) (h : w ≤ t) :
    ∑ n ∈ Finset.range (t + 1), u n - ∑ n ∈ Finset.range (t + 1 - w), u n
      = ∑ n ∈ Finset.range w, u (t + 1 - w + n) := by
  choose r hr using hu
  simp only [hr]
  rw [← coe_sum, ← coe_sum, ← coe_sum, ← EReal.coe_sub]
  conv_lhs => rw [show t + 1 = (t + 1 - w) + w by omega]
  rw [Finset.sum_range_add]
  simp

theorem isReal_sixteenth : IsReal (Ideal.ofBits .f32 0x3D800000#32) :=
  ⟨8388608 * (1 / 134217728), by simp [Ideal.ofBits, Ideal.ieee]; norm_num⟩

/-- The gradient of a softmax, with the quotient's two parts apart and with it taken once. -/
theorem softmax_grad {ι : Type*} [Fintype ι] (e dp : ι → EReal) (S c : EReal) (he : ∀ i, IsReal (e i)) (hdp : ∀ i, IsReal (dp i))
    (hc : IsReal c) (hS : ∃ s : ℝ, S = (s : EReal) ∧ s ≠ 0) (i : ι) :
    (Ideal.div (dp i) S + -(∑ k, dp k * Ideal.div 1 (S * S) * e k)) * e i * c
      = Ideal.div (e i) S * (dp i - ∑ k, dp k * Ideal.div (e k) S) * c := by
  choose e' he' using he
  choose d' hd' using hdp
  obtain ⟨c', rfl⟩ := hc
  obtain ⟨s, rfl, hs⟩ := hS
  simp only [he', hd']
  rw [← EReal.coe_mul, ← EReal.coe_one]
  simp only [div_real _ hs, div_real _ (mul_ne_zero hs hs), ← EReal.coe_mul]
  rw [← coe_sum, ← coe_sum, ← EReal.coe_neg, ← EReal.coe_add, ← EReal.coe_sub, ← EReal.coe_mul, ← EReal.coe_mul, ← EReal.coe_mul, ← EReal.coe_mul]
  congr 1
  have a : ∑ k, d' k * (1 / (s * s)) * e' k = (∑ k, d' k * (e' k / s)) / s := by
    rw [Finset.sum_div]
    exact Finset.sum_congr rfl fun k _ => by field_simp
  rw [a]
  field_simp
  ring

end Cert.Reals

end
-- ==== Proof.Mix.Gates.lean ====
/- THE GATES' GRADIENTS: what the body computes of a tile of 256 rows is that tile of the reference's array. -/
module

public import proofs.«01_k».proof.Proof.Gen.MixKernelIdeal.Skeleton
public import proofs.«01_k».proof.Proof.Gen.MixReferenceIdeal.Read
public import proofs.«01_k».proof.Proof.Mix.Reals
public import Idealize.ShloMosaic.Lib.Pointwise
public import Idealize.ShloMosaic.Lib.Pipeline.ValueKit

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

/-- Row `r` of tile `k`. -/
abbrev row (k : Fin 16) (r : Fin 256) : Fin 4096 := ⟨256 * k.val + r.val, by omega⟩

/-- Tile `k` of an array of 4096 rows. -/
abbrev tile {α : Type} {n : Nat} (k : Fin 16) (X : (⟨2, ![4096, n]⟩ : Shape).Idx → α) : (⟨2, ![256, n]⟩ : Shape).Idx → α :=
  fun j => X (ValueIdx.ix2 (row k (j 0)) (j 1))

variable (k : Fin 16) (a0 : Vec Ideal S4096x1024 .f32) (a1 : Vec Ideal S4096x8192 .f32) (a2 : Vec Ideal S1x3x1024 .f32) (a3 : Vec Ideal S1x1024x1024 .f32)
  (a4 : Vec Ideal S1x4x256x256 .f32) (a5 : Vec Ideal S1x1024 .f32) (a6 a7 : Vec Ideal S256x1024 .f32) (a8 a9 : Vec Ideal S1x1024x1024 .f32)

/-- The gradient of the merged branches. -/
theorem dmerged_tile : k0_pay6 (F := Ideal) (tile k a0) (val_main_v196 a9) = tile k (val_main_v198 a0 a9) := by
  funext j
  unfold k0_pay6 val_main_v198
  simp only [tile]
  pointwise!

theorem sa_tile : k0_pay7 (F := Ideal) (tile k (val_main_v157 a1)) = tile k (val_main_v165 a1) := by
  funext j
  unfold k0_pay7 val_main_v165 val_main_v164 val_main_v163 val_main_v162 val_main_v161 val_main_v160 val_main_cst_26 val_main_cst_25
  simp only [tile]
  pointwise
  rw [zero_sub]
theorem sp_tile : k0_pay8 (F := Ideal) (tile k (val_main_v158 a1)) = tile k (val_main_v175 a1) := by
  funext j
  unfold k0_pay8 val_main_v175 val_main_v174 val_main_v173 val_main_v172 val_main_v171 val_main_v170 val_main_cst_28 val_main_cst_29
  simp only [tile]
  pointwise
  rw [zero_sub]
theorem sx_tile : k0_pay10 (F := Ideal) (k0_pay9 (F := Ideal) (tile k (val_main_v159 a1))) = tile k (val_main_v190 a1) := by
  funext j
  unfold k0_pay10 k0_pay9 val_main_v190 val_main_v189 val_main_v188 val_main_v187 val_main_v186 val_main_v185 val_main_cst_31 val_main_cst_32
  simp only [tile]
  pointwise
  rw [zero_sub]

/-- The gradients of the three gates' arguments. -/
theorem dga_tile : k0_pay13 (F := Ideal) (tile k (val_main_v198 a0 a9)) (tile k (val_main_v165 a1)) (tile k (val_main_v150 a1 a2 a3)) = tile k (val_main_v214 a0 a1 a2 a3 a9) := by
  funext j
  unfold k0_pay13 val_main_v214 val_main_v213 val_main_v168 val_main_v167 val_main_v166 val_main_v154 val_main_v0 val_main_cst val_main_cst_27
  simp only [tile]
  pointwise!
theorem dgp_tile : k0_pay14 (F := Ideal) (tile k (val_main_v198 a0 a9)) (tile k (val_main_v175 a1)) (tile k (val_main_v109 a1 a4)) a5 = tile k (val_main_v211 a0 a1 a4 a5 a9) := by
  funext j
  unfold k0_pay14 val_main_v211 val_main_v203 val_main_v182 val_main_v181 val_main_v180 val_main_v179 val_main_v178 val_main_v177 val_main_v176 val_main_v155 val_main_v0 val_main_cst val_main_cst_30
  unfold k0_pay11 k0_pay12
  simp only [tile]
  pointwise!
theorem dgx_tile : k0_pay15 (F := Ideal) (tile k (val_main_v198 a0 a9)) (k0_pay9 (F := Ideal) (tile k (val_main_v159 a1))) (tile k (val_main_v152 a1 a6 a7 a8)) = tile k (val_main_v201 a0 a1 a6 a7 a8 a9) := by
  have h := sx_tile k a1
  unfold k0_pay15
  simp only [h]
  funext j
  unfold val_main_v201 val_main_v200 val_main_v193 val_main_v192 val_main_v191 val_main_v156 val_main_v0 val_main_cst val_main_cst_33
  simp only [tile]
  pointwise!

/-- The gradients of the three branches' outputs. -/
theorem dya_tile : k0_pay16 (F := Ideal) (tile k (val_main_v198 a0 a9)) (tile k (val_main_v165 a1)) = tile k (val_main_v212 a0 a1 a9) := by
  funext j
  unfold k0_pay16 val_main_v212
  simp only [tile]
  pointwise!
theorem dyp_tile : k0_pay17 (F := Ideal) (tile k (val_main_v198 a0 a9)) (tile k (val_main_v175 a1)) = tile k (val_main_v202 a0 a1 a9) := by
  funext j
  unfold k0_pay17 val_main_v202
  simp only [tile]
  pointwise!
theorem dyx_tile : k0_pay18 (F := Ideal) (tile k (val_main_v198 a0 a9)) (k0_pay9 (F := Ideal) (tile k (val_main_v159 a1))) = tile k (val_main_v199 a0 a1 a9) := by
  have h := sx_tile k a1
  unfold k0_pay18
  simp only [h]
  funext j
  unfold val_main_v199
  simp only [tile]
  pointwise
  exact mul_comm _ _
theorem dpp_tile : k0_pay20 (F := Ideal) (k0_pay12 a5) (tile k (val_main_v202 a0 a1 a9)) = tile k (val_main_v208 a0 a1 a5 a9) := by
  funext j
  unfold k0_pay20 k0_pay12 val_main_v208 val_main_v207 val_main_v180 val_main_v179
  simp only [tile]
  pointwise!

/-- What a tile adds to the pool scale's gradient. -/
theorem dps_tile (s : Vec Ideal S1x1024 .f32) (l : Fin 1024) : k0_pay19 (F := Ideal) (k0_pay11 (tile k (val_main_v109 a1 a4))) (tile k (val_main_v202 a0 a1 a9)) s (ValueIdx.ix2 0 l)
    = s (ValueIdx.ix2 0 l) + ∑ r : Fin 256, val_main_v204 a0 a1 a4 a9 (ValueIdx.ix2 (row k r) l) := by
  unfold k0_pay19 k0_pay11 val_main_v204 val_main_v155 val_main_v0 val_main_cst
  simp only [tile]
  pointwise
  exact congrArg (_ + ·) (Finset.sum_congr rfl fun x _ => mul_comm _ _)

/-- The gradients the products take back to the convolution and to the attention. -/
theorem da_tile : k0_pay21 (F := Ideal) (tile k (val_main_v212 a0 a1 a9)) (val_main_v149 a3) = tile k (val_main_v221 a0 a1 a3 a9) := by
  funext j
  unfold k0_pay21 val_main_v221
  simp only [tile]
  pointwise!
theorem do_tile : k0_pay51 (F := Ideal) (tile k (val_main_v199 a0 a1 a9)) (val_main_v151 a8) = tile k (val_main_v220 a0 a1 a8 a9) := by
  funext j
  unfold k0_pay51 val_main_v220
  simp only [tile]
  pointwise!

end Cert.MixKernelIdeal.Mix

end
-- ==== Proof.Mix.Host.lean ====
/- WHAT THE CALL FINDS in its argument buffers, and in each input block: the forward values are the reference's own, the
   weights its reshaped ones, and each block of 256 rows a tile of them. -/
module

public import proofs.«01_k».proof.Proof.Gen.MixKernelIdeal.Frame.Runs
public import proofs.«01_k».proof.Proof.Mix.Gates
public import Idealize.ShloMosaic.Lib.StableHlo.RunRead
public import Idealize.ShloMosaic.Lib.Pointwise
public import Idealize.ShloMosaic.Lib.Pipeline.ValueKit

@[expose] public section

set_option maxRecDepth 16384

noncomputable section

namespace Cert.MixKernelIdeal.Mix

open Idealize.ShloMosaic Idealize.ShloMosaic.TcCoe Idealize.ShloMosaic.Tactic
open Idealize.SL Idealize.SL.Sem
open Cert.MixKernelIdeal.Gen
open Cert.MixReferenceIdeal.Read

variable (m : (ℓ : Loc nD τ sig) → Buf (Elt Ideal) ℓ) (c : Dev nD)

abbrev A0 : Vec Ideal S4096x1024 .f32 := m ((c : Thread nD τ).loc main_arg0)
abbrev A1 : Vec Ideal S4096x8192 .f32 := m ((c : Thread nD τ).loc main_arg1)
abbrev A2 : Vec Ideal S1x3x1024 .f32 := m ((c : Thread nD τ).loc main_arg2)
abbrev A3 : Vec Ideal S1x1024x1024 .f32 := m ((c : Thread nD τ).loc main_arg3)
abbrev A4 : Vec Ideal S1x4x256x256 .f32 := m ((c : Thread nD τ).loc main_arg4)
abbrev A5 : Vec Ideal S1x1024 .f32 := m ((c : Thread nD τ).loc main_arg5)
abbrev A6 : Vec Ideal S256x1024 .f32 := m ((c : Thread nD τ).loc main_arg6)
abbrev A7 : Vec Ideal S256x1024 .f32 := m ((c : Thread nD τ).loc main_arg7)
abbrev A8 : Vec Ideal S1x1024x1024 .f32 := m ((c : Thread nD τ).loc main_arg8)
abbrev A9 : Vec Ideal S1x1024x1024 .f32 := m ((c : Thread nD τ).loc main_arg9)

theorem V_proj : V m c main_v134 = A1 m c := by after_reads_simp; rfl
theorem V_ya : V m c main_v135 = val_main_v150 (F := Ideal) (A1 m c) (A2 m c) (A3 m c) := by after_reads_simp; rfl
theorem V_pp : V m c main_v136 = val_main_v109 (F := Ideal) (A1 m c) (A4 m c) := by after_reads_simp; rfl
theorem V_yx : V m c main_v137 = val_main_v152 (F := Ideal) (A1 m c) (A6 m c) (A7 m c) (A8 m c) := by after_reads_simp; rfl
theorem V_probs : V m c main_v138 = val_main_v148 (F := Ideal) (A1 m c) (A6 m c) := by after_reads_simp; rfl
theorem V_wco : V m c main_v140 = val_main_v149 (F := Ideal) (A3 m c) := by after_reads_simp; rfl
theorem V_wpool : V m c main_v142 = val_main_v106 (F := Ideal) (A4 m c) := by after_reads_simp; rfl
theorem V_k : V m c main_v143 = A6 m c := by after_reads_simp; rfl
theorem V_v : V m c main_v144 = A7 m c := by after_reads_simp; rfl
theorem V_wxo : V m c main_v146 = val_main_v151 (F := Ideal) (A8 m c) := by after_reads_simp; rfl
theorem V_wout : V m c main_v148 = val_main_v196 (F := Ideal) (A9 m c) := by after_reads_simp; rfl

/-- The convolution's three rows of weights, followed by zeros. -/
def conv8 (a2 : Vec Ideal S1x3x1024 .f32) : Vec Ideal S8x1024 .f32 :=
  fun j => if h : (j 0).val < 3 then a2 (ValueIdx.ix3 0 ⟨(j 0).val, h⟩ (j 1)) else 0

theorem V_conv : V m c main_v133 = conv8 (A2 m c) := by
  after_reads_simp
  funext j
  pointwise
  after_reads_simp
  unfold conv8
  by_cases h : (j 0).val < 3
  · rw [dif_pos h, dif_pos h]
    pointwise
    rfl
  · rw [dif_neg h, dif_neg h]
    exact Ideal.ofBits_zero_f32

/-- A pool's window: entry `(r, s)` is one where `r ≤ s < r + w`. -/
def band (w : Nat) (r s : Nat) : EReal := if r ≤ s ∧ s < r + w then 1 else 0

theorem band_word (w : BitVec 32) (hw : w.toNat ≤ 16) (r : Fin 256) (s : Fin 384) :
    uitofp (F := Ideal) FTy.bf16
      (andi
        (cmpi CmpIPredicate.sge (subi (iotaInDim S256x384 32 1) (iotaInDim S256x384 32 0))
          (broadcastInDim S256x384 ![] bcast_S_S256x384 (constantI S_ 32 0#32)))
        (cmpi CmpIPredicate.slt (subi (iotaInDim S256x384 32 1) (iotaInDim S256x384 32 0))
          (broadcastInDim S256x384 ![] bcast_S_S256x384 (constantI S_ 32 w)))) (ValueIdx.ix2 r s) = band w.toNat r s := by
  have h0 : (BitVec.ofNat 32 (s : Nat) - BitVec.ofNat 32 (r : Nat)).toNat = (4294967296 + s - r) % 4294967296 := by
    have := r.isLt; have := s.isLt
    rw [BitVec.toNat_sub, BitVec.toNat_ofNat, BitVec.toNat_ofNat]; omega
  have h1 : (0#32).sle (BitVec.ofNat 32 (s : Nat) - BitVec.ofNat 32 (r : Nat)) = decide (r.val ≤ s.val) := by
    have := r.isLt; have := s.isLt
    rw [BitVec.sle_eq_decide, BitVec.toInt_eq_toNat_cond, BitVec.toInt_eq_toNat_cond, h0, decide_eq_decide,
      show (0#32).toNat = 0 from rfl]
    omega
  have h2 : (BitVec.ofNat 32 (s : Nat) - BitVec.ofNat 32 (r : Nat)).slt w = decide ((s.val : Int) - r.val < w.toNat) := by
    have := r.isLt; have := s.isLt
    rw [BitVec.slt_eq_decide, BitVec.toInt_eq_toNat_cond, BitVec.toInt_eq_toNat_cond, h0, decide_eq_decide]
    omega
  show FloatOps.uitofp (F := Ideal) FTy.bf16
    (BitVec.ofBool ((0#32).sle (BitVec.ofNat 32 (s : Nat) - BitVec.ofNat 32 (r : Nat))) &&&
      BitVec.ofBool (BitVec.slt (BitVec.ofNat 32 (s : Nat) - BitVec.ofNat 32 (r : Nat)) w)) = _
  rw [h1, h2, band]
  by_cases h : r.val ≤ s.val <;> by_cases h' : s.val < r.val + w.toNat
  · rw [if_pos ⟨h, h'⟩, decide_eq_true h, decide_eq_true (by omega)]
    simp [FloatOps.uitofp]
  all_goals
    rw [if_neg (by omega)]
    first | rw [decide_eq_false h] | rw [decide_eq_true h, decide_eq_false (by omega)]
    simp [FloatOps.uitofp]

set_option maxHeartbeats 400000 in
theorem V_band : V m c main_v180 = fun j => band (2 ^ ((j 0).val + 1)) (j 1).val (j 2).val := by
  after_reads_simp
  funext j
  pointwise
  after_reads_simp
  have h4 : (j 0).val < 4 := (j 0).isLt
  have hw (w w' : Nat) (h : w = w') (r s : Nat) : band w r s = band w' r s := by rw [h]
  by_cases h0 : (j 0).val < 1
  · rw [dif_pos h0, hw _ (2#32 : BitVec 32).toNat (by rw [show (j 0).val = 0 by omega]; rfl),
      ← band_word 2#32 (by decide) (j 1) (j 2)]
    pointwise
  rw [dif_neg h0]
  by_cases h1 : (j 0).val - 1 < 1
  · rw [dif_pos h1, hw _ (4#32 : BitVec 32).toNat (by rw [show (j 0).val = 1 by omega]; rfl),
      ← band_word 4#32 (by decide) (j 1) (j 2)]
    pointwise
  rw [dif_neg h1]
  by_cases h2 : (j 0).val - 1 - 1 < 1
  · rw [dif_pos h2, hw _ (8#32 : BitVec 32).toNat (by rw [show (j 0).val = 2 by omega]; rfl),
      ← band_word 8#32 (by decide) (j 1) (j 2)]
    pointwise
  rw [dif_neg h2, hw _ (16#32 : BitVec 32).toNat (by rw [show (j 0).val = 3 by omega]; rfl),
      ← band_word 16#32 (by decide) (j 1) (j 2)]
  pointwise

end Cert.MixKernelIdeal.Mix

end
-- ==== Proof.Mix.Blocks.lean ====
/- EACH POINT'S BLOCKS: the tiles of 256 rows go down from the last to the first. -/
module

public import proofs.«01_k».proof.Proof.Mix.Host

@[expose] public section

set_option maxRecDepth 16384

noncomputable section

namespace Cert.MixKernelIdeal.Mix

open Idealize.ShloMosaic Idealize.ShloMosaic.TcCoe Idealize.ShloMosaic.Tactic
open Idealize.SL Idealize.SL.Sem
open Cert.MixKernelIdeal.Gen
open Cert.MixReferenceIdeal.Read

/-- The tile a point works on. -/
def kk (t : Fin cfg0.N) : Fin 16 := ⟨15 - t.val, by omega⟩

theorem kk_val (t : Fin cfg0.N) : (kk t).val = 15 - t.val := rfl

theorem idx_tile : ∀ t : Fin cfg0.N, (cfg0.win 0).index t = ![15 - t.val, 0] ∧ (cfg0.win 1).index t = ![15 - t.val, 0] ∧
    (cfg0.win 3).index t = ![15 - t.val, 0] ∧ (cfg0.win 4).index t = ![15 - t.val, 0] ∧ (cfg0.win 5).index t = ![15 - t.val, 0] ∧
    (cfg0.win 6).index t = ![15 - t.val, 0] := by decide +kernel

theorem idx_halo : ∀ t : Fin cfg0.N, (cfg0.win 2).index t = ![(15 - t.val) * 16 - 1, 0] := by decide +kernel

theorem idx_whole : ∀ t : Fin cfg0.N, (cfg0.win 7).index t = ![0, 0] ∧ (cfg0.win 8).index t = ![0, 0] ∧
    (cfg0.win 9).index t = ![0, 0, 0] ∧ (cfg0.win 10).index t = ![0, 0] ∧ (cfg0.win 11).index t = ![0, 0] ∧ (cfg0.win 12).index t = ![0, 0] ∧
    (cfg0.win 13).index t = ![0, 0] ∧ (cfg0.win 14).index t = ![0, 0] ∧ (cfg0.win 15).index t = ![0, 0, 0] := by decide +kernel

variable (m : (ℓ : Loc nD τ sig) → Buf (Elt Ideal) ℓ) (c : Dev nD) (t : Fin cfg0.N)

theorem read_0 (X : Vec Ideal S4096x1024 .f32) : ((cfg0.win 0).blk t).view.read (Elt Ideal) X = tile (kk t) X := by
  funext j
  have e := (idx_tile t).1
  show X _ = X _
  blk_ext [e, kk]

theorem blk_0 : iblk m c 0 t = tile (kk t) (A0 m c) :=
  (read_0 t _).trans rfl

theorem read_1 (X : Vec Ideal S4096x8192 .f32) : ((cfg0.win 1).blk t).view.read (Elt Ideal) X = tile (kk t) X := by
  funext j
  have e := (idx_tile t).2.1
  show X _ = X _
  blk_ext [e, kk]

theorem blk_1 : iblk m c 1 t = tile (kk t) (A1 m c) :=
  (read_1 t _).trans (congrArg (tile (kk t)) (V_proj m c))

theorem read_3 (X : Vec Ideal S4096x1024 .f32) : ((cfg0.win 3).blk t).view.read (Elt Ideal) X = tile (kk t) X := by
  funext j
  have e := (idx_tile t).2.2.1
  show X _ = X _
  blk_ext [e, kk]

theorem blk_3 : iblk m c 3 t = tile (kk t) (val_main_v150 (F := Ideal) (A1 m c) (A2 m c) (A3 m c)) :=
  (read_3 t _).trans (congrArg (tile (kk t)) (V_ya m c))

theorem read_4 (X : Vec Ideal S4096x1024 .f32) : ((cfg0.win 4).blk t).view.read (Elt Ideal) X = tile (kk t) X := by
  funext j
  have e := (idx_tile t).2.2.2.1
  show X _ = X _
  blk_ext [e, kk]

theorem blk_4 : iblk m c 4 t = tile (kk t) (val_main_v109 (F := Ideal) (A1 m c) (A4 m c)) :=
  (read_4 t _).trans (congrArg (tile (kk t)) (V_pp m c))

theorem read_5 (X : Vec Ideal S4096x1024 .f32) : ((cfg0.win 5).blk t).view.read (Elt Ideal) X = tile (kk t) X := by
  funext j
  have e := (idx_tile t).2.2.2.2.1
  show X _ = X _
  blk_ext [e, kk]

theorem blk_5 : iblk m c 5 t = tile (kk t) (val_main_v152 (F := Ideal) (A1 m c) (A6 m c) (A7 m c) (A8 m c)) :=
  (read_5 t _).trans (congrArg (tile (kk t)) (V_yx m c))

theorem read_6 (X : Vec Ideal S4096x1024 .f32) : ((cfg0.win 6).blk t).view.read (Elt Ideal) X = tile (kk t) X := by
  funext j
  have e := (idx_tile t).2.2.2.2.2
  show X _ = X _
  blk_ext [e, kk]

theorem blk_6 : iblk m c 6 t = tile (kk t) (val_main_v148 (F := Ideal) (A1 m c) (A6 m c)) :=
  (read_6 t _).trans (congrArg (tile (kk t)) (V_probs m c))

/-- The sixteen rows before the tile (the array's first sixteen for the first tile). -/
abbrev halo (k : Fin 16) (X : Vec Ideal S4096x8192 .f32) : Vec Ideal S16x8192 .f32 :=
  fun j => X (ValueIdx.ix2 ⟨(k.val * 16 - 1) * 16 + (j 0).val, by
    have := k.isLt; have : (j 0).val < 16 := (j 0).isLt; omega⟩ (j 1))

theorem read_2 (X : Vec Ideal S4096x8192 .f32) : ((cfg0.win 2).blk t).view.read (Elt Ideal) X = halo (kk t) X := by
  funext j
  have e := idx_halo t
  show X _ = X _
  blk_ext [e, kk]

theorem blk_2 : iblk m c 2 t = halo (kk t) (A1 m c) :=
  (read_2 t _).trans (congrArg (halo (kk t)) (V_proj m c))

theorem read_7 (X : Vec Ideal S8x1024 .f32) : ((cfg0.win 7).blk t).view.read (Elt Ideal) X = X := by
  funext j
  have e := (idx_whole t).1
  show X _ = X _
  blk_ext [e]

theorem blk_7 : iblk m c 7 t = conv8 (A2 m c) :=
  (read_7 t _).trans (V_conv m c)

theorem read_8 (X : Vec Ideal S1024x1024 .f32) : ((cfg0.win 8).blk t).view.read (Elt Ideal) X = X := by
  funext j
  have e := (idx_whole t).2.1
  show X _ = X _
  blk_ext [e]

theorem blk_8 : iblk m c 8 t = val_main_v149 (F := Ideal) (A3 m c) :=
  (read_8 t _).trans (V_wco m c)

theorem read_9 (X : Vec Ideal S4x256x256 .f32) : ((cfg0.win 9).blk t).view.read (Elt Ideal) X = X := by
  funext j
  have e := (idx_whole t).2.2.1
  show X _ = X _
  blk_ext [e]

theorem blk_9 : iblk m c 9 t = val_main_v106 (F := Ideal) (A4 m c) :=
  (read_9 t _).trans (V_wpool m c)

theorem read_10 (X : Vec Ideal S1x1024 .f32) : ((cfg0.win 10).blk t).view.read (Elt Ideal) X = X := by
  funext j
  have e := (idx_whole t).2.2.2.1
  show X _ = X _
  blk_ext [e]

theorem blk_10 : iblk m c 10 t = A5 m c :=
  (read_10 t _).trans rfl

theorem read_11 (X : Vec Ideal S256x1024 .f32) : ((cfg0.win 11).blk t).view.read (Elt Ideal) X = X := by
  funext j
  have e := (idx_whole t).2.2.2.2.1
  show X _ = X _
  blk_ext [e]

theorem blk_11 : iblk m c 11 t = A6 m c :=
  (read_11 t _).trans (V_k m c)

theorem read_12 (X : Vec Ideal S256x1024 .f32) : ((cfg0.win 12).blk t).view.read (Elt Ideal) X = X := by
  funext j
  have e := (idx_whole t).2.2.2.2.2.1
  show X _ = X _
  blk_ext [e]

theorem blk_12 : iblk m c 12 t = A7 m c :=
  (read_12 t _).trans (V_v m c)

theorem read_13 (X : Vec Ideal S1024x1024 .f32) : ((cfg0.win 13).blk t).view.read (Elt Ideal) X = X := by
  funext j
  have e := (idx_whole t).2.2.2.2.2.2.1
  show X _ = X _
  blk_ext [e]

theorem blk_13 : iblk m c 13 t = val_main_v151 (F := Ideal) (A8 m c) :=
  (read_13 t _).trans (V_wxo m c)

theorem read_14 (X : Vec Ideal S1024x1024 .f32) : ((cfg0.win 14).blk t).view.read (Elt Ideal) X = X := by
  funext j
  have e := (idx_whole t).2.2.2.2.2.2.2.1
  show X _ = X _
  blk_ext [e]

theorem blk_14 : iblk m c 14 t = val_main_v196 (F := Ideal) (A9 m c) :=
  (read_14 t _).trans (V_wout m c)

theorem read_15 (X : Vec Ideal S4x256x384 .f32) : ((cfg0.win 15).blk t).view.read (Elt Ideal) X = X := by
  funext j
  have e := (idx_whole t).2.2.2.2.2.2.2.2
  show X _ = X _
  blk_ext [e]

theorem blk_15 : iblk m c 15 t = fun j => band (2 ^ ((j 0).val + 1)) (j 1).val (j 2).val :=
  (read_15 t _).trans (V_band m c)

/-- 1024 columns of a tile. -/
theorem ld_cols (k : Fin 16) (X : Vec Ideal S4096x8192 .f32) (Y : Vec Ideal S4096x1024 .f32) (off : Nat) (hoff : off + 1024 ≤ 8192)
    (h : ∀ r l, Y (ValueIdx.ix2 r l) = X (ValueIdx.ix2 r ⟨off + l.val, by have : l.val < 1024 := l.isLt; omega⟩))
    (inb : ∀ a, (![0, off] : Fin 2 → Nat) a + (![256, 1024] : Fin 2 → Nat) a ≤ (![256, 8192] : Fin 2 → Nat) a) :
    View.ld (tile k X) (Rect.unit (s := ⟨2, ![256, 8192]⟩) ![0, off] ![256, 1024] inb) = tile k Y := by
  funext j
  refine Eq.trans ?_ (h _ _).symm
  refine congrArg X ((ix2_inj _ _ _ _).mpr ⟨Fin.ext ?_, Fin.ext ?_⟩)
  · exact congrArg (256 * k.val + ·) ((Rect.idx_unit_val _ _ inb j 0).trans (Nat.zero_add _))
  · exact Rect.idx_unit_val _ _ inb j 1

end Cert.MixKernelIdeal.Mix

end
-- ==== Proof.Mix.Conv.lean ====
/- THE CAUSAL CONVOLUTION'S GRADIENTS, tile by tile. -/
module

public import proofs.«01_k».proof.Proof.Mix.Gates

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

variable (k : Fin 16) (a0 : Vec Ideal S4096x1024 .f32) (a1 : Vec Ideal S4096x8192 .f32) (a2 : Vec Ideal S1x3x1024 .f32) (a3 : Vec Ideal S1x1024x1024 .f32)
  (a9 : Vec Ideal S1x1024x1024 .f32)

/-- One row of the convolution's weights. -/
abbrev wrow (i : Fin 3) (a2 : Vec Ideal S1x3x1024 .f32) : Vec Ideal S1x1024 .f32 := fun j => a2 (ValueIdx.ix3 0 i (j 1))

/-- The rows `n` below a tile's, zero past the end. -/
abbrev below (n : Nat) (k : Fin 16) (X : Vec Ideal S4096x1024 .f32) : Vec Ideal S256x1024 .f32 :=
  fun j => if h : 256 * k.val + (j 0).val + n < 4096 then X (ValueIdx.ix2 ⟨256 * k.val + (j 0).val + n, h⟩ (j 1)) else 0

theorem cu_tile : k0_pay24 (F := Ideal) (tile k (val_main_v2 a1)) (tile k (val_main_v3 a1)) = tile k (val_main_v6 a1) := by
  funext j
  unfold k0_pay24 k0_pay22 k0_pay23 val_main_v6
  pointwise!

theorem tap0 : val_main_v26 (F := Ideal) a1 = val_main_v6 a1 := by
  funext j
  unfold val_main_v26 val_main_v9
  pointwise

theorem w0_apply (j : S1x1024.Idx) : val_main_v14 (F := Ideal) a2 j = wrow 0 a2 j := by
  unfold val_main_v14 val_main_v12 val_main_v11 val_main_v7
  pointwise
  rfl

theorem w1_apply (j : S1x1024.Idx) : val_main_v20 (F := Ideal) a2 j = wrow 1 a2 j := by
  unfold val_main_v20 val_main_v18 val_main_v17 val_main_v7
  pointwise
  rfl

theorem w2_apply (j : S1x1024.Idx) : val_main_v27 (F := Ideal) a2 j = wrow 2 a2 j := by
  unfold val_main_v27 val_main_v25 val_main_v24 val_main_v7
  pointwise
  rfl

theorem conv_tile : k0_pay27 (F := Ideal) (tile k (val_main_v221 a0 a1 a3 a9)) (tile k (val_main_v6 a1)) (tile k (val_main_v19 a1)) (tile k (val_main_v13 a1))
    (wrow 2 a2) (wrow 1 a2) (wrow 0 a2) = tile k (val_main_v318 a0 a1 a2 a3 a9) := by
  funext j
  unfold k0_pay27 val_main_v318 val_main_v30 val_main_v29 val_main_v23 val_main_v22 val_main_v16 val_main_v15 val_main_v21 val_main_v28
  pointwise
  rw [w0_apply, w1_apply, w2_apply, tap0]
  refine congrArg (_ * ·) ?_
  rw [add_assoc, add_comm, add_comm (wrow 1 a2 _ * _)]

theorem dconv_tile : k0_pay28 (F := Ideal) (tile k (val_main_v221 a0 a1 a3 a9)) (tile k (val_main_v1 a1)) = tile k (val_main_v317 a0 a1 a3 a9) := by
  funext j
  unfold k0_pay28 val_main_v317
  pointwise
  exact mul_comm _ _

theorem dcu_tile : k0_pay33 (F := Ideal) (tile k (val_main_v317 a0 a1 a3 a9)) (wrow 2 a2) (wrow 1 a2) (below 1 k (val_main_v317 a0 a1 a3 a9)) (wrow 0 a2)
    (below 2 k (val_main_v317 a0 a1 a3 a9)) = tile k (val_main_v351 a0 a1 a2 a3 a9) := by
  funext j
  have hk := k.isLt
  have hj : (j 0).val < 256 := (j 0).isLt
  unfold k0_pay33 val_main_v351 val_main_v346 val_main_v345 val_main_v335 val_main_v325 val_main_v334
  pointwise
  refine congrArg₂ (· + ·) (congrArg₂ (· + ·) ?_ ?_) ?_
  · rw [dif_pos (by omega)]
    unfold val_main_v320 val_main_v319
    pointwise
    rw [w2_apply]
    rfl
  · unfold below
    by_cases h : 256 * k.val + (j 0).val + 1 < 4096
    · rw [dif_pos h, dif_pos ⟨by omega, by omega⟩]
      unfold val_main_v329 val_main_v328
      pointwise
      rw [w1_apply]
      exact congrArg (fun r => _ * val_main_v317 a0 a1 a3 a9 (ValueIdx.ix2 r (j 1))) (Fin.ext (by show 256 * k.val + (j 0).val + 1 = 2 + (256 * k.val + (j 0).val) - 1; omega))
    · rw [dif_neg h, dif_neg (by omega), mul_zero]
      exact Ideal.ofBits_zero_f32.symm
  · unfold below
    by_cases h : 256 * k.val + (j 0).val + 2 < 4096
    · rw [dif_pos h, dif_pos (by omega)]
      unfold val_main_v340 val_main_v339
      pointwise
      rw [w0_apply]
      exact congrArg (fun r => _ * val_main_v317 a0 a1 a3 a9 (ValueIdx.ix2 r (j 1))) (Fin.ext (by show 256 * k.val + (j 0).val + 2 = 2 + (256 * k.val + (j 0).val); omega))
    · rw [dif_neg h, dif_neg (by omega), mul_zero]
      exact Ideal.ofBits_zero_f32.symm

/-- The gradients of the two factors of the convolution's input. -/
theorem dca_tile : k0_pay34 (F := Ideal) (tile k (val_main_v3 a1)) (tile k (val_main_v317 a0 a1 a3 a9)) (wrow 2 a2) (wrow 1 a2)
    (below 1 k (val_main_v317 a0 a1 a3 a9)) (wrow 0 a2) (below 2 k (val_main_v317 a0 a1 a3 a9)) = tile k (val_main_v354 a0 a1 a2 a3 a9) := by
  unfold k0_pay34
  rw [dcu_tile]
  rfl

theorem dua_tile : k0_pay35 (F := Ideal) (tile k (val_main_v2 a1)) (tile k (val_main_v351 a0 a1 a2 a3 a9)) = tile k (val_main_v353 a0 a1 a2 a3 a9) := by
  funext j
  unfold k0_pay35 val_main_v353
  pointwise
  exact mul_comm _ _

/-- The weights' gradients, one row of weights at a time. -/
theorem dw0_tile (s : Vec Ideal S1x1024 .f32) (l : Fin 1024) : k0_pay29 (F := Ideal) (tile k (val_main_v221 a0 a1 a3 a9)) (tile k (val_main_v13 a1))
    (tile k (val_main_v1 a1)) s (ValueIdx.ix2 0 l) = s (ValueIdx.ix2 0 l) + ∑ r : Fin 256, val_main_v341 a0 a1 a3 a9 (ValueIdx.ix2 (row k r) l) := by
  unfold k0_pay29 val_main_v341
  rw [dconv_tile]
  pointwise
  rfl

theorem dw1_tile (s : Vec Ideal S1x1024 .f32) (l : Fin 1024) : k0_pay30 (F := Ideal) (tile k (val_main_v19 a1)) (tile k (val_main_v317 a0 a1 a3 a9)) s (ValueIdx.ix2 0 l)
    = s (ValueIdx.ix2 0 l) + ∑ r : Fin 256, val_main_v330 a0 a1 a3 a9 (ValueIdx.ix2 (row k r) l) := by
  unfold k0_pay30 val_main_v330
  pointwise
  rfl

theorem dw2_tile (s : Vec Ideal S1x1024 .f32) (l : Fin 1024) : k0_pay31 (F := Ideal) (tile k (val_main_v6 a1)) (tile k (val_main_v317 a0 a1 a3 a9)) s (ValueIdx.ix2 0 l)
    = s (ValueIdx.ix2 0 l) + ∑ r : Fin 256, val_main_v321 a0 a1 a3 a9 (ValueIdx.ix2 (row k r) l) := by
  unfold k0_pay31 val_main_v321
  rw [← tap0 a1]
  pointwise
  rfl

end Cert.MixKernelIdeal.Mix

end
-- ==== Proof.Mix.Window.lean ====
/- SUMS OVER WINDOWS: the reversed running sum, and the counts a window divides by. -/
module

public import proofs.«01_k».proof.Proof.Mix.Gates

@[expose] public section

set_option maxRecDepth 16384

noncomputable section

namespace Cert.MixKernelIdeal.Mix

open Idealize.ShloMosaic Idealize.ShloMosaic.TcCoe Idealize.ShloMosaic.Tactic
open Cert.Reals

theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The windows of a whole column, one position wide across. -/
def winEquiv : (⟨3, ![4096, 1, 1]⟩ : Shape).Idx ≃ Fin 4096 where
  toFun i := i 0
  invFun n := ValueIdx.ix3 n 0 0
  left_inv i := by
    funext a
    match a with
    | ⟨0, _⟩ => rfl
    | ⟨1, _⟩ => exact (Fin.fin_one_eq_zero (i 1)).symm
    | ⟨2, _⟩ => exact (Fin.fin_one_eq_zero (i 2)).symm
  right_inv n := rfl

/-- A window's sum, position by position. -/
theorem reduceWindow_sum {s t u : Shape} (window strides lo hi : Fin s.rank → Nat) (x : s.Idx → EReal) (init : u.Idx → EReal)
    (h : s.ReduceWindows window strides lo hi t) (hu : 0 < u.numel) (j : t.Idx) :
    Host.reduceWindow (· + ·) window strides lo hi x init h hu j = init (Shape.Idx.first hu) + ∑ i : (⟨s.rank, window⟩ : Shape).Idx,
      (if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else init (Shape.Idx.first hu)) := by
  unfold Host.reduceWindow
  refine (foldl_add _ _ _).trans (congrArg (_ + ·) ?_)
  rw [← Fin.sum_univ_def]
  refine (Finset.sum_congr rfl fun i _ => dite_congr rfl (fun _ => rfl) fun _ => rfl).trans <| Equiv.sum_comp (⟨s.rank, window⟩ : Shape).rowMajor.symm (fun i : (⟨s.rank, window⟩ : Shape).Idx =>
    (if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else init (Shape.Idx.first hu)))

/-- The sum from a row to the last. -/
theorem window_sum (x : FVec Ideal ⟨3, ![4096, 4, 256]⟩ .f32) (init : FVec Ideal ⟨0, ![]⟩ .f32)
    (h : Shape.ReduceWindows ⟨3, ![4096, 4, 256]⟩ ![4096, 1, 1] ![1, 1, 1] ![0, 0, 0] ![4095, 0, 0] ⟨3, ![4096, 4, 256]⟩)
    (hu : 0 < (⟨0, ![]⟩ : Shape).numel) (h0 : init (Shape.Idx.first hu) = 0) (t : Fin 4096) (g : Fin 4) (l : Fin 256) :
    Host.reduceWindowAdd (F := Ideal) ![4096, 1, 1] ![1, 1, 1] ![0, 0, 0] ![4095, 0, 0] x init h hu (ValueIdx.ix3 t g l)
      = ∑ n : Fin 4096, if hn : t.val + n.val < 4096 then x (ValueIdx.ix3 ⟨t.val + n.val, hn⟩ g l) else 0 := by
  unfold Host.reduceWindowAdd
  rw [Ideal.hostReduceWindowAdd_def, h0]
  unfold Ideal.hostReduceWindowAdd
  rw [reduceWindow_sum, zero_add]
  refine (Equiv.sum_comp winEquiv.symm _).symm.trans (Finset.sum_congr rfl fun n _ => ?_)
  by_cases hn : t.val + n.val < 4096
  · rw [dif_pos hn, dif_pos]
    · refine congrArg x (funext fun a => ?_)
      match a with
      | ⟨0, _⟩ => exact Fin.ext (by show t.val * 1 + n.val - 0 = t.val + n.val; omega)
      | ⟨1, _⟩ => exact Fin.ext (by show g.val * 1 + 0 - 0 = g.val; omega)
      | ⟨2, _⟩ => exact Fin.ext (by show l.val * 1 + 0 - 0 = l.val; omega)
    · intro a
      match a with
      | ⟨0, _⟩ => show 0 ≤ t.val * 1 + n.val ∧ t.val * 1 + n.val - 0 < 4096; omega
      | ⟨1, _⟩ => show 0 ≤ g.val * 1 + 0 ∧ g.val * 1 + 0 - 0 < 4; omega
      | ⟨2, _⟩ => show 0 ≤ l.val * 1 + 0 ∧ l.val * 1 + 0 - 0 < 256; omega
  · rw [dif_neg hn, dif_neg]
    intro hh
    have h1 : 0 ≤ t.val * 1 + n.val ∧ t.val * 1 + n.val - 0 < 4096 := hh 0
    omega

/-- The rows a window of `w` holds at row `t`. -/
def cnt (w t : Nat) : EReal := ((min (t + 1) w : ℕ) : ℝ)

theorem cnt_ne (w t : Nat) (hw : w ≠ 0) : (((min (t + 1) w : ℕ) : ℝ)) ≠ 0 := by
  have : min (t + 1) w ≠ 0 := by omega
  exact_mod_cast this

theorem cnt_word (w : BitVec 32) (hw : w.toNat ≤ 16) (t : Nat) (ht : t < 4096) (b : BitVec 32) (hb : b.toNat = t + 1) :
    FloatOps.sitofp (F := Ideal) FTy.f32 (IntOp.minsi b w) = cnt w.toNat t := by
  have hb' : b.toInt = t + 1 := by rw [BitVec.toInt_eq_toNat_cond, hb]; omega
  have hw' : w.toInt = w.toNat := by rw [BitVec.toInt_eq_toNat_cond]; omega
  have e : (IntOp.minsi b w).toInt = ((min (t + 1) w.toNat : ℕ) : Int) := by
    unfold IntOp.minsi
    rw [BitVec.slt_eq_decide, hb', hw']
    by_cases h : ((t : Int) + 1) < w.toNat
    · rw [if_pos (decide_eq_true h), hb']; omega
    · rw [if_neg (by simpa using h), hw']; omega
  show ((((IntOp.minsi b w).toInt : ℝ)) : EReal) = _
  rw [e]; rfl

end Cert.MixKernelIdeal.Mix

end
-- ==== Proof.Mix.Pool.lean ====
/- THE POOLS' GRADIENTS: a window's sum against a difference of running sums. -/
module

public import proofs.«01_k».proof.Proof.Mix.Window
public import proofs.«01_k».proof.Proof.Mix.Host

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read
open Cert.Reals

variable (k : Fin 16) (a0 : Vec Ideal S4096x1024 .f32) (a1 : Vec Ideal S4096x8192 .f32) (a4 : Vec Ideal S1x4x256x256 .f32) (a5 : Vec Ideal S1x1024 .f32)
  (a9 : Vec Ideal S1x1024x1024 .f32)

/-- A column of 256 continued by zeros. -/
def col (X : Vec Ideal S4096x256 .f32) (l : Fin 256) (t : Nat) : EReal := if h : t < 4096 then X (ValueIdx.ix2 ⟨t, h⟩ l) else 0

theorem band_sum (w : Nat) (hw : w ≤ 16) (r : Fin 256) (P : Fin 384 → EReal) (q : ℕ → EReal) (h : ∀ s : Fin 384, s.val < 272 → P s = q s) :
    ∑ s : Fin 384, band w r s * P s = ∑ n ∈ Finset.range w, q (r + n) := by
  have hr := r.isLt
  let f : ℕ → EReal := fun s => band w r s * (if hs : s < 384 then P ⟨s, hs⟩ else 0)
  have e : ∑ s : Fin 384, band w r s * P s = ∑ s ∈ Finset.range 384, f s := by
    rw [← Fin.sum_univ_eq_sum_range]
    exact Finset.sum_congr rfl fun s _ => by simp only [f]; rw [dif_pos s.isLt]
  rw [e, ← Finset.sum_subset (s₁ := Finset.Ico r.val (r.val + w)), Finset.sum_Ico_eq_sum_range, Nat.add_sub_cancel_left]
  · refine Finset.sum_congr rfl fun n hn => ?_
    have := Finset.mem_range.mp hn
    simp only [f, band]
    rw [if_pos (by omega), one_mul, dif_pos (by omega), h _ (by show r.val + n < 272; omega)]
  · intro s hs; rw [Finset.mem_Ico] at hs; rw [Finset.mem_range]; omega
  · intro s _ hs
    rw [Finset.mem_Ico] at hs
    simp only [f, band]
    rw [if_neg (by omega), zero_mul]

/-- The kernel's window sum less its own row is the reference's running sum of differences less that row. -/
theorem pool_core (X : Vec Ideal S4096x256 .f32) (hX : ∀ i, IsReal (X i)) (w : Nat) (hw : w ≤ 16) (r : Fin 256) (l : Fin 256) (d : EReal)
    (P : Fin 384 → EReal) (hP : ∀ s : Fin 384, s.val < 272 → P s = col X l (256 * k.val + s.val)) (Y : Fin 4096 → EReal)
    (hY : ∀ u, Y u = col X l u + -col X l (u + w)) :
    ∑ s : Fin 384, band w r s * P s - d = -d + ∑ n : Fin 4096, if hn : (row k r).val + n.val < 4096 then Y ⟨(row k r).val + n.val, hn⟩ else 0 := by
  have hc (n : ℕ) : IsReal (col X l n) := by
    unfold col
    split
    · exact hX _
    · exact isReal_zero
  have hz (n : ℕ) (h : 4096 ≤ n) : col X l n = 0 := dif_neg (by omega)
  have e : (∑ n : Fin 4096, if hn : (row k r).val + n.val < 4096 then Y ⟨(row k r).val + n.val, hn⟩ else 0)
      = ∑ n ∈ Finset.range 4096, (col X l ((row k r).val + n) - col X l ((row k r).val + n + w)) := by
    rw [← Fin.sum_univ_eq_sum_range (fun n => col X l ((row k r).val + n) - col X l ((row k r).val + n + w))]
    refine Finset.sum_congr rfl fun n _ => ?_
    by_cases hn : (row k r).val + n.val < 4096
    · rw [dif_pos hn, hY]; rfl
    · rw [dif_neg hn, hz _ (by omega), hz _ (by omega), sub_zero]
  rw [e, sum_telescope_real (col X l) 4096 w _ hc hz, band_sum w hw r P (fun s => col X l (256 * k.val + s)) hP, sub_eq_add_neg, add_comm]
  refine congrArg (_ + ·) (Finset.sum_congr rfl fun n _ => ?_)
  show col X l (256 * k.val + (r.val + n)) = col X l (256 * k.val + r.val + n)
  rw [Nat.add_assoc]

/-- One group's products. -/
abbrev wg (g : Fin 4) (a4 : Vec Ideal S1x4x256x256 .f32) : Vec Ideal S1x256x256 .bf16 := fun j => val_main_v106 (F := Ideal) a4 (ValueIdx.ix3 g (j 1) (j 2))

/-- One group's window. -/
abbrev bandg (w : Nat) : Vec Ideal S1x256x384 .bf16 := fun j => band w (j 1).val (j 2).val

theorem tile_word (r : Fin 256) : (IntOp.addi (IntOp.addi (Scalar.muli (BitVec.ofNat 32 k.val) 256#32) (BitVec.ofNat 32 r.val)) 1#32).toNat = (row k r).val + 1 := by
  have := k.isLt
  have := r.isLt
  unfold IntOp.addi Scalar.muli IntOp.muli
  simp only [BitVec.toNat_add, BitVec.toNat_mul, BitVec.toNat_ofNat]
  omega

/-- The reciprocal of a count, multiplied, against the quotient. -/
theorem recip (w : BitVec 32) (hw : w.toNat ≤ 16) (hw0 : w.toNat ≠ 0) (x : EReal) (r : Fin 256) :
    x * Ideal.div 1 (FloatOps.sitofp (F := Ideal) FTy.f32
      (IntOp.minsi (IntOp.addi (IntOp.addi (Scalar.muli (BitVec.ofNat 32 k.val) 256#32) (BitVec.ofNat 32 r.val)) 1#32) w))
      = Ideal.div x (cnt w.toNat (row k r)) := by
  rw [cnt_word w hw (row k r).val (row k r).isLt _ (tile_word k r)]
  exact Ideal.mul_one_div (fun h => cnt_ne w.toNat (row k r).val hw0 (EReal.coe_eq_zero.mp h))

theorem ref_word (t : Fin 4096) : (IntOp.addi (val_main_v35 (F := Ideal) (ValueIdx.ix1 t)) (val_main_v34 (F := Ideal) (ValueIdx.ix1 t))).toNat = t.val + 1 := by
  have := t.isLt
  show (1#32 + BitVec.ofNat 32 t.val).toNat = _
  rw [BitVec.toNat_add, BitVec.toNat_ofNat]
  simp
  omega

theorem dq0_tile : k0_pay36 (F := Ideal) (tile k (val_main_v208 a0 a1 a5 a9)) (wg 0 a4) = tile k (val_main_v253 a0 a1 a4 a5 a9) := by
  funext j
  unfold k0_pay36 val_main_v253 val_main_v252 val_main_v251 val_main_v250 val_main_v249 val_main_v248
  pointwise
  rfl

theorem cnt0 (t : Fin 4096) (q : Fin 1) : val_main_v46 (F := Ideal) (ValueIdx.ix2 t q) = cnt 2 t := by
  unfold val_main_v46 val_main_v45 val_main_v44 val_main_v43 val_main_v36
  pointwise
  exact cnt_word 2#32 (by decide) t.val t.isLt _ (ref_word t)

theorem dn0_tile : k0_pay37 (F := Ideal) (BitVec.ofNat 32 k.val) (tile k (val_main_v208 a0 a1 a5 a9)) (wg 0 a4) = tile k (val_main_v305 a0 a1 a4 a5 a9) := by
  funext j
  unfold k0_pay37 val_main_v305 val_main_v304
  rw [dq0_tile]
  pointwise
  exact (recip k 2#32 (by decide) (by decide) _ _).trans (congrArg (Ideal.div _) (cnt0 _ _).symm)

theorem dq1_tile : k0_pay40 (F := Ideal) (k0_pay39 (tile k (val_main_v208 a0 a1 a5 a9))) (wg 1 a4) = tile k (val_main_v255 a0 a1 a4 a5 a9) := by
  funext j
  unfold k0_pay40 k0_pay39 val_main_v255 val_main_v254 val_main_v251 val_main_v250 val_main_v249 val_main_v248
  pointwise
  rfl

theorem cnt1 (t : Fin 4096) (q : Fin 1) : val_main_v62 (F := Ideal) (ValueIdx.ix2 t q) = cnt 4 t := by
  unfold val_main_v62 val_main_v61 val_main_v60 val_main_v59 val_main_v36
  pointwise
  exact cnt_word 4#32 (by decide) t.val t.isLt _ (ref_word t)

theorem dn1_tile : k0_pay41 (F := Ideal) (BitVec.ofNat 32 k.val) (k0_pay39 (tile k (val_main_v208 a0 a1 a5 a9))) (wg 1 a4) = tile k (val_main_v291 a0 a1 a4 a5 a9) := by
  funext j
  unfold k0_pay41 val_main_v291 val_main_v290
  rw [dq1_tile]
  pointwise
  exact (recip k 4#32 (by decide) (by decide) _ _).trans (congrArg (Ideal.div _) (cnt1 _ _).symm)

theorem dq2_tile : k0_pay43 (F := Ideal) (tile k (val_main_v208 a0 a1 a5 a9)) (wg 2 a4) = tile k (val_main_v257 a0 a1 a4 a5 a9) := by
  funext j
  unfold k0_pay43 val_main_v257 val_main_v256 val_main_v251 val_main_v250 val_main_v249 val_main_v248
  pointwise
  rfl

theorem cnt2 (t : Fin 4096) (q : Fin 1) : val_main_v78 (F := Ideal) (ValueIdx.ix2 t q) = cnt 8 t := by
  unfold val_main_v78 val_main_v77 val_main_v76 val_main_v75 val_main_v36
  pointwise
  exact cnt_word 8#32 (by decide) t.val t.isLt _ (ref_word t)

theorem dn2_tile : k0_pay45 (F := Ideal) (k0_pay43 (tile k (val_main_v208 a0 a1 a5 a9)) (wg 2 a4)) (k0_pay44 (BitVec.ofNat 32 k.val)) = tile k (val_main_v277 a0 a1 a4 a5 a9) := by
  funext j
  unfold k0_pay45 k0_pay44 val_main_v277 val_main_v276
  rw [dq2_tile]
  pointwise
  exact (recip k 8#32 (by decide) (by decide) _ _).trans (congrArg (Ideal.div _) (cnt2 _ _).symm)

theorem dq3_tile : k0_pay47 (F := Ideal) (tile k (val_main_v208 a0 a1 a5 a9)) (wg 3 a4) = tile k (val_main_v259 a0 a1 a4 a5 a9) := by
  funext j
  unfold k0_pay47 val_main_v259 val_main_v258 val_main_v251 val_main_v250 val_main_v249 val_main_v248
  pointwise
  rfl

theorem cnt3 (t : Fin 4096) (q : Fin 1) : val_main_v94 (F := Ideal) (ValueIdx.ix2 t q) = cnt 16 t := by
  unfold val_main_v94 val_main_v93 val_main_v92 val_main_v91 val_main_v36
  pointwise
  exact cnt_word 16#32 (by decide) t.val t.isLt _ (ref_word t)

theorem dn3_tile : k0_pay49 (F := Ideal) (k0_pay48 (BitVec.ofNat 32 k.val) (tile k (val_main_v208 a0 a1 a5 a9)) (wg 3 a4)) = tile k (val_main_v264 a0 a1 a4 a5 a9) := by
  funext j
  unfold k0_pay49 k0_pay48 val_main_v264 val_main_v263
  rw [dq3_tile]
  pointwise
  exact (recip k 16#32 (by decide) (by decide) _ _).trans (congrArg (Ideal.div _) (cnt3 _ _).symm)

theorem z42 (i) : val_main_cst_42 (F := Ideal) i = 0 := Ideal.ofBits_zero_f32
theorem z43 (i) : val_main_cst_43 (F := Ideal) i = 0 := Ideal.ofBits_zero_f32
theorem z44 (i) : val_main_cst_44 (F := Ideal) i = 0 := Ideal.ofBits_zero_f32
theorem z45 (i) : val_main_cst_45 (F := Ideal) i = 0 := Ideal.ofBits_zero_f32
theorem z46 (i) : val_main_cst_46 (F := Ideal) i = 0 := Ideal.ofBits_zero_f32
theorem z47 (i) : val_main_cst_47 (F := Ideal) i = 0 := Ideal.ofBits_zero_f32
theorem z48 (i) : val_main_cst_48 (F := Ideal) i = 0 := Ideal.ofBits_zero_f32
theorem z49 (i) : val_main_cst_49 (F := Ideal) i = 0 := Ideal.ofBits_zero_f32
theorem z50 (i) : val_main_cst_50 (F := Ideal) i = 0 := Ideal.ofBits_zero_f32
theorem z51 (i) : val_main_cst_51 (F := Ideal) i = 0 := Ideal.ofBits_zero_f32
theorem z52 (i) : val_main_cst_52 (F := Ideal) i = 0 := Ideal.ofBits_zero_f32
theorem z53 (i) : val_main_cst_53 (F := Ideal) i = 0 := Ideal.ofBits_zero_f32

theorem v303_0 (t : Fin 4096) (l : Fin 256) : val_main_v303 (F := Ideal) a0 a1 a4 a5 a9 (ValueIdx.ix3 t 0 l) = -val_main_v253 a0 a1 a4 a5 a9 (ValueIdx.ix2 t l) := by
  unfold val_main_v303 val_main_v302 val_main_v301 val_main_v300 val_main_v289 val_main_v288 val_main_v287 val_main_v286 val_main_v275 val_main_v274 val_main_v273 val_main_v272 val_main_v262 val_main_v261 val_main_v260
  pointwise
  simp only [z42, z43, z44, z45, z46, z47, z48, z49, z50, z51, z52, z53, zero_add, add_zero]
  rfl

theorem v313_0 (t : Fin 4096) (l : Fin 256) : val_main_v313 (F := Ideal) a0 a1 a4 a5 a9 (ValueIdx.ix3 t 0 l)
    = col (val_main_v305 a0 a1 a4 a5 a9) l t + -col (val_main_v305 a0 a1 a4 a5 a9) l (t + 2) := by
  have ht := t.isLt
  unfold val_main_v313 val_main_v299 val_main_v285 val_main_v312 val_main_v311 val_main_v310 val_main_v309 val_main_v308 val_main_v306 val_main_v298 val_main_v284 val_main_v271
  pointwise
  simp only [z42, z43, z44, z45, z46, z47, z48, z49, z50, z51, z52, z53, zero_add, add_zero]
  unfold col
  rw [dif_pos t.isLt]
  refine congrArg₂ (· + ·) rfl ?_
  by_cases h : t.val + 2 < 4096
  · rw [dif_pos h, dif_pos (show t.val < 4094 by omega)]
    exact congrArg (fun r => -val_main_v305 a0 a1 a4 a5 a9 (ValueIdx.ix2 r l)) (Fin.ext (Nat.add_comm _ _))
  · rw [dif_neg h, dif_neg (show ¬ t.val < 4094 by omega), neg_zero]

theorem v303_1 (t : Fin 4096) (l : Fin 256) : val_main_v303 (F := Ideal) a0 a1 a4 a5 a9 (ValueIdx.ix3 t 1 l) = -val_main_v255 a0 a1 a4 a5 a9 (ValueIdx.ix2 t l) := by
  unfold val_main_v303 val_main_v302 val_main_v301 val_main_v300 val_main_v289 val_main_v288 val_main_v287 val_main_v286 val_main_v275 val_main_v274 val_main_v273 val_main_v272 val_main_v262 val_main_v261 val_main_v260
  pointwise
  simp only [z42, z43, z44, z45, z46, z47, z48, z49, z50, z51, z52, z53, zero_add, add_zero]
  rfl

theorem v313_1 (t : Fin 4096) (l : Fin 256) : val_main_v313 (F := Ideal) a0 a1 a4 a5 a9 (ValueIdx.ix3 t 1 l)
    = col (val_main_v291 a0 a1 a4 a5 a9) l t + -col (val_main_v291 a0 a1 a4 a5 a9) l (t + 4) := by
  have ht := t.isLt
  unfold val_main_v313 val_main_v299 val_main_v285 val_main_v312 val_main_v298 val_main_v297 val_main_v296 val_main_v295 val_main_v294 val_main_v292 val_main_v284 val_main_v271
  pointwise
  simp only [z42, z43, z44, z45, z46, z47, z48, z49, z50, z51, z52, z53, zero_add, add_zero]
  unfold col
  rw [dif_pos t.isLt]
  refine congrArg₂ (· + ·) rfl ?_
  by_cases h : t.val + 4 < 4096
  · rw [dif_pos h, dif_pos (show t.val < 4092 by omega)]
    exact congrArg (fun r => -val_main_v291 a0 a1 a4 a5 a9 (ValueIdx.ix2 r l)) (Fin.ext (Nat.add_comm _ _))
  · rw [dif_neg h, dif_neg (show ¬ t.val < 4092 by omega), neg_zero]

theorem v303_2 (t : Fin 4096) (l : Fin 256) : val_main_v303 (F := Ideal) a0 a1 a4 a5 a9 (ValueIdx.ix3 t 2 l) = -val_main_v257 a0 a1 a4 a5 a9 (ValueIdx.ix2 t l) := by
  unfold val_main_v303 val_main_v302 val_main_v301 val_main_v300 val_main_v289 val_main_v288 val_main_v287 val_main_v286 val_main_v275 val_main_v274 val_main_v273 val_main_v272 val_main_v262 val_main_v261 val_main_v260
  pointwise
  simp only [z42, z43, z44, z45, z46, z47, z48, z49, z50, z51, z52, z53, zero_add, add_zero]
  rfl

theorem v313_2 (t : Fin 4096) (l : Fin 256) : val_main_v313 (F := Ideal) a0 a1 a4 a5 a9 (ValueIdx.ix3 t 2 l)
    = col (val_main_v277 a0 a1 a4 a5 a9) l t + -col (val_main_v277 a0 a1 a4 a5 a9) l (t + 8) := by
  have ht := t.isLt
  unfold val_main_v313 val_main_v299 val_main_v285 val_main_v312 val_main_v298 val_main_v284 val_main_v283 val_main_v282 val_main_v281 val_main_v280 val_main_v278 val_main_v271
  pointwise
  simp only [z42, z43, z44, z45, z46, z47, z48, z49, z50, z51, z52, z53, zero_add, add_zero]
  unfold col
  rw [dif_pos t.isLt]
  refine congrArg₂ (· + ·) rfl ?_
  by_cases h : t.val + 8 < 4096
  · rw [dif_pos h, dif_pos (show t.val < 4088 by omega)]
    exact congrArg (fun r => -val_main_v277 a0 a1 a4 a5 a9 (ValueIdx.ix2 r l)) (Fin.ext (Nat.add_comm _ _))
  · rw [dif_neg h, dif_neg (show ¬ t.val < 4088 by omega), neg_zero]

theorem v303_3 (t : Fin 4096) (l : Fin 256) : val_main_v303 (F := Ideal) a0 a1 a4 a5 a9 (ValueIdx.ix3 t 3 l) = -val_main_v259 a0 a1 a4 a5 a9 (ValueIdx.ix2 t l) := by
  unfold val_main_v303 val_main_v302 val_main_v301 val_main_v300 val_main_v289 val_main_v288 val_main_v287 val_main_v286 val_main_v275 val_main_v274 val_main_v273 val_main_v272 val_main_v262 val_main_v261 val_main_v260
  pointwise
  simp only [z42, z43, z44, z45, z46, z47, z48, z49, z50, z51, z52, z53, zero_add, add_zero]
  rfl

theorem v313_3 (t : Fin 4096) (l : Fin 256) : val_main_v313 (F := Ideal) a0 a1 a4 a5 a9 (ValueIdx.ix3 t 3 l)
    = col (val_main_v264 a0 a1 a4 a5 a9) l t + -col (val_main_v264 a0 a1 a4 a5 a9) l (t + 16) := by
  have ht := t.isLt
  unfold val_main_v313 val_main_v299 val_main_v285 val_main_v312 val_main_v298 val_main_v284 val_main_v271 val_main_v270 val_main_v269 val_main_v268 val_main_v267 val_main_v265
  pointwise
  simp only [z42, z43, z44, z45, z46, z47, z48, z49, z50, z51, z52, z53, zero_add, add_zero]
  unfold col
  rw [dif_pos t.isLt]
  refine congrArg₂ (· + ·) rfl ?_
  by_cases h : t.val + 16 < 4096
  · rw [dif_pos h, dif_pos (show t.val < 4080 by omega)]
    exact congrArg (fun r => -val_main_v264 a0 a1 a4 a5 a9 (ValueIdx.ix2 r l)) (Fin.ext (Nat.add_comm _ _))
  · rw [dif_neg h, dif_neg (show ¬ t.val < 4080 by omega), neg_zero]

/-- The running sum's gradient, at a group's column. -/
theorem v316_apply (t : Fin 4096) (g : Fin 4) (l : Fin 256) (q : Fin 1024) (hq : q.val = 256 * g.val + l.val) :
    val_main_v316 (F := Ideal) a0 a1 a4 a5 a9 (ValueIdx.ix2 t q) = val_main_v303 a0 a1 a4 a5 a9 (ValueIdx.ix3 t g l)
      + ∑ n : Fin 4096, if hn : t.val + n.val < 4096 then val_main_v313 a0 a1 a4 a5 a9 (ValueIdx.ix3 ⟨t.val + n.val, hn⟩ g l) else 0 := by
  unfold val_main_v316 val_main_v315 val_main_v314
  pointwise
  have hl := l.isLt
  have e (h1 h2) : ix3 (ValueIdx.ix2 t q 0) (⟨q.val / 256, h1⟩ : Fin 4) (⟨q.val % 256, h2⟩ : Fin 256) = ValueIdx.ix3 t g l :=
    (ix3_inj _ _ _ _ _ _).mpr ⟨rfl, Fin.ext (by show q.val / 256 = g.val; omega), Fin.ext (by show q.val % 256 = l.val; omega)⟩
  exact congrArg₂ (· + ·) (congrArg (val_main_v303 (F := Ideal) a0 a1 a4 a5 a9) (e _ _))
    ((congrArg (Host.reduceWindowAdd (F := Ideal) _ _ _ _ _ _ _ _) (e _ _)).trans (window_sum _ _ _ _ Ideal.ofBits_zero_f32 t g l))

theorem du0_tile (hX : ∀ i, IsReal (val_main_v305 (F := Ideal) a0 a1 a4 a5 a9 i)) (P : Vec Ideal S384x256 .bf16)
    (hP : ∀ (s : Fin 384) l, s.val < 272 → P (ValueIdx.ix2 s l) = col (val_main_v305 a0 a1 a4 a5 a9) l (256 * k.val + s.val)) :
    k0_pay38 (F := Ideal) (tile k (val_main_v208 a0 a1 a5 a9)) (wg 0 a4) (bandg 2) P = fun j => val_main_v316 a0 a1 a4 a5 a9 (ValueIdx.ix2 (row k (j 0)) ⟨256 * 0 + (j 1).val, by have : (j 1).val < 256 := (j 1).isLt; omega⟩) := by
  funext j
  unfold k0_pay38
  rw [dq0_tile]
  refine Eq.trans ?_ ((v316_apply a0 a1 a4 a5 a9 (row k (j 0)) 0 (j 1) _ rfl).trans (congrArg (· + _) (v303_0 a0 a1 a4 a5 a9 _ _))).symm
  pointwise
  exact pool_core k _ hX 2 (by decide) (j 0) (j 1) _ (fun s => P (ValueIdx.ix2 s (j 1))) (fun s hs => hP s _ hs) _ fun u => v313_0 a0 a1 a4 a5 a9 u (j 1)

theorem du1_tile (hX : ∀ i, IsReal (val_main_v291 (F := Ideal) a0 a1 a4 a5 a9 i)) (P : Vec Ideal S384x256 .bf16)
    (hP : ∀ (s : Fin 384) l, s.val < 272 → P (ValueIdx.ix2 s l) = col (val_main_v291 a0 a1 a4 a5 a9) l (256 * k.val + s.val)) :
    k0_pay42 (F := Ideal) (k0_pay39 (tile k (val_main_v208 a0 a1 a5 a9))) (wg 1 a4) (bandg 4) P = fun j => val_main_v316 a0 a1 a4 a5 a9 (ValueIdx.ix2 (row k (j 0)) ⟨256 * 1 + (j 1).val, by have : (j 1).val < 256 := (j 1).isLt; omega⟩) := by
  funext j
  unfold k0_pay42
  rw [dq1_tile]
  refine Eq.trans ?_ ((v316_apply a0 a1 a4 a5 a9 (row k (j 0)) 1 (j 1) _ rfl).trans (congrArg (· + _) (v303_1 a0 a1 a4 a5 a9 _ _))).symm
  pointwise
  exact pool_core k _ hX 4 (by decide) (j 0) (j 1) _ (fun s => P (ValueIdx.ix2 s (j 1))) (fun s hs => hP s _ hs) _ fun u => v313_1 a0 a1 a4 a5 a9 u (j 1)

theorem du2_tile (hX : ∀ i, IsReal (val_main_v277 (F := Ideal) a0 a1 a4 a5 a9 i)) (P : Vec Ideal S384x256 .bf16)
    (hP : ∀ (s : Fin 384) l, s.val < 272 → P (ValueIdx.ix2 s l) = col (val_main_v277 a0 a1 a4 a5 a9) l (256 * k.val + s.val)) :
    k0_pay46 (F := Ideal) (tile k (val_main_v257 a0 a1 a4 a5 a9)) (bandg 8) P = fun j => val_main_v316 a0 a1 a4 a5 a9 (ValueIdx.ix2 (row k (j 0)) ⟨256 * 2 + (j 1).val, by have : (j 1).val < 256 := (j 1).isLt; omega⟩) := by
  funext j
  unfold k0_pay46

  refine Eq.trans ?_ ((v316_apply a0 a1 a4 a5 a9 (row k (j 0)) 2 (j 1) _ rfl).trans (congrArg (· + _) (v303_2 a0 a1 a4 a5 a9 _ _))).symm
  pointwise
  exact pool_core k _ hX 8 (by decide) (j 0) (j 1) _ (fun s => P (ValueIdx.ix2 s (j 1))) (fun s hs => hP s _ hs) _ fun u => v313_2 a0 a1 a4 a5 a9 u (j 1)

theorem du3_tile (hX : ∀ i, IsReal (val_main_v264 (F := Ideal) a0 a1 a4 a5 a9 i)) (P : Vec Ideal S384x256 .bf16)
    (hP : ∀ (s : Fin 384) l, s.val < 272 → P (ValueIdx.ix2 s l) = col (val_main_v264 a0 a1 a4 a5 a9) l (256 * k.val + s.val)) :
    k0_pay50 (F := Ideal) (tile k (val_main_v259 a0 a1 a4 a5 a9)) (bandg 16) P = fun j => val_main_v316 a0 a1 a4 a5 a9 (ValueIdx.ix2 (row k (j 0)) ⟨256 * 3 + (j 1).val, by have : (j 1).val < 256 := (j 1).isLt; omega⟩) := by
  funext j
  unfold k0_pay50

  refine Eq.trans ?_ ((v316_apply a0 a1 a4 a5 a9 (row k (j 0)) 3 (j 1) _ rfl).trans (congrArg (· + _) (v303_3 a0 a1 a4 a5 a9 _ _))).symm
  pointwise
  exact pool_core k _ hX 16 (by decide) (j 0) (j 1) _ (fun s => P (ValueIdx.ix2 s (j 1))) (fun s hs => hP s _ hs) _ fun u => v313_3 a0 a1 a4 a5 a9 u (j 1)

end Cert.MixKernelIdeal.Mix

end
-- ==== Proof.Mix.Attention.lean ====
/- THE ATTENTION'S GRADIENT: what the body computes of a head in a tile of 256 rows is that slab of the reference's arrays. -/
module

public import proofs.«01_k».proof.Proof.Mix.Gates

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read
open Cert.Reals

/-- Column `l` of head `g`. -/
abbrev hcol (g : Fin 4) (l : Fin 256) : Fin 1024 := ⟨g.val * 256 + l.val, by omega⟩

/-- Head `g` of tile `k`. -/
abbrev htile {α : Type} (g : Fin 4) (k : Fin 16) (X : (⟨2, ![4096, 1024]⟩ : Shape).Idx → α) : (⟨2, ![256, 256]⟩ : Shape).Idx → α :=
  fun j => X (ix2 (row k (j 0)) (hcol g (j 1)))

/-- Head `g` of an array of 256 rows. -/
abbrev hblk {α : Type} (g : Fin 4) (X : (⟨2, ![256, 1024]⟩ : Shape).Idx → α) : (⟨2, ![256, 256]⟩ : Shape).Idx → α :=
  fun j => X (ix2 (j 0) (hcol g (j 1)))

/-- The rows of tile `k` of head `g`, of an array with the heads in front. -/
abbrev slab {α : Type} (g : Fin 4) (k : Fin 16) (X : (⟨3, ![4, 4096, 256]⟩ : Shape).Idx → α) : (⟨2, ![256, 256]⟩ : Shape).Idx → α :=
  fun j => X (ix3 g (row k (j 0)) (j 1))

theorem head_div (g : Fin 4) (l : Fin 256) {h} : (⟨(g.val * 256 + l.val) / 256, h⟩ : Fin 4) = g := Fin.ext (by show (g.val * 256 + l.val) / 256 = g.val; omega)
theorem head_col (g : Fin 4) (l : Fin 256) {h} : (⟨(g.val * 256 + l.val) / 256 * 256 + (g.val * 256 + l.val) % 256, h⟩ : Fin 1024) = hcol g l :=
  Fin.ext (by show (g.val * 256 + l.val) / 256 * 256 + (g.val * 256 + l.val) % 256 = g.val * 256 + l.val; omega)

variable (g : Fin 4) (k : Fin 16) (a0 : Vec Ideal S4096x1024 .f32) (a1 : Vec Ideal S4096x8192 .f32)
  (a6 a7 : Vec Ideal S256x1024 .f32) (a8 a9 : Vec Ideal S1x1024x1024 .f32)

theorem probs_head : htile g k (val_main_v148 a1 a6) = slab g k (val_main_v140 a1 a6) := by
  funext j
  unfold val_main_v148 val_main_v147
  simp only [htile, slab]
  generalize val_main_v140 a1 a6 = X
  pointwise
  refine congrArg X ((ix3_inj _ _ _ _ _ _).mpr ⟨Fin.ext ?_, rfl, Fin.ext ?_⟩)
  · show (g.val * 256 + (j 1).val) / 256 = g.val
    have : (j 1).val < 256 := (j 1).isLt
    omega
  · show (g.val * 256 + (j 1).val) % 256 = (j 1).val
    have : (j 1).val < 256 := (j 1).isLt
    omega

theorem slice_head0 (X : FVec Ideal S4096x1024 .f32) (x : FVec Ideal S256x1024 .bf16) (w : Vec Ideal S1024x1024 .bf16) (h : k0_pay51 (F := Ideal) x w = tile k X) :
    k0_pay56 (F := Ideal) x w = htile 0 k X := by
  unfold k0_pay56
  rw [h]
  funext j
  pointwise
  exact congrArg X ((ix2_inj _ _ _ _).mpr ⟨rfl, Fin.ext (Nat.zero_add _).symm⟩)
theorem slice_head1 (X : FVec Ideal S4096x1024 .f32) : k0_pay67 (F := Ideal) (tile k X) = htile 1 k X := by
  funext j
  unfold k0_pay67
  pointwise
  exact congrArg X ((ix2_inj _ _ _ _).mpr ⟨rfl, rfl⟩)
theorem slice_head2 (X : FVec Ideal S4096x1024 .f32) : k0_pay78 (F := Ideal) (tile k X) = htile 2 k X := by
  funext j
  unfold k0_pay78
  pointwise
  exact congrArg X ((ix2_inj _ _ _ _).mpr ⟨rfl, rfl⟩)
theorem slice_head3 (X : FVec Ideal S4096x1024 .f32) : k0_pay88 (F := Ideal) (tile k X) = htile 3 k X := by
  funext j
  unfold k0_pay88
  pointwise
  exact congrArg X ((ix2_inj _ _ _ _).mpr ⟨rfl, rfl⟩)

/-- The gradient of the weights. -/
theorem dp_head : matmul (F := Ideal) dot_S256x256_S256x256_S256x256_1_1_0_0_n_n none (htile g k (val_main_v220 a0 a1 a8 a9) : FVec Ideal S256x256 .bf16) (hblk g a7 : FVec Ideal S256x256 .bf16) (constant S256x256 .f32 0x00000000#32) = slab g k (val_main_v224 a0 a1 a7 a8 a9) := by
  funext j
  unfold val_main_v224 val_main_v223 val_main_v222 val_main_v112
  generalize val_main_v220 a0 a1 a8 a9 = X
  simp only [slab]
  pointwise
  rfl

/-- What a tile adds to the gradient of the values. -/
theorem dv_head (s : FVec Ideal S256x256 .f32) (X : FVec Ideal S4096x1024 .f32) (Y : FVec Ideal S4x4096x256 .f32) :
    addf s (matmul (F := Ideal) dot_S256x256_S256x256_S256x256_0_0_1_1_n_n none (slab g k Y : FVec Ideal S256x256 .bf16) (htile g k X : FVec Ideal S256x256 .bf16) (constant S256x256 .f32 0x00000000#32))
      = fun j => s j + ∑ r : Fin 256, Y (ix3 g (row k r) (j 0)) * X (ix2 (row k r) (hcol g (j 1))) := by
  funext j
  pointwise
  rfl

/-- The gradient of the scores. -/
theorem ds_head (he : ∀ i, IsReal (val_main_v136 a1 a6 i)) (hd : ∀ i, IsReal (val_main_v224 a0 a1 a7 a8 a9 i))
    (hS : ∀ g t, ∃ s : ℝ, val_main_v138 a1 a6 (ix3 g t 0) = (s : EReal) ∧ s ≠ 0) :
    k0_pay60 (F := Ideal) (slab g k (val_main_v140 a1 a6)) (slab g k (val_main_v224 a0 a1 a7 a8 a9))
      (mulf (slab g k (val_main_v224 a0 a1 a7 a8 a9)) (slab g k (val_main_v140 a1 a6))) = slab g k (val_main_v240 a0 a1 a6 a7 a8 a9) := by
  funext j
  unfold k0_pay60 val_main_v240 val_main_v239 val_main_v238 val_main_v237 val_main_v236 val_main_v235 val_main_v234 val_main_v233 val_main_v232 val_main_v231
    val_main_v230 val_main_v229 val_main_v228 val_main_v227 val_main_v143 val_main_v142 val_main_v141 val_main_v140 val_main_v139 val_main_cst_41 val_main_cst_40 val_main_cst_39 val_main_cst_24
  simp only [slab]
  have key := softmax_grad (fun i => val_main_v136 a1 a6 (ix3 g (row k (j 0)) i)) (fun i => val_main_v224 a0 a1 a7 a8 a9 (ix3 g (row k (j 0)) i)) _ (Ideal.ofBits .f32 0x3D800000#32)
    (fun i => he _) (fun i => hd _) isReal_sixteenth (hS g (row k (j 0))) (j 1)
  generalize val_main_v136 a1 a6 = E at *
  generalize val_main_v138 a1 a6 = S at *
  generalize val_main_v224 a0 a1 a7 a8 a9 = D at *
  pointwise
  refine key.symm.trans ?_
  rw [Fin.sum_univ_one (fun _ : Fin 1 => _)]

/-- The gradient of the queries. -/
theorem dq_head : matmul (F := Ideal) dot_S256x256_S256x256_S256x256_1_0_0_1_n_n none (slab g k (val_main_v240 a0 a1 a6 a7 a8 a9) : FVec Ideal S256x256 .bf16) (hblk g a6 : FVec Ideal S256x256 .bf16) (constant S256x256 .f32 0x00000000#32)
    = htile g k (val_main_v247 a0 a1 a6 a7 a8 a9) := by
  funext j
  unfold val_main_v247 val_main_v244 val_main_v243 val_main_v111
  generalize val_main_v240 a0 a1 a6 a7 a8 a9 = X
  simp only [htile]
  pointwise
  exact Finset.sum_congr rfl fun x _ => congrArg₂ (· * ·) (congrArg X ((ix3_inj _ _ _ _ _ _).mpr ⟨(head_div g _).symm, rfl, rfl⟩))
    (congrArg a6 ((ix2_inj _ _ _ _).mpr ⟨rfl, (head_col g _).symm⟩))

/-- The gradient of the values, and of the keys, over all rows. -/
theorem dv_ref (i l : Fin 256) : val_main_v245 a0 a1 a6 a8 a9 (ix2 i (hcol g l)) = ∑ t : Fin 4096, val_main_v140 a1 a6 (ix3 g t i) * val_main_v220 a0 a1 a8 a9 (ix2 t (hcol g l)) := by
  unfold val_main_v245 val_main_v226 val_main_v225 val_main_v223 val_main_v222
  generalize val_main_v140 a1 a6 = X
  generalize val_main_v220 a0 a1 a8 a9 = Y
  pointwise
  exact Finset.sum_congr rfl fun x _ => (mul_comm _ _).trans (congrArg₂ (· * ·) (congrArg X ((ix3_inj _ _ _ _ _ _).mpr ⟨head_div g _, rfl, rfl⟩))
    (congrArg Y ((ix2_inj _ _ _ _).mpr ⟨rfl, head_col g _⟩)))
theorem dk_ref (i l : Fin 256) : val_main_v246 a0 a1 a6 a7 a8 a9 (ix2 i (hcol g l)) = ∑ t : Fin 4096, val_main_v240 a0 a1 a6 a7 a8 a9 (ix3 g t i) * val_main_v5 a1 (ix2 t (hcol g l)) := by
  unfold val_main_v246 val_main_v242 val_main_v241 val_main_v110
  generalize val_main_v240 a0 a1 a6 a7 a8 a9 = X
  generalize val_main_v5 a1 = Y
  pointwise
  exact Finset.sum_congr rfl fun x _ => congrArg₂ (· * ·) (congrArg X ((ix3_inj _ _ _ _ _ _).mpr ⟨head_div g _, rfl, rfl⟩))
    (congrArg Y ((ix2_inj _ _ _ _).mpr ⟨rfl, head_col g _⟩))

/-! ## The four heads -/

theorem ext55 (X : Vec Ideal S256x256 .bf16) : k0_pay55 (F := Ideal) X = X := by
  unfold k0_pay55 k0_pay54
  exact shapeCast_self _ _
theorem ext66 (X : Vec Ideal S256x256 .bf16) : k0_pay66 (F := Ideal) X = X := by
  unfold k0_pay66 k0_pay65
  exact shapeCast_self _ _
theorem ext77 (X : Vec Ideal S256x256 .bf16) : k0_pay77 (F := Ideal) X = X := by
  unfold k0_pay77 k0_pay76
  exact shapeCast_self _ _
theorem ext87 (X : Vec Ideal S256x256 .bf16) : k0_pay87 (F := Ideal) X = X := by
  unfold k0_pay87 k0_pay86
  exact shapeCast_self _ _

variable (he : ∀ i, IsReal (val_main_v136 a1 a6 i)) (hd : ∀ i, IsReal (val_main_v224 a0 a1 a7 a8 a9 i))
  (hS : ∀ g t, ∃ s : ℝ, val_main_v138 a1 a6 (ix3 g t 0) = (s : EReal) ∧ s ≠ 0)

theorem dp0 : k0_pay57 (F := Ideal) (tile k (val_main_v199 a0 a1 a9)) (val_main_v151 a8) (hblk 0 a7) = slab 0 k (val_main_v224 a0 a1 a7 a8 a9) := by
  unfold k0_pay57
  rw [slice_head0 k _ _ _ (do_tile k a0 a1 a8 a9)]
  exact (congrArg (fun y => matmul (F := Ideal) dot_S256x256_S256x256_S256x256_1_1_0_0_n_n none _ y _) (shapeCast_self _ _)).trans (dp_head 0 k a0 a1 a7 a8 a9)
theorem dv0 (s : FVec Ideal S256x256 .f32) : k0_pay58 (F := Ideal) (tile k (val_main_v199 a0 a1 a9)) (val_main_v151 a8) (htile 0 k (val_main_v148 a1 a6)) s
    = fun j => s j + ∑ r : Fin 256, val_main_v140 a1 a6 (ix3 0 (row k r) (j 0)) * val_main_v220 a0 a1 a8 a9 (ix2 (row k r) (hcol 0 (j 1))) := by
  rw [probs_head]
  refine Eq.trans ?_ (dv_head 0 k s _ _)
  unfold k0_pay58
  rw [slice_head0 k _ _ _ (do_tile k a0 a1 a8 a9)]
  exact congrArg₂ addf (shapeCast_self _ _) (congrArg (fun y => matmul (F := Ideal) dot_S256x256_S256x256_S256x256_0_0_1_1_n_n none y _ _) (shapeCast_self _ _))
include he hd hS in
theorem ds0 : k0_pay60 (F := Ideal) (k0_pay55 (htile 0 k (val_main_v148 a1 a6))) (k0_pay57 (tile k (val_main_v199 a0 a1 a9)) (val_main_v151 a8) (hblk 0 a7)) (k0_pay59 (tile k (val_main_v199 a0 a1 a9)) (val_main_v151 a8) (htile 0 k (val_main_v148 a1 a6)) (hblk 0 a7))
    = slab 0 k (val_main_v240 a0 a1 a6 a7 a8 a9) := by
  unfold k0_pay59
  rw [dp0, probs_head, ext55]
  exact ds_head 0 k a0 a1 a6 a7 a8 a9 he hd hS
include he hd hS in
theorem dq0 : k0_pay61 (F := Ideal) (k0_pay53 (hblk 0 a6)) (k0_pay55 (htile 0 k (val_main_v148 a1 a6))) (k0_pay57 (tile k (val_main_v199 a0 a1 a9)) (val_main_v151 a8) (hblk 0 a7)) (k0_pay59 (tile k (val_main_v199 a0 a1 a9)) (val_main_v151 a8) (htile 0 k (val_main_v148 a1 a6)) (hblk 0 a7))
    = htile 0 k (val_main_v247 a0 a1 a6 a7 a8 a9) := by
  unfold k0_pay61
  rw [ds0 k a0 a1 a6 a7 a8 a9 he hd hS]
  exact (congrArg (fun y => matmul (F := Ideal) dot_S256x256_S256x256_S256x256_1_0_0_1_n_n none _ y _) (shapeCast_self _ _)).trans (dq_head 0 k a0 a1 a6 a7 a8 a9)
include he hd hS in
theorem dk0 (s : FVec Ideal S256x256 .f32) : k0_pay62 (F := Ideal) (k0_pay52 (htile 0 k (val_main_v5 a1))) (k0_pay55 (htile 0 k (val_main_v148 a1 a6))) (k0_pay57 (tile k (val_main_v199 a0 a1 a9)) (val_main_v151 a8) (hblk 0 a7)) (k0_pay59 (tile k (val_main_v199 a0 a1 a9)) (val_main_v151 a8) (htile 0 k (val_main_v148 a1 a6)) (hblk 0 a7)) s
    = fun j => s j + ∑ r : Fin 256, val_main_v240 a0 a1 a6 a7 a8 a9 (ix3 0 (row k r) (j 0)) * val_main_v5 a1 (ix2 (row k r) (hcol 0 (j 1))) := by
  refine Eq.trans ?_ (dv_head 0 k s _ _)
  unfold k0_pay62
  rw [ds0 k a0 a1 a6 a7 a8 a9 he hd hS]
  exact congrArg₂ addf (shapeCast_self _ _) (congrArg (fun y => matmul (F := Ideal) dot_S256x256_S256x256_S256x256_0_0_1_1_n_n none _ y _) (shapeCast_self _ _))

theorem dp1 : k0_pay68 (F := Ideal) (tile k (val_main_v220 a0 a1 a8 a9)) (hblk 1 a7) = slab 1 k (val_main_v224 a0 a1 a7 a8 a9) := by
  unfold k0_pay68
  rw [slice_head1 k _]
  exact (congrArg (fun y => matmul (F := Ideal) dot_S256x256_S256x256_S256x256_1_1_0_0_n_n none _ y _) (shapeCast_self _ _)).trans (dp_head 1 k a0 a1 a7 a8 a9)
theorem dv1 (s : FVec Ideal S256x256 .f32) : k0_pay69 (F := Ideal) (tile k (val_main_v220 a0 a1 a8 a9)) (htile 1 k (val_main_v148 a1 a6)) s
    = fun j => s j + ∑ r : Fin 256, val_main_v140 a1 a6 (ix3 1 (row k r) (j 0)) * val_main_v220 a0 a1 a8 a9 (ix2 (row k r) (hcol 1 (j 1))) := by
  rw [probs_head]
  refine Eq.trans ?_ (dv_head 1 k s _ _)
  unfold k0_pay69
  rw [slice_head1 k _]
  exact congrArg₂ addf (shapeCast_self _ _) (congrArg (fun y => matmul (F := Ideal) dot_S256x256_S256x256_S256x256_0_0_1_1_n_n none y _ _) (shapeCast_self _ _))
include he hd hS in
theorem ds1 : k0_pay71 (F := Ideal) (k0_pay66 (htile 1 k (val_main_v148 a1 a6))) (k0_pay68 (tile k (val_main_v220 a0 a1 a8 a9)) (hblk 1 a7)) (k0_pay70 (tile k (val_main_v220 a0 a1 a8 a9)) (htile 1 k (val_main_v148 a1 a6)) (hblk 1 a7))
    = slab 1 k (val_main_v240 a0 a1 a6 a7 a8 a9) := by
  unfold k0_pay70
  rw [dp1, probs_head, ext66]
  exact ds_head 1 k a0 a1 a6 a7 a8 a9 he hd hS
include he hd hS in
theorem dq1 : k0_pay72 (F := Ideal) (k0_pay64 (hblk 1 a6)) (k0_pay66 (htile 1 k (val_main_v148 a1 a6))) (k0_pay68 (tile k (val_main_v220 a0 a1 a8 a9)) (hblk 1 a7)) (k0_pay70 (tile k (val_main_v220 a0 a1 a8 a9)) (htile 1 k (val_main_v148 a1 a6)) (hblk 1 a7))
    = htile 1 k (val_main_v247 a0 a1 a6 a7 a8 a9) := by
  unfold k0_pay72
  rw [ds1 k a0 a1 a6 a7 a8 a9 he hd hS]
  exact (congrArg (fun y => matmul (F := Ideal) dot_S256x256_S256x256_S256x256_1_0_0_1_n_n none _ y _) (shapeCast_self _ _)).trans (dq_head 1 k a0 a1 a6 a7 a8 a9)
include he hd hS in
theorem dk1 (s : FVec Ideal S256x256 .f32) : k0_pay73 (F := Ideal) (k0_pay63 (htile 1 k (val_main_v5 a1))) (k0_pay66 (htile 1 k (val_main_v148 a1 a6))) (k0_pay68 (tile k (val_main_v220 a0 a1 a8 a9)) (hblk 1 a7)) (k0_pay70 (tile k (val_main_v220 a0 a1 a8 a9)) (htile 1 k (val_main_v148 a1 a6)) (hblk 1 a7)) s
    = fun j => s j + ∑ r : Fin 256, val_main_v240 a0 a1 a6 a7 a8 a9 (ix3 1 (row k r) (j 0)) * val_main_v5 a1 (ix2 (row k r) (hcol 1 (j 1))) := by
  refine Eq.trans ?_ (dv_head 1 k s _ _)
  unfold k0_pay73
  rw [ds1 k a0 a1 a6 a7 a8 a9 he hd hS]
  exact congrArg₂ addf (shapeCast_self _ _) (congrArg (fun y => matmul (F := Ideal) dot_S256x256_S256x256_S256x256_0_0_1_1_n_n none _ y _) (shapeCast_self _ _))

theorem dp2 : k0_pay79 (F := Ideal) (tile k (val_main_v220 a0 a1 a8 a9)) (hblk 2 a7) = slab 2 k (val_main_v224 a0 a1 a7 a8 a9) := by
  unfold k0_pay79
  rw [slice_head2 k _]
  exact (congrArg (fun y => matmul (F := Ideal) dot_S256x256_S256x256_S256x256_1_1_0_0_n_n none _ y _) (shapeCast_self _ _)).trans (dp_head 2 k a0 a1 a7 a8 a9)
theorem dv2 (s : FVec Ideal S256x256 .f32) : k0_pay80 (F := Ideal) (tile k (val_main_v220 a0 a1 a8 a9)) (htile 2 k (val_main_v148 a1 a6)) s
    = fun j => s j + ∑ r : Fin 256, val_main_v140 a1 a6 (ix3 2 (row k r) (j 0)) * val_main_v220 a0 a1 a8 a9 (ix2 (row k r) (hcol 2 (j 1))) := by
  rw [probs_head]
  refine Eq.trans ?_ (dv_head 2 k s _ _)
  unfold k0_pay80
  rw [slice_head2 k _]
  exact congrArg₂ addf (shapeCast_self _ _) (congrArg (fun y => matmul (F := Ideal) dot_S256x256_S256x256_S256x256_0_0_1_1_n_n none y _ _) (shapeCast_self _ _))
include he hd hS in
theorem ds2 : k0_pay81 (F := Ideal) (k0_pay77 (htile 2 k (val_main_v148 a1 a6))) (k0_pay79 (tile k (val_main_v220 a0 a1 a8 a9)) (hblk 2 a7))
    = slab 2 k (val_main_v240 a0 a1 a6 a7 a8 a9) := by
  rw [dp2, probs_head, ext77]
  exact ds_head 2 k a0 a1 a6 a7 a8 a9 he hd hS
include he hd hS in
theorem dq2 : k0_pay82 (F := Ideal) (k0_pay75 (hblk 2 a6)) (k0_pay77 (htile 2 k (val_main_v148 a1 a6))) (k0_pay79 (tile k (val_main_v220 a0 a1 a8 a9)) (hblk 2 a7))
    = htile 2 k (val_main_v247 a0 a1 a6 a7 a8 a9) := by
  unfold k0_pay82
  rw [ds2 k a0 a1 a6 a7 a8 a9 he hd hS]
  exact (congrArg (fun y => matmul (F := Ideal) dot_S256x256_S256x256_S256x256_1_0_0_1_n_n none _ y _) (shapeCast_self _ _)).trans (dq_head 2 k a0 a1 a6 a7 a8 a9)
include he hd hS in
theorem dk2 (s : FVec Ideal S256x256 .f32) : k0_pay83 (F := Ideal) (k0_pay74 (htile 2 k (val_main_v5 a1))) (k0_pay77 (htile 2 k (val_main_v148 a1 a6))) (k0_pay79 (tile k (val_main_v220 a0 a1 a8 a9)) (hblk 2 a7)) s
    = fun j => s j + ∑ r : Fin 256, val_main_v240 a0 a1 a6 a7 a8 a9 (ix3 2 (row k r) (j 0)) * val_main_v5 a1 (ix2 (row k r) (hcol 2 (j 1))) := by
  refine Eq.trans ?_ (dv_head 2 k s _ _)
  unfold k0_pay83
  rw [ds2 k a0 a1 a6 a7 a8 a9 he hd hS]
  exact congrArg₂ addf (shapeCast_self _ _) (congrArg (fun y => matmul (F := Ideal) dot_S256x256_S256x256_S256x256_0_0_1_1_n_n none _ y _) (shapeCast_self _ _))

theorem dp3 : k0_pay89 (F := Ideal) (tile k (val_main_v220 a0 a1 a8 a9)) (hblk 3 a7) = slab 3 k (val_main_v224 a0 a1 a7 a8 a9) := by
  unfold k0_pay89
  rw [slice_head3 k _]
  exact (congrArg (fun y => matmul (F := Ideal) dot_S256x256_S256x256_S256x256_1_1_0_0_n_n none _ y _) (shapeCast_self _ _)).trans (dp_head 3 k a0 a1 a7 a8 a9)
theorem dv3 (s : FVec Ideal S256x256 .f32) : k0_pay90 (F := Ideal) (tile k (val_main_v220 a0 a1 a8 a9)) (htile 3 k (val_main_v148 a1 a6)) s
    = fun j => s j + ∑ r : Fin 256, val_main_v140 a1 a6 (ix3 3 (row k r) (j 0)) * val_main_v220 a0 a1 a8 a9 (ix2 (row k r) (hcol 3 (j 1))) := by
  rw [probs_head]
  refine Eq.trans ?_ (dv_head 3 k s _ _)
  unfold k0_pay90
  rw [slice_head3 k _]
  exact congrArg₂ addf (shapeCast_self _ _) (congrArg (fun y => matmul (F := Ideal) dot_S256x256_S256x256_S256x256_0_0_1_1_n_n none y _ _) (shapeCast_self _ _))
include he hd hS in
theorem ds3 : k0_pay91 (F := Ideal) (k0_pay87 (htile 3 k (val_main_v148 a1 a6))) (k0_pay89 (tile k (val_main_v220 a0 a1 a8 a9)) (hblk 3 a7))
    = slab 3 k (val_main_v240 a0 a1 a6 a7 a8 a9) := by
  rw [dp3, probs_head, ext87]
  exact ds_head 3 k a0 a1 a6 a7 a8 a9 he hd hS
include he hd hS in
theorem dq3 : k0_pay92 (F := Ideal) (k0_pay85 (hblk 3 a6)) (k0_pay87 (htile 3 k (val_main_v148 a1 a6))) (k0_pay89 (tile k (val_main_v220 a0 a1 a8 a9)) (hblk 3 a7))
    = htile 3 k (val_main_v247 a0 a1 a6 a7 a8 a9) := by
  unfold k0_pay92
  rw [ds3 k a0 a1 a6 a7 a8 a9 he hd hS]
  exact (congrArg (fun y => matmul (F := Ideal) dot_S256x256_S256x256_S256x256_1_0_0_1_n_n none _ y _) (shapeCast_self _ _)).trans (dq_head 3 k a0 a1 a6 a7 a8 a9)
include he hd hS in
theorem dk3 (s : FVec Ideal S256x256 .f32) : k0_pay93 (F := Ideal) (k0_pay84 (htile 3 k (val_main_v5 a1))) (k0_pay87 (htile 3 k (val_main_v148 a1 a6))) (k0_pay89 (tile k (val_main_v220 a0 a1 a8 a9)) (hblk 3 a7)) s
    = fun j => s j + ∑ r : Fin 256, val_main_v240 a0 a1 a6 a7 a8 a9 (ix3 3 (row k r) (j 0)) * val_main_v5 a1 (ix2 (row k r) (hcol 3 (j 1))) := by
  refine Eq.trans ?_ (dv_head 3 k s _ _)
  unfold k0_pay93
  rw [ds3 k a0 a1 a6 a7 a8 a9 he hd hS]
  exact congrArg₂ addf (shapeCast_self _ _) (congrArg (fun y => matmul (F := Ideal) dot_S256x256_S256x256_S256x256_0_0_1_1_n_n none _ y _) (shapeCast_self _ _))

end Cert.MixKernelIdeal.Mix

end
-- ==== Proof.Mix.Stages.lean ====
/- THE BODY'S STAGES AT A POINT: each intermediate array of the body, of the point's blocks, as a tile of the reference's. -/
module

public import proofs.«01_k».proof.Proof.Mix.Frame
public import proofs.«01_k».proof.Proof.Mix.Blocks
public import proofs.«01_k».proof.Proof.Mix.Conv
public import proofs.«01_k».proof.Proof.Mix.Pool
public import proofs.«01_k».proof.Proof.Mix.Attention

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

variable (m : (ℓ : Loc nD τ sig) → Buf (Elt Ideal) ℓ) (c : Dev nD) (t : Fin cfg0.N)

/-! ## Loads of a point's blocks -/

theorem ld_0 : View.ld (iblk m c 1 t) (Rect.unit ![0, 0] ![256, 1024] inb_S256x8192_S256x1024_0_0) = tile (kk t) (val_main_v1 (F := Ideal) (A1 m c)) := by
  rw [blk_1]
  refine ld_cols (kk t) (A1 m c) _ 0 (by decide) (fun r l => ?_) _
  unfold val_main_v1
  generalize A1 m c = X
  pointwise
  exact congrArg X ((ix2_inj _ _ _ _).mpr ⟨rfl, Fin.ext (by first | rfl | exact (Nat.zero_add _).symm)⟩)
theorem ld_1024 : View.ld (iblk m c 1 t) (Rect.unit ![0, 1024] ![256, 1024] inb_S256x8192_S256x1024_0_1024) = tile (kk t) (val_main_v2 (F := Ideal) (A1 m c)) := by
  rw [blk_1]
  refine ld_cols (kk t) (A1 m c) _ 1024 (by decide) (fun r l => ?_) _
  unfold val_main_v2
  generalize A1 m c = X
  pointwise
  exact congrArg X ((ix2_inj _ _ _ _).mpr ⟨rfl, Fin.ext (by first | rfl | exact (Nat.zero_add _).symm)⟩)
theorem ld_2048 : View.ld (iblk m c 1 t) (Rect.unit ![0, 2048] ![256, 1024] inb_S256x8192_S256x1024_0_2048) = tile (kk t) (val_main_v3 (F := Ideal) (A1 m c)) := by
  rw [blk_1]
  refine ld_cols (kk t) (A1 m c) _ 2048 (by decide) (fun r l => ?_) _
  unfold val_main_v3
  generalize A1 m c = X
  pointwise
  exact congrArg X ((ix2_inj _ _ _ _).mpr ⟨rfl, Fin.ext (by first | rfl | exact (Nat.zero_add _).symm)⟩)
theorem ld_5120 : View.ld (iblk m c 1 t) (Rect.unit ![0, 5120] ![256, 1024] inb_S256x8192_S256x1024_0_5120) = tile (kk t) (val_main_v157 (F := Ideal) (A1 m c)) := by
  rw [blk_1]
  refine ld_cols (kk t) (A1 m c) _ 5120 (by decide) (fun r l => ?_) _
  unfold val_main_v157
  generalize A1 m c = X
  pointwise
  exact congrArg X ((ix2_inj _ _ _ _).mpr ⟨rfl, Fin.ext (by first | rfl | exact (Nat.zero_add _).symm)⟩)
theorem ld_6144 : View.ld (iblk m c 1 t) (Rect.unit ![0, 6144] ![256, 1024] inb_S256x8192_S256x1024_0_6144) = tile (kk t) (val_main_v158 (F := Ideal) (A1 m c)) := by
  rw [blk_1]
  refine ld_cols (kk t) (A1 m c) _ 6144 (by decide) (fun r l => ?_) _
  unfold val_main_v158
  generalize A1 m c = X
  pointwise
  exact congrArg X ((ix2_inj _ _ _ _).mpr ⟨rfl, Fin.ext (by first | rfl | exact (Nat.zero_add _).symm)⟩)
theorem ld_7168 : View.ld (iblk m c 1 t) (Rect.unit ![0, 7168] ![256, 1024] inb_S256x8192_S256x1024_0_7168) = tile (kk t) (val_main_v159 (F := Ideal) (A1 m c)) := by
  rw [blk_1]
  refine ld_cols (kk t) (A1 m c) _ 7168 (by decide) (fun r l => ?_) _
  unfold val_main_v159
  generalize A1 m c = X
  pointwise
  exact congrArg X ((ix2_inj _ _ _ _).mpr ⟨rfl, Fin.ext (by first | rfl | exact (Nat.zero_add _).symm)⟩)
theorem ld_q0 : View.ld (iblk m c 1 t) (Rect.unit ![0, 4096] ![256, 256] inb_S256x8192_S256x256_0_4096) = htile 0 (kk t) (val_main_v5 (F := Ideal) (A1 m c)) := by
  rw [blk_1]
  unfold val_main_v5
  generalize A1 m c = X
  funext j
  simp only [htile]
  pointwise
  refine congrArg X ((ix2_inj _ _ _ _).mpr ⟨Fin.ext ?_, Fin.ext ?_⟩)
  · rfl
  · rfl
theorem ld_p0 : View.ld (iblk m c 6 t) (Rect.unit ![0, 0] ![256, 256] inb_S256x1024_S256x256_0_0) = htile 0 (kk t) (val_main_v148 (F := Ideal) (A1 m c) (A6 m c)) := by
  rw [blk_6]
  generalize val_main_v148 (F := Ideal) (A1 m c) (A6 m c) = X
  funext j
  simp only [htile, tile]
  pointwise
  exact congrArg X ((ix2_inj _ _ _ _).mpr ⟨rfl, Fin.ext (by first | rfl | exact (Nat.zero_add _).symm)⟩)
theorem ld_k0 : View.ld (iblk m c 11 t) (Rect.unit ![0, 0] ![256, 256] inb_S256x1024_S256x256_0_0) = hblk 0 (A6 m c) := by
  rw [blk_11]
  generalize A6 m c = X
  funext j
  simp only [hblk]
  pointwise
  exact congrArg X ((ix2_inj _ _ _ _).mpr ⟨rfl, Fin.ext (by first | rfl | exact (Nat.zero_add _).symm)⟩)
theorem ld_v0 : View.ld (iblk m c 12 t) (Rect.unit ![0, 0] ![256, 256] inb_S256x1024_S256x256_0_0) = hblk 0 (A7 m c) := by
  rw [blk_12]
  generalize A7 m c = X
  funext j
  simp only [hblk]
  pointwise
  exact congrArg X ((ix2_inj _ _ _ _).mpr ⟨rfl, Fin.ext (by first | rfl | exact (Nat.zero_add _).symm)⟩)
theorem ld_w0_of (X : Vec Ideal S4x256x256 .bf16) : View.ld X (Rect.unit ![0, 0, 0] ![1, 256, 256] inb_S4x256x256_S1x256x256_0_0_0) = (fun j => X (ValueIdx.ix3 0 (j 1) (j 2)) : Vec Ideal S1x256x256 .bf16) := by
  funext j
  pointwise
  rfl
theorem ld_w0 : View.ld (iblk m c 9 t) (Rect.unit ![0, 0, 0] ![1, 256, 256] inb_S4x256x256_S1x256x256_0_0_0) = wg 0 (A4 m c) := by
  rw [blk_9]
  exact ld_w0_of _
theorem ld_b0 : View.ld (iblk m c 15 t) (Rect.unit ![0, 0, 0] ![1, 256, 384] inb_S4x256x384_S1x256x384_0_0_0) = bandg 2 := by
  rw [blk_15]
  funext j
  pointwise
  rfl
theorem ld_q1 : View.ld (iblk m c 1 t) (Rect.unit ![0, 4352] ![256, 256] inb_S256x8192_S256x256_0_4352) = htile 1 (kk t) (val_main_v5 (F := Ideal) (A1 m c)) := by
  rw [blk_1]
  unfold val_main_v5
  generalize A1 m c = X
  funext j
  simp only [htile]
  pointwise
  refine congrArg X ((ix2_inj _ _ _ _).mpr ⟨Fin.ext ?_, Fin.ext ?_⟩)
  · rfl
  · show 4352 + (j 1).val = 4096 + (1 * 256 + (j 1).val)
    omega
theorem ld_p1 : View.ld (iblk m c 6 t) (Rect.unit ![0, 256] ![256, 256] inb_S256x1024_S256x256_0_256) = htile 1 (kk t) (val_main_v148 (F := Ideal) (A1 m c) (A6 m c)) := by
  rw [blk_6]
  generalize val_main_v148 (F := Ideal) (A1 m c) (A6 m c) = X
  funext j
  simp only [htile, tile]
  pointwise
  exact congrArg X ((ix2_inj _ _ _ _).mpr ⟨rfl, Fin.ext (by first | rfl | exact (Nat.zero_add _).symm)⟩)
theorem ld_k1 : View.ld (iblk m c 11 t) (Rect.unit ![0, 256] ![256, 256] inb_S256x1024_S256x256_0_256) = hblk 1 (A6 m c) := by
  rw [blk_11]
  generalize A6 m c = X
  funext j
  simp only [hblk]
  pointwise
  exact congrArg X ((ix2_inj _ _ _ _).mpr ⟨rfl, Fin.ext (by first | rfl | exact (Nat.zero_add _).symm)⟩)
theorem ld_v1 : View.ld (iblk m c 12 t) (Rect.unit ![0, 256] ![256, 256] inb_S256x1024_S256x256_0_256) = hblk 1 (A7 m c) := by
  rw [blk_12]
  generalize A7 m c = X
  funext j
  simp only [hblk]
  pointwise
  exact congrArg X ((ix2_inj _ _ _ _).mpr ⟨rfl, Fin.ext (by first | rfl | exact (Nat.zero_add _).symm)⟩)
theorem ld_w1_of (X : Vec Ideal S4x256x256 .bf16) : View.ld X (Rect.unit ![1, 0, 0] ![1, 256, 256] inb_S4x256x256_S1x256x256_1_0_0) = (fun j => X (ValueIdx.ix3 1 (j 1) (j 2)) : Vec Ideal S1x256x256 .bf16) := by
  funext j
  pointwise
  rfl
theorem ld_w1 : View.ld (iblk m c 9 t) (Rect.unit ![1, 0, 0] ![1, 256, 256] inb_S4x256x256_S1x256x256_1_0_0) = wg 1 (A4 m c) := by
  rw [blk_9]
  exact ld_w1_of _
theorem ld_b1 : View.ld (iblk m c 15 t) (Rect.unit ![1, 0, 0] ![1, 256, 384] inb_S4x256x384_S1x256x384_1_0_0) = bandg 4 := by
  rw [blk_15]
  funext j
  pointwise
  rfl
theorem ld_q2 : View.ld (iblk m c 1 t) (Rect.unit ![0, 4608] ![256, 256] inb_S256x8192_S256x256_0_4608) = htile 2 (kk t) (val_main_v5 (F := Ideal) (A1 m c)) := by
  rw [blk_1]
  unfold val_main_v5
  generalize A1 m c = X
  funext j
  simp only [htile]
  pointwise
  refine congrArg X ((ix2_inj _ _ _ _).mpr ⟨Fin.ext ?_, Fin.ext ?_⟩)
  · rfl
  · show 4608 + (j 1).val = 4096 + (2 * 256 + (j 1).val)
    omega
theorem ld_p2 : View.ld (iblk m c 6 t) (Rect.unit ![0, 512] ![256, 256] inb_S256x1024_S256x256_0_512) = htile 2 (kk t) (val_main_v148 (F := Ideal) (A1 m c) (A6 m c)) := by
  rw [blk_6]
  generalize val_main_v148 (F := Ideal) (A1 m c) (A6 m c) = X
  funext j
  simp only [htile, tile]
  pointwise
  exact congrArg X ((ix2_inj _ _ _ _).mpr ⟨rfl, Fin.ext (by first | rfl | exact (Nat.zero_add _).symm)⟩)
theorem ld_k2 : View.ld (iblk m c 11 t) (Rect.unit ![0, 512] ![256, 256] inb_S256x1024_S256x256_0_512) = hblk 2 (A6 m c) := by
  rw [blk_11]
  generalize A6 m c = X
  funext j
  simp only [hblk]
  pointwise
  exact congrArg X ((ix2_inj _ _ _ _).mpr ⟨rfl, Fin.ext (by first | rfl | exact (Nat.zero_add _).symm)⟩)
theorem ld_v2 : View.ld (iblk m c 12 t) (Rect.unit ![0, 512] ![256, 256] inb_S256x1024_S256x256_0_512) = hblk 2 (A7 m c) := by
  rw [blk_12]
  generalize A7 m c = X
  funext j
  simp only [hblk]
  pointwise
  exact congrArg X ((ix2_inj _ _ _ _).mpr ⟨rfl, Fin.ext (by first | rfl | exact (Nat.zero_add _).symm)⟩)
theorem ld_w2_of (X : Vec Ideal S4x256x256 .bf16) : View.ld X (Rect.unit ![2, 0, 0] ![1, 256, 256] inb_S4x256x256_S1x256x256_2_0_0) = (fun j => X (ValueIdx.ix3 2 (j 1) (j 2)) : Vec Ideal S1x256x256 .bf16) := by
  funext j
  pointwise
  rfl
theorem ld_w2 : View.ld (iblk m c 9 t) (Rect.unit ![2, 0, 0] ![1, 256, 256] inb_S4x256x256_S1x256x256_2_0_0) = wg 2 (A4 m c) := by
  rw [blk_9]
  exact ld_w2_of _
theorem ld_b2 : View.ld (iblk m c 15 t) (Rect.unit ![2, 0, 0] ![1, 256, 384] inb_S4x256x384_S1x256x384_2_0_0) = bandg 8 := by
  rw [blk_15]
  funext j
  pointwise
  rfl
theorem ld_q3 : View.ld (iblk m c 1 t) (Rect.unit ![0, 4864] ![256, 256] inb_S256x8192_S256x256_0_4864) = htile 3 (kk t) (val_main_v5 (F := Ideal) (A1 m c)) := by
  rw [blk_1]
  unfold val_main_v5
  generalize A1 m c = X
  funext j
  simp only [htile]
  pointwise
  refine congrArg X ((ix2_inj _ _ _ _).mpr ⟨Fin.ext ?_, Fin.ext ?_⟩)
  · rfl
  · show 4864 + (j 1).val = 4096 + (3 * 256 + (j 1).val)
    omega
theorem ld_p3 : View.ld (iblk m c 6 t) (Rect.unit ![0, 768] ![256, 256] inb_S256x1024_S256x256_0_768) = htile 3 (kk t) (val_main_v148 (F := Ideal) (A1 m c) (A6 m c)) := by
  rw [blk_6]
  generalize val_main_v148 (F := Ideal) (A1 m c) (A6 m c) = X
  funext j
  simp only [htile, tile]
  pointwise
  exact congrArg X ((ix2_inj _ _ _ _).mpr ⟨rfl, Fin.ext (by first | rfl | exact (Nat.zero_add _).symm)⟩)
theorem ld_k3 : View.ld (iblk m c 11 t) (Rect.unit ![0, 768] ![256, 256] inb_S256x1024_S256x256_0_768) = hblk 3 (A6 m c) := by
  rw [blk_11]
  generalize A6 m c = X
  funext j
  simp only [hblk]
  pointwise
  exact congrArg X ((ix2_inj _ _ _ _).mpr ⟨rfl, Fin.ext (by first | rfl | exact (Nat.zero_add _).symm)⟩)
theorem ld_v3 : View.ld (iblk m c 12 t) (Rect.unit ![0, 768] ![256, 256] inb_S256x1024_S256x256_0_768) = hblk 3 (A7 m c) := by
  rw [blk_12]
  generalize A7 m c = X
  funext j
  simp only [hblk]
  pointwise
  exact congrArg X ((ix2_inj _ _ _ _).mpr ⟨rfl, Fin.ext (by first | rfl | exact (Nat.zero_add _).symm)⟩)
theorem ld_w3_of (X : Vec Ideal S4x256x256 .bf16) : View.ld X (Rect.unit ![3, 0, 0] ![1, 256, 256] inb_S4x256x256_S1x256x256_3_0_0) = (fun j => X (ValueIdx.ix3 3 (j 1) (j 2)) : Vec Ideal S1x256x256 .bf16) := by
  funext j
  pointwise
  rfl
theorem ld_w3 : View.ld (iblk m c 9 t) (Rect.unit ![3, 0, 0] ![1, 256, 256] inb_S4x256x256_S1x256x256_3_0_0) = wg 3 (A4 m c) := by
  rw [blk_9]
  exact ld_w3_of _
theorem ld_b3 : View.ld (iblk m c 15 t) (Rect.unit ![3, 0, 0] ![1, 256, 384] inb_S4x256x384_S1x256x384_3_0_0) = bandg 16 := by
  rw [blk_15]
  funext j
  pointwise
  rfl

end Cert.MixKernelIdeal.Mix

end
-- ==== Proof.Mix.Reads.lean ====
/- WHAT THE SCRATCH ARRAYS READ: stores by rectangles, read row by row. -/
module

public import proofs.«01_k».proof.Proof.Mix.Stages
public import Idealize.ShloMosaic.Lib.Pipeline.ReadBack

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

section Pieces

variable {M N a b p q : Nat} {e : EltTy}

/-- Under the last store its payload is read; -/
theorem canon_hit (inb : ∀ x, (![a, b] : Fin 2 → Nat) x + (![p, q] : Fin 2 → Nat) x ≤ (![M, N] : Fin 2 → Nat) x)
    (w : (⟨2, ![p, q]⟩ : Shape).Idx → Elt Ideal e) (L : List (View.Piece (Elt Ideal) ⟨2, ![M, N]⟩ e)) (i : Fin M) (j : Fin N) (i' : Fin p) (j' : Fin q)
    (hi : i.val = a + i'.val) (hj : j.val = b + j'.val) :
    View.canon (Val := Elt Ideal) (s := ⟨2, ![M, N]⟩) (⟨Rect.unit ![a, b] ![p, q] inb, w⟩ :: L) (ValueIdx.ix2 i j) = w (ValueIdx.ix2 i' j') := by
  have e : (Rect.unit (s := ⟨2, ![M, N]⟩) ![a, b] ![p, q] inb).emb (ValueIdx.ix2 i' j') = ValueIdx.ix2 i j := by
    funext x
    match x with
    | ⟨0, _⟩ => exact Fin.ext ((Rect.idx_unit_val _ _ inb _ 0).trans hi.symm)
    | ⟨1, _⟩ => exact Fin.ext ((Rect.idx_unit_val _ _ inb _ 1).trans hj.symm)
  rw [← e]
  exact View.canon_cons_emb _ _ _ _

/-- off it, the earlier stores. -/
theorem canon_miss (inb : ∀ x, (![a, b] : Fin 2 → Nat) x + (![p, q] : Fin 2 → Nat) x ≤ (![M, N] : Fin 2 → Nat) x)
    (w : (⟨2, ![p, q]⟩ : Shape).Idx → Elt Ideal e) (L : List (View.Piece (Elt Ideal) ⟨2, ![M, N]⟩ e)) (i : Fin M) (j : Fin N)
    (h : i.val < a ∨ a + p ≤ i.val ∨ j.val < b ∨ b + q ≤ j.val) :
    View.canon (Val := Elt Ideal) (s := ⟨2, ![M, N]⟩) (⟨Rect.unit ![a, b] ![p, q] inb, w⟩ :: L) (ValueIdx.ix2 i j) = View.canon L (ValueIdx.ix2 i j) := by
  refine View.canon_cons_of_not_mem _ _ fun hm => ?_
  have hh := (Rect.mem_set_unit (s := ⟨2, ![M, N]⟩) (inb := inb)).mp hm
  have h0 : a ≤ i.val ∧ i.val < a + p := hh 0
  have h1 : b ≤ j.val ∧ j.val < b + q := hh 1
  omega

/-- Stores over known contents: the contents as the first store. -/
theorem read_over {sig : RefSig} {κ : Kind} {sp : Space} {s : Shape} (v : View sig κ sp s e) (f : v.ty.Contents (Elt Ideal))
    (inb : ∀ x, (fun _ => 0 : Fin s.rank → Nat) x + s.size x ≤ s.size x) :
    ∀ L : List (View.Piece (Elt Ideal) s e), v.read (Elt Ideal) (v.writes (Elt Ideal) f L) = View.canon (L ++ [⟨Rect.unit (fun _ => 0) s.size inb, v.read (Elt Ideal) f⟩])
  | [] => by rw [View.writes_nil, List.nil_append, View.canon_cons_unit_zero rfl]
  | p :: L => by
    funext y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy]
      exact congrFun (read_over v f inb L) y

/-- A load of a rectangle, at one index. -/
theorem ld_apply2 (X : (⟨2, ![M, N]⟩ : Shape).Idx → Elt Ideal e) (inb : ∀ x, (![a, b] : Fin 2 → Nat) x + (![p, q] : Fin 2 → Nat) x ≤ (![M, N] : Fin 2 → Nat) x)
    (j : (⟨2, ![p, q]⟩ : Shape).Idx) (i : Fin M) (l : Fin N) (hi : i.val = a + (j 0).val) (hl : l.val = b + (j 1).val) :
    View.ld (e' := e) X (Rect.unit (s := ⟨2, ![M, N]⟩) ![a, b] ![p, q] inb) j = X (ValueIdx.ix2 i l) := by
  refine congrArg X (funext fun x => ?_)
  match x with
  | ⟨0, _⟩ => exact Fin.ext ((Rect.idx_unit_val _ _ inb _ 0).trans hi.symm)
  | ⟨1, _⟩ => exact Fin.ext ((Rect.idx_unit_val _ _ inb _ 1).trans hl.symm)

end Pieces

variable (m : (ℓ : Loc nD τ sig) → Buf (Elt Ideal) ℓ) (c : Dev nD) (t : Fin cfg0.N)

theorem word : ∀ t : Fin cfg0.N, Scalar.subi (15#32) (BitVec.ofNat 32 (grid0.coords t 0).val) = BitVec.ofNat 32 (kk t).val := by decide +kernel

theorem ld_conv (i : Fin 3) (inb : ∀ a, (![i.val, 0] : Fin 2 → Nat) a + (![1, 1024] : Fin 2 → Nat) a ≤ (![8, 1024] : Fin 2 → Nat) a) :
    View.ld (iblk m c 7 t) (Rect.unit (s := ⟨2, ![8, 1024]⟩) ![i.val, 0] ![1, 1024] inb) = wrow i (A2 m c) := by
  rw [blk_7]
  funext j
  have h0 : (j 0).val = 0 := by have : (j 0).val < 1 := (j 0).isLt; omega
  refine (ld_apply2 (conv8 (A2 m c)) inb j ⟨i.val, by omega⟩ (j 1) (by show i.val = i.val + _; omega) (Nat.zero_add _).symm).trans ?_
  exact dif_pos i.isLt

/-- An array continued by zeros below. -/
def ext (X : Vec Ideal S4096x1024 .f32) (l : Fin 1024) (t : Nat) : EReal := if h : t < 4096 then X (ValueIdx.ix2 ⟨t, h⟩ l) else 0

section Conv

variable (k : Fin 16) (X : Vec Ideal S4096x1024 .f32)

/-- The convolution gradient's scratch, read `n` rows down: the tile, then the rows carried from the tile below. -/
theorem below_read (n : Nat) (hn : n ≤ 16) (L : List (View.Piece (Elt Ideal) S272x1024 .f32))
    (hL : ∀ (r : Fin 16) (l : Fin 1024), View.canon L (ValueIdx.ix2 ⟨256 + r.val, by omega⟩ l) = ext X l (256 * (k.val + 1) + r.val))
    (inb : ∀ a, (![n, 0] : Fin 2 → Nat) a + (![256, 1024] : Fin 2 → Nat) a ≤ (![272, 1024] : Fin 2 → Nat) a) :
    View.ld (View.canon (⟨Rect.unit ![0, 0] ![256, 1024] inb_S272x1024_S256x1024_0_0, k0_pay32 (F := Ideal) (tile k X)⟩ :: L))
      (Rect.unit (s := ⟨2, ![272, 1024]⟩) ![n, 0] ![256, 1024] inb) = below n k X := by
  funext j
  have hj : (j 0).val < 256 := (j 0).isLt
  refine (ld_apply2 _ inb j ⟨n + (j 0).val, by omega⟩ (j 1) rfl (Nat.zero_add _).symm).trans ?_
  by_cases h : n + (j 0).val < 256
  · refine (canon_hit _ _ _ (⟨n + (j 0).val, by omega⟩ : Fin 272) (j 1) ⟨n + (j 0).val, h⟩ (j 1) (Nat.zero_add _).symm (Nat.zero_add _).symm).trans ?_
    unfold k0_pay32 below
    rw [dif_pos (by omega)]
    pointwise
    exact congrArg X ((ix2_inj _ _ _ _).mpr ⟨Fin.ext (by show 256 * k.val + (n + (j 0).val) = 256 * k.val + (j 0).val + n; omega), rfl⟩)
  · refine (canon_miss _ _ _ (⟨n + (j 0).val, by omega⟩ : Fin 272) (j 1) (by right; left; show 0 + 256 ≤ n + (j 0).val; omega)).trans ?_
    have e := hL ⟨n + (j 0).val - 256, by omega⟩ (j 1)
    have ei : (⟨256 + (n + (j 0).val - 256), by omega⟩ : Fin 272) = ⟨n + (j 0).val, by omega⟩ := Fin.ext (by show 256 + (n + (j 0).val - 256) = n + (j 0).val; omega)
    refine ((congrArg (fun i => View.canon L (ValueIdx.ix2 i (j 1))) ei).symm.trans e).trans ?_
    have en : 256 * (k.val + 1) + (n + (j 0).val - 256) = 256 * k.val + (j 0).val + n := by omega
    show ext X (j 1) (256 * (k.val + 1) + (n + (j 0).val - 256)) = below n k X j
    rw [en]
    rfl

/-- The convolution's input scratch, read `n` rows down: sixteen rows before the tile, zero before the first. -/
theorem cu_read (a1 : Vec Ideal S4096x8192 .f32) (n : Nat) (hn : n ≤ 16)
    (inb : ∀ a, (![n, 0] : Fin 2 → Nat) a + (![256, 1024] : Fin 2 → Nat) a ≤ (![272, 1024] : Fin 2 → Nat) a) :
    (View.whole cc0_scratch0).readCov (Val := Elt Ideal) [⟨Rect.unit ![16, 0] ![256, 1024] inb_S272x1024_S256x1024_16_0, k0_pay26 (F := Ideal) (tile k (val_main_v6 (F := Ideal) a1))⟩,
      ⟨Rect.unit ![0, 0] ![16, 1024] inb_S272x1024_S16x1024_0_0, k0_pay25 (F := Ideal) (BitVec.ofNat 32 k.val)
        (View.ld (halo k a1) (Rect.unit ![0, 1024] ![16, 1024] inb_S16x8192_S16x1024_0_1024))
        (View.ld (halo k a1) (Rect.unit ![0, 2048] ![16, 1024] inb_S16x8192_S16x1024_0_2048))⟩]
      (Rect.unit (s := ⟨2, ![272, 1024]⟩) ![n, 0] ![256, 1024] inb).toLoadRect
    = fun j => if h : 16 ≤ 256 * k.val + (j 0).val + n then val_main_v6 (F := Ideal) a1 (ValueIdx.ix2 ⟨256 * k.val + (j 0).val + n - 16, by
        have : (j 0).val < 256 := (j 0).isLt; have := k.isLt; omega⟩ (j 1)) else 0 := by
  rw [View.readCov_eq_canon']
  funext j
  have hj : (j 0).val < 256 := (j 0).isLt
  have hk := k.isLt
  refine (ld_apply2 (View.canon _) inb j ⟨n + (j 0).val, by omega⟩ (j 1) rfl (Nat.zero_add _).symm).trans ?_
  by_cases h : 16 ≤ n + (j 0).val
  · refine (canon_hit _ _ _ (⟨n + (j 0).val, by omega⟩ : Fin 272) (j 1) ⟨n + (j 0).val - 16, by omega⟩ (j 1) (by show n + (j 0).val = 16 + (n + (j 0).val - 16); omega) (Nat.zero_add _).symm).trans ?_
    rw [dif_pos (by omega)]
    unfold k0_pay26
    generalize val_main_v6 (F := Ideal) a1 = X
    pointwise
    exact congrArg X ((ix2_inj _ _ _ _).mpr ⟨Fin.ext (by show 256 * k.val + (n + (j 0).val - 16) = 256 * k.val + (j 0).val + n - 16; omega), rfl⟩)
  · refine (canon_miss _ _ _ (⟨n + (j 0).val, by omega⟩ : Fin 272) (j 1) (by left; show n + (j 0).val < 16; omega)).trans ?_
    refine (canon_hit _ _ _ (⟨n + (j 0).val, by omega⟩ : Fin 272) (j 1) (⟨n + (j 0).val, by omega⟩ : Fin 16) (j 1) (Nat.zero_add _).symm (Nat.zero_add _).symm).trans ?_
    unfold k0_pay25
    by_cases h0 : k.val = 0
    · have e : Scalar.cmpi .sgt (BitVec.ofNat 32 k.val) 0#32 = 0#1 := by rw [h0]; rfl
      rw [dif_neg (by omega), e]
      exact Ideal.ofBits_zero_f32
    · have e : ∀ k : Fin 16, k.val ≠ 0 → Scalar.cmpi .sgt (BitVec.ofNat 32 k.val) 0#32 = 1#1 := by decide
      rw [dif_pos (by omega), e k h0]
      unfold val_main_v6 val_main_v2 val_main_v3
      pointwise
      refine congrArg₂ (fun x y : EReal => x * y) (congrArg a1 ((ix2_inj _ _ _ _).mpr ⟨Fin.ext ?_, Fin.ext ?_⟩)) (congrArg a1 ((ix2_inj _ _ _ _).mpr ⟨Fin.ext ?_, Fin.ext ?_⟩))
      · show (k.val * 16 - 1) * 16 + (n + (j 0).val) = 256 * k.val + (j 0).val + n - 16; omega
      · rfl
      · show (k.val * 16 - 1) * 16 + (n + (j 0).val) = 256 * k.val + (j 0).val + n - 16; omega
      · rfl

theorem tap1_read (a1 : Vec Ideal S4096x8192 .f32) :
    (fun j : S256x1024.Idx => if h : 16 ≤ 256 * k.val + (j 0).val + 15 then val_main_v6 (F := Ideal) a1 (ValueIdx.ix2 ⟨256 * k.val + (j 0).val + 15 - 16, by
        have : (j 0).val < 256 := (j 0).isLt; have := k.isLt; omega⟩ (j 1)) else 0) = tile k (val_main_v19 (F := Ideal) a1) := by
  funext j
  unfold val_main_v19 val_main_v9
  generalize val_main_v6 (F := Ideal) a1 = X
  pointwise
  by_cases h : 1 ≤ 256 * k.val + (j 0).val
  · rw [dif_pos h, dif_neg (by omega)]
    exact congrArg X ((ix2_inj _ _ _ _).mpr ⟨Fin.ext (by show 256 * k.val + (j 0).val + 15 - 16 = 1 + (256 * k.val + (j 0).val) - 2; omega), rfl⟩)
  · rw [dif_neg h, dif_pos (by omega)]
    exact Ideal.ofBits_zero_f32.symm

theorem tap2_read (a1 : Vec Ideal S4096x8192 .f32) :
    (fun j : S256x1024.Idx => if h : 16 ≤ 256 * k.val + (j 0).val + 14 then val_main_v6 (F := Ideal) a1 (ValueIdx.ix2 ⟨256 * k.val + (j 0).val + 14 - 16, by
        have : (j 0).val < 256 := (j 0).isLt; have := k.isLt; omega⟩ (j 1)) else 0) = tile k (val_main_v13 (F := Ideal) a1) := by
  funext j
  unfold val_main_v13 val_main_v9
  generalize val_main_v6 (F := Ideal) a1 = X
  pointwise
  by_cases h : 2 ≤ 256 * k.val + (j 0).val
  · rw [dif_pos h, dif_neg (by omega)]
    exact congrArg X ((ix2_inj _ _ _ _).mpr ⟨Fin.ext (by show 256 * k.val + (j 0).val + 14 - 16 = 256 * k.val + (j 0).val - 2; omega), rfl⟩)
  · rw [dif_neg h, dif_pos (by omega)]
    exact Ideal.ofBits_zero_f32.symm

end Conv

/-- A pool's scratch columns: the tile, then the rows carried from the tile below. -/
theorem pool_read (k : Fin 16) (g : Fin 4) (X : Vec Ideal S4096x256 .f32) (L : List (View.Piece (Elt Ideal) S384x1024 .bf16))
    (hL : ∀ (r : Fin 16) (l : Fin 256), View.canon L (ValueIdx.ix2 ⟨256 + r.val, by omega⟩ ⟨256 * g.val + l.val, by omega⟩) = col X l (256 * (k.val + 1) + r.val))
    (b : Nat) (hb : b = 256 * g.val) (inb : ∀ a, (![0, b] : Fin 2 → Nat) a + (![256, 256] : Fin 2 → Nat) a ≤ (![384, 1024] : Fin 2 → Nat) a)
    (inb' : ∀ a, (![0, b] : Fin 2 → Nat) a + (![384, 256] : Fin 2 → Nat) a ≤ (![384, 1024] : Fin 2 → Nat) a) (s : Fin 384) (l : Fin 256) (hs : s.val < 272) :
    View.ld (View.canon (s := ⟨2, ![384, 1024]⟩) (e := .bf16) (⟨Rect.unit ![0, b] ![256, 256] inb, tile k X⟩ :: L))
      (Rect.unit (s := ⟨2, ![384, 1024]⟩) ![0, b] ![384, 256] inb') (ValueIdx.ix2 s l) = col X l (256 * k.val + s.val) := by
  subst hb
  have hk := k.isLt
  refine (ld_apply2 _ inb' (ValueIdx.ix2 s l) s ⟨256 * g.val + l.val, by omega⟩ (Nat.zero_add _).symm rfl).trans ?_
  by_cases h : s.val < 256
  · refine (canon_hit _ _ _ s (⟨256 * g.val + l.val, by omega⟩ : Fin 1024) ⟨s.val, h⟩ l (Nat.zero_add _).symm rfl).trans ?_
    unfold col
    rw [dif_pos (by omega)]
  · refine (canon_miss _ _ _ s (⟨256 * g.val + l.val, by omega⟩ : Fin 1024) (by right; left; show 0 + 256 ≤ s.val; omega)).trans ?_
    have e := hL ⟨s.val - 256, by omega⟩ l
    have ei : (⟨256 + (s.val - 256), by omega⟩ : Fin 384) = s := Fin.ext (by show 256 + (s.val - 256) = s.val; omega)
    refine ((congrArg (fun i => View.canon L (ValueIdx.ix2 i (⟨256 * g.val + l.val, by omega⟩ : Fin 1024))) ei).symm.trans e).trans ?_
    have en : 256 * (k.val + 1) + (s.val - 256) = 256 * k.val + s.val := by omega
    show col X l (256 * (k.val + 1) + (s.val - 256)) = _
    rw [en]

/-- The convolution's two earlier taps. -/
theorem tap1_tile (k : Fin 16) (a1 : Vec Ideal S4096x8192 .f32) :
    (View.whole cc0_scratch0).readCov (Val := Elt Ideal) [⟨Rect.unit ![16, 0] ![256, 1024] inb_S272x1024_S256x1024_16_0, k0_pay26 (F := Ideal) (tile k (val_main_v6 (F := Ideal) a1))⟩,
      ⟨Rect.unit ![0, 0] ![16, 1024] inb_S272x1024_S16x1024_0_0, k0_pay25 (F := Ideal) (BitVec.ofNat 32 k.val)
        (View.ld (halo k a1) (Rect.unit ![0, 1024] ![16, 1024] inb_S16x8192_S16x1024_0_1024))
        (View.ld (halo k a1) (Rect.unit ![0, 2048] ![16, 1024] inb_S16x8192_S16x1024_0_2048))⟩]
      (Rect.unit ![15, 0] ![256, 1024] inb_S272x1024_S256x1024_15_0).toLoadRect = tile k (val_main_v19 (F := Ideal) a1) :=
  (cu_read k a1 15 (by decide) _).trans (tap1_read k a1)

theorem tap2_tile (k : Fin 16) (a1 : Vec Ideal S4096x8192 .f32) :
    (View.whole cc0_scratch0).readCov (Val := Elt Ideal) [⟨Rect.unit ![16, 0] ![256, 1024] inb_S272x1024_S256x1024_16_0, k0_pay26 (F := Ideal) (tile k (val_main_v6 (F := Ideal) a1))⟩,
      ⟨Rect.unit ![0, 0] ![16, 1024] inb_S272x1024_S16x1024_0_0, k0_pay25 (F := Ideal) (BitVec.ofNat 32 k.val)
        (View.ld (halo k a1) (Rect.unit ![0, 1024] ![16, 1024] inb_S16x8192_S16x1024_0_1024))
        (View.ld (halo k a1) (Rect.unit ![0, 2048] ![16, 1024] inb_S16x8192_S16x1024_0_2048))⟩]
      (Rect.unit ![14, 0] ![256, 1024] inb_S272x1024_S256x1024_14_0).toLoadRect = tile k (val_main_v13 (F := Ideal) a1) :=
  (cu_read k a1 14 (by decide) _).trans (tap2_read k a1)

theorem ld_c0 : View.ld (iblk m c 7 t) (Rect.unit ![0, 0] ![1, 1024] inb_S8x1024_S1x1024_0_0) = wrow 0 (A2 m c) := ld_conv m c t 0 _
theorem ld_c1 : View.ld (iblk m c 7 t) (Rect.unit ![1, 0] ![1, 1024] inb_S8x1024_S1x1024_1_0) = wrow 1 (A2 m c) := ld_conv m c t 1 _
theorem ld_c2 : View.ld (iblk m c 7 t) (Rect.unit ![2, 0] ![1, 1024] inb_S8x1024_S1x1024_2_0) = wrow 2 (A2 m c) := ld_conv m c t 2 _

/-- The convolution gradient's scratch over what was carried. -/
theorem over_conv (k : Fin 16) (X : Vec Ideal S4096x1024 .f32) (h : (Memref.whole cc0_scratch1).IsWhole) (s : Vec Ideal S272x1024 .f32)
    (hs : ∀ (r : Fin 16) (l : Fin 1024), s (ValueIdx.ix2 ⟨256 + r.val, by omega⟩ l) = ext X l (256 * (k.val + 1) + r.val))
    (n : Nat) (hn : n ≤ 16) (inb : ∀ a, (![n, 0] : Fin 2 → Nat) a + (![256, 1024] : Fin 2 → Nat) a ≤ (![272, 1024] : Fin 2 → Nat) a) :
    View.ld (View.read (Elt Ideal) (View.whole cc0_scratch1) ((View.whole cc0_scratch1).writes (Elt Ideal) (h.unread s)
      [⟨Rect.unit ![0, 0] ![256, 1024] inb_S272x1024_S256x1024_0_0, k0_pay32 (F := Ideal) (tile k X)⟩]))
      (Rect.unit (s := ⟨2, ![272, 1024]⟩) ![n, 0] ![256, 1024] inb) = below n k X := by
  rw [read_over _ _ (fun x => by rw [Nat.zero_add]), read_unread_whole]
  refine below_read k X n hn _ (fun r l => ?_) inb
  exact (congrFun (View.canon_cons_unit_zero (Val := Elt Ideal) (S := S272x1024) (e := .f32) rfl _ _ _) _).trans (hs r l)

/-- The same over zeros, for the last tile. -/
theorem zero_conv (k : Fin 16) (hk : k.val = 15) (X : Vec Ideal S4096x1024 .f32)
    (n : Nat) (hn : n ≤ 16) (inb : ∀ a, (![n, 0] : Fin 2 → Nat) a + (![256, 1024] : Fin 2 → Nat) a ≤ (![272, 1024] : Fin 2 → Nat) a) :
    (View.whole cc0_scratch1).readCov (Val := Elt Ideal) [⟨Rect.unit ![0, 0] ![256, 1024] inb_S272x1024_S256x1024_0_0, k0_pay32 (F := Ideal) (tile k X)⟩,
      ⟨Rect.unit ![256, 0] ![16, 1024] inb_S272x1024_S16x1024_256_0, k0_pay4 (F := Ideal)⟩]
      (Rect.unit (s := ⟨2, ![272, 1024]⟩) ![n, 0] ![256, 1024] inb).toLoadRect = below n k X := by
  rw [View.readCov_eq_canon']
  refine below_read k X n hn _ (fun r l => ?_) inb
  refine (canon_hit _ _ _ _ _ r l rfl (Nat.zero_add _).symm).trans ?_
  unfold ext
  rw [dif_neg (by omega)]
  exact Ideal.ofBits_zero_f32

end Cert.MixKernelIdeal.Mix

end
-- ==== Proof.Mix.Columns.lean ====
/- THE PROJECTION'S GRADIENT, column block by column block. -/
module

public import proofs.«01_k».proof.Proof.Mix.Gates

@[expose] public section

set_option maxRecDepth 16384

noncomputable section

namespace Cert.MixKernelIdeal.Mix

open Idealize.ShloMosaic Idealize.ShloMosaic.TcCoe Idealize.ShloMosaic.Tactic
open Cert.MixReferenceIdeal.Read

variable (a0 : Vec Ideal S4096x1024 .f32) (a1 : Vec Ideal S4096x8192 .f32) (a2 : Vec Ideal S1x3x1024 .f32) (a3 : Vec Ideal S1x1024x1024 .f32)
  (a4 : Vec Ideal S1x4x256x256 .f32) (a5 : Vec Ideal S1x1024 .f32) (a6 a7 : Vec Ideal S256x1024 .f32) (a8 a9 : Vec Ideal S1x1024x1024 .f32)

/-- One block of 1024 columns among zeros. -/
def block (o : Nat) (X : Vec Ideal S4096x1024 .f32) (i : Fin 4096) (j : Fin 8192) : EReal :=
  if hj : o ≤ j.val ∧ j.val - o < 1024 then X (ValueIdx.ix2 i ⟨j.val - o, hj.2⟩) else 0

theorem block_in (o : Nat) (X : Vec Ideal S4096x1024 .f32) (i : Fin 4096) (j : Fin 8192) (l : Fin 1024) (h : j.val = o + l.val) :
    block o X i j = X (ValueIdx.ix2 i l) := by
  unfold block
  rw [dif_pos (by omega)]
  exact congrArg X ((ix2_inj _ _ _ _).mpr ⟨rfl, Fin.ext (by show j.val - o = l.val; omega)⟩)

theorem block_out (o : Nat) (X : Vec Ideal S4096x1024 .f32) (i : Fin 4096) (j : Fin 8192) (h : j.val < o ∨ o + 1024 ≤ j.val) : block o X i j = 0 := by
  unfold block
  exact dif_neg (by omega)

theorem block_apply (o : Nat) (X : Vec Ideal S4096x1024 .f32) (z : FVec Ideal S_ .f32) (hz : ∀ i, z i = 0) (hi : Fin 2 → Nat) (h) (h')
    (i : Fin 4096) (j : Fin 8192) : pad S4096x8192 ![0, o] hi ![0, 0] X z h h' (ValueIdx.ix2 i j) = block o X i j := by
  unfold block
  pointwise
  refine dite_congr rfl (fun _ => rfl) fun _ => hz _

/-- The gradient's eight blocks of columns. -/
theorem dproj_blocks (i : Fin 4096) (j : Fin 8192) : val_main_v364 (F := Ideal) a0 a1 a2 a3 a4 a5 a6 a7 a8 a9 (ValueIdx.ix2 i j)
    = block 7168 (val_main_v201 (F := Ideal) a0 a1 a6 a7 a8 a9) i j + block 6144 (val_main_v211 (F := Ideal) a0 a1 a4 a5 a9) i j
      + block 5120 (val_main_v214 (F := Ideal) a0 a1 a2 a3 a9) i j + block 4096 (val_main_v247 (F := Ideal) a0 a1 a6 a7 a8 a9) i j
      + block 3072 (val_main_v316 (F := Ideal) a0 a1 a4 a5 a9) i j + block 2048 (val_main_v353 (F := Ideal) a0 a1 a2 a3 a9) i j
      + block 1024 (val_main_v354 (F := Ideal) a0 a1 a2 a3 a9) i j + block 0 (val_main_v318 (F := Ideal) a0 a1 a2 a3 a9) i j :=
  congrArg₂ (· + ·) (congrArg₂ (· + ·) (congrArg₂ (· + ·) (congrArg₂ (· + ·) (congrArg₂ (· + ·) (congrArg₂ (· + ·) (congrArg₂ (· + ·)
    (block_apply 7168 _ _ (fun _ => Ideal.ofBits_zero_f32) _ _ _ i j) (block_apply 6144 _ _ (fun _ => Ideal.ofBits_zero_f32) _ _ _ i j))
    (block_apply 5120 _ _ (fun _ => Ideal.ofBits_zero_f32) _ _ _ i j)) (block_apply 4096 _ _ (fun _ => Ideal.ofBits_zero_f32) _ _ _ i j))
    (block_apply 3072 _ _ (fun _ => Ideal.ofBits_zero_f32) _ _ _ i j)) (block_apply 2048 _ _ (fun _ => Ideal.ofBits_zero_f32) _ _ _ i j))
    (block_apply 1024 _ _ (fun _ => Ideal.ofBits_zero_f32) _ _ _ i j)) (block_apply 0 _ _ (fun _ => Ideal.ofBits_zero_f32) _ _ _ i j)

theorem dproj_7168 (i : Fin 4096) (j : Fin 8192) (l : Fin 1024) (h : j.val = 7168 + l.val) :
    val_main_v364 (F := Ideal) a0 a1 a2 a3 a4 a5 a6 a7 a8 a9 (ValueIdx.ix2 i j) = val_main_v201 a0 a1 a6 a7 a8 a9 (ValueIdx.ix2 i l) := by
  rw [dproj_blocks, block_in 7168 _ i j l h, block_out 6144 _ i j (by omega), block_out 5120 _ i j (by omega), block_out 4096 _ i j (by omega), block_out 3072 _ i j (by omega), block_out 2048 _ i j (by omega), block_out 1024 _ i j (by omega), block_out 0 _ i j (by omega)]
  simp only [zero_add, add_zero]

theorem dproj_6144 (i : Fin 4096) (j : Fin 8192) (l : Fin 1024) (h : j.val = 6144 + l.val) :
    val_main_v364 (F := Ideal) a0 a1 a2 a3 a4 a5 a6 a7 a8 a9 (ValueIdx.ix2 i j) = val_main_v211 a0 a1 a4 a5 a9 (ValueIdx.ix2 i l) := by
  rw [dproj_blocks, block_out 7168 _ i j (by omega), block_in 6144 _ i j l h, block_out 5120 _ i j (by omega), block_out 4096 _ i j (by omega), block_out 3072 _ i j (by omega), block_out 2048 _ i j (by omega), block_out 1024 _ i j (by omega), block_out 0 _ i j (by omega)]
  simp only [zero_add, add_zero]

theorem dproj_5120 (i : Fin 4096) (j : Fin 8192) (l : Fin 1024) (h : j.val = 5120 + l.val) :
    val_main_v364 (F := Ideal) a0 a1 a2 a3 a4 a5 a6 a7 a8 a9 (ValueIdx.ix2 i j) = val_main_v214 a0 a1 a2 a3 a9 (ValueIdx.ix2 i l) := by
  rw [dproj_blocks, block_out 7168 _ i j (by omega), block_out 6144 _ i j (by omega), block_in 5120 _ i j l h, block_out 4096 _ i j (by omega), block_out 3072 _ i j (by omega), block_out 2048 _ i j (by omega), block_out 1024 _ i j (by omega), block_out 0 _ i j (by omega)]
  simp only [zero_add, add_zero]

theorem dproj_4096 (i : Fin 4096) (j : Fin 8192) (l : Fin 1024) (h : j.val = 4096 + l.val) :
    val_main_v364 (F := Ideal) a0 a1 a2 a3 a4 a5 a6 a7 a8 a9 (ValueIdx.ix2 i j) = val_main_v247 a0 a1 a6 a7 a8 a9 (ValueIdx.ix2 i l) := by
  rw [dproj_blocks, block_out 7168 _ i j (by omega), block_out 6144 _ i j (by omega), block_out 5120 _ i j (by omega), block_in 4096 _ i j l h, block_out 3072 _ i j (by omega), block_out 2048 _ i j (by omega), block_out 1024 _ i j (by omega), block_out 0 _ i j (by omega)]
  simp only [zero_add, add_zero]

theorem dproj_3072 (i : Fin 4096) (j : Fin 8192) (l : Fin 1024) (h : j.val = 3072 + l.val) :
    val_main_v364 (F := Ideal) a0 a1 a2 a3 a4 a5 a6 a7 a8 a9 (ValueIdx.ix2 i j) = val_main_v316 a0 a1 a4 a5 a9 (ValueIdx.ix2 i l) := by
  rw [dproj_blocks, block_out 7168 _ i j (by omega), block_out 6144 _ i j (by omega), block_out 5120 _ i j (by omega), block_out 4096 _ i j (by omega), block_in 3072 _ i j l h, block_out 2048 _ i j (by omega), block_out 1024 _ i j (by omega), block_out 0 _ i j (by omega)]
  simp only [zero_add, add_zero]

theorem dproj_2048 (i : Fin 4096) (j : Fin 8192) (l : Fin 1024) (h : j.val = 2048 + l.val) :
    val_main_v364 (F := Ideal) a0 a1 a2 a3 a4 a5 a6 a7 a8 a9 (ValueIdx.ix2 i j) = val_main_v353 a0 a1 a2 a3 a9 (ValueIdx.ix2 i l) := by
  rw [dproj_blocks, block_out 7168 _ i j (by omega), block_out 6144 _ i j (by omega), block_out 5120 _ i j (by omega), block_out 4096 _ i j (by omega), block_out 3072 _ i j (by omega), block_in 2048 _ i j l h, block_out 1024 _ i j (by omega), block_out 0 _ i j (by omega)]
  simp only [zero_add, add_zero]

theorem dproj_1024 (i : Fin 4096) (j : Fin 8192) (l : Fin 1024) (h : j.val = 1024 + l.val) :
    val_main_v364 (F := Ideal) a0 a1 a2 a3 a4 a5 a6 a7 a8 a9 (ValueIdx.ix2 i j) = val_main_v354 a0 a1 a2 a3 a9 (ValueIdx.ix2 i l) := by
  rw [dproj_blocks, block_out 7168 _ i j (by omega), block_out 6144 _ i j (by omega), block_out 5120 _ i j (by omega), block_out 4096 _ i j (by omega), block_out 3072 _ i j (by omega), block_out 2048 _ i j (by omega), block_in 1024 _ i j l h, block_out 0 _ i j (by omega)]
  simp only [zero_add, add_zero]

theorem dproj_0 (i : Fin 4096) (j : Fin 8192) (l : Fin 1024) (h : j.val = 0 + l.val) :
    val_main_v364 (F := Ideal) a0 a1 a2 a3 a4 a5 a6 a7 a8 a9 (ValueIdx.ix2 i j) = val_main_v318 a0 a1 a2 a3 a9 (ValueIdx.ix2 i l) := by
  rw [dproj_blocks, block_out 7168 _ i j (by omega), block_out 6144 _ i j (by omega), block_out 5120 _ i j (by omega), block_out 4096 _ i j (by omega), block_out 3072 _ i j (by omega), block_out 2048 _ i j (by omega), block_out 1024 _ i j (by omega), block_in 0 _ i j l h]
  simp only [zero_add, add_zero]

end Cert.MixKernelIdeal.Mix

end
-- ==== Proof.Mix.Laid.lean ====
/- THE RESULTS' TILES, as the body's stores lay them out. -/
module

public import proofs.«01_k».proof.Proof.Mix.Reads
public import proofs.«01_k».proof.Proof.Mix.Columns

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

/-- A store of whole columns that are `G`'s, before stores that are `G`'s elsewhere. -/
theorem cols_cons {M N b q : Nat} {e : EltTy} (G : (⟨2, ![M, N]⟩ : Shape).Idx → Elt Ideal e) (P : Fin N → Prop)
    {inb : ∀ x, (![0, b] : Fin 2 → Nat) x + (![M, q] : Fin 2 → Nat) x ≤ (![M, N] : Fin 2 → Nat) x}
    {w : (⟨2, ![M, q]⟩ : Shape).Idx → Elt Ideal e} {L : List (View.Piece (Elt Ideal) ⟨2, ![M, N]⟩ e)}
    (hw : ∀ (i : Fin M) (l : Fin q) (j : Fin N), j.val = b + l.val → w (ValueIdx.ix2 i l) = G (ValueIdx.ix2 i j))
    (hL : ∀ (i : Fin M) (j : Fin N), P j ∧ ¬(b ≤ j.val ∧ j.val < b + q) → View.canon L (ValueIdx.ix2 i j) = G (ValueIdx.ix2 i j)) (i : Fin M) (j : Fin N) (hP : P j) :
    View.canon (Val := Elt Ideal) (s := ⟨2, ![M, N]⟩) (⟨Rect.unit ![0, b] ![M, q] inb, w⟩ :: L) (ValueIdx.ix2 i j) = G (ValueIdx.ix2 i j) := by
  by_cases h : b ≤ j.val ∧ j.val < b + q
  · exact (canon_hit _ _ _ i j i ⟨j.val - b, by omega⟩ (Nat.zero_add _).symm (by show j.val = b + (j.val - b); omega)).trans
      (hw i ⟨j.val - b, by omega⟩ j (by show j.val = b + (j.val - b); omega))
  · exact (canon_miss _ _ _ i j (by omega)).trans (hL i j ⟨hP, h⟩)

variable (k : Fin 16) (a0 : Vec Ideal S4096x1024 .f32) (a1 : Vec Ideal S4096x8192 .f32) (a2 : Vec Ideal S1x3x1024 .f32) (a3 : Vec Ideal S1x1024x1024 .f32)
  (a4 : Vec Ideal S1x4x256x256 .f32) (a5 : Vec Ideal S1x1024 .f32) (a6 a7 : Vec Ideal S256x1024 .f32) (a8 a9 : Vec Ideal S1x1024x1024 .f32)

theorem hcol_eq (g : Fin 4) (l : Fin 256) (c : Fin 1024) (h : c.val = g.val * 256 + l.val) : hcol g l = c := Fin.ext h.symm

/-- The projection's gradient. -/
theorem dproj_laid {q3 q2 q1 q0 p3 p2 p1 p0 : Vec Ideal S256x256 .bf16} {u2 u1 u0 u7 u6 u5 : Vec Ideal S256x1024 .bf16} {L}
    (hq0 : q0 = htile 0 k (val_main_v247 (F := Ideal) a0 a1 a6 a7 a8 a9)) (hq1 : q1 = htile 1 k (val_main_v247 (F := Ideal) a0 a1 a6 a7 a8 a9))
    (hq2 : q2 = htile 2 k (val_main_v247 (F := Ideal) a0 a1 a6 a7 a8 a9)) (hq3 : q3 = htile 3 k (val_main_v247 (F := Ideal) a0 a1 a6 a7 a8 a9))
    (hp0 : ∀ i l c, c.val = 256 * 0 + l.val → p0 (ValueIdx.ix2 i l) = val_main_v316 (F := Ideal) a0 a1 a4 a5 a9 (ValueIdx.ix2 (row k i) c))
    (hp1 : ∀ i l c, c.val = 256 * 1 + l.val → p1 (ValueIdx.ix2 i l) = val_main_v316 (F := Ideal) a0 a1 a4 a5 a9 (ValueIdx.ix2 (row k i) c))
    (hp2 : ∀ i l c, c.val = 256 * 2 + l.val → p2 (ValueIdx.ix2 i l) = val_main_v316 (F := Ideal) a0 a1 a4 a5 a9 (ValueIdx.ix2 (row k i) c))
    (hp3 : ∀ i l c, c.val = 256 * 3 + l.val → p3 (ValueIdx.ix2 i l) = val_main_v316 (F := Ideal) a0 a1 a4 a5 a9 (ValueIdx.ix2 (row k i) c))
    (h2 : u2 = tile k (val_main_v353 (F := Ideal) a0 a1 a2 a3 a9)) (h1 : u1 = tile k (val_main_v354 (F := Ideal) a0 a1 a2 a3 a9))
    (h0 : u0 = tile k (val_main_v318 (F := Ideal) a0 a1 a2 a3 a9)) (h7 : u7 = tile k (val_main_v201 (F := Ideal) a0 a1 a6 a7 a8 a9))
    (h6 : u6 = tile k (val_main_v211 (F := Ideal) a0 a1 a4 a5 a9)) (h5 : u5 = tile k (val_main_v214 (F := Ideal) a0 a1 a2 a3 a9)) :
    View.canon (Val := Elt Ideal) (s := S256x8192) (e := .bf16) ([⟨Rect.unit ![0, 4864] ![256, 256] inb_S256x8192_S256x256_0_4864, q3⟩, ⟨Rect.unit ![0, 4608] ![256, 256] inb_S256x8192_S256x256_0_4608, q2⟩,
      ⟨Rect.unit ![0, 4352] ![256, 256] inb_S256x8192_S256x256_0_4352, q1⟩, ⟨Rect.unit ![0, 4096] ![256, 256] inb_S256x8192_S256x256_0_4096, q0⟩,
      ⟨Rect.unit ![0, 3840] ![256, 256] inb_S256x8192_S256x256_0_3840, p3⟩, ⟨Rect.unit ![0, 3584] ![256, 256] inb_S256x8192_S256x256_0_3584, p2⟩,
      ⟨Rect.unit ![0, 3328] ![256, 256] inb_S256x8192_S256x256_0_3328, p1⟩, ⟨Rect.unit ![0, 3072] ![256, 256] inb_S256x8192_S256x256_0_3072, p0⟩,
      ⟨Rect.unit ![0, 2048] ![256, 1024] inb_S256x8192_S256x1024_0_2048, u2⟩, ⟨Rect.unit ![0, 1024] ![256, 1024] inb_S256x8192_S256x1024_0_1024, u1⟩,
      ⟨Rect.unit ![0, 0] ![256, 1024] inb_S256x8192_S256x1024_0_0, u0⟩, ⟨Rect.unit ![0, 7168] ![256, 1024] inb_S256x8192_S256x1024_0_7168, u7⟩,
      ⟨Rect.unit ![0, 6144] ![256, 1024] inb_S256x8192_S256x1024_0_6144, u6⟩, ⟨Rect.unit ![0, 5120] ![256, 1024] inb_S256x8192_S256x1024_0_5120, u5⟩] ++ L)
      = tile k (val_main_v364 (F := Ideal) a0 a1 a2 a3 a4 a5 a6 a7 a8 a9) := by
  funext y
  have ey : y = ValueIdx.ix2 (y 0) (y 1) := by funext x; match x with | ⟨0, _⟩ => rfl | ⟨1, _⟩ => rfl
  rw [ey]
  subst hq0 hq1 hq2 hq3 h2 h1 h0 h7 h6 h5
  refine cols_cons (tile k _) (fun _ => True) (fun i l j h => ?_) (cols_cons (tile k _) _ (fun i l j h => ?_) (cols_cons (tile k _) _ (fun i l j h => ?_)
    (cols_cons (tile k _) _ (fun i l j h => ?_) (cols_cons (tile k _) _ (fun i l j h => ?_) (cols_cons (tile k _) _ (fun i l j h => ?_)
    (cols_cons (tile k _) _ (fun i l j h => ?_) (cols_cons (tile k _) _ (fun i l j h => ?_) (cols_cons (tile k _) _ (fun i l j h => ?_)
    (cols_cons (tile k _) _ (fun i l j h => ?_) (cols_cons (tile k _) _ (fun i l j h => ?_) (cols_cons (tile k _) _ (fun i l j h => ?_)
    (cols_cons (tile k _) _ (fun i l j h => ?_) (cols_cons (tile k _) _ (fun i l j h => ?_) (fun i j h => ?_)))))))))))))) (y 0) (y 1) trivial
  · exact (dproj_4096 a0 a1 a2 a3 a4 a5 a6 a7 a8 a9 (row k i) j (hcol 3 l) (by show j.val = 4096 + (3 * 256 + l.val); omega)).symm
  · exact (dproj_4096 a0 a1 a2 a3 a4 a5 a6 a7 a8 a9 (row k i) j (hcol 2 l) (by show j.val = 4096 + (2 * 256 + l.val); omega)).symm
  · exact (dproj_4096 a0 a1 a2 a3 a4 a5 a6 a7 a8 a9 (row k i) j (hcol 1 l) (by show j.val = 4096 + (1 * 256 + l.val); omega)).symm
  · exact (dproj_4096 a0 a1 a2 a3 a4 a5 a6 a7 a8 a9 (row k i) j (hcol 0 l) (by show j.val = 4096 + (0 * 256 + l.val); omega)).symm
  · exact (hp3 i l (hcol 3 l) (by show 3 * 256 + l.val = _; omega)).trans (dproj_3072 a0 a1 a2 a3 a4 a5 a6 a7 a8 a9 (row k i) j (hcol 3 l) (by show j.val = 3072 + (3 * 256 + l.val); omega)).symm
  · exact (hp2 i l (hcol 2 l) (by show 2 * 256 + l.val = _; omega)).trans (dproj_3072 a0 a1 a2 a3 a4 a5 a6 a7 a8 a9 (row k i) j (hcol 2 l) (by show j.val = 3072 + (2 * 256 + l.val); omega)).symm
  · exact (hp1 i l (hcol 1 l) (by show 1 * 256 + l.val = _; omega)).trans (dproj_3072 a0 a1 a2 a3 a4 a5 a6 a7 a8 a9 (row k i) j (hcol 1 l) (by show j.val = 3072 + (1 * 256 + l.val); omega)).symm
  · exact (hp0 i l (hcol 0 l) (by show 0 * 256 + l.val = _; omega)).trans (dproj_3072 a0 a1 a2 a3 a4 a5 a6 a7 a8 a9 (row k i) j (hcol 0 l) (by show j.val = 3072 + (0 * 256 + l.val); omega)).symm
  · exact (dproj_2048 a0 a1 a2 a3 a4 a5 a6 a7 a8 a9 (row k i) j l h).symm
  · exact (dproj_1024 a0 a1 a2 a3 a4 a5 a6 a7 a8 a9 (row k i) j l h).symm
  · exact (dproj_0 a0 a1 a2 a3 a4 a5 a6 a7 a8 a9 (row k i) j l h).symm
  · exact (dproj_7168 a0 a1 a2 a3 a4 a5 a6 a7 a8 a9 (row k i) j l h).symm
  · exact (dproj_6144 a0 a1 a2 a3 a4 a5 a6 a7 a8 a9 (row k i) j l h).symm
  · exact (dproj_5120 a0 a1 a2 a3 a4 a5 a6 a7 a8 a9 (row k i) j l h).symm
  · have : j.val < 8192 := j.isLt; omega

/-! ## Sums over the rows of the tiles already done -/

/-- The sum over the rows from tile `k` on. -/
def tail (f : Fin 4096 → EReal) (k : Nat) : EReal := ∑ n ∈ Finset.Ico (256 * k) 4096, if h : n < 4096 then f ⟨n, h⟩ else 0

theorem tail_step (f : Fin 4096 → EReal) (k : Fin 16) : tail f k = tail f (k + 1) + ∑ r : Fin 256, f (row k r) := by
  have hk := k.isLt
  unfold tail
  rw [← Finset.sum_Ico_consecutive _ (show 256 * k.val ≤ 256 * (k.val + 1) by omega) (by omega), add_comm]
  refine congrArg (_ + ·) ?_
  rw [Finset.sum_Ico_eq_sum_range, show 256 * (k.val + 1) - 256 * k.val = 256 by omega, ← Fin.sum_univ_eq_sum_range (fun n => if h : 256 * k.val + n < 4096 then f ⟨256 * k.val + n, h⟩ else 0)]
  exact Finset.sum_congr rfl fun r _ => dif_pos (by omega)

theorem tail_end (f : Fin 4096 → EReal) : tail f 16 = 0 := by
  unfold tail
  rw [show 256 * 16 = 4096 by rfl, Finset.Ico_self, Finset.sum_empty]

theorem tail_all (f : Fin 4096 → EReal) : tail f 0 = ∑ t, f t := by
  unfold tail
  rw [show 256 * 0 = 0 by rfl, ← Finset.range_eq_Ico, ← Fin.sum_univ_eq_sum_range (fun n => if h : n < 4096 then f ⟨n, h⟩ else 0)]
  exact Finset.sum_congr rfl fun r _ => dif_pos r.isLt

/-- The head of a column. -/
abbrev hd (c : Fin 1024) : Fin 4 := ⟨c.val / 256, by omega⟩

/-- The keys' and the values' gradients: each head's block of columns adds a tile's products to what was there. -/
theorem heads_laid (S : Vec Ideal S256x1024 .f32) (f : Vec Ideal S4x4096x256 .f32) (X : Vec Ideal S4096x1024 .f32) {w3 w2 w1 w0 : Vec Ideal S256x256 .f32} {L}
    (h3 : w3 = fun j => View.ld (e' := .f32) S (Rect.unit ![0, 768] ![256, 256] inb_S256x1024_S256x256_0_768) j + ∑ r : Fin 256, f (ix3 3 (row k r) (j 0)) * X (ix2 (row k r) (hcol 3 (j 1))))
    (h2 : w2 = fun j => View.ld (e' := .f32) S (Rect.unit ![0, 512] ![256, 256] inb_S256x1024_S256x256_0_512) j + ∑ r : Fin 256, f (ix3 2 (row k r) (j 0)) * X (ix2 (row k r) (hcol 2 (j 1))))
    (h1 : w1 = fun j => View.ld (e' := .f32) S (Rect.unit ![0, 256] ![256, 256] inb_S256x1024_S256x256_0_256) j + ∑ r : Fin 256, f (ix3 1 (row k r) (j 0)) * X (ix2 (row k r) (hcol 1 (j 1))))
    (h0 : w0 = fun j => View.ld (e' := .f32) S (Rect.unit ![0, 0] ![256, 256] inb_S256x1024_S256x256_0_0) j + ∑ r : Fin 256, f (ix3 0 (row k r) (j 0)) * X (ix2 (row k r) (hcol 0 (j 1)))) :
    View.canon (Val := Elt Ideal) (s := S256x1024) (e := .f32) ([⟨Rect.unit ![0, 768] ![256, 256] inb_S256x1024_S256x256_0_768, w3⟩, ⟨Rect.unit ![0, 512] ![256, 256] inb_S256x1024_S256x256_0_512, w2⟩,
      ⟨Rect.unit ![0, 256] ![256, 256] inb_S256x1024_S256x256_0_256, w1⟩, ⟨Rect.unit ![0, 0] ![256, 256] inb_S256x1024_S256x256_0_0, w0⟩] ++ L)
      = fun y => S y + ∑ r : Fin 256, f (ix3 (hd (y 1)) (row k r) (y 0)) * X (ix2 (row k r) (y 1)) := by
  funext y
  have ey : y = ValueIdx.ix2 (y 0) (y 1) := by funext x; match x with | ⟨0, _⟩ => rfl | ⟨1, _⟩ => rfl
  rw [ey]
  subst h3 h2 h1 h0
  have key (g : Fin 4) (i : Fin 256) (l : Fin 256) (j : Fin 1024) (b : Nat) (hb : b = g.val * 256) (inb : ∀ a, (![0, b] : Fin 2 → Nat) a + (![256, 256] : Fin 2 → Nat) a ≤ (![256, 1024] : Fin 2 → Nat) a)
      (h : j.val = b + l.val) : View.ld (e' := .f32) S (Rect.unit (s := ⟨2, ![256, 1024]⟩) ![0, b] ![256, 256] inb) (ValueIdx.ix2 i l) + ∑ r : Fin 256, f (ix3 g (row k r) i) * X (ix2 (row k r) (hcol g l))
        = S (ValueIdx.ix2 i j) + ∑ r : Fin 256, f (ix3 (hd j) (row k r) i) * X (ix2 (row k r) j) := by
    have hj : hcol g l = j := Fin.ext (by show g.val * 256 + l.val = j.val; omega)
    have hg : hd j = g := Fin.ext (by show j.val / 256 = g.val; omega)
    rw [hj, hg, ld_apply2 (e := .f32) S inb (ValueIdx.ix2 i l) i j (Nat.zero_add _).symm h]
  let G : S256x1024.Idx → Elt Ideal .f32 := fun y => S y + ∑ r : Fin 256, f (ix3 (hd (y 1)) (row k r) (y 0)) * X (ix2 (row k r) (y 1))
  refine cols_cons G (fun _ => True) (fun i l j h => key 3 i l j 768 rfl _ h) (cols_cons G _ (fun i l j h => key 2 i l j 512 rfl _ h)
    (cols_cons G _ (fun i l j h => key 1 i l j 256 rfl _ h) (cols_cons G _ (fun i l j h => key 0 i l j 0 rfl _ h) (fun i j h => ?_)))) (y 0) (y 1) trivial
  have : j.val < 1024 := j.isLt
  omega

/-- The sums of the statistics' rows. -/
theorem stat_laid (S : Vec Ideal S8x1024 .f32) (f1 f5 f6 f7 : Fin 4096 → Fin 1024 → EReal) {w7 w6 w5 w1 : Vec Ideal S1x1024 .f32} {L : List (View.Piece (Elt Ideal) S8x1024 .f32)}
    (h7 : ∀ l, w7 (ValueIdx.ix2 0 l) = S (ValueIdx.ix2 7 l) + ∑ r : Fin 256, f7 (row k r) l) (h6 : ∀ l, w6 (ValueIdx.ix2 0 l) = S (ValueIdx.ix2 6 l) + ∑ r : Fin 256, f6 (row k r) l)
    (h5 : ∀ l, w5 (ValueIdx.ix2 0 l) = S (ValueIdx.ix2 5 l) + ∑ r : Fin 256, f5 (row k r) l) (h1 : ∀ l, w1 (ValueIdx.ix2 0 l) = S (ValueIdx.ix2 1 l) + ∑ r : Fin 256, f1 (row k r) l)
    (hL : View.canon L = S) (i : Fin 8) (l : Fin 1024) :
    View.canon (Val := Elt Ideal) (s := S8x1024) (e := .f32) ([⟨Rect.unit ![7, 0] ![1, 1024] inb_S8x1024_S1x1024_7_0, w7⟩, ⟨Rect.unit ![6, 0] ![1, 1024] inb_S8x1024_S1x1024_6_0, w6⟩,
      ⟨Rect.unit ![5, 0] ![1, 1024] inb_S8x1024_S1x1024_5_0, w5⟩, ⟨Rect.unit ![1, 0] ![1, 1024] inb_S8x1024_S1x1024_1_0, w1⟩] ++ L) (ValueIdx.ix2 i l)
      = S (ValueIdx.ix2 i l) + ∑ r : Fin 256, (![fun _ _ => 0, f1, fun _ _ => 0, fun _ _ => 0, fun _ _ => 0, f5, f6, f7] : Fin 8 → Fin 4096 → Fin 1024 → EReal) i (row k r) l := by
  have hl := l.isLt
  by_cases e7 : i = 7
  · subst e7; exact (canon_hit _ _ _ (7 : Fin 8) l (0 : Fin 1) l rfl (Nat.zero_add _).symm).trans (h7 l)
  refine (canon_miss _ _ _ i l (by omega)).trans ?_
  by_cases e6 : i = 6
  · subst e6; exact (canon_hit _ _ _ (6 : Fin 8) l (0 : Fin 1) l rfl (Nat.zero_add _).symm).trans (h6 l)
  refine (canon_miss _ _ _ i l (by omega)).trans ?_
  by_cases e5 : i = 5
  · subst e5; exact (canon_hit _ _ _ (5 : Fin 8) l (0 : Fin 1) l rfl (Nat.zero_add _).symm).trans (h5 l)
  refine (canon_miss _ _ _ i l (by omega)).trans ?_
  by_cases e1 : i = 1
  · subst e1; exact (canon_hit _ _ _ (1 : Fin 8) l (0 : Fin 1) l rfl (Nat.zero_add _).symm).trans (h1 l)
  refine (canon_miss _ _ _ i l (by omega)).trans ?_
  refine (congrFun hL _).trans ?_
  have : i = 0 ∨ i = 2 ∨ i = 3 ∨ i = 4 := by omega
  rcases this with rfl | rfl | rfl | rfl <;> exact ((congrArg (_ + ·) Finset.sum_const_zero).trans (add_zero _)).symm

/-! ## What one tile leaves for the next -/

/-- A load of the first rows, at one index. -/
theorem load_top {sig : RefSig} {κ : Kind} {sp : Space} {M N n : Nat} {e : EltTy} (v : View sig κ sp ⟨2, ![M, N]⟩ e) (L : List (View.Piece (Elt Ideal) ⟨2, ![M, N]⟩ e))
    (inb : ∀ x, (![0, 0] : Fin 2 → Nat) x + (![n, N] : Fin 2 → Nat) x ≤ (![M, N] : Fin 2 → Nat) x) (r : Fin n) (c : Fin N) (r' : Fin M) (hr : r'.val = r.val) :
    v.readCov (Val := Elt Ideal) L (Rect.unit (s := ⟨2, ![M, N]⟩) ![0, 0] ![n, N] inb).toLoadRect (ValueIdx.ix2 r c) = View.canon L (ValueIdx.ix2 r' c) := by
  rw [View.readCov_eq_canon']
  exact ld_apply2 (View.canon L) inb (ValueIdx.ix2 r c) r' c (hr.trans (Nat.zero_add _).symm) (Nat.zero_add _).symm

/-- The convolution gradient's first rows, kept for the tile above. -/
theorem conv_next (X : Vec Ideal S4096x1024 .f32) {L M : List (View.Piece (Elt Ideal) S272x1024 .f32)} (r : Fin 16) (l : Fin 1024) :
    View.canon (Val := Elt Ideal) (s := S272x1024) (e := .f32) (⟨Rect.unit ![256, 0] ![16, 1024] inb_S272x1024_S16x1024_256_0, k0_pay94 (F := Ideal) ((View.whole cc0_scratch1).readCov (Val := Elt Ideal)
      (⟨Rect.unit ![0, 0] ![256, 1024] inb_S272x1024_S256x1024_0_0, k0_pay32 (F := Ideal) (tile k X)⟩ :: L) (Rect.unit (s := S272x1024) ![0, 0] ![16, 1024] inb_S272x1024_S16x1024_0_0).toLoadRect)⟩ :: M)
      (ValueIdx.ix2 ⟨256 + r.val, by omega⟩ l) = ext X l (256 * k.val + r.val) := by
  have hk := k.isLt
  refine (canon_hit _ _ _ (⟨256 + r.val, by omega⟩ : Fin 272) l r l rfl (Nat.zero_add _).symm).trans ?_
  unfold k0_pay94
  refine (congrFun (shapeCast_self _ _) _).trans ?_
  refine (load_top (M := 272) (N := 1024) (n := 16) (View.whole cc0_scratch1) _ _ r l (⟨r.val, by omega⟩ : Fin 272) rfl).trans ?_
  refine (canon_hit _ _ _ (⟨r.val, by omega⟩ : Fin 272) l (⟨r.val, by omega⟩ : Fin 256) l (Nat.zero_add _).symm (Nat.zero_add _).symm).trans ?_
  unfold k0_pay32
  refine (congrFun (shapeCast_self _ _) _).trans ?_
  unfold ext
  rw [dif_pos (by omega)]

/-- The four pools' gradients by the window counts. -/
def dn : Fin 4 → Vec Ideal S4096x256 .f32 := ![val_main_v305 (F := Ideal) a0 a1 a4 a5 a9, val_main_v291 (F := Ideal) a0 a1 a4 a5 a9,
  val_main_v277 (F := Ideal) a0 a1 a4 a5 a9, val_main_v264 (F := Ideal) a0 a1 a4 a5 a9]

/-- The rows carried from the tile below. -/
def Carried (D : Fin 4 → Vec Ideal S4096x256 .f32) (k : Nat) (X : Vec Ideal S384x1024 .bf16) : Prop :=
  ∀ (g : Fin 4) (r : Fin 16) (l : Fin 256), X (ValueIdx.ix2 ⟨256 + r.val, by omega⟩ ⟨256 * g.val + l.val, by omega⟩) = col (D g) l (256 * k + r.val)

theorem carried_cons {D : Fin 4 → Vec Ideal S4096x256 .f32} {k : Nat} {b : Nat} {inb : ∀ x, (![0, b] : Fin 2 → Nat) x + (![256, 256] : Fin 2 → Nat) x ≤ (![384, 1024] : Fin 2 → Nat) x}
    {w : Vec Ideal S256x256 .bf16} {L : List (View.Piece (Elt Ideal) S384x1024 .bf16)} (h : Carried D k (View.canon L)) :
    Carried D k (View.canon (Val := Elt Ideal) (s := ⟨2, ![384, 1024]⟩) (e := .bf16) (⟨Rect.unit ![0, b] ![256, 256] inb, w⟩ :: L)) :=
  fun g r l => (canon_miss _ _ _ _ _ (by right; left; show 0 + 256 ≤ 256 + r.val; omega)).trans (h g r l)

theorem pool_next (D : Fin 4 → Vec Ideal S4096x256 .f32) {L M : List (View.Piece (Elt Ideal) S384x1024 .bf16)} :
    Carried D k.val (View.canon (Val := Elt Ideal) (s := S384x1024) (e := .bf16) (⟨Rect.unit ![256, 0] ![16, 1024] inb_S384x1024_S16x1024_256_0, k0_pay95 (F := Ideal) ((View.whole cc0_scratch2).readCov (Val := Elt Ideal)
      (⟨Rect.unit ![0, 768] ![256, 256] inb_S384x1024_S256x256_0_768, tile k (D 3)⟩ :: ⟨Rect.unit ![0, 512] ![256, 256] inb_S384x1024_S256x256_0_512, tile k (D 2)⟩ ::
        ⟨Rect.unit ![0, 256] ![256, 256] inb_S384x1024_S256x256_0_256, tile k (D 1)⟩ :: ⟨Rect.unit ![0, 0] ![256, 256] inb_S384x1024_S256x256_0_0, tile k (D 0)⟩ :: L)
      (Rect.unit (s := S384x1024) ![0, 0] ![16, 1024] inb_S384x1024_S16x1024_0_0).toLoadRect)⟩ :: M)) := by
  intro g r l
  have hk := k.isLt
  refine (canon_hit _ _ _ (⟨256 + r.val, by omega⟩ : Fin 384) (⟨256 * g.val + l.val, by omega⟩ : Fin 1024) r ⟨256 * g.val + l.val, by omega⟩ rfl (Nat.zero_add _).symm).trans ?_
  unfold k0_pay95
  refine (congrFun (shapeCast_self _ _) _).trans ?_
  refine (load_top (M := 384) (N := 1024) (n := 16) (View.whole cc0_scratch2) _ _ r _ (⟨r.val, by omega⟩ : Fin 384) rfl).trans ?_
  have fin (g : Fin 4) : tile k (D g) (ValueIdx.ix2 ⟨r.val, by omega⟩ l) = col (D g) l (256 * k.val + r.val) := by
    unfold col
    rw [dif_pos (by omega)]
  have hit {w : Vec Ideal S256x256 .bf16} {b : Nat} {inb : ∀ x, (![0, b] : Fin 2 → Nat) x + (![256, 256] : Fin 2 → Nat) x ≤ (![384, 1024] : Fin 2 → Nat) x} {L : List (View.Piece (Elt Ideal) S384x1024 .bf16)}
      (c : Fin 1024) (hc : c.val = b + l.val) :
      View.canon (Val := Elt Ideal) (s := ⟨2, ![384, 1024]⟩) (e := .bf16) (⟨Rect.unit ![0, b] ![256, 256] inb, w⟩ :: L) (ValueIdx.ix2 (⟨r.val, by omega⟩ : Fin 384) c) = w (ValueIdx.ix2 ⟨r.val, by omega⟩ l) :=
    canon_hit _ _ _ _ c _ l (Nat.zero_add _).symm hc
  have miss {w : Vec Ideal S256x256 .bf16} {b : Nat} {inb : ∀ x, (![0, b] : Fin 2 → Nat) x + (![256, 256] : Fin 2 → Nat) x ≤ (![384, 1024] : Fin 2 → Nat) x} {L : List (View.Piece (Elt Ideal) S384x1024 .bf16)}
      (c : Fin 1024) (hc : c.val < b ∨ b + 256 ≤ c.val) :
      View.canon (Val := Elt Ideal) (s := ⟨2, ![384, 1024]⟩) (e := .bf16) (⟨Rect.unit ![0, b] ![256, 256] inb, w⟩ :: L) (ValueIdx.ix2 (⟨r.val, by omega⟩ : Fin 384) c) = View.canon L (ValueIdx.ix2 ⟨r.val, by omega⟩ c) :=
    canon_miss _ _ _ _ c (by omega)
  match g with
  | 3 => exact (hit _ rfl).trans (fin 3)
  | 2 => exact (miss _ (by show 256 * 2 + l.val < 768 ∨ _; omega)).trans ((hit _ rfl).trans (fin 2))
  | 1 => exact (miss _ (by show 256 * 1 + l.val < 768 ∨ _; omega)).trans ((miss _ (by show 256 * 1 + l.val < 512 ∨ _; omega)).trans ((hit _ rfl).trans (fin 1)))
  | 0 => exact (miss _ (by show 256 * 0 + l.val < 768 ∨ _; omega)).trans ((miss _ (by show 256 * 0 + l.val < 512 ∨ _; omega)).trans ((miss _ (by show 256 * 0 + l.val < 256 ∨ _; omega)).trans ((hit _ rfl).trans (fin 0))))

end Cert.MixKernelIdeal.Mix

end
-- ==== Proof.Mix.Finite.lean ====
/- WHAT THE FINITE ARGUMENTS GIVE: the arrays whose sums are regrouped hold reals. -/
module

public import proofs.«01_k».proof.Proof.Gen.MixReferenceIdeal.Read
public import proofs.«01_k».proof.Proof.Mix.Reals
public import proofs.«01_k».proof.Proof.Mix.Pool
public import proofs.«01_k».proof.Pre_finite_mix
public import Idealize.ShloMosaic.Lib.Pointwise
public import Idealize.ShloMosaic.Lib.ReduceAll

@[expose] public section

set_option maxRecDepth 16384

noncomputable section

namespace Cert.Reals

open Idealize.ShloMosaic Idealize.ShloMosaic.TcCoe Idealize.ShloMosaic.Tactic

theorem bits_bot : Ideal.ofBits .f32 0xFF800000#32 = (⊥ : EReal) := by simp [Ideal.ofBits, Ideal.ieee]

theorem andi_one {x y : BitVec 1} (h : IntOp.andi x y = 1#1) : x = 1#1 ∧ y = 1#1 := by revert x y; decide

/-- A conjunction over all entries of "above −∞ and below ∞". -/
theorem real_of_all {s t u : Shape} [Subsingleton t.Idx] {axes : List (Fin s.rank)} (x : FVec Ideal s .f32) (lo hi : FVec Ideal s .f32)
    (hlo : ∀ i, lo i = Ideal.ofBits .f32 0xFF800000#32) (hhi : ∀ i, hi i = Ideal.ofBits .f32 0x7F800000#32)
    (init : u.Idx → BitVec 1) (h : s.ReducesTo axes t) (hu : 0 < u.numel) (j : t.Idx)
    (e : Host.reduce IntOp.andi (andi (cmpf .ogt x lo) (cmpf .olt x hi)) init h hu j = 1#1) (i : s.Idx) : IsReal (x i) := by
  have l := andi_one (Host.reduce_andi_all _ _ h hu j e i)
  have l1 : Ideal.cmp .ogt (x i) (lo i) = 1#1 := l.1
  have l2 : Ideal.cmp .olt (x i) (hi i) = 1#1 := l.2
  rw [hlo] at l1
  rw [hhi] at l2
  refine isReal_of_lt ?_ ?_
  · by_contra hn
    simp [Ideal.cmp, Ideal.ofBits, Ideal.ieee] at l1
    rw [decide_eq_false hn] at l1
    exact absurd l1 (by decide)
  · by_contra hn
    simp [Ideal.cmp, Ideal.ofBits, Ideal.ieee] at l2
    rw [decide_eq_false hn] at l2
    exact absurd l2 (by decide)

/-- The greatest of finitely many reals, from −∞. -/
theorem isReal_fold_max {ι : Type*} (s : Finset ι) (f : ι → EReal) (hf : ∀ i, IsReal (f i)) (hs : s.Nonempty) : IsReal (s.fold max (⊥ : EReal) f) := by
  classical
  induction hs using Finset.Nonempty.cons_induction with
  | singleton a => simpa using hf a
  | cons a s ha hs ih =>
    rw [Finset.fold_cons]
    rcases max_choice (f a) (s.fold max ⊥ f) with h | h <;> rw [h]
    · exact hf a
    · exact ih

theorem isReal_exp {x : EReal} (h : IsReal x) : ∃ r : ℝ, Ideal.exp x = (r : EReal) ∧ 0 < r := by
  obtain ⟨r, rfl⟩ := h
  exact ⟨_, Ideal.exp_coe r, Real.exp_pos r⟩

theorem sum_pos_real {ι : Type*} (s : Finset ι) (f : ι → EReal) (hf : ∀ i, ∃ r : ℝ, f i = (r : EReal) ∧ 0 < r) (hs : s.Nonempty) :
    ∃ r : ℝ, ∑ i ∈ s, f i = (r : EReal) ∧ r ≠ 0 := by
  choose r hr hp using hf
  refine ⟨∑ i ∈ s, r i, ?_, (Finset.sum_pos (fun i _ => hp i) hs).ne'⟩
  rw [coe_sum]
  exact Finset.sum_congr rfl fun i _ => hr i

end Cert.Reals

namespace Cert.MixKernelIdeal.Mix

open Idealize.ShloMosaic Idealize.ShloMosaic.TcCoe Idealize.ShloMosaic.Tactic
open Cert.MixReferenceIdeal Cert.MixReferenceIdeal.Read
open Cert.Reals

/-- The arguments' entries the regrouped sums are made of are reals. -/
structure Finite (a0 : Vec Ideal S4096x1024 .f32) (a1 : Vec Ideal S4096x8192 .f32) (a4 : Vec Ideal S1x4x256x256 .f32) (a5 : Vec Ideal S1x1024 .f32)
    (a6 a7 : Vec Ideal S256x1024 .f32) (a8 a9 : Vec Ideal S1x1024x1024 .f32) : Prop where
  h0 : ∀ i, IsReal (a0 i)
  h1 : ∀ i, IsReal (val_main_v5 a1 i)
  h4 : ∀ i, IsReal (a4 i)
  h5 : ∀ i, IsReal (a5 i)
  h6 : ∀ i, IsReal (a6 i)
  h7 : ∀ i, IsReal (a7 i)
  h8 : ∀ i, IsReal (a8 i)
  h9 : ∀ i, IsReal (a9 i)

theorem finite_of_pre [Cert.Pre_finite_mix.Facts] (a0 : Vec Ideal S4096x1024 .f32) (a1 : Vec Ideal S4096x8192 .f32) (a2 : Vec Ideal S1x3x1024 .f32) (a3 : Vec Ideal S1x1024x1024 .f32)
    (a4 : Vec Ideal S1x4x256x256 .f32) (a5 : Vec Ideal S1x1024 .f32) (a6 a7 : Vec Ideal S256x1024 .f32) (a8 a9 : Vec Ideal S1x1024x1024 .f32) (j)
    (h : Cert.Pre_finite_mix.fn (F := Ideal) a0 a1 a2 a3 a4 a5 a6 a7 a8 a9 j = 1#1) : Finite a0 a1 a4 a5 a6 a7 a8 a9 := by
  haveI : Subsingleton Cert.Pre_finite_mix.S_.Idx := ⟨fun a b => funext fun x => x.elim0⟩
  obtain ⟨h, r9⟩ := andi_one h
  obtain ⟨h, r8⟩ := andi_one h
  obtain ⟨h, r7⟩ := andi_one h
  obtain ⟨h, r6⟩ := andi_one h
  obtain ⟨h, r5⟩ := andi_one h
  obtain ⟨h, r4⟩ := andi_one h
  obtain ⟨r0, r1⟩ := andi_one h
  exact ⟨real_of_all _ _ _ (fun _ => rfl) (fun _ => rfl) _ _ _ _ r0, real_of_all _ _ _ (fun _ => rfl) (fun _ => rfl) _ _ _ _ r1,
    real_of_all _ _ _ (fun _ => rfl) (fun _ => rfl) _ _ _ _ r4, real_of_all _ _ _ (fun _ => rfl) (fun _ => rfl) _ _ _ _ r5,
    real_of_all _ _ _ (fun _ => rfl) (fun _ => rfl) _ _ _ _ r6, real_of_all _ _ _ (fun _ => rfl) (fun _ => rfl) _ _ _ _ r7,
    real_of_all _ _ _ (fun _ => rfl) (fun _ => rfl) _ _ _ _ r8, real_of_all _ _ _ (fun _ => rfl) (fun _ => rfl) _ _ _ _ r9⟩

variable {a0 : Vec Ideal S4096x1024 .f32} {a1 : Vec Ideal S4096x8192 .f32} {a4 : Vec Ideal S1x4x256x256 .f32} {a5 : Vec Ideal S1x1024 .f32}
  {a6 a7 : Vec Ideal S256x1024 .f32} {a8 a9 : Vec Ideal S1x1024x1024 .f32} (H : Finite a0 a1 a4 a5 a6 a7 a8 a9)
include H

theorem real_v198 (i) : IsReal (val_main_v198 a0 a9 i) := by
  unfold val_main_v198 val_main_v196
  pointwise
  exact isReal_sum _ _ fun x _ => (H.h0 _).mul (H.h9 _)

theorem real_v199 (i) : IsReal (val_main_v199 a0 a1 a9 i) := by
  unfold val_main_v199 val_main_v190 val_main_v189 val_main_v188 val_main_v187 val_main_v186 val_main_v185 val_main_cst_31 val_main_cst_32
  have h := real_v198 H
  generalize val_main_v198 a0 a9 = X at *
  pointwise
  exact (isReal_logistic _).mul (h _)

theorem real_v202 (i) : IsReal (val_main_v202 a0 a1 a9 i) := by
  unfold val_main_v202 val_main_v175 val_main_v174 val_main_v173 val_main_v172 val_main_v171 val_main_v170 val_main_cst_28 val_main_cst_29
  have h := real_v198 H
  generalize val_main_v198 a0 a9 = X at *
  pointwise
  exact (isReal_logistic _).mul (h _)

theorem real_v208 (i) : IsReal (val_main_v208 a0 a1 a5 a9 i) := by
  unfold val_main_v208 val_main_v207 val_main_v180
  have h := real_v202 H
  generalize val_main_v202 a0 a1 a9 = X at *
  pointwise
  exact (h _).mul (H.h5 _)

theorem real_v220 (i) : IsReal (val_main_v220 a0 a1 a8 a9 i) := by
  unfold val_main_v220 val_main_v151
  have h := real_v199 H
  generalize val_main_v199 a0 a1 a9 = X at *
  pointwise
  exact isReal_sum _ _ fun x _ => (h _).mul (H.h8 _)

/-- The gradient of the weights. -/
theorem real_v224 (i) : IsReal (val_main_v224 a0 a1 a7 a8 a9 i) := by
  unfold val_main_v224 val_main_v223 val_main_v222 val_main_v112
  have h := real_v220 H
  generalize val_main_v220 a0 a1 a8 a9 = X at *
  pointwise
  exact isReal_sum _ _ fun x _ => (h _).mul (H.h7 _)

theorem real_v115 (i) : IsReal (val_main_v115 a1 a6 i) := by
  unfold val_main_v115 val_main_v114 val_main_v113 val_main_v110 val_main_v111 val_main_cst_14
  have h := H.h1
  generalize val_main_v5 a1 = X at *
  pointwise
  exact (isReal_sum _ _ fun x _ => (h _).mul (H.h6 _)).mul isReal_sixteenth

theorem real_v116 (i) : IsReal (val_main_v116 a1 a6 i) := by
  have h := real_v115 H
  unfold val_main_v116
  generalize val_main_v115 a1 a6 = X at *
  simp only [pointwise]
  have e : val_main_cst_15 (F := Ideal) (Shape.Idx.first MixReferenceIdeal.Gen.h_S_) = (⊥ : EReal) := by
    show Ideal.ofBits .f32 0xFF800000#32 = ⊥
    simp [Ideal.ofBits, Ideal.ieee]
  rw [e]
  exact isReal_fold_max _ _ (fun x => h _) Finset.univ_nonempty

omit H in
theorem v122_bot (i) : val_main_v122 (F := Ideal) i = (⊥ : EReal) := by
  unfold val_main_v122 val_main_cst_17
  simp only [pointwise]
  exact bits_bot

omit H in
theorem max_bot_real (x y : Ideal .f32) (hx : x = (⊥ : EReal)) (hy : IsReal y) : IsReal (FloatOps.maximumf x y) := by
  subst hx
  exact (congrArg IsReal (max_bot_left (y : EReal))).mpr hy

theorem real_v123 (i) : IsReal (val_main_v123 a1 a6 i) :=
  (congrArg IsReal (val_main_v123_apply a1 a6 i)).mpr (max_bot_real _ _ (v122_bot i) (real_v116 H i))

theorem real_v134 (i) : IsReal (val_main_v134 a1 a6 i) := by
  have h := real_v123 H
  unfold val_main_v134 val_main_v133
  generalize val_main_v123 a1 a6 = X at *
  pointwise
  exact h _

theorem pos_v136 (i) : ∃ r : ℝ, val_main_v136 a1 a6 i = (r : EReal) ∧ 0 < r := by
  unfold val_main_v136 val_main_v135
  have h := (real_v115 H i).sub (real_v134 H i)
  generalize val_main_v115 a1 a6 = X at *
  generalize val_main_v134 a1 a6 = Y at *
  exact isReal_exp h

theorem real_v136 (i) : IsReal (val_main_v136 a1 a6 i) := (pos_v136 H i).imp fun _ h => h.1

theorem ne_v138 (g : Fin 4) (t : Fin 4096) : ∃ s : ℝ, val_main_v138 a1 a6 (ix3 g t 0) = (s : EReal) ∧ s ≠ 0 := by
  unfold val_main_v138 val_main_v137 val_main_cst_23
  have h := pos_v136 H
  generalize val_main_v136 a1 a6 = X at *
  pointwise
  exact sum_pos_real _ _ (fun _ => h _) Finset.univ_nonempty

theorem real_v250 (i) : IsReal (val_main_v251 a0 a1 a4 a5 a9 i) := by
  unfold val_main_v251 val_main_v250 val_main_v249 val_main_v248 val_main_v106
  have h := real_v208 H
  generalize val_main_v208 a0 a1 a5 a9 = X at *
  pointwise
  exact isReal_sum _ _ fun x _ => (h _).mul (H.h4 _)

theorem real_dn0 (i) : IsReal (val_main_v305 a0 a1 a4 a5 a9 i) := by
  unfold val_main_v305 val_main_v304 val_main_v253 val_main_v252
  have h := real_v250 H
  have c := cnt0
  generalize val_main_v251 a0 a1 a4 a5 a9 = X at *
  generalize val_main_v46 (F := Ideal) = C at *
  pointwise
  exact (congrArg (fun y => IsReal (Ideal.div _ y)) (c _ _)).mpr ((h _).div (cnt_ne _ _ (by decide)))

theorem real_dn1 (i) : IsReal (val_main_v291 a0 a1 a4 a5 a9 i) := by
  unfold val_main_v291 val_main_v290 val_main_v255 val_main_v254
  have h := real_v250 H
  have c := cnt1
  generalize val_main_v251 a0 a1 a4 a5 a9 = X at *
  generalize val_main_v62 (F := Ideal) = C at *
  pointwise
  exact (congrArg (fun y => IsReal (Ideal.div _ y)) (c _ _)).mpr ((h _).div (cnt_ne _ _ (by decide)))

theorem real_dn2 (i) : IsReal (val_main_v277 a0 a1 a4 a5 a9 i) := by
  unfold val_main_v277 val_main_v276 val_main_v257 val_main_v256
  have h := real_v250 H
  have c := cnt2
  generalize val_main_v251 a0 a1 a4 a5 a9 = X at *
  generalize val_main_v78 (F := Ideal) = C at *
  pointwise
  exact (congrArg (fun y => IsReal (Ideal.div _ y)) (c _ _)).mpr ((h _).div (cnt_ne _ _ (by decide)))

theorem real_dn3 (i) : IsReal (val_main_v264 a0 a1 a4 a5 a9 i) := by
  unfold val_main_v264 val_main_v263 val_main_v259 val_main_v258
  have h := real_v250 H
  have c := cnt3
  generalize val_main_v251 a0 a1 a4 a5 a9 = X at *
  generalize val_main_v94 (F := Ideal) = C at *
  pointwise
  exact (congrArg (fun y => IsReal (Ideal.div _ y)) (c _ _)).mpr ((h _).div (cnt_ne _ _ (by decide)))

end Cert.MixKernelIdeal.Mix

end
-- ==== Proof.Mix.Carry.lean ====
/- WHAT ONE POINT HANDS TO THE NEXT, and the payloads of a point that read it. -/
module

public import proofs.«01_k».proof.Proof.Mix.Laid
public import proofs.«01_k».proof.Proof.Mix.Finite

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

variable (k : Fin 16) (a0 : Vec Ideal S4096x1024 .f32) (a1 : Vec Ideal S4096x8192 .f32) (a2 : Vec Ideal S1x3x1024 .f32) (a3 : Vec Ideal S1x1024x1024 .f32)
  (a4 : Vec Ideal S1x4x256x256 .f32) (a5 : Vec Ideal S1x1024 .f32) (a6 a7 : Vec Ideal S256x1024 .f32) (a8 a9 : Vec Ideal S1x1024x1024 .f32)

/-! ## The pools -/

theorem dn_0 : dn a0 a1 a4 a5 a9 0 = val_main_v305 (F := Ideal) a0 a1 a4 a5 a9 := by unfold dn; rfl
theorem dn_1 : dn a0 a1 a4 a5 a9 1 = val_main_v291 (F := Ideal) a0 a1 a4 a5 a9 := by unfold dn; rfl
theorem dn_2 : dn a0 a1 a4 a5 a9 2 = val_main_v277 (F := Ideal) a0 a1 a4 a5 a9 := by unfold dn; rfl
theorem dn_3 : dn a0 a1 a4 a5 a9 3 = val_main_v264 (F := Ideal) a0 a1 a4 a5 a9 := by unfold dn; rfl

theorem dn2_tile' : k0_pay45 (F := Ideal) (tile k (val_main_v257 a0 a1 a4 a5 a9)) (k0_pay44 (BitVec.ofNat 32 k.val)) = tile k (val_main_v277 a0 a1 a4 a5 a9) :=
  (congrArg (fun y => k0_pay45 (F := Ideal) y (k0_pay44 (BitVec.ofNat 32 k.val))) (dq2_tile k a0 a1 a4 a5 a9).symm).trans (dn2_tile k a0 a1 a4 a5 a9)

/-- Nothing is carried into the last tile. -/
theorem carried_zero (D : Fin 4 → Vec Ideal S4096x256 .f32) (hk : k.val = 15) :
    Carried D (k.val + 1) (View.canon (Val := Elt Ideal) (s := S384x1024) (e := .bf16) [⟨Rect.unit ![256, 0] ![128, 1024] inb_S384x1024_S128x1024_256_0, k0_pay5 (F := Ideal)⟩]) := by
  intro g r l
  refine (canon_hit _ _ _ (⟨256 + r.val, by omega⟩ : Fin 384) (⟨256 * g.val + l.val, by omega⟩ : Fin 1024) (⟨r.val, by omega⟩ : Fin 128) ⟨256 * g.val + l.val, by omega⟩ rfl (Nat.zero_add _).symm).trans ?_
  unfold col
  rw [dif_neg (by omega)]
  unfold k0_pay5
  pointwise

theorem carried_whole {D : Fin 4 → Vec Ideal S4096x256 .f32} {n : Nat} {s : Vec Ideal S384x1024 .bf16} (h : Carried D n s)
    (inb : ∀ x, (fun _ => 0 : Fin 2 → Nat) x + (S384x1024).size x ≤ (S384x1024).size x) :
    Carried D n (View.canon (Val := Elt Ideal) (s := S384x1024) (e := .bf16) [⟨Rect.unit (fun _ => 0) (S384x1024).size inb, s⟩]) := by
  rw [View.canon_cons_unit_zero rfl]
  exact h

/-- The rows one pool's gradient reads, over what was carried. -/
theorem over_pool {D : Fin 4 → Vec Ideal S4096x256 .f32} (h : (Memref.whole cc0_scratch2).IsWhole) {s : Vec Ideal S384x1024 .bf16} (hs : Carried D (k.val + 1) s)
    (L : List (View.Piece (Elt Ideal) S384x1024 .bf16)) (hL : ∀ M, Carried D (k.val + 1) (View.canon M) → Carried D (k.val + 1) (View.canon (L ++ M)))
    (g : Fin 4) (X : Vec Ideal S4096x256 .f32) (hX : D g = X) (b : Nat) (hb : b = 256 * g.val) (inb : ∀ a, (![0, b] : Fin 2 → Nat) a + (![256, 256] : Fin 2 → Nat) a ≤ (![384, 1024] : Fin 2 → Nat) a)
    (inb' : ∀ a, (![0, b] : Fin 2 → Nat) a + (![384, 256] : Fin 2 → Nat) a ≤ (![384, 1024] : Fin 2 → Nat) a) (i : Fin 384) (l : Fin 256) (hi : i.val < 272) :
    View.ld (View.read (Elt Ideal) (View.whole cc0_scratch2) ((View.whole cc0_scratch2).writes (Elt Ideal) (h.unread s) (⟨Rect.unit ![0, b] ![256, 256] inb, tile k X⟩ :: L)))
      (Rect.unit (s := ⟨2, ![384, 1024]⟩) ![0, b] ![384, 256] inb') (ValueIdx.ix2 i l) = col X l (256 * k.val + i.val) := by
  subst hX
  rw [read_over _ _ (fun x => by rw [Nat.zero_add]), read_unread_whole]
  exact pool_read k g (D g) _ (fun r l => hL _ (carried_whole hs _) g r l) b hb inb inb' i l hi

theorem zero_pool {D : Fin 4 → Vec Ideal S4096x256 .f32} (L : List (View.Piece (Elt Ideal) S384x1024 .bf16)) (hL : Carried D (k.val + 1) (View.canon L))
    (g : Fin 4) (X : Vec Ideal S4096x256 .f32) (hX : D g = X) (b : Nat) (hb : b = 256 * g.val) (inb : ∀ a, (![0, b] : Fin 2 → Nat) a + (![256, 256] : Fin 2 → Nat) a ≤ (![384, 1024] : Fin 2 → Nat) a)
    (inb' : ∀ a, (![0, b] : Fin 2 → Nat) a + (![384, 256] : Fin 2 → Nat) a ≤ (![384, 1024] : Fin 2 → Nat) a) (i : Fin 384) (l : Fin 256) (hi : i.val < 272) :
    (View.whole cc0_scratch2).readCov (Val := Elt Ideal) (⟨Rect.unit ![0, b] ![256, 256] inb, tile k X⟩ :: L)
      (Rect.unit (s := ⟨2, ![384, 1024]⟩) ![0, b] ![384, 256] inb').toLoadRect (ValueIdx.ix2 i l) = col X l (256 * k.val + i.val) := by
  subst hX
  rw [View.readCov_eq_canon']
  exact pool_read k g (D g) _ (fun r l => hL g r l) b hb inb inb' i l hi

/-- One pool's gradient, at a column. -/
theorem du_at {w : Vec Ideal S256x256 .bf16} (g : Fin 4) (h : w = fun j => val_main_v316 (F := Ideal) a0 a1 a4 a5 a9 (ValueIdx.ix2 (row k (j 0)) ⟨256 * g.val + (j 1).val, by have : (j 1).val < 256 := (j 1).isLt; omega⟩))
    (i l : Fin 256) (c : Fin 1024) (hc : c.val = 256 * g.val + l.val) : w (ValueIdx.ix2 i l) = val_main_v316 (F := Ideal) a0 a1 a4 a5 a9 (ValueIdx.ix2 (row k i) c) := by
  subst h
  exact congrArg (val_main_v316 (F := Ideal) a0 a1 a4 a5 a9) ((ix2_inj _ _ _ _).mpr ⟨rfl, Fin.ext hc.symm⟩)

theorem next_pool {D : Fin 4 → Vec Ideal S4096x256 .f32} {X0 X1 X2 X3 : Vec Ideal S4096x256 .f32} (h0 : D 0 = X0) (h1 : D 1 = X1) (h2 : D 2 = X2) (h3 : D 3 = X3)
    {L M : List (View.Piece (Elt Ideal) S384x1024 .bf16)} :
    Carried D k.val (View.canon (Val := Elt Ideal) (s := S384x1024) (e := .bf16) (⟨Rect.unit ![256, 0] ![16, 1024] inb_S384x1024_S16x1024_256_0, k0_pay95 (F := Ideal) ((View.whole cc0_scratch2).readCov (Val := Elt Ideal)
      (⟨Rect.unit ![0, 768] ![256, 256] inb_S384x1024_S256x256_0_768, tile k X3⟩ :: ⟨Rect.unit ![0, 512] ![256, 256] inb_S384x1024_S256x256_0_512, tile k X2⟩ ::
        ⟨Rect.unit ![0, 256] ![256, 256] inb_S384x1024_S256x256_0_256, tile k X1⟩ :: ⟨Rect.unit ![0, 0] ![256, 256] inb_S384x1024_S256x256_0_0, tile k X0⟩ :: L)
      (Rect.unit (s := S384x1024) ![0, 0] ![16, 1024] inb_S384x1024_S16x1024_0_0).toLoadRect)⟩ :: M)) := by
  subst h0 h1 h2 h3
  exact pool_next k D

/-! ## The convolution -/

theorem conv_out {P Q : Vec Ideal S256x1024 .f32} (hP : P = tile k (val_main_v19 (F := Ideal) a1)) (hQ : Q = tile k (val_main_v13 (F := Ideal) a1)) :
    k0_pay27 (F := Ideal) (tile k (val_main_v221 a0 a1 a3 a9)) (tile k (val_main_v6 a1)) P Q (wrow 2 a2) (wrow 1 a2) (wrow 0 a2) = tile k (val_main_v318 a0 a1 a2 a3 a9) := by
  subst hP hQ
  exact conv_tile k a0 a1 a2 a3 a9

theorem dca_out {P Q : Vec Ideal S256x1024 .f32} (hP : P = below 1 k (val_main_v317 (F := Ideal) a0 a1 a3 a9)) (hQ : Q = below 2 k (val_main_v317 (F := Ideal) a0 a1 a3 a9)) :
    k0_pay34 (F := Ideal) (k0_pay23 (tile k (val_main_v3 a1))) (tile k (val_main_v317 a0 a1 a3 a9)) (wrow 2 a2) (wrow 1 a2) P (wrow 0 a2) Q = tile k (val_main_v354 a0 a1 a2 a3 a9) := by
  subst hP hQ
  refine Eq.trans ?_ (dca_tile k a0 a1 a2 a3 a9)
  exact congrArg (fun y => k0_pay34 (F := Ideal) y (tile k (val_main_v317 a0 a1 a3 a9)) (wrow 2 a2) (wrow 1 a2) _ (wrow 0 a2) _) (show k0_pay23 (F := Ideal) (tile k (val_main_v3 a1)) = tile k (val_main_v3 a1) from by unfold k0_pay23; rw [shapeCast_self]; rfl)

theorem dua_out {P Q : Vec Ideal S256x1024 .f32} (hP : P = below 1 k (val_main_v317 (F := Ideal) a0 a1 a3 a9)) (hQ : Q = below 2 k (val_main_v317 (F := Ideal) a0 a1 a3 a9)) :
    k0_pay35 (F := Ideal) (k0_pay22 (tile k (val_main_v2 a1))) (k0_pay33 (tile k (val_main_v317 a0 a1 a3 a9)) (wrow 2 a2) (wrow 1 a2) P (wrow 0 a2) Q) = tile k (val_main_v353 a0 a1 a2 a3 a9) := by
  subst hP hQ
  rw [dcu_tile]
  refine Eq.trans ?_ (dua_tile k a0 a1 a2 a3 a9)
  exact congrArg (fun y => k0_pay35 (F := Ideal) y _) (show k0_pay22 (F := Ideal) (tile k (val_main_v2 a1)) = tile k (val_main_v2 a1) from by unfold k0_pay22; rw [shapeCast_self]; rfl)

/-! ## The statistics -/

/-- The rows of the statistics, before they are summed. -/
def statf : Fin 8 → Fin 4096 → Fin 1024 → EReal :=
  ![fun _ _ => 0, fun n l => val_main_v204 (F := Ideal) a0 a1 a4 a9 (ValueIdx.ix2 n l), fun _ _ => 0, fun _ _ => 0, fun _ _ => 0,
    fun n l => val_main_v341 (F := Ideal) a0 a1 a3 a9 (ValueIdx.ix2 n l), fun n l => val_main_v330 (F := Ideal) a0 a1 a3 a9 (ValueIdx.ix2 n l), fun n l => val_main_v321 (F := Ideal) a0 a1 a3 a9 (ValueIdx.ix2 n l)]

theorem stat_out (S : Vec Ideal S8x1024 .f32) {P Q : Vec Ideal S256x1024 .f32} (hP : P = tile k (val_main_v19 (F := Ideal) a1)) (hQ : Q = tile k (val_main_v13 (F := Ideal) a1))
    {L : List (View.Piece (Elt Ideal) S8x1024 .f32)} (hL : View.canon L = S) (i : Fin 8) (l : Fin 1024) :
    View.canon (Val := Elt Ideal) (s := S8x1024) (e := .f32) ([⟨Rect.unit ![7, 0] ![1, 1024] inb_S8x1024_S1x1024_7_0, k0_pay31 (F := Ideal) (tile k (val_main_v6 a1)) (tile k (val_main_v317 a0 a1 a3 a9))
        (View.ld (e' := .f32) S (Rect.unit ![7, 0] ![1, 1024] inb_S8x1024_S1x1024_7_0))⟩,
      ⟨Rect.unit ![6, 0] ![1, 1024] inb_S8x1024_S1x1024_6_0, k0_pay30 (F := Ideal) P (tile k (val_main_v317 a0 a1 a3 a9)) (View.ld (e' := .f32) S (Rect.unit ![6, 0] ![1, 1024] inb_S8x1024_S1x1024_6_0))⟩,
      ⟨Rect.unit ![5, 0] ![1, 1024] inb_S8x1024_S1x1024_5_0, k0_pay29 (F := Ideal) (tile k (val_main_v221 a0 a1 a3 a9)) Q (tile k (val_main_v1 a1)) (View.ld (e' := .f32) S (Rect.unit ![5, 0] ![1, 1024] inb_S8x1024_S1x1024_5_0))⟩,
      ⟨Rect.unit ![1, 0] ![1, 1024] inb_S8x1024_S1x1024_1_0, k0_pay19 (F := Ideal) (k0_pay11 (tile k (val_main_v109 a1 a4))) (tile k (val_main_v202 a0 a1 a9)) (View.ld (e' := .f32) S (Rect.unit ![1, 0] ![1, 1024] inb_S8x1024_S1x1024_1_0))⟩] ++ L) (ValueIdx.ix2 i l)
      = S (ValueIdx.ix2 i l) + ∑ r : Fin 256, statf a0 a1 a3 a4 a9 i (row k r) l := by
  subst hP hQ
  have e (n : Fin 8) (l : Fin 1024) (b : Nat) (hb : n.val = b) (inb : ∀ a, (![b, 0] : Fin 2 → Nat) a + (![1, 1024] : Fin 2 → Nat) a ≤ (![8, 1024] : Fin 2 → Nat) a) :
      View.ld (e' := .f32) S (Rect.unit (s := ⟨2, ![8, 1024]⟩) ![b, 0] ![1, 1024] inb) (ValueIdx.ix2 0 l) = S (ValueIdx.ix2 n l) :=
    ld_apply2 (e := .f32) S inb (ValueIdx.ix2 0 l) n l (hb.trans (Nat.add_zero _).symm) (Nat.zero_add _).symm
  have h7 (l : Fin 1024) := (dw2_tile k a0 a1 a3 a9 (View.ld (e' := .f32) S (Rect.unit ![7, 0] ![1, 1024] inb_S8x1024_S1x1024_7_0)) l).trans (congrArg (· + _) (e 7 l 7 rfl _))
  have h6 (l : Fin 1024) := (dw1_tile k a0 a1 a3 a9 (View.ld (e' := .f32) S (Rect.unit ![6, 0] ![1, 1024] inb_S8x1024_S1x1024_6_0)) l).trans (congrArg (· + _) (e 6 l 6 rfl _))
  have h5 (l : Fin 1024) := (dw0_tile k a0 a1 a3 a9 (View.ld (e' := .f32) S (Rect.unit ![5, 0] ![1, 1024] inb_S8x1024_S1x1024_5_0)) l).trans (congrArg (· + _) (e 5 l 5 rfl _))
  have h1 (l : Fin 1024) := (dps_tile k a0 a1 a4 a9 (View.ld (e' := .f32) S (Rect.unit ![1, 0] ![1, 1024] inb_S8x1024_S1x1024_1_0)) l).trans (congrArg (· + _) (e 1 l 1 rfl _))
  unfold statf
  generalize k0_pay31 (F := Ideal) _ _ _ = w7 at *
  generalize k0_pay30 (F := Ideal) _ _ _ = w6 at *
  generalize k0_pay29 (F := Ideal) _ _ _ _ = w5 at *
  generalize k0_pay19 (F := Ideal) _ _ _ = w1 at *
  generalize val_main_v321 (F := Ideal) a0 a1 a3 a9 = f7 at *
  generalize val_main_v330 (F := Ideal) a0 a1 a3 a9 = f6 at *
  generalize val_main_v341 (F := Ideal) a0 a1 a3 a9 = f5 at *
  generalize val_main_v204 (F := Ideal) a0 a1 a4 a9 = f1 at *
  exact stat_laid k S (fun n l => f1 (ValueIdx.ix2 n l)) (fun n l => f5 (ValueIdx.ix2 n l)) (fun n l => f6 (ValueIdx.ix2 n l)) (fun n l => f7 (ValueIdx.ix2 n l)) h7 h6 h5 h1 hL i l

theorem fill_1 (y) : k0_pay1 (F := Ideal) y = 0 := by unfold k0_pay1; pointwise
theorem fill_2 (y) : k0_pay2 (F := Ideal) y = 0 := by unfold k0_pay2; pointwise
theorem fill_3 (y) : k0_pay3 (F := Ideal) y = 0 := by unfold k0_pay3; pointwise

end Cert.MixKernelIdeal.Mix

end
-- ==== Proof.Mix.Points.lean ====
/- WHAT THE POINTS LEAVE: a tile of each of the four large results, and the running sums of the other three. -/
module

public import proofs.«01_k».proof.Proof.Mix.Carry
public import Idealize.ShloMosaic.Lib.Pipeline.ReadBack

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

variable (m : (ℓ : Loc nD τ sig) → Buf (Elt Ideal) ℓ) (c : Dev nD)

/-- What a record holds at tile `k`: its rows of the large results, the sums from tile `k` on, and the rows the tile above needs. -/
structure Good (k : Nat) (s : Out Ideal) : Prop where
  dk : s.dk = fun y => tail (fun n => val_main_v240 (F := Ideal) (A0 m c) (A1 m c) (A6 m c) (A7 m c) (A8 m c) (A9 m c) (ix3 (hd (y 1)) n (y 0)) * val_main_v5 (F := Ideal) (A1 m c) (ix2 n (y 1))) k
  dv : s.dv = fun y => tail (fun n => val_main_v140 (F := Ideal) (A1 m c) (A6 m c) (ix3 (hd (y 1)) n (y 0)) * val_main_v220 (F := Ideal) (A0 m c) (A1 m c) (A8 m c) (A9 m c) (ix2 n (y 1))) k
  stat : ∀ (i : Fin 8) (l : Fin 1024), s.stat (ValueIdx.ix2 i l) = tail (fun n => statf (A0 m c) (A1 m c) (A3 m c) (A4 m c) (A9 m c) i n l) k
  dconv : ∀ (r : Fin 16) (l : Fin 1024), s.dconv (ValueIdx.ix2 ⟨256 + r.val, by omega⟩ l) = ext (val_main_v317 (F := Ideal) (A0 m c) (A1 m c) (A3 m c) (A9 m c)) l (256 * k + r.val)
  dpn : Carried (dn (A0 m c) (A1 m c) (A4 m c) (A5 m c) (A9 m c)) k s.dpn

/-- The tile of each large result. -/
structure Tiles (k : Fin 16) (s : Out Ideal) : Prop where
  dproj : s.dproj = tile k (val_main_v364 (F := Ideal) (A0 m c) (A1 m c) (A2 m c) (A3 m c) (A4 m c) (A5 m c) (A6 m c) (A7 m c) (A8 m c) (A9 m c))
  dya : s.dya = tile k (val_main_v212 (F := Ideal) (A0 m c) (A1 m c) (A9 m c))
  dpp : s.dpp = tile k (val_main_v208 (F := Ideal) (A0 m c) (A1 m c) (A5 m c) (A9 m c))
  dyx : s.dyx = tile k (val_main_v199 (F := Ideal) (A0 m c) (A1 m c) (A9 m c))

variable (H : Finite (A0 m c) (A1 m c) (A4 m c) (A5 m c) (A6 m c) (A7 m c) (A8 m c) (A9 m c)) (t : Fin cfg0.N)

theorem fill_laid : View.canon (Val := Elt Ideal) (s := S8x1024) (e := .f32) [⟨Rect.unit ![0, 0] ![8, 1024] inb_S8x1024_S8x1024_0_0, k0_pay3 (F := Ideal)⟩] = k0_pay3 (F := Ideal) :=
  View.canon_cons_unit_zero (Val := Elt Ideal) (S := S8x1024) (e := .f32) (by funext x; match x with | ⟨0, _⟩ => rfl | ⟨1, _⟩ => rfl) _ _ _

/-- The last tile's sum. -/
theorem start (f : Fin 4096 → EReal) (k : Fin 16) (hk : k.val = 15) : tail f k = ∑ r : Fin 256, f (row k r) := by
  rw [tail_step, show k.val + 1 = 16 by omega, tail_end, zero_add]

include H in
set_option maxHeartbeats 2000000 in
theorem tiles_B (h : ¬t.val % 16 = 0) (s : Out Ideal) (G : Good m c ((kk t).val + 1) s) : Tiles m c (kk t) (outB m c t h s) := by
  refine ⟨?_, ?_, ?_, ?_⟩ <;> (
    dsimp only [outB, laid, RB]
    frame_out
    simp only [word, blk_2, ld_c0, ld_c1, ld_c2, dn0_tile, dn1_tile, dn2_tile, dn2_tile', dn3_tile, dq2_tile, dq3_tile, blk_0, blk_3, blk_4, blk_5, blk_8, blk_10, blk_13, blk_14,
      ld_0, ld_1024, ld_2048, ld_5120, ld_6144, ld_7168, ld_q0, ld_q1, ld_q2, ld_q3, ld_p0, ld_p1, ld_p2, ld_p3, ld_k0, ld_k1, ld_k2, ld_k3, ld_v0, ld_v1, ld_v2, ld_v3,
      ld_w0, ld_w1, ld_w2, ld_w3, ld_b0, ld_b1, ld_b2, ld_b3, dmerged_tile, sa_tile, sp_tile, dga_tile, dgp_tile, dgx_tile, dya_tile, dyp_tile, dyx_tile, dpp_tile, da_tile, do_tile,
      cu_tile, dconv_tile])
  ·
    refine dproj_laid (kk t) _ _ _ _ _ _ _ _ _ _ (L := []) (dq0 _ _ _ _ _ _ _ (real_v136 H) (real_v224 H) (ne_v138 H)) (dq1 _ _ _ _ _ _ _ (real_v136 H) (real_v224 H) (ne_v138 H)) (dq2 _ _ _ _ _ _ _ (real_v136 H) (real_v224 H) (ne_v138 H)) (dq3 _ _ _ _ _ _ _ (real_v136 H) (real_v224 H) (ne_v138 H))
      ?_ ?_ ?_ ?_ (dua_out _ _ _ _ _ _ (over_conv (kk t) _ _ _ G.dconv 1 (by decide) _) (over_conv (kk t) _ _ _ G.dconv 2 (by decide) _)) (dca_out _ _ _ _ _ _ (over_conv (kk t) _ _ _ G.dconv 1 (by decide) _) (over_conv (kk t) _ _ _ G.dconv 2 (by decide) _)) (conv_out _ _ _ _ _ _ (tap1_tile _ _) (tap2_tile _ _)) rfl rfl rfl
    · exact du_at (kk t) _ _ _ _ _ 0 (du0_tile _ _ _ _ _ _ (real_dn0 H) _ (over_pool (kk t) _ G.dpn _ (by exact fun M hM => hM) 0 _ (dn_0 _ _ _ _ _) 0 rfl _ _))
    · exact du_at (kk t) _ _ _ _ _ 1 (du1_tile _ _ _ _ _ _ (real_dn1 H) _ (over_pool (kk t) _ G.dpn _ (by exact fun M hM => carried_cons (hM)) 1 _ (dn_1 _ _ _ _ _) 256 rfl _ _))
    · exact du_at (kk t) _ _ _ _ _ 2 (du2_tile _ _ _ _ _ _ (real_dn2 H) _ (over_pool (kk t) _ G.dpn _ (by exact fun M hM => carried_cons (carried_cons (hM))) 2 _ (dn_2 _ _ _ _ _) 512 rfl _ _))
    · exact du_at (kk t) _ _ _ _ _ 3 (du3_tile _ _ _ _ _ _ (real_dn3 H) _ (over_pool (kk t) _ G.dpn _ (by exact fun M hM => carried_cons (carried_cons (carried_cons (hM)))) 3 _ (dn_3 _ _ _ _ _) 768 rfl _ _))

include H in
set_option maxHeartbeats 2000000 in
theorem good_B (h : ¬t.val % 16 = 0) (s : Out Ideal) (G : Good m c ((kk t).val + 1) s) : Good m c (kk t).val (outB m c t h s) := by
  refine ⟨?_, ?_, fun i l => ?_, fun r l => ?_, ?_⟩ <;> (
    dsimp only [outB, laid, RB]
    frame_out
    simp only [word, blk_2, ld_c0, ld_c1, ld_c2, dn0_tile, dn1_tile, dn2_tile, dn2_tile', dn3_tile, dq2_tile, dq3_tile, blk_0, blk_3, blk_4, blk_5, blk_8, blk_10, blk_13, blk_14,
      ld_0, ld_1024, ld_2048, ld_5120, ld_6144, ld_7168, ld_q0, ld_q1, ld_q2, ld_q3, ld_p0, ld_p1, ld_p2, ld_p3, ld_k0, ld_k1, ld_k2, ld_k3, ld_v0, ld_v1, ld_v2, ld_v3,
      ld_w0, ld_w1, ld_w2, ld_w3, ld_b0, ld_b1, ld_b2, ld_b3, dmerged_tile, sa_tile, sp_tile, dga_tile, dgp_tile, dgx_tile, dya_tile, dyp_tile, dyx_tile, dpp_tile, da_tile, do_tile,
      cu_tile, dconv_tile])
  · refine (heads_laid (kk t) s.dk (val_main_v240 (F := Ideal) (A0 m c) (A1 m c) (A6 m c) (A7 m c) (A8 m c) (A9 m c)) (val_main_v5 (F := Ideal) (A1 m c)) (L := [])
      (dk3 _ _ _ _ _ _ _ (real_v136 H) (real_v224 H) (ne_v138 H) _) (dk2 _ _ _ _ _ _ _ (real_v136 H) (real_v224 H) (ne_v138 H) _)
      (dk1 _ _ _ _ _ _ _ (real_v136 H) (real_v224 H) (ne_v138 H) _) (dk0 _ _ _ _ _ _ _ (real_v136 H) (real_v224 H) (ne_v138 H) _)).trans ?_
    funext y
    rw [G.dk]; exact (tail_step _ (kk t)).symm
  · refine (heads_laid (kk t) s.dv (val_main_v140 (F := Ideal) (A1 m c) (A6 m c)) (val_main_v220 (F := Ideal) (A0 m c) (A1 m c) (A8 m c) (A9 m c)) (L := [])
      (dv3 _ _ _ _ _ _ _) (dv2 _ _ _ _ _ _ _) (dv1 _ _ _ _ _ _ _) (dv0 _ _ _ _ _ _ _)).trans ?_
    funext y
    rw [G.dv]; exact (tail_step _ (kk t)).symm
  · rw [read_over _ _ (fun x => by rw [Nat.zero_add]), Memref.IsWhole.read_unread]
    refine (stat_out (kk t) _ _ _ _ _ s.stat (tap1_tile _ _) (tap2_tile _ _) (View.canon_cons_unit_zero rfl _ _ _) i l).trans ?_
    rw [G.stat]
    exact (tail_step _ (kk t)).symm
  · exact conv_next (kk t) _ r l
  · rw [read_over _ _ (fun x => by rw [Nat.zero_add]), read_unread_whole]
    exact next_pool (kk t) (dn_0 _ _ _ _ _) (dn_1 _ _ _ _ _) (dn_2 _ _ _ _ _) (dn_3 _ _ _ _ _)

include H in
set_option maxHeartbeats 2000000 in
theorem tiles_A (h : t.val % 16 = 0) : Tiles m c (kk t) (outA m c t h) := by
  have hk : (kk t).val = 15 := by have := t.isLt; have : t.val < 16 := this; show 15 - t.val = 15; omega
  refine ⟨?_, ?_, ?_, ?_⟩ <;> (
    dsimp only [outA, laid, RA]
    frame_out
    simp only [word, blk_2, ld_c0, ld_c1, ld_c2, dn0_tile, dn1_tile, dn2_tile, dn2_tile', dn3_tile, dq2_tile, dq3_tile, blk_0, blk_3, blk_4, blk_5, blk_8, blk_10, blk_13, blk_14,
      ld_0, ld_1024, ld_2048, ld_5120, ld_6144, ld_7168, ld_q0, ld_q1, ld_q2, ld_q3, ld_p0, ld_p1, ld_p2, ld_p3, ld_k0, ld_k1, ld_k2, ld_k3, ld_v0, ld_v1, ld_v2, ld_v3,
      ld_w0, ld_w1, ld_w2, ld_w3, ld_b0, ld_b1, ld_b2, ld_b3, dmerged_tile, sa_tile, sp_tile, dga_tile, dgp_tile, dgx_tile, dya_tile, dyp_tile, dyx_tile, dpp_tile, da_tile, do_tile,
      cu_tile, dconv_tile]
    try simp (disch := decide) only [↓ View.readCov_skip, ↓ View.readCov_cons_toLoadRect, ↓ View.readCov_fill])
  ·
    refine dproj_laid (kk t) _ _ _ _ _ _ _ _ _ _ (L := []) (dq0 _ _ _ _ _ _ _ (real_v136 H) (real_v224 H) (ne_v138 H)) (dq1 _ _ _ _ _ _ _ (real_v136 H) (real_v224 H) (ne_v138 H)) (dq2 _ _ _ _ _ _ _ (real_v136 H) (real_v224 H) (ne_v138 H)) (dq3 _ _ _ _ _ _ _ (real_v136 H) (real_v224 H) (ne_v138 H))
      ?_ ?_ ?_ ?_ (dua_out _ _ _ _ _ _ (zero_conv (kk t) hk _ 1 (by decide) _) (zero_conv (kk t) hk _ 2 (by decide) _)) (dca_out _ _ _ _ _ _ (zero_conv (kk t) hk _ 1 (by decide) _) (zero_conv (kk t) hk _ 2 (by decide) _)) (conv_out _ _ _ _ _ _ (tap1_tile _ _) (tap2_tile _ _)) rfl rfl rfl
    · exact du_at (kk t) _ _ _ _ _ 0 (du0_tile _ _ _ _ _ _ (real_dn0 H) _ (zero_pool (kk t) _ (by exact carried_zero (kk t) _ hk) 0 _ (dn_0 _ _ _ _ _) 0 rfl _ _))
    · exact du_at (kk t) _ _ _ _ _ 1 (du1_tile _ _ _ _ _ _ (real_dn1 H) _ (zero_pool (kk t) _ (by exact carried_cons (carried_zero (kk t) _ hk)) 1 _ (dn_1 _ _ _ _ _) 256 rfl _ _))
    · exact du_at (kk t) _ _ _ _ _ 2 (du2_tile _ _ _ _ _ _ (real_dn2 H) _ (zero_pool (kk t) _ (by exact carried_cons (carried_cons (carried_zero (kk t) _ hk))) 2 _ (dn_2 _ _ _ _ _) 512 rfl _ _))
    · exact du_at (kk t) _ _ _ _ _ 3 (du3_tile _ _ _ _ _ _ (real_dn3 H) _ (zero_pool (kk t) _ (by exact carried_cons (carried_cons (carried_cons (carried_zero (kk t) _ hk)))) 3 _ (dn_3 _ _ _ _ _) 768 rfl _ _))

include H in
set_option maxHeartbeats 2000000 in
theorem good_A (h : t.val % 16 = 0) : Good m c (kk t).val (outA m c t h) := by
  have hk : (kk t).val = 15 := by have := t.isLt; have : t.val < 16 := this; show 15 - t.val = 15; omega
  refine ⟨?_, ?_, fun i l => ?_, fun r l => ?_, ?_⟩ <;> (
    dsimp only [outA, laid, RA]
    frame_out
    simp only [word, blk_2, ld_c0, ld_c1, ld_c2, dn0_tile, dn1_tile, dn2_tile, dn2_tile', dn3_tile, dq2_tile, dq3_tile, blk_0, blk_3, blk_4, blk_5, blk_8, blk_10, blk_13, blk_14,
      ld_0, ld_1024, ld_2048, ld_5120, ld_6144, ld_7168, ld_q0, ld_q1, ld_q2, ld_q3, ld_p0, ld_p1, ld_p2, ld_p3, ld_k0, ld_k1, ld_k2, ld_k3, ld_v0, ld_v1, ld_v2, ld_v3,
      ld_w0, ld_w1, ld_w2, ld_w3, ld_b0, ld_b1, ld_b2, ld_b3, dmerged_tile, sa_tile, sp_tile, dga_tile, dgp_tile, dgx_tile, dya_tile, dyp_tile, dyx_tile, dpp_tile, da_tile, do_tile,
      cu_tile, dconv_tile]
    try simp (disch := decide) only [↓ View.readCov_skip, ↓ View.readCov_cons_toLoadRect, ↓ View.readCov_fill])
  · refine (heads_laid (kk t) (k0_pay1 (F := Ideal)) (val_main_v240 (F := Ideal) (A0 m c) (A1 m c) (A6 m c) (A7 m c) (A8 m c) (A9 m c)) (val_main_v5 (F := Ideal) (A1 m c)) (L := [_])
      (dk3 _ _ _ _ _ _ _ (real_v136 H) (real_v224 H) (ne_v138 H) _) (dk2 _ _ _ _ _ _ _ (real_v136 H) (real_v224 H) (ne_v138 H) _)
      (dk1 _ _ _ _ _ _ _ (real_v136 H) (real_v224 H) (ne_v138 H) _) (dk0 _ _ _ _ _ _ _ (real_v136 H) (real_v224 H) (ne_v138 H) _)).trans ?_
    funext y
    rw [fill_1, zero_add]; rw [start _ (kk t) hk]
  · refine (heads_laid (kk t) (k0_pay2 (F := Ideal)) (val_main_v140 (F := Ideal) (A1 m c) (A6 m c)) (val_main_v220 (F := Ideal) (A0 m c) (A1 m c) (A8 m c) (A9 m c)) (L := [_])
      (dv3 _ _ _ _ _ _ _) (dv2 _ _ _ _ _ _ _) (dv1 _ _ _ _ _ _ _) (dv0 _ _ _ _ _ _ _)).trans ?_
    funext y
    rw [fill_2, zero_add]; rw [start _ (kk t) hk]
  · refine (stat_out (kk t) _ _ _ _ _ (k0_pay3 (F := Ideal)) (tap1_tile _ _) (tap2_tile _ _) fill_laid i l).trans ?_
    rw [fill_3, zero_add]
    rw [start _ (kk t) hk]
  · exact conv_next (kk t) _ r l
  · exact next_pool (kk t) (dn_0 _ _ _ _ _) (dn_1 _ _ _ _ _) (dn_2 _ _ _ _ _) (dn_3 _ _ _ _ _)

end Cert.MixKernelIdeal.Mix

end
-- ==== Proof.Mix.Values.lean ====
/- THE RESULTS OF THE MIXER'S BACKWARD CALL: each of the seven arrays the call leaves is the reference's. -/
module

public import proofs.«01_k».proof.Proof.Mix.Points

@[expose] public section

set_option maxRecDepth 16384

noncomputable section

namespace Cert.MixKernelIdeal.Mix

open Idealize.ShloMosaic Idealize.ShloMosaic.TcCoe Idealize.ShloMosaic.Tactic
open Cert.MixKernelIdeal.Gen
open Cert.MixReferenceIdeal.Read

section Reference

variable (a0 : Vec Ideal S4096x1024 .f32) (a1 : Vec Ideal S4096x8192 .f32) (a3 : Vec Ideal S1x1024x1024 .f32)
  (a4 : Vec Ideal S1x4x256x256 .f32) (a9 : Vec Ideal S1x1024x1024 .f32)

theorem sum_210 (l : Fin 1024) : val_main_v210 (F := Ideal) a0 a1 a4 a9 (ValueIdx.ix2 0 l) = ∑ n, val_main_v204 (F := Ideal) a0 a1 a4 a9 (ValueIdx.ix2 n l) := by
  unfold val_main_v210 val_main_v209 val_main_v206 val_main_v205 val_main_cst_34 val_main_cst_35
  generalize val_main_v204 (F := Ideal) a0 a1 a4 a9 = X
  pointwise
  exact Fin.sum_univ_one _

theorem sum_349 (i : Fin 3) (l : Fin 1024) : val_main_v349 (F := Ideal) a0 a1 a3 a9 (ValueIdx.ix2 i l)
    = ∑ n, (![val_main_v341 (F := Ideal) a0 a1 a3 a9, val_main_v330 (F := Ideal) a0 a1 a3 a9, val_main_v321 (F := Ideal) a0 a1 a3 a9] : Fin 3 → Vec Ideal S4096x1024 .f32) i (ValueIdx.ix2 n l) := by
  unfold val_main_v349 val_main_v338 val_main_v348 val_main_v327 val_main_v337 val_main_v347 val_main_v326 val_main_v336 val_main_v324 val_main_v333 val_main_v344
    val_main_v323 val_main_v332 val_main_v343 val_main_v322 val_main_v331 val_main_v342 val_main_cst_54 val_main_cst_55 val_main_cst_57 val_main_cst_58 val_main_cst_59 val_main_cst_61 val_main_cst_62 val_main_cst_63 val_main_cst_65
  generalize val_main_v341 (F := Ideal) a0 a1 a3 a9 = X
  generalize val_main_v330 (F := Ideal) a0 a1 a3 a9 = Y
  generalize val_main_v321 (F := Ideal) a0 a1 a3 a9 = Z
  match i with
  | 0 => pointwise; exact Fin.sum_univ_one _
  | 1 => pointwise; exact Fin.sum_univ_one _
  | 2 => pointwise; exact Fin.sum_univ_one _

theorem row_367 (i : Fin 3) (l : Fin 1024) : val_main_v367 (F := Ideal) a0 a1 a3 a9 (ValueIdx.ix2 i l) = val_main_v349 (F := Ideal) a0 a1 a3 a9 (ValueIdx.ix2 i l) := by
  unfold val_main_v367 val_main_v352
  generalize val_main_v349 (F := Ideal) a0 a1 a3 a9 = X
  pointwise

theorem stat_ref (i : Fin 8) (l : Fin 1024) : val_main_v368 (F := Ideal) a0 a1 a3 a4 a9 (ValueIdx.ix2 i l) = ∑ n, statf a0 a1 a3 a4 a9 i n l := by
  unfold val_main_v368
  have h1 := sum_210 a0 a1 a4 a9 l
  have h2 (i : Fin 3) : val_main_v367 (F := Ideal) a0 a1 a3 a9 (ValueIdx.ix2 i l) = _ := (row_367 a0 a1 a3 a9 i l).trans (sum_349 a0 a1 a3 a9 i l)
  have h3 (i : Fin 3) : val_main_v365 (F := Ideal) (ValueIdx.ix2 i l) = 0 := by unfold val_main_v365 val_main_cst_71; pointwise
  have h4 : val_main_v366 (F := Ideal) (ValueIdx.ix2 0 l) = 0 := (val_main_v366_apply _).trans (h3 0)
  unfold statf
  generalize val_main_v210 (F := Ideal) a0 a1 a4 a9 = X at *
  generalize val_main_v367 (F := Ideal) a0 a1 a3 a9 = Y at *
  generalize val_main_v365 (F := Ideal) = Z at *
  generalize val_main_v366 (F := Ideal) = W at *
  match i with
  | 0 => pointwise; exact (congrArg W ((ix2_inj _ _ _ _).mpr ⟨rfl, rfl⟩)).trans (h4.trans Finset.sum_const_zero.symm)
  | 1 => pointwise; exact (congrArg X ((ix2_inj _ _ _ _).mpr ⟨rfl, rfl⟩)).trans h1
  | 2 => pointwise; exact (congrArg Z ((ix2_inj _ _ _ _).mpr ⟨rfl, rfl⟩)).trans ((h3 0).trans Finset.sum_const_zero.symm)
  | 3 => pointwise; exact (congrArg Z ((ix2_inj _ _ _ _).mpr ⟨rfl, rfl⟩)).trans ((h3 1).trans Finset.sum_const_zero.symm)
  | 4 => pointwise; exact (congrArg Z ((ix2_inj _ _ _ _).mpr ⟨rfl, rfl⟩)).trans ((h3 2).trans Finset.sum_const_zero.symm)
  | 5 => pointwise; exact (congrArg Y ((ix2_inj _ _ _ _).mpr ⟨rfl, rfl⟩)).trans (h2 0)
  | 6 => pointwise; exact (congrArg Y ((ix2_inj _ _ _ _).mpr ⟨rfl, rfl⟩)).trans (h2 1)
  | 7 => pointwise; exact (congrArg Y ((ix2_inj _ _ _ _).mpr ⟨rfl, rfl⟩)).trans (h2 2)

theorem ext_stat (Y X : Vec Ideal S8x1024 .f32) (h : ∀ (i : Fin 8) (l : Fin 1024), Y (ValueIdx.ix2 i l) = X (ValueIdx.ix2 i l)) (j : S8x1024.Idx) : Y j = X j := by
  have e : j = ValueIdx.ix2 (j 0 : Fin 8) (j 1 : Fin 1024) := by funext a; match a with | 0 => rfl | 1 => rfl
  exact (congrArg Y e).trans ((h (j 0) (j 1)).trans (congrArg X e.symm))

theorem col_hd (l : Fin 1024) : hcol (hd l) ⟨l.val % 256, Nat.mod_lt _ (by decide)⟩ = l := hcol_eq _ _ _ (by show l.val = l.val / 256 * 256 + l.val % 256; omega)

theorem at_256 (j : S256x1024.Idx) : ValueIdx.ix2 (j 0 : Fin 256) (j 1 : Fin 1024) = j := by funext a; match a with | 0 => rfl | 1 => rfl

variable (a6 a7 : Vec Ideal S256x1024 .f32) (a8 : Vec Ideal S1x1024x1024 .f32)

theorem dk_at (i : Fin 256) (l : Fin 1024) : val_main_v246 (F := Ideal) a0 a1 a6 a7 a8 a9 (ValueIdx.ix2 i l) = ∑ t : Fin 4096, val_main_v240 (F := Ideal) a0 a1 a6 a7 a8 a9 (ix3 (hd l) t i) * val_main_v5 (F := Ideal) a1 (ValueIdx.ix2 t l) := by
  have h := dk_ref (hd l) a0 a1 a6 a7 a8 a9 i ⟨l.val % 256, Nat.mod_lt _ (by decide)⟩
  rwa [col_hd] at h

theorem dv_at (i : Fin 256) (l : Fin 1024) : val_main_v245 (F := Ideal) a0 a1 a6 a8 a9 (ValueIdx.ix2 i l) = ∑ t : Fin 4096, val_main_v140 (F := Ideal) a1 a6 (ix3 (hd l) t i) * val_main_v220 (F := Ideal) a0 a1 a8 a9 (ValueIdx.ix2 t l) := by
  have h := dv_ref (hd l) a0 a1 a6 a8 a9 i ⟨l.val % 256, Nat.mod_lt _ (by decide)⟩
  rwa [col_hd] at h

end Reference

variable (m : (ℓ : Loc nD τ sig) → Buf (Elt Ideal) ℓ) (ρ : Dev nD → PrngReg) (c : Dev nD)
  (H : Finite (A0 m c) (A1 m c) (A4 m c) (A5 m c) (A6 m c) (A7 m c) (A8 m c) (A9 m c))

include H

theorem good : ∀ (n : Nat) (hn : n < cfg0.N), Good m c (15 - n) (outs m c n hn)
  | 0, hn => good_A m c H ⟨0, hn⟩ (Nat.zero_mod _)
  | n + 1, hn => by
    have hN : n + 1 < 16 := hn
    have h : ¬(n + 1) % 16 = 0 := by omega
    have g := good n (Nat.lt_of_succ_lt hn)
    rw [show 15 - n = 15 - (n + 1) + 1 by omega] at g
    rw [outs_B m c ⟨n + 1, hn⟩ h]
    exact good_B m c H ⟨n + 1, hn⟩ h _ g

theorem tiles (t : Fin cfg0.N) : Tiles m c (kk t) (outs m c t.val t.isLt) := by
  have hN : t.val < 16 := t.isLt
  by_cases h : t.val % 16 = 0
  · rw [outs_A m c t h]
    exact tiles_A m c H t h
  · rw [outs_B m c t h]
    have g := good m c H (t.val - 1) (Nat.lt_of_le_of_lt (Nat.sub_le _ _) t.isLt)
    rw [show 15 - (t.val - 1) = (kk t).val + 1 by rw [kk_val]; omega] at g
    exact tiles_B m c H t h _ g

omit H in
theorem idx_out : ∀ t : Fin cfg0.N, (cfg0.win 16).index t = ![15 - t.val, 0] ∧ (cfg0.win 17).index t = ![15 - t.val, 0] ∧
    (cfg0.win 18).index t = ![15 - t.val, 0] ∧ (cfg0.win 19).index t = ![15 - t.val, 0] := by decide +kernel

theorem arr_16 : (dats m 0 c).arrAt 16 cfg0.N = val_main_v364 (F := Ideal) (A0 m c) (A1 m c) (A2 m c) (A3 m c) (A4 m c) (A5 m c) (A6 m c) (A7 m c) (A8 m c) (A9 m c) := by
  refine (dats m 0 c).arrAt_eq_of_covers 16 _ (by decide +kernel) fun t hf y => ?_
  have e := (idx_out t).1
  rw [after_16, (tiles m c H t).dproj]
  generalize val_main_v364 (F := Ideal) (A0 m c) (A1 m c) (A2 m c) (A3 m c) (A4 m c) (A5 m c) (A6 m c) (A7 m c) (A8 m c) (A9 m c) = X
  blk_simp
  show X _ = X _
  blk_ext [e, kk]

theorem arr_17 : (dats m 0 c).arrAt 17 cfg0.N = val_main_v212 (F := Ideal) (A0 m c) (A1 m c) (A9 m c) := by
  refine (dats m 0 c).arrAt_eq_of_covers 17 _ (by decide +kernel) fun t hf y => ?_
  have e := (idx_out t).2.1
  rw [after_17, (tiles m c H t).dya]
  generalize val_main_v212 (F := Ideal) (A0 m c) (A1 m c) (A9 m c) = X
  blk_simp
  show X _ = X _
  blk_ext [e, kk]

theorem arr_18 : (dats m 0 c).arrAt 18 cfg0.N = val_main_v208 (F := Ideal) (A0 m c) (A1 m c) (A5 m c) (A9 m c) := by
  refine (dats m 0 c).arrAt_eq_of_covers 18 _ (by decide +kernel) fun t hf y => ?_
  have e := (idx_out t).2.2.1
  rw [after_18, (tiles m c H t).dpp]
  generalize val_main_v208 (F := Ideal) (A0 m c) (A1 m c) (A5 m c) (A9 m c) = X
  blk_simp
  show X _ = X _
  blk_ext [e, kk]

theorem arr_19 : (dats m 0 c).arrAt 19 cfg0.N = val_main_v199 (F := Ideal) (A0 m c) (A1 m c) (A9 m c) := by
  refine (dats m 0 c).arrAt_eq_of_covers 19 _ (by decide +kernel) fun t hf y => ?_
  have e := (idx_out t).2.2.2
  rw [after_19, (tiles m c H t).dyx]
  generalize val_main_v199 (F := Ideal) (A0 m c) (A1 m c) (A9 m c) = X
  blk_simp
  show X _ = X _
  blk_ext [e, kk]

theorem arr_20 : (dats m 0 c).arrAt 20 cfg0.N = val_main_v246 (F := Ideal) (A0 m c) (A1 m c) (A6 m c) (A7 m c) (A8 m c) (A9 m c) := by
  refine (dats m 0 c).arrAt_eq_of_after_last 20 ⟨15, by decide⟩ (by decide +kernel) _ fun (j : S256x1024.Idx) => ?_
  rw [after_20, (good m c H 15 (by decide)).dk]
  blk_simp
  refine (tail_all _).trans ?_
  have h := dk_at (A0 m c) (A1 m c) (A9 m c) (A6 m c) (A7 m c) (A8 m c)
  generalize val_main_v240 (F := Ideal) (A0 m c) (A1 m c) (A6 m c) (A7 m c) (A8 m c) (A9 m c) = X at *
  generalize val_main_v5 (F := Ideal) (A1 m c) = Y at *
  generalize val_main_v246 (F := Ideal) (A0 m c) (A1 m c) (A6 m c) (A7 m c) (A8 m c) (A9 m c) = Z at *
  exact (h (j 0) (j 1)).symm.trans (congrArg Z (at_256 j))

theorem arr_21 : (dats m 0 c).arrAt 21 cfg0.N = val_main_v245 (F := Ideal) (A0 m c) (A1 m c) (A6 m c) (A8 m c) (A9 m c) := by
  refine (dats m 0 c).arrAt_eq_of_after_last 21 ⟨15, by decide⟩ (by decide +kernel) _ fun (j : S256x1024.Idx) => ?_
  rw [after_21, (good m c H 15 (by decide)).dv]
  blk_simp
  refine (tail_all _).trans ?_
  have h := dv_at (A0 m c) (A1 m c) (A9 m c) (A6 m c) (A8 m c)
  generalize val_main_v140 (F := Ideal) (A1 m c) (A6 m c) = X at *
  generalize val_main_v220 (F := Ideal) (A0 m c) (A1 m c) (A8 m c) (A9 m c) = Y at *
  generalize val_main_v245 (F := Ideal) (A0 m c) (A1 m c) (A6 m c) (A8 m c) (A9 m c) = Z at *
  exact (h (j 0) (j 1)).symm.trans (congrArg Z (at_256 j))

theorem arr_22 : (dats m 0 c).arrAt 22 cfg0.N = val_main_v368 (F := Ideal) (A0 m c) (A1 m c) (A3 m c) (A4 m c) (A9 m c) := by
  refine (dats m 0 c).arrAt_eq_of_after_last 22 ⟨15, by decide⟩ (by decide +kernel) _ fun (j : S8x1024.Idx) => ?_
  rw [after_22]
  blk_simp
  have h (i : Fin 8) (l : Fin 1024) := ((good m c H 15 (by decide)).stat i l).trans ((tail_all _).trans (stat_ref (A0 m c) (A1 m c) (A3 m c) (A4 m c) (A9 m c) i l).symm)
  exact ext_stat _ _ h j

omit H

theorem post_16 {r : PUnit × MemSt nD τ sig (Elt Ideal)} (h : Pipeline.FramePost cfgs (dats m) 0 (V m) r) :
    r.2.mem ((c.tc : Thread nD τ).loc main_v181_0) = (dats m 0 c).arrAt 16 cfg0.N := (h c).1 16

theorem post_17 {r : PUnit × MemSt nD τ sig (Elt Ideal)} (h : Pipeline.FramePost cfgs (dats m) 0 (V m) r) :
    r.2.mem ((c.tc : Thread nD τ).loc main_v181_1) = (dats m 0 c).arrAt 17 cfg0.N := (h c).1 17

theorem post_18 {r : PUnit × MemSt nD τ sig (Elt Ideal)} (h : Pipeline.FramePost cfgs (dats m) 0 (V m) r) :
    r.2.mem ((c.tc : Thread nD τ).loc main_v181_2) = (dats m 0 c).arrAt 18 cfg0.N := (h c).1 18

theorem post_19 {r : PUnit × MemSt nD τ sig (Elt Ideal)} (h : Pipeline.FramePost cfgs (dats m) 0 (V m) r) :
    r.2.mem ((c.tc : Thread nD τ).loc main_v181_3) = (dats m 0 c).arrAt 19 cfg0.N := (h c).1 19

theorem post_20 {r : PUnit × MemSt nD τ sig (Elt Ideal)} (h : Pipeline.FramePost cfgs (dats m) 0 (V m) r) :
    r.2.mem ((c.tc : Thread nD τ).loc main_v181_4) = (dats m 0 c).arrAt 20 cfg0.N := (h c).1 20

theorem post_21 {r : PUnit × MemSt nD τ sig (Elt Ideal)} (h : Pipeline.FramePost cfgs (dats m) 0 (V m) r) :
    r.2.mem ((c.tc : Thread nD τ).loc main_v181_5) = (dats m 0 c).arrAt 21 cfg0.N := (h c).1 21

theorem post_22 {r : PUnit × MemSt nD τ sig (Elt Ideal)} (h : Pipeline.FramePost cfgs (dats m) 0 (V m) r) :
    r.2.mem ((c.tc : Thread nD τ).loc main_v181_6) = (dats m 0 c).arrAt 22 cfg0.N := (h c).1 22

/-- The run: every result is the reference's, every argument is kept. -/
theorem run (HA : ∀ c, Finite (A0 m c) (A1 m c) (A4 m c) (A5 m c) (A6 m c) (A7 m c) (A8 m c) (A9 m c)) :
    θ_run defs (onTc (τ := τ) (main (F := Ideal))) ⟨m, fun _ => 0, ρ⟩ (fun r => ∀ c : Dev nD,
      r.2.mem ((c.tc : Thread nD τ).loc main_v181_0) = val_main_v364 (F := Ideal) (A0 m c) (A1 m c) (A2 m c) (A3 m c) (A4 m c) (A5 m c) (A6 m c) (A7 m c) (A8 m c) (A9 m c)
      ∧ r.2.mem ((c.tc : Thread nD τ).loc main_v181_1) = val_main_v212 (F := Ideal) (A0 m c) (A1 m c) (A9 m c)
      ∧ r.2.mem ((c.tc : Thread nD τ).loc main_v181_2) = val_main_v208 (F := Ideal) (A0 m c) (A1 m c) (A5 m c) (A9 m c)
      ∧ r.2.mem ((c.tc : Thread nD τ).loc main_v181_3) = val_main_v199 (F := Ideal) (A0 m c) (A1 m c) (A9 m c)
      ∧ r.2.mem ((c.tc : Thread nD τ).loc main_v181_4) = val_main_v246 (F := Ideal) (A0 m c) (A1 m c) (A6 m c) (A7 m c) (A8 m c) (A9 m c)
      ∧ r.2.mem ((c.tc : Thread nD τ).loc main_v181_5) = val_main_v245 (F := Ideal) (A0 m c) (A1 m c) (A6 m c) (A8 m c) (A9 m c)
      ∧ r.2.mem ((c.tc : Thread nD τ).loc main_v181_6) = val_main_v368 (F := Ideal) (A0 m c) (A1 m c) (A3 m c) (A4 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (θ_run_and (run_main m ρ) (frame_of m ρ (dats m) (A_eq m) (run_main m ρ)))
  exact ⟨(post_16 m c h.1).trans (arr_16 m c (HA c)), (post_17 m c h.1).trans (arr_17 m c (HA c)), (post_18 m c h.1).trans (arr_18 m c (HA c)), (post_19 m c h.1).trans (arr_19 m c (HA c)),
    (post_20 m c h.1).trans (arr_20 m c (HA c)), (post_21 m c h.1).trans (arr_21 m c (HA c)), (post_22 m c h.1).trans (arr_22 m c (HA c)), h.2 c⟩

end Cert.MixKernelIdeal.Mix

end
-- ==== Proof.Mix.Claim.lean ====
/- THE VALUE CLAIM of the mixer's backward call. -/
module

public import proofs.«01_k».proof.Defs
public import proofs.«01_k».proof.Proof.Mix.Values
public import proofs.«01_k».proof.Proof.Gen.MixReferenceIdeal
public import proofs.«01_k».proof.Proof.Gen.Pre_finite_mix
public import Idealize.ShloMosaic.Lib.Quiescent

@[expose] public section

noncomputable section

namespace Cert.Proof

open Idealize.ShloMosaic Idealize.ShloMosaic.TcCoe Idealize.SL.Sem

open Cert.MixReferenceIdeal.Read in
/-- The reference's last roundings are exact. -/
theorem cast_369 (a0 : Vec Ideal Cert.MixReferenceIdeal.S4096x1024 .f32) (a1 : Vec Ideal Cert.MixReferenceIdeal.S4096x8192 .f32) (a2 : Vec Ideal Cert.MixReferenceIdeal.S1x3x1024 .f32)
    (a3 : Vec Ideal Cert.MixReferenceIdeal.S1x1024x1024 .f32) (a4 : Vec Ideal Cert.MixReferenceIdeal.S1x4x256x256 .f32) (a5 : Vec Ideal Cert.MixReferenceIdeal.S1x1024 .f32)
    (a6 a7 : Vec Ideal Cert.MixReferenceIdeal.S256x1024 .f32) (a8 a9 : Vec Ideal Cert.MixReferenceIdeal.S1x1024x1024 .f32) :
    val_main_v369 (F := Ideal) a0 a1 a2 a3 a4 a5 a6 a7 a8 a9 = val_main_v364 (F := Ideal) a0 a1 a2 a3 a4 a5 a6 a7 a8 a9
    ∧ val_main_v370 (F := Ideal) a0 a1 a9 = val_main_v212 (F := Ideal) a0 a1 a9 ∧ val_main_v371 (F := Ideal) a0 a1 a5 a9 = val_main_v208 (F := Ideal) a0 a1 a5 a9
    ∧ val_main_v372 (F := Ideal) a0 a1 a9 = val_main_v199 (F := Ideal) a0 a1 a9 := by
  unfold val_main_v369 val_main_v370 val_main_v371 val_main_v372
  exact ⟨rfl, rfl, rfl, rfl⟩

open Cert.MixKernelIdeal Cert.MixReferenceIdeal.Read in
theorem algebraic_mix : Cert.algebraic_MixKernelIdeal_MixReferenceIdeal_pre_finite_mix
    (hMixKernelIdeal := Cert.MixKernelIdeal.Gen.facts) (hMixReferenceIdeal := Cert.MixReferenceIdeal.Gen.facts) (hPre_finite_mix := Cert.Pre_finite_mix.Gen.facts) := by
  intro m g m' g' hp hagree
  haveI := Cert.Pre_finite_mix.Gen.facts
  refine ⟨_, _, _, _, _, _, _, Mix.run m g fun c => Mix.finite_of_pre _ _ _ _ _ _ _ _ _ _ (fun i => i.elim0) (congrFun (hp c) _), ?_⟩
  refine (θ_run _ _ _).mono (fun r h c => ?_) (Cert.MixReferenceIdeal.Value.run m' g')
  obtain ⟨h0, h1, h2, h3, h4, h5, h6, ha⟩ := h c
  obtain ⟨a0, a1, a2, a3, a4, a5, a6, a7, a8, a9⟩ := hagree c
  have e0 : StableHlo.launchContents m' c (Proc.tc.devRef Cert.MixReferenceIdeal.main_arg0) = Mix.A0 m c := a0
  have e1 : StableHlo.launchContents m' c (Proc.tc.devRef Cert.MixReferenceIdeal.main_arg1) = Mix.A1 m c := a1
  have e2 : StableHlo.launchContents m' c (Proc.tc.devRef Cert.MixReferenceIdeal.main_arg2) = Mix.A2 m c := a2
  have e3 : StableHlo.launchContents m' c (Proc.tc.devRef Cert.MixReferenceIdeal.main_arg3) = Mix.A3 m c := a3
  have e4 : StableHlo.launchContents m' c (Proc.tc.devRef Cert.MixReferenceIdeal.main_arg4) = Mix.A4 m c := a4
  have e5 : StableHlo.launchContents m' c (Proc.tc.devRef Cert.MixReferenceIdeal.main_arg5) = Mix.A5 m c := a5
  have e6 : StableHlo.launchContents m' c (Proc.tc.devRef Cert.MixReferenceIdeal.main_arg6) = Mix.A6 m c := a6
  have e7 : StableHlo.launchContents m' c (Proc.tc.devRef Cert.MixReferenceIdeal.main_arg7) = Mix.A7 m c := a7
  have e8 : StableHlo.launchContents m' c (Proc.tc.devRef Cert.MixReferenceIdeal.main_arg8) = Mix.A8 m c := a8
  have e9 : StableHlo.launchContents m' c (Proc.tc.devRef Cert.MixReferenceIdeal.main_arg9) = Mix.A9 m c := a9
  refine ⟨h0.trans ((val_main_v369_eq _).trans ?_), h1.trans ((val_main_v370_eq _).trans ?_), h2.trans ((val_main_v371_eq _).trans ?_),
    h3.trans ((val_main_v372_eq _).trans ?_), h4.trans ((val_main_v246_eq _).trans ?_), h5.trans ((val_main_v245_eq _).trans ?_), h6.trans ((val_main_v368_eq _).trans ?_), ha⟩
  · rw [e0, e1, e2, e3, e4, e5, e6, e7, e8, e9]; exact (cast_369 ..).1
  · rw [e0, e1, e9]; rfl
  · rw [e0, e1, e5, e9]; rfl
  · rw [e0, e1, e9]; rfl
  · rw [e0, e1, e6, e7, e8, e9]
  · rw [e0, e1, e6, e8, e9]
  · rw [e0, e1, e3, e4, e9]

/-- The reference has host operations only: its frame is its run's, and it has no counter. -/
theorem quiescent_mix_reference : Cert.quiescent_MixReferenceIdeal (hMixReferenceIdeal := Cert.MixReferenceIdeal.Gen.facts) := fun m g _ =>
  (θ_run _ _ _).mono (fun _ h => ⟨fun c => (h c).2.2.2.2.2.2.2, sem_eq_zero_of_no_sems rfl _⟩) (Cert.MixReferenceIdeal.Value.run m g)

end Cert.Proof
-- ==== Proof.Mix.Same.lean ====
/- The kernel's frame from the idealized program's run: idealizing rewrote nothing. -/
module
public import proofs.«01_k».proof.Defs
public import proofs.«01_k».proof.Proof.Mix.Frame
public import proofs.«01_k».proof.Proof.Gen.MixKernel
@[expose] public section
open Idealize.ShloMosaic Idealize.ShloMosaic.TcCoe
namespace Cert.MixKernelIdeal.Mix
/-- The frame of the kernel at bits. -/
def FrameBits : Prop := ∀ (m : (ℓ : Loc Cert.MixKernel.nD Cert.MixKernel.τ Cert.MixKernel.sig) → Buf (Elt Bits) ℓ) (g : Dev Cert.MixKernel.nD → PrngReg),
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9))
      ∧ r.2.sem = fun _ => 0)
/-- The same of the idealized program, at bits too. -/
def FrameIdealBits : Prop := ∀ (m : (ℓ : Loc Cert.MixKernelIdeal.nD Cert.MixKernelIdeal.τ Cert.MixKernelIdeal.sig) → Buf (Elt Bits) ℓ) (g : Dev Cert.MixKernelIdeal.nD → PrngReg),
    θ_run (Cert.MixKernelIdeal.defs (F := Bits)) (onTc (τ := Cert.MixKernelIdeal.τ) (Cert.MixKernelIdeal.main (F := Bits))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)
/-- No rule rewrites the program: the two statements are one. -/
theorem frame_same : FrameBits = FrameIdealBits := by sl_kernel_rfl

theorem frame_kernel : Cert.quiescent_MixKernel :=
  fun m g _ => (frame_same.mpr (fun m g => frame_run (F := Bits) m g) : FrameBits) m g
end Cert.MixKernelIdeal.Mix
-- ==== Proof.MixFwd.Blocks.lean ====
/- WHAT THE FORWARD CALL FINDS in its argument buffers, and in each input block. -/
module

public import proofs.«01_k».proof.Proof.Gen.MixFwdKernelIdeal.Frame
public import proofs.«01_k».proof.Proof.Gen.MixFwdReferenceIdeal.Read
public import proofs.«01_k».proof.Proof.Mix.Reads
public import Idealize.ShloMosaic.Lib.StableHlo.RunRead
public import Idealize.ShloMosaic.Lib.Pointwise
public import Idealize.ShloMosaic.Lib.Pipeline.ValueKit

@[expose] public section

set_option maxRecDepth 16384

noncomputable section

namespace Cert.MixFwdKernelIdeal.Fwd

open Idealize.ShloMosaic Idealize.ShloMosaic.TcCoe Idealize.ShloMosaic.Tactic
open Idealize.SL Idealize.SL.Sem
open Cert.MixFwdKernelIdeal.Gen
open Cert.MixFwdReferenceIdeal.Read
open Cert.MixKernelIdeal.Mix (row tile hcol htile hblk slab)

section
variable (m : (ℓ : Loc nD τ sig) → Buf (Elt Ideal) ℓ) (c : Dev nD)

abbrev A0 : Vec Ideal S4096x8192 .f32 := m ((c : Thread nD τ).loc main_arg0)
abbrev A1 : Vec Ideal S4096x1024 .f32 := m ((c : Thread nD τ).loc main_arg1)
abbrev A2 : Vec Ideal S1x3x1024 .f32 := m ((c : Thread nD τ).loc main_arg2)
abbrev A3 : Vec Ideal S1x1024x1024 .f32 := m ((c : Thread nD τ).loc main_arg3)
abbrev A4 : Vec Ideal S1x4x256x256 .f32 := m ((c : Thread nD τ).loc main_arg4)
abbrev A5 : Vec Ideal S1x1024 .f32 := m ((c : Thread nD τ).loc main_arg5)
abbrev A6 : Vec Ideal S256x1024 .f32 := m ((c : Thread nD τ).loc main_arg6)
abbrev A7 : Vec Ideal S256x1024 .f32 := m ((c : Thread nD τ).loc main_arg7)
abbrev A8 : Vec Ideal S1x1024x1024 .f32 := m ((c : Thread nD τ).loc main_arg8)
abbrev A9 : Vec Ideal S1x1024x1024 .f32 := m ((c : Thread nD τ).loc main_arg9)

theorem V_proj : V m c main_v3 = A0 m c := by after_reads_simp; rfl
theorem V_wco : V m c main_v5 = val_main_v126 (F := Ideal) (A3 m c) := by after_reads_simp; rfl
theorem V_wpool : V m c main_v7 = val_main_v100 (F := Ideal) (A4 m c) := by after_reads_simp; rfl
theorem V_k : V m c main_v8 = A6 m c := by after_reads_simp; rfl
theorem V_v : V m c main_v9 = A7 m c := by after_reads_simp; rfl
theorem V_wxo : V m c main_v11 = val_main_v128 (F := Ideal) (A8 m c) := by after_reads_simp; rfl
theorem V_wout : V m c main_v13 = val_main_v161 (F := Ideal) (A9 m c) := by after_reads_simp; rfl

theorem V_conv : V m c main_v2 = Cert.MixKernelIdeal.Mix.conv8 (A2 m c) := by
  after_reads_simp
  funext j
  pointwise
  after_reads_simp
  unfold Cert.MixKernelIdeal.Mix.conv8
  by_cases h : (j 0).val < 3
  · rw [dif_pos h, dif_pos h]
    pointwise
    rfl
  · rw [dif_neg h, dif_neg h]
    exact Ideal.ofBits_zero_f32

/-- The tile a point works on. -/
def kk (t : Fin cfg0.N) : Fin 16 := ⟨t.val, t.isLt⟩

theorem idx_tile : ∀ t : Fin cfg0.N, (cfg0.win 0).index t = ![t.val, 0] ∧ (cfg0.win 1).index t = ![t.val, 0] := by decide +kernel
theorem idx_whole : ∀ t : Fin cfg0.N, (cfg0.win 2).index t = ![0, 0] ∧ (cfg0.win 3).index t = ![0, 0] ∧ (cfg0.win 4).index t = ![0, 0, 0] ∧ (cfg0.win 5).index t = ![0, 0] ∧
    (cfg0.win 6).index t = ![0, 0] ∧ (cfg0.win 7).index t = ![0, 0] ∧ (cfg0.win 8).index t = ![0, 0] ∧ (cfg0.win 9).index t = ![0, 0] := by decide +kernel

variable (t : Fin cfg0.N)

theorem word : ∀ t : Fin cfg0.N, BitVec.ofNat 32 (grid0.coords t 0).val = BitVec.ofNat 32 (kk t).val := by decide +kernel

theorem read_0 (X : Vec Ideal S4096x8192 .f32) : ((cfg0.win 0).blk t).view.read (Elt Ideal) X = tile (kk t) X := by
  funext j
  have e := (idx_tile t).1
  show X _ = X _
  blk_ext [e, kk]
theorem blk_0 : iblk m c 0 t = tile (kk t) (A0 m c) :=
  (read_0 t _).trans (congrArg (tile (kk t)) (V_proj m c))

theorem read_1 (X : Vec Ideal S4096x1024 .f32) : ((cfg0.win 1).blk t).view.read (Elt Ideal) X = tile (kk t) X := by
  funext j
  have e := (idx_tile t).2
  show X _ = X _
  blk_ext [e, kk]
theorem blk_1 : iblk m c 1 t = tile (kk t) (A1 m c) :=
  (read_1 t _).trans rfl

theorem read_2 (X : Vec Ideal S8x1024 .f32) : ((cfg0.win 2).blk t).view.read (Elt Ideal) X = X := by
  funext j
  have e := (idx_whole t).1
  show X _ = X _
  blk_ext [e]
theorem blk_2 : iblk m c 2 t = Cert.MixKernelIdeal.Mix.conv8 (A2 m c) :=
  (read_2 t _).trans (V_conv m c)

theorem read_3 (X : Vec Ideal S1024x1024 .f32) : ((cfg0.win 3).blk t).view.read (Elt Ideal) X = X := by
  funext j
  have e := (idx_whole t).2.1
  show X _ = X _
  blk_ext [e]
theorem blk_3 : iblk m c 3 t = val_main_v126 (F := Ideal) (A3 m c) :=
  (read_3 t _).trans (V_wco m c)

theorem read_4 (X : Vec Ideal S4x256x256 .f32) : ((cfg0.win 4).blk t).view.read (Elt Ideal) X = X := by
  funext j
  have e := (idx_whole t).2.2.1
  show X _ = X _
  blk_ext [e]
theorem blk_4 : iblk m c 4 t = val_main_v100 (F := Ideal) (A4 m c) :=
  (read_4 t _).trans (V_wpool m c)

theorem read_5 (X : Vec Ideal S1x1024 .f32) : ((cfg0.win 5).blk t).view.read (Elt Ideal) X = X := by
  funext j
  have e := (idx_whole t).2.2.2.1
  show X _ = X _
  blk_ext [e]
theorem blk_5 : iblk m c 5 t = A5 m c :=
  (read_5 t _).trans rfl

theorem read_6 (X : Vec Ideal S256x1024 .f32) : ((cfg0.win 6).blk t).view.read (Elt Ideal) X = X := by
  funext j
  have e := (idx_whole t).2.2.2.2.1
  show X _ = X _
  blk_ext [e]
theorem blk_6 : iblk m c 6 t = A6 m c :=
  (read_6 t _).trans (V_k m c)

theorem read_7 (X : Vec Ideal S256x1024 .f32) : ((cfg0.win 7).blk t).view.read (Elt Ideal) X = X := by
  funext j
  have e := (idx_whole t).2.2.2.2.2.1
  show X _ = X _
  blk_ext [e]
theorem blk_7 : iblk m c 7 t = A7 m c :=
  (read_7 t _).trans (V_v m c)

theorem read_8 (X : Vec Ideal S1024x1024 .f32) : ((cfg0.win 8).blk t).view.read (Elt Ideal) X = X := by
  funext j
  have e := (idx_whole t).2.2.2.2.2.2.1
  show X _ = X _
  blk_ext [e]
theorem blk_8 : iblk m c 8 t = val_main_v128 (F := Ideal) (A8 m c) :=
  (read_8 t _).trans (V_wxo m c)

theorem read_9 (X : Vec Ideal S1024x1024 .f32) : ((cfg0.win 9).blk t).view.read (Elt Ideal) X = X := by
  funext j
  have e := (idx_whole t).2.2.2.2.2.2.2
  show X _ = X _
  blk_ext [e]
theorem blk_9 : iblk m c 9 t = val_main_v161 (F := Ideal) (A9 m c) :=
  (read_9 t _).trans (V_wout m c)

end

end Cert.MixFwdKernelIdeal.Fwd

end
-- ==== Proof.MixFwd.Pool.lean ====
/- THE FORWARD CALL'S POOLS: a window added up row by row, against a difference of running sums. -/
module

public import proofs.«01_k».proof.Proof.MixFwd.Blocks
public import proofs.«01_k».proof.Proof.Mix.Reads
public import proofs.«01_k».proof.Proof.Mix.Pool

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext)
open Cert.Reals

open Cert.MixKernelIdeal.Mix (reduceWindow_sum winEquiv cnt cnt_word recip)

/-- The sum over the last `w` rows, zero before the first. -/
def win (u : ℕ → EReal) (w t : ℕ) : EReal := ∑ n ∈ Finset.range w, if n ≤ t then u (t - n) else 0

theorem win_all (u : ℕ → EReal) (w t : ℕ) (h : t < w) : win u w t = ∑ n ∈ Finset.range (t + 1), u n := by
  rw [← Finset.sum_range_reflect u (t + 1)]
  unfold win
  rw [← Finset.sum_subset (s₁ := Finset.range (t + 1)) (s₂ := Finset.range w)]
  · refine Finset.sum_congr rfl fun n hn => ?_
    have := Finset.mem_range.mp hn
    rw [if_pos (by omega)]
    exact congrArg u (by omega)
  · intro n hn; rw [Finset.mem_range] at *; omega
  · intro n _ hn
    rw [Finset.mem_range] at hn
    exact if_neg (by omega)

/-- A window's sum is a difference of two running sums. -/
theorem win_sub (u : ℕ → EReal) (hu : ∀ n, IsReal (u n)) (w t : ℕ) :
    ∑ n ∈ Finset.range (t + 1), u n - (if w ≤ t then ∑ n ∈ Finset.range (t - w + 1), u n else 0) = win u w t := by
  by_cases h : w ≤ t
  · have e : t - w + 1 = t + 1 - w := by omega
    rw [if_pos h, e, sum_prefix_sub u w t hu h]
    unfold win
    rw [← Finset.sum_range_reflect _ w]
    refine Finset.sum_congr rfl fun n hn => ?_
    have := Finset.mem_range.mp hn
    rw [if_pos (by omega)]
    exact congrArg u (by omega)
  · rw [if_neg h, sub_zero, win_all u w t (by omega)]

variable (k : Fin 16) (a0 : Vec Ideal S4096x8192 .f32) (a4 : Vec Ideal S1x4x256x256 .f32)

/-- The sum from the first row. -/
theorem running_sum (x : FVec Ideal ⟨3, ![4096, 4, 256]⟩ .f32) (init : FVec Ideal ⟨0, ![]⟩ .f32)
    (h : Shape.ReduceWindows ⟨3, ![4096, 4, 256]⟩ ![4096, 1, 1] ![1, 1, 1] ![4095, 0, 0] ![0, 0, 0] ⟨3, ![4096, 4, 256]⟩)
    (hu : 0 < (⟨0, ![]⟩ : Shape).numel) (h0 : init (Shape.Idx.first hu) = 0) (u : ℕ → EReal) (t : Fin 4096) (g : Fin 4) (l : Fin 256)
    (hx : ∀ s : Fin 4096, u s = x (ValueIdx.ix3 s g l)) :
    Host.reduceWindowAdd (F := Ideal) ![4096, 1, 1] ![1, 1, 1] ![4095, 0, 0] ![0, 0, 0] x init h hu (ValueIdx.ix3 t g l) = ∑ n ∈ Finset.range (t.val + 1), u n := by
  unfold Host.reduceWindowAdd
  rw [Ideal.hostReduceWindowAdd_def, h0]
  unfold Ideal.hostReduceWindowAdd
  rw [reduceWindow_sum, zero_add, ← win_all u 4096 t t.isLt]
  unfold win
  rw [← Finset.sum_range_reflect _ 4096, ← Fin.sum_univ_eq_sum_range (fun n => if 4096 - 1 - n ≤ t.val then u (t.val - (4096 - 1 - n)) else 0)]
  refine (Equiv.sum_comp winEquiv.symm _).symm.trans (Finset.sum_congr rfl fun n _ => ?_)
  by_cases hn : 4096 - 1 - n.val ≤ t.val
  · rw [if_pos hn, dif_pos]
    · rw [hx ⟨t.val - (4096 - 1 - n.val), by omega⟩]
      refine congrArg x (funext fun a => ?_)
      match a with
      | ⟨0, _⟩ => exact Fin.ext (by show t.val * 1 + n.val - 4095 = t.val - (4096 - 1 - n.val); omega)
      | ⟨1, _⟩ => exact Fin.ext (by show g.val * 1 + 0 - 0 = g.val; omega)
      | ⟨2, _⟩ => exact Fin.ext (by show l.val * 1 + 0 - 0 = l.val; omega)
    · intro a
      match a with
      | ⟨0, _⟩ => show 4095 ≤ t.val * 1 + n.val ∧ t.val * 1 + n.val - 4095 < 4096; omega
      | ⟨1, _⟩ => show 0 ≤ g.val * 1 + 0 ∧ g.val * 1 + 0 - 0 < 4; omega
      | ⟨2, _⟩ => show 0 ≤ l.val * 1 + 0 ∧ l.val * 1 + 0 - 0 < 256; omega
  · rw [if_neg hn, dif_neg]
    intro hh
    have h1 : 4095 ≤ t.val * 1 + n.val ∧ t.val * 1 + n.val - 4095 < 4096 := hh 0
    omega

/-- Group `g` of the rows `n` above a tile's, zero before the first. -/
abbrev grp (g : Fin 4) (n : Nat) (k : Fin 16) (X : Vec Ideal S4096x1024 .f32) : Vec Ideal S256x256 .f32 :=
  fun j => if n ≤ 256 * k.val + (j 0).val then ext X (hcol g (j 1)) (256 * k.val + (j 0).val - n) else 0

theorem v31_apply (t : Fin 4096) (g : Fin 4) (l : Fin 256) :
    val_main_v31 (F := Ideal) a0 (ValueIdx.ix3 t g l) = ∑ n ∈ Finset.range (t.val + 1), ext (val_main_v3 a0) (hcol g l) n := by
  unfold val_main_v31
  refine running_sum _ _ _ _ Ideal.ofBits_zero_f32 _ t g l fun s => ?_
  unfold val_main_v30 ext
  rw [dif_pos s.isLt]
  generalize val_main_v3 a0 = X
  pointwise
  rfl

theorem real_ext (hU : ∀ i, IsReal (val_main_v3 a0 i)) (q : Fin 1024) (n : ℕ) : IsReal (ext (val_main_v3 a0) q n) := by
  unfold ext
  split
  · exact hU _
  · exact isReal_zero

theorem ref_word (t : Fin 4096) : (IntOp.addi (val_main_v33 (F := Ideal) (ValueIdx.ix1 t)) (val_main_v32 (F := Ideal) (ValueIdx.ix1 t))).toNat = t.val + 1 := by
  have := t.isLt
  show (1#32 + BitVec.ofNat 32 t.val).toNat = _
  rw [BitVec.toNat_add, BitVec.toNat_ofNat]
  simp
  omega

/-- One group's products. -/
abbrev wg (g : Fin 4) (a4 : Vec Ideal S1x4x256x256 .f32) : Vec Ideal S1x256x256 .bf16 := fun j => val_main_v100 (F := Ideal) a4 (ValueIdx.ix3 g (j 1) (j 2))

/-- A group's pooled rows. -/
def pooled (g : Fin 4) (w : Nat) (a0 : Vec Ideal S4096x8192 .f32) (t : Fin 4096) (l : Fin 256) : EReal :=
  Ideal.div (win (ext (val_main_v3 a0) (hcol g l)) w t) (cnt w t) - val_main_v3 a0 (ValueIdx.ix2 t (hcol g l))

theorem pooled0 (hU : ∀ i, IsReal (val_main_v3 a0 i)) (t : Fin 4096) (l : Fin 256) : val_main_v49 (F := Ideal) a0 (ValueIdx.ix2 t l) = pooled 0 2 a0 t l := by
  have ht := t.isLt
  have hl := l.isLt
  have hs (t : Fin 4096) : val_main_v36 (F := Ideal) a0 (ValueIdx.ix2 t l) = ∑ n ∈ Finset.range (t.val + 1), ext (val_main_v3 a0) (hcol 0 l) n := by
    refine Eq.trans ?_ (v31_apply a0 t 0 l)
    unfold val_main_v36 val_main_v35
    generalize val_main_v31 (F := Ideal) a0 = X
    pointwise
    rfl
  have hz : val_main_v39 (F := Ideal) a0 (ValueIdx.ix2 t l) = if 2 ≤ t.val then ∑ n ∈ Finset.range (t.val - 2 + 1), ext (val_main_v3 a0) (hcol 0 l) n else 0 := by
    unfold val_main_v39 val_main_v38 val_main_v37 val_main_cst_0
    by_cases h : 2 ≤ t.val
    · rw [if_pos h]
      refine Eq.trans ?_ (hs ⟨t.val - 2, by omega⟩)
      generalize val_main_v36 (F := Ideal) a0 = X
      pointwise
      rw [dif_neg (by show ¬ t.val < 2; omega)]
      rfl
    · rw [if_neg h]
      generalize val_main_v36 (F := Ideal) a0 = X
      pointwise
      exact dif_pos (by show t.val < 2; omega)
  have hc (q) : val_main_v43 (F := Ideal) (ValueIdx.ix2 t q) = cnt 2 t := by
    unfold val_main_v43 val_main_v42 val_main_v41 val_main_v40 val_main_c_1 val_main_v34
    pointwise
    exact cnt_word 2#32 (by decide) t.val t.isLt _ (ref_word t)
  have hx : val_main_v48 (F := Ideal) a0 (ValueIdx.ix2 t l) = val_main_v3 a0 (ValueIdx.ix2 t (hcol 0 l)) := by
    unfold val_main_v48 val_main_v47 val_main_v30
    generalize val_main_v3 a0 = X
    pointwise
    exact congrArg X ((ix2_inj _ _ _ _).mpr ⟨rfl, Fin.ext (by show l.val = 0 * 256 + l.val; omega)⟩)
  unfold pooled
  rw [← win_sub _ (real_ext a0 hU _), ← hs, ← hz, ← hx]
  unfold val_main_v49 val_main_v46 val_main_v44 val_main_v45
  pointwise
  exact congrArg (fun y => Ideal.div _ y - _) (hc _)

theorem pooled1 (hU : ∀ i, IsReal (val_main_v3 a0 i)) (t : Fin 4096) (l : Fin 256) : val_main_v64 (F := Ideal) a0 (ValueIdx.ix2 t l) = pooled 1 4 a0 t l := by
  have ht := t.isLt
  have hl := l.isLt
  have hs (t : Fin 4096) : val_main_v51 (F := Ideal) a0 (ValueIdx.ix2 t l) = ∑ n ∈ Finset.range (t.val + 1), ext (val_main_v3 a0) (hcol 1 l) n := by
    refine Eq.trans ?_ (v31_apply a0 t 1 l)
    unfold val_main_v51 val_main_v50
    generalize val_main_v31 (F := Ideal) a0 = X
    pointwise
    rfl
  have hz : val_main_v54 (F := Ideal) a0 (ValueIdx.ix2 t l) = if 4 ≤ t.val then ∑ n ∈ Finset.range (t.val - 4 + 1), ext (val_main_v3 a0) (hcol 1 l) n else 0 := by
    unfold val_main_v54 val_main_v53 val_main_v52 val_main_cst_2
    by_cases h : 4 ≤ t.val
    · rw [if_pos h]
      refine Eq.trans ?_ (hs ⟨t.val - 4, by omega⟩)
      generalize val_main_v51 (F := Ideal) a0 = X
      pointwise
      rw [dif_neg (by show ¬ t.val < 4; omega)]
      rfl
    · rw [if_neg h]
      generalize val_main_v51 (F := Ideal) a0 = X
      pointwise
      exact dif_pos (by show t.val < 4; omega)
  have hc (q) : val_main_v58 (F := Ideal) (ValueIdx.ix2 t q) = cnt 4 t := by
    unfold val_main_v58 val_main_v57 val_main_v56 val_main_v55 val_main_c_3 val_main_v34
    pointwise
    exact cnt_word 4#32 (by decide) t.val t.isLt _ (ref_word t)
  have hx : val_main_v63 (F := Ideal) a0 (ValueIdx.ix2 t l) = val_main_v3 a0 (ValueIdx.ix2 t (hcol 1 l)) := by
    unfold val_main_v63 val_main_v62 val_main_v30
    generalize val_main_v3 a0 = X
    pointwise
    exact congrArg X ((ix2_inj _ _ _ _).mpr ⟨rfl, Fin.ext (by show 256 + l.val = 1 * 256 + l.val; omega)⟩)
  unfold pooled
  rw [← win_sub _ (real_ext a0 hU _), ← hs, ← hz, ← hx]
  unfold val_main_v64 val_main_v61 val_main_v59 val_main_v60
  pointwise
  exact congrArg (fun y => Ideal.div _ y - _) (hc _)

theorem pooled2 (hU : ∀ i, IsReal (val_main_v3 a0 i)) (t : Fin 4096) (l : Fin 256) : val_main_v79 (F := Ideal) a0 (ValueIdx.ix2 t l) = pooled 2 8 a0 t l := by
  have ht := t.isLt
  have hl := l.isLt
  have hs (t : Fin 4096) : val_main_v66 (F := Ideal) a0 (ValueIdx.ix2 t l) = ∑ n ∈ Finset.range (t.val + 1), ext (val_main_v3 a0) (hcol 2 l) n := by
    refine Eq.trans ?_ (v31_apply a0 t 2 l)
    unfold val_main_v66 val_main_v65
    generalize val_main_v31 (F := Ideal) a0 = X
    pointwise
    rfl
  have hz : val_main_v69 (F := Ideal) a0 (ValueIdx.ix2 t l) = if 8 ≤ t.val then ∑ n ∈ Finset.range (t.val - 8 + 1), ext (val_main_v3 a0) (hcol 2 l) n else 0 := by
    unfold val_main_v69 val_main_v68 val_main_v67 val_main_cst_4
    by_cases h : 8 ≤ t.val
    · rw [if_pos h]
      refine Eq.trans ?_ (hs ⟨t.val - 8, by omega⟩)
      generalize val_main_v66 (F := Ideal) a0 = X
      pointwise
      rw [dif_neg (by show ¬ t.val < 8; omega)]
      rfl
    · rw [if_neg h]
      generalize val_main_v66 (F := Ideal) a0 = X
      pointwise
      exact dif_pos (by show t.val < 8; omega)
  have hc (q) : val_main_v73 (F := Ideal) (ValueIdx.ix2 t q) = cnt 8 t := by
    unfold val_main_v73 val_main_v72 val_main_v71 val_main_v70 val_main_c_5 val_main_v34
    pointwise
    exact cnt_word 8#32 (by decide) t.val t.isLt _ (ref_word t)
  have hx : val_main_v78 (F := Ideal) a0 (ValueIdx.ix2 t l) = val_main_v3 a0 (ValueIdx.ix2 t (hcol 2 l)) := by
    unfold val_main_v78 val_main_v77 val_main_v30
    generalize val_main_v3 a0 = X
    pointwise
    exact congrArg X ((ix2_inj _ _ _ _).mpr ⟨rfl, Fin.ext (by show 512 + l.val = 2 * 256 + l.val; omega)⟩)
  unfold pooled
  rw [← win_sub _ (real_ext a0 hU _), ← hs, ← hz, ← hx]
  unfold val_main_v79 val_main_v76 val_main_v74 val_main_v75
  pointwise
  exact congrArg (fun y => Ideal.div _ y - _) (hc _)

theorem pooled3 (hU : ∀ i, IsReal (val_main_v3 a0 i)) (t : Fin 4096) (l : Fin 256) : val_main_v94 (F := Ideal) a0 (ValueIdx.ix2 t l) = pooled 3 16 a0 t l := by
  have ht := t.isLt
  have hl := l.isLt
  have hs (t : Fin 4096) : val_main_v81 (F := Ideal) a0 (ValueIdx.ix2 t l) = ∑ n ∈ Finset.range (t.val + 1), ext (val_main_v3 a0) (hcol 3 l) n := by
    refine Eq.trans ?_ (v31_apply a0 t 3 l)
    unfold val_main_v81 val_main_v80
    generalize val_main_v31 (F := Ideal) a0 = X
    pointwise
    rfl
  have hz : val_main_v84 (F := Ideal) a0 (ValueIdx.ix2 t l) = if 16 ≤ t.val then ∑ n ∈ Finset.range (t.val - 16 + 1), ext (val_main_v3 a0) (hcol 3 l) n else 0 := by
    unfold val_main_v84 val_main_v83 val_main_v82 val_main_cst_6
    by_cases h : 16 ≤ t.val
    · rw [if_pos h]
      refine Eq.trans ?_ (hs ⟨t.val - 16, by omega⟩)
      generalize val_main_v81 (F := Ideal) a0 = X
      pointwise
      rw [dif_neg (by show ¬ t.val < 16; omega)]
      rfl
    · rw [if_neg h]
      generalize val_main_v81 (F := Ideal) a0 = X
      pointwise
      exact dif_pos (by show t.val < 16; omega)
  have hc (q) : val_main_v88 (F := Ideal) (ValueIdx.ix2 t q) = cnt 16 t := by
    unfold val_main_v88 val_main_v87 val_main_v86 val_main_v85 val_main_c_7 val_main_v34
    pointwise
    exact cnt_word 16#32 (by decide) t.val t.isLt _ (ref_word t)
  have hx : val_main_v93 (F := Ideal) a0 (ValueIdx.ix2 t l) = val_main_v3 a0 (ValueIdx.ix2 t (hcol 3 l)) := by
    unfold val_main_v93 val_main_v92 val_main_v30
    generalize val_main_v3 a0 = X
    pointwise
    exact congrArg X ((ix2_inj _ _ _ _).mpr ⟨rfl, Fin.ext (by show 768 + l.val = 3 * 256 + l.val; omega)⟩)
  unfold pooled
  rw [← win_sub _ (real_ext a0 hU _), ← hs, ← hz, ← hx]
  unfold val_main_v94 val_main_v91 val_main_v89 val_main_v90
  pointwise
  exact congrArg (fun y => Ideal.div _ y - _) (hc _)

end Cert.MixFwdKernelIdeal.Fwd

end
-- ==== Proof.MixFwd.PoolTile.lean ====
/- A TILE OF THE FORWARD CALL'S POOLS: each group's pooled rows and their products. -/
module

public import proofs.«01_k».proof.Proof.MixFwd.Pool

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext)
open Cert.Reals

open Cert.MixKernelIdeal.Mix (cnt recip)

variable (k : Fin 16) (a0 : Vec Ideal S4096x8192 .f32) (a4 : Vec Ideal S1x4x256x256 .f32)

theorem own_row (g : Fin 4) (j : S256x256.Idx) : grp g 0 k (val_main_v3 a0) j = val_main_v3 a0 (ValueIdx.ix2 (row k (j 0)) (hcol g (j 1))) := by
  unfold grp ext
  rw [if_pos (Nat.zero_le _)]
  exact dif_pos (row k (j 0)).isLt

/-- The kernel's partial sum of the widest window, the last row apart. -/
abbrev part3 : FVec Ideal S256x256 .f32 := k0_pay18 (F := Ideal) (grp 3 0 k (val_main_v3 a0)) (grp 3 1 k (val_main_v3 a0)) (grp 3 2 k (val_main_v3 a0)) (grp 3 3 k (val_main_v3 a0)) (grp 3 4 k (val_main_v3 a0)) (grp 3 5 k (val_main_v3 a0)) (grp 3 6 k (val_main_v3 a0)) (grp 3 7 k (val_main_v3 a0)) (grp 3 8 k (val_main_v3 a0)) (grp 3 9 k (val_main_v3 a0)) (grp 3 10 k (val_main_v3 a0)) (grp 3 11 k (val_main_v3 a0)) (grp 3 12 k (val_main_v3 a0)) (grp 3 13 k (val_main_v3 a0)) (grp 3 14 k (val_main_v3 a0))

theorem pool0_tile (hU : ∀ i, IsReal (val_main_v3 a0 i)) :
    k0_pay11 (F := Ideal) (BitVec.ofNat 32 k.val) (grp 0 0 k (val_main_v3 a0)) (grp 0 1 k (val_main_v3 a0)) = tile k (val_main_v49 a0) := by
  funext j
  refine Eq.trans ?_ (pooled0 a0 hU (row k (j 0)) (j 1)).symm
  have hw : grp 0 0 k (val_main_v3 a0) j + grp 0 1 k (val_main_v3 a0) j
      = win (ext (val_main_v3 a0) (hcol 0 (j 1))) 2 (row k (j 0)).val := by
    unfold win
    simp only [Finset.sum_range_succ, Finset.sum_range_zero, zero_add]
  have hr := own_row k a0 0 j
  unfold k0_pay11 pooled
  generalize grp 0 0 k (val_main_v3 a0) = B0 at *
  generalize grp 0 1 k (val_main_v3 a0) = B1 at *
  pointwise
  exact congrArg₂ (· - ·) ((recip k 2#32 (by decide) (by decide) _ _).trans (congrArg (Ideal.div · _) hw)) hr

theorem pp0_tile (hU : ∀ i, IsReal (val_main_v3 a0 i)) :
    k0_pay13 (F := Ideal) (k0_pay12 (BitVec.ofNat 32 k.val) (grp 0 0 k (val_main_v3 a0)) (grp 0 1 k (val_main_v3 a0)) (wg 0 a4)) = htile 0 k (val_main_v103 a0 a4) := by
  unfold k0_pay13 k0_pay12
  rw [pool0_tile k a0 hU]
  funext j
  unfold val_main_v103 val_main_v102 val_main_v101 val_main_v99 val_main_v95 val_main_v96 val_main_v97 val_main_v98
  simp only [tile, htile, wg]
  generalize val_main_v49 a0 = X0
  generalize val_main_v64 a0 = X1
  generalize val_main_v79 a0 = X2
  generalize val_main_v94 a0 = X3
  pointwise
  have hj : (j 1).val < 256 := (j 1).isLt
  refine Finset.sum_congr rfl fun x _ => ?_
  rw [dif_pos (by omega)]
  exact (mul_comm _ _).trans (congrArg₂ (· * ·) (congrArg (val_main_v100 (F := Ideal) a4) ((ix3_inj _ _ _ _ _ _).mpr ⟨Fin.ext (by show 0 = ((j 1).val) / 256; omega), rfl,
    Fin.ext (by show (j 1).val = ((j 1).val) % 256; omega)⟩)) rfl)

theorem laid0_tile : htile 0 k (val_main_v130 a0) = tile k (val_main_v49 a0) := by
  funext j
  unfold val_main_v130 val_main_v99 val_main_v95 val_main_v96 val_main_v97 val_main_v98
  simp only [tile, htile]
  generalize val_main_v49 a0 = X0
  generalize val_main_v64 a0 = X1
  generalize val_main_v79 a0 = X2
  generalize val_main_v94 a0 = X3
  pointwise
  have hj : (j 1).val < 256 := (j 1).isLt
  rw [dif_pos (by omega)]
  exact congrArg X0 ((ix2_inj _ _ _ _).mpr ⟨rfl, Fin.ext (by show ((j 1).val) % 256 = (j 1).val; omega)⟩)

theorem pool1_tile (hU : ∀ i, IsReal (val_main_v3 a0 i)) :
    k0_pay14 (F := Ideal) (BitVec.ofNat 32 k.val) (grp 1 0 k (val_main_v3 a0)) (grp 1 1 k (val_main_v3 a0)) (grp 1 2 k (val_main_v3 a0)) (grp 1 3 k (val_main_v3 a0)) = tile k (val_main_v64 a0) := by
  funext j
  refine Eq.trans ?_ (pooled1 a0 hU (row k (j 0)) (j 1)).symm
  have hw : grp 1 0 k (val_main_v3 a0) j + grp 1 1 k (val_main_v3 a0) j + grp 1 2 k (val_main_v3 a0) j + grp 1 3 k (val_main_v3 a0) j
      = win (ext (val_main_v3 a0) (hcol 1 (j 1))) 4 (row k (j 0)).val := by
    unfold win
    simp only [Finset.sum_range_succ, Finset.sum_range_zero, zero_add]
  have hr := own_row k a0 1 j
  unfold k0_pay14 pooled
  generalize grp 1 0 k (val_main_v3 a0) = B0 at *
  generalize grp 1 1 k (val_main_v3 a0) = B1 at *
  generalize grp 1 2 k (val_main_v3 a0) = B2 at *
  generalize grp 1 3 k (val_main_v3 a0) = B3 at *
  pointwise
  exact congrArg₂ (· - ·) ((recip k 4#32 (by decide) (by decide) _ _).trans (congrArg (Ideal.div · _) hw)) hr

theorem pp1_tile (hU : ∀ i, IsReal (val_main_v3 a0 i)) :
    k0_pay15 (F := Ideal) (BitVec.ofNat 32 k.val) (grp 1 0 k (val_main_v3 a0)) (grp 1 1 k (val_main_v3 a0)) (grp 1 2 k (val_main_v3 a0)) (grp 1 3 k (val_main_v3 a0)) (wg 1 a4) = htile 1 k (val_main_v103 a0 a4) := by
  unfold k0_pay15
  rw [pool1_tile k a0 hU]
  funext j
  unfold val_main_v103 val_main_v102 val_main_v101 val_main_v99 val_main_v95 val_main_v96 val_main_v97 val_main_v98
  simp only [tile, htile, wg]
  generalize val_main_v49 a0 = X0
  generalize val_main_v64 a0 = X1
  generalize val_main_v79 a0 = X2
  generalize val_main_v94 a0 = X3
  pointwise
  have hj : (j 1).val < 256 := (j 1).isLt
  refine Finset.sum_congr rfl fun x _ => ?_
  rw [dif_neg (by omega), dif_pos (by omega)]
  exact (mul_comm _ _).trans (congrArg₂ (· * ·) (congrArg (val_main_v100 (F := Ideal) a4) ((ix3_inj _ _ _ _ _ _).mpr ⟨Fin.ext (by show 1 = (256 + (j 1).val) / 256; omega), rfl,
    Fin.ext (by show (j 1).val = (256 + (j 1).val) % 256; omega)⟩)) rfl)

theorem laid1_tile : htile 1 k (val_main_v130 a0) = tile k (val_main_v64 a0) := by
  funext j
  unfold val_main_v130 val_main_v99 val_main_v95 val_main_v96 val_main_v97 val_main_v98
  simp only [tile, htile]
  generalize val_main_v49 a0 = X0
  generalize val_main_v64 a0 = X1
  generalize val_main_v79 a0 = X2
  generalize val_main_v94 a0 = X3
  pointwise
  have hj : (j 1).val < 256 := (j 1).isLt
  rw [dif_neg (by omega), dif_pos (by omega)]
  exact congrArg X1 ((ix2_inj _ _ _ _).mpr ⟨rfl, Fin.ext (by show (256 + (j 1).val) % 256 = (j 1).val; omega)⟩)

theorem pool2_tile (hU : ∀ i, IsReal (val_main_v3 a0 i)) :
    k0_pay16 (F := Ideal) (BitVec.ofNat 32 k.val) (grp 2 0 k (val_main_v3 a0)) (grp 2 1 k (val_main_v3 a0)) (grp 2 2 k (val_main_v3 a0)) (grp 2 3 k (val_main_v3 a0)) (grp 2 4 k (val_main_v3 a0)) (grp 2 5 k (val_main_v3 a0)) (grp 2 6 k (val_main_v3 a0)) (grp 2 7 k (val_main_v3 a0)) = tile k (val_main_v79 a0) := by
  funext j
  refine Eq.trans ?_ (pooled2 a0 hU (row k (j 0)) (j 1)).symm
  have hw : grp 2 0 k (val_main_v3 a0) j + grp 2 1 k (val_main_v3 a0) j + grp 2 2 k (val_main_v3 a0) j + grp 2 3 k (val_main_v3 a0) j + grp 2 4 k (val_main_v3 a0) j + grp 2 5 k (val_main_v3 a0) j + grp 2 6 k (val_main_v3 a0) j + grp 2 7 k (val_main_v3 a0) j
      = win (ext (val_main_v3 a0) (hcol 2 (j 1))) 8 (row k (j 0)).val := by
    unfold win
    simp only [Finset.sum_range_succ, Finset.sum_range_zero, zero_add]
  have hr := own_row k a0 2 j
  unfold k0_pay16 pooled
  generalize grp 2 0 k (val_main_v3 a0) = B0 at *
  generalize grp 2 1 k (val_main_v3 a0) = B1 at *
  generalize grp 2 2 k (val_main_v3 a0) = B2 at *
  generalize grp 2 3 k (val_main_v3 a0) = B3 at *
  generalize grp 2 4 k (val_main_v3 a0) = B4 at *
  generalize grp 2 5 k (val_main_v3 a0) = B5 at *
  generalize grp 2 6 k (val_main_v3 a0) = B6 at *
  generalize grp 2 7 k (val_main_v3 a0) = B7 at *
  pointwise
  exact congrArg₂ (· - ·) ((recip k 8#32 (by decide) (by decide) _ _).trans (congrArg (Ideal.div · _) hw)) hr

theorem pp2_tile (hU : ∀ i, IsReal (val_main_v3 a0 i)) :
    k0_pay17 (F := Ideal) (BitVec.ofNat 32 k.val) (grp 2 0 k (val_main_v3 a0)) (grp 2 1 k (val_main_v3 a0)) (grp 2 2 k (val_main_v3 a0)) (grp 2 3 k (val_main_v3 a0)) (grp 2 4 k (val_main_v3 a0)) (grp 2 5 k (val_main_v3 a0)) (grp 2 6 k (val_main_v3 a0)) (grp 2 7 k (val_main_v3 a0)) (wg 2 a4) = htile 2 k (val_main_v103 a0 a4) := by
  unfold k0_pay17
  rw [pool2_tile k a0 hU]
  funext j
  unfold val_main_v103 val_main_v102 val_main_v101 val_main_v99 val_main_v95 val_main_v96 val_main_v97 val_main_v98
  simp only [tile, htile, wg]
  generalize val_main_v49 a0 = X0
  generalize val_main_v64 a0 = X1
  generalize val_main_v79 a0 = X2
  generalize val_main_v94 a0 = X3
  pointwise
  have hj : (j 1).val < 256 := (j 1).isLt
  refine Finset.sum_congr rfl fun x _ => ?_
  rw [dif_neg (by omega), dif_neg (by omega), dif_pos (by omega)]
  exact (mul_comm _ _).trans (congrArg₂ (· * ·) (congrArg (val_main_v100 (F := Ideal) a4) ((ix3_inj _ _ _ _ _ _).mpr ⟨Fin.ext (by show 2 = (512 + (j 1).val) / 256; omega), rfl,
    Fin.ext (by show (j 1).val = (512 + (j 1).val) % 256; omega)⟩)) rfl)

theorem laid2_tile : htile 2 k (val_main_v130 a0) = tile k (val_main_v79 a0) := by
  funext j
  unfold val_main_v130 val_main_v99 val_main_v95 val_main_v96 val_main_v97 val_main_v98
  simp only [tile, htile]
  generalize val_main_v49 a0 = X0
  generalize val_main_v64 a0 = X1
  generalize val_main_v79 a0 = X2
  generalize val_main_v94 a0 = X3
  pointwise
  have hj : (j 1).val < 256 := (j 1).isLt
  rw [dif_neg (by omega), dif_neg (by omega), dif_pos (by omega)]
  exact congrArg X2 ((ix2_inj _ _ _ _).mpr ⟨rfl, Fin.ext (by show (512 + (j 1).val) % 256 = (j 1).val; omega)⟩)

theorem pool3_tile (hU : ∀ i, IsReal (val_main_v3 a0 i)) :
    k0_pay19 (F := Ideal) (BitVec.ofNat 32 k.val) (grp 3 0 k (val_main_v3 a0)) (part3 k a0) (grp 3 15 k (val_main_v3 a0)) = tile k (val_main_v94 a0) := by
  funext j
  refine Eq.trans ?_ (pooled3 a0 hU (row k (j 0)) (j 1)).symm
  have hw : grp 3 0 k (val_main_v3 a0) j + grp 3 1 k (val_main_v3 a0) j + grp 3 2 k (val_main_v3 a0) j + grp 3 3 k (val_main_v3 a0) j + grp 3 4 k (val_main_v3 a0) j + grp 3 5 k (val_main_v3 a0) j + grp 3 6 k (val_main_v3 a0) j + grp 3 7 k (val_main_v3 a0) j + grp 3 8 k (val_main_v3 a0) j + grp 3 9 k (val_main_v3 a0) j + grp 3 10 k (val_main_v3 a0) j + grp 3 11 k (val_main_v3 a0) j + grp 3 12 k (val_main_v3 a0) j + grp 3 13 k (val_main_v3 a0) j + grp 3 14 k (val_main_v3 a0) j + grp 3 15 k (val_main_v3 a0) j
      = win (ext (val_main_v3 a0) (hcol 3 (j 1))) 16 (row k (j 0)).val := by
    unfold win
    simp only [Finset.sum_range_succ, Finset.sum_range_zero, zero_add]
  have hr := own_row k a0 3 j
  unfold k0_pay19 pooled part3 k0_pay18
  generalize grp 3 0 k (val_main_v3 a0) = B0 at *
  generalize grp 3 1 k (val_main_v3 a0) = B1 at *
  generalize grp 3 2 k (val_main_v3 a0) = B2 at *
  generalize grp 3 3 k (val_main_v3 a0) = B3 at *
  generalize grp 3 4 k (val_main_v3 a0) = B4 at *
  generalize grp 3 5 k (val_main_v3 a0) = B5 at *
  generalize grp 3 6 k (val_main_v3 a0) = B6 at *
  generalize grp 3 7 k (val_main_v3 a0) = B7 at *
  generalize grp 3 8 k (val_main_v3 a0) = B8 at *
  generalize grp 3 9 k (val_main_v3 a0) = B9 at *
  generalize grp 3 10 k (val_main_v3 a0) = B10 at *
  generalize grp 3 11 k (val_main_v3 a0) = B11 at *
  generalize grp 3 12 k (val_main_v3 a0) = B12 at *
  generalize grp 3 13 k (val_main_v3 a0) = B13 at *
  generalize grp 3 14 k (val_main_v3 a0) = B14 at *
  generalize grp 3 15 k (val_main_v3 a0) = B15 at *
  pointwise
  exact congrArg₂ (· - ·) ((recip k 16#32 (by decide) (by decide) _ _).trans (congrArg (Ideal.div · _) hw)) hr

theorem pp3_tile (hU : ∀ i, IsReal (val_main_v3 a0 i)) :
    k0_pay20 (F := Ideal) (BitVec.ofNat 32 k.val) (grp 3 0 k (val_main_v3 a0)) (part3 k a0) (grp 3 15 k (val_main_v3 a0)) (wg 3 a4) = htile 3 k (val_main_v103 a0 a4) := by
  unfold k0_pay20
  rw [pool3_tile k a0 hU]
  funext j
  unfold val_main_v103 val_main_v102 val_main_v101 val_main_v99 val_main_v95 val_main_v96 val_main_v97 val_main_v98
  simp only [tile, htile, wg]
  generalize val_main_v49 a0 = X0
  generalize val_main_v64 a0 = X1
  generalize val_main_v79 a0 = X2
  generalize val_main_v94 a0 = X3
  pointwise
  have hj : (j 1).val < 256 := (j 1).isLt
  refine Finset.sum_congr rfl fun x _ => ?_
  rw [dif_neg (by omega), dif_neg (by omega), dif_neg (by omega)]
  exact (mul_comm _ _).trans (congrArg₂ (· * ·) (congrArg (val_main_v100 (F := Ideal) a4) ((ix3_inj _ _ _ _ _ _).mpr ⟨Fin.ext (by show 3 = (768 + (j 1).val) / 256; omega), rfl,
    Fin.ext (by show (j 1).val = (768 + (j 1).val) % 256; omega)⟩)) rfl)

theorem laid3_tile : htile 3 k (val_main_v130 a0) = tile k (val_main_v94 a0) := by
  funext j
  unfold val_main_v130 val_main_v99 val_main_v95 val_main_v96 val_main_v97 val_main_v98
  simp only [tile, htile]
  generalize val_main_v49 a0 = X0
  generalize val_main_v64 a0 = X1
  generalize val_main_v79 a0 = X2
  generalize val_main_v94 a0 = X3
  pointwise
  have hj : (j 1).val < 256 := (j 1).isLt
  rw [dif_neg (by omega), dif_neg (by omega), dif_neg (by omega)]
  exact congrArg X3 ((ix2_inj _ _ _ _).mpr ⟨rfl, Fin.ext (by show (768 + (j 1).val) % 256 = (j 1).val; omega)⟩)

end Cert.MixFwdKernelIdeal.Fwd

end
-- ==== Proof.MixFwd.Rows.lean ====
/- A TILE OF THE FORWARD CALL: the convolution, the gates and the products, against the reference's rows. -/
module

public import proofs.«01_k».proof.Proof.MixFwd.Blocks
public import proofs.«01_k».proof.Proof.Mix.Conv

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext)
open Cert.Reals

variable (k : Fin 16) (a0 : Vec Ideal S4096x8192 .f32) (a1 : Vec Ideal S4096x1024 .f32) (a2 : Vec Ideal S1x3x1024 .f32) (a3 : Vec Ideal S1x1024x1024 .f32)
  (a4 : Vec Ideal S1x4x256x256 .f32) (a5 : Vec Ideal S1x1024 .f32) (a6 a7 : Vec Ideal S256x1024 .f32) (a8 a9 : Vec Ideal S1x1024x1024 .f32)

/-- The rows `n` above a tile's, zero before the first. -/
abbrev above (n : Nat) (k : Fin 16) (X : Vec Ideal S4096x1024 .f32) : Vec Ideal S256x1024 .f32 :=
  fun j => if n ≤ 256 * k.val + (j 0).val then ext X (j 1) (256 * k.val + (j 0).val - n) else 0

theorem cu_tile : k0_pay6 (F := Ideal) (tile k (val_main_v1 a0)) (tile k (val_main_v2 a0)) = tile k (val_main_v5 a0) := by
  funext j
  unfold k0_pay6 k0_pay5 val_main_v5
  pointwise!

theorem up_tile : k0_pay10 (F := Ideal) (tile k (val_main_v3 a0)) = tile k (val_main_v3 a0) := by
  funext j
  unfold k0_pay10
  pointwise!

theorem w0_apply (j : S1x1024.Idx) : val_main_v12 (F := Ideal) a2 j = wrow 0 a2 j := by
  unfold val_main_v12 val_main_v10 val_main_v9 val_main_v6
  pointwise
  rfl
theorem w1_apply (j : S1x1024.Idx) : val_main_v18 (F := Ideal) a2 j = wrow 1 a2 j := by
  unfold val_main_v18 val_main_v16 val_main_v15 val_main_v6
  pointwise
  rfl
theorem w2_apply (j : S1x1024.Idx) : val_main_v25 (F := Ideal) a2 j = wrow 2 a2 j := by
  unfold val_main_v25 val_main_v23 val_main_v22 val_main_v6
  pointwise
  rfl

theorem tap0 (r : Fin 256) (l : Fin 1024) : val_main_v11 (F := Ideal) a0 (ValueIdx.ix2 (row k r) l) = above 2 k (val_main_v5 a0) (ValueIdx.ix2 r l) := by
  unfold val_main_v11 val_main_v8 val_main_v7 val_main_cst
  generalize val_main_v5 a0 = X
  pointwise
  unfold above ext
  have hk := k.isLt
  by_cases h : 2 ≤ 256 * k.val + r.val
  · rw [if_pos h, dif_neg (by omega), dif_pos (by show 256 * k.val + r.val - 2 < 4096; omega)]
    exact congrArg X ((ix2_inj _ _ _ _).mpr ⟨Fin.ext (by show (256 * k.val + r.val) - 2 = 256 * k.val + r.val - 2; omega), rfl⟩)
  · rw [if_neg h, dif_pos (by omega)]
theorem tap1 (r : Fin 256) (l : Fin 1024) : val_main_v17 (F := Ideal) a0 (ValueIdx.ix2 (row k r) l) = above 1 k (val_main_v5 a0) (ValueIdx.ix2 r l) := by
  unfold val_main_v17 val_main_v8 val_main_v7 val_main_cst
  generalize val_main_v5 a0 = X
  pointwise
  unfold above ext
  have hk := k.isLt
  by_cases h : 1 ≤ 256 * k.val + r.val
  · rw [if_pos h, dif_neg (by omega), dif_pos (by show 256 * k.val + r.val - 1 < 4096; omega)]
    exact congrArg X ((ix2_inj _ _ _ _).mpr ⟨Fin.ext (by show 1 + (256 * k.val + r.val) - 2 = 256 * k.val + r.val - 1; omega), rfl⟩)
  · rw [if_neg h, dif_pos (by omega)]
theorem tap2 (r : Fin 256) (l : Fin 1024) : val_main_v24 (F := Ideal) a0 (ValueIdx.ix2 (row k r) l) = val_main_v5 a0 (ValueIdx.ix2 (row k r) l) := by
  unfold val_main_v24 val_main_v8 val_main_v7 val_main_cst
  generalize val_main_v5 a0 = X
  pointwise
  rfl

theorem a_tile : k0_pay7 (F := Ideal) (tile k (val_main_v1 a0)) (tile k (val_main_v2 a0)) (wrow 2 a2) (wrow 1 a2) (above 1 k (val_main_v5 a0)) (wrow 0 a2)
    (above 2 k (val_main_v5 a0)) (tile k (val_main_v0 a0)) = tile k (val_main_v29 a0 a2) := by
  have e : k0_pay5 (F := Ideal) (tile k (val_main_v1 a0)) (tile k (val_main_v2 a0)) = tile k (val_main_v5 a0) := by
    have h := cu_tile k a0
    unfold k0_pay6 at h
    exact (shapeCast_self _ _).symm.trans h
  unfold k0_pay7
  rw [e]
  funext j
  unfold val_main_v29 val_main_v28 val_main_v21 val_main_v27 val_main_v20 val_main_v14 val_main_v13 val_main_v19 val_main_v26
  have t0 := tap0 k a0 (j 0) (j 1)
  have t1 := tap1 k a0 (j 0) (j 1)
  have t2 := tap2 k a0 (j 0) (j 1)
  generalize above 1 k (val_main_v5 a0) = B1 at *
  generalize above 2 k (val_main_v5 a0) = B2 at *
  pointwise
  refine congrArg (_ * ·) ?_
  rw [w0_apply, w1_apply, w2_apply]
  refine (congrArg₂ (· + ·) (congrArg₂ (· + ·) (congrArg (_ * ·) t2.symm) (congrArg (_ * ·) ((congrArg B1 (ValueIdx.eq_ix2 j)).trans t1.symm)))
    (congrArg (_ * ·) ((congrArg B2 (ValueIdx.eq_ix2 j)).trans t0.symm))).trans ?_
  rw [add_assoc]
  exact (add_comm _ _).trans ((congrArg (· + _) (add_comm _ _)).trans rfl)

theorem ya_tile : k0_pay8 (F := Ideal) (tile k (val_main_v29 a0 a2)) (val_main_v126 a3) = tile k (val_main_v127 a0 a2 a3) := by
  funext j
  unfold k0_pay8 val_main_v127
  simp only [tile]
  generalize val_main_v29 a0 a2 = X
  pointwise!

theorem yx_tile : k0_pay32 (F := Ideal) (tile k (val_main_v123 a0 a6 a7)) (val_main_v128 a8) = tile k (val_main_v129 a0 a6 a7 a8) := by
  funext j
  unfold k0_pay32 val_main_v129
  simp only [tile]
  generalize val_main_v123 a0 a6 a7 = X
  pointwise!

theorem merged_tile : k0_pay36 (F := Ideal) (tile k (val_main_v129 a0 a6 a7 a8)) (k0_pay34 (F := Ideal) (tile k (val_main_v127 a0 a2 a3)) (tile k (val_main_v131 a0)))
    (k0_pay35 (F := Ideal) (tile k (val_main_v132 a0))) (tile k (val_main_v103 a0 a4)) a5 (tile k (val_main_v133 a0)) = tile k (val_main_v160 a0 a2 a3 a4 a5 a6 a7 a8) := by
  funext j
  unfold k0_pay36 k0_pay34 k0_pay35 val_main_v160 val_main_v159 val_main_v158 val_main_v157 val_main_v156 val_main_v155 val_main_v154 val_main_v153 val_main_v152 val_main_v151 val_main_v150
    val_main_v149 val_main_v148 val_main_v147 val_main_v146 val_main_v145 val_main_v144 val_main_v143 val_main_v142 val_main_v141 val_main_v140 val_main_v139 val_main_v138 val_main_v137 val_main_v136
    val_main_v135 val_main_v134 val_main_cst_12 val_main_cst_13 val_main_cst_14 val_main_cst_15 val_main_cst_16 val_main_cst_17
  generalize val_main_v129 a0 a6 a7 a8 = X
  generalize val_main_v127 a0 a2 a3 = Y
  generalize val_main_v103 a0 a4 = Z
  generalize val_main_v131 a0 = G1
  generalize val_main_v132 a0 = G2
  generalize val_main_v133 a0 = G3
  simp only [tile]
  pointwise
  simp only [zero_sub]

theorem x1_tile : k0_pay37 (F := Ideal) (tile k a1) (tile k (val_main_v160 a0 a2 a3 a4 a5 a6 a7 a8)) (val_main_v161 a9) = tile k (val_main_v163 a0 a1 a2 a3 a4 a5 a6 a7 a8 a9) := by
  funext j
  unfold k0_pay37 val_main_v163 val_main_v162
  simp only [tile]
  generalize val_main_v160 a0 a2 a3 a4 a5 a6 a7 a8 = X
  pointwise!

end Cert.MixFwdKernelIdeal.Fwd

end
-- ==== Proof.MixFwd.Attention.lean ====
/- THE FORWARD CALL'S ATTENTION, head by head. -/
module

public import proofs.«01_k».proof.Proof.MixFwd.Blocks
public import proofs.«01_k».proof.Proof.Mix.Finite

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext)
open Cert.Reals

variable (g : Fin 4) (k : Fin 16) (a0 : Vec Ideal S4096x8192 .f32) (a6 a7 : Vec Ideal S256x1024 .f32)

theorem exps_same : val_main_v116 (F := Ideal) a0 a6 = Cert.MixReferenceIdeal.Read.val_main_v136 a0 a6 := rfl

/-- A row's sum of exponentials of finite scores is not zero. -/
theorem ne_v117 (h0 : ∀ i, IsReal (val_main_v4 a0 i)) (h6 : ∀ i, IsReal (a6 i)) (t : Fin 4096) :
    val_main_v117 a0 a6 (ValueIdx.ix2 g t) ≠ 0 := by
  have H : Cert.MixKernelIdeal.Mix.Finite (fun _ => 0) a0 (fun _ => 0) (fun _ => 0) a6 (fun _ => 0) (fun _ => 0) (fun _ => 0) :=
    ⟨fun _ => isReal_zero, h0, fun _ => isReal_zero, fun _ => isReal_zero, h6, fun _ => isReal_zero, fun _ => isReal_zero, fun _ => isReal_zero⟩
  have h := Cert.MixKernelIdeal.Mix.pos_v136 H
  rw [← exps_same] at h
  unfold val_main_v117 val_main_cst_11
  generalize val_main_v116 a0 a6 = X at *
  pointwise
  obtain ⟨s, e, hs⟩ := sum_pos_real Finset.univ (fun x : Fin 256 => X (ValueIdx.ix3 g t x)) (fun _ => h _) Finset.univ_nonempty
  intro hz
  exact hs (EReal.coe_eq_zero.mp (e.symm.trans hz))

theorem raw_head : (mulf (F := Ideal) (matmul dot_S256x256_S256x256_S256x256_1_1_0_0_n_n none (htile g k (val_main_v4 a0) : FVec Ideal S256x256 .bf16) (hblk g a6 : FVec Ideal S256x256 .bf16) (constant S256x256 .f32 0x00000000#32))
    (broadcast S256x256 (Scalar.ofBits .f32 0x3D800000#32)) : FVec Ideal S256x256 .f32) = slab g k (val_main_v109 a0 a6) := by
  funext j
  unfold val_main_v109 val_main_v108 val_main_v107 val_main_v104 val_main_v105 val_main_cst_8
  generalize val_main_v4 a0 = X
  simp only [htile, hblk, slab]
  pointwise
  rfl

theorem ker_max (Y : FVec Ideal S256x256 .f32) (j : S256x256.Idx) :
    (subf Y (broadcastTo S256x256 (shapeCast S256x1 (multiReduction (F := Ideal) .maximumf [1] S256 Y 0xFF800000#32 reduces_S256x256_S256 (.inl rfl) rfl) shapeCasts_S256_S256x1)
      broadcasts_S256x1_S256x256) : FVec Ideal S256x256 .f32) j = Y j - Finset.fold max (Ideal.ofBits FTy.f32 0xFF800000#32) (fun x => Y (ValueIdx.ix2 (j 0) x)) Finset.univ := by
  pointwise
  rfl

theorem v111_bot (i) : val_main_v111 (F := Ideal) i = (⊥ : EReal) := by
  unfold val_main_v111 val_main_cst_10
  simp only [pointwise]
  exact bits_bot

theorem v110_fold (g : Fin 4) (t : Fin 4096) :
    val_main_v110 (F := Ideal) a0 a6 (ValueIdx.ix2 g t) = Finset.fold max (Ideal.ofBits FTy.f32 0xFF800000#32) (fun x => val_main_v109 (F := Ideal) a0 a6 (ValueIdx.ix3 g t x)) Finset.univ := by
  unfold val_main_v110 val_main_cst_9
  generalize val_main_v109 a0 a6 = X
  simp only [pointwise]
  rfl

theorem max_bot (x y : Ideal .f32) (hx : x = (⊥ : EReal)) : FloatOps.maximumf x y = y := by
  subst hx
  exact max_bot_left (y : EReal)

theorem ref_max (g : Fin 4) (t : Fin 4096) :
    val_main_v112 (F := Ideal) a0 a6 (ValueIdx.ix2 g t) = Finset.fold max (Ideal.ofBits FTy.f32 0xFF800000#32) (fun x => val_main_v109 (F := Ideal) a0 a6 (ValueIdx.ix3 g t x)) Finset.univ :=
  (val_main_v112_apply a0 a6 _).trans ((max_bot _ _ (v111_bot _)).trans (v110_fold a0 a6 g t))

theorem scores_head : k0_pay29 (F := Ideal) (htile g k (val_main_v4 a0)) (hblk g a6) = slab g k (val_main_v115 a0 a6) := by
  have e := raw_head g k a0 a6
  unfold k0_pay29
  simp only [shapeCast_self]
  rw [e]
  funext j
  refine (ker_max _ j).trans ?_
  have h := ref_max a0 a6 g (row k (j 0))
  unfold val_main_v115 val_main_v114 val_main_v113
  generalize val_main_v112 a0 a6 = M at *
  generalize val_main_v109 a0 a6 = X at *
  simp only [slab]
  pointwise
  exact congrArg (_ - ·) h.symm

theorem exps_head : k0_pay21 (F := Ideal) (htile g k (val_main_v4 a0)) (hblk g a6) = slab g k (val_main_v116 a0 a6) := by
  show exp (k0_pay29 (F := Ideal) (htile g k (val_main_v4 a0)) (hblk g a6)) = _
  rw [scores_head]
  rfl

theorem probs_head (hS : ∀ g t, val_main_v117 a0 a6 (ValueIdx.ix2 g t) ≠ 0) : k0_pay30 (F := Ideal) (slab g k (val_main_v115 a0 a6)) = slab g k (val_main_v120 a0 a6) := by
  have e : exp (F := Ideal) (slab g k (val_main_v115 a0 a6) : FVec Ideal S256x256 .f32) = slab g k (val_main_v116 a0 a6) := rfl
  unfold k0_pay30
  rw [e]
  funext j
  have h := hS g (row k (j 0))
  unfold val_main_v120 val_main_v119 val_main_v118
  have hs : val_main_v117 (F := Ideal) a0 a6 (ValueIdx.ix2 g (row k (j 0))) = ∑ x : Fin 256, val_main_v116 (F := Ideal) a0 a6 (ValueIdx.ix3 g (row k (j 0)) x) := by
    unfold val_main_v117 val_main_cst_11
    generalize val_main_v116 a0 a6 = X
    pointwise
    rfl
  rw [hs] at h
  generalize val_main_v117 a0 a6 = T at *
  generalize val_main_v116 a0 a6 = X at *
  simp only [slab]
  pointwise
  refine (Ideal.mul_one_div h).trans (congrArg (Ideal.div _) hs.symm)

theorem laid_head : htile g k (val_main_v125 a0 a6) = slab g k (val_main_v120 a0 a6) := by
  funext j
  unfold val_main_v125 val_main_v124
  simp only [htile, slab]
  generalize val_main_v120 a0 a6 = X
  pointwise
  exact congrArg X ((ix3_inj _ _ _ _ _ _).mpr ⟨head_div g (j 1), rfl, Fin.ext (by
    show (g.val * 256 + (j 1).val) % 256 = (j 1).val
    have : (j 1).val < 256 := (j 1).isLt
    omega)⟩)

theorem o_head (hS : ∀ g t, val_main_v117 a0 a6 (ValueIdx.ix2 g t) ≠ 0) :
    k0_pay31 (F := Ideal) (slab g k (val_main_v115 a0 a6)) (hblk g a7) = htile g k (val_main_v123 a0 a6 a7) := by
  unfold k0_pay31
  rw [probs_head g k a0 a6 hS]
  funext j
  unfold val_main_v123 val_main_v122 val_main_v121 val_main_v106
  generalize val_main_v120 a0 a6 = X
  simp only [htile, hblk, slab]
  pointwise
  exact Finset.sum_congr rfl fun x _ => (mul_comm _ _).trans (congrArg₂ (· * ·) (congrArg a7 ((ix2_inj _ _ _ _).mpr ⟨rfl, (head_col g (j 1)).symm⟩))
    (congrArg X ((ix3_inj _ _ _ _ _ _).mpr ⟨(head_div g (j 1)).symm, rfl, rfl⟩)))

end Cert.MixFwdKernelIdeal.Fwd

end
-- ==== Proof.MixFwd.Reads.lean ====
/- WHAT A POINT LOADS: columns of the row tile, blocks of the small operands, and the scratch rows above a tile. -/
module

public import proofs.«01_k».proof.Proof.MixFwd.PoolTile
public import proofs.«01_k».proof.Proof.MixFwd.Rows
public import proofs.«01_k».proof.Proof.MixFwd.Attention
public import proofs.«01_k».proof.Proof.Mix.Laid
public import Idealize.ShloMosaic.Lib.Pipeline.ReadBack

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext conv8 canon_hit canon_miss read_over ld_apply2 ld_cols cols_cons)
open Cert.Reals

variable (k : Fin 16) (a0 : Vec Ideal S4096x8192 .f32)

theorem ld_0 : View.ld (tile k a0) (Rect.unit ![0, 0] ![256, 1024] inb_S256x8192_S256x1024_0_0) = tile k (val_main_v0 (F := Ideal) a0) := by
  refine ld_cols k a0 _ 0 (by decide) (fun r l => ?_) _
  unfold val_main_v0
  pointwise
  exact congrArg a0 ((ix2_inj _ _ _ _).mpr ⟨rfl, Fin.ext (by first | rfl | exact (Nat.zero_add _).symm)⟩)

theorem ld_1024 : View.ld (tile k a0) (Rect.unit ![0, 1024] ![256, 1024] inb_S256x8192_S256x1024_0_1024) = tile k (val_main_v1 (F := Ideal) a0) := by
  refine ld_cols k a0 _ 1024 (by decide) (fun r l => ?_) _
  unfold val_main_v1
  pointwise
  exact congrArg a0 ((ix2_inj _ _ _ _).mpr ⟨rfl, Fin.ext (by first | rfl | exact (Nat.zero_add _).symm)⟩)

theorem ld_2048 : View.ld (tile k a0) (Rect.unit ![0, 2048] ![256, 1024] inb_S256x8192_S256x1024_0_2048) = tile k (val_main_v2 (F := Ideal) a0) := by
  refine ld_cols k a0 _ 2048 (by decide) (fun r l => ?_) _
  unfold val_main_v2
  pointwise
  exact congrArg a0 ((ix2_inj _ _ _ _).mpr ⟨rfl, Fin.ext (by first | rfl | exact (Nat.zero_add _).symm)⟩)

theorem ld_3072 : View.ld (tile k a0) (Rect.unit ![0, 3072] ![256, 1024] inb_S256x8192_S256x1024_0_3072) = tile k (val_main_v3 (F := Ideal) a0) := by
  refine ld_cols k a0 _ 3072 (by decide) (fun r l => ?_) _
  unfold val_main_v3
  pointwise
  exact congrArg a0 ((ix2_inj _ _ _ _).mpr ⟨rfl, Fin.ext (by first | rfl | exact (Nat.zero_add _).symm)⟩)

theorem ld_5120 : View.ld (tile k a0) (Rect.unit ![0, 5120] ![256, 1024] inb_S256x8192_S256x1024_0_5120) = tile k (val_main_v131 (F := Ideal) a0) := by
  refine ld_cols k a0 _ 5120 (by decide) (fun r l => ?_) _
  unfold val_main_v131
  pointwise
  exact congrArg a0 ((ix2_inj _ _ _ _).mpr ⟨rfl, Fin.ext (by first | rfl | exact (Nat.zero_add _).symm)⟩)

theorem ld_6144 : View.ld (tile k a0) (Rect.unit ![0, 6144] ![256, 1024] inb_S256x8192_S256x1024_0_6144) = tile k (val_main_v132 (F := Ideal) a0) := by
  refine ld_cols k a0 _ 6144 (by decide) (fun r l => ?_) _
  unfold val_main_v132
  pointwise
  exact congrArg a0 ((ix2_inj _ _ _ _).mpr ⟨rfl, Fin.ext (by first | rfl | exact (Nat.zero_add _).symm)⟩)

theorem ld_7168 : View.ld (tile k a0) (Rect.unit ![0, 7168] ![256, 1024] inb_S256x8192_S256x1024_0_7168) = tile k (val_main_v133 (F := Ideal) a0) := by
  refine ld_cols k a0 _ 7168 (by decide) (fun r l => ?_) _
  unfold val_main_v133
  pointwise
  exact congrArg a0 ((ix2_inj _ _ _ _).mpr ⟨rfl, Fin.ext (by first | rfl | exact (Nat.zero_add _).symm)⟩)

/-- A head's columns of the queries. -/
theorem ld_head (g : Fin 4) (inb : ∀ a, (![0, 4096 + g.val * 256] : Fin 2 → Nat) a + (![256, 256] : Fin 2 → Nat) a ≤ (![256, 8192] : Fin 2 → Nat) a) :
    View.ld (tile k a0) (Rect.unit (s := ⟨2, ![256, 8192]⟩) ![0, 4096 + g.val * 256] ![256, 256] inb) = htile g k (val_main_v4 (F := Ideal) a0) := by
  funext j
  have hj : (j 1).val < 256 := (j 1).isLt
  refine (ld_apply2 (tile k a0) inb j (j 0) ⟨4096 + g.val * 256 + (j 1).val, by omega⟩ (Nat.zero_add _).symm rfl).trans ?_
  unfold val_main_v4
  simp only [htile, tile]
  pointwise
  exact congrArg a0 ((ix2_inj _ _ _ _).mpr ⟨rfl, Fin.ext (by show 4096 + g.val * 256 + (j 1).val = 4096 + (g.val * 256 + (j 1).val); omega)⟩)

/-- A head's columns of the keys or values. -/
theorem ld_blk (X : Vec Ideal S256x1024 .f32) (g : Fin 4) (inb : ∀ a, (![0, g.val * 256] : Fin 2 → Nat) a + (![256, 256] : Fin 2 → Nat) a ≤ (![256, 1024] : Fin 2 → Nat) a) :
    View.ld (Val := Elt Ideal) (e' := .bf16) (X : Vec Ideal S256x1024 .bf16) (Rect.unit (s := ⟨2, ![256, 1024]⟩) ![0, g.val * 256] ![256, 256] inb) = hblk g X := by
  funext j
  have hj : (j 1).val < 256 := (j 1).isLt
  exact ld_apply2 (e := .bf16) X inb j (j 0) ⟨g.val * 256 + (j 1).val, by omega⟩ (Nat.zero_add _).symm rfl

theorem ld_q0 : View.ld (tile k a0) (Rect.unit ![0, 4096] ![256, 256] inb_S256x8192_S256x256_0_4096) = htile 0 k (val_main_v4 (F := Ideal) a0) := ld_head k a0 0 _
theorem ld_b0 (X : Vec Ideal S256x1024 .f32) : View.ld (Val := Elt Ideal) (e' := .bf16) (X : Vec Ideal S256x1024 .bf16) (Rect.unit ![0, 0] ![256, 256] inb_S256x1024_S256x256_0_0) = hblk 0 X := ld_blk X 0 _
theorem ld_w0 (a4 : Vec Ideal S1x4x256x256 .f32) : View.ld (val_main_v100 (F := Ideal) a4) (Rect.unit ![0, 0, 0] ![1, 256, 256] inb_S4x256x256_S1x256x256_0_0_0) = wg 0 a4 := by
  generalize hX : val_main_v100 (F := Ideal) a4 = X
  funext j
  simp only [wg, hX]
  pointwise
  rfl

theorem ld_q1 : View.ld (tile k a0) (Rect.unit ![0, 4352] ![256, 256] inb_S256x8192_S256x256_0_4352) = htile 1 k (val_main_v4 (F := Ideal) a0) := ld_head k a0 1 _
theorem ld_b1 (X : Vec Ideal S256x1024 .f32) : View.ld (Val := Elt Ideal) (e' := .bf16) (X : Vec Ideal S256x1024 .bf16) (Rect.unit ![0, 256] ![256, 256] inb_S256x1024_S256x256_0_256) = hblk 1 X := ld_blk X 1 _
theorem ld_w1 (a4 : Vec Ideal S1x4x256x256 .f32) : View.ld (val_main_v100 (F := Ideal) a4) (Rect.unit ![1, 0, 0] ![1, 256, 256] inb_S4x256x256_S1x256x256_1_0_0) = wg 1 a4 := by
  generalize hX : val_main_v100 (F := Ideal) a4 = X
  funext j
  simp only [wg, hX]
  pointwise
  rfl

theorem ld_q2 : View.ld (tile k a0) (Rect.unit ![0, 4608] ![256, 256] inb_S256x8192_S256x256_0_4608) = htile 2 k (val_main_v4 (F := Ideal) a0) := ld_head k a0 2 _
theorem ld_b2 (X : Vec Ideal S256x1024 .f32) : View.ld (Val := Elt Ideal) (e' := .bf16) (X : Vec Ideal S256x1024 .bf16) (Rect.unit ![0, 512] ![256, 256] inb_S256x1024_S256x256_0_512) = hblk 2 X := ld_blk X 2 _
theorem ld_w2 (a4 : Vec Ideal S1x4x256x256 .f32) : View.ld (val_main_v100 (F := Ideal) a4) (Rect.unit ![2, 0, 0] ![1, 256, 256] inb_S4x256x256_S1x256x256_2_0_0) = wg 2 a4 := by
  generalize hX : val_main_v100 (F := Ideal) a4 = X
  funext j
  simp only [wg, hX]
  pointwise
  rfl

theorem ld_q3 : View.ld (tile k a0) (Rect.unit ![0, 4864] ![256, 256] inb_S256x8192_S256x256_0_4864) = htile 3 k (val_main_v4 (F := Ideal) a0) := ld_head k a0 3 _
theorem ld_b3 (X : Vec Ideal S256x1024 .f32) : View.ld (Val := Elt Ideal) (e' := .bf16) (X : Vec Ideal S256x1024 .bf16) (Rect.unit ![0, 768] ![256, 256] inb_S256x1024_S256x256_0_768) = hblk 3 X := ld_blk X 3 _
theorem ld_w3 (a4 : Vec Ideal S1x4x256x256 .f32) : View.ld (val_main_v100 (F := Ideal) a4) (Rect.unit ![3, 0, 0] ![1, 256, 256] inb_S4x256x256_S1x256x256_3_0_0) = wg 3 a4 := by
  generalize hX : val_main_v100 (F := Ideal) a4 = X
  funext j
  simp only [wg, hX]
  pointwise
  rfl

/-- A row of the convolution's taps. -/
theorem ld_conv (a2 : Vec Ideal S1x3x1024 .f32) (i : Fin 3) (inb : ∀ a, (![i.val, 0] : Fin 2 → Nat) a + (![1, 1024] : Fin 2 → Nat) a ≤ (![8, 1024] : Fin 2 → Nat) a) :
    View.ld (conv8 a2) (Rect.unit (s := ⟨2, ![8, 1024]⟩) ![i.val, 0] ![1, 1024] inb) = wrow i a2 := by
  funext j
  have h0 : (j 0).val = 0 := by have : (j 0).val < 1 := (j 0).isLt; omega
  exact (ld_apply2 (conv8 a2) inb j ⟨i.val, by omega⟩ (j 1) (by show i.val = i.val + _; omega) (Nat.zero_add _).symm).trans (dif_pos i.isLt)

theorem ld_c0 (a2 : Vec Ideal S1x3x1024 .f32) : View.ld (conv8 a2) (Rect.unit ![0, 0] ![1, 1024] inb_S8x1024_S1x1024_0_0) = wrow 0 a2 := ld_conv a2 0 _
theorem ld_c1 (a2 : Vec Ideal S1x3x1024 .f32) : View.ld (conv8 a2) (Rect.unit ![1, 0] ![1, 1024] inb_S8x1024_S1x1024_1_0) = wrow 1 a2 := ld_conv a2 1 _
theorem ld_c2 (a2 : Vec Ideal S1x3x1024 .f32) : View.ld (conv8 a2) (Rect.unit ![2, 0] ![1, 1024] inb_S8x1024_S1x1024_2_0) = wrow 2 a2 := ld_conv a2 2 _

theorem ld_all {e : EltTy} (X : (⟨2, ![256, 1024]⟩ : Shape).Idx → Elt Ideal e) : View.ld (Val := Elt Ideal) (e' := e) X (Rect.unit (s := ⟨2, ![256, 1024]⟩) ![0, 0] ![256, 1024] inb_S256x1024_S256x1024_0_0) = X := by
  funext j
  refine (ld_apply2 X _ j (j 0) (j 1) (Nat.zero_add _).symm (Nat.zero_add _).symm).trans (congrArg X (funext fun x => ?_))
  match x with
  | ⟨0, _⟩ => rfl
  | ⟨1, _⟩ => rfl

/-- Four columns of a tile are the tile. -/
theorem laid4 {e : EltTy} (X : (⟨2, ![4096, 1024]⟩ : Shape).Idx → Elt Ideal e) :
    View.canon (Val := Elt Ideal) (s := ⟨2, ![256, 1024]⟩) (e := e) [⟨Rect.unit ![0, 768] ![256, 256] inb_S256x1024_S256x256_0_768, htile 3 k X⟩,
      ⟨Rect.unit ![0, 512] ![256, 256] inb_S256x1024_S256x256_0_512, htile 2 k X⟩, ⟨Rect.unit ![0, 256] ![256, 256] inb_S256x1024_S256x256_0_256, htile 1 k X⟩,
      ⟨Rect.unit ![0, 0] ![256, 256] inb_S256x1024_S256x256_0_0, htile 0 k X⟩] = tile k X := by
  funext y
  have hw : ∀ g : Fin 4, ∀ (i : Fin 256) (l : Fin 256) (j : Fin 1024), j.val = 256 * g.val + l.val → htile g k X (ValueIdx.ix2 i l) = tile k X (ValueIdx.ix2 i j) := fun g i l j h =>
    congrArg X ((ix2_inj _ _ _ _).mpr ⟨rfl, Fin.ext (by show g.val * 256 + l.val = j.val; omega)⟩)
  have ey : y = ValueIdx.ix2 (y 0) (y 1) := funext fun x => by
    match x with
    | ⟨0, _⟩ => rfl
    | ⟨1, _⟩ => rfl
  rw [ey]
  have hy : (y 1).val < 1024 := (y 1).isLt
  refine cols_cons (tile k X) (fun _ => True) (hw 3) (fun i j h3 => ?_) (y 0) (y 1) trivial
  refine cols_cons (tile k X) (fun j => j.val < 768) (hw 2) (fun i j h2 => ?_) i j (by have := j.isLt; omega)
  refine cols_cons (tile k X) (fun j => j.val < 512) (hw 1) (fun i j h1 => ?_) i j (by omega)
  refine cols_cons (tile k X) (fun j => j.val < 256) (hw 0) (fun i j h0 => ?_) i j (by omega)
  omega

section Rows

variable (X : Vec Ideal S4096x1024 .f32)

/-- The sixteen rows above tile `k` in a scratch. -/
def Halo (k : Nat) (X : Vec Ideal S4096x1024 .f32) (s : Vec Ideal S272x1024 .f32) : Prop :=
  ∀ (r : Fin 16) (l : Fin 1024), s (ValueIdx.ix2 ⟨r.val, by omega⟩ l) = if 16 ≤ 256 * k + r.val then ext X l (256 * k + r.val - 16) else 0

/-- A scratch read `16 - a` rows above its tile. -/
theorem above_read (L : List (View.Piece (Elt Ideal) S272x1024 .f32)) (a b q : Nat) (hL : a < 16 → Halo k.val X (View.canon L)) (hb : b + q ≤ 1024)
    (inb : ∀ x, (![a, b] : Fin 2 → Nat) x + (![256, q] : Fin 2 → Nat) x ≤ (![272, 1024] : Fin 2 → Nat) x) (j : (⟨2, ![256, q]⟩ : Shape).Idx) (l : Fin 1024) (hl : l.val = b + (j 1).val) :
    View.ld (View.canon (⟨Rect.unit ![16, 0] ![256, 1024] inb_S272x1024_S256x1024_16_0, tile k X⟩ :: L)) (Rect.unit (s := ⟨2, ![272, 1024]⟩) ![a, b] ![256, q] inb) j
      = if 16 - a ≤ 256 * k.val + (j 0).val then ext X l (256 * k.val + (j 0).val - (16 - a)) else 0 := by
  have ha : a + 256 ≤ 272 := inb 0
  have hj : (j 0).val < 256 := (j 0).isLt
  have hk := k.isLt
  refine (ld_apply2 _ inb j ⟨a + (j 0).val, by omega⟩ l rfl hl).trans ?_
  by_cases h : 16 ≤ a + (j 0).val
  · refine (canon_hit _ _ _ (⟨a + (j 0).val, by omega⟩ : Fin 272) l ⟨a + (j 0).val - 16, by omega⟩ l (by show a + (j 0).val = 16 + (a + (j 0).val - 16); omega) (Nat.zero_add _).symm).trans ?_
    rw [if_pos (by omega)]
    unfold ext
    rw [dif_pos (by omega)]
    exact congrArg X ((ix2_inj _ _ _ _).mpr ⟨Fin.ext (by show 256 * k.val + (a + (j 0).val - 16) = 256 * k.val + (j 0).val - (16 - a); omega), rfl⟩)
  · refine (canon_miss _ _ _ (⟨a + (j 0).val, by omega⟩ : Fin 272) l (by left; show a + (j 0).val < 16; omega)).trans ?_
    refine (hL (by omega) ⟨a + (j 0).val, by omega⟩ l).trans ?_
    show (if 16 ≤ 256 * k.val + (a + (j 0).val) then ext X l (256 * k.val + (a + (j 0).val) - 16) else 0) = _
    have e1 : (16 ≤ 256 * k.val + (a + (j 0).val)) = (16 - a ≤ 256 * k.val + (j 0).val) := propext ⟨fun _ => by omega, fun _ => by omega⟩
    have e2 : 256 * k.val + (a + (j 0).val) - 16 = 256 * k.val + (j 0).val - (16 - a) := by omega
    simp only [e1, e2]

/-- Whole rows, for the convolution; -/
theorem rows_read (L : List (View.Piece (Elt Ideal) S272x1024 .f32)) (hL : Halo k.val X (View.canon L)) (a : Nat)
    (inb : ∀ x, (![a, 0] : Fin 2 → Nat) x + (![256, 1024] : Fin 2 → Nat) x ≤ (![272, 1024] : Fin 2 → Nat) x) :
    View.ld (View.canon (⟨Rect.unit ![16, 0] ![256, 1024] inb_S272x1024_S256x1024_16_0, tile k X⟩ :: L)) (Rect.unit (s := ⟨2, ![272, 1024]⟩) ![a, 0] ![256, 1024] inb) = above (16 - a) k X :=
  funext fun j => above_read k X L a 0 1024 (fun _ => hL) (by omega) inb j (j 1) (Nat.zero_add _).symm

/-- a group's columns, for the pool. -/
theorem grp_read (L : List (View.Piece (Elt Ideal) S272x1024 .f32)) (a : Nat) (hL : a < 16 → Halo k.val X (View.canon L)) (g : Fin 4)
    (inb : ∀ x, (![a, g.val * 256] : Fin 2 → Nat) x + (![256, 256] : Fin 2 → Nat) x ≤ (![272, 1024] : Fin 2 → Nat) x) :
    View.ld (View.canon (⟨Rect.unit ![16, 0] ![256, 1024] inb_S272x1024_S256x1024_16_0, tile k X⟩ :: L)) (Rect.unit (s := ⟨2, ![272, 1024]⟩) ![a, g.val * 256] ![256, 256] inb) = grp g (16 - a) k X :=
  funext fun j => above_read k X L a (g.val * 256) 256 hL (by omega) inb j (hcol g (j 1)) rfl

theorem grp0_read (L : List (View.Piece (Elt Ideal) S272x1024 .f32)) (hL : Halo k.val X (View.canon L)) (a : Nat)
    (inb : ∀ x, (![a, 0] : Fin 2 → Nat) x + (![256, 256] : Fin 2 → Nat) x ≤ (![272, 1024] : Fin 2 → Nat) x) :
    View.ld (View.canon (⟨Rect.unit ![16, 0] ![256, 1024] inb_S272x1024_S256x1024_16_0, tile k X⟩ :: L)) (Rect.unit (s := ⟨2, ![272, 1024]⟩) ![a, 0] ![256, 256] inb) = grp 0 (16 - a) k X :=
  grp_read k X L a (fun _ => hL) 0 inb
theorem own0_read (L : List (View.Piece (Elt Ideal) S272x1024 .f32)) :
    View.ld (View.canon (⟨Rect.unit ![16, 0] ![256, 1024] inb_S272x1024_S256x1024_16_0, tile k X⟩ :: L)) (Rect.unit (s := ⟨2, ![272, 1024]⟩) ![16, 0] ![256, 256] inb_S272x1024_S256x256_16_0) = grp 0 0 k X :=
  grp_read k X L 16 (fun h => absurd h (by decide)) 0 _
theorem grp1_read (L : List (View.Piece (Elt Ideal) S272x1024 .f32)) (hL : Halo k.val X (View.canon L)) (a : Nat)
    (inb : ∀ x, (![a, 256] : Fin 2 → Nat) x + (![256, 256] : Fin 2 → Nat) x ≤ (![272, 1024] : Fin 2 → Nat) x) :
    View.ld (View.canon (⟨Rect.unit ![16, 0] ![256, 1024] inb_S272x1024_S256x1024_16_0, tile k X⟩ :: L)) (Rect.unit (s := ⟨2, ![272, 1024]⟩) ![a, 256] ![256, 256] inb) = grp 1 (16 - a) k X :=
  grp_read k X L a (fun _ => hL) 1 inb
theorem own1_read (L : List (View.Piece (Elt Ideal) S272x1024 .f32)) :
    View.ld (View.canon (⟨Rect.unit ![16, 0] ![256, 1024] inb_S272x1024_S256x1024_16_0, tile k X⟩ :: L)) (Rect.unit (s := ⟨2, ![272, 1024]⟩) ![16, 256] ![256, 256] inb_S272x1024_S256x256_16_256) = grp 1 0 k X :=
  grp_read k X L 16 (fun h => absurd h (by decide)) 1 _
theorem grp2_read (L : List (View.Piece (Elt Ideal) S272x1024 .f32)) (hL : Halo k.val X (View.canon L)) (a : Nat)
    (inb : ∀ x, (![a, 512] : Fin 2 → Nat) x + (![256, 256] : Fin 2 → Nat) x ≤ (![272, 1024] : Fin 2 → Nat) x) :
    View.ld (View.canon (⟨Rect.unit ![16, 0] ![256, 1024] inb_S272x1024_S256x1024_16_0, tile k X⟩ :: L)) (Rect.unit (s := ⟨2, ![272, 1024]⟩) ![a, 512] ![256, 256] inb) = grp 2 (16 - a) k X :=
  grp_read k X L a (fun _ => hL) 2 inb
theorem own2_read (L : List (View.Piece (Elt Ideal) S272x1024 .f32)) :
    View.ld (View.canon (⟨Rect.unit ![16, 0] ![256, 1024] inb_S272x1024_S256x1024_16_0, tile k X⟩ :: L)) (Rect.unit (s := ⟨2, ![272, 1024]⟩) ![16, 512] ![256, 256] inb_S272x1024_S256x256_16_512) = grp 2 0 k X :=
  grp_read k X L 16 (fun h => absurd h (by decide)) 2 _
theorem grp3_read (L : List (View.Piece (Elt Ideal) S272x1024 .f32)) (hL : Halo k.val X (View.canon L)) (a : Nat)
    (inb : ∀ x, (![a, 768] : Fin 2 → Nat) x + (![256, 256] : Fin 2 → Nat) x ≤ (![272, 1024] : Fin 2 → Nat) x) :
    View.ld (View.canon (⟨Rect.unit ![16, 0] ![256, 1024] inb_S272x1024_S256x1024_16_0, tile k X⟩ :: L)) (Rect.unit (s := ⟨2, ![272, 1024]⟩) ![a, 768] ![256, 256] inb) = grp 3 (16 - a) k X :=
  grp_read k X L a (fun _ => hL) 3 inb
theorem own3_read (L : List (View.Piece (Elt Ideal) S272x1024 .f32)) :
    View.ld (View.canon (⟨Rect.unit ![16, 0] ![256, 1024] inb_S272x1024_S256x1024_16_0, tile k X⟩ :: L)) (Rect.unit (s := ⟨2, ![272, 1024]⟩) ![16, 768] ![256, 256] inb_S272x1024_S256x256_16_768) = grp 3 0 k X :=
  grp_read k X L 16 (fun h => absurd h (by decide)) 3 _

/-- Nothing is above the first tile. -/
theorem halo_zero (k : Nat) (hk : k = 0) (w : Vec Ideal S16x1024 .f32) (hw : ∀ i, w i = 0) :
    Halo k X (View.canon [⟨Rect.unit ![0, 0] ![16, 1024] inb_S272x1024_S16x1024_0_0, w⟩]) := fun r l => by
  refine (canon_hit _ _ _ (⟨r.val, by omega⟩ : Fin 272) l r l (Nat.zero_add _).symm (Nat.zero_add _).symm).trans ((hw _).trans ?_)
  rw [if_neg (by omega)]

theorem pay3_zero (i : S16x1024.Idx) : k0_pay3 (F := Ideal) i = 0 := Ideal.ofBits_zero_f32
theorem pay4_zero (i : S16x1024.Idx) : k0_pay4 (F := Ideal) i = 0 := Ideal.ofBits_zero_f32

/-- What was carried is above the tile. -/
theorem halo_whole {k : Nat} {X : Vec Ideal S4096x1024 .f32} {s : Vec Ideal S272x1024 .f32} (hs : Halo k X s)
    (inb : ∀ x, (fun _ => 0 : Fin S272x1024.rank → Nat) x + S272x1024.size x ≤ S272x1024.size x) :
    Halo k X (View.canon (Val := Elt Ideal) (s := S272x1024) (e := .f32) [⟨Rect.unit (fun _ => 0) S272x1024.size inb, s⟩]) := fun r l =>
  (congrFun (View.canon_cons_unit_zero (Val := Elt Ideal) (S := S272x1024) (e := .f32) rfl _ _ _) _).trans (hs r l)

/-- The tile's last rows, kept for the tile below. -/
theorem next_rows (L M : List (View.Piece (Elt Ideal) S272x1024 .f32)) (f : Vec Ideal S16x1024 .f32 → Vec Ideal S16x1024 .f32) (hf : ∀ v, f v = v) :
    Halo (k.val + 1) X (View.canon (⟨Rect.unit ![0, 0] ![16, 1024] inb_S272x1024_S16x1024_0_0,
      f (View.ld (View.canon (⟨Rect.unit ![16, 0] ![256, 1024] inb_S272x1024_S256x1024_16_0, tile k X⟩ :: L)) (Rect.unit (s := ⟨2, ![272, 1024]⟩) ![256, 0] ![16, 1024] inb_S272x1024_S16x1024_256_0))⟩ :: M)) := fun r l => by
  have hk := k.isLt
  refine (canon_hit _ _ _ (⟨r.val, by omega⟩ : Fin 272) l r l (Nat.zero_add _).symm (Nat.zero_add _).symm).trans ((congrFun (hf _) _).trans ?_)
  refine (ld_apply2 _ inb_S272x1024_S16x1024_256_0 (ValueIdx.ix2 r l) ⟨256 + r.val, by omega⟩ l rfl (Nat.zero_add _).symm).trans ?_
  refine (canon_hit _ _ _ (⟨256 + r.val, by omega⟩ : Fin 272) l ⟨240 + r.val, by omega⟩ l (by show 256 + r.val = 16 + (240 + r.val); omega) (Nat.zero_add _).symm).trans ?_
  rw [if_pos (by omega)]
  unfold ext
  rw [dif_pos (by omega)]
  exact congrArg X ((ix2_inj _ _ _ _).mpr ⟨Fin.ext (by show 256 * k.val + (240 + r.val) = 256 * (k.val + 1) + r.val - 16; omega), rfl⟩)

theorem pay1_id (v : Vec Ideal S16x1024 .f32) : k0_pay1 (F := Ideal) v = v := shapeCast_self _ _
theorem pay2_id (v : Vec Ideal S16x1024 .f32) : k0_pay2 (F := Ideal) v = v := shapeCast_self _ _

end Rows

/-- A read of what was stored. -/
theorem cov {sig : RefSig} {κ : Kind} {sp : Space} {s : Shape} {e : EltTy} (v : View sig κ sp s e) (L : List (View.Piece (Elt Ideal) s e)) (r : Rect s) :
    v.readCov (Val := Elt Ideal) L r.toLoadRect = View.ld (View.canon L) r := by
  rw [View.readCov_eq_canon']

/-- A scratch stored over what was carried. -/
theorem over0 (h : (Memref.whole cc0_scratch0).IsWhole) (s : Vec Ideal S272x1024 .f32) (L : List (View.Piece (Elt Ideal) S272x1024 .f32)) :
    View.read (Elt Ideal) (View.whole cc0_scratch0) ((View.whole cc0_scratch0).writes (Elt Ideal) (h.unread s) L)
      = View.canon (L ++ [⟨Rect.unit (fun _ => 0) S272x1024.size (fun x => by rw [Nat.zero_add]), s⟩]) := by
  rw [read_over _ _ (fun x => by rw [Nat.zero_add]), read_unread_whole]
  rfl
theorem over1 (h : (Memref.whole cc0_scratch1).IsWhole) (s : Vec Ideal S272x1024 .f32) (L : List (View.Piece (Elt Ideal) S272x1024 .f32)) :
    View.read (Elt Ideal) (View.whole cc0_scratch1) ((View.whole cc0_scratch1).writes (Elt Ideal) (h.unread s) L)
      = View.canon (L ++ [⟨Rect.unit (fun _ => 0) S272x1024.size (fun x => by rw [Nat.zero_add]), s⟩]) := by
  rw [read_over _ _ (fun x => by rw [Nat.zero_add]), read_unread_whole]
  rfl

end Cert.MixFwdKernelIdeal.Fwd

end
-- ==== Proof.MixFwd.Heads.lean ====
/- WHAT THE POINTS LEAVE: a tile of each of the nine results, and the two scratches' rows for the tile below. -/
module

public import proofs.«01_k».proof.Proof.MixFwd.Reads

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext)
open Cert.Reals

section Stages

variable (k : Fin 16) (a0 : Vec Ideal S4096x8192 .f32) (a2 : Vec Ideal S1x3x1024 .f32) (a3 : Vec Ideal S1x1024x1024 .f32) (a6 a7 : Vec Ideal S256x1024 .f32) (a8 : Vec Ideal S1x1024x1024 .f32)

theorem ya_kept : k0_pay9 (F := Ideal) (tile k (val_main_v29 a0 a2)) (val_main_v126 a3) = tile k (val_main_v127 a0 a2 a3) := ya_tile k a0 a2 a3
theorem yx_kept : k0_pay33 (F := Ideal) (tile k (val_main_v123 a0 a6 a7)) (val_main_v128 a8) = tile k (val_main_v129 a0 a6 a7 a8) := yx_tile k a0 a6 a7 a8

variable (hU : ∀ i, IsReal (val_main_v3 a0 i))
include hU

theorem pool0_laid : k0_pay11 (F := Ideal) (BitVec.ofNat 32 k.val) (grp 0 0 k (val_main_v3 a0)) (grp 0 1 k (val_main_v3 a0)) = htile 0 k (val_main_v130 a0) :=
  (pool0_tile k a0 hU).trans (laid0_tile k a0).symm
theorem pool1_laid : k0_pay14 (F := Ideal) (BitVec.ofNat 32 k.val) (grp 1 0 k (val_main_v3 a0)) (grp 1 1 k (val_main_v3 a0)) (grp 1 2 k (val_main_v3 a0)) (grp 1 3 k (val_main_v3 a0)) = htile 1 k (val_main_v130 a0) :=
  (pool1_tile k a0 hU).trans (laid1_tile k a0).symm
theorem pool2_laid : k0_pay16 (F := Ideal) (BitVec.ofNat 32 k.val) (grp 2 0 k (val_main_v3 a0)) (grp 2 1 k (val_main_v3 a0)) (grp 2 2 k (val_main_v3 a0)) (grp 2 3 k (val_main_v3 a0)) (grp 2 4 k (val_main_v3 a0)) (grp 2 5 k (val_main_v3 a0)) (grp 2 6 k (val_main_v3 a0)) (grp 2 7 k (val_main_v3 a0)) = htile 2 k (val_main_v130 a0) :=
  (pool2_tile k a0 hU).trans (laid2_tile k a0).symm
theorem pool3_laid : k0_pay19 (F := Ideal) (BitVec.ofNat 32 k.val) (grp 3 0 k (val_main_v3 a0)) (part3 k a0) (grp 3 15 k (val_main_v3 a0)) = htile 3 k (val_main_v130 a0) :=
  (pool3_tile k a0 hU).trans (laid3_tile k a0).symm

omit hU
variable (hS : ∀ g t, val_main_v117 a0 a6 (ValueIdx.ix2 g t) ≠ 0)
include hS

theorem probs_of (g : Fin 4) : k0_pay30 (F := Ideal) (k0_pay29 (htile g k (val_main_v4 a0)) (hblk g a6)) = htile g k (val_main_v125 a0 a6) := by
  rw [scores_head, probs_head g k a0 a6 hS]
  exact (laid_head g k a0 a6).symm
theorem o_of (g : Fin 4) : k0_pay31 (F := Ideal) (k0_pay29 (htile g k (val_main_v4 a0)) (hblk g a6)) (hblk g a7) = htile g k (val_main_v123 a0 a6 a7) := by
  rw [scores_head, o_head g k a0 a6 a7 hS]

theorem probs0 : k0_pay23 (F := Ideal) (k0_pay21 (htile 0 k (val_main_v4 a0)) (hblk 0 a6)) (k0_pay22 (htile 0 k (val_main_v4 a0)) (hblk 0 a6)) = htile 0 k (val_main_v125 a0 a6) := probs_of k a0 a6 hS 0
theorem probs1 : k0_pay25 (F := Ideal) (htile 1 k (val_main_v4 a0)) (hblk 1 a6) = htile 1 k (val_main_v125 a0 a6) := probs_of k a0 a6 hS 1
theorem probs2 : k0_pay27 (F := Ideal) (htile 2 k (val_main_v4 a0)) (hblk 2 a6) = htile 2 k (val_main_v125 a0 a6) := probs_of k a0 a6 hS 2
theorem o0 : k0_pay24 (F := Ideal) (k0_pay21 (htile 0 k (val_main_v4 a0)) (hblk 0 a6)) (k0_pay22 (htile 0 k (val_main_v4 a0)) (hblk 0 a6)) (hblk 0 a7) = htile 0 k (val_main_v123 a0 a6 a7) := o_of k a0 a6 a7 hS 0
theorem o1 : k0_pay26 (F := Ideal) (htile 1 k (val_main_v4 a0)) (hblk 1 a6) (hblk 1 a7) = htile 1 k (val_main_v123 a0 a6 a7) := o_of k a0 a6 a7 hS 1
theorem o2 : k0_pay28 (F := Ideal) (htile 2 k (val_main_v4 a0)) (hblk 2 a6) (hblk 2 a7) = htile 2 k (val_main_v123 a0 a6 a7) := o_of k a0 a6 a7 hS 2

end Stages

end Cert.MixFwdKernelIdeal.Fwd

end
-- ==== Proof.MixFwd.Points.lean ====
/- WHAT THE POINTS LEAVE: a tile of each of the nine results, and the two scratches' rows for the tile below. -/
module

public import proofs.«01_k».proof.Proof.MixFwd.Heads

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext)
open Cert.Reals

variable (m : (ℓ : Loc nD τ sig) → Buf (Elt Ideal) ℓ) (c : Dev nD) (t : Fin cfg0.N)

/-- What point `t` leaves. -/
structure Left : Prop where
  a : (outsAt0 m c t.val t.isLt).1 = tile (kk t) (val_main_v29 (F := Ideal) (A0 m c) (A2 m c))
  pooled : (outsAt0 m c t.val t.isLt).2.1 = tile (kk t) (val_main_v130 (F := Ideal) (A0 m c))
  ya : (outsAt0 m c t.val t.isLt).2.2.1 = tile (kk t) (val_main_v127 (F := Ideal) (A0 m c) (A2 m c) (A3 m c))
  pp : (outsAt0 m c t.val t.isLt).2.2.2.1 = tile (kk t) (val_main_v103 (F := Ideal) (A0 m c) (A4 m c))
  yx : (outsAt0 m c t.val t.isLt).2.2.2.2.1 = tile (kk t) (val_main_v129 (F := Ideal) (A0 m c) (A6 m c) (A7 m c) (A8 m c))
  o : (outsAt0 m c t.val t.isLt).2.2.2.2.2.1 = tile (kk t) (val_main_v123 (F := Ideal) (A0 m c) (A6 m c) (A7 m c))
  probs : (outsAt0 m c t.val t.isLt).2.2.2.2.2.2.1 = tile (kk t) (val_main_v125 (F := Ideal) (A0 m c) (A6 m c))
  merged : (outsAt0 m c t.val t.isLt).2.2.2.2.2.2.2.1 = tile (kk t) (val_main_v160 (F := Ideal) (A0 m c) (A2 m c) (A3 m c) (A4 m c) (A5 m c) (A6 m c) (A7 m c) (A8 m c))
  x1 : (outsAt0 m c t.val t.isLt).2.2.2.2.2.2.2.2.1 = tile (kk t) (val_main_v163 (F := Ideal) (A0 m c) (A1 m c) (A2 m c) (A3 m c) (A4 m c) (A5 m c) (A6 m c) (A7 m c) (A8 m c) (A9 m c))
  rows0 : Halo ((kk t).val + 1) (val_main_v5 (F := Ideal) (A0 m c)) (outsAt0 m c t.val t.isLt).2.2.2.2.2.2.2.2.2.1
  rows1 : Halo ((kk t).val + 1) (val_main_v3 (F := Ideal) (A0 m c)) (outsAt0 m c t.val t.isLt).2.2.2.2.2.2.2.2.2.2

variable (hU : ∀ i, IsReal (val_main_v3 (A0 m c) i)) (hS : ∀ g t, val_main_v117 (A0 m c) (A6 m c) (ValueIdx.ix2 g t) ≠ 0)

include hU hS in
set_option maxHeartbeats 4000000 in
/-- The first point, over zeros; -/
theorem left_A (h : t.val % 16 = 0) : Left m c t := by
  have hk : (kk t).val = 0 := by have := t.isLt; have : t.val < 16 := this; show t.val = 0; omega
  have h0 := halo_zero (val_main_v5 (F := Ideal) (A0 m c)) (kk t).val hk _ pay3_zero
  have h1 := halo_zero (val_main_v3 (F := Ideal) (A0 m c)) (kk t).val hk _ pay4_zero
  refine ⟨?_, ?_, ?_, ?_, ?_, ?_, ?_, ?_, ?_, ?_, ?_⟩ <;> (
    rw [outsAt0_A m c t h]
    dsimp only
    frame_out
    simp only [word, blk_0, blk_1, blk_2, blk_3, blk_4, blk_5, blk_6, blk_7, blk_8, blk_9,
      ld_0, ld_1024, ld_2048, ld_3072, ld_5120, ld_6144, ld_7168, ld_q0, ld_q1, ld_q2, ld_q3, ld_b0, ld_b1, ld_b2, ld_b3, ld_w0, ld_w1, ld_w2, ld_w3, ld_c0, ld_c1, ld_c2,
      cu_tile, up_tile, over0, over1, List.cons_append, List.nil_append, cov,
      own0_read, own1_read, own2_read, own3_read, rows_read _ _ _ h0, grp0_read _ _ _ h1, grp1_read _ _ _ h1, grp2_read _ _ _ h1, grp3_read _ _ _ h1,
      Nat.reduceSub, a_tile, ya_kept, ya_tile, yx_kept, yx_tile, pool0_laid _ _ hU, pool1_laid _ _ hU, pool2_laid _ _ hU, pool3_laid _ _ hU, pp0_tile _ _ _ hU, pp1_tile _ _ _ hU, pp2_tile _ _ _ hU, pp3_tile _ _ _ hU,
      probs0 _ _ _ hS, probs1 _ _ _ hS, probs2 _ _ _ hS, probs_of _ _ _ hS, o0 _ _ _ _ hS, o1 _ _ _ _ hS, o2 _ _ _ _ hS, o_of _ _ _ _ hS, laid4, ld_all, merged_tile, x1_tile])
  · exact next_rows (kk t) _ _ _ k0_pay1 pay1_id
  · exact next_rows (kk t) _ _ _ k0_pay2 pay2_id

include hU hS in
set_option maxHeartbeats 4000000 in
/-- a later point, over the rows kept. -/
theorem left_B (h : ¬t.val % 16 = 0)
    (G0 : Halo (kk t).val (val_main_v5 (F := Ideal) (A0 m c)) (outsAt0 m c (t.val - 1) (by have := t.isLt; omega)).2.2.2.2.2.2.2.2.2.1)
    (G1 : Halo (kk t).val (val_main_v3 (F := Ideal) (A0 m c)) (outsAt0 m c (t.val - 1) (by have := t.isLt; omega)).2.2.2.2.2.2.2.2.2.2) : Left m c t := by
  have h0 := halo_whole G0 (fun x => by rw [Nat.zero_add])
  have h1 := halo_whole G1 (fun x => by rw [Nat.zero_add])
  refine ⟨?_, ?_, ?_, ?_, ?_, ?_, ?_, ?_, ?_, ?_, ?_⟩ <;> (
    rw [outsAt0_B m c t h]
    dsimp only
    frame_out
    simp only [word, blk_0, blk_1, blk_2, blk_3, blk_4, blk_5, blk_6, blk_7, blk_8, blk_9,
      ld_0, ld_1024, ld_2048, ld_3072, ld_5120, ld_6144, ld_7168, ld_q0, ld_q1, ld_q2, ld_q3, ld_b0, ld_b1, ld_b2, ld_b3, ld_w0, ld_w1, ld_w2, ld_w3, ld_c0, ld_c1, ld_c2,
      cu_tile, up_tile, over0, over1, List.cons_append, List.nil_append, cov,
      own0_read, own1_read, own2_read, own3_read, rows_read _ _ _ h0, grp0_read _ _ _ h1, grp1_read _ _ _ h1, grp2_read _ _ _ h1, grp3_read _ _ _ h1,
      Nat.reduceSub, a_tile, ya_kept, ya_tile, yx_kept, yx_tile, pool0_laid _ _ hU, pool1_laid _ _ hU, pool2_laid _ _ hU, pool3_laid _ _ hU, pp0_tile _ _ _ hU, pp1_tile _ _ _ hU, pp2_tile _ _ _ hU, pp3_tile _ _ _ hU,
      probs0 _ _ _ hS, probs1 _ _ _ hS, probs2 _ _ _ hS, probs_of _ _ _ hS, o0 _ _ _ _ hS, o1 _ _ _ _ hS, o2 _ _ _ _ hS, o_of _ _ _ _ hS, laid4, ld_all, merged_tile, x1_tile])
  · exact next_rows (kk t) _ _ _ k0_pay1 pay1_id
  · exact next_rows (kk t) _ _ _ k0_pay2 pay2_id

include hU hS in
/-- Every point. -/
theorem left_at : ∀ (n : Nat) (hn : n < cfg0.N), Left m c ⟨n, hn⟩
  | 0, hn => left_A m c ⟨0, hn⟩ hU hS rfl
  | n + 1, hn => by
    have hN : n + 1 < 16 := hn
    have G := left_at n (by omega)
    exact left_B m c ⟨n + 1, hn⟩ hU hS (by show ¬(n + 1) % 16 = 0; omega) G.rows0 G.rows1

include hU hS in
theorem left (t : Fin cfg0.N) : Left m c t := left_at m c hU hS t.val t.isLt

end Cert.MixFwdKernelIdeal.Fwd

end
-- ==== Proof.MixFwd.Values.lean ====
/- THE RESULTS of the mixer's forward call: tile by tile, the reference's. -/
module

public import proofs.«01_k».proof.Proof.MixFwd.Points
public import proofs.«01_k».proof.Proof.Gen.MixFwdKernelIdeal.Value
public import proofs.«01_k».proof.Proof.Gen.Pre_finite_fwd

@[expose] public section

set_option maxRecDepth 16384

noncomputable section

namespace Cert.MixFwdKernelIdeal.Fwd

open Idealize.ShloMosaic Idealize.ShloMosaic.TcCoe Idealize.ShloMosaic.Tactic
open Cert.MixFwdKernelIdeal.Gen
open Cert.MixFwdReferenceIdeal.Read
open Cert.MixKernelIdeal.Mix (row tile hcol htile hblk slab head_div head_col wrow ext)
open Cert.Reals

variable (m : (ℓ : Loc nD τ sig) → Buf (Elt Ideal) ℓ) (c : Dev nD) (ρ : Dev nD → PrngReg)

theorem idx_out : ∀ t : Fin cfg0.N, (cfg0.win 10).index t = ![t.val, 0] ∧ (cfg0.win 11).index t = ![t.val, 0] ∧ (cfg0.win 12).index t = ![t.val, 0] ∧ (cfg0.win 13).index t = ![t.val, 0] ∧ (cfg0.win 14).index t = ![t.val, 0] ∧ (cfg0.win 15).index t = ![t.val, 0] ∧ (cfg0.win 16).index t = ![t.val, 0] ∧ (cfg0.win 17).index t = ![t.val, 0] ∧ (cfg0.win 18).index t = ![t.val, 0] := by decide +kernel

/-- What the call's values take: the pool's input, the queries and the keys are finite. -/
structure Finite (a0 : Vec Ideal S4096x8192 .f32) (a6 : Vec Ideal S256x1024 .f32) : Prop where
  h3 : ∀ i, IsReal (val_main_v3 (F := Ideal) a0 i)
  h4 : ∀ i, IsReal (val_main_v4 (F := Ideal) a0 i)
  h6 : ∀ i, IsReal (a6 i)

theorem finite_of_pre [Cert.Pre_finite_fwd.Facts] (a0 : Vec Ideal S4096x8192 .f32) (a1 : Vec Ideal S4096x1024 .f32) (a2 : Vec Ideal S1x3x1024 .f32) (a3 : Vec Ideal S1x1024x1024 .f32)
    (a4 : Vec Ideal S1x4x256x256 .f32) (a5 : Vec Ideal S1x1024 .f32) (a6 a7 : Vec Ideal S256x1024 .f32) (a8 a9 : Vec Ideal S1x1024x1024 .f32) (j)
    (h : Cert.Pre_finite_fwd.fn (F := Ideal) a0 a1 a2 a3 a4 a5 a6 a7 a8 a9 j = 1#1) : Finite a0 a6 := by
  haveI : Subsingleton Cert.Pre_finite_fwd.S_.Idx := ⟨fun a b => funext fun x => x.elim0⟩
  obtain ⟨h, r6⟩ := andi_one h
  obtain ⟨r3, r4⟩ := andi_one h
  exact ⟨real_of_all _ _ _ (fun _ => rfl) (fun _ => rfl) _ _ _ _ r3, real_of_all _ _ _ (fun _ => rfl) (fun _ => rfl) _ _ _ _ r4,
    real_of_all _ _ _ (fun _ => rfl) (fun _ => rfl) _ _ _ _ r6⟩

section Arrays

variable (H : Finite (A0 m c) (A6 m c))
include H

theorem left_of (t : Fin cfg0.N) : Left m c t := left m c H.h3 (fun g n => ne_v117 g (A0 m c) (A6 m c) H.h4 H.h6 n) t

theorem arr_a : (dats m 0 c).arrAt 10 cfg0.N = val_main_v29 (F := Ideal) (A0 m c) (A2 m c) := by
  refine (dats m 0 c).arrAt_eq_of_covers 10 _ (by decide +kernel) fun t hf y => ?_
  have e := (idx_out t).1
  rw [after0_10, (left_of m c H t).a]
  generalize val_main_v29 (F := Ideal) (A0 m c) (A2 m c) = X
  blk_simp
  show X _ = X _
  blk_ext [e, kk]

theorem arr_pooled : (dats m 0 c).arrAt 11 cfg0.N = val_main_v130 (F := Ideal) (A0 m c) := by
  refine (dats m 0 c).arrAt_eq_of_covers 11 _ (by decide +kernel) fun t hf y => ?_
  have e := (idx_out t).2.1
  rw [after0_11, (left_of m c H t).pooled]
  generalize val_main_v130 (F := Ideal) (A0 m c) = X
  blk_simp
  show X _ = X _
  blk_ext [e, kk]

theorem arr_ya : (dats m 0 c).arrAt 12 cfg0.N = val_main_v127 (F := Ideal) (A0 m c) (A2 m c) (A3 m c) := by
  refine (dats m 0 c).arrAt_eq_of_covers 12 _ (by decide +kernel) fun t hf y => ?_
  have e := (idx_out t).2.2.1
  rw [after0_12, (left_of m c H t).ya]
  generalize val_main_v127 (F := Ideal) (A0 m c) (A2 m c) (A3 m c) = X
  blk_simp
  show X _ = X _
  blk_ext [e, kk]

theorem arr_pp : (dats m 0 c).arrAt 13 cfg0.N = val_main_v103 (F := Ideal) (A0 m c) (A4 m c) := by
  refine (dats m 0 c).arrAt_eq_of_covers 13 _ (by decide +kernel) fun t hf y => ?_
  have e := (idx_out t).2.2.2.1
  rw [after0_13, (left_of m c H t).pp]
  generalize val_main_v103 (F := Ideal) (A0 m c) (A4 m c) = X
  blk_simp
  show X _ = X _
  blk_ext [e, kk]

theorem arr_yx : (dats m 0 c).arrAt 14 cfg0.N = val_main_v129 (F := Ideal) (A0 m c) (A6 m c) (A7 m c) (A8 m c) := by
  refine (dats m 0 c).arrAt_eq_of_covers 14 _ (by decide +kernel) fun t hf y => ?_
  have e := (idx_out t).2.2.2.2.1
  rw [after0_14, (left_of m c H t).yx]
  generalize val_main_v129 (F := Ideal) (A0 m c) (A6 m c) (A7 m c) (A8 m c) = X
  blk_simp
  show X _ = X _
  blk_ext [e, kk]

theorem arr_o : (dats m 0 c).arrAt 15 cfg0.N = val_main_v123 (F := Ideal) (A0 m c) (A6 m c) (A7 m c) := by
  refine (dats m 0 c).arrAt_eq_of_covers 15 _ (by decide +kernel) fun t hf y => ?_
  have e := (idx_out t).2.2.2.2.2.1
  rw [after0_15, (left_of m c H t).o]
  generalize val_main_v123 (F := Ideal) (A0 m c) (A6 m c) (A7 m c) = X
  blk_simp
  show X _ = X _
  blk_ext [e, kk]

theorem arr_probs : (dats m 0 c).arrAt 16 cfg0.N = val_main_v125 (F := Ideal) (A0 m c) (A6 m c) := by
  refine (dats m 0 c).arrAt_eq_of_covers 16 _ (by decide +kernel) fun t hf y => ?_
  have e := (idx_out t).2.2.2.2.2.2.1
  rw [after0_16, (left_of m c H t).probs]
  generalize val_main_v125 (F := Ideal) (A0 m c) (A6 m c) = X
  blk_simp
  show X _ = X _
  blk_ext [e, kk]

theorem arr_merged : (dats m 0 c).arrAt 17 cfg0.N = val_main_v160 (F := Ideal) (A0 m c) (A2 m c) (A3 m c) (A4 m c) (A5 m c) (A6 m c) (A7 m c) (A8 m c) := by
  refine (dats m 0 c).arrAt_eq_of_covers 17 _ (by decide +kernel) fun t hf y => ?_
  have e := (idx_out t).2.2.2.2.2.2.2.1
  rw [after0_17, (left_of m c H t).merged]
  generalize val_main_v160 (F := Ideal) (A0 m c) (A2 m c) (A3 m c) (A4 m c) (A5 m c) (A6 m c) (A7 m c) (A8 m c) = X
  blk_simp
  show X _ = X _
  blk_ext [e, kk]

theorem arr_x1 : (dats m 0 c).arrAt 18 cfg0.N = val_main_v163 (F := Ideal) (A0 m c) (A1 m c) (A2 m c) (A3 m c) (A4 m c) (A5 m c) (A6 m c) (A7 m c) (A8 m c) (A9 m c) := by
  refine (dats m 0 c).arrAt_eq_of_covers 18 _ (by decide +kernel) fun t hf y => ?_
  have e := (idx_out t).2.2.2.2.2.2.2.2
  rw [after0_18, (left_of m c H t).x1]
  generalize val_main_v163 (F := Ideal) (A0 m c) (A1 m c) (A2 m c) (A3 m c) (A4 m c) (A5 m c) (A6 m c) (A7 m c) (A8 m c) (A9 m c) = X
  blk_simp
  show X _ = X _
  blk_ext [e, kk]

end Arrays

/-- The run: every result is the reference's, every argument is kept. -/
theorem run_values (HA : ∀ c, Finite (A0 m c) (A6 m c)) :
    θ_run defs (onTc (τ := τ) (main (F := Ideal))) ⟨m, fun _ => 0, ρ⟩ (fun r => ∀ c : Dev nD,
      r.2.mem ((c.tc : Thread nD τ).loc main_v14_0) = val_main_v29 (F := Ideal) (A0 m c) (A2 m c)
      ∧ r.2.mem ((c.tc : Thread nD τ).loc main_v14_1) = val_main_v130 (F := Ideal) (A0 m c)
      ∧ r.2.mem ((c.tc : Thread nD τ).loc main_v14_2) = val_main_v127 (F := Ideal) (A0 m c) (A2 m c) (A3 m c)
      ∧ r.2.mem ((c.tc : Thread nD τ).loc main_v14_3) = val_main_v103 (F := Ideal) (A0 m c) (A4 m c)
      ∧ r.2.mem ((c.tc : Thread nD τ).loc main_v14_4) = val_main_v129 (F := Ideal) (A0 m c) (A6 m c) (A7 m c) (A8 m c)
      ∧ r.2.mem ((c.tc : Thread nD τ).loc main_v14_5) = val_main_v123 (F := Ideal) (A0 m c) (A6 m c) (A7 m c)
      ∧ r.2.mem ((c.tc : Thread nD τ).loc main_v14_6) = val_main_v125 (F := Ideal) (A0 m c) (A6 m c)
      ∧ r.2.mem ((c.tc : Thread nD τ).loc main_v14_7) = val_main_v160 (F := Ideal) (A0 m c) (A2 m c) (A3 m c) (A4 m c) (A5 m c) (A6 m c) (A7 m c) (A8 m c)
      ∧ r.2.mem ((c.tc : Thread nD τ).loc main_v14_8) = val_main_v163 (F := Ideal) (A0 m c) (A1 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (Value.run_blocks m ρ)
  obtain ⟨h0, h1, h2, h3, h4, h5, h6, h7, h8, ha⟩ := h c
  exact ⟨h0.trans (arr_a m c (HA c)), h1.trans (arr_pooled m c (HA c)), h2.trans (arr_ya m c (HA c)), h3.trans (arr_pp m c (HA c)), h4.trans (arr_yx m c (HA c)), h5.trans (arr_o m c (HA c)), h6.trans (arr_probs m c (HA c)), h7.trans (arr_merged m c (HA c)), h8.trans (arr_x1 m c (HA c)), ha⟩

end Cert.MixFwdKernelIdeal.Fwd

end
-- ==== Proof.MixFwd.Claim.lean ====
/- THE VALUE CLAIM of the mixer's forward call. -/
module

public import proofs.«01_k».proof.Defs
public import proofs.«01_k».proof.Proof.MixFwd.Values
public import proofs.«01_k».proof.Proof.Gen.MixFwdReferenceIdeal
public import proofs.«01_k».proof.Proof.Gen.MixFwdReferenceIdeal.Read
public import Idealize.ShloMosaic.Lib.Quiescent

@[expose] public section

noncomputable section

namespace Cert.Proof

open Idealize.ShloMosaic Idealize.ShloMosaic.TcCoe Idealize.SL.Sem

open Cert.MixFwdKernelIdeal Cert.MixFwdReferenceIdeal.Read in
theorem algebraic_mixfwd : Cert.algebraic_MixFwdKernelIdeal_MixFwdReferenceIdeal_pre_finite_fwd
    (hMixFwdKernelIdeal := Cert.MixFwdKernelIdeal.Gen.facts) (hMixFwdReferenceIdeal := Cert.MixFwdReferenceIdeal.Gen.facts) (hPre_finite_fwd := Cert.Pre_finite_fwd.Gen.facts) := by
  intro m g m' g' hp hagree
  haveI := Cert.Pre_finite_fwd.Gen.facts
  refine ⟨_, _, _, _, _, _, _, _, _, Fwd.run_values m g fun c => Fwd.finite_of_pre _ _ _ _ _ _ _ _ _ _ (fun i => i.elim0) (congrFun (hp c) _), ?_⟩
  refine (θ_run _ _ _).mono (fun r h c => ?_) (Cert.MixFwdReferenceIdeal.Value.run m' g')
  obtain ⟨h0, h1, h2, h3, h4, h5, h6, h7, h8, ha⟩ := h c
  obtain ⟨a0, a1, a2, a3, a4, a5, a6, a7, a8, a9⟩ := hagree c
  have e0 : StableHlo.launchContents m' c (Proc.tc.devRef Cert.MixFwdReferenceIdeal.main_arg0) = Fwd.A0 m c := a0
  have e1 : StableHlo.launchContents m' c (Proc.tc.devRef Cert.MixFwdReferenceIdeal.main_arg1) = Fwd.A1 m c := a1
  have e2 : StableHlo.launchContents m' c (Proc.tc.devRef Cert.MixFwdReferenceIdeal.main_arg2) = Fwd.A2 m c := a2
  have e3 : StableHlo.launchContents m' c (Proc.tc.devRef Cert.MixFwdReferenceIdeal.main_arg3) = Fwd.A3 m c := a3
  have e4 : StableHlo.launchContents m' c (Proc.tc.devRef Cert.MixFwdReferenceIdeal.main_arg4) = Fwd.A4 m c := a4
  have e5 : StableHlo.launchContents m' c (Proc.tc.devRef Cert.MixFwdReferenceIdeal.main_arg5) = Fwd.A5 m c := a5
  have e6 : StableHlo.launchContents m' c (Proc.tc.devRef Cert.MixFwdReferenceIdeal.main_arg6) = Fwd.A6 m c := a6
  have e7 : StableHlo.launchContents m' c (Proc.tc.devRef Cert.MixFwdReferenceIdeal.main_arg7) = Fwd.A7 m c := a7
  have e8 : StableHlo.launchContents m' c (Proc.tc.devRef Cert.MixFwdReferenceIdeal.main_arg8) = Fwd.A8 m c := a8
  have e9 : StableHlo.launchContents m' c (Proc.tc.devRef Cert.MixFwdReferenceIdeal.main_arg9) = Fwd.A9 m c := a9
  refine ⟨h0.trans ((val_main_v164_eq _).trans ?_), h1.trans ((val_main_v165_eq _).trans ?_), h2.trans ((val_main_v166_eq _).trans ?_), h3.trans ((val_main_v167_eq _).trans ?_), h4.trans ((val_main_v168_eq _).trans ?_), h5.trans ((val_main_v169_eq _).trans ?_), h6.trans ((val_main_v170_eq _).trans ?_), h7.trans ((val_main_v171_eq _).trans ?_), h8.trans ((val_main_v163_eq _).trans ?_), ha⟩
  · rw [e0, e2]; rfl
  · rw [e0]; rfl
  · rw [e0, e2, e3]; rfl
  · rw [e0, e4]; rfl
  · rw [e0, e6, e7, e8]; rfl
  · rw [e0, e6, e7]; rfl
  · rw [e0, e6]; rfl
  · rw [e0, e2, e3, e4, e5, e6, e7, e8]; rfl
  · rw [e0, e1, e2, e3, e4, e5, e6, e7, e8, e9]

/-- The reference has host operations only: its frame is its run's, and it has no counter. -/
theorem quiescent_mixfwd_reference : Cert.quiescent_MixFwdReferenceIdeal (hMixFwdReferenceIdeal := Cert.MixFwdReferenceIdeal.Gen.facts) := fun m g _ =>
  (θ_run _ _ _).mono (fun _ h => ⟨fun c => (h c).2.2.2.2.2.2.2.2.2, sem_eq_zero_of_no_sems rfl _⟩) (Cert.MixFwdReferenceIdeal.Value.run m g)

end Cert.Proof
-- ==== Proof.Norm.Norm.lean ====
/- THE GRADIENT OF A ROOT-MEAN-SQUARE NORM, of one row of 1024 real numbers: with the row's scalar product taken once, and as the chain rule gives it. -/
module

public import proofs.«01_k».proof.Proof.Mix.Reals

@[expose] public section

noncomputable section

namespace Cert.Reals

open Idealize.ShloMosaic

/-- The number of features, the norm's small constant, and the exponent of its root. -/
abbrev width : EReal := Ideal.ofBits .f32 0x44800000#32
abbrev tiny : EReal := Ideal.ofBits .f32 0x358637BD#32
abbrev half : EReal := Ideal.ofBits .f32 0xBF000000#32

theorem width_eq : width = ((1024 : ℝ) : EReal) := by
  simp [width, Ideal.ofBits, Ideal.ieee]
  rw [← EReal.coe_mul]
  norm_num
theorem tiny_eq : ∃ e : ℝ, tiny = (e : EReal) ∧ 0 < e :=
  ⟨8796093 * (1 / 8796093022208), by simp [tiny, Ideal.ofBits, Ideal.ieee]; norm_num, by norm_num⟩
theorem half_eq : half = ((-(1 / 2) : ℝ) : EReal) := by
  simp [half, Ideal.ofBits, Ideal.ieee]
  rw [← EReal.coe_mul]
  norm_num

/-- What the root is taken of. -/
def power (x : Fin 1024 → EReal) : EReal := Ideal.div (∑ k, x k * x k) width + tiny
/-- The reciprocal root. -/
def root (x : Fin 1024 → EReal) : EReal := Ideal.rsqrt (power x)

theorem root_eq (x : Fin 1024 → ℝ) : ∃ v r : ℝ, power (fun k => (x k : EReal)) = (v : EReal) ∧ root (fun k => (x k : EReal)) = (r : EReal) ∧ v ≠ 0 ∧ r * r = 1 / v := by
  obtain ⟨e, he, e0⟩ := tiny_eq
  have hs : (∑ k, (x k : EReal) * (x k : EReal)) = ((∑ k, x k * x k : ℝ) : EReal) := by
    rw [coe_sum]; simp only [EReal.coe_mul]
  have hp : power (fun k => (x k : EReal)) = (((∑ k, x k * x k) / 1024 + e : ℝ) : EReal) := by
    unfold power
    rw [hs, he, width_eq, div_real _ (by norm_num), ← EReal.coe_add]
  have pos : 0 < (∑ k, x k * x k) / 1024 + e := by
    have : 0 ≤ ∑ k, x k * x k := Finset.sum_nonneg fun k _ => mul_self_nonneg _
    positivity
  refine ⟨_, (Real.sqrt ((∑ k, x k * x k) / 1024 + e))⁻¹, hp, ?_, pos.ne', ?_⟩
  · unfold root
    rw [hp, Ideal.rsqrt_coe, if_neg (not_lt.mpr pos.le), if_neg pos.ne']
  · rw [← mul_inv, Real.mul_self_sqrt pos.le, one_div]

theorem isReal_root (x : Fin 1024 → EReal) (hx : ∀ k, IsReal (x k)) : IsReal (root x) := by
  choose x' hx' using hx
  obtain rfl : x = fun k => (x' k : EReal) := funext hx'
  obtain ⟨v, r, -, hr, -, -⟩ := root_eq x'
  exact ⟨r, hr⟩

/-- The gradient at the norm's input, for the gradient `d` at the normed row. -/
theorem norm_grad (x d : Fin 1024 → EReal) (hx : ∀ k, IsReal (x k)) (hd : ∀ k, IsReal (d k)) (l : Fin 1024) :
    root x * (d l - x l * root x * Ideal.div (∑ k, d k * (x k * root x)) width)
      = d l * root x + (x l * Ideal.div ((∑ k, x k * d k) * (half * Ideal.div (root x) (power x))) width
        + Ideal.div ((∑ k, x k * d k) * (half * Ideal.div (root x) (power x))) width * x l) := by
  choose x' hx' using hx
  choose d' hd' using hd
  obtain rfl : x = fun k => (x' k : EReal) := funext hx'
  obtain rfl : d = fun k => (d' k : EReal) := funext hd'
  obtain ⟨v, r, hv, hr, v0, hrr⟩ := root_eq x'
  have h1 : (∑ k, (d' k : EReal) * ((x' k : EReal) * (r : EReal))) = ((∑ k, d' k * (x' k * r) : ℝ) : EReal) := by
    rw [coe_sum]; simp only [EReal.coe_mul]
  have h2 : (∑ k, (x' k : EReal) * (d' k : EReal)) = ((∑ k, x' k * d' k : ℝ) : EReal) := by
    rw [coe_sum]; simp only [EReal.coe_mul]
  have h3 : ∑ k, d' k * (x' k * r) = (∑ k, x' k * d' k) * r := by
    rw [Finset.sum_mul]; exact Finset.sum_congr rfl fun k _ => by ring
  rw [hv, hr, h1, h2, h3, width_eq, half_eq, div_real _ v0]
  simp only [← EReal.coe_mul, ← EReal.coe_add, ← EReal.coe_sub, div_real _ (show (1024 : ℝ) ≠ 0 by norm_num)]
  rw [EReal.coe_eq_coe_iff]
  have hq : r / v = r * (r * r) := by rw [hrr]; ring
  rw [hq]
  ring

end Cert.Reals
-- ==== Proof.Norm.Rows.lean ====
/- AN ARRAY OF 4096 ROWS in 8 tiles of 512, and a sum over the rows taken tile by tile. -/
module

public import Idealize.ShloMosaic.Lib.Pointwise
public import Idealize.ShloMosaic.PureOps.Ideal

@[expose] public section

noncomputable section

namespace Cert.Norm

open Idealize.ShloMosaic

/-- Row `r` of tile `k`. -/
abbrev row (k : Fin 8) (r : Fin 512) : Fin 4096 := ⟨512 * k.val + r.val, by omega⟩

/-- Tile `k` of an array of 4096 rows. -/
abbrev tile {α : Type} {n : Nat} (k : Fin 8) (X : (⟨2, ![4096, n]⟩ : Shape).Idx → α) : (⟨2, ![512, n]⟩ : Shape).Idx → α :=
  fun j => X (ValueIdx.ix2 (row k (j 0)) (j 1))

/-- The sum over the rows before tile `k`. -/
def head (f : Fin 4096 → EReal) (k : Nat) : EReal := ∑ n ∈ Finset.range (512 * k), if h : n < 4096 then f ⟨n, h⟩ else 0

theorem head_zero (f : Fin 4096 → EReal) : head f 0 = 0 := by simp [head]

theorem head_step (f : Fin 4096 → EReal) (k : Fin 8) : head f (k.val + 1) = head f k.val + ∑ r : Fin 512, f (row k r) := by
  have hk := k.isLt
  unfold head
  rw [show 512 * (k.val + 1) = 512 * k.val + 512 by ring, Finset.sum_range_add,
    ← Fin.sum_univ_eq_sum_range (fun n => if h : 512 * k.val + n < 4096 then f ⟨512 * k.val + n, h⟩ else 0)]
  exact congrArg (_ + ·) (Finset.sum_congr rfl fun r _ => dif_pos (by omega))

theorem head_all (f : Fin 4096 → EReal) : head f 8 = ∑ n, f n := by
  unfold head
  rw [show 512 * 8 = 4096 by rfl, ← Fin.sum_univ_eq_sum_range (fun n => if h : n < 4096 then f ⟨n, h⟩ else 0)]
  exact Finset.sum_congr rfl fun r _ => dif_pos r.isLt

end Cert.Norm
-- ==== Proof.In.Rows.lean ====
/- WHAT ONE POINT OF `in_bwd` COMPUTES of its tile of 512 rows, and what the reference has there. -/
module

public import proofs.«01_k».proof.Proof.Gen.InKernelIdeal.Skeleton
public import proofs.«01_k».proof.Proof.Gen.InReferenceIdeal.Read
public import proofs.«01_k».proof.Proof.Norm.Norm
public import proofs.«01_k».proof.Proof.Norm.Rows
public import Idealize.ShloMosaic.Lib.Pointwise
public import Idealize.ShloMosaic.Lib.Pipeline.ValueKit

@[expose] public section

set_option maxRecDepth 16384

noncomputable section

namespace Cert.InKernelIdeal.In

open Idealize.ShloMosaic Idealize.ShloMosaic.TcCoe Idealize.ShloMosaic.Tactic
open Cert.InKernelIdeal.Gen
open Cert.InReferenceIdeal.Read
open Cert.Norm Cert.Reals

variable (k : Fin 8) (a0 : Vec Ideal S4096x8192 .f32) (a1 a2 : Vec Ideal S4096x1024 .f32) (a3 : Vec Ideal S1x1024 .f32) (a4 : Vec Ideal S1x1024x8192 .f32)

/-- The product of the two gradients of the projection. -/
theorem dh_tile : k0_pay3 (F := Ideal) (tile k a0) (val_main_v17 a4) = tile k (val_main_v19 a0 a4) := by
  funext j
  unfold k0_pay3 val_main_v19
  generalize val_main_v17 (F := Ideal) a4 = W
  simp only [tile]
  pointwise!

/-- The norm's root, and the row divided by it. -/
theorem root_tile (i : Fin 512) (u : Fin 1) : k0_pay4 (F := Ideal) (tile k a2) (ValueIdx.ix2 i u) = root fun l => a2 (ValueIdx.ix2 (row k i) l) := by
  unfold k0_pay4 root power
  simp only [tile]
  pointwise!
theorem xh_tile : k0_pay5 (F := Ideal) (tile k a2) = tile k (val_main_v13 a2) := by
  funext j
  unfold k0_pay5 val_main_v13 val_main_v12 val_main_v8 val_main_v7 val_main_v5 val_main_v3 val_main_v2 val_main_v1 val_main_v4 val_main_v6 val_main_cst val_main_cst_0 val_main_cst_1 k0_pay4
  simp only [tile]
  pointwise!

/-- The gradient at the normed row. -/
theorem dxh_tile : k0_pay7 (F := Ideal) (tile k a0) (val_main_v17 a4) a3 = tile k (val_main_v24 a0 a3 a4) := by
  funext j
  unfold k0_pay7
  rw [dh_tile]
  unfold val_main_v24 val_main_v23 val_main_v14 val_main_v0
  generalize val_main_v19 (F := Ideal) a0 a4 = D
  simp only [tile]
  pointwise!

/-- The row of the norm's own gradient, this tile added. -/
theorem stat_row (s : Vec Ideal S1x1024 .f32) (l : Fin 1024) :
    k0_pay6 (F := Ideal) (tile k a0) (val_main_v17 a4) (tile k a2) s (ValueIdx.ix2 0 l) = s (ValueIdx.ix2 0 l) + ∑ r : Fin 512, val_main_v20 a0 a2 a4 (ValueIdx.ix2 (row k r) l) := by
  unfold k0_pay6
  rw [dh_tile, xh_tile]
  unfold val_main_v20
  generalize val_main_v19 (F := Ideal) a0 a4 = D
  generalize val_main_v13 (F := Ideal) a2 = X
  simp only [tile]
  pointwise!

/-- The gradient at the norm's input, as the body has it. -/
theorem gx_row (i : Fin 512) (l : Fin 1024) :
    k0_pay1 (F := Ideal) (k0_pay4 (tile k a2)) (k0_pay5 (tile k a2)) (k0_pay7 (tile k a0) (val_main_v17 a4) a3) (tile k a1)
      (k0_pay8 (tile k a0) (val_main_v17 a4) (tile k a2) a3) (k0_pay9 (F := Ideal)) (ValueIdx.ix2 i l)
    = a1 (ValueIdx.ix2 (row k i) l) + (root (fun l => a2 (ValueIdx.ix2 (row k i) l)) * (val_main_v24 a0 a3 a4 (ValueIdx.ix2 (row k i) l) - a2 (ValueIdx.ix2 (row k i) l) * root (fun l => a2 (ValueIdx.ix2 (row k i) l))
      * Ideal.div (∑ l, val_main_v24 a0 a3 a4 (ValueIdx.ix2 (row k i) l) * (a2 (ValueIdx.ix2 (row k i) l) * root fun l => a2 (ValueIdx.ix2 (row k i) l))) width)) := by
  unfold k0_pay8
  rw [dxh_tile]
  generalize val_main_v24 (F := Ideal) a0 a3 a4 = D
  unfold k0_pay1 k0_pay5 k0_pay9
  have hr : k0_pay4 (F := Ideal) (tile k a2) = fun j => root fun l => a2 (ValueIdx.ix2 (row k (j 0)) l) :=
    funext fun j => (congrArg _ (ValueIdx.eq_ix2 (n0 := 512) (n1 := 1) j)).trans (root_tile k a2 _ _)
  rw [hr]
  simp only [tile]
  pointwise!

/-- The same as the reference has it. -/
theorem gx_ref (n : Fin 4096) (l : Fin 1024) :
    val_main_v40 (F := Ideal) a0 a1 a2 a3 a4 (ValueIdx.ix2 n l) = a1 (ValueIdx.ix2 n l) + val_main_v24 a0 a3 a4 (ValueIdx.ix2 n l) * root (fun l => a2 (ValueIdx.ix2 n l))
      + a2 (ValueIdx.ix2 n l) * Ideal.div ((∑ l, a2 (ValueIdx.ix2 n l) * val_main_v24 a0 a3 a4 (ValueIdx.ix2 n l)) * (half * Ideal.div (root fun l => a2 (ValueIdx.ix2 n l)) (power fun l => a2 (ValueIdx.ix2 n l)))) width
      + Ideal.div ((∑ l, a2 (ValueIdx.ix2 n l) * val_main_v24 a0 a3 a4 (ValueIdx.ix2 n l)) * (half * Ideal.div (root fun l => a2 (ValueIdx.ix2 n l)) (power fun l => a2 (ValueIdx.ix2 n l)))) width * a2 (ValueIdx.ix2 n l) := by
  have hp (u : Fin 1) : val_main_v7 (F := Ideal) a2 (ValueIdx.ix2 n u) = power fun l => a2 (ValueIdx.ix2 n l) := by
    unfold val_main_v7 val_main_v5 val_main_v3 val_main_v2 val_main_v1 val_main_v4 val_main_v6 val_main_cst val_main_cst_0 val_main_cst_1 power
    pointwise!
  have hr (u : Fin 1) : val_main_v8 (F := Ideal) a2 (ValueIdx.ix2 n u) = root fun l => a2 (ValueIdx.ix2 n l) := by
    unfold val_main_v8 root
    rw [← hp u]
    generalize val_main_v7 (F := Ideal) a2 = P
    pointwise!
  have hq (u : Fin 1024) : val_main_v36 (F := Ideal) a0 a2 a3 a4 (ValueIdx.ix2 n u) = Ideal.div ((∑ l, a2 (ValueIdx.ix2 n l) * val_main_v24 a0 a3 a4 (ValueIdx.ix2 n l)) * (half * Ideal.div (root fun l => a2 (ValueIdx.ix2 n l)) (power fun l => a2 (ValueIdx.ix2 n l)))) width := by
    rw [← hp 0, ← hr 0]
    unfold val_main_v36 val_main_v35 val_main_v34 val_main_v32 val_main_v28 val_main_v27 val_main_v26 val_main_v33 val_main_v11 val_main_v10 val_main_v9 val_main_cst_7 val_main_cst_6 val_main_cst_5 val_main_cst_2
    generalize val_main_v7 (F := Ideal) a2 = P
    generalize val_main_v8 (F := Ideal) a2 = R
    generalize val_main_v24 (F := Ideal) a0 a3 a4 = D
    pointwise!
    exact (Fin.sum_univ_one _).trans rfl
  rw [← hq l, ← hr 0]
  unfold val_main_v40 val_main_v38 val_main_v31 val_main_v30 val_main_v29 val_main_v37 val_main_v39
  generalize val_main_v36 (F := Ideal) a0 a2 a3 a4 = Q
  generalize val_main_v8 (F := Ideal) a2 = R
  generalize val_main_v24 (F := Ideal) a0 a3 a4 = D
  pointwise!

theorem gx_tile (h2 : ∀ i, IsReal (a2 i)) (hD : ∀ i, IsReal (val_main_v24 (F := Ideal) a0 a3 a4 i)) :
    k0_pay1 (F := Ideal) (k0_pay4 (tile k a2)) (k0_pay5 (tile k a2)) (k0_pay7 (tile k a0) (val_main_v17 a4) a3) (tile k a1)
      (k0_pay8 (tile k a0) (val_main_v17 a4) (tile k a2) a3) (k0_pay9 (F := Ideal)) = tile k (val_main_v40 a0 a1 a2 a3 a4) := by
  funext j
  refine (congrArg _ (ValueIdx.eq_ix2 (n0 := 512) (n1 := 1024) j)).trans ((gx_row k a0 a1 a2 a3 a4 (j 0) (j 1)).trans (Eq.trans ?_ (gx_ref a0 a1 a2 a3 a4 (row k (j 0)) (j 1)).symm))
  rw [norm_grad (fun l => a2 (ValueIdx.ix2 (row k (j 0)) l)) (fun l => val_main_v24 (F := Ideal) a0 a3 a4 (ValueIdx.ix2 (row k (j 0)) l)) (fun _ => h2 _) (fun _ => hD _) (j 1), add_assoc, add_assoc]

end Cert.InKernelIdeal.In
-- ==== Proof.In.Values.lean ====
/- WHAT `in_bwd` LEAVES: each point's tile of the gradient, and the row of the norm's own gradient, the tiles added one after the other. -/
module

public import proofs.«01_k».proof.Proof.Gen.InKernelIdeal.Value
public import proofs.«01_k».proof.Proof.In.Rows
public import proofs.«01_k».proof.Proof.Mix.Finite
public import proofs.«01_k».proof.Proof.Mix.Reads
public import Idealize.ShloMosaic.Lib.StableHlo.RunRead
public import Idealize.ShloMosaic.Lib.Pipeline.ReadBack

@[expose] public section

set_option maxRecDepth 16384

noncomputable section

namespace Cert.InKernelIdeal.In

open Idealize.ShloMosaic Idealize.ShloMosaic.TcCoe Idealize.ShloMosaic.Tactic
open Idealize.SL Idealize.SL.Sem
open Cert.InKernelIdeal.Gen
open Cert.InReferenceIdeal.Read
open Cert.Norm Cert.Reals
open Cert.MixKernelIdeal.Mix (canon_hit canon_miss read_over ld_apply2)

variable (m : (ℓ : Loc nD τ sig) → Buf (Elt Ideal) ℓ) (c : Dev nD)

abbrev A0 : Vec Ideal S4096x8192 .f32 := m ((c : Thread nD τ).loc main_arg0)
abbrev A1 : Vec Ideal S4096x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S1x1024x8192 .f32 := m ((c : Thread nD τ).loc main_arg4)

theorem V_dproj : V m c main_v0 = A0 m c := by after_reads_simp; rfl
theorem V_w : V m c main_v2 = val_main_v17 (F := Ideal) (A4 m c) := by after_reads_simp; rfl

/-- The tile a point works on. -/
abbrev kk (t : Fin cfg0.N) : Fin 8 := t

theorem idx_tile : ∀ t : Fin cfg0.N, (cfg0.win 0).index t = ![t.val, 0] ∧ (cfg0.win 2).index t = ![t.val, 0] ∧ (cfg0.win 3).index t = ![t.val, 0] ∧
    (cfg0.win 5).index t = ![t.val, 0] := by decide +kernel
theorem idx_whole : ∀ t : Fin cfg0.N, (cfg0.win 1).index t = ![0, 0] ∧ (cfg0.win 4).index t = ![0, 0] ∧ (cfg0.win 6).index t = ![0, 0] := by decide +kernel

variable (t : Fin cfg0.N)

theorem blk_0 : iblk m c 0 t = tile (kk t) (A0 m c) := by
  refine Eq.trans (b := tile (kk t) (V m c main_v0)) ?_ (congrArg _ (V_dproj m c))
  generalize hX : V m c main_v0 = X
  show ((cfg0.win 0).blk t).view.read (Elt Ideal) (V m c main_v0) = _
  rw [hX]
  funext j
  have e := (idx_tile t).1
  show X _ = X _
  blk_ext [e, kk]
theorem blk_1 : iblk m c 1 t = val_main_v17 (F := Ideal) (A4 m c) := by
  refine Eq.trans (b := V m c main_v2) ?_ (V_w m c)
  generalize hX : V m c main_v2 = X
  show ((cfg0.win 1).blk t).view.read (Elt Ideal) (V m c main_v2) = _
  rw [hX]
  funext j
  have e := (idx_whole t).1
  show X _ = X _
  blk_ext [e]
theorem blk_2 : iblk m c 2 t = tile (kk t) (A2 m c) := by
  show ((cfg0.win 2).blk t).view.read (Elt Ideal) (A2 m c) = _
  generalize A2 m c = X
  funext j
  have e := (idx_tile t).2.1
  show X _ = X _
  blk_ext [e, kk]
theorem blk_3 : iblk m c 3 t = tile (kk t) (A1 m c) := by
  show ((cfg0.win 3).blk t).view.read (Elt Ideal) (A1 m c) = _
  generalize A1 m c = X
  funext j
  have e := (idx_tile t).2.2.1
  show X _ = X _
  blk_ext [e, kk]
theorem blk_4 : iblk m c 4 t = A3 m c := by
  show ((cfg0.win 4).blk t).view.read (Elt Ideal) (A3 m c) = _
  generalize A3 m c = X
  funext j
  have e := (idx_whole t).2.1
  show X _ = X _
  blk_ext [e]

/-- A point's tile of the gradient. -/
theorem gx_out (h2 : ∀ i, IsReal (A2 m c i)) (hD : ∀ i, IsReal (val_main_v24 (F := Ideal) (A0 m c) (A3 m c) (A4 m c) i)) :
    (outsAt0 m c t.val t.isLt).1 = tile (kk t) (val_main_v40 (F := Ideal) (A0 m c) (A1 m c) (A2 m c) (A3 m c) (A4 m c)) := by
  by_cases h : t.val % 8 = 0
  · rw [outsAt0_A m c t h]
    dsimp only
    frame_out
    simp only [blk_0, blk_1, blk_2, blk_3, blk_4]
    exact gx_tile _ _ _ _ _ _ h2 hD
  · rw [outsAt0_B m c t h]
    dsimp only
    frame_out
    simp only [blk_0, blk_1, blk_2, blk_3, blk_4]
    exact gx_tile _ _ _ _ _ _ h2 hD

variable (k : Fin 8) (a0 : Vec Ideal S4096x8192 .f32) (a2 : Vec Ideal S4096x1024 .f32) (a4 : Vec Ideal S1x1024x8192 .f32)

/-- What a row of the norm's own gradient adds to the 8 rows. -/
def statf (i : Fin 8) (n : Fin 4096) (l : Fin 1024) : EReal := if i = 0 then val_main_v20 (F := Ideal) a0 a2 a4 (ValueIdx.ix2 n l) else 0

theorem whole_8 (S : Vec Ideal S8x1024 .f32) : View.canon (Val := Elt Ideal) (s := S8x1024) (e := .f32) [⟨Rect.unit ![0, 0] ![8, 1024] inb_S8x1024_S8x1024_0_0, S⟩] = S :=
  View.canon_cons_unit_zero (Val := Elt Ideal) (S := S8x1024) (e := .f32) (by funext x; match x with | ⟨0, _⟩ => rfl | ⟨1, _⟩ => rfl) _ _ _

/-- The one row stored over known contents. -/
theorem stat_step (S : Vec Ideal S8x1024 .f32) {L : List (View.Piece (Elt Ideal) S8x1024 .f32)} (hL : View.canon L = S) (i : Fin 8) (l : Fin 1024) :
    View.canon (Val := Elt Ideal) (s := S8x1024) (e := .f32) (⟨Rect.unit ![0, 0] ![1, 1024] inb_S8x1024_S1x1024_0_0, k0_pay6 (F := Ideal) (tile k a0) (val_main_v17 a4) (tile k a2)
      (View.ld (e' := .f32) S (Rect.unit ![0, 0] ![1, 1024] inb_S8x1024_S1x1024_0_0))⟩ :: L) (ValueIdx.ix2 i l) = S (ValueIdx.ix2 i l) + ∑ r : Fin 512, statf a0 a2 a4 i (row k r) l := by
  by_cases h : i = 0
  · subst h
    refine (canon_hit (e := .f32) (a := 0) (b := 0) inb_S8x1024_S1x1024_0_0 _ _ 0 l 0 l rfl (Nat.zero_add _).symm).trans ((stat_row k a0 a2 a4 _ l).trans ?_)
    refine congrArg₂ (· + ·) (ld_apply2 (e := .f32) S inb_S8x1024_S1x1024_0_0 (ValueIdx.ix2 0 l) 0 l rfl (Nat.zero_add _).symm) ?_
    simp only [statf, if_true]
  · refine (canon_miss (e := .f32) (a := 0) (b := 0) inb_S8x1024_S1x1024_0_0 _ _ i l (.inr (.inl ?_))).trans ?_
    · have : i.val ≠ 0 := fun e => h (Fin.ext e)
      omega
    · rw [hL]
      simp only [statf, if_neg h, Finset.sum_const_zero, add_zero]

set_option maxHeartbeats 2000000 in
theorem stat_A (h : t.val % 8 = 0) (i : Fin 8) (l : Fin 1024) :
    (outsAt0 m c t.val t.isLt).2 (ValueIdx.ix2 i l) = 0 + ∑ r : Fin 512, statf (A0 m c) (A2 m c) (A4 m c) i (row (kk t) r) l := by
  rw [outsAt0_A m c t h]
  dsimp only
  frame_out
  simp (disch := decide) only [↓ View.readCov_skip, ↓ View.readCov_cons_toLoadRect, ↓ View.readCov_fill]
  simp only [blk_0, blk_1, blk_2, blk_3, blk_4]
  generalize A0 m c = a0, A2 m c = a2, A4 m c = a4
  have z : (k0_pay2 (F := Ideal)) (ValueIdx.ix2 i l) = 0 := by
    unfold k0_pay2
    pointwise
  generalize k0_pay2 (F := Ideal) = S at *
  exact (stat_step (kk t) a0 a2 a4 S (whole_8 S) i l).trans (congrArg (· + _) z)

theorem stat_B (h : ¬t.val % 8 = 0) (i : Fin 8) (l : Fin 1024) :
    (outsAt0 m c t.val t.isLt).2 (ValueIdx.ix2 i l)
      = (outsAt0 m c (t.val - 1) (Nat.lt_of_le_of_lt (Nat.sub_le _ _) t.isLt)).2 (ValueIdx.ix2 i l) + ∑ r : Fin 512, statf (A0 m c) (A2 m c) (A4 m c) i (row (kk t) r) l := by
  rw [outsAt0_B m c t h]
  dsimp only
  frame_out
  simp only [blk_0, blk_1, blk_2, blk_3, blk_4]
  rw [read_over _ _ (fun x => by rw [Nat.zero_add]), Memref.IsWhole.read_unread]
  exact stat_step (kk t) (A0 m c) (A2 m c) (A4 m c) _ (View.canon_cons_unit_zero rfl _ _ _) i l

theorem stat (i : Fin 8) (l : Fin 1024) : ∀ (n : Nat) (hn : n < cfg0.N),
    (outsAt0 m c n hn).2 (ValueIdx.ix2 i l) = head (fun r => statf (A0 m c) (A2 m c) (A4 m c) i r l) (n + 1)
  | 0, hn => (stat_A m c ⟨0, hn⟩ (Nat.zero_mod _) i l).trans ((congrArg (· + _) (head_zero fun r => statf (A0 m c) (A2 m c) (A4 m c) i r l).symm).trans (head_step (fun r => statf (A0 m c) (A2 m c) (A4 m c) i r l) (0 : Fin 8)).symm)
  | n + 1, hn => by
    have hN : n + 1 < 8 := hn
    have h : ¬(n + 1) % 8 = 0 := by omega
    exact (stat_B m c ⟨n + 1, hn⟩ h i l).trans ((congrArg (· + _) (stat i l n (Nat.lt_of_succ_lt hn))).trans (head_step (fun r => statf (A0 m c) (A2 m c) (A4 m c) i r l) (⟨n + 1, hN⟩ : Fin 8)).symm)

/-- The reference's 8 rows. -/
theorem stat_ref (i : Fin 8) (l : Fin 1024) : val_main_v43 (F := Ideal) a0 a2 a4 (ValueIdx.ix2 i l) = ∑ n, statf a0 a2 a4 i n l := by
  unfold val_main_v43
  have h1 : val_main_v41 (F := Ideal) a0 a2 a4 (ValueIdx.ix2 0 l) = ∑ n : Fin 4096, val_main_v20 (F := Ideal) a0 a2 a4 (ValueIdx.ix2 n l) := by
    unfold val_main_v41 val_main_v25 val_main_v22 val_main_v21 val_main_cst_3 val_main_cst_4
    generalize val_main_v20 (F := Ideal) a0 a2 a4 = X
    pointwise!
    exact (Fin.sum_univ_one _).trans rfl
  have h2 (i : Fin 7) : val_main_v42 (F := Ideal) (ValueIdx.ix2 i l) = 0 := by unfold val_main_v42 val_main_cst_8; pointwise
  unfold statf
  generalize val_main_v41 (F := Ideal) a0 a2 a4 = X at *
  generalize val_main_v42 (F := Ideal) = Z at *
  match i with
  | 0 => pointwise; exact (congrArg X ((ix2_inj _ _ _ _).mpr ⟨rfl, rfl⟩)).trans (h1.trans rfl)
  | 1 => pointwise; exact (congrArg Z ((ix2_inj _ _ _ _).mpr ⟨rfl, rfl⟩)).trans ((h2 0).trans Finset.sum_const_zero.symm)
  | 2 => pointwise; exact (congrArg Z ((ix2_inj _ _ _ _).mpr ⟨rfl, rfl⟩)).trans ((h2 1).trans Finset.sum_const_zero.symm)
  | 3 => pointwise; exact (congrArg Z ((ix2_inj _ _ _ _).mpr ⟨rfl, rfl⟩)).trans ((h2 2).trans Finset.sum_const_zero.symm)
  | 4 => pointwise; exact (congrArg Z ((ix2_inj _ _ _ _).mpr ⟨rfl, rfl⟩)).trans ((h2 3).trans Finset.sum_const_zero.symm)
  | 5 => pointwise; exact (congrArg Z ((ix2_inj _ _ _ _).mpr ⟨rfl, rfl⟩)).trans ((h2 4).trans Finset.sum_const_zero.symm)
  | 6 => pointwise; exact (congrArg Z ((ix2_inj _ _ _ _).mpr ⟨rfl, rfl⟩)).trans ((h2 5).trans Finset.sum_const_zero.symm)
  | 7 => pointwise; exact (congrArg Z ((ix2_inj _ _ _ _).mpr ⟨rfl, rfl⟩)).trans ((h2 6).trans Finset.sum_const_zero.symm)

theorem arr_5 (h2 : ∀ i, IsReal (A2 m c i)) (hD : ∀ i, IsReal (val_main_v24 (F := Ideal) (A0 m c) (A3 m c) (A4 m c) i)) :
    (dats m 0 c).arrAt 5 cfg0.N = val_main_v40 (F := Ideal) (A0 m c) (A1 m c) (A2 m c) (A3 m c) (A4 m c) := by
  refine (dats m 0 c).arrAt_eq_of_covers 5 _ (by decide +kernel) fun t hf y => ?_
  have e := (idx_tile t).2.2.2
  rw [after0_5, gx_out m c t h2 hD]
  generalize val_main_v40 (F := Ideal) (A0 m c) (A1 m c) (A2 m c) (A3 m c) (A4 m c) = X
  blk_simp
  show X _ = X _
  blk_ext [e, kk]

theorem arr_6 : (dats m 0 c).arrAt 6 cfg0.N = val_main_v43 (F := Ideal) (A0 m c) (A2 m c) (A4 m c) := by
  refine (dats m 0 c).arrAt_eq_of_after_last 6 ⟨7, by decide⟩ (by decide +kernel) _ fun (j : S8x1024.Idx) => ?_
  rw [after0_6]
  blk_simp
  refine (congrArg _ (ValueIdx.eq_ix2 (n0 := 8) (n1 := 1024) j)).trans (((stat m c (j 0) (j 1) 7 (by decide)).trans ((head_all _).trans (stat_ref (A0 m c) (A2 m c) (A4 m c) (j 0) (j 1)).symm)).trans
    (congrArg _ (ValueIdx.eq_ix2 (n0 := 8) (n1 := 1024) j).symm))

end Cert.InKernelIdeal.In
-- ==== Proof.In.Claim.lean ====
/- THE VALUE CLAIM of the input norm's backward call. -/
module

public import proofs.«01_k».proof.Defs
public import proofs.«01_k».proof.Proof.In.Values
public import proofs.«01_k».proof.Proof.Gen.InReferenceIdeal
public import proofs.«01_k».proof.Proof.Gen.InReferenceIdeal.Read
public import proofs.«01_k».proof.Proof.Gen.Pre_finite_in
public import Idealize.ShloMosaic.Lib.Quiescent

@[expose] public section

set_option maxRecDepth 16384

noncomputable section

open Idealize.ShloMosaic Idealize.ShloMosaic.TcCoe Idealize.ShloMosaic.Tactic Idealize.SL.Sem

namespace Cert.InKernelIdeal.In

open Cert.Reals Cert.InReferenceIdeal.Read

theorem real_v19 (a0 : Vec Ideal S4096x8192 .f32) (a4 : Vec Ideal S1x1024x8192 .f32) (r0 : ∀ i, IsReal (a0 i)) (r4 : ∀ i, IsReal (a4 i)) (i) : IsReal (val_main_v19 (F := Ideal) a0 a4 i) := by
  unfold val_main_v19 val_main_v17
  pointwise
  exact isReal_sum _ _ fun _ _ => (r0 _).mul (r4 _)

theorem finite_of_pre [Cert.Pre_finite_in.Facts] (a0 : Vec Ideal S4096x8192 .f32) (a1 a2 : Vec Ideal S4096x1024 .f32) (a3 : Vec Ideal S1x1024 .f32) (a4 : Vec Ideal S1x1024x8192 .f32) (j)
    (h : Cert.Pre_finite_in.fn (F := Ideal) a0 a1 a2 a3 a4 j = 1#1) : (∀ i, IsReal (a2 i)) ∧ ∀ i, IsReal (val_main_v24 (F := Ideal) a0 a3 a4 i) := by
  haveI : Subsingleton Cert.Pre_finite_in.S_.Idx := ⟨fun a b => funext fun x => x.elim0⟩
  obtain ⟨h, h4⟩ := andi_one h
  obtain ⟨h, h3⟩ := andi_one h
  obtain ⟨h0, h2⟩ := andi_one h
  have r0 := real_of_all _ _ _ (fun _ => rfl) (fun _ => rfl) _ _ _ _ h0
  have r2 := real_of_all _ _ _ (fun _ => rfl) (fun _ => rfl) _ _ _ _ h2
  have r3 := real_of_all _ _ _ (fun _ => rfl) (fun _ => rfl) _ _ _ _ h3
  have r4 := real_of_all _ _ _ (fun _ => rfl) (fun _ => rfl) _ _ _ _ h4
  refine ⟨r2, fun i => ?_⟩
  have e19 := real_v19 a0 a4 r0 r4 i
  unfold val_main_v24 val_main_v23 val_main_v14 val_main_v0
  exact e19.mul (r3 _)

theorem run (m : (ℓ : Loc nD τ sig) → Buf (Elt Ideal) ℓ) (ρ : Dev nD → PrngReg)
    (H : ∀ c, (∀ i, IsReal (A2 m c i)) ∧ ∀ i, IsReal (val_main_v24 (F := Ideal) (A0 m c) (A3 m c) (A4 m c) i)) :
    θ_run defs (onTc (τ := τ) (main (F := Ideal))) ⟨m, fun _ => 0, ρ⟩ fun r => ∀ c : Dev nD,
      r.2.mem ((c : Thread nD τ).loc main_v3_0) = val_main_v40 (F := Ideal) (A0 m c) (A1 m c) (A2 m c) (A3 m c) (A4 m c)
      ∧ r.2.mem ((c : Thread nD τ).loc main_v3_1) = val_main_v43 (F := Ideal) (A0 m c) (A2 m c) (A4 m c)
      ∧ r.2.mem ((c : Thread nD τ).loc main_arg0) = A0 m c ∧ r.2.mem ((c : Thread nD τ).loc main_arg1) = A1 m c
      ∧ r.2.mem ((c : Thread nD τ).loc main_arg2) = A2 m c ∧ r.2.mem ((c : Thread nD τ).loc main_arg3) = A3 m c
      ∧ r.2.mem ((c : Thread nD τ).loc main_arg4) = A4 m c :=
  (θ_run defs _ _).mono (fun r h c => ⟨(h c).1.trans (arr_5 m c (H c).1 (H c).2), (h c).2.1.trans (arr_6 m c), (h c).2.2⟩) (Cert.InKernelIdeal.Value.run_blocks m ρ)

end Cert.InKernelIdeal.In

namespace Cert.Proof

open Cert.InKernelIdeal Cert.InReferenceIdeal.Read in
theorem algebraic_in : Cert.algebraic_InKernelIdeal_InReferenceIdeal_pre_finite_in
    (hInKernelIdeal := Cert.InKernelIdeal.Gen.facts) (hInReferenceIdeal := Cert.InReferenceIdeal.Gen.facts) (hPre_finite_in := Cert.Pre_finite_in.Gen.facts) := by
  intro m g m' g' hp hagree
  haveI := Cert.Pre_finite_in.Gen.facts
  refine ⟨_, _, In.run m g fun c => In.finite_of_pre _ _ _ _ _ (fun i => i.elim0) (congrFun (hp c) _), ?_⟩
  refine (θ_run _ _ _).mono (fun r h c => ?_) (Cert.InReferenceIdeal.Value.run m' g')
  obtain ⟨h0, h1, ha⟩ := h c
  obtain ⟨a0, a1, a2, a3, a4⟩ := hagree c
  have e0 : m' ((c.tc : Thread Cert.InReferenceIdeal.nD Cert.InReferenceIdeal.τ).loc Cert.InReferenceIdeal.main_arg0) = In.A0 m c := a0
  have e1 : m' ((c.tc : Thread Cert.InReferenceIdeal.nD Cert.InReferenceIdeal.τ).loc Cert.InReferenceIdeal.main_arg1) = In.A1 m c := a1
  have e2 : m' ((c.tc : Thread Cert.InReferenceIdeal.nD Cert.InReferenceIdeal.τ).loc Cert.InReferenceIdeal.main_arg2) = In.A2 m c := a2
  have e3 : m' ((c.tc : Thread Cert.InReferenceIdeal.nD Cert.InReferenceIdeal.τ).loc Cert.InReferenceIdeal.main_arg3) = In.A3 m c := a3
  have e4 : m' ((c.tc : Thread Cert.InReferenceIdeal.nD Cert.InReferenceIdeal.τ).loc Cert.InReferenceIdeal.main_arg4) = In.A4 m c := a4
  refine ⟨h0.trans ((val_main_v40_eq _ _).trans ?_), h1.trans ((val_main_v43_eq _ _ _).trans ?_), ha⟩
  · rw [e0, e1, e2, e3, e4]
  · rw [e0, e2, e4]

/-- The reference has host operations only: its frame is its run's, and it has no counter. -/
theorem quiescent_in_reference : Cert.quiescent_InReferenceIdeal (hInReferenceIdeal := Cert.InReferenceIdeal.Gen.facts) := fun m g _ =>
  (θ_run _ _ _).mono (fun _ h => ⟨fun c => (h c).2.2, sem_eq_zero_of_no_sems rfl _⟩) (Cert.InReferenceIdeal.Value.run m g)

end Cert.Proof
-- ==== Proof.Ffn.Run.lean ====
/- THE RUN OF THE TWO CALLS of the feed-forward part, with every result named: the contents of each unscoped buffer after
   the last region (`Gen.W3`), read back to the region whose output it is.  -/
module

public import proofs.«01_k».proof.Proof.Gen.FfnKernelIdeal.Frame
public import Idealize.ShloMosaic.Lib.Claim

@[expose] public section

set_option maxRecDepth 16384

noncomputable section

namespace Cert.FfnKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnKernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- What a TensorCore buffer holds when both calls have run. -/
abbrev final (c : Dev nD) (b : Ref sig .tc) : Buf (Elt F) ((c : Thread nD τ).loc b) := W3 m ρ c (Proc.devRef .tc b)

/-- The results of the first call are inputs of the second, or not touched by it. -/
theorem final_9_0 (c : Dev nD) : final m ρ c main_v9_0 = (dat0 (V1 m ρ) c).arrAt 7 cfg0.N := (W3_of m ρ c main_v9_0 (by decide)).trans (W2_arr m ρ c 7)
theorem final_9_1 (c : Dev nD) : final m ρ c main_v9_1 = (dat0 (V1 m ρ) c).arrAt 8 cfg0.N := (W3_of m ρ c main_v9_1 (by decide)).trans (W2_arr m ρ c 8)
theorem final_9_2 (c : Dev nD) : final m ρ c main_v9_2 = (dat0 (V1 m ρ) c).arrAt 9 cfg0.N := (W3_of m ρ c main_v9_2 (by decide)).trans (W2_arr m ρ c 9)
theorem final_9_3 (c : Dev nD) : final m ρ c main_v9_3 = (dat0 (V1 m ρ) c).arrAt 10 cfg0.N := (W3_of m ρ c main_v9_3 (by decide)).trans (W2_arr m ρ c 10)
theorem final_10_0 (c : Dev nD) : final m ρ c main_v10_0 = (dat1 (V2 m ρ) c).arrAt 8 cfg1.N := W3_arr m ρ c 8
theorem final_10_1 (c : Dev nD) : final m ρ c main_v10_1 = (dat1 (V2 m ρ) c).arrAt 9 cfg1.N := W3_arr m ρ c 9
theorem final_10_2 (c : Dev nD) : final m ρ c main_v10_2 = (dat1 (V2 m ρ) c).arrAt 10 cfg1.N := W3_arr m ρ c 10
theorem final_10_3 (c : Dev nD) : final m ρ c main_v10_3 = (dat1 (V2 m ρ) c).arrAt 11 cfg1.N := W3_arr m ρ c 11
theorem final_10_4 (c : Dev nD) : final m ρ c main_v10_4 = (dat1 (V2 m ρ) c).arrAt 12 cfg1.N := W3_arr m ρ c 12
theorem final_10_5 (c : Dev nD) : final m ρ c main_v10_5 = (dat1 (V2 m ρ) c).arrAt 13 cfg1.N := W3_arr m ρ c 13

-- the segment list's entries are read at default transparency when the chain is checked
set_option backward.isDefEq.respectTransparency.types false in
/-- Every weakly fair execution ends with each result at its `final` contents and the arguments as launched. -/
theorem run : θ_run defs (onTc (τ := τ) (main (F := F))) ⟨m, fun _ => 0, ρ⟩ (fun r => ∀ c : Dev nD,
      r.2.mem ((c.tc : Thread nD τ).loc main_v9_0) = final m ρ c main_v9_0
      ∧ r.2.mem ((c.tc : Thread nD τ).loc main_v9_1) = final m ρ c main_v9_1
      ∧ r.2.mem ((c.tc : Thread nD τ).loc main_v9_2) = final m ρ c main_v9_2
      ∧ r.2.mem ((c.tc : Thread nD τ).loc main_v9_3) = final m ρ c main_v9_3
      ∧ r.2.mem ((c.tc : Thread nD τ).loc main_v10_0) = final m ρ c main_v10_0
      ∧ r.2.mem ((c.tc : Thread nD τ).loc main_v10_1) = final m ρ c main_v10_1
      ∧ r.2.mem ((c.tc : Thread nD τ).loc main_v10_2) = final m ρ c main_v10_2
      ∧ r.2.mem ((c.tc : Thread nD τ).loc main_v10_3) = final m ρ c main_v10_3
      ∧ r.2.mem ((c.tc : Thread nD τ).loc main_v10_4) = final m ρ c main_v10_4
      ∧ r.2.mem ((c.tc : Thread nD τ).loc main_v10_5) = final m ρ c main_v10_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨h c _ (mem_uc main_v9_0 (by decide)),
       h c _ (mem_uc main_v9_1 (by decide)),
       h c _ (mem_uc main_v9_2 (by decide)),
       h c _ (mem_uc main_v9_3 (by decide)),
       h c _ (mem_uc main_v10_0 (by decide)),
       h c _ (mem_uc main_v10_1 (by decide)),
       h c _ (mem_uc main_v10_2 (by decide)),
       h c _ (mem_uc main_v10_3 (by decide)),
       h c _ (mem_uc main_v10_4 (by decide)),
       h c _ (mem_uc main_v10_5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.FfnKernelIdeal.Run
-- ==== Proof.Ffn.Rows0.lean ====
/- WHAT ONE POINT OF `ffn_fwd` COMPUTES of its tile of 512 rows, and what the reference has there. -/
module

public import proofs.«01_k».proof.Proof.Gen.FfnKernelIdeal.Skeleton
public import proofs.«01_k».proof.Proof.Gen.FfnReferenceIdeal.Read
public import proofs.«01_k».proof.Proof.Norm.Norm
public import proofs.«01_k».proof.Proof.Norm.Rows
public import Idealize.ShloMosaic.Lib.Pointwise
public import Idealize.ShloMosaic.Lib.Pipeline.ValueKit

@[expose] public section

set_option maxRecDepth 16384

noncomputable section

namespace Cert.FfnKernelIdeal.Ffn

open Idealize.ShloMosaic Idealize.ShloMosaic.TcCoe Idealize.ShloMosaic.Tactic
open Cert.FfnKernelIdeal.Gen
open Cert.FfnReferenceIdeal.Read
open Cert.Norm Cert.Reals

/-- A weight with its features last. -/
abbrev turned (X : Vec Ideal (⟨2, ![1024, 2816]⟩ : Shape) .f32) : Vec Ideal S2816x1024 .bf16 := fun j => X (ValueIdx.ix2 (j 1) (j 0))

variable (k : Fin 8) (x0 x1 : Vec Ideal S4096x1024 .f32) (x2 : Vec Ideal S1x1024 .f32) (x3 x4 : Vec Ideal S1x1024x2816 .f32) (x5 : Vec Ideal S1x2816x1024 .f32) (x6 : Vec Ideal S1024 .f32)

/-- The normed rows. -/
theorem h_tile : k0_pay3 (F := Ideal) (tile k x0) x2 = tile k (val_main_v18 x0 x2) := by
  funext j
  unfold k0_pay3 val_main_v18 val_main_v17 val_main_v16 val_main_v15 val_main_v14 val_main_v10 val_main_v9 val_main_v7 val_main_v5 val_main_v4 val_main_v3 val_main_v6 val_main_v8 val_main_v2 val_main_cst_1 val_main_cst_2 val_main_cst_3
  simp only [tile]
  pointwise!

/-- The two products of the gate. -/
theorem gate_tile : k0_pay4 (F := Ideal) (tile k x0) x2 (turned (val_main_v19 x3)) = tile k (val_main_v21 x0 x2 x3) := by
  funext j
  unfold k0_pay4
  rw [h_tile]
  unfold val_main_v21 val_main_v20 val_main_v0 val_main_cst
  generalize val_main_v18 (F := Ideal) x0 x2 = H
  generalize val_main_v19 (F := Ideal) x3 = W
  simp only [tile, turned]
  pointwise!
theorem up_tile : k0_pay5 (F := Ideal) (tile k x0) x2 (turned (val_main_v22 x4)) = tile k (val_main_v24 x0 x2 x4) := by
  funext j
  unfold k0_pay5
  rw [h_tile]
  unfold val_main_v24 val_main_v23 val_main_v0 val_main_cst
  generalize val_main_v18 (F := Ideal) x0 x2 = H
  generalize val_main_v22 (F := Ideal) x4 = W
  simp only [tile, turned]
  pointwise!
theorem gate16_tile : k0_pay6 (F := Ideal) (tile k x0) x2 (turned (val_main_v19 x3)) = tile k (val_main_v122 x0 x2 x3) := by
  unfold k0_pay6
  rw [gate_tile]
  rfl
theorem up16_tile : k0_pay7 (F := Ideal) (tile k x0) x2 (turned (val_main_v22 x4)) = tile k (val_main_v123 x0 x2 x4) := by
  unfold k0_pay7
  rw [up_tile]
  rfl
theorem silu_tile : k0_pay8 (F := Ideal) (tile k x0) x2 (turned (val_main_v19 x3)) = tile k (val_main_v25_0 x0 x2 x3) := by
  funext j
  unfold k0_pay8
  rw [gate_tile]
  unfold val_main_v25_0 val_main_v25_2 val_main_call0_v4 val_main_call0_cst_0 val_main_call0_v3 val_main_call0_v2 val_main_call0_cst val_main_call0_v1 val_main_call0_v0
  generalize val_main_v21 (F := Ideal) x0 x2 x3 = G
  simp only [tile]
  pointwise!
  rw [sub_eq_add_neg, zero_add]

/-- The layer's output. -/
theorem x2_tile : k0_pay9 (F := Ideal) (tile k x0) (tile k (val_main_v24 x0 x2 x4)) (tile k (val_main_v25_0 x0 x2 x3)) (val_main_v27 x5) = tile k (val_main_v30 x0 x2 x3 x4 x5) := by
  funext j
  unfold k0_pay9 val_main_v30 val_main_v29 val_main_v28 val_main_v26 val_main_v1 val_main_cst_0
  generalize val_main_v24 (F := Ideal) x0 x2 x4 = U
  generalize val_main_v25_0 (F := Ideal) x0 x2 x3 = S
  generalize val_main_v27 (F := Ideal) x5 = W
  simp only [tile]
  pointwise!

local notation "X2" => val_main_v30 (F := Ideal) x0 x2 x3 x4 x5
local notation "U" => val_main_v24 (F := Ideal) x0 x2 x4
local notation "S" => val_main_v25_0 (F := Ideal) x0 x2 x3
local notation "W" => val_main_v27 (F := Ideal) x5

/-- The last norm's root, and the row divided by it. -/
theorem root0_tile (i : Fin 512) (u : Fin 1) : k0_pay10 (F := Ideal) (tile k x0) (tile k U) (tile k S) W (ValueIdx.ix2 i u) = root fun l => X2 (ValueIdx.ix2 (row k i) l) := by
  unfold k0_pay10
  rw [x2_tile]
  generalize X2 = X
  unfold root power
  simp only [tile]
  pointwise!
theorem root0_fun : k0_pay10 (F := Ideal) (tile k x0) (tile k U) (tile k S) W = fun j => root fun l => X2 (ValueIdx.ix2 (row k (j 0)) l) :=
  funext fun j => (congrArg _ (ValueIdx.eq_ix2 (n0 := 512) (n1 := 1) j)).trans (root0_tile k x0 x2 x3 x4 x5 _ _)
theorem rootref (n : Fin 4096) (u : Fin 1) : val_main_v38 (F := Ideal) x0 x2 x3 x4 x5 (ValueIdx.ix2 n u) = root fun l => X2 (ValueIdx.ix2 n l) := by
  unfold val_main_v38 val_main_v37 val_main_v35 val_main_v33 val_main_v32 val_main_v31 val_main_v34 val_main_v36 val_main_cst_5 val_main_cst_6 val_main_cst_7 root power
  generalize X2 = X
  pointwise!
theorem xh2_tile : k0_pay11 (F := Ideal) (tile k x0) (tile k U) (tile k S) W = tile k (val_main_v43 x0 x2 x3 x4 x5) := by
  funext j
  unfold k0_pay11
  rw [root0_fun, x2_tile]
  unfold val_main_v43 val_main_v42
  have hr : val_main_v38 (F := Ideal) x0 x2 x3 x4 x5 = fun j => root fun l => X2 (ValueIdx.ix2 (j 0) l) :=
    funext fun j => (congrArg _ (ValueIdx.eq_ix2 (n0 := 4096) (n1 := 1) j)).trans (rootref x0 x2 x3 x4 x5 _ _)
  rw [hr]
  generalize X2 = X
  simp only [tile]
  pointwise!

/-- The error, and the loss's own gradient. -/
theorem err_tile : k0_pay12 (F := Ideal) (tile k x0) (tile k U) (tile k S) W (val_main_v44 x6) (tile k x1) = tile k (val_main_v47 x0 x1 x2 x3 x4 x5 x6) := by
  funext j
  unfold k0_pay12
  rw [xh2_tile]
  unfold val_main_v47 val_main_v46 val_main_v45
  generalize val_main_v43 (F := Ideal) x0 x2 x3 x4 x5 = X
  generalize val_main_v44 (F := Ideal) x6 = Y
  simp only [tile]
  pointwise!

abbrev two : EReal := Ideal.ofBits .f32 0x40000000#32
abbrev halfp : EReal := Ideal.ofBits .f32 0x3F000000#32
abbrev rwidth : EReal := Ideal.ofBits .f32 0x3A800000#32
abbrev rwidth2 : EReal := Ideal.ofBits .f32 0x3A000000#32
theorem two_eq : two = ((2 : ℝ) : EReal) := by
  simp [two, Ideal.ofBits, Ideal.ieee]
  rw [← EReal.coe_mul]
  norm_num
theorem halfp_eq : halfp = ((1 / 2 : ℝ) : EReal) := by
  simp [halfp, Ideal.ofBits, Ideal.ieee]
  rw [← EReal.coe_mul]
  norm_num
theorem rwidth_eq : rwidth = ((1 / 1024 : ℝ) : EReal) := by
  simp [rwidth, Ideal.ofBits, Ideal.ieee]
  rw [← EReal.coe_mul]
  norm_num
theorem rwidth2_eq : rwidth2 = ((1 / 2048 : ℝ) : EReal) := by
  simp [rwidth2, Ideal.ofBits, Ideal.ieee]
  rw [← EReal.coe_mul]
  norm_num
theorem scale_eq (e : EReal) : Ideal.div halfp width * (two * e) = e * rwidth := by
  rw [halfp_eq, two_eq, width_eq, rwidth_eq, div_real _ (by norm_num), ← mul_assoc, ← EReal.coe_mul, mul_comm]
  norm_num

theorem derr_tile : k0_pay13 (F := Ideal) (tile k x0) (tile k U) (tile k S) W (val_main_v44 x6) (tile k x1) = tile k (val_main_v61 x0 x1 x2 x3 x4 x5 x6) := by
  funext j
  unfold k0_pay13
  rw [err_tile]
  unfold val_main_v61 val_main_v60 val_main_v59 val_main_v58 val_main_v57 val_main_v56 val_main_v50 val_main_v49 val_main_cst_9 val_main_cst_14 val_main_cst_15 val_main_cst_16
  generalize val_main_v47 (F := Ideal) x0 x1 x2 x3 x4 x5 x6 = E
  simp only [tile]
  pointwise!
  exact (scale_eq _).symm

/-- The two rows of sums, this tile added. -/
theorem stat0_row (s : Vec Ideal S1x1024 .f32) (l : Fin 1024) :
    k0_pay14 (F := Ideal) (tile k x0) (tile k U) (tile k S) W (val_main_v44 x6) (tile k x1) s (ValueIdx.ix2 0 l)
      = s (ValueIdx.ix2 0 l) + ∑ r : Fin 512, val_main_v62 x0 x1 x2 x3 x4 x5 x6 (ValueIdx.ix2 (row k r) l) := by
  unfold k0_pay14
  rw [derr_tile, xh2_tile]
  unfold val_main_v62
  generalize val_main_v61 (F := Ideal) x0 x1 x2 x3 x4 x5 x6 = D
  generalize val_main_v43 (F := Ideal) x0 x2 x3 x4 x5 = X
  simp only [tile]
  pointwise!
theorem stat1_row (s : Vec Ideal S1x1024 .f32) (l : Fin 1024) :
    k0_pay15 (F := Ideal) (tile k x0) (tile k U) (tile k S) W (val_main_v44 x6) (tile k x1) s (ValueIdx.ix2 0 l)
      = s (ValueIdx.ix2 0 l) + rwidth2 * ∑ r : Fin 512, val_main_v48 x0 x1 x2 x3 x4 x5 x6 (ValueIdx.ix2 (row k r) l) := by
  unfold k0_pay15
  rw [err_tile]
  unfold val_main_v48 rwidth2
  generalize val_main_v47 (F := Ideal) x0 x1 x2 x3 x4 x5 x6 = E
  simp only [tile]
  pointwise!

local notation "D" => val_main_v66 (F := Ideal) x0 x1 x2 x3 x4 x5 x6

/-- The gradient at the layer's output, as the body has it. -/
theorem dx2_row (i : Fin 512) (l : Fin 1024) :
    k0_pay1 (F := Ideal) (k0_pay10 (tile k x0) (tile k U) (tile k S) W) (k0_pay11 (tile k x0) (tile k U) (tile k S) W)
      (k0_pay13 (tile k x0) (tile k U) (tile k S) W (val_main_v44 x6) (tile k x1)) (val_main_v44 x6) (ValueIdx.ix2 i l)
    = root (fun l => X2 (ValueIdx.ix2 (row k i) l)) * (D (ValueIdx.ix2 (row k i) l) - X2 (ValueIdx.ix2 (row k i) l) * root (fun l => X2 (ValueIdx.ix2 (row k i) l))
      * Ideal.div (∑ l, D (ValueIdx.ix2 (row k i) l) * (X2 (ValueIdx.ix2 (row k i) l) * root fun l => X2 (ValueIdx.ix2 (row k i) l))) width) := by
  unfold k0_pay11
  rw [derr_tile, root0_fun, x2_tile]
  unfold val_main_v66 val_main_v65
  generalize X2 = X
  generalize val_main_v61 (F := Ideal) x0 x1 x2 x3 x4 x5 x6 = E
  generalize val_main_v44 (F := Ideal) x6 = Y
  unfold k0_pay1
  simp only [tile]
  pointwise!

/-- The same as the reference has it. -/
theorem dx2_ref (n : Fin 4096) (l : Fin 1024) :
    val_main_v81 (F := Ideal) x0 x1 x2 x3 x4 x5 x6 (ValueIdx.ix2 n l) = D (ValueIdx.ix2 n l) * root (fun l => X2 (ValueIdx.ix2 n l))
      + X2 (ValueIdx.ix2 n l) * Ideal.div ((∑ l, X2 (ValueIdx.ix2 n l) * D (ValueIdx.ix2 n l)) * (half * Ideal.div (root fun l => X2 (ValueIdx.ix2 n l)) (power fun l => X2 (ValueIdx.ix2 n l)))) width
      + Ideal.div ((∑ l, X2 (ValueIdx.ix2 n l) * D (ValueIdx.ix2 n l)) * (half * Ideal.div (root fun l => X2 (ValueIdx.ix2 n l)) (power fun l => X2 (ValueIdx.ix2 n l)))) width * X2 (ValueIdx.ix2 n l) := by
  have hp (u : Fin 1) : val_main_v37 (F := Ideal) x0 x2 x3 x4 x5 (ValueIdx.ix2 n u) = power fun l => X2 (ValueIdx.ix2 n l) := by
    unfold val_main_v37 val_main_v35 val_main_v33 val_main_v32 val_main_v31 val_main_v34 val_main_v36 val_main_cst_5 val_main_cst_6 val_main_cst_7 power
    generalize X2 = X
    pointwise!
  have hr := rootref x0 x2 x3 x4 x5 n
  have hq (u : Fin 1024) : val_main_v77 (F := Ideal) x0 x1 x2 x3 x4 x5 x6 (ValueIdx.ix2 n u) = Ideal.div ((∑ l, X2 (ValueIdx.ix2 n l) * D (ValueIdx.ix2 n l)) * (half * Ideal.div (root fun l => X2 (ValueIdx.ix2 n l)) (power fun l => X2 (ValueIdx.ix2 n l)))) width := by
    rw [← hp 0, ← hr 0]
    unfold val_main_v77 val_main_v76 val_main_v75 val_main_v74 val_main_v73 val_main_v70 val_main_v69 val_main_v68 val_main_v41 val_main_v40 val_main_v39 val_main_cst_21 val_main_cst_20 val_main_cst_19 val_main_cst_8
    generalize val_main_v37 (F := Ideal) x0 x2 x3 x4 x5 = P
    generalize val_main_v38 (F := Ideal) x0 x2 x3 x4 x5 = R
    generalize X2 = X
    generalize D = d
    pointwise!
    exact (Fin.sum_univ_one _).trans rfl
  rw [← hq l, ← hr 0]
  unfold val_main_v81 val_main_v79 val_main_v80 val_main_v78 val_main_v72 val_main_v71
  generalize val_main_v77 (F := Ideal) x0 x1 x2 x3 x4 x5 x6 = Q
  generalize val_main_v38 (F := Ideal) x0 x2 x3 x4 x5 = R
  generalize X2 = X
  generalize D = d
  pointwise!

theorem dx2_tile (hX : ∀ i, IsReal (X2 i)) (hD : ∀ i, IsReal (D i)) :
    k0_pay1 (F := Ideal) (k0_pay10 (tile k x0) (tile k U) (tile k S) W) (k0_pay11 (tile k x0) (tile k U) (tile k S) W)
      (k0_pay13 (tile k x0) (tile k U) (tile k S) W (val_main_v44 x6) (tile k x1)) (val_main_v44 x6) = tile k (val_main_v81 x0 x1 x2 x3 x4 x5 x6) := by
  funext j
  refine (congrArg _ (ValueIdx.eq_ix2 (n0 := 512) (n1 := 1024) j)).trans ((dx2_row k x0 x1 x2 x3 x4 x5 x6 (j 0) (j 1)).trans (Eq.trans ?_ (dx2_ref x0 x1 x2 x3 x4 x5 x6 (row k (j 0)) (j 1)).symm))
  rw [norm_grad (fun l => X2 (ValueIdx.ix2 (row k (j 0)) l)) (fun l => D (ValueIdx.ix2 (row k (j 0)) l)) (fun _ => hX _) (fun _ => hD _) (j 1), add_assoc]

end Cert.FfnKernelIdeal.Ffn
-- ==== Proof.Norm.Rows16.lean ====
/- AN ARRAY OF 4096 ROWS in 16 tiles of 256, and a sum over the rows taken tile by tile. -/
module

public import Idealize.ShloMosaic.Lib.Pointwise
public import Idealize.ShloMosaic.PureOps.Ideal

@[expose] public section

noncomputable section

namespace Cert.Norm

open Idealize.ShloMosaic

/-- Row `r` of tile `k` of 256 rows. -/
abbrev row16 (k : Fin 16) (r : Fin 256) : Fin 4096 := ⟨256 * k.val + r.val, by omega⟩

/-- Tile `k` of 256 rows. -/
abbrev tile16 {α : Type} {n : Nat} (k : Fin 16) (X : (⟨2, ![4096, n]⟩ : Shape).Idx → α) : (⟨2, ![256, n]⟩ : Shape).Idx → α :=
  fun j => X (ValueIdx.ix2 (row16 k (j 0)) (j 1))

/-- The sum over the rows before tile `k` of 256 rows. -/
def head16 (f : Fin 4096 → EReal) (k : Nat) : EReal := ∑ n ∈ Finset.range (256 * k), if h : n < 4096 then f ⟨n, h⟩ else 0

theorem head16_zero (f : Fin 4096 → EReal) : head16 f 0 = 0 := by simp [head16]

theorem head16_step (f : Fin 4096 → EReal) (k : Fin 16) : head16 f (k.val + 1) = head16 f k.val + ∑ r : Fin 256, f (row16 k r) := by
  have hk := k.isLt
  unfold head16
  rw [show 256 * (k.val + 1) = 256 * k.val + 256 by ring, Finset.sum_range_add,
    ← Fin.sum_univ_eq_sum_range (fun n => if h : 256 * k.val + n < 4096 then f ⟨256 * k.val + n, h⟩ else 0)]
  exact congrArg (_ + ·) (Finset.sum_congr rfl fun r _ => dif_pos (by omega))

theorem head16_all (f : Fin 4096 → EReal) : head16 f 16 = ∑ n, f n := by
  unfold head16
  rw [show 256 * 16 = 4096 by rfl, ← Fin.sum_univ_eq_sum_range (fun n => if h : n < 4096 then f ⟨n, h⟩ else 0)]
  exact Finset.sum_congr rfl fun r _ => dif_pos r.isLt

end Cert.Norm
-- ==== Proof.Ffn.Rows1.lean ====
/- WHAT ONE POINT OF `ffn_bwd` COMPUTES of its tile of 256 rows, and what the reference has there. -/
module

public import proofs.«01_k».proof.Proof.Ffn.Rows0
public import proofs.«01_k».proof.Proof.Norm.Rows16

@[expose] public section

set_option maxRecDepth 16384

noncomputable section

namespace Cert.FfnKernelIdeal.Ffn

open Idealize.ShloMosaic Idealize.ShloMosaic.TcCoe Idealize.ShloMosaic.Tactic
open Cert.FfnKernelIdeal.Gen
open Cert.FfnReferenceIdeal.Read
open Cert.Norm Cert.Reals

variable (k : Fin 16) (x0 x1 : Vec Ideal S4096x1024 .f32) (x2 : Vec Ideal S1x1024 .f32) (x3 x4 : Vec Ideal S1x1024x2816 .f32) (x5 : Vec Ideal S1x2816x1024 .f32) (x6 : Vec Ideal S1024 .f32)

local notation "G" => val_main_v21 (F := Ideal) x0 x2 x3
local notation "U" => val_main_v24 (F := Ideal) x0 x2 x4
local notation "G16" => val_main_v122 (F := Ideal) x0 x2 x3
local notation "U16" => val_main_v123 (F := Ideal) x0 x2 x4
local notation "W" => val_main_v27 (F := Ideal) x5
local notation "DX" => val_main_v81 (F := Ideal) x0 x1 x2 x3 x4 x5 x6
local notation "DH" => val_main_v88 (F := Ideal) x0 x1 x2 x3 x4 x5 x6
local notation "D" => val_main_v93 (F := Ideal) x0 x1 x2 x3 x4 x5 x6

/-- The gate's logistic function, and the gate. -/
theorem sg_tile : k1_pay6 (F := Ideal) (tile16 k G16) = tile16 k (val_main_v25_2 x0 x2 x3) := by
  funext j
  unfold k1_pay6 k1_pay4 val_main_v122 val_main_v25_2 val_main_call0_v4 val_main_call0_cst_0 val_main_call0_v3 val_main_call0_v2 val_main_call0_cst val_main_call0_v1 val_main_call0_v0
  generalize G = g
  simp only [tile16]
  pointwise!
  rw [sub_eq_add_neg, zero_add]
theorem silu16_tile : k1_pay7 (F := Ideal) (tile16 k G16) = tile16 k (val_main_v25_0 x0 x2 x3) := by
  funext j
  unfold k1_pay7
  rw [sg_tile]
  unfold k1_pay4 val_main_v122 val_main_v25_0
  generalize G = g
  generalize val_main_v25_2 (F := Ideal) x0 x2 x3 = s
  simp only [tile16]
  pointwise!
theorem act_tile : k1_pay8 (F := Ideal) (tile16 k G16) (tile16 k U16) = tile16 k (val_main_v126 x0 x2 x3 x4) := by
  funext j
  unfold k1_pay8
  rw [silu16_tile]
  unfold k1_pay5 val_main_v123 val_main_v126 val_main_v26
  generalize U = u
  generalize val_main_v25_0 (F := Ideal) x0 x2 x3 = s
  simp only [tile16]
  pointwise!

/-- The gradient at the gate's output. -/
theorem dact_tile : k1_pay9 (F := Ideal) (tile16 k DX) W = tile16 k (val_main_v82 x0 x1 x2 x3 x4 x5 x6) := by
  funext j
  unfold k1_pay9 k1_pay3 val_main_v82
  generalize DX = d
  generalize W = w
  simp only [tile16]
  pointwise!
theorem dup_tile : k1_pay10 (F := Ideal) (tile16 k DX) (tile16 k G16) W = tile16 k (val_main_v125 x0 x1 x2 x3 x4 x5 x6) := by
  funext j
  unfold k1_pay10
  rw [dact_tile, silu16_tile]
  unfold val_main_v125 val_main_v83
  generalize val_main_v82 (F := Ideal) x0 x1 x2 x3 x4 x5 x6 = d
  generalize val_main_v25_0 (F := Ideal) x0 x2 x3 = s
  simp only [tile16]
  pointwise!

/-- The gate's gradient, of real numbers. -/
theorem silu_grad (c s g : EReal) (hc : IsReal c) (hs : IsReal s) (hg : IsReal g) : c * (s * (1 + g * (1 - s))) = c * s + g * c * (s * (1 - s)) := by
  obtain ⟨c, rfl⟩ := hc
  obtain ⟨s, rfl⟩ := hs
  obtain ⟨g, rfl⟩ := hg
  rw [← EReal.coe_one]
  simp only [← EReal.coe_mul, ← EReal.coe_add, ← EReal.coe_sub]
  rw [EReal.coe_eq_coe_iff]
  ring
theorem dgate_tile (hc : ∀ i, IsReal (val_main_v84 (F := Ideal) x0 x1 x2 x3 x4 x5 x6 i)) (hs : ∀ i, IsReal (val_main_v25_2 (F := Ideal) x0 x2 x3 i)) (hg : ∀ i, IsReal (G i)) :
    k1_pay11 (F := Ideal) (tile16 k DX) (tile16 k G16) (tile16 k U16) W = tile16 k (val_main_v124 x0 x1 x2 x3 x4 x5 x6) := by
  funext j
  unfold k1_pay11
  rw [dact_tile, sg_tile]
  refine Eq.trans ?_ (silu_grad _ _ _ (hc (ValueIdx.ix2 (row16 k (j 0)) (j 1))) (hs (ValueIdx.ix2 (row16 k (j 0)) (j 1))) (hg (ValueIdx.ix2 (row16 k (j 0)) (j 1)))) |>.trans ?_
  · unfold k1_pay5 k1_pay4 val_main_v84 val_main_v123 val_main_v122
    generalize val_main_v82 (F := Ideal) x0 x1 x2 x3 x4 x5 x6 = d
    generalize val_main_v25_2 (F := Ideal) x0 x2 x3 = s
    generalize G = g
    generalize U = u
    simp only [tile16]
    pointwise!
  · unfold val_main_v124 val_main_v85 val_main_call1_v1 val_main_call1_v2 val_main_call1_v0 val_main_v25_1 val_main_call0_v7 val_main_call0_v6 val_main_call0_cst_1
    generalize val_main_v84 (F := Ideal) x0 x1 x2 x3 x4 x5 x6 = c
    generalize val_main_v25_2 (F := Ideal) x0 x2 x3 = s
    generalize G = g
    simp only [tile16]
    pointwise!

local notation "P" => val_main_v125 (F := Ideal) x0 x1 x2 x3 x4 x5 x6
local notation "Q" => val_main_v124 (F := Ideal) x0 x1 x2 x3 x4 x5 x6

/-- The gradient at the normed rows. -/
theorem dh_tile : k1_pay12 (F := Ideal) (tile16 k P) (tile16 k Q) (turned (val_main_v19 x3)) (turned (val_main_v22 x4)) = tile16 k DH := by
  funext j
  unfold k1_pay12 val_main_v125 val_main_v124 val_main_v88 val_main_v86 val_main_v87
  generalize val_main_v83 (F := Ideal) x0 x1 x2 x3 x4 x5 x6 = p
  generalize val_main_v85 (F := Ideal) x0 x1 x2 x3 x4 x5 x6 = q
  generalize val_main_v19 (F := Ideal) x3 = w
  generalize val_main_v22 (F := Ideal) x4 = v
  simp only [tile16, turned]
  pointwise!

/-- The norm again: its root, the row divided by it, the normed row. -/
theorem root1_tile (i : Fin 256) (u : Fin 1) : k1_pay13 (F := Ideal) (tile16 k x0) (ValueIdx.ix2 i u) = root fun l => x0 (ValueIdx.ix2 (row16 k i) l) := by
  unfold k1_pay13 root power
  simp only [tile16]
  pointwise!
theorem root1_fun : k1_pay13 (F := Ideal) (tile16 k x0) = fun j => root fun l => x0 (ValueIdx.ix2 (row16 k (j 0)) l) :=
  funext fun j => (congrArg _ (ValueIdx.eq_ix2 (n0 := 256) (n1 := 1) j)).trans (root1_tile k x0 _ _)
theorem rootref1 (n : Fin 4096) (u : Fin 1) : val_main_v10 (F := Ideal) x0 (ValueIdx.ix2 n u) = root fun l => x0 (ValueIdx.ix2 n l) := by
  unfold val_main_v10 val_main_v9 val_main_v7 val_main_v5 val_main_v4 val_main_v3 val_main_v6 val_main_v8 val_main_cst_1 val_main_cst_2 val_main_cst_3 root power
  pointwise!
theorem xh1_tile : k1_pay14 (F := Ideal) (tile16 k x0) = tile16 k (val_main_v15 x0) := by
  funext j
  unfold k1_pay14
  rw [root1_fun]
  unfold val_main_v15 val_main_v14
  have hr : val_main_v10 (F := Ideal) x0 = fun j => root fun l => x0 (ValueIdx.ix2 (j 0) l) :=
    funext fun j => (congrArg _ (ValueIdx.eq_ix2 (n0 := 4096) (n1 := 1) j)).trans (rootref1 x0 _ _)
  rw [hr]
  simp only [tile16]
  pointwise!
theorem h2_tile : k1_pay15 (F := Ideal) (tile16 k x0) x2 = tile16 k (val_main_v127 x0 x2) := by
  funext j
  unfold k1_pay15
  rw [xh1_tile]
  unfold val_main_v127 val_main_v18 val_main_v17 val_main_v16 val_main_v2
  generalize val_main_v15 (F := Ideal) x0 = X
  simp only [tile16]
  pointwise!

/-- The row of the norm's own gradient, this tile added. -/
theorem stat_row (s : Vec Ideal S1x1024 .f32) (l : Fin 1024) :
    k1_pay16 (F := Ideal) (tile16 k P) (tile16 k Q) (turned (val_main_v19 x3)) (turned (val_main_v22 x4)) (tile16 k x0) s (ValueIdx.ix2 0 l)
      = s (ValueIdx.ix2 0 l) + ∑ r : Fin 256, val_main_v89 x0 x1 x2 x3 x4 x5 x6 (ValueIdx.ix2 (row16 k r) l) := by
  unfold k1_pay16
  rw [dh_tile, xh1_tile]
  unfold val_main_v89
  generalize DH = d
  generalize val_main_v15 (F := Ideal) x0 = X
  simp only [tile16]
  pointwise!
theorem dxh_tile : k1_pay17 (F := Ideal) (tile16 k P) (tile16 k Q) (turned (val_main_v19 x3)) (turned (val_main_v22 x4)) x2 = tile16 k D := by
  funext j
  unfold k1_pay17
  rw [dh_tile]
  unfold val_main_v93 val_main_v92 val_main_v16 val_main_v2
  generalize DH = d
  simp only [tile16]
  pointwise!

/-- The gradient at the layer's input, as the body has it. -/
theorem dx1_row (i : Fin 256) (l : Fin 1024) :
    k1_pay1 (F := Ideal) (k1_pay3 (tile16 k DX)) (k1_pay13 (tile16 k x0)) (k1_pay14 (tile16 k x0)) (k1_pay17 (tile16 k P) (tile16 k Q) (turned (val_main_v19 x3)) (turned (val_main_v22 x4)) x2)
      (k1_pay18 (tile16 k P) (tile16 k Q) (turned (val_main_v19 x3)) (turned (val_main_v22 x4)) (tile16 k x0) x2) (ValueIdx.ix2 i l)
    = DX (ValueIdx.ix2 (row16 k i) l) + (root (fun l => x0 (ValueIdx.ix2 (row16 k i) l)) * (D (ValueIdx.ix2 (row16 k i) l) - x0 (ValueIdx.ix2 (row16 k i) l) * root (fun l => x0 (ValueIdx.ix2 (row16 k i) l))
      * Ideal.div (∑ l, D (ValueIdx.ix2 (row16 k i) l) * (x0 (ValueIdx.ix2 (row16 k i) l) * root fun l => x0 (ValueIdx.ix2 (row16 k i) l))) width)) := by
  unfold k1_pay18
  rw [dxh_tile]
  unfold k1_pay14
  rw [root1_fun]
  generalize D = d
  generalize DX = e
  unfold k1_pay1 k1_pay3
  simp only [tile16]
  pointwise!

/-- The same as the reference has it. -/
theorem dx1_ref (n : Fin 4096) (l : Fin 1024) :
    val_main_v109 (F := Ideal) x0 x1 x2 x3 x4 x5 x6 (ValueIdx.ix2 n l) = DX (ValueIdx.ix2 n l) + D (ValueIdx.ix2 n l) * root (fun l => x0 (ValueIdx.ix2 n l))
      + x0 (ValueIdx.ix2 n l) * Ideal.div ((∑ l, x0 (ValueIdx.ix2 n l) * D (ValueIdx.ix2 n l)) * (half * Ideal.div (root fun l => x0 (ValueIdx.ix2 n l)) (power fun l => x0 (ValueIdx.ix2 n l)))) width
      + Ideal.div ((∑ l, x0 (ValueIdx.ix2 n l) * D (ValueIdx.ix2 n l)) * (half * Ideal.div (root fun l => x0 (ValueIdx.ix2 n l)) (power fun l => x0 (ValueIdx.ix2 n l)))) width * x0 (ValueIdx.ix2 n l) := by
  have hp (u : Fin 1) : val_main_v9 (F := Ideal) x0 (ValueIdx.ix2 n u) = power fun l => x0 (ValueIdx.ix2 n l) := by
    unfold val_main_v9 val_main_v7 val_main_v5 val_main_v4 val_main_v3 val_main_v6 val_main_v8 val_main_cst_1 val_main_cst_2 val_main_cst_3 power
    pointwise!
  have hr := rootref1 x0 n
  have hq (u : Fin 1024) : val_main_v105 (F := Ideal) x0 x1 x2 x3 x4 x5 x6 (ValueIdx.ix2 n u) = Ideal.div ((∑ l, x0 (ValueIdx.ix2 n l) * D (ValueIdx.ix2 n l)) * (half * Ideal.div (root fun l => x0 (ValueIdx.ix2 n l)) (power fun l => x0 (ValueIdx.ix2 n l)))) width := by
    rw [← hp 0, ← hr 0]
    unfold val_main_v105 val_main_v104 val_main_v103 val_main_v102 val_main_v101 val_main_v97 val_main_v96 val_main_v95 val_main_v13 val_main_v12 val_main_v11 val_main_cst_26 val_main_cst_25 val_main_cst_24 val_main_cst_4
    generalize val_main_v9 (F := Ideal) x0 = p
    generalize val_main_v10 (F := Ideal) x0 = R
    generalize D = d
    pointwise!
    exact (Fin.sum_univ_one _).trans rfl
  rw [← hq l, ← hr 0]
  unfold val_main_v109 val_main_v107 val_main_v108 val_main_v106 val_main_v100 val_main_v99 val_main_v98
  generalize val_main_v105 (F := Ideal) x0 x1 x2 x3 x4 x5 x6 = q
  generalize val_main_v10 (F := Ideal) x0 = R
  generalize D = d
  generalize DX = e
  pointwise!

theorem dx1_tile (hX : ∀ i, IsReal (x0 i)) (hD : ∀ i, IsReal (D i)) :
    k1_pay1 (F := Ideal) (k1_pay3 (tile16 k DX)) (k1_pay13 (tile16 k x0)) (k1_pay14 (tile16 k x0)) (k1_pay17 (tile16 k P) (tile16 k Q) (turned (val_main_v19 x3)) (turned (val_main_v22 x4)) x2)
      (k1_pay18 (tile16 k P) (tile16 k Q) (turned (val_main_v19 x3)) (turned (val_main_v22 x4)) (tile16 k x0) x2) = tile16 k (val_main_v109 x0 x1 x2 x3 x4 x5 x6) := by
  funext j
  refine (congrArg _ (ValueIdx.eq_ix2 (n0 := 256) (n1 := 1024) j)).trans ((dx1_row k x0 x1 x2 x3 x4 x5 x6 (j 0) (j 1)).trans (Eq.trans ?_ (dx1_ref x0 x1 x2 x3 x4 x5 x6 (row16 k (j 0)) (j 1)).symm))
  rw [norm_grad (fun l => x0 (ValueIdx.ix2 (row16 k (j 0)) l)) (fun l => D (ValueIdx.ix2 (row16 k (j 0)) l)) (fun _ => hX _) (fun _ => hD _) (j 1), add_assoc, add_assoc]

end Cert.FfnKernelIdeal.Ffn
-- ==== Proof.Ffn.Values0.lean ====
/- WHAT `ffn_fwd` LEAVES: each point's tiles of the gate's two products and of the gradient at the layer's output, and the two rows of sums, the tiles added one after the other. -/
module

public import proofs.«01_k».proof.Proof.Gen.FfnKernelIdeal.Frame
public import proofs.«01_k».proof.Proof.Ffn.Rows0
public import proofs.«01_k».proof.Proof.Mix.Finite
public import proofs.«01_k».proof.Proof.Mix.Reads
public import Idealize.ShloMosaic.Lib.Pipeline.ReadBack

@[expose] public section

set_option maxRecDepth 16384

noncomputable section

namespace Cert.FfnKernelIdeal.Ffn

open Idealize.ShloMosaic Idealize.ShloMosaic.TcCoe Idealize.ShloMosaic.Tactic
open Idealize.SL Idealize.SL.Sem
open Cert.FfnKernelIdeal.Gen
open Cert.FfnReferenceIdeal.Read
open Cert.Norm Cert.Reals
open Cert.MixKernelIdeal.Mix (canon_hit canon_miss read_over ld_apply2)

variable (x0 x1 : Vec Ideal S4096x1024 .f32) (x2 : Vec Ideal S1x1024 .f32) (x3 x4 : Vec Ideal S1x1024x2816 .f32) (x5 : Vec Ideal S1x2816x1024 .f32) (x6 : Vec Ideal S1024 .f32)
variable (V : (c : Dev nD) → (b : Ref sig .tc) → Buf (Elt Ideal) ((c : Thread nD τ).loc b)) (c : Dev nD)

/-- What the call finds in its arguments. -/
structure Entry0 : Prop where
  a0 : V c main_arg0 = x0
  a1 : V c main_arg1 = x1
  a2 : V c main_arg2 = x2
  a3 : V c main_v2 = turned (val_main_v19 x3)
  a4 : V c main_v5 = turned (val_main_v22 x4)
  a5 : V c main_v7 = val_main_v27 (F := Ideal) x5
  a6 : V c main_v8 = val_main_v44 (F := Ideal) x6

/-- The tile a point works on. -/
abbrev kk (t : Fin cfg0.N) : Fin 8 := t

theorem idx_tile0 : ∀ t : Fin cfg0.N, (cfg0.win 0).index t = ![t.val, 0] ∧ (cfg0.win 1).index t = ![t.val, 0] ∧ (cfg0.win 7).index t = ![t.val, 0] ∧
    (cfg0.win 8).index t = ![t.val, 0] ∧ (cfg0.win 9).index t = ![t.val, 0] := by decide +kernel
theorem idx_whole0 : ∀ t : Fin cfg0.N, (cfg0.win 2).index t = ![0, 0] ∧ (cfg0.win 3).index t = ![0, 0] ∧ (cfg0.win 4).index t = ![0, 0] ∧
    (cfg0.win 5).index t = ![0, 0] ∧ (cfg0.win 6).index t = ![0, 0] ∧ (cfg0.win 10).index t = ![0, 0] := by decide +kernel

variable (t : Fin cfg0.N)
variable {x0 x1 x2 x3 x4 x5 x6 V c} (h : Entry0 x0 x1 x2 x3 x4 x5 x6 V c)
include h

theorem blk0_0 : iblk0 V c 0 t = tile (kk t) x0 := by
  show ((cfg0.win 0).blk t).view.read (Elt Ideal) (V c main_arg0) = _
  rw [h.a0]
  funext j
  have e := (idx_tile0 t).1
  show x0 _ = x0 _
  blk_ext [e, kk]
theorem blk0_1 : iblk0 V c 1 t = tile (kk t) x1 := by
  show ((cfg0.win 1).blk t).view.read (Elt Ideal) (V c main_arg1) = _
  rw [h.a1]
  funext j
  have e := (idx_tile0 t).2.1
  show x1 _ = x1 _
  blk_ext [e, kk]
theorem blk0_2 : iblk0 V c 2 t = x2 := by
  show ((cfg0.win 2).blk t).view.read (Elt Ideal) (V c main_arg2) = _
  rw [h.a2]
  funext j
  have e := (idx_whole0 t).1
  show x2 _ = x2 _
  blk_ext [e]
theorem blk0_3 : iblk0 V c 3 t = turned (val_main_v19 x3) := by
  show ((cfg0.win 3).blk t).view.read (Elt Ideal) (V c main_v2) = _
  rw [h.a3]
  generalize turned (val_main_v19 x3) = X
  funext j
  have e := (idx_whole0 t).2.1
  show X _ = X _
  blk_ext [e]
theorem blk0_4 : iblk0 V c 4 t = turned (val_main_v22 x4) := by
  show ((cfg0.win 4).blk t).view.read (Elt Ideal) (V c main_v5) = _
  rw [h.a4]
  generalize turned (val_main_v22 x4) = X
  funext j
  have e := (idx_whole0 t).2.2.1
  show X _ = X _
  blk_ext [e]
theorem blk0_5 : iblk0 V c 5 t = val_main_v27 (F := Ideal) x5 := by
  show ((cfg0.win 5).blk t).view.read (Elt Ideal) (V c main_v7) = _
  rw [h.a5]
  generalize val_main_v27 (F := Ideal) x5 = X
  funext j
  have e := (idx_whole0 t).2.2.2.1
  show X _ = X _
  blk_ext [e]
theorem blk0_6 : iblk0 V c 6 t = val_main_v44 (F := Ideal) x6 := by
  show ((cfg0.win 6).blk t).view.read (Elt Ideal) (V c main_v8) = _
  rw [h.a6]
  generalize val_main_v44 (F := Ideal) x6 = X
  funext j
  have e := (idx_whole0 t).2.2.2.2.1
  show X _ = X _
  blk_ext [e]

/-- A point's tiles of the gate's two products. -/
theorem gate_out : (outsAt0 V c t.val t.isLt).1 = tile (kk t) (val_main_v122 (F := Ideal) x0 x2 x3) := by
  by_cases h0 : t.val % 8 = 0
  · rw [outsAt0_A V c t h0]
    dsimp only
    frame_out
    simp only [blk0_0 t h, blk0_2 t h, blk0_3 t h]
    exact gate16_tile _ _ _ _
  · rw [outsAt0_B V c t h0]
    dsimp only
    frame_out
    simp only [blk0_0 t h, blk0_2 t h, blk0_3 t h]
    exact gate16_tile _ _ _ _
theorem up_out : (outsAt0 V c t.val t.isLt).2.1 = tile (kk t) (val_main_v123 (F := Ideal) x0 x2 x4) := by
  by_cases h0 : t.val % 8 = 0
  · rw [outsAt0_A V c t h0]
    dsimp only
    frame_out
    simp only [blk0_0 t h, blk0_2 t h, blk0_4 t h]
    exact up16_tile _ _ _ _
  · rw [outsAt0_B V c t h0]
    dsimp only
    frame_out
    simp only [blk0_0 t h, blk0_2 t h, blk0_4 t h]
    exact up16_tile _ _ _ _

/-- A point's tile of the gradient at the layer's output. -/
theorem dx2_out (hX : ∀ i, IsReal (val_main_v30 (F := Ideal) x0 x2 x3 x4 x5 i)) (hD : ∀ i, IsReal (val_main_v66 (F := Ideal) x0 x1 x2 x3 x4 x5 x6 i)) :
    (outsAt0 V c t.val t.isLt).2.2.1 = tile (kk t) (val_main_v81 (F := Ideal) x0 x1 x2 x3 x4 x5 x6) := by
  by_cases h0 : t.val % 8 = 0
  · rw [outsAt0_A V c t h0]
    dsimp only
    frame_out
    simp only [blk0_0 t h, blk0_1 t h, blk0_2 t h, blk0_3 t h, blk0_4 t h, blk0_5 t h, blk0_6 t h, up_tile, silu_tile]
    exact dx2_tile _ _ _ _ _ _ _ _ hX hD
  · rw [outsAt0_B V c t h0]
    dsimp only
    frame_out
    simp only [blk0_0 t h, blk0_1 t h, blk0_2 t h, blk0_3 t h, blk0_4 t h, blk0_5 t h, blk0_6 t h, up_tile, silu_tile]
    exact dx2_tile _ _ _ _ _ _ _ _ hX hD

omit h

/-- What a row adds to the 8 rows of sums. -/
def statf (x0 x1 : Vec Ideal S4096x1024 .f32) (x2 : Vec Ideal S1x1024 .f32) (x3 x4 : Vec Ideal S1x1024x2816 .f32) (x5 : Vec Ideal S1x2816x1024 .f32) (x6 : Vec Ideal S1024 .f32)
    (i : Fin 8) (n : Fin 4096) (l : Fin 1024) : EReal :=
  if i = 0 then val_main_v62 (F := Ideal) x0 x1 x2 x3 x4 x5 x6 (ValueIdx.ix2 n l) else
  if i = 1 then rwidth2 * val_main_v48 (F := Ideal) x0 x1 x2 x3 x4 x5 x6 (ValueIdx.ix2 n l) else 0

theorem whole_8 (S : Vec Ideal S8x1024 .f32) : View.canon (Val := Elt Ideal) (s := S8x1024) (e := .f32) [⟨Rect.unit ![0, 0] ![8, 1024] inb_S8x1024_S8x1024_0_0, S⟩] = S :=
  View.canon_cons_unit_zero (Val := Elt Ideal) (S := S8x1024) (e := .f32) (by funext x; match x with | ⟨0, _⟩ => rfl | ⟨1, _⟩ => rfl) _ _ _

theorem sum_scaled {n : Nat} (f : Fin n → EReal) (hf : ∀ r, IsReal (f r)) : rwidth2 * ∑ r, f r = ∑ r, rwidth2 * f r := by
  choose g hg using hf
  obtain rfl : f = fun r => (g r : EReal) := funext hg
  rw [rwidth2_eq, ← coe_sum, ← EReal.coe_mul, Finset.mul_sum, coe_sum]
  simp only [EReal.coe_mul]

variable (k : Fin 8)

local notation "U" => val_main_v24 (F := Ideal) x0 x2 x4
local notation "S" => val_main_v25_0 (F := Ideal) x0 x2 x3
local notation "W" => val_main_v27 (F := Ideal) x5

/-- Two rows stored over known contents. -/
theorem two_rows (T : Vec Ideal S8x1024 .f32) {L : List (View.Piece (Elt Ideal) S8x1024 .f32)} (hL : View.canon L = T) (p q : Vec Ideal S1x1024 .f32) (i : Fin 8) (l : Fin 1024) :
    View.canon (Val := Elt Ideal) (s := S8x1024) (e := .f32) (⟨Rect.unit ![1, 0] ![1, 1024] inb_S8x1024_S1x1024_1_0, q⟩ :: ⟨Rect.unit ![0, 0] ![1, 1024] inb_S8x1024_S1x1024_0_0, p⟩ :: L) (ValueIdx.ix2 i l)
      = if i = 0 then p (ValueIdx.ix2 0 l) else if i = 1 then q (ValueIdx.ix2 0 l) else T (ValueIdx.ix2 i l) := by
  by_cases i1 : i = 1
  · subst i1
    rw [if_neg (by decide), if_pos rfl]
    exact canon_hit (e := .f32) (a := 1) (b := 0) inb_S8x1024_S1x1024_1_0 _ _ 1 l 0 l rfl (Nat.zero_add _).symm
  · have n1 : i.val ≠ 1 := fun e => i1 (Fin.ext e)
    refine (canon_miss (e := .f32) (a := 1) (b := 0) inb_S8x1024_S1x1024_1_0 _ _ i l (by omega)).trans ?_
    by_cases i0 : i = 0
    · subst i0
      rw [if_pos rfl]
      exact canon_hit (e := .f32) (a := 0) (b := 0) inb_S8x1024_S1x1024_0_0 _ _ 0 l 0 l rfl (Nat.zero_add _).symm
    · have n0 : i.val ≠ 0 := fun e => i0 (Fin.ext e)
      rw [if_neg i0, if_neg i1, ← hL]
      exact canon_miss (e := .f32) (a := 0) (b := 0) inb_S8x1024_S1x1024_0_0 _ _ i l (by omega)

/-- The two rows of sums stored over known contents. -/
theorem stat_step (hE : ∀ i, IsReal (val_main_v48 (F := Ideal) x0 x1 x2 x3 x4 x5 x6 i)) (T : Vec Ideal S8x1024 .f32) {L : List (View.Piece (Elt Ideal) S8x1024 .f32)} (hL : View.canon L = T) (i : Fin 8) (l : Fin 1024) :
    View.canon (Val := Elt Ideal) (s := S8x1024) (e := .f32)
      (⟨Rect.unit ![1, 0] ![1, 1024] inb_S8x1024_S1x1024_1_0, k0_pay15 (F := Ideal) (tile k x0) (tile k U) (tile k S) W (val_main_v44 x6) (tile k x1) (View.ld (e' := .f32) T (Rect.unit ![1, 0] ![1, 1024] inb_S8x1024_S1x1024_1_0))⟩
        :: ⟨Rect.unit ![0, 0] ![1, 1024] inb_S8x1024_S1x1024_0_0, k0_pay14 (F := Ideal) (tile k x0) (tile k U) (tile k S) W (val_main_v44 x6) (tile k x1) (View.ld (e' := .f32) T (Rect.unit ![0, 0] ![1, 1024] inb_S8x1024_S1x1024_0_0))⟩ :: L) (ValueIdx.ix2 i l)
      = T (ValueIdx.ix2 i l) + ∑ r : Fin 512, statf x0 x1 x2 x3 x4 x5 x6 i (row k r) l := by
  rw [two_rows T hL, stat0_row, stat1_row, sum_scaled _ fun _ => hE _,
    ld_apply2 (e := .f32) T inb_S8x1024_S1x1024_1_0 (ValueIdx.ix2 0 l) 1 l rfl (Nat.zero_add _).symm, ld_apply2 (e := .f32) T inb_S8x1024_S1x1024_0_0 (ValueIdx.ix2 0 l) 0 l rfl (Nat.zero_add _).symm]
  unfold statf
  split_ifs with i0 i1
  · rw [i0]
  · rw [i1]
  · rw [Finset.sum_const_zero, add_zero]

include h

set_option maxHeartbeats 2000000 in
theorem stat0_A (hE : ∀ i, IsReal (val_main_v48 (F := Ideal) x0 x1 x2 x3 x4 x5 x6 i)) (h0 : t.val % 8 = 0) (i : Fin 8) (l : Fin 1024) :
    (outsAt0 V c t.val t.isLt).2.2.2 (ValueIdx.ix2 i l) = 0 + ∑ r : Fin 512, statf x0 x1 x2 x3 x4 x5 x6 i (row (kk t) r) l := by
  rw [outsAt0_A V c t h0]
  dsimp only
  frame_out
  simp (disch := decide) only [↓ View.readCov_skip, ↓ View.readCov_cons_toLoadRect, ↓ View.readCov_fill]
  simp only [blk0_0 t h, blk0_1 t h, blk0_2 t h, blk0_3 t h, blk0_4 t h, blk0_5 t h, blk0_6 t h, up_tile, silu_tile]
  have z : (k0_pay2 (F := Ideal)) (ValueIdx.ix2 i l) = 0 := by
    unfold k0_pay2
    pointwise
  generalize k0_pay2 (F := Ideal) = T at *
  exact (stat_step (kk t) hE T (whole_8 T) i l).trans (congrArg (· + _) z)

theorem stat0_B (hE : ∀ i, IsReal (val_main_v48 (F := Ideal) x0 x1 x2 x3 x4 x5 x6 i)) (h0 : ¬t.val % 8 = 0) (i : Fin 8) (l : Fin 1024) :
    (outsAt0 V c t.val t.isLt).2.2.2 (ValueIdx.ix2 i l)
      = (outsAt0 V c (t.val - 1) (Nat.lt_of_le_of_lt (Nat.sub_le _ _) t.isLt)).2.2.2 (ValueIdx.ix2 i l) + ∑ r : Fin 512, statf x0 x1 x2 x3 x4 x5 x6 i (row (kk t) r) l := by
  rw [outsAt0_B V c t h0]
  dsimp only
  frame_out
  simp only [blk0_0 t h, blk0_1 t h, blk0_2 t h, blk0_3 t h, blk0_4 t h, blk0_5 t h, blk0_6 t h, up_tile, silu_tile]
  rw [read_over _ _ (fun x => by rw [Nat.zero_add]), Memref.IsWhole.read_unread]
  exact stat_step (kk t) hE _ (View.canon_cons_unit_zero rfl _ _ _) i l

theorem stat0 (hE : ∀ i, IsReal (val_main_v48 (F := Ideal) x0 x1 x2 x3 x4 x5 x6 i)) (i : Fin 8) (l : Fin 1024) : ∀ (n : Nat) (hn : n < cfg0.N),
    (outsAt0 V c n hn).2.2.2 (ValueIdx.ix2 i l) = head (fun r => statf x0 x1 x2 x3 x4 x5 x6 i r l) (n + 1)
  | 0, hn => (stat0_A ⟨0, hn⟩ h hE (Nat.zero_mod _) i l).trans ((congrArg (· + _) (head_zero fun r => statf x0 x1 x2 x3 x4 x5 x6 i r l).symm).trans (head_step (fun r => statf x0 x1 x2 x3 x4 x5 x6 i r l) (0 : Fin 8)).symm)
  | n + 1, hn => by
    have hN : n + 1 < 8 := hn
    have h0 : ¬(n + 1) % 8 = 0 := by omega
    exact (stat0_B ⟨n + 1, hn⟩ h hE h0 i l).trans ((congrArg (· + _) (stat0 hE i l n (Nat.lt_of_succ_lt hn))).trans (head_step (fun r => statf x0 x1 x2 x3 x4 x5 x6 i r l) (⟨n + 1, hN⟩ : Fin 8)).symm)

omit h

/-- The reference's 8 rows. -/
theorem stat0_ref (hE : ∀ i, IsReal (val_main_v48 (F := Ideal) x0 x1 x2 x3 x4 x5 x6 i)) (i : Fin 8) (l : Fin 1024) :
    val_main_v119 (F := Ideal) x0 x1 x2 x3 x4 x5 x6 (ValueIdx.ix2 i l) = ∑ n, statf x0 x1 x2 x3 x4 x5 x6 i n l := by
  unfold val_main_v119
  have h1 : val_main_v116 (F := Ideal) x0 x1 x2 x3 x4 x5 x6 (ValueIdx.ix2 0 l) = ∑ n : Fin 4096, val_main_v62 (F := Ideal) x0 x1 x2 x3 x4 x5 x6 (ValueIdx.ix2 n l) := by
    unfold val_main_v116 val_main_v67 val_main_v64 val_main_v63 val_main_cst_17 val_main_cst_18
    generalize val_main_v62 (F := Ideal) x0 x1 x2 x3 x4 x5 x6 = X
    pointwise!
    exact (Fin.sum_univ_one _).trans rfl
  have h2 : val_main_v117 (F := Ideal) x0 x1 x2 x3 x4 x5 x6 (ValueIdx.ix2 0 l) = ∑ n : Fin 4096, rwidth2 * val_main_v48 (F := Ideal) x0 x1 x2 x3 x4 x5 x6 (ValueIdx.ix2 n l) := by
    rw [← sum_scaled _ fun _ => hE _]
    have hs := isReal_sum Finset.univ (fun n : Fin 4096 => val_main_v48 (F := Ideal) x0 x1 x2 x3 x4 x5 x6 (ValueIdx.ix2 n l)) fun _ _ => hE _
    refine Eq.trans (b := Ideal.div (halfp * ∑ n : Fin 4096, val_main_v48 (F := Ideal) x0 x1 x2 x3 x4 x5 x6 (ValueIdx.ix2 n l)) width) ?_ ?_
    · unfold val_main_v117 val_main_v115 val_main_v114 val_main_v113 val_main_v112 val_main_v111 val_main_cst_27 val_main_cst_28 val_main_cst_29
      generalize val_main_v48 (F := Ideal) x0 x1 x2 x3 x4 x5 x6 = X
      pointwise!
    · obtain ⟨s, hs⟩ := hs
      rw [hs, halfp_eq, rwidth2_eq, width_eq, ← EReal.coe_mul, div_real _ (by norm_num), ← EReal.coe_mul]
      congr 1
      ring
  have h3 (i : Fin 6) : val_main_v118 (F := Ideal) (ValueIdx.ix2 i l) = 0 := by unfold val_main_v118 val_main_cst_30; pointwise
  unfold statf
  generalize val_main_v116 (F := Ideal) x0 x1 x2 x3 x4 x5 x6 = X at *
  generalize val_main_v117 (F := Ideal) x0 x1 x2 x3 x4 x5 x6 = Y at *
  generalize val_main_v118 (F := Ideal) = Z at *
  match i with
  | 0 => pointwise; exact (congrArg X ((ix2_inj _ _ _ _).mpr ⟨rfl, rfl⟩)).trans (h1.trans rfl)
  | 1 => pointwise; exact (congrArg Y ((ix2_inj _ _ _ _).mpr ⟨rfl, rfl⟩)).trans (h2.trans rfl)
  | 2 => pointwise; exact (congrArg Z ((ix2_inj _ _ _ _).mpr ⟨rfl, rfl⟩)).trans ((h3 0).trans Finset.sum_const_zero.symm)
  | 3 => pointwise; exact (congrArg Z ((ix2_inj _ _ _ _).mpr ⟨rfl, rfl⟩)).trans ((h3 1).trans Finset.sum_const_zero.symm)
  | 4 => pointwise; exact (congrArg Z ((ix2_inj _ _ _ _).mpr ⟨rfl, rfl⟩)).trans ((h3 2).trans Finset.sum_const_zero.symm)
  | 5 => pointwise; exact (congrArg Z ((ix2_inj _ _ _ _).mpr ⟨rfl, rfl⟩)).trans ((h3 3).trans Finset.sum_const_zero.symm)
  | 6 => pointwise; exact (congrArg Z ((ix2_inj _ _ _ _).mpr ⟨rfl, rfl⟩)).trans ((h3 4).trans Finset.sum_const_zero.symm)
  | 7 => pointwise; exact (congrArg Z ((ix2_inj _ _ _ _).mpr ⟨rfl, rfl⟩)).trans ((h3 5).trans Finset.sum_const_zero.symm)

include h

theorem arr0_7 : (dat0 V c).arrAt 7 cfg0.N = val_main_v122 (F := Ideal) x0 x2 x3 := by
  refine (dat0 V c).arrAt_eq_of_covers 7 _ (by decide +kernel) fun t hf y => ?_
  have e := (idx_tile0 t).2.2.1
  rw [after0_7, gate_out t h]
  generalize val_main_v122 (F := Ideal) x0 x2 x3 = X
  blk_simp
  show X _ = X _
  blk_ext [e, kk]
theorem arr0_8 : (dat0 V c).arrAt 8 cfg0.N = val_main_v123 (F := Ideal) x0 x2 x4 := by
  refine (dat0 V c).arrAt_eq_of_covers 8 _ (by decide +kernel) fun t hf y => ?_
  have e := (idx_tile0 t).2.2.2.1
  rw [after0_8, up_out t h]
  generalize val_main_v123 (F := Ideal) x0 x2 x4 = X
  blk_simp
  show X _ = X _
  blk_ext [e, kk]
theorem arr0_9 (hX : ∀ i, IsReal (val_main_v30 (F := Ideal) x0 x2 x3 x4 x5 i)) (hD : ∀ i, IsReal (val_main_v66 (F := Ideal) x0 x1 x2 x3 x4 x5 x6 i)) :
    (dat0 V c).arrAt 9 cfg0.N = val_main_v81 (F := Ideal) x0 x1 x2 x3 x4 x5 x6 := by
  refine (dat0 V c).arrAt_eq_of_covers 9 _ (by decide +kernel) fun t hf y => ?_
  have e := (idx_tile0 t).2.2.2.2
  rw [after0_9, dx2_out t h hX hD]
  generalize val_main_v81 (F := Ideal) x0 x1 x2 x3 x4 x5 x6 = X
  blk_simp
  show X _ = X _
  blk_ext [e, kk]
theorem arr0_10 (hE : ∀ i, IsReal (val_main_v48 (F := Ideal) x0 x1 x2 x3 x4 x5 x6 i)) : (dat0 V c).arrAt 10 cfg0.N = val_main_v119 (F := Ideal) x0 x1 x2 x3 x4 x5 x6 := by
  refine (dat0 V c).arrAt_eq_of_after_last 10 ⟨7, by decide⟩ (by decide +kernel) _ fun (j : S8x1024.Idx) => ?_
  rw [after0_10]
  blk_simp
  refine (congrArg _ (ValueIdx.eq_ix2 (n0 := 8) (n1 := 1024) j)).trans (((stat0 h hE (j 0) (j 1) 7 (by decide)).trans ((head_all _).trans (stat0_ref hE (j 0) (j 1)).symm)).trans
    (congrArg _ (ValueIdx.eq_ix2 (n0 := 8) (n1 := 1024) j).symm))

end Cert.FfnKernelIdeal.Ffn
-- ==== Proof.Ffn.Values1.lean ====
/- WHAT `ffn_bwd` LEAVES: each point's tiles of the gradients and of the values kept for the weights' gradients, and the row of the norm's own gradient, the tiles added one after the other. -/
module

public import proofs.«01_k».proof.Proof.Gen.FfnKernelIdeal.Frame
public import proofs.«01_k».proof.Proof.Ffn.Rows1
public import proofs.«01_k».proof.Proof.Ffn.Values0

@[expose] public section

set_option maxRecDepth 16384

noncomputable section

namespace Cert.FfnKernelIdeal.Ffn

open Idealize.ShloMosaic Idealize.ShloMosaic.TcCoe Idealize.ShloMosaic.Tactic
open Idealize.SL Idealize.SL.Sem
open Cert.FfnKernelIdeal.Gen
open Cert.FfnReferenceIdeal.Read
open Cert.Norm Cert.Reals
open Cert.MixKernelIdeal.Mix (canon_hit canon_miss read_over ld_apply2)

variable (x0 x1 : Vec Ideal S4096x1024 .f32) (x2 : Vec Ideal S1x1024 .f32) (x3 x4 : Vec Ideal S1x1024x2816 .f32) (x5 : Vec Ideal S1x2816x1024 .f32) (x6 : Vec Ideal S1024 .f32)
variable (V : (c : Dev nD) → (b : Ref sig .tc) → Buf (Elt Ideal) ((c : Thread nD τ).loc b)) (c : Dev nD)

/-- What the call finds in its arguments: the first call's results among them. -/
structure Entry1 : Prop where
  a0 : V c main_v9_2 = val_main_v81 (F := Ideal) x0 x1 x2 x3 x4 x5 x6
  a1 : V c main_arg0 = x0
  a2 : V c main_v9_0 = val_main_v122 (F := Ideal) x0 x2 x3
  a3 : V c main_v9_1 = val_main_v123 (F := Ideal) x0 x2 x4
  a4 : V c main_arg2 = x2
  a5 : V c main_v2 = turned (val_main_v19 x3)
  a6 : V c main_v5 = turned (val_main_v22 x4)
  a7 : V c main_v7 = val_main_v27 (F := Ideal) x5

/-- What makes the two programs' splittings agree. -/
structure Real1 : Prop where
  g : ∀ i, IsReal (val_main_v21 (F := Ideal) x0 x2 x3 i)
  s : ∀ i, IsReal (val_main_v25_2 (F := Ideal) x0 x2 x3 i)
  c : ∀ i, IsReal (val_main_v84 (F := Ideal) x0 x1 x2 x3 x4 x5 x6 i)
  x : ∀ i, IsReal (x0 i)
  d : ∀ i, IsReal (val_main_v93 (F := Ideal) x0 x1 x2 x3 x4 x5 x6 i)

/-- The tile a point works on. -/
abbrev kk1 (t : Fin cfg1.N) : Fin 16 := t

theorem idx_tile1 : ∀ t : Fin cfg1.N, (cfg1.win 0).index t = ![t.val, 0] ∧ (cfg1.win 1).index t = ![t.val, 0] ∧ (cfg1.win 2).index t = ![t.val, 0] ∧
    (cfg1.win 3).index t = ![t.val, 0] := by decide +kernel
theorem idx_out1 : ∀ t : Fin cfg1.N, (cfg1.win 8).index t = ![t.val, 0] ∧ (cfg1.win 9).index t = ![t.val, 0] ∧ (cfg1.win 10).index t = ![t.val, 0] ∧
    (cfg1.win 11).index t = ![t.val, 0] ∧ (cfg1.win 12).index t = ![t.val, 0] := by decide +kernel
theorem idx_whole1 : ∀ t : Fin cfg1.N, (cfg1.win 4).index t = ![0, 0] ∧ (cfg1.win 5).index t = ![0, 0] ∧ (cfg1.win 6).index t = ![0, 0] ∧
    (cfg1.win 7).index t = ![0, 0] ∧ (cfg1.win 13).index t = ![0, 0] := by decide +kernel

variable (t : Fin cfg1.N)
variable {x0 x1 x2 x3 x4 x5 x6 V c} (h : Entry1 x0 x1 x2 x3 x4 x5 x6 V c)
include h

theorem blk1_0 : iblk1 V c 0 t = tile16 (kk1 t) (val_main_v81 (F := Ideal) x0 x1 x2 x3 x4 x5 x6) := by
  show ((cfg1.win 0).blk t).view.read (Elt Ideal) (V c main_v9_2) = _
  rw [h.a0]
  generalize val_main_v81 (F := Ideal) x0 x1 x2 x3 x4 x5 x6 = X
  funext j
  have e := (idx_tile1 t).1
  show X _ = X _
  blk_ext [e, kk1]
theorem blk1_1 : iblk1 V c 1 t = tile16 (kk1 t) (x0) := by
  show ((cfg1.win 1).blk t).view.read (Elt Ideal) (V c main_arg0) = _
  rw [h.a1]
  funext j
  have e := (idx_tile1 t).2.1
  show x0 _ = x0 _
  blk_ext [e, kk1]
theorem blk1_2 : iblk1 V c 2 t = tile16 (kk1 t) (val_main_v122 (F := Ideal) x0 x2 x3) := by
  show ((cfg1.win 2).blk t).view.read (Elt Ideal) (V c main_v9_0) = _
  rw [h.a2]
  generalize val_main_v122 (F := Ideal) x0 x2 x3 = X
  funext j
  have e := (idx_tile1 t).2.2.1
  show X _ = X _
  blk_ext [e, kk1]
theorem blk1_3 : iblk1 V c 3 t = tile16 (kk1 t) (val_main_v123 (F := Ideal) x0 x2 x4) := by
  show ((cfg1.win 3).blk t).view.read (Elt Ideal) (V c main_v9_1) = _
  rw [h.a3]
  generalize val_main_v123 (F := Ideal) x0 x2 x4 = X
  funext j
  have e := (idx_tile1 t).2.2.2
  show X _ = X _
  blk_ext [e, kk1]
theorem blk1_4 : iblk1 V c 4 t = x2 := by
  show ((cfg1.win 4).blk t).view.read (Elt Ideal) (V c main_arg2) = _
  rw [h.a4]
  funext j
  have e := (idx_whole1 t).1
  show x2 _ = x2 _
  blk_ext [e]
theorem blk1_5 : iblk1 V c 5 t = turned (val_main_v19 x3) := by
  show ((cfg1.win 5).blk t).view.read (Elt Ideal) (V c main_v2) = _
  rw [h.a5]
  generalize turned (val_main_v19 x3) = X
  funext j
  have e := (idx_whole1 t).2.1
  show X _ = X _
  blk_ext [e]
theorem blk1_6 : iblk1 V c 6 t = turned (val_main_v22 x4) := by
  show ((cfg1.win 6).blk t).view.read (Elt Ideal) (V c main_v5) = _
  rw [h.a6]
  generalize turned (val_main_v22 x4) = X
  funext j
  have e := (idx_whole1 t).2.2.1
  show X _ = X _
  blk_ext [e]
theorem blk1_7 : iblk1 V c 7 t = val_main_v27 (F := Ideal) x5 := by
  show ((cfg1.win 7).blk t).view.read (Elt Ideal) (V c main_v7) = _
  rw [h.a7]
  generalize val_main_v27 (F := Ideal) x5 = X
  funext j
  have e := (idx_whole1 t).2.2.2.1
  show X _ = X _
  blk_ext [e]

/-- A point's tile of the gradient at the layer's input. -/
theorem dx1_out (r : Real1 x0 x1 x2 x3 x4 x5 x6) : (outsAt1 V c t.val t.isLt).1 = tile16 (kk1 t) (val_main_v109 (F := Ideal) x0 x1 x2 x3 x4 x5 x6) := by
  by_cases h0 : t.val % 16 = 0
  · rw [outsAt1_A V c t h0]
    dsimp only
    frame_out
    simp only [blk1_0 t h, blk1_1 t h, blk1_2 t h, blk1_3 t h, blk1_4 t h, blk1_5 t h, blk1_6 t h, blk1_7 t h, dup_tile, dgate_tile (kk1 t) _ _ _ _ _ _ _ r.c r.s r.g]
    exact dx1_tile _ _ _ _ _ _ _ _ r.x r.d
  · rw [outsAt1_B V c t h0]
    dsimp only
    frame_out
    simp only [blk1_0 t h, blk1_1 t h, blk1_2 t h, blk1_3 t h, blk1_4 t h, blk1_5 t h, blk1_6 t h, blk1_7 t h, dup_tile, dgate_tile (kk1 t) _ _ _ _ _ _ _ r.c r.s r.g]
    exact dx1_tile _ _ _ _ _ _ _ _ r.x r.d
/-- A point's tiles of the gate's gradients, of the gate and of the normed rows. -/
theorem dgate_out (r : Real1 x0 x1 x2 x3 x4 x5 x6) : (outsAt1 V c t.val t.isLt).2.1 = tile16 (kk1 t) (val_main_v124 (F := Ideal) x0 x1 x2 x3 x4 x5 x6) := by
  by_cases h0 : t.val % 16 = 0
  · rw [outsAt1_A V c t h0]
    dsimp only
    frame_out
    simp only [blk1_0 t h, blk1_2 t h, blk1_3 t h, blk1_7 t h]
    exact dgate_tile (kk1 t) _ _ _ _ _ _ _ r.c r.s r.g
  · rw [outsAt1_B V c t h0]
    dsimp only
    frame_out
    simp only [blk1_0 t h, blk1_2 t h, blk1_3 t h, blk1_7 t h]
    exact dgate_tile (kk1 t) _ _ _ _ _ _ _ r.c r.s r.g
theorem dup_out : (outsAt1 V c t.val t.isLt).2.2.1 = tile16 (kk1 t) (val_main_v125 (F := Ideal) x0 x1 x2 x3 x4 x5 x6) := by
  by_cases h0 : t.val % 16 = 0
  · rw [outsAt1_A V c t h0]
    dsimp only
    frame_out
    simp only [blk1_0 t h, blk1_2 t h, blk1_7 t h]
    exact dup_tile _ _ _ _ _ _ _ _
  · rw [outsAt1_B V c t h0]
    dsimp only
    frame_out
    simp only [blk1_0 t h, blk1_2 t h, blk1_7 t h]
    exact dup_tile _ _ _ _ _ _ _ _
theorem act_out : (outsAt1 V c t.val t.isLt).2.2.2.1 = tile16 (kk1 t) (val_main_v126 (F := Ideal) x0 x2 x3 x4) := by
  by_cases h0 : t.val % 16 = 0
  · rw [outsAt1_A V c t h0]
    dsimp only
    frame_out
    simp only [blk1_2 t h, blk1_3 t h]
    exact act_tile _ _ _ _ _
  · rw [outsAt1_B V c t h0]
    dsimp only
    frame_out
    simp only [blk1_2 t h, blk1_3 t h]
    exact act_tile _ _ _ _ _
theorem h2_out : (outsAt1 V c t.val t.isLt).2.2.2.2.1 = tile16 (kk1 t) (val_main_v127 (F := Ideal) x0 x2) := by
  by_cases h0 : t.val % 16 = 0
  · rw [outsAt1_A V c t h0]
    dsimp only
    frame_out
    simp only [blk1_1 t h, blk1_4 t h]
    exact h2_tile _ _ _
  · rw [outsAt1_B V c t h0]
    dsimp only
    frame_out
    simp only [blk1_1 t h, blk1_4 t h]
    exact h2_tile _ _ _
omit h

/-- What a row adds to the 8 rows of the norm's own gradient. -/
def statb (x0 x1 : Vec Ideal S4096x1024 .f32) (x2 : Vec Ideal S1x1024 .f32) (x3 x4 : Vec Ideal S1x1024x2816 .f32) (x5 : Vec Ideal S1x2816x1024 .f32) (x6 : Vec Ideal S1024 .f32)
    (i : Fin 8) (n : Fin 4096) (l : Fin 1024) : EReal := if i = 0 then val_main_v89 (F := Ideal) x0 x1 x2 x3 x4 x5 x6 (ValueIdx.ix2 n l) else 0

/-- One row stored over known contents. -/
theorem one_row (T : Vec Ideal S8x1024 .f32) {L : List (View.Piece (Elt Ideal) S8x1024 .f32)} (hL : View.canon L = T) (p : Vec Ideal S1x1024 .f32) (i : Fin 8) (l : Fin 1024) :
    View.canon (Val := Elt Ideal) (s := S8x1024) (e := .f32) (⟨Rect.unit ![0, 0] ![1, 1024] inb_S8x1024_S1x1024_0_0, p⟩ :: L) (ValueIdx.ix2 i l)
      = if i = 0 then p (ValueIdx.ix2 0 l) else T (ValueIdx.ix2 i l) := by
  by_cases i0 : i = 0
  · subst i0
    rw [if_pos rfl]
    exact canon_hit (e := .f32) (a := 0) (b := 0) inb_S8x1024_S1x1024_0_0 _ _ 0 l 0 l rfl (Nat.zero_add _).symm
  · have n0 : i.val ≠ 0 := fun e => i0 (Fin.ext e)
    rw [if_neg i0, ← hL]
    exact canon_miss (e := .f32) (a := 0) (b := 0) inb_S8x1024_S1x1024_0_0 _ _ i l (by omega)

variable (k : Fin 16)

local notation "P" => val_main_v125 (F := Ideal) x0 x1 x2 x3 x4 x5 x6
local notation "Q" => val_main_v124 (F := Ideal) x0 x1 x2 x3 x4 x5 x6

theorem statb_step (T : Vec Ideal S8x1024 .f32) {L : List (View.Piece (Elt Ideal) S8x1024 .f32)} (hL : View.canon L = T) (i : Fin 8) (l : Fin 1024) :
    View.canon (Val := Elt Ideal) (s := S8x1024) (e := .f32)
      (⟨Rect.unit ![0, 0] ![1, 1024] inb_S8x1024_S1x1024_0_0, k1_pay16 (F := Ideal) (tile16 k P) (tile16 k Q) (turned (val_main_v19 x3)) (turned (val_main_v22 x4)) (tile16 k x0)
        (View.ld (e' := .f32) T (Rect.unit ![0, 0] ![1, 1024] inb_S8x1024_S1x1024_0_0))⟩ :: L) (ValueIdx.ix2 i l)
      = T (ValueIdx.ix2 i l) + ∑ r : Fin 256, statb x0 x1 x2 x3 x4 x5 x6 i (row16 k r) l := by
  rw [one_row T hL, stat_row, ld_apply2 (e := .f32) T inb_S8x1024_S1x1024_0_0 (ValueIdx.ix2 0 l) 0 l rfl (Nat.zero_add _).symm]
  unfold statb
  split_ifs with i0
  · rw [i0]
  · rw [Finset.sum_const_zero, add_zero]

include h

set_option maxHeartbeats 2000000 in
theorem statb_A (r : Real1 x0 x1 x2 x3 x4 x5 x6) (h0 : t.val % 16 = 0) (i : Fin 8) (l : Fin 1024) :
    (outsAt1 V c t.val t.isLt).2.2.2.2.2 (ValueIdx.ix2 i l) = 0 + ∑ r : Fin 256, statb x0 x1 x2 x3 x4 x5 x6 i (row16 (kk1 t) r) l := by
  rw [outsAt1_A V c t h0]
  dsimp only
  frame_out
  simp (disch := decide) only [↓ View.readCov_skip, ↓ View.readCov_cons_toLoadRect, ↓ View.readCov_fill]
  simp only [blk1_0 t h, blk1_1 t h, blk1_2 t h, blk1_3 t h, blk1_5 t h, blk1_6 t h, blk1_7 t h, dup_tile, dgate_tile (kk1 t) _ _ _ _ _ _ _ r.c r.s r.g]
  have z : (k1_pay2 (F := Ideal)) (ValueIdx.ix2 i l) = 0 := by
    unfold k1_pay2
    pointwise
  generalize k1_pay2 (F := Ideal) = T at *
  exact (statb_step (kk1 t) T (whole_8 T) i l).trans (congrArg (· + _) z)

theorem statb_B (r : Real1 x0 x1 x2 x3 x4 x5 x6) (h0 : ¬t.val % 16 = 0) (i : Fin 8) (l : Fin 1024) :
    (outsAt1 V c t.val t.isLt).2.2.2.2.2 (ValueIdx.ix2 i l)
      = (outsAt1 V c (t.val - 1) (Nat.lt_of_le_of_lt (Nat.sub_le _ _) t.isLt)).2.2.2.2.2 (ValueIdx.ix2 i l) + ∑ r : Fin 256, statb x0 x1 x2 x3 x4 x5 x6 i (row16 (kk1 t) r) l := by
  rw [outsAt1_B V c t h0]
  dsimp only
  frame_out
  simp only [blk1_0 t h, blk1_1 t h, blk1_2 t h, blk1_3 t h, blk1_5 t h, blk1_6 t h, blk1_7 t h, dup_tile, dgate_tile (kk1 t) _ _ _ _ _ _ _ r.c r.s r.g]
  rw [read_over _ _ (fun x => by rw [Nat.zero_add]), Memref.IsWhole.read_unread]
  exact statb_step (kk1 t) _ (View.canon_cons_unit_zero rfl _ _ _) i l

theorem statb_all (r : Real1 x0 x1 x2 x3 x4 x5 x6) (i : Fin 8) (l : Fin 1024) : ∀ (n : Nat) (hn : n < cfg1.N),
    (outsAt1 V c n hn).2.2.2.2.2 (ValueIdx.ix2 i l) = head16 (fun r => statb x0 x1 x2 x3 x4 x5 x6 i r l) (n + 1)
  | 0, hn => (statb_A ⟨0, hn⟩ h r (Nat.zero_mod _) i l).trans ((congrArg (· + _) (head16_zero fun r => statb x0 x1 x2 x3 x4 x5 x6 i r l).symm).trans (head16_step (fun r => statb x0 x1 x2 x3 x4 x5 x6 i r l) (0 : Fin 16)).symm)
  | n + 1, hn => by
    have hN : n + 1 < 16 := hn
    have h0 : ¬(n + 1) % 16 = 0 := by omega
    exact (statb_B ⟨n + 1, hn⟩ h r h0 i l).trans ((congrArg (· + _) (statb_all r i l n (Nat.lt_of_succ_lt hn))).trans (head16_step (fun r => statb x0 x1 x2 x3 x4 x5 x6 i r l) (⟨n + 1, hN⟩ : Fin 16)).symm)

omit h

/-- The reference's 8 rows. -/
theorem statb_ref (i : Fin 8) (l : Fin 1024) : val_main_v121 (F := Ideal) x0 x1 x2 x3 x4 x5 x6 (ValueIdx.ix2 i l) = ∑ n, statb x0 x1 x2 x3 x4 x5 x6 i n l := by
  unfold val_main_v121
  have h1 : val_main_v110 (F := Ideal) x0 x1 x2 x3 x4 x5 x6 (ValueIdx.ix2 0 l) = ∑ n : Fin 4096, val_main_v89 (F := Ideal) x0 x1 x2 x3 x4 x5 x6 (ValueIdx.ix2 n l) := by
    unfold val_main_v110 val_main_v94 val_main_v91 val_main_v90 val_main_cst_22 val_main_cst_23
    generalize val_main_v89 (F := Ideal) x0 x1 x2 x3 x4 x5 x6 = X
    pointwise!
    exact (Fin.sum_univ_one _).trans rfl
  have h2 (i : Fin 7) : val_main_v120 (F := Ideal) (ValueIdx.ix2 i l) = 0 := by unfold val_main_v120 val_main_cst_31; pointwise
  unfold statb
  generalize val_main_v110 (F := Ideal) x0 x1 x2 x3 x4 x5 x6 = X at *
  generalize val_main_v120 (F := Ideal) = Z at *
  match i with
  | 0 => pointwise; exact (congrArg X ((ix2_inj _ _ _ _).mpr ⟨rfl, rfl⟩)).trans (h1.trans rfl)
  | 1 => pointwise; exact (congrArg Z ((ix2_inj _ _ _ _).mpr ⟨rfl, rfl⟩)).trans ((h2 0).trans Finset.sum_const_zero.symm)
  | 2 => pointwise; exact (congrArg Z ((ix2_inj _ _ _ _).mpr ⟨rfl, rfl⟩)).trans ((h2 1).trans Finset.sum_const_zero.symm)
  | 3 => pointwise; exact (congrArg Z ((ix2_inj _ _ _ _).mpr ⟨rfl, rfl⟩)).trans ((h2 2).trans Finset.sum_const_zero.symm)
  | 4 => pointwise; exact (congrArg Z ((ix2_inj _ _ _ _).mpr ⟨rfl, rfl⟩)).trans ((h2 3).trans Finset.sum_const_zero.symm)
  | 5 => pointwise; exact (congrArg Z ((ix2_inj _ _ _ _).mpr ⟨rfl, rfl⟩)).trans ((h2 4).trans Finset.sum_const_zero.symm)
  | 6 => pointwise; exact (congrArg Z ((ix2_inj _ _ _ _).mpr ⟨rfl, rfl⟩)).trans ((h2 5).trans Finset.sum_const_zero.symm)
  | 7 => pointwise; exact (congrArg Z ((ix2_inj _ _ _ _).mpr ⟨rfl, rfl⟩)).trans ((h2 6).trans Finset.sum_const_zero.symm)

include h

theorem arr1_8 (r : Real1 x0 x1 x2 x3 x4 x5 x6) : (dat1 V c).arrAt 8 cfg1.N = val_main_v109 (F := Ideal) x0 x1 x2 x3 x4 x5 x6 := by
  refine (dat1 V c).arrAt_eq_of_covers 8 _ (by decide +kernel) fun t hf y => ?_
  have e := (idx_out1 t).1
  rw [after1_8, dx1_out t h r]
  generalize val_main_v109 (F := Ideal) x0 x1 x2 x3 x4 x5 x6 = X
  blk_simp
  show X _ = X _
  blk_ext [e, kk1]
theorem arr1_9 (r : Real1 x0 x1 x2 x3 x4 x5 x6) : (dat1 V c).arrAt 9 cfg1.N = val_main_v124 (F := Ideal) x0 x1 x2 x3 x4 x5 x6 := by
  refine (dat1 V c).arrAt_eq_of_covers 9 _ (by decide +kernel) fun t hf y => ?_
  have e := (idx_out1 t).2.1
  rw [after1_9, dgate_out t h r]
  generalize val_main_v124 (F := Ideal) x0 x1 x2 x3 x4 x5 x6 = X
  blk_simp
  show X _ = X _
  blk_ext [e, kk1]
theorem arr1_10 : (dat1 V c).arrAt 10 cfg1.N = val_main_v125 (F := Ideal) x0 x1 x2 x3 x4 x5 x6 := by
  refine (dat1 V c).arrAt_eq_of_covers 10 _ (by decide +kernel) fun t hf y => ?_
  have e := (idx_out1 t).2.2.1
  rw [after1_10, dup_out t h]
  generalize val_main_v125 (F := Ideal) x0 x1 x2 x3 x4 x5 x6 = X
  blk_simp
  show X _ = X _
  blk_ext [e, kk1]
theorem arr1_11 : (dat1 V c).arrAt 11 cfg1.N = val_main_v126 (F := Ideal) x0 x2 x3 x4 := by
  refine (dat1 V c).arrAt_eq_of_covers 11 _ (by decide +kernel) fun t hf y => ?_
  have e := (idx_out1 t).2.2.2.1
  rw [after1_11, act_out t h]
  generalize val_main_v126 (F := Ideal) x0 x2 x3 x4 = X
  blk_simp
  show X _ = X _
  blk_ext [e, kk1]
theorem arr1_12 : (dat1 V c).arrAt 12 cfg1.N = val_main_v127 (F := Ideal) x0 x2 := by
  refine (dat1 V c).arrAt_eq_of_covers 12 _ (by decide +kernel) fun t hf y => ?_
  have e := (idx_out1 t).2.2.2.2
  rw [after1_12, h2_out t h]
  generalize val_main_v127 (F := Ideal) x0 x2 = X
  blk_simp
  show X _ = X _
  blk_ext [e, kk1]
theorem arr1_13 (r : Real1 x0 x1 x2 x3 x4 x5 x6) : (dat1 V c).arrAt 13 cfg1.N = val_main_v121 (F := Ideal) x0 x1 x2 x3 x4 x5 x6 := by
  refine (dat1 V c).arrAt_eq_of_after_last 13 ⟨15, by decide⟩ (by decide +kernel) _ fun (j : S8x1024.Idx) => ?_
  rw [after1_13]
  blk_simp
  refine (congrArg _ (ValueIdx.eq_ix2 (n0 := 8) (n1 := 1024) j)).trans (((statb_all h r (j 0) (j 1) 15 (by decide)).trans ((head16_all _).trans (statb_ref (j 0) (j 1)).symm)).trans
    (congrArg _ (ValueIdx.eq_ix2 (n0 := 8) (n1 := 1024) j).symm))

end Cert.FfnKernelIdeal.Ffn
-- ==== Proof.Ffn.Finite.lean ====
/- THE FEED-FORWARD PART'S VALUES ARE REAL NUMBERS where its arguments are. -/
module

public import proofs.«01_k».proof.Proof.Ffn.Rows1
public import proofs.«01_k».proof.Proof.Ffn.Values1

@[expose] public section

set_option maxRecDepth 16384

noncomputable section

namespace Cert.FfnKernelIdeal.Ffn

open Idealize.ShloMosaic Idealize.ShloMosaic.TcCoe Idealize.ShloMosaic.Tactic
open Cert.FfnKernelIdeal.Gen
open Cert.FfnReferenceIdeal.Read
open Cert.Norm Cert.Reals

variable {x0 x1 : Vec Ideal S4096x1024 .f32} {x2 : Vec Ideal S1x1024 .f32} {x3 x4 : Vec Ideal S1x1024x2816 .f32} {x5 : Vec Ideal S1x2816x1024 .f32} {x6 : Vec Ideal S1024 .f32}
variable (r0 : ∀ i, IsReal (x0 i)) (r1 : ∀ i, IsReal (x1 i)) (r2 : ∀ i, IsReal (x2 i)) (r3 : ∀ i, IsReal (x3 i)) (r4 : ∀ i, IsReal (x4 i)) (r5 : ∀ i, IsReal (x5 i)) (r6 : ∀ i, IsReal (x6 i))

include r0

theorem real_v15 (i) : IsReal (val_main_v15 (F := Ideal) x0 i) := by
  have hr (j) : IsReal (val_main_v10 (F := Ideal) x0 j) := by
    rw [(congrArg (val_main_v10 (F := Ideal) x0) (ValueIdx.eq_ix2 (n0 := 4096) (n1 := 1) j)).trans (rootref1 x0 (j 0) (j 1))]
    exact isReal_root _ fun _ => r0 _
  unfold val_main_v15 val_main_v14
  exact (r0 _).mul (hr _)

include r2

theorem real_v18 (i) : IsReal (val_main_v18 (F := Ideal) x0 x2 i) := by
  have h := real_v15 r0
  unfold val_main_v18 val_main_v17 val_main_v16 val_main_v2
  exact (h _).mul (r2 _)

include r3

theorem real_v21 (i) : IsReal (val_main_v21 (F := Ideal) x0 x2 x3 i) := by
  have h := real_v18 r0 r2
  unfold val_main_v21 val_main_v20 val_main_v0 val_main_cst val_main_v19
  generalize val_main_v18 (F := Ideal) x0 x2 = H at *
  pointwise
  exact isReal_sum _ _ fun _ _ => (h _).mul (r3 _)

omit r0 r2 r3

theorem real_v25_2 (i) : IsReal (val_main_v25_2 (F := Ideal) x0 x2 x3 i) := by
  unfold val_main_v25_2 val_main_call0_v4 val_main_call0_cst_0 val_main_call0_v3 val_main_call0_v2 val_main_call0_cst val_main_call0_v1 val_main_call0_v0
  pointwise
  exact isReal_logistic _

include r0 r2

theorem real_v24 (r4 : ∀ i, IsReal (x4 i)) (i) : IsReal (val_main_v24 (F := Ideal) x0 x2 x4 i) := by
  have h := real_v18 r0 r2
  unfold val_main_v24 val_main_v23 val_main_v0 val_main_cst val_main_v22
  generalize val_main_v18 (F := Ideal) x0 x2 = H at *
  pointwise
  exact isReal_sum _ _ fun _ _ => (h _).mul (r4 _)

include r3

theorem real_v25_0 (i) : IsReal (val_main_v25_0 (F := Ideal) x0 x2 x3 i) :=
  (real_v21 r0 r2 r3 i).mul (real_v25_2 i)

include r4 r5

theorem real_v30 (i) : IsReal (val_main_v30 (F := Ideal) x0 x2 x3 x4 x5 i) := by
  have h (j) : IsReal (val_main_v26 (F := Ideal) x0 x2 x3 x4 j) := (real_v25_0 r0 r2 r3 j).mul (real_v24 r0 r2 r4 j)
  unfold val_main_v30 val_main_v29 val_main_v28 val_main_v1 val_main_cst_0 val_main_v27
  generalize val_main_v26 (F := Ideal) x0 x2 x3 x4 = H at *
  pointwise
  exact (r0 _).add (isReal_sum _ _ fun _ _ => (h _).mul (r5 _))

theorem real_v43 (i) : IsReal (val_main_v43 (F := Ideal) x0 x2 x3 x4 x5 i) := by
  have h := real_v30 r0 r2 r3 r4 r5
  have hr (j) : IsReal (val_main_v38 (F := Ideal) x0 x2 x3 x4 x5 j) := by
    rw [(congrArg (val_main_v38 (F := Ideal) x0 x2 x3 x4 x5) (ValueIdx.eq_ix2 (n0 := 4096) (n1 := 1) j)).trans (rootref x0 x2 x3 x4 x5 (j 0) (j 1))]
    exact isReal_root _ fun _ => h _
  unfold val_main_v43 val_main_v42
  exact (h _).mul (hr _)

include r1 r6

theorem real_v47 (i) : IsReal (val_main_v47 (F := Ideal) x0 x1 x2 x3 x4 x5 x6 i) := by
  have h := real_v43 r0 r2 r3 r4 r5
  unfold val_main_v47 val_main_v46 val_main_v45 val_main_v44
  exact ((h _).mul (r6 _)).sub (r1 _)

theorem real_v48 (i) : IsReal (val_main_v48 (F := Ideal) x0 x1 x2 x3 x4 x5 x6 i) :=
  (real_v47 r0 r1 r2 r3 r4 r5 r6 i).mul (real_v47 r0 r1 r2 r3 r4 r5 r6 i)

theorem real_v61 (i) : IsReal (val_main_v61 (F := Ideal) x0 x1 x2 x3 x4 x5 x6 i) := by
  have h := real_v47 r0 r1 r2 r3 r4 r5 r6
  unfold val_main_v61 val_main_v60 val_main_v59 val_main_v58 val_main_v57 val_main_v56 val_main_v50 val_main_v49 val_main_cst_9 val_main_cst_14 val_main_cst_15 val_main_cst_16
  generalize val_main_v47 (F := Ideal) x0 x1 x2 x3 x4 x5 x6 = E at *
  pointwise
  rw [show ∀ e : EReal, Ideal.div (Ideal.ofBits .f32 0x3F000000#32) (Ideal.ofBits .f32 0x44800000#32) * (Ideal.ofBits .f32 0x40000000#32 * e) = e * rwidth from scale_eq, rwidth_eq]
  exact (h _).mul ⟨_, rfl⟩

theorem real_v66 (i) : IsReal (val_main_v66 (F := Ideal) x0 x1 x2 x3 x4 x5 x6 i) := by
  have h := real_v61 r0 r1 r2 r3 r4 r5 r6
  unfold val_main_v66 val_main_v65 val_main_v44
  exact (h _).mul (r6 _)

theorem real_v81 (i) : IsReal (val_main_v81 (F := Ideal) x0 x1 x2 x3 x4 x5 x6 i) := by
  have hX := real_v30 r0 r2 r3 r4 r5
  have hD := real_v66 r0 r1 r2 r3 r4 r5 r6
  rw [(congrArg (val_main_v81 (F := Ideal) x0 x1 x2 x3 x4 x5 x6) (ValueIdx.eq_ix2 (n0 := 4096) (n1 := 1024) i)).trans ((dx2_ref x0 x1 x2 x3 x4 x5 x6 (i 0) (i 1)).trans ((add_assoc _ _ _).trans
    (norm_grad (fun l => val_main_v30 (F := Ideal) x0 x2 x3 x4 x5 (ValueIdx.ix2 (i 0) l)) (fun l => val_main_v66 (F := Ideal) x0 x1 x2 x3 x4 x5 x6 (ValueIdx.ix2 (i 0) l)) (fun _ => hX _) (fun _ => hD _) (i 1)).symm))]
  have hr := isReal_root (fun l => val_main_v30 (F := Ideal) x0 x2 x3 x4 x5 (ValueIdx.ix2 (i 0) l)) fun _ => hX _
  rw [width_eq]
  exact hr.mul ((hD _).sub (((hX _).mul hr).mul (IsReal.div (isReal_sum _ _ fun _ _ => (hD _).mul ((hX _).mul hr)) (by norm_num))))

theorem real_v82 (i) : IsReal (val_main_v82 (F := Ideal) x0 x1 x2 x3 x4 x5 x6 i) := by
  have h := real_v81 r0 r1 r2 r3 r4 r5 r6
  unfold val_main_v82 val_main_v27
  generalize val_main_v81 (F := Ideal) x0 x1 x2 x3 x4 x5 x6 = H at *
  pointwise
  exact isReal_sum _ _ fun _ _ => (h _).mul (r5 _)

theorem real_v84 (i) : IsReal (val_main_v84 (F := Ideal) x0 x1 x2 x3 x4 x5 x6 i) :=
  (real_v82 r0 r1 r2 r3 r4 r5 r6 i).mul (real_v24 r0 r2 r4 i)

theorem real_v83 (i) : IsReal (val_main_v83 (F := Ideal) x0 x1 x2 x3 x4 x5 x6 i) :=
  (real_v25_0 r0 r2 r3 i).mul (real_v82 r0 r1 r2 r3 r4 r5 r6 i)

theorem real_v85 (i) : IsReal (val_main_v85 (F := Ideal) x0 x1 x2 x3 x4 x5 x6 i) := by
  have hc := real_v84 r0 r1 r2 r3 r4 r5 r6
  have hs := real_v25_2 (x0 := x0) (x2 := x2) (x3 := x3)
  have hg := real_v21 r0 r2 r3
  unfold val_main_v85 val_main_call1_v1 val_main_call1_v2 val_main_call1_v0 val_main_v25_1 val_main_call0_v7 val_main_call0_v6 val_main_call0_cst_1
  generalize val_main_v84 (F := Ideal) x0 x1 x2 x3 x4 x5 x6 = c at *
  generalize val_main_v25_2 (F := Ideal) x0 x2 x3 = s at *
  generalize val_main_v21 (F := Ideal) x0 x2 x3 = g at *
  pointwise
  exact ((hc _).mul (hs _)).add (((hg _).mul (hc _)).mul ((hs _).mul (isReal_one.sub (hs _))))

theorem real_v93 (i) : IsReal (val_main_v93 (F := Ideal) x0 x1 x2 x3 x4 x5 x6 i) := by
  have hp := real_v83 r0 r1 r2 r3 r4 r5 r6
  have hq := real_v85 r0 r1 r2 r3 r4 r5 r6
  have h (j) : IsReal (val_main_v88 (F := Ideal) x0 x1 x2 x3 x4 x5 x6 j) := by
    unfold val_main_v88 val_main_v86 val_main_v87 val_main_v19 val_main_v22
    generalize val_main_v83 (F := Ideal) x0 x1 x2 x3 x4 x5 x6 = p at *
    generalize val_main_v85 (F := Ideal) x0 x1 x2 x3 x4 x5 x6 = q at *
    pointwise
    exact (isReal_sum _ _ fun _ _ => (hp _).mul (r4 _)).add (isReal_sum _ _ fun _ _ => (hq _).mul (r3 _))
  unfold val_main_v93 val_main_v92 val_main_v16 val_main_v2
  exact (h _).mul (r2 _)

theorem real1 : Real1 x0 x1 x2 x3 x4 x5 x6 where
  g := real_v21 r0 r2 r3
  s := real_v25_2
  c := real_v84 r0 r1 r2 r3 r4 r5 r6
  x := r0
  d := real_v93 r0 r1 r2 r3 r4 r5 r6

end Cert.FfnKernelIdeal.Ffn
-- ==== Proof.Ffn.Claim.lean ====
/- THE VALUE CLAIM of the feed-forward part's two calls. -/
module

public import proofs.«01_k».proof.Defs
public import proofs.«01_k».proof.Proof.Ffn.Run
public import proofs.«01_k».proof.Proof.Ffn.Values1
public import proofs.«01_k».proof.Proof.Ffn.Finite
public import proofs.«01_k».proof.Proof.Gen.FfnReferenceIdeal
public import proofs.«01_k».proof.Proof.Gen.FfnReferenceIdeal.Read
public import proofs.«01_k».proof.Proof.Gen.Pre_finite_ffn
public import Idealize.ShloMosaic.Lib.StableHlo.RunRead
public import Idealize.ShloMosaic.Lib.Quiescent

@[expose] public section

set_option maxRecDepth 16384

noncomputable section

open Idealize.ShloMosaic Idealize.ShloMosaic.TcCoe Idealize.ShloMosaic.Tactic Idealize.SL.Sem

namespace Cert.FfnKernelIdeal.Ffn

open Cert.Reals Cert.FfnReferenceIdeal.Read Cert.FfnKernelIdeal.Gen

section
variable (m : (ℓ : Loc nD τ sig) → Buf (Elt Ideal) ℓ) (ρ : Dev nD → PrngReg) (c : Dev nD)

abbrev A0 : Vec Ideal S4096x1024 .f32 := m ((c : Thread nD τ).loc main_arg0)
abbrev A1 : Vec Ideal S4096x1024 .f32 := m ((c : Thread nD τ).loc main_arg1)
abbrev A2 : Vec Ideal S1x1024 .f32 := m ((c : Thread nD τ).loc main_arg2)
abbrev A3 : Vec Ideal S1x1024x2816 .f32 := m ((c : Thread nD τ).loc main_arg3)
abbrev A4 : Vec Ideal S1x1024x2816 .f32 := m ((c : Thread nD τ).loc main_arg4)
abbrev A5 : Vec Ideal S1x2816x1024 .f32 := m ((c : Thread nD τ).loc main_arg5)
abbrev A6 : Vec Ideal S1024 .f32 := m ((c : Thread nD τ).loc main_arg6)

/-- A weight as the calls take it: cast and transposed. -/
abbrev turnedW (X : FVec Ideal S1x1024x2816 .f32) : Vec Ideal S2816x1024 .bf16 :=
  shapeCast S2816x1024 (transpose S1x2816x1024 [0, 2, 1] (truncf .bf16 X bitsLt_bf16_f32 : FVec Ideal S1x1024x2816 .bf16) transposes_S1x1024x2816_S1x2816x1024_0_2_1 : FVec Ideal S1x2816x1024 .bf16) shapeCasts_S1x2816x1024_S2816x1024

theorem turned_3 (X : FVec Ideal S1x1024x2816 .f32) : turnedW X = turned (val_main_v19 X) := by
  funext j
  unfold val_main_v19
  simp only [turned, turnedW]
  pointwise!
theorem turned_4 (X : Vec Ideal S1x1024x2816 .f32) : turned (val_main_v19 X) = turned (val_main_v22 X) := rfl
theorem last_norm (X : Vec Ideal S1024 .f32) : shapeCast S1x1024 X shapeCasts_S1024_S1x1024 = val_main_v44 X := by
  funext j
  unfold val_main_v44
  pointwise!

theorem V1_w3 : V1 m ρ c main_v2 = turned (val_main_v19 (A3 m c)) := by
  refine Eq.trans ?_ (turned_3 (A3 m c))
  show StableHlo.after hostOps0 _ _ = _
  after_results_simp
  rfl
theorem V1_w4 : V1 m ρ c main_v5 = turned (val_main_v22 (A4 m c)) := by
  refine Eq.trans ?_ ((turned_3 (A4 m c)).trans (turned_4 _))
  show StableHlo.after hostOps0 _ _ = _
  after_results_simp
  rfl
theorem V1_w5 : V1 m ρ c main_v7 = val_main_v27 (F := Ideal) (A5 m c) := by
  show StableHlo.after hostOps0 _ _ = _
  after_results_simp
  rfl
theorem V1_w6 : V1 m ρ c main_v8 = val_main_v44 (F := Ideal) (A6 m c) := by
  refine Eq.trans ?_ (last_norm (A6 m c))
  show StableHlo.after hostOps0 _ _ = _
  after_results_simp
  rfl

theorem entry0 : Entry0 (A0 m c) (A1 m c) (A2 m c) (A3 m c) (A4 m c) (A5 m c) (A6 m c) (V1 m ρ) c where
  a0 := W1_args m ρ c main_arg0 (by decide)
  a1 := W1_args m ρ c main_arg1 (by decide)
  a2 := W1_args m ρ c main_arg2 (by decide)
  a3 := V1_w3 m ρ c
  a4 := V1_w4 m ρ c
  a5 := V1_w5 m ρ c
  a6 := V1_w6 m ρ c

/-- Every argument holds real numbers. -/
structure Args : Prop where
  r0 : ∀ i, IsReal (A0 m c i)
  r1 : ∀ i, IsReal (A1 m c i)
  r2 : ∀ i, IsReal (A2 m c i)
  r3 : ∀ i, IsReal (A3 m c i)
  r4 : ∀ i, IsReal (A4 m c i)
  r5 : ∀ i, IsReal (A5 m c i)
  r6 : ∀ i, IsReal (A6 m c i)

variable {m c} (H : Args m c)
include H

theorem dx2 : (dat0 (V1 m ρ) c).arrAt 9 cfg0.N = val_main_v81 (F := Ideal) (A0 m c) (A1 m c) (A2 m c) (A3 m c) (A4 m c) (A5 m c) (A6 m c) :=
  arr0_9 (entry0 m ρ c) (real_v30 H.r0 H.r2 H.r3 H.r4 H.r5) (real_v66 H.r0 H.r1 H.r2 H.r3 H.r4 H.r5 H.r6)
theorem statf_all : (dat0 (V1 m ρ) c).arrAt 10 cfg0.N = val_main_v119 (F := Ideal) (A0 m c) (A1 m c) (A2 m c) (A3 m c) (A4 m c) (A5 m c) (A6 m c) :=
  arr0_10 (entry0 m ρ c) (real_v48 H.r0 H.r1 H.r2 H.r3 H.r4 H.r5 H.r6)

theorem entry1 : Entry1 (A0 m c) (A1 m c) (A2 m c) (A3 m c) (A4 m c) (A5 m c) (A6 m c) (V2 m ρ) c where
  a0 := (W2_arr m ρ c 9).trans (dx2 ρ H)
  a1 := W2_args m ρ c main_arg0 (by decide)
  a2 := (W2_arr m ρ c 7).trans (arr0_7 (entry0 m ρ c))
  a3 := (W2_arr m ρ c 8).trans (arr0_8 (entry0 m ρ c))
  a4 := W2_args m ρ c main_arg2 (by decide)
  a5 := (W2_of m ρ c main_v2 (by decide)).trans (V1_w3 m ρ c)
  a6 := (W2_of m ρ c main_v5 (by decide)).trans (V1_w4 m ρ c)
  a7 := (W2_of m ρ c main_v7 (by decide)).trans (V1_w5 m ρ c)

theorem reals : Real1 (A0 m c) (A1 m c) (A2 m c) (A3 m c) (A4 m c) (A5 m c) (A6 m c) := real1 H.r0 H.r1 H.r2 H.r3 H.r4 H.r5 H.r6

end

theorem args_of_pre [Cert.Pre_finite_ffn.Facts] (m : (ℓ : Loc nD τ sig) → Buf (Elt Ideal) ℓ) (c : Dev nD) (j)
    (h : Cert.Pre_finite_ffn.fn (F := Ideal) (A0 m c) (A1 m c) (A2 m c) (A3 m c) (A4 m c) (A5 m c) (A6 m c) j = 1#1) : Args m c := by
  haveI : Subsingleton Cert.Pre_finite_ffn.S_.Idx := ⟨fun a b => funext fun x => x.elim0⟩
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  exact ⟨real_of_all _ _ _ (fun _ => rfl) (fun _ => rfl) _ _ _ _ h0, real_of_all _ _ _ (fun _ => rfl) (fun _ => rfl) _ _ _ _ h1,
    real_of_all _ _ _ (fun _ => rfl) (fun _ => rfl) _ _ _ _ h2, real_of_all _ _ _ (fun _ => rfl) (fun _ => rfl) _ _ _ _ h3,
    real_of_all _ _ _ (fun _ => rfl) (fun _ => rfl) _ _ _ _ h4, real_of_all _ _ _ (fun _ => rfl) (fun _ => rfl) _ _ _ _ h5,
    real_of_all _ _ _ (fun _ => rfl) (fun _ => rfl) _ _ _ _ h6⟩

end Cert.FfnKernelIdeal.Ffn

namespace Cert.Proof

open Cert.FfnKernelIdeal Cert.FfnReferenceIdeal.Read in
theorem algebraic_ffn : Cert.algebraic_FfnKernelIdeal_FfnReferenceIdeal_pre_finite_ffn
    (hFfnKernelIdeal := Cert.FfnKernelIdeal.Gen.facts) (hFfnReferenceIdeal := Cert.FfnReferenceIdeal.Gen.facts) (hPre_finite_ffn := Cert.Pre_finite_ffn.Gen.facts) := by
  intro m g m' g' hp hagree
  haveI := Cert.Pre_finite_ffn.Gen.facts
  have H (c : Dev nD) : Ffn.Args m c := Ffn.args_of_pre m c (fun i => i.elim0) (congrFun (hp c) _)
  refine ⟨fun c => Run.final m g c main_v9_0, fun c => Run.final m g c main_v9_1, fun c => Run.final m g c main_v9_2, fun c => Run.final m g c main_v9_3,
    fun c => Run.final m g c main_v10_0, fun c => Run.final m g c main_v10_1, fun c => Run.final m g c main_v10_2, fun c => Run.final m g c main_v10_3,
    fun c => Run.final m g c main_v10_4, fun c => Run.final m g c main_v10_5, Run.run m g, ?_⟩
  refine (θ_run _ _ _).mono (fun r h c => ?_) (Cert.FfnReferenceIdeal.Value.run m' g')
  obtain ⟨h0, h1, h2, h3, h4, h5, h6, h7, h8, h9, ha⟩ := h c
  obtain ⟨a0, a1, a2, a3, a4, a5, a6⟩ := hagree c
  have e0 : StableHlo.launchContents m' c (Proc.devRef .tc Cert.FfnReferenceIdeal.main_arg0) = Ffn.A0 m c := a0
  have e1 : StableHlo.launchContents m' c (Proc.devRef .tc Cert.FfnReferenceIdeal.main_arg1) = Ffn.A1 m c := a1
  have e2 : StableHlo.launchContents m' c (Proc.devRef .tc Cert.FfnReferenceIdeal.main_arg2) = Ffn.A2 m c := a2
  have e3 : StableHlo.launchContents m' c (Proc.devRef .tc Cert.FfnReferenceIdeal.main_arg3) = Ffn.A3 m c := a3
  have e4 : StableHlo.launchContents m' c (Proc.devRef .tc Cert.FfnReferenceIdeal.main_arg4) = Ffn.A4 m c := a4
  have e5 : StableHlo.launchContents m' c (Proc.devRef .tc Cert.FfnReferenceIdeal.main_arg5) = Ffn.A5 m c := a5
  have e6 : StableHlo.launchContents m' c (Proc.devRef .tc Cert.FfnReferenceIdeal.main_arg6) = Ffn.A6 m c := a6
  have E := Ffn.entry1 g (H c)
  have R := Ffn.reals (H c)
  refine ⟨h0.trans ((val_main_v122_eq _).trans ?_), h1.trans ((val_main_v123_eq _).trans ?_), h2.trans ((val_main_v81_eq _).trans ?_), h3.trans ((val_main_v119_eq _).trans ?_),
    h4.trans ((val_main_v109_eq _).trans ?_), h5.trans ((val_main_v124_eq _).trans ?_), h6.trans ((val_main_v125_eq _).trans ?_), h7.trans ((val_main_v126_eq _).trans ?_),
    h8.trans ((val_main_v127_eq _).trans ?_), h9.trans ((val_main_v121_eq _).trans ?_), ha⟩
  · rw [e0, e2, e3]; exact ((Run.final_9_0 m g c).trans (Ffn.arr0_7 (Ffn.entry0 m g c))).symm
  · rw [e0, e2, e4]; exact ((Run.final_9_1 m g c).trans (Ffn.arr0_8 (Ffn.entry0 m g c))).symm
  · rw [e0, e1, e2, e3, e4, e5, e6]; exact ((Run.final_9_2 m g c).trans (Ffn.dx2 g (H c))).symm
  · rw [e0, e1, e2, e3, e4, e5, e6]; exact ((Run.final_9_3 m g c).trans (Ffn.statf_all g (H c))).symm
  · rw [e0, e1, e2, e3, e4, e5, e6]; exact ((Run.final_10_0 m g c).trans (Ffn.arr1_8 E R)).symm
  · rw [e0, e1, e2, e3, e4, e5, e6]; exact ((Run.final_10_1 m g c).trans (Ffn.arr1_9 E R)).symm
  · rw [e0, e1, e2, e3, e4, e5, e6]; exact ((Run.final_10_2 m g c).trans (Ffn.arr1_10 E)).symm
  · rw [e0, e2, e3, e4]; exact ((Run.final_10_3 m g c).trans (Ffn.arr1_11 E)).symm
  · rw [e0, e2]; exact ((Run.final_10_4 m g c).trans (Ffn.arr1_12 E)).symm
  · rw [e0, e1, e2, e3, e4, e5, e6]; exact ((Run.final_10_5 m g c).trans (Ffn.arr1_13 E R)).symm

/-- The reference has host operations only: its frame is its run's, and it has no counter. -/
theorem quiescent_ffn_reference : Cert.quiescent_FfnReferenceIdeal (hFfnReferenceIdeal := Cert.FfnReferenceIdeal.Gen.facts) := fun m g _ =>
  (θ_run _ _ _).mono (fun _ h => ⟨fun c => (h c).2.2.2.2.2.2.2.2.2.2, sem_eq_zero_of_no_sems rfl _⟩) (Cert.FfnReferenceIdeal.Value.run m g)

end Cert.Proof
-- ==== Proof.Proj.Frame.lean ====
/- THE RUN OF THE PROJECTION'S CALL. At the first of the four points of a tile of rows the body norms the tile into its second
   result's block; at every point it multiplies what that block holds by the weights' block. The normed block stays the same
   through the four points, so what it holds after a point is a function of that point's own blocks. -/
module

public import proofs.«01_k».proof.Proof.Gen.ProjKernelIdeal.Skeleton
public import proofs.«01_k».proof.Proof.Gen.ProjKernelIdeal.Frame
public import Idealize.ShloMosaic.Lib.Claim
public import Idealize.ShloMosaic.Lib.VecWindow
public import Idealize.ShloMosaic.Lib.Pipeline.TableIdle
public import Idealize.ShloMosaic.Lib.Pipeline.ValueKit

@[expose] public section

set_option maxRecDepth 16384

noncomputable section

namespace Cert.ProjKernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body

variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x1024 .bf16) (harg6 : arg6.IsWhole)
  (x0 : Vec F S1024x1024 .f32) (x1 : Vec F S1x1024 .f32) (x2 : Vec F S1024x2048 .bf16)

/-- At a tile's first point the norm is stored, then the product of it. -/
theorem run_first (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_proj_fwd i arg2 harg2 arg3 harg3 arg4 harg4 arg5 harg5 arg6 harg6) K := by
  simp only [cc0_proj_fwd_eq_skeleton]; unfold cc0_proj_fwd_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [show run_first.sl.v3 c arg2 harg2 arg3 harg3 arg6 x0 x1 = _ from View.readCov_full _ _ _ _ _]
    rw [View.readAt_full, View.readAt_full, View.readAt_full, harg2.read_unread, harg3.read_unread, harg4.read_unread]
  iexists _; isplitr
  swap; · iexact H4
  ipureintro
  refine (View.read_writes_full _ _ _ _ _).trans ?_
  rw [View.readAt_full, View.readAt_full, harg2.read_unread, harg3.read_unread]

/-- At the others only the product. -/
theorem run_later (x4 : Vec F S1024x1024 .bf16) (hc : ¬k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x4 x2) ∗ owns (c : Thread nD τ) arg6 fullShare x4) -∗ K ⟨⟩))
      ⊢ wp frame (wpE (defs₀ (F := F)) Variants.none c none) E (cc0_proj_fwd i arg2 harg2 arg3 harg3 arg4 harg4 arg5 harg5 arg6 harg6) K := by
  simp only [cc0_proj_fwd_eq_skeleton]; unfold cc0_proj_fwd_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [View.readAt_full, View.readAt_full, harg6.read_unread, harg4.read_unread]
  iexists _; isplitr; · ipureintro; exact harg6.read_unread _
  iexact H4

end Body

/-! ## The data of the run -/

/-- The normed tile is the second result's block after each of the tile's points, stored there or found there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (k0_pay1 (iblk m c 0 t) (iblk m c 1 t)) (iblk m c 2 t)
    | ⟨4, _⟩ => k0_pay1 (iblk m c 0 t) (iblk m c 1 t)
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay2 (k0_pay1 (iblk m c 0 t) (iblk m c 1 t)) (iblk m c 2 t) := by dsimp only [dats]
theorem after_4 (c : Dev nD) (t : Fin cfg0.N) : (dats m 0 c).after 4 t = k0_pay1 (iblk m c 0 t) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The first of a tile's points, -/
theorem first_iff : ∀ t : Fin cfg0.N, k0_cond1 (grid0.coords t) = 1#1 ↔ t.val % 4 = 0 := by decide +kernel
/-- which the normed block's buffer is fresh at, -/
theorem fresh_4 : ∀ t : Fin cfg0.N, cfg0.fresh 4 t.val = (t.val % 4 == 0) := fun t =>
  cfg0.fresh_tab 4 (fun n => n % 4 == 0) rfl (by decide +kernel) t.val (Nat.le_of_lt t.isLt)
/-- and the block is carried through the others. -/
theorem idle_4 : ∀ t : Fin cfg0.N, cfg0.idle 4 (cfg0.grid.coords t) = !(t.val % 4 == 0) := by decide +kernel

theorem idx_0 : ∀ t : Fin cfg0.N, (cfg0.win 0).index t = ![t.val / 4, 0] := by decide +kernel
theorem idx_1 : ∀ t : Fin cfg0.N, (cfg0.win 1).index t = ![0, 0] := by decide +kernel

/-- The points of a tile hold one tile of rows, -/
theorem rows_same (c : Dev nD) (t u : Fin cfg0.N) (h : u.val / 4 = t.val / 4) : iblk m c 0 t = iblk m c 0 u := by
  generalize hX : V m c main_arg0 = X
  show ((cfg0.win 0).blk t).view.read (Elt F) (V m c main_arg0) = ((cfg0.win 0).blk u).view.read (Elt F) (V m c main_arg0)
  rw [hX]
  funext j
  have e := idx_0 t
  have e' := idx_0 u
  show X _ = X _
  blk_ext [e, e', h]

/-- and every point the one gain. -/
theorem gain_same (c : Dev nD) (t u : Fin cfg0.N) : iblk m c 1 t = iblk m c 1 u := by
  generalize hX : V m c main_arg1 = X
  show ((cfg0.win 1).blk t).view.read (Elt F) (V m c main_arg1) = ((cfg0.win 1).blk u).view.read (Elt F) (V m c main_arg1)
  rw [hX]
  funext j
  have e := idx_1 t
  have e' := idx_1 u
  show X _ = X _
  blk_ext [e, e']

theorem norm_carried (c : Dev nD) (t : Fin cfg0.N) (h : ¬t.val % 4 = 0) :
    (dats m 0 c).after 4 t = (dats m 0 c).after 4 ⟨t.val - 1, by omega⟩ := by
  rw [after_4, after_4, rows_same m c t ⟨t.val - 1, by omega⟩ (by show (t.val - 1) / 4 = t.val / 4; omega), gain_same m c t ⟨t.val - 1, by omega⟩]

theorem before_4 (c : Dev nD) (t : Fin cfg0.N) (h : ¬t.val % 4 = 0) (d) : (dats m 0 c).before 4 t d = k0_pay1 (iblk m c 0 t) (iblk m c 1 t) := by
  rw [(dats m 0 c).before_out_traj 4 rfl (fun _ _ => rfl)
    (fun s _ hi _ => norm_carried m c s (by have := (idle_4 s).symm.trans hi; simpa using this)) t.val t rfl d,
    fresh_4, if_neg (by simpa using h), ← norm_carried m c t h, after_4]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The normed block's buffer held at its contents is what the run asks of it after the point. -/
theorem leaves_4 (c : Dev nD) (t : Fin cfg0.N) :
    owns (c : Thread nD τ) (st0_4 t) fullShare (k0_pay1 (iblk m c 0 t) (iblk m c 1 t)) ⊢ ((dats m 0 c).leavesExact 4 t : sProp 𝕄) := by
  by_cases h : t.val % 4 = 0
  · unfold Dat.leavesExact
    rw [show cfg0.idle 4 (cfg0.grid.coords t) = false from (idle_4 t).trans (by simpa using h), after_4]
  · by_cases h3 : t.val % 4 = 3
    · unfold Dat.leavesExact
      rw [show cfg0.idle 4 (cfg0.grid.coords t) = true from (idle_4 t).trans (by simpa using h), (flush0_4 t).mpr h3, after_4]
    · rw [(dats m 0 c).leavesExact_idle 4 t ((idle_4 t).trans (by simpa using h)) (Bool.eq_false_iff.mpr fun g => h3 ((flush0_4 t).mp g))]
      iintro H
      iexists (k0_pay1 (iblk m c 0 t) (iblk m c 1 t))
      rw [before_4 m c t h]
      iexact H

theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl, after_0, after_1, after_2, after_3]
  by_cases h : t.val % 4 = 0
  · iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t); iexact H4
  · simp only [before_4 m c t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (iblk m c 0 t) (iblk m c 1 t) (iblk m c 2 t) (k0_pay1 (iblk m c 0 t) (iblk m c 1 t))
      (fun g => h ((first_iff t).mp g)) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t); iexact H4

theorem obligation (c : Dev nD) : BodyObligation (dats (F := F) m 0 c) (defs₀ (F := F)) Variants.none () Set.univ := fun t => by
  have row : defs₀ (F := F) .tc cfg0.body (cfg0.bodyArgs t (cfg0.slots t)) = bodyAt0 t := by unfold defs₀; rw [Defs.onTc_tc]
  rw [bigSep_W0, bigSep_W0, row]
  exact triple_restated (body m c t) rfl .rfl fun _ => .rfl

set_option backward.isDefEq.respectTransparency.types false in
/-- The launch: the arrays end at what the data says, with every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl) (howed := fun _ _ => rfl) (V := V m)
    (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
  ((θ_run defs _ _).mono (fun _ h => h.2) (run_quiescent m ρ))

end Cert.ProjKernelIdeal.Proj
-- ==== Proof.Proj.Value.lean ====
/- WHAT THE PROJECTION'S CALL LEAVES is what the reference computes: the normed rows, and their product with the weights. -/
module

public import proofs.«01_k».proof.Proof.Proj.Frame
public import proofs.«01_k».proof.Proof.Gen.ProjReferenceIdeal.Read
public import Idealize.ShloMosaic.Lib.Pointwise
public import Idealize.ShloMosaic.Lib.StableHlo.RunRead

@[expose] public section

set_option maxRecDepth 16384

noncomputable section

namespace Cert.ProjKernelIdeal.Proj

open Idealize.ShloMosaic Idealize.ShloMosaic.TcCoe Idealize.ShloMosaic.Tactic
open Idealize.SL Idealize.SL.Sem
open Idealize.ShloMosaic.Pipeline (Dat)
open Cert.ProjKernelIdeal.Gen
open Cert.ProjReferenceIdeal.Read

/-- Row `r` of tile `k`, and column `l` of block `k`. -/
abbrev row (k : Fin 4) (r : Fin 1024) : Fin 4096 := ⟨1024 * k.val + r.val, by omega⟩
abbrev col (k : Fin 4) (l : Fin 2048) : Fin 8192 := ⟨2048 * k.val + l.val, by omega⟩

/-- Tile `k` of 1024 rows, -/
abbrev rows {α : Type} {n : Nat} (k : Fin 4) (X : (⟨2, ![4096, n]⟩ : Shape).Idx → α) : (⟨2, ![1024, n]⟩ : Shape).Idx → α :=
  fun j => X (ValueIdx.ix2 (row k (j 0)) (j 1))
/-- block `l` of 2048 columns, -/
abbrev cols {α : Type} {n : Nat} (l : Fin 4) (X : (⟨2, ![n, 8192]⟩ : Shape).Idx → α) : (⟨2, ![n, 2048]⟩ : Shape).Idx → α :=
  fun j => X (ValueIdx.ix2 (j 0) (col l (j 1)))
/-- and both. -/
abbrev block {α : Type} (k l : Fin 4) (X : (⟨2, ![4096, 8192]⟩ : Shape).Idx → α) : (⟨2, ![1024, 2048]⟩ : Shape).Idx → α :=
  fun j => X (ValueIdx.ix2 (row k (j 0)) (col l (j 1)))

section Point

variable (k l : Fin 4) (a0 : Vec Ideal S4096x1024 .f32) (a1 : Vec Ideal S1x1024 .f32) (a2 : Vec Ideal S1x1024x8192 .f32)

theorem norm_tile : k0_pay1 (F := Ideal) (rows k a0) a1 = rows k (val_main_v17 (F := Ideal) a0 a1) := by
  funext j
  unfold k0_pay1 val_main_v17 val_main_v13 val_main_v12 val_main_v11 val_main_v10 val_main_v9 val_main_v8 val_main_v7 val_main_v6 val_main_v5 val_main_v4 val_main_v3 val_main_v2 val_main_v1 val_main_v0 val_main_cst val_main_cst_0 val_main_cst_1
  simp only [rows]
  pointwise!

theorem product_tile : k0_pay2 (F := Ideal) (rows k (val_main_v17 (F := Ideal) a0 a1)) (cols l (val_main_v14 (F := Ideal) a2))
    = block k l (val_main_v16 (F := Ideal) a0 a1 a2) := by
  funext j
  unfold k0_pay2 val_main_v16 val_main_v15 val_main_v17
  generalize val_main_v13 (F := Ideal) a0 a1 = X
  generalize val_main_v14 (F := Ideal) a2 = W
  simp only [rows, cols, block]
  pointwise!

end Point

variable (m : (ℓ : Loc nD τ sig) → Buf (Elt Ideal) ℓ) (ρ : Dev nD → PrngReg) (c : Dev nD) (t : Fin cfg0.N)

abbrev A0 : Vec Ideal S4096x1024 .f32 := m ((c : Thread nD τ).loc main_arg0)
abbrev A1 : Vec Ideal S1x1024 .f32 := m ((c : Thread nD τ).loc main_arg1)
abbrev A2 : Vec Ideal S1x1024x8192 .f32 := m ((c : Thread nD τ).loc main_arg2)

/-- A point's tile of rows, and its block of columns. -/
abbrev kk : Fin 4 := ⟨t.val / 4, by have : t.val < 16 := lt_of_lt_of_eq t.isLt (show cfg0.N = 16 from N_0); omega⟩
abbrev ll : Fin 4 := ⟨t.val % 4, by omega⟩

theorem idx_2 : ∀ t : Fin cfg0.N, (cfg0.win 2).index t = ![0, t.val % 4] := by decide +kernel
theorem idx_3 : ∀ t : Fin cfg0.N, (cfg0.win 3).index t = ![t.val / 4, t.val % 4] := by decide +kernel
theorem idx_4 : ∀ t : Fin cfg0.N, (cfg0.win 4).index t = ![t.val / 4, 0] := by decide +kernel

theorem V_w : V m c main_v1 = val_main_v14 (F := Ideal) (A2 m c) := by
  after_reads_simp
  rfl

theorem blk_0 : iblk m c 0 t = rows (kk t) (A0 m c) := by
  refine Eq.trans (b := rows (kk t) (V m c main_arg0)) ?_ (congrArg _ (V_main_arg0 m c))
  generalize hX : V m c main_arg0 = X
  show ((cfg0.win 0).blk t).view.read (Elt Ideal) (V m c main_arg0) = _
  rw [hX]
  funext j
  have e := idx_0 t
  show X _ = X _
  blk_ext [e, kk]
theorem blk_1 : iblk m c 1 t = A1 m c := by
  refine Eq.trans (b := V m c main_arg1) ?_ (V_main_arg1 m c)
  generalize hX : V m c main_arg1 = X
  show ((cfg0.win 1).blk t).view.read (Elt Ideal) (V m c main_arg1) = _
  rw [hX]
  funext j
  have e := idx_1 t
  show X _ = X _
  blk_ext [e]
theorem blk_2 : iblk m c 2 t = cols (ll t) (val_main_v14 (F := Ideal) (A2 m c)) := by
  refine Eq.trans (b := cols (ll t) (V m c main_v1)) ?_ (congrArg _ (V_w m c))
  generalize hX : V m c main_v1 = X
  show ((cfg0.win 2).blk t).view.read (Elt Ideal) (V m c main_v1) = _
  rw [hX]
  funext j
  have e := idx_2 t
  show X _ = X _
  blk_ext [e, ll]

theorem arr_3 : (dats m 0 c).arrAt 3 cfg0.N = val_main_v16 (F := Ideal) (A0 m c) (A1 m c) (A2 m c) := by
  refine (dats m 0 c).arrAt_eq_of_covers 3 _ (by decide +kernel) fun t hf y => ?_
  have e := idx_3 t
  rw [after_3, blk_0, blk_1, blk_2, norm_tile, product_tile]
  generalize val_main_v16 (F := Ideal) (A0 m c) (A1 m c) (A2 m c) = X
  blk_simp
  show X _ = X _
  blk_ext [e, kk, ll]

theorem arr_4 : (dats m 0 c).arrAt 4 cfg0.N = val_main_v17 (F := Ideal) (A0 m c) (A1 m c) := by
  refine (dats m 0 c).arrAt_eq_of_covers 4 _ (by decide +kernel) fun t hf y => ?_
  have e := idx_4 t
  rw [after_4, blk_0, blk_1, norm_tile]
  generalize val_main_v17 (F := Ideal) (A0 m c) (A1 m c) = X
  blk_simp
  show X _ = X _
  blk_ext [e, kk]

/-- The run: both results are the reference's, every argument is kept. -/
theorem run : θ_run defs (onTc (τ := τ) (main (F := Ideal))) ⟨m, fun _ => 0, ρ⟩ (fun r => ∀ c : Dev nD,
      r.2.mem ((c.tc : Thread nD τ).loc main_v2_0) = val_main_v16 (F := Ideal) (A0 m c) (A1 m c) (A2 m c)
      ∧ r.2.mem ((c.tc : Thread nD τ).loc main_v2_1) = val_main_v17 (F := Ideal) (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (arr_3 m c), ((h.1 c).1 4).trans (arr_4 m c), h.2 c⟩)
    (θ_run_and (run_main m ρ) (frame_of m ρ (dats m) (A_eq m) (run_main m ρ)))

end Cert.ProjKernelIdeal.Proj

end
-- ==== Proof.Proj.Claim.lean ====
/- THE VALUE CLAIM of the projection's call. -/
module

public import proofs.«01_k».proof.Defs
public import proofs.«01_k».proof.Proof.Proj.Value
public import proofs.«01_k».proof.Proof.Gen.ProjKernelIdeal
public import proofs.«01_k».proof.Proof.Gen.ProjReferenceIdeal
public import Idealize.ShloMosaic.Lib.Quiescent

@[expose] public section

noncomputable section

namespace Cert.Proof

open Idealize.ShloMosaic Idealize.ShloMosaic.TcCoe Idealize.SL.Sem

open Cert.ProjKernelIdeal Cert.ProjKernelIdeal.Proj Cert.ProjReferenceIdeal.Read in
theorem algebraic_proj : Cert.algebraic_ProjKernelIdeal_ProjReferenceIdeal
    (hProjKernelIdeal := Cert.ProjKernelIdeal.Gen.facts) (hProjReferenceIdeal := Cert.ProjReferenceIdeal.Gen.facts) := by
  intro m g m' g' _ hagree
  refine ⟨fun c => val_main_v16 (F := Ideal) (A0 m c) (A1 m c) (A2 m c), fun c => val_main_v17 (F := Ideal) (A0 m c) (A1 m c),
    run m g, ?_⟩
  refine (θ_run _ _ _).mono (fun r h c => ?_) (Cert.ProjReferenceIdeal.Value.run m' g')
  obtain ⟨h0, h1, ha⟩ := h c
  obtain ⟨a0, a1, a2⟩ := hagree c
  exact ⟨h0.trans ((Cert.ProjReferenceIdeal.Read.val_main_v16_eq _ _ _).trans (by rw [a0, a1, a2])),
    h1.trans ((Cert.ProjReferenceIdeal.Read.val_main_v17_eq _ _).trans (by rw [a0, a1])), ha⟩

/-- The reference has host operations only: its frame is its run's, and it has no counter. -/
theorem quiescent_proj_reference : Cert.quiescent_ProjReferenceIdeal (hProjReferenceIdeal := Cert.ProjReferenceIdeal.Gen.facts) := fun m g _ =>
  (θ_run _ _ _).mono (fun _ h => ⟨fun c => (h c).2.2, sem_eq_zero_of_no_sems rfl _⟩) (Cert.ProjReferenceIdeal.Value.run m g)

end Cert.Proof

end
-- ==== Proof.Proj.Same.lean ====
/- The kernel's frame from the idealized program's run: idealizing rewrote nothing. -/
module
public import proofs.«01_k».proof.Defs
public import proofs.«01_k».proof.Proof.Proj.Frame
public import proofs.«01_k».proof.Proof.Gen.ProjKernel
@[expose] public section
open Idealize.ShloMosaic Idealize.ShloMosaic.TcCoe
namespace Cert.ProjKernelIdeal.Proj
/-- The frame of the kernel at bits. -/
def FrameBits : Prop := ∀ (m : (ℓ : Loc Cert.ProjKernel.nD Cert.ProjKernel.τ Cert.ProjKernel.sig) → Buf (Elt Bits) ℓ) (g : Dev Cert.ProjKernel.nD → PrngReg),
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)
/-- The same of the idealized program, at bits too. -/
def FrameIdealBits : Prop := ∀ (m : (ℓ : Loc Cert.ProjKernelIdeal.nD Cert.ProjKernelIdeal.τ Cert.ProjKernelIdeal.sig) → Buf (Elt Bits) ℓ) (g : Dev Cert.ProjKernelIdeal.nD → PrngReg),
    θ_run (Cert.ProjKernelIdeal.defs (F := Bits)) (onTc (τ := Cert.ProjKernelIdeal.τ) (Cert.ProjKernelIdeal.main (F := Bits))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)
/-- No rule rewrites the program: the two statements are one. -/
theorem frame_same : FrameBits = FrameIdealBits := by sl_kernel_rfl

theorem frame_kernel : Cert.quiescent_ProjKernel :=
  fun m g _ => (frame_same.mpr (fun m g => frame_run (F := Bits) m g) : FrameBits) m g
end Cert.ProjKernelIdeal.Proj
-- ==== Proof.Gw.Value.lean ====
/- WHAT THE WEIGHT GRADIENT'S CALL LEAVES: the product summed over the two halves of the rows, one after the other. -/
module

public import proofs.«01_k».proof.Proof.Gen.GwKernelIdeal.Value
public import proofs.«01_k».proof.Proof.Gen.GwReferenceIdeal.Read
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.GwKernelIdeal.Gw

open Idealize.ShloMosaic Idealize.ShloMosaic.TcCoe Idealize.ShloMosaic.Tactic
open Idealize.SL Idealize.SL.Sem
open Idealize.ShloMosaic.Pipeline (Dat)
open Cert.GwKernelIdeal.Gen
open Cert.GwReferenceIdeal.Read

/-- Row `r` of half `k`, and the half itself. -/
abbrev row (k : Fin 2) (r : Fin 2048) : Fin 4096 := ⟨2048 * k.val + r.val, by omega⟩
abbrev half {α : Type} {n : Nat} (k : Fin 2) (X : (⟨2, ![4096, n]⟩ : Shape).Idx → α) : (⟨2, ![2048, n]⟩ : Shape).Idx → α :=
  fun j => X (ValueIdx.ix2 (row k (j 0)) (j 1))

/-- A sum over the rows is the two halves' sums. -/
theorem sum_halves (f : Fin 4096 → EReal) : ∑ n, f n = ∑ r : Fin 2048, f (row 0 r) + ∑ r : Fin 2048, f (row 1 r) := by
  rw [Fin.sum_univ_add (a := 2048) (b := 2048) f]
  refine congrArg₂ (· + ·) (Finset.sum_congr rfl fun r _ => congrArg f (Fin.ext ?_)) (Finset.sum_congr rfl fun r _ => congrArg f (Fin.ext ?_))
  · show r.val = 2048 * 0 + r.val
    omega
  · show 2048 + r.val = 2048 * 1 + r.val
    omega

section Point

variable (k : Fin 2) (a0 a1 : Vec Ideal S4096x1024 .f32)

/-- What a half adds. -/
theorem half_sum (S : Vec Ideal S1024x1024 .f32) (j : S1024x1024.Idx) : k0_pay2 (F := Ideal) S (half k a0) (half k a1) j
    = S j + ∑ r : Fin 2048, a0 (ValueIdx.ix2 (row k r) (j 0)) * a1 (ValueIdx.ix2 (row k r) (j 1)) := by
  unfold k0_pay2 half
  pointwise!

theorem ref_sum (j : S1024x1024.Idx) : val_main_v6 (F := Ideal) a0 a1 j
    = ∑ n : Fin 4096, a0 (ValueIdx.ix2 n (j 0)) * a1 (ValueIdx.ix2 n (j 1)) := by
  unfold val_main_v6 val_main_v5 val_main_v4 val_main_v3
  pointwise!

end Point

variable (m : (ℓ : Loc nD τ sig) → Buf (Elt Ideal) ℓ) (ρ : Dev nD → PrngReg) (c : Dev nD) (t : Fin cfg0.N)

abbrev A0 : Vec Ideal S4096x1024 .f32 := m ((c : Thread nD τ).loc main_arg0)
abbrev A1 : Vec Ideal S4096x1024 .f32 := m ((c : Thread nD τ).loc main_arg1)

abbrev kk : Fin 2 := ⟨t.val, lt_of_lt_of_eq t.isLt (show cfg0.N = 2 from N_0)⟩

theorem idx_in : ∀ t : Fin cfg0.N, (cfg0.win 0).index t = ![t.val, 0] ∧ (cfg0.win 1).index t = ![t.val, 0] := by decide +kernel

theorem V_a : V m c main_v0 = A0 m c := by
  after_reads_simp
  rfl
theorem V_d : V m c main_v1 = A1 m c := by
  after_reads_simp
  rfl

theorem blk_0 : iblk m c 0 t = half (kk t) (A0 m c) := by
  refine Eq.trans (b := half (kk t) (V m c main_v0)) ?_ (congrArg _ (V_a m c))
  generalize hX : V m c main_v0 = X
  show ((cfg0.win 0).blk t).view.read (Elt Ideal) (V m c main_v0) = _
  rw [hX]
  funext j
  have e := (idx_in t).1
  show X _ = X _
  blk_ext [e, kk]
theorem blk_1 : iblk m c 1 t = half (kk t) (A1 m c) := by
  refine Eq.trans (b := half (kk t) (V m c main_v1)) ?_ (congrArg _ (V_d m c))
  generalize hX : V m c main_v1 = X
  show ((cfg0.win 1).blk t).view.read (Elt Ideal) (V m c main_v1) = _
  rw [hX]
  funext j
  have e := (idx_in t).2
  show X _ = X _
  blk_ext [e, kk]

theorem first (h : t.val % 2 = 0) (h' : ¬t.val % 2 = 1) :
    (outsAt0 m c t.val t.isLt).1 = k0_pay2 (F := Ideal) (k0_pay1 (F := Ideal)) (half (kk t) (A0 m c)) (half (kk t) (A1 m c)) := by
  rw [outsAt0_A m c t h h']
  dsimp only
  frame_out
  simp only [blk_0, blk_1]

theorem second (h : ¬t.val % 2 = 0) (h' : t.val % 2 = 1) :
    (outsAt0 m c t.val t.isLt).1 = k0_pay2 (F := Ideal) (outsAt0 m c (t.val - 1) (Nat.lt_of_le_of_lt (Nat.sub_le _ _) t.isLt)).1
      (half (kk t) (A0 m c)) (half (kk t) (A1 m c)) := by
  rw [outsAt0_B m c t h h']
  dsimp only
  frame_out
  simp only [blk_0, blk_1]

theorem second_cast (h : ¬t.val % 2 = 0) (h' : t.val % 2 = 1) :
    (outsAt0 m c t.val t.isLt).2 = k0_pay3 (F := Ideal) (outsAt0 m c t.val t.isLt).1 := by
  rw [outsAt0_B m c t h h']
  dsimp only
  frame_out

/-- After the second half the sum is the whole one, -/
theorem total (ht : t.val = 1) : (outsAt0 m c t.val t.isLt).1 = val_main_v6 (F := Ideal) (A0 m c) (A1 m c) := by
  obtain rfl : t = ⟨1, by decide⟩ := Fin.ext ht
  rw [second m c ⟨1, by decide⟩ (by decide) (by decide)]
  have f := first m c ⟨0, by decide⟩ (by decide) (by decide)
  funext j
  rw [half_sum, ref_sum, sum_halves]
  refine congrArg₂ (· + ·) ?_ rfl
  refine (congrFun f j).trans ((half_sum _ _ _ _ j).trans ((congrArg (· + _) ?_).trans (zero_add _)))
  unfold k0_pay1
  pointwise!

/-- and the second result is its cast. -/
theorem cast_total : k0_pay3 (F := Ideal) (val_main_v6 (F := Ideal) (A0 m c) (A1 m c)) = val_main_v8 (F := Ideal) (A0 m c) (A1 m c) := by
  funext j
  unfold k0_pay3 val_main_v8 val_main_v7 val_main_v6
  generalize val_main_v5 (F := Ideal) (A0 m c) (A1 m c) = X
  pointwise!

theorem arr_2 : (dats m 0 c).arrAt 2 cfg0.N = val_main_v6 (F := Ideal) (A0 m c) (A1 m c) := by
  refine (dats m 0 c).arrAt_eq_of_after_last 2 ⟨1, by decide⟩ (by decide +kernel) _ fun (j : S1024x1024.Idx) => ?_
  rw [after0_2, total m c ⟨1, by decide⟩ rfl]
  blk_simp
  rfl

theorem arr_3 : (dats m 0 c).arrAt 3 cfg0.N = val_main_v8 (F := Ideal) (A0 m c) (A1 m c) := by
  refine (dats m 0 c).arrAt_eq_of_after_last 3 ⟨1, by decide⟩ (by decide +kernel) _ fun (j : S1024x1024.Idx) => ?_
  rw [after0_3, second_cast m c ⟨1, by decide⟩ (by decide) (by decide), total m c ⟨1, by decide⟩ rfl, cast_total]
  blk_simp
  rfl

end Cert.GwKernelIdeal.Gw

end
-- ==== Proof.Gw.Claim.lean ====
/- THE VALUE CLAIM of the weight gradient's call. -/
module

public import proofs.«01_k».proof.Defs
public import proofs.«01_k».proof.Proof.Gw.Value
public import proofs.«01_k».proof.Proof.Gen.GwKernelIdeal
public import proofs.«01_k».proof.Proof.Gen.GwReferenceIdeal
public import Idealize.ShloMosaic.Lib.Quiescent

@[expose] public section

noncomputable section

namespace Cert.Proof

open Idealize.ShloMosaic Idealize.ShloMosaic.TcCoe Idealize.SL.Sem

open Cert.GwKernelIdeal Cert.GwKernelIdeal.Gw Cert.GwReferenceIdeal.Read in
theorem algebraic_gw : Cert.algebraic_GwKernelIdeal_GwReferenceIdeal
    (hGwKernelIdeal := Cert.GwKernelIdeal.Gen.facts) (hGwReferenceIdeal := Cert.GwReferenceIdeal.Gen.facts) := by
  intro m g m' g' _ hagree
  refine ⟨fun c => val_main_v6 (F := Ideal) (A0 m c) (A1 m c), fun c => val_main_v8 (F := Ideal) (A0 m c) (A1 m c),
    (θ_run _ _ _).mono (fun r h c => ⟨(h c).1.trans (arr_2 m c), (h c).2.1.trans (arr_3 m c), (h c).2.2⟩) (Cert.GwKernelIdeal.Value.run_blocks m g), ?_⟩
  refine (θ_run _ _ _).mono (fun r h c => ?_) (Cert.GwReferenceIdeal.Value.run m' g')
  obtain ⟨h0, h1, ha⟩ := h c
  obtain ⟨a0, a1⟩ := hagree c
  exact ⟨h0.trans ((Cert.GwReferenceIdeal.Read.val_main_v6_eq _ _).trans (by rw [a0, a1])),
    h1.trans ((Cert.GwReferenceIdeal.Read.val_main_v8_eq _ _).trans (by rw [a0, a1])), ha⟩

/-- The reference has host operations only: its frame is its run's, and it has no counter. -/
theorem quiescent_gw_reference : Cert.quiescent_GwReferenceIdeal (hGwReferenceIdeal := Cert.GwReferenceIdeal.Gen.facts) := fun m g _ =>
  (θ_run _ _ _).mono (fun _ h => ⟨fun c => (h c).2.2, sem_eq_zero_of_no_sems rfl _⟩) (Cert.GwReferenceIdeal.Value.run m g)

end Cert.Proof

end
-- ==== Proof.Gpool.Value.lean ====
/- WHAT THE POOL WEIGHT GRADIENT'S CALL LEAVES: each group's product summed over the four tiles of rows, one after the other. -/
module

public import proofs.«01_k».proof.Proof.Gen.GpoolKernelIdeal.Value
public import proofs.«01_k».proof.Proof.Gen.GpoolReferenceIdeal.Read
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.GpoolKernelIdeal.Gpool

open Idealize.ShloMosaic Idealize.ShloMosaic.TcCoe Idealize.ShloMosaic.Tactic
open Idealize.SL Idealize.SL.Sem
open Idealize.ShloMosaic.Pipeline (Dat)
open Cert.GpoolKernelIdeal.Gen
open Cert.GpoolReferenceIdeal.Read

/-- Row `r` of tile `k`, and the tile itself. -/
abbrev row (k : Fin 4) (r : Fin 1024) : Fin 4096 := ⟨1024 * k.val + r.val, by omega⟩
abbrev rows {α : Type} {n : Nat} (k : Fin 4) (X : (⟨2, ![4096, n]⟩ : Shape).Idx → α) : (⟨2, ![1024, n]⟩ : Shape).Idx → α :=
  fun j => X (ValueIdx.ix2 (row k (j 0)) (j 1))
/-- Column `l` of group `g`. -/
abbrev col (g : Fin 4) (l : Fin 256) : Fin 1024 := ⟨256 * g.val + l.val, by omega⟩

variable (m : (ℓ : Loc nD τ sig) → Buf (Elt Ideal) ℓ) (ρ : Dev nD → PrngReg) (c : Dev nD) (t : Fin cfg0.N)

abbrev A0 : Vec Ideal S4096x1024 .f32 := m ((c : Thread nD τ).loc main_arg0)
abbrev A1 : Vec Ideal S4096x1024 .f32 := m ((c : Thread nD τ).loc main_arg1)

abbrev kk : Fin 4 := ⟨t.val, lt_of_lt_of_eq t.isLt (show cfg0.N = 4 from N_0)⟩

theorem idx_in : ∀ t : Fin cfg0.N, (cfg0.win 0).index t = ![t.val, 0] ∧ (cfg0.win 1).index t = ![t.val, 0] := by decide +kernel

theorem V_a : V m c main_v0 = A0 m c := by
  after_reads_simp
  rfl
theorem V_d : V m c main_v1 = A1 m c := by
  after_reads_simp
  rfl

theorem blk_0 : iblk m c 0 t = rows (kk t) (A0 m c) := by
  refine Eq.trans (b := rows (kk t) (V m c main_v0)) ?_ (congrArg _ (V_a m c))
  generalize hX : V m c main_v0 = X
  show ((cfg0.win 0).blk t).view.read (Elt Ideal) (V m c main_v0) = _
  rw [hX]
  funext j
  have e := (idx_in t).1
  show X _ = X _
  blk_ext [e, kk]
theorem blk_1 : iblk m c 1 t = rows (kk t) (A1 m c) := by
  refine Eq.trans (b := rows (kk t) (V m c main_v1)) ?_ (congrArg _ (V_d m c))
  generalize hX : V m c main_v1 = X
  show ((cfg0.win 1).blk t).view.read (Elt Ideal) (V m c main_v1) = _
  rw [hX]
  funext j
  have e := (idx_in t).2
  show X _ = X _
  blk_ext [e, kk]

/-- What a tile adds to an element. -/
def part (a0 a1 : Vec Ideal S4096x1024 .f32) (g : Fin 4) (i l : Fin 256) (n : Fin 4096) : EReal :=
  a0 (ValueIdx.ix2 n (col g i)) * a1 (ValueIdx.ix2 n (col g l))

/-! ## The four groups' stores -/

section Groups

variable {a : Nat} (S : Vec Ideal S4x256x256 .f32)

theorem at_group (inb : ∀ x, (![a, 0, 0] : Fin 3 → Nat) x + (![1, 256, 256] : Fin 3 → Nat) x ≤ (![4, 256, 256] : Fin 3 → Nat) x)
    (g : Fin 4) (h : g.val = a) (i l : Fin 256) :
    (Rect.unit (s := ⟨3, ![4, 256, 256]⟩) ![a, 0, 0] ![1, 256, 256] inb).emb (ValueIdx.ix3 0 i l) = ValueIdx.ix3 g i l := by
  funext x
  match x with
  | ⟨0, _⟩ => exact Fin.ext ((Rect.idx_unit_val _ _ inb _ 0).trans h.symm)
  | ⟨1, _⟩ => exact Fin.ext ((Rect.idx_unit_val _ _ inb _ 1).trans (Nat.zero_add _))
  | ⟨2, _⟩ => exact Fin.ext ((Rect.idx_unit_val _ _ inb _ 2).trans (Nat.zero_add _))

/-- A group's store is read in its group, -/
theorem store_at (inb : ∀ x, (![a, 0, 0] : Fin 3 → Nat) x + (![1, 256, 256] : Fin 3 → Nat) x ≤ (![4, 256, 256] : Fin 3 → Nat) x)
    (w : Vec Ideal S1x256x256 .f32) (L : List (View.Piece (Elt Ideal) ⟨3, ![4, 256, 256]⟩ .f32)) (g : Fin 4) (h : g.val = a) (i l : Fin 256) :
    View.canon (Val := Elt Ideal) (s := ⟨3, ![4, 256, 256]⟩) (⟨Rect.unit ![a, 0, 0] ![1, 256, 256] inb, w⟩ :: L) (ValueIdx.ix3 g i l) = w (ValueIdx.ix3 0 i l) := by
  rw [← at_group inb g h i l]
  exact View.canon_cons_emb _ _ _ _

/-- and the earlier stores in the others. -/
theorem store_off (inb : ∀ x, (![a, 0, 0] : Fin 3 → Nat) x + (![1, 256, 256] : Fin 3 → Nat) x ≤ (![4, 256, 256] : Fin 3 → Nat) x)
    (w : Vec Ideal S1x256x256 .f32) (L : List (View.Piece (Elt Ideal) ⟨3, ![4, 256, 256]⟩ .f32)) (g : Fin 4) (h : g.val ≠ a) (i l : Fin 256) :
    View.canon (Val := Elt Ideal) (s := ⟨3, ![4, 256, 256]⟩) (⟨Rect.unit ![a, 0, 0] ![1, 256, 256] inb, w⟩ :: L) (ValueIdx.ix3 g i l) = View.canon L (ValueIdx.ix3 g i l) := by
  refine View.canon_cons_of_not_mem _ _ fun hm => h ?_
  have h0 : a ≤ g.val ∧ g.val < a + 1 := (Rect.mem_set_unit (s := ⟨3, ![4, 256, 256]⟩) (inb := inb)).mp hm 0
  omega

/-- A group's columns of a tile. -/
theorem cols_at {b : Nat} (X : Vec Ideal S1024x1024 .bf16)
    (inb : ∀ x, (![0, b] : Fin 2 → Nat) x + (![1024, 256] : Fin 2 → Nat) x ≤ (![1024, 1024] : Fin 2 → Nat) x) (g : Fin 4) (h : 256 * g.val = b) (r : Fin 1024) (l : Fin 256) :
    View.ld (Val := Elt Ideal) (e' := .bf16) X (Rect.unit (s := ⟨2, ![1024, 1024]⟩) ![0, b] ![1024, 256] inb) (ValueIdx.ix2 r l) = X (ValueIdx.ix2 r (col g l)) := by
  refine congrArg X (funext fun x => ?_)
  match x with
  | ⟨0, _⟩ => exact Fin.ext ((Rect.idx_unit_val _ _ inb _ 0).trans (Nat.zero_add _))
  | ⟨1, _⟩ => exact Fin.ext ((Rect.idx_unit_val _ _ inb _ 1).trans (congrArg (· + l.val) h.symm))

theorem add_at (x : Vec Ideal S1x256x256 .f32) (y z : Vec Ideal S1024x256 .bf16) (i l : Fin 256) :
    k0_pay5 (F := Ideal) x y z (ValueIdx.ix3 0 i l) = x (ValueIdx.ix3 0 i l) + ∑ r : Fin 1024, y (ValueIdx.ix2 r i) * z (ValueIdx.ix2 r l) := by
  unfold k0_pay5
  pointwise!

variable (k : Fin 4) (a0 a1 : Vec Ideal S4096x1024 .f32)

/-- What a group's store holds: what was there, and the tile's product. -/
theorem group_at {b : Nat} (inb : ∀ x, (![a, 0, 0] : Fin 3 → Nat) x + (![1, 256, 256] : Fin 3 → Nat) x ≤ (![4, 256, 256] : Fin 3 → Nat) x)
    (inc : ∀ x, (![0, b] : Fin 2 → Nat) x + (![1024, 256] : Fin 2 → Nat) x ≤ (![1024, 1024] : Fin 2 → Nat) x)
    (g : Fin 4) (h : g.val = a) (h' : 256 * g.val = b) (i l : Fin 256) :
    k0_pay5 (F := Ideal) (View.ld (Val := Elt Ideal) (e' := .f32) S (Rect.unit (s := ⟨3, ![4, 256, 256]⟩) ![a, 0, 0] ![1, 256, 256] inb))
      (View.ld (Val := Elt Ideal) (e' := .bf16) (rows k a0) (Rect.unit (s := ⟨2, ![1024, 1024]⟩) ![0, b] ![1024, 256] inc))
      (View.ld (Val := Elt Ideal) (e' := .bf16) (rows k a1) (Rect.unit (s := ⟨2, ![1024, 1024]⟩) ![0, b] ![1024, 256] inc)) (ValueIdx.ix3 0 i l)
      = S (ValueIdx.ix3 g i l) + ∑ r : Fin 1024, part a0 a1 g i l (row k r) := by
  refine (add_at _ _ _ i l).trans (congrArg₂ (· + ·) (congrArg S (at_group inb g h i l)) (Finset.sum_congr rfl fun r _ => ?_))
  exact congrArg₂ (· * ·) (cols_at _ inc g h' r i) (cols_at _ inc g h' r l)

/-- The four groups' stores: each element what was there, and the tile's product. -/
theorem groups_at (L : List (View.Piece (Elt Ideal) S4x256x256 .f32)) (g : Fin 4) (i l : Fin 256) :
    View.canon (Val := Elt Ideal) (s := S4x256x256) (e := .f32)
      (⟨Rect.unit ![3, 0, 0] ![1, 256, 256] inb_S4x256x256_S1x256x256_3_0_0,
          k0_pay2 (F := Ideal) (View.ld (e' := .f32) S (Rect.unit ![3, 0, 0] ![1, 256, 256] inb_S4x256x256_S1x256x256_3_0_0))
            (View.ld (e' := .bf16) (rows k a0) (Rect.unit ![0, 768] ![1024, 256] inb_S1024x1024_S1024x256_0_768))
            (View.ld (e' := .bf16) (rows k a1) (Rect.unit ![0, 768] ![1024, 256] inb_S1024x1024_S1024x256_0_768))⟩
        :: ⟨Rect.unit ![2, 0, 0] ![1, 256, 256] inb_S4x256x256_S1x256x256_2_0_0,
          k0_pay1 (F := Ideal) (k0_pay7 (F := Ideal) (View.ld (e' := .f32) S (Rect.unit ![2, 0, 0] ![1, 256, 256] inb_S4x256x256_S1x256x256_2_0_0)))
            (View.ld (e' := .bf16) (rows k a0) (Rect.unit ![0, 512] ![1024, 256] inb_S1024x1024_S1024x256_0_512))
            (View.ld (e' := .bf16) (rows k a1) (Rect.unit ![0, 512] ![1024, 256] inb_S1024x1024_S1024x256_0_512))⟩
        :: ⟨Rect.unit ![1, 0, 0] ![1, 256, 256] inb_S4x256x256_S1x256x256_1_0_0,
          k0_pay6 (F := Ideal) (View.ld (e' := .f32) S (Rect.unit ![1, 0, 0] ![1, 256, 256] inb_S4x256x256_S1x256x256_1_0_0))
            (View.ld (e' := .bf16) (rows k a0) (Rect.unit ![0, 256] ![1024, 256] inb_S1024x1024_S1024x256_0_256))
            (View.ld (e' := .bf16) (rows k a1) (Rect.unit ![0, 256] ![1024, 256] inb_S1024x1024_S1024x256_0_256))⟩
        :: ⟨Rect.unit ![0, 0, 0] ![1, 256, 256] inb_S4x256x256_S1x256x256_0_0_0,
          k0_pay5 (F := Ideal) (View.ld (e' := .f32) S (Rect.unit ![0, 0, 0] ![1, 256, 256] inb_S4x256x256_S1x256x256_0_0_0))
            (View.ld (e' := .bf16) (rows k a0) (Rect.unit ![0, 0] ![1024, 256] inb_S1024x1024_S1024x256_0_0))
            (View.ld (e' := .bf16) (rows k a1) (Rect.unit ![0, 0] ![1024, 256] inb_S1024x1024_S1024x256_0_0))⟩ :: L)
      (ValueIdx.ix3 g i l) = S (ValueIdx.ix3 g i l) + ∑ r : Fin 1024, part a0 a1 g i l (row k r) := by
  match g with
  | 3 => exact (store_at _ _ _ 3 rfl i l).trans (group_at S k a0 a1 _ _ 3 rfl rfl i l)
  | 2 => exact (store_off _ _ _ 2 (by decide) i l).trans ((store_at _ _ _ 2 rfl i l).trans (group_at S k a0 a1 _ _ 2 rfl rfl i l))
  | 1 => exact (store_off _ _ _ 1 (by decide) i l).trans ((store_off _ _ _ 1 (by decide) i l).trans ((store_at _ _ _ 1 rfl i l).trans (group_at S k a0 a1 _ _ 1 rfl rfl i l)))
  | 0 => exact (store_off _ _ _ 0 (by decide) i l).trans ((store_off _ _ _ 0 (by decide) i l).trans ((store_off _ _ _ 0 (by decide) i l).trans
      ((store_at _ _ _ 0 rfl i l).trans (group_at S k a0 a1 _ _ 0 rfl rfl i l))))

end Groups

/-! ## The points -/

theorem first (h : t.val % 4 = 0) (h' : ¬t.val % 4 = 3) (g : Fin 4) (i l : Fin 256) :
    (outsAt0 m c t.val t.isLt).1 (ValueIdx.ix3 g i l) = 0 + ∑ r : Fin 1024, part (A0 m c) (A1 m c) g i l (row (kk t) r) := by
  rw [outsAt0_A m c t h h']
  dsimp only
  frame_out
  simp (disch := decide) only [↓ View.readCov_skip, ↓ View.readCov_cons_toLoadRect, ↓ View.readCov_fill]
  simp only [blk_0, blk_1]
  refine (groups_at _ (kk t) (A0 m c) (A1 m c) _ g i l).trans (congrArg (· + _) ?_)
  unfold k0_pay4
  pointwise!

theorem later (h : ¬t.val % 4 = 0) (h' : ¬t.val % 4 = 3) (g : Fin 4) (i l : Fin 256) :
    (outsAt0 m c t.val t.isLt).1 (ValueIdx.ix3 g i l) = (outsAt0 m c (t.val - 1) (Nat.lt_of_le_of_lt (Nat.sub_le _ _) t.isLt)).1 (ValueIdx.ix3 g i l)
      + ∑ r : Fin 1024, part (A0 m c) (A1 m c) g i l (row (kk t) r) := by
  rw [outsAt0_B m c t h h']
  dsimp only
  frame_out
  simp only [blk_0, blk_1]
  exact groups_at _ (kk t) (A0 m c) (A1 m c) _ g i l

theorem last (h : ¬t.val % 4 = 0) (h' : t.val % 4 = 3) (g : Fin 4) (i l : Fin 256) :
    (outsAt0 m c t.val t.isLt).1 (ValueIdx.ix3 g i l) = (outsAt0 m c (t.val - 1) (Nat.lt_of_le_of_lt (Nat.sub_le _ _) t.isLt)).1 (ValueIdx.ix3 g i l)
      + ∑ r : Fin 1024, part (A0 m c) (A1 m c) g i l (row (kk t) r) := by
  rw [outsAt0_C m c t h h']
  dsimp only
  frame_out
  simp only [blk_0, blk_1]
  exact groups_at _ (kk t) (A0 m c) (A1 m c) _ g i l

theorem last_cast (h : ¬t.val % 4 = 0) (h' : t.val % 4 = 3) :
    (outsAt0 m c t.val t.isLt).2 = k0_pay3 (F := Ideal) (outsAt0 m c t.val t.isLt).1 := by
  rw [outsAt0_C m c t h h']
  dsimp only
  frame_out
  refine congrArg k0_pay3 ?_
  rw [View.readCov_eq_canon']
  exact funext fun j => congrArg (View.canon _) (funext fun x => by
    match x with
    | ⟨0, _⟩ => exact Fin.ext ((Rect.idx_unit_val _ _ inb_S4x256x256_S4x256x256_0_0_0 j 0).trans (Nat.zero_add _))
    | ⟨1, _⟩ => exact Fin.ext ((Rect.idx_unit_val _ _ inb_S4x256x256_S4x256x256_0_0_0 j 1).trans (Nat.zero_add _))
    | ⟨2, _⟩ => exact Fin.ext ((Rect.idx_unit_val _ _ inb_S4x256x256_S4x256x256_0_0_0 j 2).trans (Nat.zero_add _)))

/-- A sum over the rows is the four tiles' sums. -/
theorem sum_tiles (f : Fin 4096 → EReal) : ∑ n, f n
    = ((∑ r : Fin 1024, f (row 0 r) + ∑ r : Fin 1024, f (row 1 r)) + ∑ r : Fin 1024, f (row 2 r)) + ∑ r : Fin 1024, f (row 3 r) := by
  rw [Fin.sum_univ_add (a := 3072) (b := 1024) f, Fin.sum_univ_add (a := 2048) (b := 1024), Fin.sum_univ_add (a := 1024) (b := 1024)]
  refine congrArg₂ (· + ·) (congrArg₂ (· + ·) (congrArg₂ (· + ·) ?_ ?_) ?_) ?_ <;>
    exact Finset.sum_congr rfl fun r _ => congrArg f (Fin.ext (by simp <;> omega))

theorem ref_sum (a0 a1 : Vec Ideal S4096x1024 .f32) (g : Fin 4) (i l : Fin 256) : val_main_v10 (F := Ideal) a0 a1 (ValueIdx.ix3 g i l) = ∑ n, part a0 a1 g i l n := by
  unfold val_main_v10 val_main_v9 val_main_v8 val_main_v7 val_main_v6 val_main_v5 val_main_v1 part
  pointwise!
  refine Finset.sum_congr rfl fun n _ => (mul_comm _ _).trans (congrArg₂ (· * ·) (congrArg a0 ?_) (congrArg a1 ?_)) <;>
    exact (ix2_inj _ _ _ _).mpr ⟨rfl, Fin.ext (congrArg (· + _) (Nat.mul_comm _ _))⟩

/-- After the last tile the sum is the whole one, -/
theorem total : (outsAt0 m c 3 (by decide)).1 = val_main_v10 (F := Ideal) (A0 m c) (A1 m c) := by
  have h (g : Fin 4) (i l : Fin 256) : (outsAt0 m c 3 (by decide)).1 (ValueIdx.ix3 g i l) = val_main_v10 (F := Ideal) (A0 m c) (A1 m c) (ValueIdx.ix3 g i l) := by
    rw [ref_sum, sum_tiles]
    refine (last m c ⟨3, by decide⟩ (by decide) (by decide) g i l).trans (congrArg (· + _) ?_)
    refine (later m c ⟨2, by decide⟩ (by decide) (by decide) g i l).trans (congrArg (· + _) ?_)
    refine (later m c ⟨1, by decide⟩ (by decide) (by decide) g i l).trans (congrArg (· + _) ?_)
    exact (first m c ⟨0, by decide⟩ (by decide) (by decide) g i l).trans (zero_add _)
  funext j
  exact (congrArg _ (ValueIdx.eq_ix3 (n0 := 4) (n1 := 256) (n2 := 256) j)).trans ((h (j 0) (j 1) (j 2)).trans (congrArg _ (ValueIdx.eq_ix3 (n0 := 4) (n1 := 256) (n2 := 256) j).symm))

/-- and the second result is its cast. -/
theorem cast_total : k0_pay3 (F := Ideal) (val_main_v10 (F := Ideal) (A0 m c) (A1 m c)) = val_main_v12 (F := Ideal) (A0 m c) (A1 m c) := by
  funext j
  unfold k0_pay3 val_main_v12 val_main_v11 val_main_v10
  generalize val_main_v9 (F := Ideal) (A0 m c) (A1 m c) = X
  pointwise!

theorem arr_2 : (dats m 0 c).arrAt 2 cfg0.N = val_main_v10 (F := Ideal) (A0 m c) (A1 m c) := by
  refine (dats m 0 c).arrAt_eq_of_after_last 2 ⟨3, by decide⟩ (by decide +kernel) _ fun (j : S4x256x256.Idx) => ?_
  rw [after0_2]
  blk_simp
  exact congrFun (total m c) j

theorem arr_3 : (dats m 0 c).arrAt 3 cfg0.N = val_main_v12 (F := Ideal) (A0 m c) (A1 m c) := by
  refine (dats m 0 c).arrAt_eq_of_after_last 3 ⟨3, by decide⟩ (by decide +kernel) _ fun (j : S4x256x256.Idx) => ?_
  rw [after0_3]
  blk_simp
  exact congrFun ((last_cast m c ⟨3, by decide⟩ (by decide) (by decide)).trans ((congrArg k0_pay3 (total m c)).trans (cast_total m c))) j

end Cert.GpoolKernelIdeal.Gpool

end
-- ==== Proof.Gpool.Claim.lean ====
/- THE VALUE CLAIM of the pool weight gradient's call. -/
module

public import proofs.«01_k».proof.Defs
public import proofs.«01_k».proof.Proof.Gpool.Value
public import proofs.«01_k».proof.Proof.Gen.GpoolKernelIdeal
public import proofs.«01_k».proof.Proof.Gen.GpoolReferenceIdeal
public import Idealize.ShloMosaic.Lib.Quiescent

@[expose] public section

noncomputable section

namespace Cert.Proof

open Idealize.ShloMosaic Idealize.ShloMosaic.TcCoe Idealize.SL.Sem

open Cert.GpoolKernelIdeal Cert.GpoolKernelIdeal.Gpool Cert.GpoolReferenceIdeal.Read in
theorem algebraic_gpool : Cert.algebraic_GpoolKernelIdeal_GpoolReferenceIdeal
    (hGpoolKernelIdeal := Cert.GpoolKernelIdeal.Gen.facts) (hGpoolReferenceIdeal := Cert.GpoolReferenceIdeal.Gen.facts) := by
  intro m g m' g' _ hagree
  refine ⟨fun c => val_main_v10 (F := Ideal) (A0 m c) (A1 m c), fun c => val_main_v12 (F := Ideal) (A0 m c) (A1 m c),
    (θ_run _ _ _).mono (fun r h c => ⟨(h c).1.trans (arr_2 m c), (h c).2.1.trans (arr_3 m c), (h c).2.2⟩) (Cert.GpoolKernelIdeal.Value.run_blocks m g), ?_⟩
  refine (θ_run _ _ _).mono (fun r h c => ?_) (Cert.GpoolReferenceIdeal.Value.run m' g')
  obtain ⟨h0, h1, ha⟩ := h c
  obtain ⟨a0, a1⟩ := hagree c
  exact ⟨h0.trans ((Cert.GpoolReferenceIdeal.Read.val_main_v10_eq _ _).trans (by rw [a0, a1])),
    h1.trans ((Cert.GpoolReferenceIdeal.Read.val_main_v12_eq _ _).trans (by rw [a0, a1])), ha⟩

/-- The reference has host operations only: its frame is its run's, and it has no counter. -/
theorem quiescent_gpool_reference : Cert.quiescent_GpoolReferenceIdeal (hGpoolReferenceIdeal := Cert.GpoolReferenceIdeal.Gen.facts) := fun m g _ =>
  (θ_run _ _ _).mono (fun _ h => ⟨fun c => (h c).2.2, sem_eq_zero_of_no_sems rfl _⟩) (Cert.GpoolReferenceIdeal.Value.run m g)

end Cert.Proof

end
-- ==== Proof.Small.Pack.lean ====
/- THE PACKED ARRAY of the six small weights: a row for each of the first five, three rows for the convolution's taps; and
   the optimiser's step, which is elementwise, read back from its rows. -/
module

public import proofs.«01_k».proof.Proof.Gen.SmallKernelIdeal.Frame
public import proofs.«01_k».proof.Proof.Gen.SmallReferenceIdeal.Read
public import Idealize.ShloMosaic.Lib.Pointwise

@[expose] public section

set_option maxRecDepth 16384

noncomputable section

namespace Cert.SmallKernelIdeal.Small

open Idealize.ShloMosaic Idealize.ShloMosaic.TcCoe Idealize.ShloMosaic.Tactic
open Cert.SmallKernelIdeal.Gen
open Cert.SmallReferenceIdeal.Read

/-- What is packed: a weight each, or a gradient each, or a moment each. -/
structure Six where
  (x0 x1 x2 x3 : Vec Ideal S1x1024 .f32) (x4 : Vec Ideal S1024 .f32) (x5 : Vec Ideal S1x3x256 .f32)

/-- The taps' rows, filled up with zeros. -/
abbrev taps (X : Vec Ideal S1x3x256 .f32) : Vec Ideal S3x1024 .f32 :=
  concatenate S3x1024 1 [⟨S3x256, (shapeCast S3x256 X shapeCasts_S1x3x256_S3x256 : Vec Ideal S3x256 .f32)⟩,
    ⟨S3x768, (broadcastInDim S3x768 ![] bcast_S_S3x768 (constant S_ .f32 0x00000000#32 : FVec Ideal S_ .f32) : FVec Ideal S3x768 .f32)⟩] concatenates_S3x256_S3x768_S3x1024_d1

abbrev Six.pack (X : Six) : Vec Ideal S8x1024 .f32 :=
  concatenate S8x1024 0 [⟨S1x1024, X.x0⟩, ⟨S1x1024, X.x1⟩, ⟨S1x1024, X.x2⟩, ⟨S1x1024, X.x3⟩,
    ⟨S1x1024, (shapeCast S1x1024 X.x4 shapeCasts_S1024_S1x1024 : Vec Ideal S1x1024 .f32)⟩, ⟨S3x1024, taps X.x5⟩]
    concatenates_S1x1024_S1x1024_S1x1024_S1x1024_S1x1024_S3x1024_S8x1024_d0

variable (X W G M N : Six)

theorem pack_0 (j : Fin 1024) : X.pack (ValueIdx.ix2 0 j) = X.x0 (ValueIdx.ix2 0 j) := by
  unfold Six.pack
  pointwise!
theorem pack_1 (j : Fin 1024) : X.pack (ValueIdx.ix2 1 j) = X.x1 (ValueIdx.ix2 0 j) := by
  unfold Six.pack
  pointwise!
theorem pack_2 (j : Fin 1024) : X.pack (ValueIdx.ix2 2 j) = X.x2 (ValueIdx.ix2 0 j) := by
  unfold Six.pack
  pointwise!
theorem pack_3 (j : Fin 1024) : X.pack (ValueIdx.ix2 3 j) = X.x3 (ValueIdx.ix2 0 j) := by
  unfold Six.pack
  pointwise!
theorem pack_4 (j : Fin 1024) : X.pack (ValueIdx.ix2 4 j) = X.x4 (ValueIdx.ix1 j) := by
  unfold Six.pack
  pointwise!

/-- The taps' rows and columns in the packed array. -/
abbrev tapRow (i : Fin 3) : Fin 8 := ⟨5 + i.val, by omega⟩
abbrev tapCol (l : Fin 256) : Fin 1024 := ⟨l.val, by omega⟩
theorem pack_5 (i : Fin 3) (l : Fin 256) : X.pack (ValueIdx.ix2 (tapRow i) (tapCol l)) = X.x5 (ValueIdx.ix3 0 i l) := by
  unfold Six.pack taps
  pointwise!

/-- The optimiser's step of one element: the new moments, and the weight's change. -/
abbrev lit (b : BitVec 32) : Ideal .f32 := Scalar.ofBits .f32 b
def stepM (g m : Ideal .f32) : Ideal .f32 := FloatOps.addf (FloatOps.mulf (lit 0x3F666666#32) m) (FloatOps.mulf (lit 0x3DCCCCCD#32) g)
def stepV (g v : Ideal .f32) : Ideal .f32 :=
  FloatOps.addf (FloatOps.mulf (lit 0x3F7FBE77#32) v) (FloatOps.mulf (lit 0x3A83126F#32) (FloatOps.mulf g g))
def stepD (w g m v : Ideal .f32) : Ideal .f32 :=
  FloatOps.mulf (lit 0xBA83126F#32) (FloatOps.addf
    (FloatOps.divf (FloatOps.divf (stepM g m) (lit 0x3F26BD02#32))
      (FloatOps.addf (FloatOps.sqrt (FloatOps.divf (stepV g v) (lit 0x3C231ACC#32))) (lit 0x322BCC77#32)))
    (FloatOps.mulf (lit 0x3C23D70A#32) w))

theorem pay_m (g m : Vec Ideal S8x1024 .f32) : k0_pay2 (F := Ideal) g m = fun j => stepM (g j) (m j) := by
  funext j
  unfold k0_pay2 k0_pay1 stepM
  pointwise!
theorem pay_v (g v : Vec Ideal S8x1024 .f32) : k0_pay3 (F := Ideal) g v = fun j => stepV (g j) (v j) := by
  funext j
  unfold k0_pay3 k0_pay1 stepV
  pointwise!
theorem pay_d (w g m v : Vec Ideal S8x1024 .f32) : k0_pay4 (F := Ideal) w g m v = fun j => stepD (w j) (g j) (m j) (v j) := by
  funext j
  unfold k0_pay4 stepD
  rw [pay_m, pay_v]
  pointwise!

/-- What is cut out of a packed array for each of the six. -/
abbrev row_0 (Y : Vec Ideal S8x1024 .f32) : Vec Ideal S1x1024 .f32 :=
  shapeCast S1x1024 (shapeCast S1024 (extractStridedSlice S1x1024 ![0, 0] Y slices_S8x1024_S1x1024_0_0) shapeCasts_S1x1024_S1024) shapeCasts_S1024_S1x1024
abbrev row_1 (Y : Vec Ideal S8x1024 .f32) : Vec Ideal S1x1024 .f32 :=
  shapeCast S1x1024 (shapeCast S1024 (extractStridedSlice S1x1024 ![1, 0] Y slices_S8x1024_S1x1024_1_0) shapeCasts_S1x1024_S1024) shapeCasts_S1024_S1x1024
abbrev row_2 (Y : Vec Ideal S8x1024 .f32) : Vec Ideal S1x1024 .f32 :=
  shapeCast S1x1024 (shapeCast S1024 (extractStridedSlice S1x1024 ![2, 0] Y slices_S8x1024_S1x1024_2_0) shapeCasts_S1x1024_S1024) shapeCasts_S1024_S1x1024
abbrev row_3 (Y : Vec Ideal S8x1024 .f32) : Vec Ideal S1x1024 .f32 :=
  shapeCast S1x1024 (shapeCast S1024 (extractStridedSlice S1x1024 ![3, 0] Y slices_S8x1024_S1x1024_3_0) shapeCasts_S1x1024_S1024) shapeCasts_S1024_S1x1024
abbrev row_4 (Y : Vec Ideal S8x1024 .f32) : Vec Ideal S1024 .f32 :=
  shapeCast S1024 (extractStridedSlice S1x1024 ![4, 0] Y slices_S8x1024_S1x1024_4_0) shapeCasts_S1x1024_S1024
abbrev rows_5 (Y : Vec Ideal S8x1024 .f32) : Vec Ideal S1x3x256 .f32 :=
  shapeCast S1x3x256 (extractStridedSlice S3x256 ![5, 0] Y slices_S8x1024_S3x256_5_0) shapeCasts_S3x256_S1x3x256

theorem row_0_at (Y : Vec Ideal S8x1024 .f32) (j : S1x1024.Idx) : row_0 Y j = Y (ValueIdx.ix2 0 (j 1)) := by pointwise!
theorem row_1_at (Y : Vec Ideal S8x1024 .f32) (j : S1x1024.Idx) : row_1 Y j = Y (ValueIdx.ix2 1 (j 1)) := by pointwise!
theorem row_2_at (Y : Vec Ideal S8x1024 .f32) (j : S1x1024.Idx) : row_2 Y j = Y (ValueIdx.ix2 2 (j 1)) := by pointwise!
theorem row_3_at (Y : Vec Ideal S8x1024 .f32) (j : S1x1024.Idx) : row_3 Y j = Y (ValueIdx.ix2 3 (j 1)) := by pointwise!
theorem row_4_at (Y : Vec Ideal S8x1024 .f32) (j : S1024.Idx) : row_4 Y j = Y (ValueIdx.ix2 4 (j 0)) := by pointwise!
theorem rows_5_at (Y : Vec Ideal S8x1024 .f32) (j : S1x3x256.Idx) : rows_5 Y j = Y (ValueIdx.ix2 (tapRow (j 1)) (tapCol (j 2))) := by pointwise!

theorem one_row (j : S1x1024.Idx) : ValueIdx.ix2 0 (j 1) = j := by
  refine (congrArg (fun k => ValueIdx.ix2 k (j 1)) (Subsingleton.elim (α := Fin 1) 0 (j 0))).trans (ValueIdx.eq_ix2 j).symm
theorem one_slab (j : S1x3x256.Idx) : ValueIdx.ix3 0 (j 1) (j 2) = j := by
  refine (congrArg (fun k => ValueIdx.ix3 k (j 1) (j 2)) (Subsingleton.elim (α := Fin 1) 0 (j 0))).trans (ValueIdx.eq_ix3 j).symm

theorem at_0 (j : S1x1024.Idx) : X.pack (ValueIdx.ix2 0 (j 1)) = X.x0 j := (pack_0 X (j 1)).trans (congrArg X.x0 (one_row j))
theorem at_1 (j : S1x1024.Idx) : X.pack (ValueIdx.ix2 1 (j 1)) = X.x1 j := (pack_1 X (j 1)).trans (congrArg X.x1 (one_row j))
theorem at_2 (j : S1x1024.Idx) : X.pack (ValueIdx.ix2 2 (j 1)) = X.x2 j := (pack_2 X (j 1)).trans (congrArg X.x2 (one_row j))
theorem at_3 (j : S1x1024.Idx) : X.pack (ValueIdx.ix2 3 (j 1)) = X.x3 j := (pack_3 X (j 1)).trans (congrArg X.x3 (one_row j))
theorem at_4 (j : S1024.Idx) : X.pack (ValueIdx.ix2 4 (j 0)) = X.x4 j := (pack_4 X (j 0)).trans (congrArg X.x4 (ValueIdx.eq_ix1 j).symm)
theorem at_5 (j : S1x3x256.Idx) : X.pack (ValueIdx.ix2 (tapRow (j 1)) (tapCol (j 2))) = X.x5 j := (pack_5 X (j 1) (j 2)).trans (congrArg X.x5 (one_slab j))

/-- What an elementwise function of four packed arrays leaves for each of the six. -/
abbrev Four := Ideal .f32 → Ideal .f32 → Ideal .f32 → Ideal .f32 → Ideal .f32
abbrev onPacks (f : Four) : Vec Ideal S8x1024 .f32 := fun j => f (W.pack j) (G.pack j) (M.pack j) (N.pack j)
theorem of_four (f : Four) {w g m v w' g' m' v' : Ideal .f32} (hw : w = w') (hg : g = g') (hm : m = m') (hv : v = v') : f w g m v = f w' g' m' v' := by
  rw [hw, hg, hm, hv]
theorem on_0 (f : Four) : row_0 (onPacks W G M N f) = fun j => f (W.x0 j) (G.x0 j) (M.x0 j) (N.x0 j) :=
  funext fun j => (row_0_at _ j).trans (of_four f (at_0 W j) (at_0 G j) (at_0 M j) (at_0 N j))
theorem on_1 (f : Four) : row_1 (onPacks W G M N f) = fun j => f (W.x1 j) (G.x1 j) (M.x1 j) (N.x1 j) :=
  funext fun j => (row_1_at _ j).trans (of_four f (at_1 W j) (at_1 G j) (at_1 M j) (at_1 N j))
theorem on_2 (f : Four) : row_2 (onPacks W G M N f) = fun j => f (W.x2 j) (G.x2 j) (M.x2 j) (N.x2 j) :=
  funext fun j => (row_2_at _ j).trans (of_four f (at_2 W j) (at_2 G j) (at_2 M j) (at_2 N j))
theorem on_3 (f : Four) : row_3 (onPacks W G M N f) = fun j => f (W.x3 j) (G.x3 j) (M.x3 j) (N.x3 j) :=
  funext fun j => (row_3_at _ j).trans (of_four f (at_3 W j) (at_3 G j) (at_3 M j) (at_3 N j))
theorem on_4 (f : Four) : row_4 (onPacks W G M N f) = fun j => f (W.x4 j) (G.x4 j) (M.x4 j) (N.x4 j) :=
  funext fun j => (row_4_at _ j).trans (of_four f (at_4 W j) (at_4 G j) (at_4 M j) (at_4 N j))
theorem on_5 (f : Four) : rows_5 (onPacks W G M N f) = fun j => f (W.x5 j) (G.x5 j) (M.x5 j) (N.x5 j) :=
  funext fun j => (rows_5_at _ j).trans (of_four f (at_5 W j) (at_5 G j) (at_5 M j) (at_5 N j))

end Cert.SmallKernelIdeal.Small
-- ==== Proof.Small.Value.lean ====
/- WHAT THE OPTIMISER'S CALL ON THE SIX SMALL WEIGHTS LEAVES, read through the host's slices after it. -/
module

public import proofs.«01_k».proof.Proof.Small.Pack
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

namespace Cert.SmallKernelIdeal.Small

open Idealize.ShloMosaic Idealize.ShloMosaic.TcCoe Idealize.ShloMosaic.Tactic
open Idealize.SL Idealize.SL.Sem
open Idealize.ShloMosaic.Pipeline (Dat)
open Cert.SmallKernelIdeal.Gen

variable (m : (ℓ : Loc nD τ sig) → Buf (Elt Ideal) ℓ) (ρ : Dev nD → PrngReg) (c : Dev nD) (t : Fin cfg0.N)

/-- The weights, the gradients and the two moments, as launched. -/
abbrev Ws : Six := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩
abbrev Gs : Six := ⟨m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11)⟩
abbrev Ms : Six := ⟨m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17)⟩
abbrev Vs : Six := ⟨m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23)⟩

theorem V_Ws : V m c main_v4 = (Ws m c).pack := by
  show StableHlo.after hostOps0 _ _ = _
  after_reads_simp
  rfl
theorem V_Gs : V m c main_v9 = (Gs m c).pack := by
  show StableHlo.after hostOps0 _ _ = _
  after_reads_simp
  rfl
theorem V_Ms : V m c main_v14 = (Ms m c).pack := by
  show StableHlo.after hostOps0 _ _ = _
  after_reads_simp
  rfl
theorem V_Vs : V m c main_v19 = (Vs m c).pack := by
  show StableHlo.after hostOps0 _ _ = _
  after_reads_simp
  rfl
theorem at_zero {a b n : Nat} (h : a = 0) : a * b + n = n := by subst h; omega
theorem blk_0 : iblk m c 0 t = (Ws m c).pack := by
  refine Eq.trans ?_ (V_Ws m c)
  obtain rfl : t = ⟨0, by decide⟩ := Subsingleton.elim (α := Fin 1) _ _
  exact funext fun j => congrArg (V m c main_v4) (by blk_ext <;> exact at_zero rfl)
theorem blk_1 : iblk m c 1 t = (Gs m c).pack := by
  refine Eq.trans ?_ (V_Gs m c)
  obtain rfl : t = ⟨0, by decide⟩ := Subsingleton.elim (α := Fin 1) _ _
  exact funext fun j => congrArg (V m c main_v9) (by blk_ext <;> exact at_zero rfl)
theorem blk_2 : iblk m c 2 t = (Ms m c).pack := by
  refine Eq.trans ?_ (V_Ms m c)
  obtain rfl : t = ⟨0, by decide⟩ := Subsingleton.elim (α := Fin 1) _ _
  exact funext fun j => congrArg (V m c main_v14) (by blk_ext <;> exact at_zero rfl)
theorem blk_3 : iblk m c 3 t = (Vs m c).pack := by
  refine Eq.trans ?_ (V_Vs m c)
  obtain rfl : t = ⟨0, by decide⟩ := Subsingleton.elim (α := Fin 1) _ _
  exact funext fun j => congrArg (V m c main_v19) (by blk_ext <;> exact at_zero rfl)

/-- What the three results' arrays hold at the end. -/
abbrev deltas : Vec Ideal S8x1024 .f32 := onPacks (Ws m c) (Gs m c) (Ms m c) (Vs m c) stepD
abbrev newMs : Vec Ideal S8x1024 .f32 := onPacks (Ws m c) (Gs m c) (Ms m c) (Vs m c) fun _ g m _ => stepM g m
abbrev newVs : Vec Ideal S8x1024 .f32 := onPacks (Ws m c) (Gs m c) (Ms m c) (Vs m c) fun _ g _ v => stepV g v

/-- The one rectangle the body reads and writes is the whole block. -/
theorem read_whole (Y : Vec Ideal S8x1024 .f32) : View.ld Y r0_0 = Y := by
  funext j
  unfold View.ld
  refine congrArg Y (funext fun a => Fin.ext ?_)
  fin_cases a
  · show 0 + 1 * (j 0).val = (j 0).val
    omega
  · show 0 + 1 * (j 1).val = (j 1).val
    omega
theorem write_whole (Y : Vec Ideal S8x1024 .f32) : View.canon (s := S8x1024) [⟨r0_0, Y⟩] = Y := by
  funext j
  canon_tiles x h
  all_goals
    exact congrArg Y ((ValueIdx.eq_ix2 x).trans ((congrArg₂ ValueIdx.ix2 (Fin.ext h0.symm) (Fin.ext h1.symm)).trans (ValueIdx.eq_ix2 j).symm))

theorem arr_4 : (dats m 0 c).arrAt 4 cfg0.N = deltas m c := by
  refine (dats m 0 c).arrAt_eq_of_after_last 4 ⟨0, by decide⟩ (by decide +kernel) _ fun (j : S8x1024.Idx) => ?_
  rw [after0_4]
  blk_simp
  rw [blk_0, blk_1, blk_2, blk_3]
  unfold out0_4
  rw [read_whole, read_whole, read_whole, read_whole, write_whole, pay_d]
  rfl
theorem arr_5 : (dats m 0 c).arrAt 5 cfg0.N = newMs m c := by
  refine (dats m 0 c).arrAt_eq_of_after_last 5 ⟨0, by decide⟩ (by decide +kernel) _ fun (j : S8x1024.Idx) => ?_
  rw [after0_5]
  blk_simp
  rw [blk_0, blk_1, blk_2, blk_3]
  unfold out0_5
  rw [read_whole, read_whole, write_whole, pay_m]
  rfl
theorem arr_6 : (dats m 0 c).arrAt 6 cfg0.N = newVs m c := by
  refine (dats m 0 c).arrAt_eq_of_after_last 6 ⟨0, by decide⟩ (by decide +kernel) _ fun (j : S8x1024.Idx) => ?_
  rw [after0_6]
  blk_simp
  rw [blk_0, blk_1, blk_2, blk_3]
  unfold out0_6
  rw [read_whole, read_whole, write_whole, pay_v]
  rfl

/-- What a buffer holds after the host's slices. -/
abbrev final (b : Ref sig .tc) : Buf (Elt Ideal) ((c : Thread nD τ).loc b) := Pipeline.afterTail₀ cfgs (dats m) 0 (V0 m) [hostOps1] c b

/-- The contents the region leaves. -/
abbrev left : Valuation τ sig (Elt Ideal) := Pipeline.withArrays (cfgs 0).spec c (V0 m c) fun w => (dats m 0 c).arrAt w (cfgs 0).N
theorem left_4 : left m c (Proc.devRef .tc main_v20_0) = deltas m c :=
  (Pipeline.withArrays_arr (cfgs 0).spec launch0.win.arr_inj c _ _ 4).trans (arr_4 m c)
theorem left_5 : left m c (Proc.devRef .tc main_v20_1) = newMs m c :=
  (Pipeline.withArrays_arr (cfgs 0).spec launch0.win.arr_inj c _ _ 5).trans (arr_5 m c)
theorem left_6 : left m c (Proc.devRef .tc main_v20_2) = newVs m c :=
  (Pipeline.withArrays_arr (cfgs 0).spec launch0.win.arr_inj c _ _ 6).trans (arr_6 m c)

theorem final_deltas : final m c main_v23 = row_0 (deltas m c)
    ∧ final m c main_v26 = row_1 (deltas m c)
    ∧ final m c main_v29 = row_2 (deltas m c)
    ∧ final m c main_v32 = row_3 (deltas m c)
    ∧ final m c main_v34 = row_4 (deltas m c)
    ∧ final m c main_v36 = rows_5 (deltas m c) := by
  rw [← left_4 m c]
  refine ⟨?_, ?_, ?_, ?_, ?_, ?_⟩ <;> (show StableHlo.after hostOps1 _ _ = _; after_reads_simp; rfl)
theorem final_newMs : final m c main_v39 = row_0 (newMs m c)
    ∧ final m c main_v42 = row_1 (newMs m c)
    ∧ final m c main_v45 = row_2 (newMs m c)
    ∧ final m c main_v48 = row_3 (newMs m c)
    ∧ final m c main_v50 = row_4 (newMs m c)
    ∧ final m c main_v52 = rows_5 (newMs m c) := by
  rw [← left_5 m c]
  refine ⟨?_, ?_, ?_, ?_, ?_, ?_⟩ <;> (show StableHlo.after hostOps1 _ _ = _; after_reads_simp; rfl)
theorem final_newVs : final m c main_v55 = row_0 (newVs m c)
    ∧ final m c main_v58 = row_1 (newVs m c)
    ∧ final m c main_v61 = row_2 (newVs m c)
    ∧ final m c main_v64 = row_3 (newVs m c)
    ∧ final m c main_v66 = row_4 (newVs m c)
    ∧ final m c main_v68 = rows_5 (newVs m c) := by
  rw [← left_6 m c]
  refine ⟨?_, ?_, ?_, ?_, ?_, ?_⟩ <;> (show StableHlo.after hostOps1 _ _ = _; after_reads_simp; rfl)

/-- Every weakly fair execution ends with each result at its `final` contents and the arguments as launched. -/
theorem run : θ_run defs (onTc (τ := τ) (main (F := Ideal))) ⟨m, fun _ => 0, ρ⟩ (fun r => ∀ c : Dev nD,
      r.2.mem ((c.tc : Thread nD τ).loc main_v23) = final m c main_v23
      ∧ r.2.mem ((c.tc : Thread nD τ).loc main_v26) = final m c main_v26
      ∧ r.2.mem ((c.tc : Thread nD τ).loc main_v29) = final m c main_v29
      ∧ r.2.mem ((c.tc : Thread nD τ).loc main_v32) = final m c main_v32
      ∧ r.2.mem ((c.tc : Thread nD τ).loc main_v34) = final m c main_v34
      ∧ r.2.mem ((c.tc : Thread nD τ).loc main_v36) = final m c main_v36
      ∧ r.2.mem ((c.tc : Thread nD τ).loc main_v39) = final m c main_v39
      ∧ r.2.mem ((c.tc : Thread nD τ).loc main_v42) = final m c main_v42
      ∧ r.2.mem ((c.tc : Thread nD τ).loc main_v45) = final m c main_v45
      ∧ r.2.mem ((c.tc : Thread nD τ).loc main_v48) = final m c main_v48
      ∧ r.2.mem ((c.tc : Thread nD τ).loc main_v50) = final m c main_v50
      ∧ r.2.mem ((c.tc : Thread nD τ).loc main_v52) = final m c main_v52
      ∧ r.2.mem ((c.tc : Thread nD τ).loc main_v55) = final m c main_v55
      ∧ r.2.mem ((c.tc : Thread nD τ).loc main_v58) = final m c main_v58
      ∧ r.2.mem ((c.tc : Thread nD τ).loc main_v61) = final m c main_v61
      ∧ r.2.mem ((c.tc : Thread nD τ).loc main_v64) = final m c main_v64
      ∧ r.2.mem ((c.tc : Thread nD τ).loc main_v66) = final m c main_v66
      ∧ r.2.mem ((c.tc : Thread nD τ).loc main_v68) = final m c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨(h.2 c).2 _ (Pipeline.mem_restRefs_of main_v23 rfl (by decide)),
      (h.2 c).2 _ (Pipeline.mem_restRefs_of main_v26 rfl (by decide)),
      (h.2 c).2 _ (Pipeline.mem_restRefs_of main_v29 rfl (by decide)),
      (h.2 c).2 _ (Pipeline.mem_restRefs_of main_v32 rfl (by decide)),
      (h.2 c).2 _ (Pipeline.mem_restRefs_of main_v34 rfl (by decide)),
      (h.2 c).2 _ (Pipeline.mem_restRefs_of main_v36 rfl (by decide)),
      (h.2 c).2 _ (Pipeline.mem_restRefs_of main_v39 rfl (by decide)),
      (h.2 c).2 _ (Pipeline.mem_restRefs_of main_v42 rfl (by decide)),
      (h.2 c).2 _ (Pipeline.mem_restRefs_of main_v45 rfl (by decide)),
      (h.2 c).2 _ (Pipeline.mem_restRefs_of main_v48 rfl (by decide)),
      (h.2 c).2 _ (Pipeline.mem_restRefs_of main_v50 rfl (by decide)),
      (h.2 c).2 _ (Pipeline.mem_restRefs_of main_v52 rfl (by decide)),
      (h.2 c).2 _ (Pipeline.mem_restRefs_of main_v55 rfl (by decide)),
      (h.2 c).2 _ (Pipeline.mem_restRefs_of main_v58 rfl (by decide)),
      (h.2 c).2 _ (Pipeline.mem_restRefs_of main_v61 rfl (by decide)),
      (h.2 c).2 _ (Pipeline.mem_restRefs_of main_v64 rfl (by decide)),
      (h.2 c).2 _ (Pipeline.mem_restRefs_of main_v66 rfl (by decide)),
      (h.2 c).2 _ (Pipeline.mem_restRefs_of main_v68 rfl (by decide)), h.1 c⟩)
    (θ_run_and (unchanged m ρ) (run_main m ρ))

end Cert.SmallKernelIdeal.Small
-- ==== Proof.Small.Claim.lean ====
/- THE VALUE CLAIM of the optimiser's call on the six small weights. -/
module

public import proofs.«01_k».proof.Defs
public import proofs.«01_k».proof.Proof.Small.Value
public import proofs.«01_k».proof.Proof.Gen.SmallKernelIdeal
public import proofs.«01_k».proof.Proof.Gen.SmallReferenceIdeal
public import Idealize.ShloMosaic.Lib.Quiescent

@[expose] public section

set_option maxRecDepth 16384

noncomputable section

open Idealize.ShloMosaic Idealize.ShloMosaic.TcCoe Idealize.SL.Sem

namespace Cert.SmallKernelIdeal.Small

open Cert.SmallReferenceIdeal.Read

section
variable (m : (ℓ : Loc nD τ sig) → Buf (Elt Ideal) ℓ) (c : Dev nD)

/-- A buffer as launched. -/
abbrev A (b : Ref sig .tc) : Buf (Elt Ideal) ((c : Thread nD τ).loc b) := m ((c : Thread nD τ).loc b)

theorem values_deltas : final m c main_v23 = val_main_v23 (F := Ideal) (A m c main_arg0) (A m c main_arg6) (A m c main_arg12) (A m c main_arg18)
    ∧ final m c main_v26 = val_main_v47 (F := Ideal) (A m c main_arg1) (A m c main_arg7) (A m c main_arg13) (A m c main_arg19)
    ∧ final m c main_v29 = val_main_v71 (F := Ideal) (A m c main_arg2) (A m c main_arg8) (A m c main_arg14) (A m c main_arg20)
    ∧ final m c main_v32 = val_main_v95 (F := Ideal) (A m c main_arg3) (A m c main_arg9) (A m c main_arg15) (A m c main_arg21)
    ∧ final m c main_v34 = val_main_v119 (F := Ideal) (A m c main_arg4) (A m c main_arg10) (A m c main_arg16) (A m c main_arg22)
    ∧ final m c main_v36 = val_main_v143 (F := Ideal) (A m c main_arg5) (A m c main_arg11) (A m c main_arg17) (A m c main_arg23) := by
  obtain ⟨h0, h1, h2, h3, h4, h5⟩ := final_deltas m c
  exact ⟨h0.trans (on_0 _ _ _ _ stepD),
    h1.trans (on_1 _ _ _ _ stepD),
    h2.trans (on_2 _ _ _ _ stepD),
    h3.trans (on_3 _ _ _ _ stepD),
    h4.trans (on_4 _ _ _ _ stepD),
    h5.trans (on_5 _ _ _ _ stepD)⟩
theorem values_newMs : final m c main_v39 = val_main_v4 (F := Ideal) (A m c main_arg6) (A m c main_arg12)
    ∧ final m c main_v42 = val_main_v28 (F := Ideal) (A m c main_arg7) (A m c main_arg13)
    ∧ final m c main_v45 = val_main_v52 (F := Ideal) (A m c main_arg8) (A m c main_arg14)
    ∧ final m c main_v48 = val_main_v76 (F := Ideal) (A m c main_arg9) (A m c main_arg15)
    ∧ final m c main_v50 = val_main_v100 (F := Ideal) (A m c main_arg10) (A m c main_arg16)
    ∧ final m c main_v52 = val_main_v124 (F := Ideal) (A m c main_arg11) (A m c main_arg17) := by
  obtain ⟨h0, h1, h2, h3, h4, h5⟩ := final_newMs m c
  exact ⟨h0.trans (on_0 _ _ _ _ (fun _ g m _ => stepM g m)),
    h1.trans (on_1 _ _ _ _ (fun _ g m _ => stepM g m)),
    h2.trans (on_2 _ _ _ _ (fun _ g m _ => stepM g m)),
    h3.trans (on_3 _ _ _ _ (fun _ g m _ => stepM g m)),
    h4.trans (on_4 _ _ _ _ (fun _ g m _ => stepM g m)),
    h5.trans (on_5 _ _ _ _ (fun _ g m _ => stepM g m))⟩
theorem values_newVs : final m c main_v55 = val_main_v10 (F := Ideal) (A m c main_arg6) (A m c main_arg18)
    ∧ final m c main_v58 = val_main_v34 (F := Ideal) (A m c main_arg7) (A m c main_arg19)
    ∧ final m c main_v61 = val_main_v58 (F := Ideal) (A m c main_arg8) (A m c main_arg20)
    ∧ final m c main_v64 = val_main_v82 (F := Ideal) (A m c main_arg9) (A m c main_arg21)
    ∧ final m c main_v66 = val_main_v106 (F := Ideal) (A m c main_arg10) (A m c main_arg22)
    ∧ final m c main_v68 = val_main_v130 (F := Ideal) (A m c main_arg11) (A m c main_arg23) := by
  obtain ⟨h0, h1, h2, h3, h4, h5⟩ := final_newVs m c
  exact ⟨h0.trans (on_0 _ _ _ _ (fun _ g _ v => stepV g v)),
    h1.trans (on_1 _ _ _ _ (fun _ g _ v => stepV g v)),
    h2.trans (on_2 _ _ _ _ (fun _ g _ v => stepV g v)),
    h3.trans (on_3 _ _ _ _ (fun _ g _ v => stepV g v)),
    h4.trans (on_4 _ _ _ _ (fun _ g _ v => stepV g v)),
    h5.trans (on_5 _ _ _ _ (fun _ g _ v => stepV g v))⟩

end

end Cert.SmallKernelIdeal.Small

namespace Cert.Proof

set_option maxHeartbeats 4000000 in
open Cert.SmallKernelIdeal Cert.SmallKernelIdeal.Small Cert.SmallReferenceIdeal.Read in
theorem algebraic_small : Cert.algebraic_SmallKernelIdeal_SmallReferenceIdeal
    (hSmallKernelIdeal := Cert.SmallKernelIdeal.Gen.facts) (hSmallReferenceIdeal := Cert.SmallReferenceIdeal.Gen.facts) := by
  intro m g m' g' _ hagree
  refine ⟨fun c => val_main_v23 (F := Ideal) (A m c main_arg0) (A m c main_arg6) (A m c main_arg12) (A m c main_arg18),
    fun c => val_main_v47 (F := Ideal) (A m c main_arg1) (A m c main_arg7) (A m c main_arg13) (A m c main_arg19),
    fun c => val_main_v71 (F := Ideal) (A m c main_arg2) (A m c main_arg8) (A m c main_arg14) (A m c main_arg20),
    fun c => val_main_v95 (F := Ideal) (A m c main_arg3) (A m c main_arg9) (A m c main_arg15) (A m c main_arg21),
    fun c => val_main_v119 (F := Ideal) (A m c main_arg4) (A m c main_arg10) (A m c main_arg16) (A m c main_arg22),
    fun c => val_main_v143 (F := Ideal) (A m c main_arg5) (A m c main_arg11) (A m c main_arg17) (A m c main_arg23),
    fun c => val_main_v4 (F := Ideal) (A m c main_arg6) (A m c main_arg12),
    fun c => val_main_v28 (F := Ideal) (A m c main_arg7) (A m c main_arg13),
    fun c => val_main_v52 (F := Ideal) (A m c main_arg8) (A m c main_arg14),
    fun c => val_main_v76 (F := Ideal) (A m c main_arg9) (A m c main_arg15),
    fun c => val_main_v100 (F := Ideal) (A m c main_arg10) (A m c main_arg16),
    fun c => val_main_v124 (F := Ideal) (A m c main_arg11) (A m c main_arg17),
    fun c => val_main_v10 (F := Ideal) (A m c main_arg6) (A m c main_arg18),
    fun c => val_main_v34 (F := Ideal) (A m c main_arg7) (A m c main_arg19),
    fun c => val_main_v58 (F := Ideal) (A m c main_arg8) (A m c main_arg20),
    fun c => val_main_v82 (F := Ideal) (A m c main_arg9) (A m c main_arg21),
    fun c => val_main_v106 (F := Ideal) (A m c main_arg10) (A m c main_arg22),
    fun c => val_main_v130 (F := Ideal) (A m c main_arg11) (A m c main_arg23),
    (θ_run _ _ _).mono (fun r h c => ?_) (Small.run m g), ?_⟩
  · obtain ⟨h0, h1, h2, h3, h4, h5, h6, h7, h8, h9, h10, h11, h12, h13, h14, h15, h16, h17, ha⟩ := h c
    obtain ⟨d0, d1, d2, d3, d4, d5⟩ := values_deltas m c
    obtain ⟨m0, m1, m2, m3, m4, m5⟩ := values_newMs m c
    obtain ⟨v0, v1, v2, v3, v4, v5⟩ := values_newVs m c
    exact ⟨h0.trans d0, h1.trans d1, h2.trans d2, h3.trans d3, h4.trans d4, h5.trans d5, h6.trans m0, h7.trans m1, h8.trans m2, h9.trans m3, h10.trans m4, h11.trans m5, h12.trans v0, h13.trans v1, h14.trans v2, h15.trans v3, h16.trans v4, h17.trans v5, ha⟩
  refine (θ_run _ _ _).mono (fun r h c => ?_) (Cert.SmallReferenceIdeal.Value.run m' g')
  obtain ⟨h0, h1, h2, h3, h4, h5, h6, h7, h8, h9, h10, h11, h12, h13, h14, h15, h16, h17, ha⟩ := h c
  obtain ⟨a0, a1, a2, a3, a4, a5, a6, a7, a8, a9, a10, a11, a12, a13, a14, a15, a16, a17, a18, a19, a20, a21, a22, a23⟩ := hagree c
  exact ⟨h0.trans ((val_main_v23_eq _).trans (by simp only [StableHlo.launchContents, a0, a6, a12, a18])),
    h1.trans ((val_main_v47_eq _).trans (by simp only [StableHlo.launchContents, a1, a7, a13, a19])),
    h2.trans ((val_main_v71_eq _).trans (by simp only [StableHlo.launchContents, a2, a8, a14, a20])),
    h3.trans ((val_main_v95_eq _).trans (by simp only [StableHlo.launchContents, a3, a9, a15, a21])),
    h4.trans ((val_main_v119_eq _).trans (by simp only [StableHlo.launchContents, a4, a10, a16, a22])),
    h5.trans ((val_main_v143_eq _).trans (by simp only [StableHlo.launchContents, a5, a11, a17, a23])),
    h6.trans ((val_main_v4_eq _).trans (by simp only [StableHlo.launchContents, a6, a12])),
    h7.trans ((val_main_v28_eq _).trans (by simp only [StableHlo.launchContents, a7, a13])),
    h8.trans ((val_main_v52_eq _).trans (by simp only [StableHlo.launchContents, a8, a14])),
    h9.trans ((val_main_v76_eq _).trans (by simp only [StableHlo.launchContents, a9, a15])),
    h10.trans ((val_main_v100_eq _).trans (by simp only [StableHlo.launchContents, a10, a16])),
    h11.trans ((val_main_v124_eq _).trans (by simp only [StableHlo.launchContents, a11, a17])),
    h12.trans ((val_main_v10_eq _).trans (by simp only [StableHlo.launchContents, a6, a18])),
    h13.trans ((val_main_v34_eq _).trans (by simp only [StableHlo.launchContents, a7, a19])),
    h14.trans ((val_main_v58_eq _).trans (by simp only [StableHlo.launchContents, a8, a20])),
    h15.trans ((val_main_v82_eq _).trans (by simp only [StableHlo.launchContents, a9, a21])),
    h16.trans ((val_main_v106_eq _).trans (by simp only [StableHlo.launchContents, a10, a22])),
    h17.trans ((val_main_v130_eq _).trans (by simp only [StableHlo.launchContents, a11, a23])), ha⟩

/-- The reference has host operations only: its frame is its run's, and it has no counter. -/
theorem quiescent_small_reference : Cert.quiescent_SmallReferenceIdeal (hSmallReferenceIdeal := Cert.SmallReferenceIdeal.Gen.facts) := fun m g _ =>
  (θ_run _ _ _).mono (fun _ h => ⟨fun c => (h c).2.2.2.2.2.2.2.2.2.2.2.2.2.2.2.2.2.2, sem_eq_zero_of_no_sems rfl _⟩) (Cert.SmallReferenceIdeal.Value.run m g)

end Cert.Proof

end
-- ==== Proof.Chips.Value.lean ====
/- WHAT THE CALL THAT ADDS THE CHIPS' BLOCKS LEAVES: the chip's own block and the three it got, added one after the
   other. -/
module

public import proofs.«01_k».proof.Proof.Gen.ChipsKernelIdeal.Value
public import proofs.«01_k».proof.Proof.Gen.ChipsReferenceIdeal.Read
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.ChipsKernelIdeal.Chips

open Idealize.ShloMosaic Idealize.ShloMosaic.TcCoe Idealize.ShloMosaic.Tactic
open Idealize.SL Idealize.SL.Sem
open Idealize.ShloMosaic.Pipeline (Dat)
open Cert.ChipsKernelIdeal.Gen
open Cert.ChipsReferenceIdeal.Read

/-- The block that chip `k` sent. -/
abbrev sent {α : Type} (k : Fin 3) (X : S3x128x1024.Idx → α) : S1x128x1024.Idx → α :=
  fun j => X (ValueIdx.ix3 k (j 1) (j 2))

/-- The blocks added in the chips' order are the own block and the sum over the chips. -/
theorem added (own : Vec Ideal S128x1024 .f32) (got : Vec Ideal S3x128x1024 .f32) :
    k0_pay1 (F := Ideal) own (sent 0 got) (sent 1 got) (sent 2 got) = val_main_v1 (F := Ideal) own got := by
  have e : ∀ j, k0_pay1 (F := Ideal) own (sent 0 got) (sent 1 got) (sent 2 got) j
      = own j + got (ValueIdx.ix3 0 (j 0) (j 1)) + got (ValueIdx.ix3 1 (j 0) (j 1)) + got (ValueIdx.ix3 2 (j 0) (j 1)) := by
    intro j
    unfold k0_pay1 sent
    pointwise!
  have r : ∀ j, val_main_v1 (F := Ideal) own got j = own j + ∑ k : Fin 3, got (ValueIdx.ix3 k (j 0) (j 1)) := by
    intro j
    unfold val_main_v1 val_main_v0 val_main_cst
    pointwise!
  funext j
  rw [e, r, Fin.sum_univ_three, add_assoc, add_assoc, add_assoc]

variable (m : (ℓ : Loc nD τ sig) → Buf (Elt Ideal) ℓ) (ρ : Dev nD → PrngReg) (c : Dev nD) (t : Fin cfg0.N)

abbrev A0 : Vec Ideal S128x1024 .f32 := m ((c : Thread nD τ).loc main_arg0)
abbrev A1 : Vec Ideal S3x128x1024 .f32 := m ((c : Thread nD τ).loc main_arg1)

theorem V_got : V m c main_v0 = A1 m c := by
  after_reads_simp
  rfl

theorem idx_in : ∀ t : Fin cfg0.N, (cfg0.win 0).index t = ![0, 0] ∧ (cfg0.win 1).index t = ![0, 0, 0]
    ∧ (cfg0.win 2).index t = ![1, 0, 0] ∧ (cfg0.win 3).index t = ![2, 0, 0] := by decide +kernel

theorem blk_0 : iblk m c 0 t = A0 m c := by
  refine Eq.trans ?_ (V_main_arg0 m c)
  generalize hX : V m c main_arg0 = X
  show ((cfg0.win 0).blk t).view.read (Elt Ideal) (V m c main_arg0) = _
  rw [hX]
  funext j
  have e := (idx_in t).1
  show X _ = X _
  blk_ext [e]
theorem blk_1 : iblk m c 1 t = sent 0 (A1 m c) := by
  refine Eq.trans (b := sent 0 (V m c main_v0)) ?_ (congrArg _ (V_got m c))
  generalize hX : V m c main_v0 = X
  show ((cfg0.win 1).blk t).view.read (Elt Ideal) (V m c main_v0) = _
  rw [hX]
  funext j
  have e := (idx_in t).2.1
  show X _ = X _
  blk_ext [e]
theorem blk_2 : iblk m c 2 t = sent 1 (A1 m c) := by
  refine Eq.trans (b := sent 1 (V m c main_v0)) ?_ (congrArg _ (V_got m c))
  generalize hX : V m c main_v0 = X
  show ((cfg0.win 2).blk t).view.read (Elt Ideal) (V m c main_v0) = _
  rw [hX]
  funext j
  have e := (idx_in t).2.2.1
  show X _ = X _
  blk_ext [e]
theorem blk_3 : iblk m c 3 t = sent 2 (A1 m c) := by
  refine Eq.trans (b := sent 2 (V m c main_v0)) ?_ (congrArg _ (V_got m c))
  generalize hX : V m c main_v0 = X
  show ((cfg0.win 3).blk t).view.read (Elt Ideal) (V m c main_v0) = _
  rw [hX]
  funext j
  have e := (idx_in t).2.2.2
  show X _ = X _
  blk_ext [e]
  rfl

theorem ld_2 (Y : Vec Ideal S128x1024 .f32) : View.ld Y r0_0 = Y := by
  funext j
  refine congrArg Y (funext fun a => Fin.ext ?_)
  fin_cases a
  · show 0 + 1 * (j 0).val = (j 0).val
    omega
  · show 0 + 1 * (j 1).val = (j 1).val
    omega
theorem ld_3 (Y : Vec Ideal S1x128x1024 .bf16) : View.ld Y r0_1 = Y := by
  funext j
  refine congrArg Y (funext fun a => Fin.ext ?_)
  fin_cases a
  · show 0 + 1 * (j 0).val = (j 0).val
    omega
  · show 0 + 1 * (j 1).val = (j 1).val
    omega
  · show 0 + 1 * (j 2).val = (j 2).val
    omega

theorem arr_4 : (dats m 0 c).arrAt 4 cfg0.N = val_main_v1 (F := Ideal) (A0 m c) (A1 m c) := by
  refine (dats m 0 c).arrAt_eq_of_after_last 4 ⟨0, by decide⟩ (by decide +kernel) _ fun (j : S128x1024.Idx) => ?_
  rw [after0_4]
  blk_simp
  rw [blk_0, blk_1, blk_2, blk_3]
  unfold out0_4
  rw [ld_2, ld_3, ld_3, ld_3, ← added]
  frame_out
  rfl

end Cert.ChipsKernelIdeal.Chips

end
-- ==== Proof.Chips.Claim.lean ====
/- THE VALUE CLAIM of the call that adds the chips' blocks. -/
module

public import proofs.«01_k».proof.Defs
public import proofs.«01_k».proof.Proof.Chips.Value
public import proofs.«01_k».proof.Proof.Gen.ChipsKernelIdeal
public import proofs.«01_k».proof.Proof.Gen.ChipsReferenceIdeal
public import Idealize.ShloMosaic.Lib.Quiescent

@[expose] public section

noncomputable section

namespace Cert.Proof

open Idealize.ShloMosaic Idealize.ShloMosaic.TcCoe Idealize.SL.Sem

open Cert.ChipsKernelIdeal Cert.ChipsKernelIdeal.Chips Cert.ChipsReferenceIdeal.Read in
theorem algebraic_chips : Cert.algebraic_ChipsKernelIdeal_ChipsReferenceIdeal
    (hChipsKernelIdeal := Cert.ChipsKernelIdeal.Gen.facts) (hChipsReferenceIdeal := Cert.ChipsReferenceIdeal.Gen.facts) := by
  intro m g m' g' _ hagree
  refine ⟨fun c => val_main_v1 (F := Ideal) (A0 m c) (A1 m c),
    (θ_run _ _ _).mono (fun r h c => ⟨(h c).1.trans (arr_4 m c), (h c).2⟩) (Cert.ChipsKernelIdeal.Value.run_blocks m g), ?_⟩
  refine (θ_run _ _ _).mono (fun r h c => ?_) (Cert.ChipsReferenceIdeal.Value.run m' g')
  obtain ⟨h0, ha⟩ := h c
  obtain ⟨a0, a1⟩ := hagree c
  exact ⟨h0.trans ((Cert.ChipsReferenceIdeal.Read.val_main_v1_eq _ _).trans (by rw [a0, a1])), ha⟩

/-- The reference has host operations only: its frame is its run's, and it has no counter. -/
theorem quiescent_chips_reference : Cert.quiescent_ChipsReferenceIdeal (hChipsReferenceIdeal := Cert.ChipsReferenceIdeal.Gen.facts) := fun m g _ =>
  (θ_run _ _ _).mono (fun _ h => ⟨fun c => (h c).2, sem_eq_zero_of_no_sems rfl _⟩) (Cert.ChipsReferenceIdeal.Value.run m g)

end Cert.Proof

end
-- ==== Proof.Big.Ok.lean ====
/- THE BLOCKS THAT THE CORE'S NUMBER PICKS: each half is one block, so both index maps are at the first block whatever the
   number is. -/
module

public import proofs.«01_k».proof.Proof.Gen.BigKernel.Frame
public import proofs.«01_k».proof.Proof.Gen.BigKernelIdeal.Frame

@[expose] public section

noncomputable section

open Idealize.ShloMosaic Idealize.ShloMosaic.TcCoe

/-- A selection between two zeros, at a coordinate of an axis of one. -/
theorem Cert.BigKernelIdeal.Big.pick_zero (c : BitVec 1) (n : Fin 1) : Scalar.select c (BitVec.ofNat 32 n.val) 0#32 = 0#32
    ∧ Scalar.select c 0#32 (BitVec.ofNat 32 n.val) = 0#32 := by
  obtain rfl : n = 0 := Subsingleton.elim _ _
  revert c
  decide

namespace Cert.BigKernel.Big

open Cert.BigKernel.Gen

variable {F : FTy → Type} [FloatOps F]

theorem map_1 (pf : pre0.Contents (Elt F)) (i : grid0.Coords) : cc0_transform_1 inb_S1_S1_0 numel1_S1 pf i = ![0, 0] := by
  unfold cc0_transform_1
  dsimp only
  rw [(Cert.BigKernelIdeal.Big.pick_zero _ (i 1)).1]
  rfl
theorem map_2 (pf : pre0.Contents (Elt F)) (i : grid0.Coords) : cc0_transform_2 inb_S1_S1_0 numel1_S1 pf i = ![0, 0] := by
  unfold cc0_transform_2
  dsimp only
  rw [(Cert.BigKernelIdeal.Big.pick_zero _ (i 1)).2]
  rfl

theorem ok (pf : pre0.Contents (Elt F)) : ok0 pf := by
  refine ⟨fun i => ⟨fun a => ?_, Or.inl rfl⟩, fun i => ⟨fun a => ?_, Or.inl rfl⟩⟩
  · rw [map_1]
    revert a
    decide
  · rw [map_2]
    revert a
    decide

end Cert.BigKernel.Big

namespace Cert.BigKernelIdeal.Big

open Cert.BigKernelIdeal.Gen

variable {F : FTy → Type} [FloatOps F]

theorem map_1 (pf : pre0.Contents (Elt F)) (i : grid0.Coords) : cc0_transform_1 inb_S1_S1_0 numel1_S1 pf i = ![0, 0] := by
  unfold cc0_transform_1
  dsimp only
  rw [(pick_zero _ (i 1)).1]
  rfl
theorem map_2 (pf : pre0.Contents (Elt F)) (i : grid0.Coords) : cc0_transform_2 inb_S1_S1_0 numel1_S1 pf i = ![0, 0] := by
  unfold cc0_transform_2
  dsimp only
  rw [(pick_zero _ (i 1)).2]
  rfl

theorem ok (pf : pre0.Contents (Elt F)) : ok0 pf := by
  refine ⟨fun i => ⟨fun a => ?_, Or.inl rfl⟩, fun i => ⟨fun a => ?_, Or.inl rfl⟩⟩
  · rw [map_1]
    revert a
    decide
  · rw [map_2]
    revert a
    decide

end Cert.BigKernelIdeal.Big

end
-- ==== Proof.Big.Value.lean ====
/- WHAT THE OPTIMISER'S CALL OVER THE TWO HALVES LEAVES: half `k` of the gradient is the core's own one where the core's number
   is `k`, the sibling's otherwise. -/
module

public import proofs.«01_k».proof.Proof.Big.Ok
public import proofs.«01_k».proof.Proof.Gen.BigReferenceIdeal.Read
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.BigKernelIdeal.Big

open Idealize.ShloMosaic Idealize.ShloMosaic.TcCoe Idealize.ShloMosaic.Tactic
open Idealize.SL Idealize.SL.Sem
open Idealize.ShloMosaic.Pipeline (Dat)
open Cert.BigKernelIdeal.Gen
open Cert.BigReferenceIdeal.Read

/-- Row `r` of half `k`, and the half itself. -/
abbrev row (k : Fin 2) (r : Fin 128) : Fin 256 := ⟨128 * k.val + r.val, by omega⟩
abbrev spot (k : Fin 2) (j : S128x1024.Idx) : S1x256x1024.Idx := ValueIdx.ix3 0 (row k (j 0)) (j 1)
abbrev half {α : Type} (k : Fin 2) (X : S1x256x1024.Idx → α) : S128x1024.Idx → α := fun j => X (spot k j)

section Point

variable (k : Fin 2) (x0 x3 x4 : Vec Ideal S1x256x1024 .f32) (x1 x2 : Vec Ideal S128x1024 .f32) (x5 : IVec S1 32)

/-- The core's number. -/
abbrev core : BitVec 32 := x5 (ValueIdx.ix1 0)

theorem eq_flip (a b : BitVec 32) : IntOp.cmpi .eq a b = Scalar.cmpi .eq b a := by
  show BitVec.ofBool (a == b) = BitVec.ofBool (b == a)
  rw [Bool.beq_comm]

/-- Half `k` of the gradient, as the reference has it. -/
theorem grad_at (j : S128x1024.Idx) : val_main_v7 (F := Ideal) x1 x2 x5 (spot k j)
    = Scalar.select (Scalar.cmpi .eq (BitVec.ofNat 32 k.val) (core x5)) (x1 j) (x2 j) := by
  fin_cases k
  · unfold val_main_v7 val_main_v6 val_main_v2 val_main_v1 val_main_v0 val_main_c
    pointwise!
    exact congrArg₂ (fun b i => Scalar.select b (x1 i) (x2 i)) (eq_flip _ _) (funext fun a => by fin_cases a <;> rfl)
  · unfold val_main_v7 val_main_v6 val_main_v5 val_main_v4 val_main_v3 val_main_c_0
    pointwise!
    exact congrArg₂ (fun b i => Scalar.select b (x1 i) (x2 i)) (eq_flip _ _) (funext fun a => by fin_cases a <;> rfl)

variable (i : grid0.Coords) (h : (i 0).val = k.val)
include h

theorem grad_eq : k0_pay2 (F := Ideal) i (core x5) x1 x2 = half k (val_main_v7 (F := Ideal) x1 x2 x5) := by
  funext j
  refine Eq.trans ?_ (grad_at k x1 x2 x5 j).symm
  unfold k0_pay2
  dsimp only
  rw [h]
  unfold Scalar.select
  split <;> rfl

theorem newM_eq : k0_pay3 (F := Ideal) i (core x5) x1 x2 (half k x3) = half k (val_main_v12 (F := Ideal) x1 x2 x3 x5) := by
  funext j
  have e := congrFun (grad_eq k x1 x2 x5 i h) j
  unfold k0_pay3 half val_main_v12 val_main_v11 val_main_v10 val_main_v9 val_main_v8 val_main_cst val_main_cst_1
  generalize k0_pay2 (F := Ideal) i (core x5) x1 x2 = g at e ⊢
  unfold half at e
  generalize val_main_v7 (F := Ideal) x1 x2 x5 = G at e ⊢
  pointwise!
  rw [e]

theorem newV_eq : k0_pay4 (F := Ideal) i (core x5) x1 x2 (half k x4) = half k (val_main_v18 (F := Ideal) x1 x2 x4 x5) := by
  funext j
  have e := congrFun (grad_eq k x1 x2 x5 i h) j
  unfold k0_pay4 half val_main_v18 val_main_v17 val_main_v16 val_main_v15 val_main_v14 val_main_v13 val_main_cst_2 val_main_cst_3
  generalize k0_pay2 (F := Ideal) i (core x5) x1 x2 = g at e ⊢
  unfold half at e
  generalize val_main_v7 (F := Ideal) x1 x2 x5 = G at e ⊢
  pointwise!
  rw [e]

theorem delta_eq : k0_pay1 (F := Ideal) (k0_pay5 i (core x5) x1 x2 (half k x0) (half k x3) (half k x4)) k0_pay6
    = half k (val_main_v31 (F := Ideal) x0 x1 x2 x3 x4 x5) := by
  funext j
  have eM := congrFun (newM_eq k x3 x1 x2 x5 i h) j
  have eV := congrFun (newV_eq k x4 x1 x2 x5 i h) j
  unfold k0_pay1 k0_pay5 k0_pay6 half val_main_v31 val_main_v30 val_main_v29 val_main_v28 val_main_v27 val_main_v26 val_main_v25 val_main_v24
    val_main_v23 val_main_v22 val_main_v21 val_main_v20 val_main_v19 val_main_cst_4 val_main_cst_5 val_main_cst_6 val_main_cst_7 val_main_cst_8
  generalize k0_pay3 (F := Ideal) i (core x5) x1 x2 (half k x3) = g at eM ⊢
  generalize k0_pay4 (F := Ideal) i (core x5) x1 x2 (half k x4) = w at eV ⊢
  unfold half at eM eV
  generalize val_main_v12 (F := Ideal) x1 x2 x3 x5 = G at eM ⊢
  generalize val_main_v18 (F := Ideal) x1 x2 x4 x5 = W at eV ⊢
  pointwise!
  rw [eM, eV]

end Point

variable (m : (ℓ : Loc nD τ sig) → Buf (Elt Ideal) ℓ) (ρ : Dev nD → PrngReg) (c : Dev nD)

abbrev hO : Ok m := ok (tbl m)
variable (t : Fin (cfgM m (hO m)).N)

abbrev A0 : Vec Ideal S1x256x1024 .f32 := m ((c : Thread nD τ).loc main_arg0)
abbrev A1 : Vec Ideal S128x1024 .f32 := m ((c : Thread nD τ).loc main_arg1)
abbrev A2 : Vec Ideal S128x1024 .f32 := m ((c : Thread nD τ).loc main_arg2)
abbrev A3 : Vec Ideal S1x256x1024 .f32 := m ((c : Thread nD τ).loc main_arg3)
abbrev A4 : Vec Ideal S1x256x1024 .f32 := m ((c : Thread nD τ).loc main_arg4)
abbrev A5 : IVec S1 32 := m ((c : Thread nD τ).loc main_arg5)

theorem word : View.readAt (Elt Ideal) (View.whole main_arg5) (Rect.unit ![0] ![1] inb_S1_S1_0).toLoadRect (tbl m 0) (Shape.Idx.first (by decide)) = core (A5 m c) := by
  obtain rfl : c = 0 := Subsingleton.elim _ _
  refine Eq.trans ?_ (congrFun (V_main_arg5 m 0) (ValueIdx.ix1 0))
  show V m 0 main_arg5 _ = V m 0 main_arg5 _
  exact congrArg _ (funext fun a => Fin.ext (by fin_cases a; rfl))

theorem outs (k : Fin 2) (h : (grid0.coords t 0).val = k.val) (h0 : iblk m (hO m) c 0 t = half k (A0 m c)) (h1 : iblk m (hO m) c 1 t = A1 m c)
    (h2 : iblk m (hO m) c 2 t = A2 m c) (h3 : iblk m (hO m) c 3 t = half k (A3 m c)) (h4 : iblk m (hO m) c 4 t = half k (A4 m c)) :
    outsAt0 m (hO m) c t = (half k (val_main_v7 (F := Ideal) (A1 m c) (A2 m c) (A5 m c)),
      half k (val_main_v31 (F := Ideal) (A0 m c) (A1 m c) (A2 m c) (A3 m c) (A4 m c) (A5 m c)),
      half k (val_main_v12 (F := Ideal) (A1 m c) (A2 m c) (A3 m c) (A5 m c)),
      half k (val_main_v18 (F := Ideal) (A1 m c) (A2 m c) (A4 m c) (A5 m c))) := by
  unfold outsAt0
  frame_out
  simp only [Memref.IsWhole.read_unread, h0, h1, h2, h3, h4]
  rw [word m c, grad_eq k _ _ _ _ h, newM_eq k _ _ _ _ _ h, newV_eq k _ _ _ _ _ h, delta_eq k _ _ _ _ _ _ _ h]

theorem two : (cfgM m (hO m)).N = 2 := by
  show grid0.N = 2
  decide +kernel

abbrev kk : Fin 2 := ⟨t.val, lt_of_lt_of_eq t.isLt (two m)⟩

theorem coords_all : ∀ t : Fin grid0.N, (grid0.coords t 0).val = t.val ∧ cc0_transform_0 (grid0.coords t) = ![t.val, 0] := by decide +kernel

/-- Rows `128 k …` of a matrix. -/
abbrev rows (k : Fin 2) (X : Vec Ideal S256x1024 .f32) : Vec Ideal S128x1024 .f32 := fun j => X (ValueIdx.ix2 (row k (j 0)) (j 1))

theorem rows_cast (k : Fin 2) (X : Vec Ideal S1x256x1024 .f32) : rows k (shapeCast _ X shapeCasts_S1x256x1024_S256x1024) = half k X := by
  funext j
  unfold rows half spot
  pointwise!

theorem V_0 : V m c main_v0 = shapeCast _ (A0 m c) shapeCasts_S1x256x1024_S256x1024 := by
  show StableHlo.after hostOps0 _ _ = _
  after_reads_simp
  rfl
theorem V_3 : V m c main_v1 = shapeCast _ (A3 m c) shapeCasts_S1x256x1024_S256x1024 := by
  show StableHlo.after hostOps0 _ _ = _
  after_reads_simp
  rfl
theorem V_4 : V m c main_v2 = shapeCast _ (A4 m c) shapeCasts_S1x256x1024_S256x1024 := by
  show StableHlo.after hostOps0 _ _ = _
  after_reads_simp
  rfl

theorem idx_0 : ((cfgM m (hO m)).win 0).index t = ![t.val, 0] := (coords_all t).2
theorem idx_3 : ((cfgM m (hO m)).win 3).index t = ![t.val, 0] := (coords_all t).2
theorem idx_4 : ((cfgM m (hO m)).win 4).index t = ![t.val, 0] := (coords_all t).2
theorem idx_5 : ((cfgM m (hO m)).win 5).index t = ![t.val, 0] := (coords_all t).2
theorem idx_6 : ((cfgM m (hO m)).win 6).index t = ![t.val, 0] := (coords_all t).2
theorem idx_7 : ((cfgM m (hO m)).win 7).index t = ![t.val, 0] := (coords_all t).2
theorem idx_8 : ((cfgM m (hO m)).win 8).index t = ![t.val, 0] := (coords_all t).2
theorem idx_1 : ((cfgM m (hO m)).win 1).index t = ![0, 0] := map_1 (tbl m) (grid0.coords t)
theorem idx_2 : ((cfgM m (hO m)).win 2).index t = ![0, 0] := map_2 (tbl m) (grid0.coords t)

theorem blk_0 : iblk m (hO m) c 0 t = half (kk m t) (A0 m c) := by
  refine Eq.trans (b := rows (kk m t) (V m c main_v0)) ?_ ((congrArg (rows (kk m t)) (V_0 m c)).trans (rows_cast _ _))
  generalize hX : V m c main_v0 = X
  show (((cfgM m (hO m)).win 0).blk t).view.read (Elt Ideal) (V m c main_v0) = _
  rw [hX]
  funext j
  have e := idx_0 m t
  show X _ = X _
  blk_ext [e, kk]

theorem blk_1 : iblk m (hO m) c 1 t = A1 m c := by
  refine Eq.trans ?_ (V_main_arg1 m c)
  generalize hX : V m c main_arg1 = X
  show (((cfgM m (hO m)).win 1).blk t).view.read (Elt Ideal) (V m c main_arg1) = _
  rw [hX]
  funext j
  have e := idx_1 m t
  show X _ = X _
  blk_ext [e]

theorem blk_2 : iblk m (hO m) c 2 t = A2 m c := by
  refine Eq.trans ?_ (V_main_arg2 m c)
  generalize hX : V m c main_arg2 = X
  show (((cfgM m (hO m)).win 2).blk t).view.read (Elt Ideal) (V m c main_arg2) = _
  rw [hX]
  funext j
  have e := idx_2 m t
  show X _ = X _
  blk_ext [e]

theorem blk_3 : iblk m (hO m) c 3 t = half (kk m t) (A3 m c) := by
  refine Eq.trans (b := rows (kk m t) (V m c main_v1)) ?_ ((congrArg (rows (kk m t)) (V_3 m c)).trans (rows_cast _ _))
  generalize hX : V m c main_v1 = X
  show (((cfgM m (hO m)).win 3).blk t).view.read (Elt Ideal) (V m c main_v1) = _
  rw [hX]
  funext j
  have e := idx_3 m t
  show X _ = X _
  blk_ext [e, kk]

theorem blk_4 : iblk m (hO m) c 4 t = half (kk m t) (A4 m c) := by
  refine Eq.trans (b := rows (kk m t) (V m c main_v2)) ?_ ((congrArg (rows (kk m t)) (V_4 m c)).trans (rows_cast _ _))
  generalize hX : V m c main_v2 = X
  show (((cfgM m (hO m)).win 4).blk t).view.read (Elt Ideal) (V m c main_v2) = _
  rw [hX]
  funext j
  have e := idx_4 m t
  show X _ = X _
  blk_ext [e, kk]

/-- A whole result as the matrix the call writes. -/
abbrev flat (X : Vec Ideal S1x256x1024 .f32) : Vec Ideal S256x1024 .f32 := fun i => X (ValueIdx.ix3 0 (i 0) (i 1))

/-- The four results' blocks at a point. -/
theorem outs_at : outsAt0 m (hO m) c t = (rows (kk m t) (flat (val_main_v7 (F := Ideal) (A1 m c) (A2 m c) (A5 m c))),
      rows (kk m t) (flat (val_main_v31 (F := Ideal) (A0 m c) (A1 m c) (A2 m c) (A3 m c) (A4 m c) (A5 m c))),
      rows (kk m t) (flat (val_main_v12 (F := Ideal) (A1 m c) (A2 m c) (A3 m c) (A5 m c))),
      rows (kk m t) (flat (val_main_v18 (F := Ideal) (A1 m c) (A2 m c) (A4 m c) (A5 m c)))) :=
  outs m c t (kk m t) (coords_all t).1 (blk_0 m c t) (blk_1 m c t) (blk_2 m c t) (blk_3 m c t) (blk_4 m c t)

/-- Every block of a result is written by some point. -/
theorem surj (β : (a : Fin 2) → Fin ((![256, 1024] a + ![128, 1024] a - 1) / ![128, 1024] a)) :
    ∃ t : Fin (cfgM m (hO m)).N, ∀ a, (![t.val, 0] : Fin 2 → Nat) a = β a := by
  have h0 : (β 0).val < 2 := (β 0).isLt
  have h1 : (β 1).val < 1 := (β 1).isLt
  refine ⟨⟨(β 0).val, lt_of_lt_of_eq h0 (two m).symm⟩, fun a => ?_⟩
  fin_cases a
  · rfl
  · show 0 = (β 1).val
    omega

theorem pos : ∀ a : Fin 2, 0 < (![128, 1024] : Fin 2 → Nat) a := by decide

theorem cov_5 : ((cfgM m (hO m)).win 5).Covers :=
  Pipeline.Window.covers_of_index_surj _ rfl pos fun β => (surj m β).imp fun t h a => (congrFun (idx_5 m t) a).trans (h a)
theorem arr_5 : (dats m (hO m) 0 c).arrAt 5 (cfgM m (hO m)).N = flat (val_main_v7 (F := Ideal) (A1 m c) (A2 m c) (A5 m c)) := by
  refine (dats m (hO m) 0 c).arrAt_eq_of_covers 5 _ (cov_5 m) fun t hf y => ?_
  have e := idx_5 m t
  rw [after0_5, outs_at]
  generalize flat (val_main_v7 (F := Ideal) (A1 m c) (A2 m c) (A5 m c)) = X
  blk_simp
  show X _ = X _
  blk_ext [e, kk]

theorem cov_6 : ((cfgM m (hO m)).win 6).Covers :=
  Pipeline.Window.covers_of_index_surj _ rfl pos fun β => (surj m β).imp fun t h a => (congrFun (idx_6 m t) a).trans (h a)
theorem arr_6 : (dats m (hO m) 0 c).arrAt 6 (cfgM m (hO m)).N = flat (val_main_v31 (F := Ideal) (A0 m c) (A1 m c) (A2 m c) (A3 m c) (A4 m c) (A5 m c)) := by
  refine (dats m (hO m) 0 c).arrAt_eq_of_covers 6 _ (cov_6 m) fun t hf y => ?_
  have e := idx_6 m t
  rw [after0_6, outs_at]
  generalize flat (val_main_v31 (F := Ideal) (A0 m c) (A1 m c) (A2 m c) (A3 m c) (A4 m c) (A5 m c)) = X
  blk_simp
  show X _ = X _
  blk_ext [e, kk]

theorem cov_7 : ((cfgM m (hO m)).win 7).Covers :=
  Pipeline.Window.covers_of_index_surj _ rfl pos fun β => (surj m β).imp fun t h a => (congrFun (idx_7 m t) a).trans (h a)
theorem arr_7 : (dats m (hO m) 0 c).arrAt 7 (cfgM m (hO m)).N = flat (val_main_v12 (F := Ideal) (A1 m c) (A2 m c) (A3 m c) (A5 m c)) := by
  refine (dats m (hO m) 0 c).arrAt_eq_of_covers 7 _ (cov_7 m) fun t hf y => ?_
  have e := idx_7 m t
  rw [after0_7, outs_at]
  generalize flat (val_main_v12 (F := Ideal) (A1 m c) (A2 m c) (A3 m c) (A5 m c)) = X
  blk_simp
  show X _ = X _
  blk_ext [e, kk]

theorem cov_8 : ((cfgM m (hO m)).win 8).Covers :=
  Pipeline.Window.covers_of_index_surj _ rfl pos fun β => (surj m β).imp fun t h a => (congrFun (idx_8 m t) a).trans (h a)
theorem arr_8 : (dats m (hO m) 0 c).arrAt 8 (cfgM m (hO m)).N = flat (val_main_v18 (F := Ideal) (A1 m c) (A2 m c) (A4 m c) (A5 m c)) := by
  refine (dats m (hO m) 0 c).arrAt_eq_of_covers 8 _ (cov_8 m) fun t hf y => ?_
  have e := idx_8 m t
  rw [after0_8, outs_at]
  generalize flat (val_main_v18 (F := Ideal) (A1 m c) (A2 m c) (A4 m c) (A5 m c)) = X
  blk_simp
  show X _ = X _
  blk_ext [e, kk]

/-- The contents when the call has run, and at the end, its results reshaped. -/
abbrev left : Valuation τ sig (Elt Ideal) :=
  Pipeline.withArrays (cfgM m (hO m)).spec c (V0 m c) fun w => (dats m (hO m) 0 c).arrAt w (cfgM m (hO m)).N
abbrev final (b : Ref sig .tc) : Buf (Elt Ideal) ((c : Thread nD τ).loc b) :=
  Pipeline.afterTail pcfgs (fun _ => adm m (hO m)) (dats m (hO m)) 0 (V0 m) [hostOps1] c b

theorem unflat (X : Vec Ideal S1x256x1024 .f32) : shapeCast S1x256x1024 (flat X) shapeCasts_S256x1024_S1x256x1024 = X := by
  funext j
  unfold flat
  pointwise!
  refine congrArg X (funext fun a => ?_)
  fin_cases a
  · exact Subsingleton.elim (α := Fin 1) _ _
  · rfl
  · rfl

theorem left_5 : left m c (Proc.devRef .tc main_v3_0) = flat (val_main_v7 (F := Ideal) (A1 m c) (A2 m c) (A5 m c)) :=
  (Pipeline.withArrays_arr (cfgM m (hO m)).spec winFacts0.arr_inj c _ _ 5).trans (arr_5 m c)
theorem final_5 : final m c main_v4 = val_main_v7 (F := Ideal) (A1 m c) (A2 m c) (A5 m c) := by
  refine Eq.trans ?_ ((congrArg (fun Y : Vec Ideal S256x1024 .f32 => shapeCast S1x256x1024 Y shapeCasts_S256x1024_S1x256x1024) (left_5 m c)).trans (unflat _))
  show StableHlo.after hostOps1 _ _ = _
  after_reads_simp
  rfl

theorem left_6 : left m c (Proc.devRef .tc main_v3_1) = flat (val_main_v31 (F := Ideal) (A0 m c) (A1 m c) (A2 m c) (A3 m c) (A4 m c) (A5 m c)) :=
  (Pipeline.withArrays_arr (cfgM m (hO m)).spec winFacts0.arr_inj c _ _ 6).trans (arr_6 m c)
theorem final_6 : final m c main_v5 = val_main_v31 (F := Ideal) (A0 m c) (A1 m c) (A2 m c) (A3 m c) (A4 m c) (A5 m c) := by
  refine Eq.trans ?_ ((congrArg (fun Y : Vec Ideal S256x1024 .f32 => shapeCast S1x256x1024 Y shapeCasts_S256x1024_S1x256x1024) (left_6 m c)).trans (unflat _))
  show StableHlo.after hostOps1 _ _ = _
  after_reads_simp
  rfl

theorem left_7 : left m c (Proc.devRef .tc main_v3_2) = flat (val_main_v12 (F := Ideal) (A1 m c) (A2 m c) (A3 m c) (A5 m c)) :=
  (Pipeline.withArrays_arr (cfgM m (hO m)).spec winFacts0.arr_inj c _ _ 7).trans (arr_7 m c)
theorem final_7 : final m c main_v6 = val_main_v12 (F := Ideal) (A1 m c) (A2 m c) (A3 m c) (A5 m c) := by
  refine Eq.trans ?_ ((congrArg (fun Y : Vec Ideal S256x1024 .f32 => shapeCast S1x256x1024 Y shapeCasts_S256x1024_S1x256x1024) (left_7 m c)).trans (unflat _))
  show StableHlo.after hostOps1 _ _ = _
  after_reads_simp
  rfl

theorem left_8 : left m c (Proc.devRef .tc main_v3_3) = flat (val_main_v18 (F := Ideal) (A1 m c) (A2 m c) (A4 m c) (A5 m c)) :=
  (Pipeline.withArrays_arr (cfgM m (hO m)).spec winFacts0.arr_inj c _ _ 8).trans (arr_8 m c)
theorem final_8 : final m c main_v7 = val_main_v18 (F := Ideal) (A1 m c) (A2 m c) (A4 m c) (A5 m c) := by
  refine Eq.trans ?_ ((congrArg (fun Y : Vec Ideal S256x1024 .f32 => shapeCast S1x256x1024 Y shapeCasts_S256x1024_S1x256x1024) (left_8 m c)).trans (unflat _))
  show StableHlo.after hostOps1 _ _ = _
  after_reads_simp
  rfl

/-- The run: the four results are the reference's, every argument is kept. -/
theorem run : θ_run defs (onTc (τ := τ) (main (F := Ideal))) ⟨m, fun _ => 0, ρ⟩ (fun r => ∀ c : Dev nD,
      r.2.mem ((c.tc : Thread nD τ).loc main_v4) = val_main_v7 (F := Ideal) (A1 m c) (A2 m c) (A5 m c)
      ∧ r.2.mem ((c.tc : Thread nD τ).loc main_v5) = val_main_v31 (F := Ideal) (A0 m c) (A1 m c) (A2 m c) (A3 m c) (A4 m c) (A5 m c)
      ∧ r.2.mem ((c.tc : Thread nD τ).loc main_v6) = val_main_v12 (F := Ideal) (A1 m c) (A2 m c) (A3 m c) (A5 m c)
      ∧ r.2.mem ((c.tc : Thread nD τ).loc main_v7) = val_main_v18 (F := Ideal) (A1 m c) (A2 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.2 c).2 _ (Pipeline.mem_restRefs_of main_v4 rfl (show ∀ w : Fin 9, (spec0 w).arr.view.ref ≠ main_v4 by decide))).trans (final_5 m c),
      ((h.2 c).2 _ (Pipeline.mem_restRefs_of main_v5 rfl (show ∀ w : Fin 9, (spec0 w).arr.view.ref ≠ main_v5 by decide))).trans (final_6 m c),
      ((h.2 c).2 _ (Pipeline.mem_restRefs_of main_v6 rfl (show ∀ w : Fin 9, (spec0 w).arr.view.ref ≠ main_v6 by decide))).trans (final_7 m c),
      ((h.2 c).2 _ (Pipeline.mem_restRefs_of main_v7 rfl (show ∀ w : Fin 9, (spec0 w).arr.view.ref ≠ main_v7 by decide))).trans (final_8 m c), h.1 c⟩)
    (θ_run_and (unchanged m ρ (hO m)) (run_main m ρ (hO m)))

end Cert.BigKernelIdeal.Big

end
-- ==== Proof.Big.Claim.lean ====
/- THE VALUE CLAIM of the optimiser's call over the two halves. -/
module

public import proofs.«01_k».proof.Defs
public import proofs.«01_k».proof.Proof.Big.Value
public import proofs.«01_k».proof.Proof.Gen.BigKernel
public import proofs.«01_k».proof.Proof.Gen.BigKernelIdeal
public import proofs.«01_k».proof.Proof.Gen.BigReferenceIdeal
public import Idealize.ShloMosaic.Lib.Quiescent

@[expose] public section

noncomputable section

namespace Cert.Proof

open Idealize.ShloMosaic Idealize.ShloMosaic.TcCoe Idealize.SL.Sem

open Cert.BigKernelIdeal Cert.BigKernelIdeal.Big Cert.BigReferenceIdeal.Read in
set_option maxHeartbeats 4000000 in
theorem algebraic_big : Cert.algebraic_BigKernelIdeal_BigReferenceIdeal
    (hBigKernelIdeal := Cert.BigKernelIdeal.Gen.facts) (hBigReferenceIdeal := Cert.BigReferenceIdeal.Gen.facts) := by
  intro m g m' g' _ hagree
  refine ⟨fun c => val_main_v7 (F := Ideal) (A1 m c) (A2 m c) (A5 m c),
    fun c => val_main_v31 (F := Ideal) (A0 m c) (A1 m c) (A2 m c) (A3 m c) (A4 m c) (A5 m c),
    fun c => val_main_v12 (F := Ideal) (A1 m c) (A2 m c) (A3 m c) (A5 m c),
    fun c => val_main_v18 (F := Ideal) (A1 m c) (A2 m c) (A4 m c) (A5 m c), Cert.BigKernelIdeal.Big.run m g, ?_⟩
  refine (θ_run _ _ _).mono (fun r h c => ?_) (Cert.BigReferenceIdeal.Value.run m' g')
  obtain ⟨h0, h1, h2, h3, ha⟩ := h c
  obtain ⟨a0, a1, a2, a3, a4, a5⟩ := hagree c
  exact ⟨h0.trans ((val_main_v7_eq _ _ _).trans (by rw [a1, a2, a5])),
    h1.trans ((val_main_v31_eq _ _ _ _ _ _).trans (by rw [a0, a1, a2, a3, a4, a5])),
    h2.trans ((val_main_v12_eq _ _ _ _).trans (by rw [a1, a2, a3, a5])),
    h3.trans ((val_main_v18_eq _ _ _ _).trans (by rw [a1, a2, a4, a5])), ha⟩

/-- The reference has host operations only: its frame is its run's, and it has no counter. -/
theorem quiescent_big_reference : Cert.quiescent_BigReferenceIdeal (hBigReferenceIdeal := Cert.BigReferenceIdeal.Gen.facts) := fun m g _ =>
  (θ_run _ _ _).mono (fun _ h => ⟨fun c => (h c).2.2.2.2, sem_eq_zero_of_no_sems rfl _⟩) (Cert.BigReferenceIdeal.Value.run m g)

end Cert.Proof

end
-- ==== Proof.lean ====
/- THE PROOF OF `Cert.Claim`: each program's frame is its run; the value claims are proved beside their programs. -/
module

public import proofs.«01_k».proof.Defs
public import proofs.«01_k».proof.Proof.Gen.KvKernel
public import proofs.«01_k».proof.Proof.Gen.KvKernel.Skeleton
public import proofs.«01_k».proof.Proof.Gen.KvKernel.Launch
public import proofs.«01_k».proof.Proof.Gen.KvKernel.Points
public import proofs.«01_k».proof.Proof.Gen.KvKernel.Frame
public import proofs.«01_k».proof.Proof.Gen.KvKernelIdeal
public import proofs.«01_k».proof.Proof.Gen.KvKernelIdeal.Skeleton
public import proofs.«01_k».proof.Proof.Gen.KvKernelIdeal.Launch
public import proofs.«01_k».proof.Proof.Gen.KvKernelIdeal.Points
public import proofs.«01_k».proof.Proof.Gen.KvKernelIdeal.Frame
public import proofs.«01_k».proof.Proof.Gen.KvReferenceIdeal
public import proofs.«01_k».proof.Proof.Gen.KvReferenceIdeal.Read
public import proofs.«01_k».proof.Proof.Gen.MixKernel
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame.RunB
public import proofs.«01_k».proof.Proof.Gen.MixFwdKernel
public import proofs.«01_k».proof.Proof.Gen.MixFwdKernel.Skeleton
public import proofs.«01_k».proof.Proof.Gen.MixFwdKernel.Launch
public import proofs.«01_k».proof.Proof.Gen.MixFwdKernel.Points
public import proofs.«01_k».proof.Proof.Gen.MixFwdKernel.Frame
public import proofs.«01_k».proof.Proof.Gen.MixFwdKernelIdeal
public import proofs.«01_k».proof.Proof.Gen.MixFwdKernelIdeal.Skeleton
public import proofs.«01_k».proof.Proof.Gen.MixFwdKernelIdeal.Launch
public import proofs.«01_k».proof.Proof.Gen.MixFwdKernelIdeal.Points
public import proofs.«01_k».proof.Proof.Gen.MixFwdKernelIdeal.Frame
public import proofs.«01_k».proof.Proof.Gen.MixFwdKernelIdeal.Value
public import proofs.«01_k».proof.Proof.Gen.MixReferenceIdeal
public import proofs.«01_k».proof.Proof.Gen.MixReferenceIdeal.Read
public import proofs.«01_k».proof.Proof.Gen.MixFwdReferenceIdeal
public import proofs.«01_k».proof.Proof.Gen.MixFwdReferenceIdeal.Read
public import proofs.«01_k».proof.Proof.Gen.Pre_finite_mix
public import proofs.«01_k».proof.Proof.Gen.Pre_finite_fwd
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Read
public import proofs.«01_k».proof.Proof.Gen.Pre_finite_in
public import proofs.«01_k».proof.Proof.Gen.Pre_finite_ffn
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjReferenceIdeal.Read
public import proofs.«01_k».proof.Proof.Gen.GwKernel
public import proofs.«01_k».proof.Proof.Gen.GwKernel.Skeleton
public import proofs.«01_k».proof.Proof.Gen.GwKernel.Launch
public import proofs.«01_k».proof.Proof.Gen.GwKernel.Points
public import proofs.«01_k».proof.Proof.Gen.GwKernel.Frame
public import proofs.«01_k».proof.Proof.Gen.GwKernelIdeal
public import proofs.«01_k».proof.Proof.Gen.GwKernelIdeal.Skeleton
public import proofs.«01_k».proof.Proof.Gen.GwKernelIdeal.Launch
public import proofs.«01_k».proof.Proof.Gen.GwKernelIdeal.Points
public import proofs.«01_k».proof.Proof.Gen.GwKernelIdeal.Frame
public import proofs.«01_k».proof.Proof.Gen.GwKernelIdeal.Value
public import proofs.«01_k».proof.Proof.Gen.GwReferenceIdeal
public import proofs.«01_k».proof.Proof.Gen.GwReferenceIdeal.Read
public import proofs.«01_k».proof.Proof.Gen.GpoolKernel
public import proofs.«01_k».proof.Proof.Gen.GpoolKernel.Skeleton
public import proofs.«01_k».proof.Proof.Gen.GpoolKernel.Launch
public import proofs.«01_k».proof.Proof.Gen.GpoolKernel.Points
public import proofs.«01_k».proof.Proof.Gen.GpoolKernel.Frame
public import proofs.«01_k».proof.Proof.Gen.GpoolKernelIdeal
public import proofs.«01_k».proof.Proof.Gen.GpoolKernelIdeal.Skeleton
public import proofs.«01_k».proof.Proof.Gen.GpoolKernelIdeal.Launch
public import proofs.«01_k».proof.Proof.Gen.GpoolKernelIdeal.Points
public import proofs.«01_k».proof.Proof.Gen.GpoolKernelIdeal.Frame
public import proofs.«01_k».proof.Proof.Gen.GpoolKernelIdeal.Value
public import proofs.«01_k».proof.Proof.Gen.GpoolReferenceIdeal
public import proofs.«01_k».proof.Proof.Gen.GpoolReferenceIdeal.Read
public import proofs.«01_k».proof.Proof.Gen.SmallKernel
public import proofs.«01_k».proof.Proof.Gen.SmallKernel.Skeleton
public import proofs.«01_k».proof.Proof.Gen.SmallKernel.Launch
public import proofs.«01_k».proof.Proof.Gen.SmallKernel.Points
public import proofs.«01_k».proof.Proof.Gen.SmallKernel.Frame
public import proofs.«01_k».proof.Proof.Gen.SmallKernelIdeal
public import proofs.«01_k».proof.Proof.Gen.SmallKernelIdeal.Skeleton
public import proofs.«01_k».proof.Proof.Gen.SmallKernelIdeal.Launch
public import proofs.«01_k».proof.Proof.Gen.SmallKernelIdeal.Points
public import proofs.«01_k».proof.Proof.Gen.SmallKernelIdeal.Frame
public import proofs.«01_k».proof.Proof.Gen.SmallReferenceIdeal
public import proofs.«01_k».proof.Proof.Gen.SmallReferenceIdeal.Read
public import proofs.«01_k».proof.Proof.Gen.ChipsKernel
public import proofs.«01_k».proof.Proof.Gen.ChipsKernel.Skeleton
public import proofs.«01_k».proof.Proof.Gen.ChipsKernel.Launch
public import proofs.«01_k».proof.Proof.Gen.ChipsKernel.Points
public import proofs.«01_k».proof.Proof.Gen.ChipsKernel.Frame
public import proofs.«01_k».proof.Proof.Gen.ChipsKernelIdeal
public import proofs.«01_k».proof.Proof.Gen.ChipsKernelIdeal.Skeleton
public import proofs.«01_k».proof.Proof.Gen.ChipsKernelIdeal.Launch
public import proofs.«01_k».proof.Proof.Gen.ChipsKernelIdeal.Points
public import proofs.«01_k».proof.Proof.Gen.ChipsKernelIdeal.Frame
public import proofs.«01_k».proof.Proof.Gen.ChipsKernelIdeal.Value
public import proofs.«01_k».proof.Proof.Gen.ChipsReferenceIdeal
public import proofs.«01_k».proof.Proof.Gen.ChipsReferenceIdeal.Read
public import proofs.«01_k».proof.Proof.Gen.BigKernel
public import proofs.«01_k».proof.Proof.Gen.BigKernel.Skeleton
public import proofs.«01_k».proof.Proof.Gen.BigKernel.Launch
public import proofs.«01_k».proof.Proof.Gen.BigKernel.Points
public import proofs.«01_k».proof.Proof.Gen.BigKernel.Frame
public import proofs.«01_k».proof.Proof.Gen.BigKernelIdeal
public import proofs.«01_k».proof.Proof.Gen.BigKernelIdeal.Skeleton
public import proofs.«01_k».proof.Proof.Gen.BigKernelIdeal.Launch
public import proofs.«01_k».proof.Proof.Gen.BigKernelIdeal.Points
public import proofs.«01_k».proof.Proof.Gen.BigKernelIdeal.Frame
public import proofs.«01_k».proof.Proof.Gen.BigReferenceIdeal
public import proofs.«01_k».proof.Proof.Gen.BigReferenceIdeal.Read
public import proofs.«01_k».proof.Proof.Kv.Claim
public import proofs.«01_k».proof.Proof.Mix.Claim
public import proofs.«01_k».proof.Proof.Mix.Same
public import proofs.«01_k».proof.Proof.MixFwd.Claim
public import proofs.«01_k».proof.Proof.In.Claim
public import proofs.«01_k».proof.Proof.Ffn.Claim
public import proofs.«01_k».proof.Proof.Proj.Claim
public import proofs.«01_k».proof.Proof.Proj.Same
public import proofs.«01_k».proof.Proof.Gw.Claim
public import proofs.«01_k».proof.Proof.Gpool.Claim
public import proofs.«01_k».proof.Proof.Small.Claim
public import proofs.«01_k».proof.Proof.Chips.Claim
public import proofs.«01_k».proof.Proof.Big.Claim
public import Idealize.ShloMosaic.Adequacy
public import Idealize.ShloMosaic.Init

@[expose] public section

noncomputable section

-- The frames also say that every counter ends at zero; the kernels' runs and the references' lack of counters give that too.

namespace Cert.Proof

open Idealize.ShloMosaic Idealize.SL.Sem

theorem claim : Cert.Claim := ⟨Cert.KvKernel.Gen.facts, Cert.KvKernelIdeal.Gen.facts, Cert.KvReferenceIdeal.Gen.facts,
  Cert.MixKernel.Gen.facts, Cert.MixKernelIdeal.Gen.facts, Cert.MixReferenceIdeal.Gen.facts,
  Cert.MixFwdKernel.Gen.facts, Cert.MixFwdKernelIdeal.Gen.facts, Cert.MixFwdReferenceIdeal.Gen.facts,
  Cert.InKernel.Gen.facts, Cert.InKernelIdeal.Gen.facts, Cert.InReferenceIdeal.Gen.facts,
  Cert.FfnKernel.Gen.facts, Cert.FfnKernelIdeal.Gen.facts, Cert.FfnReferenceIdeal.Gen.facts,
  Cert.ProjKernel.Gen.facts, Cert.ProjKernelIdeal.Gen.facts, Cert.ProjReferenceIdeal.Gen.facts,
  Cert.GwKernel.Gen.facts, Cert.GwKernelIdeal.Gen.facts, Cert.GwReferenceIdeal.Gen.facts,
  Cert.GpoolKernel.Gen.facts, Cert.GpoolKernelIdeal.Gen.facts, Cert.GpoolReferenceIdeal.Gen.facts,
  Cert.SmallKernel.Gen.facts, Cert.SmallKernelIdeal.Gen.facts, Cert.SmallReferenceIdeal.Gen.facts,
  Cert.ChipsKernel.Gen.facts, Cert.ChipsKernelIdeal.Gen.facts, Cert.ChipsReferenceIdeal.Gen.facts,
  Cert.BigKernel.Gen.facts, Cert.BigKernelIdeal.Gen.facts, Cert.BigReferenceIdeal.Gen.facts,
  Cert.Pre_finite_mix.Gen.facts, Cert.Pre_finite_fwd.Gen.facts, Cert.Pre_finite_in.Gen.facts, Cert.Pre_finite_ffn.Gen.facts,
  fun m ρ _ => Cert.KvKernel.Gen.frame m ρ, fun m ρ _ => Cert.KvKernelIdeal.Gen.frame m ρ, quiescent_kv_reference,
  Cert.MixKernelIdeal.Mix.frame_kernel, fun m ρ _ => Cert.MixKernelIdeal.Mix.frame_run m ρ, fun m ρ _ => Cert.MixKernelIdeal.Mix.frame_run m ρ,
  quiescent_mix_reference, fun m ρ _ => quiescent_mix_reference m ρ trivial,
  fun m ρ _ => Cert.MixFwdKernel.Gen.frame m ρ, fun m ρ _ => Cert.MixFwdKernelIdeal.Gen.frame m ρ, fun m ρ _ => Cert.MixFwdKernelIdeal.Gen.frame m ρ,
  quiescent_mixfwd_reference, fun m ρ _ => quiescent_mixfwd_reference m ρ trivial,
  fun m ρ _ => Cert.InKernel.Gen.frame m ρ, fun m ρ _ => Cert.InKernelIdeal.Gen.frame m ρ, fun m ρ _ => Cert.InKernelIdeal.Gen.frame m ρ,
  quiescent_in_reference, fun m ρ _ => quiescent_in_reference m ρ trivial,
  fun m ρ _ => Cert.FfnKernel.Gen.frame m ρ, fun m ρ _ => Cert.FfnKernelIdeal.Gen.frame m ρ, fun m ρ _ => Cert.FfnKernelIdeal.Gen.frame m ρ,
  quiescent_ffn_reference, fun m ρ _ => quiescent_ffn_reference m ρ trivial,
  Cert.ProjKernelIdeal.Proj.frame_kernel, fun m ρ _ => Cert.ProjKernelIdeal.Proj.frame_run m ρ, quiescent_proj_reference,
  fun m ρ _ => Cert.GwKernel.Gen.frame m ρ, fun m ρ _ => Cert.GwKernelIdeal.Gen.frame m ρ, quiescent_gw_reference,
  fun m ρ _ => Cert.GpoolKernel.Gen.frame m ρ, fun m ρ _ => Cert.GpoolKernelIdeal.Gen.frame m ρ, quiescent_gpool_reference,
  fun m ρ _ => Cert.SmallKernel.Gen.frame m ρ, fun m ρ _ => Cert.SmallKernelIdeal.Gen.frame m ρ, quiescent_small_reference,
  fun m ρ _ => Cert.ChipsKernel.Gen.frame m ρ, fun m ρ _ => Cert.ChipsKernelIdeal.Gen.frame m ρ, quiescent_chips_reference,
  fun m ρ _ => Cert.BigKernel.Gen.frame m ρ (Cert.BigKernel.Big.ok _), fun m ρ _ => Cert.BigKernelIdeal.Gen.frame m ρ (Cert.BigKernelIdeal.Big.ok _), quiescent_big_reference,
  trivial, algebraic_kv, trivial, algebraic_mix, trivial, algebraic_mixfwd, trivial, algebraic_in, trivial, algebraic_ffn,
  trivial, algebraic_proj, trivial, algebraic_gw, trivial, algebraic_gpool, trivial, algebraic_small,
  trivial, algebraic_chips, trivial, algebraic_big⟩

end Cert.Proof

end
